-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 [hPre_experts_in_range : Cert.Pre_experts_in_range.Facts] (m : (ℓ : Loc Cert.Kernel2.nD Cert.Kernel2.τ Cert.Kernel2.sig) → Buf (Elt Bits) ℓ) : Prop :=
  ∀ c : Dev Cert.Kernel2.nD,
    (Cert.Pre_experts_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_experts_in_range : Cert.Pre_experts_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_experts_in_range [hPre_experts_in_range : Cert.Pre_experts_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_cross_scores [hPre_finite_cross_scores : Cert.Pre_finite_cross_scores.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_cross_scores.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_cross_scores [hPre_finite_cross_scores : Cert.Pre_finite_cross_scores.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_cross_scores.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_experts_in_range : Cert.Pre_experts_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_experts_in_range : Cert.Pre_experts_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_experts_in_range [hReference2Ideal : Cert.Reference2Ideal.Facts] [hPre_experts_in_range : Cert.Pre_experts_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_experts_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_finite_cross_scores [hKernel4Ideal : Cert.Kernel4Ideal.Facts] [hPre_finite_cross_scores : Cert.Pre_finite_cross_scores.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_cross_scores m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_finite_cross_scores [hReference4Ideal : Cert.Reference4Ideal.Facts] [hPre_finite_cross_scores : Cert.Pre_finite_cross_scores.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_cross_scores m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def preserves_Kernel_KernelIdeal : Prop :=
  IdealRules.named_const.Statement Cert.KernelIdeal.κ "exit_log" .f32 0xC2D00000#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] [hPre_experts_in_range : Cert.Pre_experts_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v73) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v40) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_finite_cross_scores [hKernel4Ideal : Cert.Kernel4Ideal.Facts] [hReference4Ideal : Cert.Reference4Ideal.Facts] [hPre_finite_cross_scores : Cert.Pre_finite_cross_scores.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_cross_scores m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v5_0)) (v1 : (c : Dev Cert.Kernel4Ideal.nD) → Buf (Elt Ideal) ((c.tc : Thread Cert.Kernel4Ideal.nD Cert.Kernel4Ideal.τ).loc Cert.Kernel4Ideal.main_v5_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5_0) = v0 c
          ∧ r.2.mem ((c.tc : Thread Cert.Kernel4Ideal.nD Cert.Kernel4Ideal.τ).loc Cert.Kernel4Ideal.main_v5_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v52) = v0 c
          ∧ r.2.mem ((c.tc : Thread Cert.Reference4Ideal.nD Cert.Reference4Ideal.τ).loc Cert.Reference4Ideal.main_v53) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v40) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v7)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v7) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v28) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v45_0)) (v1 : (c : Dev Cert.Kernel9Ideal.nD) → Buf (Elt Ideal) ((c.tc : Thread Cert.Kernel9Ideal.nD Cert.Kernel9Ideal.τ).loc Cert.Kernel9Ideal.main_v45_1)) (v2 : (c : Dev Cert.Kernel9Ideal.nD) → Buf (Elt Ideal) ((c.tc : Thread Cert.Kernel9Ideal.nD Cert.Kernel9Ideal.τ).loc Cert.Kernel9Ideal.main_v45_2)) (v3 : (c : Dev Cert.Kernel9Ideal.nD) → Buf (Elt Ideal) ((c.tc : Thread Cert.Kernel9Ideal.nD Cert.Kernel9Ideal.τ).loc Cert.Kernel9Ideal.main_v45_3)) (v4 : (c : Dev Cert.Kernel9Ideal.nD) → Buf (Elt Ideal) ((c.tc : Thread Cert.Kernel9Ideal.nD Cert.Kernel9Ideal.τ).loc Cert.Kernel9Ideal.main_v45_4)) (v5 : (c : Dev Cert.Kernel9Ideal.nD) → Buf (Elt Ideal) ((c.tc : Thread Cert.Kernel9Ideal.nD Cert.Kernel9Ideal.τ).loc Cert.Kernel9Ideal.main_v45_5)) (v6 : (c : Dev Cert.Kernel9Ideal.nD) → Buf (Elt Ideal) ((c.tc : Thread Cert.Kernel9Ideal.nD Cert.Kernel9Ideal.τ).loc Cert.Kernel9Ideal.main_v45_6)) (v7 : (c : Dev Cert.Kernel9Ideal.nD) → Buf (Elt Ideal) ((c.tc : Thread Cert.Kernel9Ideal.nD Cert.Kernel9Ideal.τ).loc Cert.Kernel9Ideal.main_v45_7)) (v8 : (c : Dev Cert.Kernel9Ideal.nD) → Buf (Elt Ideal) ((c.tc : Thread Cert.Kernel9Ideal.nD Cert.Kernel9Ideal.τ).loc Cert.Kernel9Ideal.main_v45_8)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v45_0) = v0 c
          ∧ r.2.mem ((c.tc : Thread Cert.Kernel9Ideal.nD Cert.Kernel9Ideal.τ).loc Cert.Kernel9Ideal.main_v45_1) = v1 c
          ∧ r.2.mem ((c.tc : Thread Cert.Kernel9Ideal.nD Cert.Kernel9Ideal.τ).loc Cert.Kernel9Ideal.main_v45_2) = v2 c
          ∧ r.2.mem ((c.tc : Thread Cert.Kernel9Ideal.nD Cert.Kernel9Ideal.τ).loc Cert.Kernel9Ideal.main_v45_3) = v3 c
          ∧ r.2.mem ((c.tc : Thread Cert.Kernel9Ideal.nD Cert.Kernel9Ideal.τ).loc Cert.Kernel9Ideal.main_v45_4) = v4 c
          ∧ r.2.mem ((c.tc : Thread Cert.Kernel9Ideal.nD Cert.Kernel9Ideal.τ).loc Cert.Kernel9Ideal.main_v45_5) = v5 c
          ∧ r.2.mem ((c.tc : Thread Cert.Kernel9Ideal.nD Cert.Kernel9Ideal.τ).loc Cert.Kernel9Ideal.main_v45_6) = v6 c
          ∧ r.2.mem ((c.tc : Thread Cert.Kernel9Ideal.nD Cert.Kernel9Ideal.τ).loc Cert.Kernel9Ideal.main_v45_7) = v7 c
          ∧ r.2.mem ((c.tc : Thread Cert.Kernel9Ideal.nD Cert.Kernel9Ideal.τ).loc Cert.Kernel9Ideal.main_v45_8) = v8 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v206) = v0 c
          ∧ r.2.mem ((c.tc : Thread Cert.Reference9Ideal.nD Cert.Reference9Ideal.τ).loc Cert.Reference9Ideal.main_v208) = v1 c
          ∧ r.2.mem ((c.tc : Thread Cert.Reference9Ideal.nD Cert.Reference9Ideal.τ).loc Cert.Reference9Ideal.main_v210) = v2 c
          ∧ r.2.mem ((c.tc : Thread Cert.Reference9Ideal.nD Cert.Reference9Ideal.τ).loc Cert.Reference9Ideal.main_v212) = v3 c
          ∧ r.2.mem ((c.tc : Thread Cert.Reference9Ideal.nD Cert.Reference9Ideal.τ).loc Cert.Reference9Ideal.main_v214) = v4 c
          ∧ r.2.mem ((c.tc : Thread Cert.Reference9Ideal.nD Cert.Reference9Ideal.τ).loc Cert.Reference9Ideal.main_v215) = v5 c
          ∧ r.2.mem ((c.tc : Thread Cert.Reference9Ideal.nD Cert.Reference9Ideal.τ).loc Cert.Reference9Ideal.main_v217) = v6 c
          ∧ r.2.mem ((c.tc : Thread Cert.Reference9Ideal.nD Cert.Reference9Ideal.τ).loc Cert.Reference9Ideal.main_v219) = v7 c
          ∧ r.2.mem ((c.tc : Thread Cert.Reference9Ideal.nD Cert.Reference9Ideal.τ).loc Cert.Reference9Ideal.main_v221) = v8 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite_scores : Cert.Pre_finite_scores.Facts) (hPre_experts_in_range : Cert.Pre_experts_in_range.Facts) (hPre_finite_cross_scores : Cert.Pre_finite_cross_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2) (hPre_experts_in_range := hPre_experts_in_range)
    ∧ quiescent_Kernel2Ideal (hKernel2Ideal := hKernel2Ideal) (hPre_experts_in_range := hPre_experts_in_range)
    ∧ quiescent_Reference2Ideal (hReference2Ideal := hReference2Ideal)
    ∧ quiescent_Reference2Ideal_pre_experts_in_range (hReference2Ideal := hReference2Ideal) (hPre_experts_in_range := hPre_experts_in_range)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_cross_scores (hKernel4Ideal := hKernel4Ideal) (hPre_finite_cross_scores := hPre_finite_cross_scores)
    ∧ quiescent_Reference4Ideal (hReference4Ideal := hReference4Ideal)
    ∧ quiescent_Reference4Ideal_pre_finite_cross_scores (hReference4Ideal := hReference4Ideal) (hPre_finite_cross_scores := hPre_finite_cross_scores)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal) (hPre_experts_in_range := hPre_experts_in_range)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_cross_scores (hKernel4Ideal := hKernel4Ideal) (hReference4Ideal := hReference4Ideal) (hPre_finite_cross_scores := hPre_finite_cross_scores)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_experts_in_range.lean ====
abbrev S147456x512 : Shape := ⟨2, ![147456, 512]⟩
abbrev S288 : Shape := ⟨1, ![288]⟩
abbrev S1 : Shape := ⟨1, ![1]⟩
abbrev S2x32x1024x2048 : Shape := ⟨4, ![2, 32, 1024, 2048]⟩
abbrev S32x2048 : Shape := ⟨2, ![32, 2048]⟩
abbrev S2x32x1024x1024 : Shape := ⟨4, ![2, 32, 1024, 1024]⟩
abbrev S32x1024 : Shape := ⟨2, ![32, 1024]⟩
abbrev S_ : Shape := ⟨0, ![]⟩

class Facts : Prop where
  bcast_S_S288 : S_.BroadcastsInDim S288 (![] : Fin 0 → Fin S288.rank)

variable [Facts]

def fn {F : FTy → Type} [FloatOps F] (main_arg0 : IVec S147456x512 32) (main_arg1 : IVec S288 32) (main_arg2 : IVec S1 32) (main_arg3 : FVec F S2x32x1024x2048 .f32) (main_arg4 : FVec F S32x2048 .f32) (main_arg5 : FVec F S2x32x1024x1024 .f32) (main_arg6 : FVec F S32x1024 .f32) : IVec S288 1 :=
  let main_c : IVec S_ 32 := constantI S_ 32 0#32
  let main_v0 : IVec S288 32 := broadcastInDim S288 ![] bcast_S_S288 main_c
  let main_v1 : IVec S288 1 := cmpi .sge main_arg1 main_v0
  let main_c_0 : IVec S_ 32 := constantI S_ 32 32#32
  let main_v2 : IVec S288 32 := broadcastInDim S288 ![] bcast_S_S288 main_c_0
  let main_v3 : IVec S288 1 := cmpi .slt main_arg1 main_v2
  let main_v4 : IVec S288 1 := andi main_v1 main_v3
  main_v4
-- ==== Pre_finite_cross_scores.lean ====
abbrev S32768x1024 : Shape := ⟨2, ![32768, 1024]⟩
abbrev S4x256x2048 : Shape := ⟨3, ![4, 256, 2048]⟩
abbrev S1024x1024 : Shape := ⟨2, ![1024, 1024]⟩
abbrev S1024 : Shape := ⟨1, ![1024]⟩
abbrev S_ : Shape := ⟨0, ![]⟩
abbrev S4x256x1024 : Shape := ⟨3, ![4, 256, 1024]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  slices_S4x256x2048_S4x256x1024_0_0_0 : S4x256x2048.Slices ![0, 0, 0] S4x256x1024
  bcast_S_S4x256x1024 : S_.BroadcastsInDim S4x256x1024 (![] : Fin 0 → Fin S4x256x1024.rank)
  reducesTo_S4x256x1024_S_d0_1_2 : S4x256x1024.ReducesTo [0, 1, 2] S_

variable [Facts]

def fn {F : FTy → Type} [FloatOps F] (main_arg0 : FVec F S32768x1024 .f32) (main_arg1 : FVec F S4x256x2048 .f32) (main_arg2 : FVec F S1024x1024 .f32) (main_arg3 : FVec F S1024x1024 .f32) (main_arg4 : FVec F S1024 .f32) (main_arg5 : FVec F S1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1024x1024 .f32 := Host.absf main_arg2
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S4x256x1024 .f32 := (extractStridedSlice S4x256x1024 ![0, 0, 0] · slices_S4x256x2048_S4x256x1024_0_0_0) main_arg1
  let main_v10 : FVec F S4x256x1024 .f32 := Host.absf main_v9
  let main_cst_2 : FVec F S_ .f32 := constant S_ .f32 0x7F800000#32
  let main_v11 : FVec F S4x256x1024 .f32 := broadcastInDim S4x256x1024 ![] bcast_S_S4x256x1024 main_cst_2
  let main_v12 : IVec S4x256x1024 1 := cmpf .olt main_v10 main_v11
  let main_c_3 : IVec S_ 1 := constantI S_ 1 1#1
  let main_v13 : IVec S_ 1 := (fun x v => Host.reduce IntOp.andi x v reducesTo_S4x256x1024_S_d0_1_2 h_S_) main_v12 main_c_3
  let main_v14 : IVec S_ 1 := andi main_v8 main_v13
  main_v14
-- ==== Pre_finite_scores.lean ====
abbrev S4x8192x512 : Shape := ⟨3, ![4, 8192, 512]⟩
abbrev S_ : Shape := ⟨0, ![]⟩

class Facts : Prop where
  bcast_S_S4x8192x512 : S_.BroadcastsInDim S4x8192x512 (![] : Fin 0 → Fin S4x8192x512.rank)

variable [Facts]

def fn {F : FTy → Type} [FloatOps F] (main_arg0 : FVec F S4x8192x512 .f32) (main_arg1 : FVec F S4x8192x512 .f32) (main_arg2 : FVec F S4x8192x512 .f32) : IVec S4x8192x512 1 :=
  let main_v0 : FVec F S4x8192x512 .f32 := Host.absf main_arg0
  let main_cst : FVec F S_ .f32 := constant S_ .f32 0x7F800000#32
  let main_v1 : FVec F S4x8192x512 .f32 := broadcastInDim S4x8192x512 ![] bcast_S_S4x8192x512 main_cst
  let main_v2 : IVec S4x8192x512 1 := cmpf .olt main_v0 main_v1
  let main_v3 : FVec F S4x8192x512 .f32 := Host.absf main_arg1
  let main_cst_0 : FVec F S_ .f32 := constant S_ .f32 0x7F800000#32
  let main_v4 : FVec F S4x8192x512 .f32 := broadcastInDim S4x8192x512 ![] bcast_S_S4x8192x512 main_cst_0
  let main_v5 : IVec S4x8192x512 1 := cmpf .olt main_v3 main_v4
  let main_v6 : IVec S4x8192x512 1 := andi main_v2 main_v5
  main_v6
-- ==== Kernel.lean ====
abbrev S4x8192x512 : Shape := ⟨3, ![4, 8192, 512]⟩
abbrev S_ : Shape := ⟨0, ![]⟩
abbrev S256x256 : Shape := ⟨2, ![256, 256]⟩
abbrev S1x256x512 : Shape := ⟨3, ![1, 256, 512]⟩
abbrev S1x8192x512 : Shape := ⟨3, ![1, 8192, 512]⟩
abbrev S256x512 : Shape := ⟨2, ![256, 512]⟩
abbrev S4x512x1 : Shape := ⟨3, ![4, 512, 1]⟩
abbrev S256x1 : Shape := ⟨2, ![256, 1]⟩
abbrev S256x128 : Shape := ⟨2, ![256, 128]⟩
abbrev S512x128 : Shape := ⟨2, ![512, 128]⟩
abbrev S512x256 : Shape := ⟨2, ![512, 256]⟩
abbrev S1x256x128 : Shape := ⟨3, ![1, 256, 128]⟩
abbrev S1x512x1 : Shape := ⟨3, ![1, 512, 1]⟩
abbrev S512x1 : Shape := ⟨2, ![512, 1]⟩
abbrev S512 : Shape := ⟨1, ![512]⟩
abbrev S1 : Shape := ⟨1, ![1]⟩
abbrev S1x1x1 : Shape := ⟨3, ![1, 1, 1]⟩

abbrev nBuf : Space → Nat
  | .hbm => 19
  | .vmem => 11
  | .smem => 0
  | _ => 0

abbrev bufTy : (tb : Table) → Fin (tcTables nBuf tb) → BufTy
  | .hbm, ⟨0, _⟩ => ⟨S4x8192x512, .f32⟩
  | .hbm, ⟨1, _⟩ => ⟨S4x8192x512, .f32⟩
  | .hbm, ⟨2, _⟩ => ⟨S4x8192x512, .f32⟩
  | .hbm, ⟨3, _⟩ => ⟨S_, .f32⟩
  | .hbm, ⟨4, _⟩ => ⟨S4x8192x512, .f32⟩
  | .hbm, ⟨5, _⟩ => ⟨S4x8192x512, .f32⟩
  | .hbm, ⟨6, _⟩ => ⟨S4x8192x512, .bf16⟩
  | .hbm, ⟨7, _⟩ => ⟨S4x8192x512, .bf16⟩
  | .hbm, ⟨8, _⟩ => ⟨S4x8192x512, .bf16⟩
  | .hbm, ⟨9, _⟩ => ⟨S256x256, .i32⟩
  | .hbm, ⟨10, _⟩ => ⟨S256x256, .i32⟩
  | .hbm, ⟨11, _⟩ => ⟨S256x256, .i1⟩
  | .hbm, ⟨12, _⟩ => ⟨S_, .f32⟩
  | .hbm, ⟨13, _⟩ => ⟨S_, .f32⟩
  | .hbm, ⟨14, _⟩ => ⟨S256x256, .f32⟩
  | .hbm, ⟨15, _⟩ => ⟨S256x256, .f32⟩
  | .hbm, ⟨16, _⟩ => ⟨S256x256, .f32⟩
  | .hbm, ⟨17, _⟩ => ⟨S256x256, .bf16⟩
  | .hbm, ⟨18, _⟩ => ⟨S4x8192x512, .bf16⟩
  | .local _ .vmem, ⟨0, _⟩ => ⟨S1x256x512, .bf16⟩
  | .local _ .vmem, ⟨1, _⟩ => ⟨S1x256x512, .bf16⟩
  | .local _ .vmem, ⟨2, _⟩ => ⟨S1x8192x512, .bf16⟩
  | .local _ .vmem, ⟨3, _⟩ => ⟨S1x8192x512, .bf16⟩
  | .local _ .vmem, ⟨4, _⟩ => ⟨S1x8192x512, .bf16⟩
  | .local _ .vmem, ⟨5, _⟩ => ⟨S1x8192x512, .bf16⟩
  | .local _ .vmem, ⟨6, _⟩ => ⟨S256x256, .bf16⟩
  | .local _ .vmem, ⟨7, _⟩ => ⟨S1x256x512, .bf16⟩
  | .local _ .vmem, ⟨8, _⟩ => ⟨S1x256x512, .bf16⟩
  | .local _ .vmem, ⟨9, _⟩ => ⟨S256x512, .f32⟩
  | .local _ .vmem, ⟨10, _⟩ => ⟨S4x512x1, .f32⟩
  | _, _ => ⟨S4x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 32], ![false, false]⟩

def k0_mult1 (i : grid0.Coords) (arg9 : BitVec 32) : BitVec 32 :=
  let arg1 : BitVec 32 := BitVec.ofNat 32 (i 1).val
  let c256_i32 : BitVec 32 := 256#32
  let v0 : BitVec 32 := Scalar.muli arg1 c256_i32
  let c256_i32_1 : BitVec 32 := 256#32
  let v10 : BitVec 32 := Scalar.addi v0 c256_i32_1
  let c1_i32 : BitVec 32 := 1#32
  let v11 : BitVec 32 := Scalar.subi v10 c1_i32
  let c0_i32 : BitVec 32 := 0#32
  let v13 : BitVec 1 := Scalar.cmpi .sgt v11 c0_i32
  let v14 : BitVec 32 := Scalar.extui v13
  let c0_i32_3 : BitVec 32 := 0#32
  let v15 : BitVec 1 := Scalar.cmpi .slt v11 c0_i32_3
  let v16 : BitVec 32 := Scalar.extui v15
  let v17 : BitVec 32 := Scalar.subi v14 v16
  let c256_i32_2 : BitVec 32 := 256#32
  let c0_i32_4 : BitVec 32 := 0#32
  let v18 : BitVec 1 := Scalar.cmpi .sgt c256_i32_2 c0_i32_4
  let v19 : BitVec 32 := Scalar.extui v18
  let c0_i32_5 : BitVec 32 := 0#32
  let v20 : BitVec 1 := Scalar.cmpi .slt c256_i32_2 c0_i32_5
  let v21 : BitVec 32 := Scalar.extui v20
  let v22 : BitVec 32 := Scalar.subi v19 v21
  let v23 : BitVec 1 := Scalar.cmpi .ne v17 v22
  let v24 : BitVec 32 := Scalar.remsi v11 c256_i32_2
  let c0_i32_6 : BitVec 32 := 0#32
  let v25 : BitVec 1 := Scalar.cmpi .ne v24 c0_i32_6
  let v26 : BitVec 1 := Scalar.andi v23 v25
  let v12 : BitVec 32 := Scalar.divsi v11 c256_i32_2
  let c1_i32_7 : BitVec 32 := 1#32
  let v27 : BitVec 32 := Scalar.subi v12 c1_i32_7
  let v28 : BitVec 32 := Scalar.select v26 v27 v12
  let c1_i32_8 : BitVec 32 := 1#32
  let v29 : BitVec 32 := Scalar.addi v28 c1_i32_8
  let c1_i32_26 : BitVec 32 := 1#32
  let v63 : BitVec 32 := Scalar.subi v29 c1_i32_26
  let v64 : BitVec 32 := Scalar.subi v63 arg9
  let c256_i32_27 : BitVec 32 := 256#32
  let v65 : BitVec 32 := Scalar.muli v64 c256_i32_27
  v65

def k0_off1 (i : grid0.Coords) (arg9 : BitVec 32) : Fin 3 → Nat :=
  let c0_28 : Index := 0#32
  let arg1 : BitVec 32 := BitVec.ofNat 32 (i 1).val
  let c256_i32 : BitVec 32 := 256#32
  let v0 : BitVec 32 := Scalar.muli arg1 c256_i32
  let c256_i32_1 : BitVec 32 := 256#32
  let v10 : BitVec 32 := Scalar.addi v0 c256_i32_1
  let c1_i32 : BitVec 32 := 1#32
  let v11 : BitVec 32 := Scalar.subi v10 c1_i32
  let c0_i32 : BitVec 32 := 0#32
  let v13 : BitVec 1 := Scalar.cmpi .sgt v11 c0_i32
  let v14 : BitVec 32 := Scalar.extui v13
  let c0_i32_3 : BitVec 32 := 0#32
  let v15 : BitVec 1 := Scalar.cmpi .slt v11 c0_i32_3
  let v16 : BitVec 32 := Scalar.extui v15
  let v17 : BitVec 32 := Scalar.subi v14 v16
  let c256_i32_2 : BitVec 32 := 256#32
  let c0_i32_4 : BitVec 32 := 0#32
  let v18 : BitVec 1 := Scalar.cmpi .sgt c256_i32_2 c0_i32_4
  let v19 : BitVec 32 := Scalar.extui v18
  let c0_i32_5 : BitVec 32 := 0#32
  let v20 : BitVec 1 := Scalar.cmpi .slt c256_i32_2 c0_i32_5
  let v21 : BitVec 32 := Scalar.extui v20
  let v22 : BitVec 32 := Scalar.subi v19 v21
  let v23 : BitVec 1 := Scalar.cmpi .ne v17 v22
  let v24 : BitVec 32 := Scalar.remsi v11 c256_i32_2
  let c0_i32_6 : BitVec 32 := 0#32
  let v25 : BitVec 1 := Scalar.cmpi .ne v24 c0_i32_6
  let v26 : BitVec 1 := Scalar.andi v23 v25
  let v12 : BitVec 32 := Scalar.divsi v11 c256_i32_2
  let c1_i32_7 : BitVec 32 := 1#32
  let v27 : BitVec 32 := Scalar.subi v12 c1_i32_7
  let v28 : BitVec 32 := Scalar.select v26 v27 v12
  let c1_i32_8 : BitVec 32 := 1#32
  let v29 : BitVec 32 := Scalar.addi v28 c1_i32_8
  let c1_i32_26 : BitVec 32 := 1#32
  let v63 : BitVec 32 := Scalar.subi v29 c1_i32_26
  let v64 : BitVec 32 := Scalar.subi v63 arg9
  let c256_i32_27 : BitVec 32 := 256#32
  let v65 : BitVec 32 := Scalar.muli v64 c256_i32_27
  let v66 : BitVec 32 := v65
  let v72 : Index := Scalar.indexCast v66
  let c0_29 : Index := 0#32
  ![0, v72.toNat, 0]
def k0_off2 (i : grid0.Coords) (arg9 : BitVec 32) : Fin 3 → Nat :=
  let c0_53 : Index := 0#32
  let arg1 : BitVec 32 := BitVec.ofNat 32 (i 1).val
  let c256_i32 : BitVec 32 := 256#32
  let v0 : BitVec 32 := Scalar.muli arg1 c256_i32
  let c256_i32_1 : BitVec 32 := 256#32
  let v10 : BitVec 32 := Scalar.addi v0 c256_i32_1
  let c1_i32 : BitVec 32 := 1#32
  let v11 : BitVec 32 := Scalar.subi v10 c1_i32
  let c0_i32 : BitVec 32 := 0#32
  let v13 : BitVec 1 := Scalar.cmpi .sgt v11 c0_i32
  let v14 : BitVec 32 := Scalar.extui v13
  let c0_i32_3 : BitVec 32 := 0#32
  let v15 : BitVec 1 := Scalar.cmpi .slt v11 c0_i32_3
  let v16 : BitVec 32 := Scalar.extui v15
  let v17 : BitVec 32 := Scalar.subi v14 v16
  let c256_i32_2 : BitVec 32 := 256#32
  let c0_i32_4 : BitVec 32 := 0#32
  let v18 : BitVec 1 := Scalar.cmpi .sgt c256_i32_2 c0_i32_4
  let v19 : BitVec 32 := Scalar.extui v18
  let c0_i32_5 : BitVec 32 := 0#32
  let v20 : BitVec 1 := Scalar.cmpi .slt c256_i32_2 c0_i32_5
  let v21 : BitVec 32 := Scalar.extui v20
  let v22 : BitVec 32 := Scalar.subi v19 v21
  let v23 : BitVec 1 := Scalar.cmpi .ne v17 v22
  let v24 : BitVec 32 := Scalar.remsi v11 c256_i32_2
  let c0_i32_6 : BitVec 32 := 0#32
  let v25 : BitVec 1 := Scalar.cmpi .ne v24 c0_i32_6
  let v26 : BitVec 1 := Scalar.andi v23 v25
  let v12 : BitVec 32 := Scalar.divsi v11 c256_i32_2
  let c1_i32_7 : BitVec 32 := 1#32
  let v27 : BitVec 32 := Scalar.subi v12 c1_i32_7
  let v28 : BitVec 32 := Scalar.select v26 v27 v12
  let c1_i32_8 : BitVec 32 := 1#32
  let v29 : BitVec 32 := Scalar.addi v28 c1_i32_8
  let c1_i32_26 : BitVec 32 := 1#32
  let v63 : BitVec 32 := Scalar.subi v29 c1_i32_26
  let v64 : BitVec 32 := Scalar.subi v63 arg9
  let c256_i32_27 : BitVec 32 := 256#32
  let v65 : BitVec 32 := Scalar.muli v64 c256_i32_27
  let v66 : BitVec 32 := v65
  let v125 : Index := Scalar.indexCast v66
  let c128 : Index := 128#32
  ![0, v125.toNat, 128]
def k0_off3 (i : grid0.Coords) (arg9 : BitVec 32) : Fin 3 → Nat :=
  let c0_76 : Index := 0#32
  let arg1 : BitVec 32 := BitVec.ofNat 32 (i 1).val
  let c256_i32 : BitVec 32 := 256#32
  let v0 : BitVec 32 := Scalar.muli arg1 c256_i32
  let c256_i32_1 : BitVec 32 := 256#32
  let v10 : BitVec 32 := Scalar.addi v0 c256_i32_1
  let c1_i32 : BitVec 32 := 1#32
  let v11 : BitVec 32 := Scalar.subi v10 c1_i32
  let c0_i32 : BitVec 32 := 0#32
  let v13 : BitVec 1 := Scalar.cmpi .sgt v11 c0_i32
  let v14 : BitVec 32 := Scalar.extui v13
  let c0_i32_3 : BitVec 32 := 0#32
  let v15 : BitVec 1 := Scalar.cmpi .slt v11 c0_i32_3
  let v16 : BitVec 32 := Scalar.extui v15
  let v17 : BitVec 32 := Scalar.subi v14 v16
  let c256_i32_2 : BitVec 32 := 256#32
  let c0_i32_4 : BitVec 32 := 0#32
  let v18 : BitVec 1 := Scalar.cmpi .sgt c256_i32_2 c0_i32_4
  let v19 : BitVec 32 := Scalar.extui v18
  let c0_i32_5 : BitVec 32 := 0#32
  let v20 : BitVec 1 := Scalar.cmpi .slt c256_i32_2 c0_i32_5
  let v21 : BitVec 32 := Scalar.extui v20
  let v22 : BitVec 32 := Scalar.subi v19 v21
  let v23 : BitVec 1 := Scalar.cmpi .ne v17 v22
  let v24 : BitVec 32 := Scalar.remsi v11 c256_i32_2
  let c0_i32_6 : BitVec 32 := 0#32
  let v25 : BitVec 1 := Scalar.cmpi .ne v24 c0_i32_6
  let v26 : BitVec 1 := Scalar.andi v23 v25
  let v12 : BitVec 32 := Scalar.divsi v11 c256_i32_2
  let c1_i32_7 : BitVec 32 := 1#32
  let v27 : BitVec 32 := Scalar.subi v12 c1_i32_7
  let v28 : BitVec 32 := Scalar.select v26 v27 v12
  let c1_i32_8 : BitVec 32 := 1#32
  let v29 : BitVec 32 := Scalar.addi v28 c1_i32_8
  let c1_i32_26 : BitVec 32 := 1#32
  let v63 : BitVec 32 := Scalar.subi v29 c1_i32_26
  let v64 : BitVec 32 := Scalar.subi v63 arg9
  let c256_i32_27 : BitVec 32 := 256#32
  let v65 : BitVec 32 := Scalar.muli v64 c256_i32_27
  let v66 : BitVec 32 := v65
  let v179 : Index := Scalar.indexCast v66
  let c256 : Index := 256#32
  ![0, v179.toNat, 256]
def k0_off4 (i : grid0.Coords) (arg9 : BitVec 32) : Fin 3 → Nat :=
  let c0_99 : Index := 0#32
  let arg1 : BitVec 32 := BitVec.ofNat 32 (i 1).val
  let c256_i32 : BitVec 32 := 256#32
  let v0 : BitVec 32 := Scalar.muli arg1 c256_i32
  let c256_i32_1 : BitVec 32 := 256#32
  let v10 : BitVec 32 := Scalar.addi v0 c256_i32_1
  let c1_i32 : BitVec 32 := 1#32
  let v11 : BitVec 32 := Scalar.subi v10 c1_i32
  let c0_i32 : BitVec 32 := 0#32
  let v13 : BitVec 1 := Scalar.cmpi .sgt v11 c0_i32
  let v14 : BitVec 32 := Scalar.extui v13
  let c0_i32_3 : BitVec 32 := 0#32
  let v15 : BitVec 1 := Scalar.cmpi .slt v11 c0_i32_3
  let v16 : BitVec 32 := Scalar.extui v15
  let v17 : BitVec 32 := Scalar.subi v14 v16
  let c256_i32_2 : BitVec 32 := 256#32
  let c0_i32_4 : BitVec 32 := 0#32
  let v18 : BitVec 1 := Scalar.cmpi .sgt c256_i32_2 c0_i32_4
  let v19 : BitVec 32 := Scalar.extui v18
  let c0_i32_5 : BitVec 32 := 0#32
  let v20 : BitVec 1 := Scalar.cmpi .slt c256_i32_2 c0_i32_5
  let v21 : BitVec 32 := Scalar.extui v20
  let v22 : BitVec 32 := Scalar.subi v19 v21
  let v23 : BitVec 1 := Scalar.cmpi .ne v17 v22
  let v24 : BitVec 32 := Scalar.remsi v11 c256_i32_2
  let c0_i32_6 : BitVec 32 := 0#32
  let v25 : BitVec 1 := Scalar.cmpi .ne v24 c0_i32_6
  let v26 : BitVec 1 := Scalar.andi v23 v25
  let v12 : BitVec 32 := Scalar.divsi v11 c256_i32_2
  let c1_i32_7 : BitVec 32 := 1#32
  let v27 : BitVec 32 := Scalar.subi v12 c1_i32_7
  let v28 : BitVec 32 := Scalar.select v26 v27 v12
  let c1_i32_8 : BitVec 32 := 1#32
  let v29 : BitVec 32 := Scalar.addi v28 c1_i32_8
  let c1_i32_26 : BitVec 32 := 1#32
  let v63 : BitVec 32 := Scalar.subi v29 c1_i32_26
  let v64 : BitVec 32 := Scalar.subi v63 arg9
  let c256_i32_27 : BitVec 32 := 256#32
  let v65 : BitVec 32 := Scalar.muli v64 c256_i32_27
  let v66 : BitVec 32 := v65
  let v233 : Index := Scalar.indexCast v66
  let c384 : Index := 384#32
  ![0, v233.toNat, 384]

def k0_chk1 (i : grid0.Coords) (arg9 : BitVec 32) : Prop :=
  (256 ∣ (k0_mult1 i arg9).toNat) ∧
  (∀ a, (k0_off1 i arg9) a + S1x256x128.size a ≤ S1x8192x512.size a) ∧
  (∀ a, (k0_off2 i arg9) a + S1x256x128.size a ≤ S1x8192x512.size a) ∧
  (∀ a, (k0_off3 i arg9) a + S1x256x128.size a ≤ S1x8192x512.size a) ∧
  (∀ a, (k0_off4 i arg9) a + S1x256x128.size a ≤ S1x8192x512.size a)
theorem k0_mult1_dvd : ∀ (i : grid0.Coords) (arg9 : BitVec 32) (k0_hw1 : k0_chk1 i arg9), 256 ∣ (k0_mult1 i arg9).toNat := fun i arg9 k0_hw1 => k0_hw1.1
theorem k0_off1_inb : ∀ (i : grid0.Coords) (arg9 : BitVec 32) (k0_hw1 : k0_chk1 i arg9), ∀ a, (k0_off1 i arg9) a + S1x256x128.size a ≤ S1x8192x512.size a := fun i arg9 k0_hw1 => k0_hw1.2.1
theorem k0_off2_inb : ∀ (i : grid0.Coords) (arg9 : BitVec 32) (k0_hw1 : k0_chk1 i arg9), ∀ a, (k0_off2 i arg9) a + S1x256x128.size a ≤ S1x8192x512.size a := fun i arg9 k0_hw1 => k0_hw1.2.2.1
theorem k0_off3_inb : ∀ (i : grid0.Coords) (arg9 : BitVec 32) (k0_hw1 : k0_chk1 i arg9), ∀ a, (k0_off3 i arg9) a + S1x256x128.size a ≤ S1x8192x512.size a := fun i arg9 k0_hw1 => k0_hw1.2.2.2.1
theorem k0_off4_inb : ∀ (i : grid0.Coords) (arg9 : BitVec 32) (k0_hw1 : k0_chk1 i arg9), ∀ a, (k0_off4 i arg9) a + S1x256x128.size a ≤ S1x8192x512.size a := fun i arg9 k0_hw1 => k0_hw1.2.2.2.2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "exit_log" => some ⊥
  | _ => none
-- ==== ReferenceIdeal.lean ====
abbrev S4x8192x512 : Shape := ⟨3, ![4, 8192, 512]⟩
abbrev S4x8192x8x64 : Shape := ⟨4, ![4, 8192, 8, 64]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x8x8192x8192 : Shape := ⟨4, ![4, 8, 8192, 8192]⟩
abbrev S_ : Shape := ⟨0, ![]⟩
abbrev S4x8x64x8192 : Shape := ⟨4, ![4, 8, 64, 8192]⟩

abbrev nBuf : Space → Nat
  | .hbm => 69
  | .vmem => 0
  | .smem => 0
  | _ => 0

abbrev bufTy : (tb : Table) → Fin (tcTables nBuf tb) → BufTy
  | .hbm, ⟨0, _⟩ => ⟨S4x8192x512, .f32⟩
  | .hbm, ⟨1, _⟩ => ⟨S4x8192x512, .f32⟩
  | .hbm, ⟨2, _⟩ => ⟨S4x8192x512, .f32⟩
  | .hbm, ⟨3, _⟩ => ⟨S4x8192x8x64, .f32⟩
  | .hbm, ⟨4, _⟩ => ⟨S4x8192x8x64, .f32⟩
  | .hbm, ⟨5, _⟩ => ⟨S4x8192x8x64, .f32⟩
  | .hbm, ⟨6, _⟩ => ⟨S8192, .i32⟩
  | .hbm, ⟨7, _⟩ => ⟨S1x8192, .i32⟩
  | .hbm, ⟨8, _⟩ => ⟨S8192x1, .i32⟩
  | .hbm, ⟨9, _⟩ => ⟨S8192x8192, .i32⟩
  | .hbm, ⟨10, _⟩ => ⟨S8192x8192, .i32⟩
  | .hbm, ⟨11, _⟩ => ⟨S8192x8192, .i1⟩
  | .hbm, ⟨12, _⟩ => ⟨S4x8x8192x8192, .f32⟩
  | .hbm, ⟨13, _⟩ => ⟨S_, .f32⟩
  | .hbm, ⟨14, _⟩ => ⟨S4x8x8192x8192, .f32⟩
  | .hbm, ⟨15, _⟩ => ⟨S4x8x8192x8192, .f32⟩
  | .hbm, ⟨16, _⟩ => ⟨S4x8x8192x8192, .f32⟩
  | .hbm, ⟨17, _⟩ => ⟨S4x8x8192x8192, .f32⟩
  | .hbm, ⟨18, _⟩ => ⟨S_, .f32⟩
  | .hbm, ⟨19, _⟩ => ⟨S4x8x8192x8192, .f32⟩
  | .hbm, ⟨20, _⟩ => ⟨S4x8x8192x8192, .f32⟩
  | .hbm, ⟨21, _⟩ => ⟨S4x8x8192x8192, .f32⟩
  | .hbm, ⟨22, _⟩ => ⟨S4x8x8192x8192, .f32⟩
  | .hbm, ⟨23, _⟩ => ⟨S4x8x8192x8192, .i1⟩
  | .hbm, ⟨24, _⟩ => ⟨S4x8x8192x8192, .f32⟩
  | .hbm, ⟨25, _⟩ => ⟨S4x8x8192x8192, .f32⟩
  | .hbm, ⟨26, _⟩ => ⟨S4x8x8192x8192, .f32⟩
  | .hbm, ⟨27, _⟩ => ⟨S4x8x8192x8192, .f32⟩
  | .hbm, ⟨28, _⟩ => ⟨S4x8x8192x8192, .f32⟩
  | .hbm, ⟨29, _⟩ => ⟨S4x8x8192x8192, .f32⟩
  | .hbm, ⟨30, _⟩ => ⟨S4x8x8192x8192, .f32⟩
  | .hbm, ⟨31, _⟩ => ⟨S4x8x8192x8192, .f32⟩
  | .hbm, ⟨32, _⟩ => ⟨S4x8x8192x8192, .f32⟩
  | .hbm, ⟨33, _⟩ => ⟨S_, .f32⟩
  | .hbm, ⟨34, _⟩ => ⟨S_, .f32⟩
  | .hbm, ⟨35, _⟩ => ⟨S4x8x8192x8192, .i1⟩
  | .hbm, ⟨36, _⟩ => ⟨S4x8x8192x8192, .f32⟩
  | .hbm, ⟨37, _⟩ => ⟨S4x8x8192x8192, .f32⟩
  | .hbm, ⟨38, _⟩ => ⟨S_, .f32⟩
  | .hbm, ⟨39, _⟩ => ⟨S_, .f32⟩
  | .hbm, ⟨40, _⟩ => ⟨S4x8x8192x8192, .f32⟩
  | .hbm, ⟨41, _⟩ => ⟨S4x8x8192x8192, .f32⟩
  | .hbm, ⟨42, _⟩ => ⟨S4x8x8192x8192, .f32⟩
  | .hbm, ⟨43, _⟩ => ⟨S_, .f32⟩
  | .hbm, ⟨44, _⟩ => ⟨S4x8x8192x8192, .f32⟩
  | .hbm, ⟨45, _⟩ => ⟨S4x8x8192x8192, .f32⟩
  | .hbm, ⟨46, _⟩ => ⟨S4x8x8192x8192, .f32⟩
  | .hbm, ⟨47, _⟩ => ⟨S4x8x8192x8192, .f32⟩
  | .hbm, ⟨48, _⟩ => ⟨S4x8x8192x8192, .i1⟩
  | .hbm, ⟨49, _⟩ => ⟨S4x8x8192x8192, .f32⟩
  | .hbm, ⟨50, _⟩ => ⟨S4x8x8192x8192, .f32⟩
  | .hbm, ⟨51, _⟩ => ⟨S4x8x8192x8192, .f32⟩
  | .hbm, ⟨52, _⟩ => ⟨S4x8x8192x8192, .f32⟩
  | .hbm, ⟨53, _⟩ => ⟨S4x8x8192x8192, .f32⟩
  | .hbm, ⟨54, _⟩ => ⟨S4x8x8192x8192, .f32⟩
  | .hbm, ⟨55, _⟩ => ⟨S4x8x8192x8192, .f32⟩
  | .hbm, ⟨56, _⟩ => ⟨S4x8x8192x8192, .f32⟩
  | .hbm, ⟨57, _⟩ => ⟨S4x8x8192x8192, .f32⟩
  | .hbm, ⟨58, _⟩ => ⟨S4x8x8192x8192, .f32⟩
  | .hbm, ⟨59, _⟩ => ⟨S4x8x8192x8192, .f32⟩
  | .hbm, ⟨60, _⟩ => ⟨S_, .f32⟩
  | .hbm, ⟨61, _⟩ => ⟨S_, .f32⟩
  | .hbm, ⟨62, _⟩ => ⟨S4x8x8192x8192, .i1⟩
  | .hbm, ⟨63, _⟩ => ⟨S4x8x8192x8192, .f32⟩
  | .hbm, ⟨64, _⟩ => ⟨S4x8x8192x8192, .f32⟩
  | .hbm, ⟨65, _⟩ => ⟨S4x8x64x8192, .f32⟩
  | .hbm, ⟨66, _⟩ => ⟨S4x8192x8x64, .f32⟩
  | .hbm, ⟨67, _⟩ => ⟨S4x8192x512, .f32⟩
  | .hbm, ⟨68, _⟩ => ⟨S4x8192x512, .bf16⟩
  | _, _ => ⟨S4x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1 : Ref sig .tc := ⟨.hbm, 31, rfl⟩
abbrev main_v13 : Ref sig .tc := ⟨.hbm, 32, rfl⟩
abbrev main_cst_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v14 : Ref sig .tc := ⟨.hbm, 37, rfl⟩
abbrev main_call2_cst : Ref sig .tc := ⟨.hbm, 38, rfl⟩
abbrev main_call2_v0 : Ref sig .tc := ⟨.hbm, 39, rfl⟩
abbrev main_v15 : Ref sig .tc := ⟨.hbm, 40, rfl⟩
abbrev main_v16 : Ref sig .tc := ⟨.hbm, 41, rfl⟩
abbrev main_call3_v0 : Ref sig .tc := ⟨.hbm, 42, rfl⟩
abbrev main_call3_call0_cst : Ref sig .tc := ⟨.hbm, 43, rfl⟩
abbrev main_call3_call0_v0 : Ref sig .tc := ⟨.hbm, 44, rfl⟩
abbrev main_call3_call0_v1 : Ref sig .tc := ⟨.hbm, 45, rfl⟩
abbrev main_call3_call0_v2 : Ref sig .tc := ⟨.hbm, 46, rfl⟩
abbrev main_call3_call0_v3 : Ref sig .tc := ⟨.hbm, 47, rfl⟩
abbrev main_call3_call0_v4 : Ref sig .tc := ⟨.hbm, 48, rfl⟩
abbrev main_call3_call0_v5 : Ref sig .tc := ⟨.hbm, 49, rfl⟩
abbrev main_call3_call0_v6 : Ref sig .tc := ⟨.hbm, 50, rfl⟩
abbrev main_call3_call0_v7 : Ref sig .tc := ⟨.hbm, 51, rfl⟩
abbrev main_call3_call0_v8 : Ref sig .tc := ⟨.hbm, 52, rfl⟩
abbrev main_call3_call0_v9 : Ref sig .tc := ⟨.hbm, 53, rfl⟩
abbrev main_call3_call0_v10 : Ref sig .tc := ⟨.hbm, 54, rfl⟩
abbrev main_call3_call0_v11 : Ref sig .tc := ⟨.hbm, 55, rfl⟩
abbrev main_call3_v1 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_cst_1 : Ref sig .tc := ⟨.hbm, 60, rfl⟩
abbrev main_call4_v0 : Ref sig .tc := ⟨.hbm, 61, rfl⟩
abbrev main_call4_v1 : Ref sig .tc := ⟨.hbm, 62, rfl⟩
abbrev main_call4_v2 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩

abbrev nD : Nat := 1
abbrev τ : Topo := Topo.v7x

variable {F : FTy → Type} [FloatOps F]
-- ==== Kernel2.lean ====
abbrev S147456x512 : Shape := ⟨2, ![147456, 512]⟩
abbrev S288 : Shape := ⟨1, ![288]⟩
abbrev S1 : Shape := ⟨1, ![1]⟩
abbrev S2x32x1024x2048 : Shape := ⟨4, ![2, 32, 1024, 2048]⟩
abbrev S32x2048 : Shape := ⟨2, ![32, 2048]⟩
abbrev S2x32x1024x1024 : Shape := ⟨4, ![2, 32, 1024, 1024]⟩
abbrev S32x1024 : Shape := ⟨2, ![32, 1024]⟩
abbrev S32x1x2048 : Shape := ⟨3, ![32, 1, 2048]⟩
abbrev S32x1x1024 : Shape := ⟨3, ![32, 1, 1024]⟩
abbrev S147456x1024 : Shape := ⟨2, ![147456, 1024]⟩
abbrev S512x512 : Shape := ⟨2, ![512, 512]⟩
abbrev S1x1x1024x2048 : Shape := ⟨4, ![1, 1, 1024, 2048]⟩
abbrev S1x1x2048 : Shape := ⟨3, ![1, 1, 2048]⟩
abbrev S1x1x1024x1024 : Shape := ⟨4, ![1, 1, 1024, 1024]⟩
abbrev S1x1x1024 : Shape := ⟨3, ![1, 1, 1024]⟩
abbrev S512x1024 : Shape := ⟨2, ![512, 1024]⟩
abbrev S1024x2048 : Shape := ⟨2, ![1024, 2048]⟩
abbrev S1024x1024 : Shape := ⟨2, ![1024, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 8
  | .vmem => 14
  | .smem => 2
  | _ => 0

abbrev bufTy : (tb : Table) → Fin (tcTables nBuf tb) → BufTy
  | .hbm, ⟨0, _⟩ => ⟨S147456x512, .i32⟩
  | .hbm, ⟨1, _⟩ => ⟨S2x32x1024x2048, .f32⟩
  | .hbm, ⟨2, _⟩ => ⟨S32x2048, .f32⟩
  | .hbm, ⟨3, _⟩ => ⟨S2x32x1024x1024, .f32⟩
  | .hbm, ⟨4, _⟩ => ⟨S32x1024, .f32⟩
  | .hbm, ⟨5, _⟩ => ⟨S32x1x2048, .f32⟩
  | .hbm, ⟨6, _⟩ => ⟨S32x1x1024, .f32⟩
  | .hbm, ⟨7, _⟩ => ⟨S147456x1024, .bf16⟩
  | .local _ .vmem, ⟨0, _⟩ => ⟨S512x512, .i32⟩
  | .local _ .vmem, ⟨1, _⟩ => ⟨S512x512, .i32⟩
  | .local _ .vmem, ⟨2, _⟩ => ⟨S1x1x1024x2048, .f32⟩
  | .local _ .vmem, ⟨3, _⟩ => ⟨S1x1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S512x1024, .bf16⟩
  | .local _ .vmem, ⟨11, _⟩ => ⟨S512x1024, .bf16⟩
  | .local _ .vmem, ⟨12, _⟩ => ⟨S1024x2048, .bf16⟩
  | .local _ .vmem, ⟨13, _⟩ => ⟨S1024x1024, .bf16⟩
  | .local _ .smem, ⟨0, _⟩ => ⟨S288, .i32⟩
  | .local _ .smem, ⟨1, _⟩ => ⟨S1, .i32⟩
  | _, _ => ⟨S147456x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S147456x512 : Shape := ⟨2, ![147456, 512]⟩
abbrev S288 : Shape := ⟨1, ![288]⟩
abbrev S1 : Shape := ⟨1, ![1]⟩
abbrev S2x32x1024x2048 : Shape := ⟨4, ![2, 32, 1024, 2048]⟩
abbrev S32x2048 : Shape := ⟨2, ![32, 2048]⟩
abbrev S2x32x1024x1024 : Shape := ⟨4, ![2, 32, 1024, 1024]⟩
abbrev S32x1024 : Shape := ⟨2, ![32, 1024]⟩
abbrev S_ : Shape := ⟨0, ![]⟩
abbrev S147456x1024 : Shape := ⟨2, ![147456, 1024]⟩
abbrev S288x512x1024 : Shape := ⟨3, ![288, 512, 1024]⟩
abbrev S1x32x1024x2048 : Shape := ⟨4, ![1, 32, 1024, 2048]⟩
abbrev S32x1024x2048 : Shape := ⟨3, ![32, 1024, 2048]⟩
abbrev S288x1 : Shape := ⟨2, ![288, 1]⟩
abbrev S288x1024x2048 : Shape := ⟨3, ![288, 1024, 2048]⟩
abbrev S288x512x2048 : Shape := ⟨3, ![288, 512, 2048]⟩
abbrev S288x2048 : Shape := ⟨2, ![288, 2048]⟩
abbrev S288x1x2048 : Shape := ⟨3, ![288, 1, 2048]⟩
abbrev S1x32x1024x1024 : Shape := ⟨4, ![1, 32, 1024, 1024]⟩
abbrev S32x1024x1024 : Shape := ⟨3, ![32, 1024, 1024]⟩
abbrev S288x1024x1024 : Shape := ⟨3, ![288, 1024, 1024]⟩
abbrev S288x1024 : Shape := ⟨2, ![288, 1024]⟩
abbrev S288x1x1024 : Shape := ⟨3, ![288, 1, 1024]⟩
abbrev S288x1x1 : Shape := ⟨3, ![288, 1, 1]⟩

abbrev nBuf : Space → Nat
  | .hbm => 107
  | .vmem => 0
  | .smem => 0
  | _ => 0

abbrev bufTy : (tb : Table) → Fin (tcTables nBuf tb) → BufTy
  | .hbm, ⟨0, _⟩ => ⟨S147456x512, .i32⟩
  | .hbm, ⟨1, _⟩ => ⟨S288, .i32⟩
  | .hbm, ⟨2, _⟩ => ⟨S1, .i32⟩
  | .hbm, ⟨3, _⟩ => ⟨S2x32x1024x2048, .f32⟩
  | .hbm, ⟨4, _⟩ => ⟨S32x2048, .f32⟩
  | .hbm, ⟨5, _⟩ => ⟨S2x32x1024x1024, .f32⟩
  | .hbm, ⟨6, _⟩ => ⟨S32x1024, .f32⟩
  | .hbm, ⟨7, _⟩ => ⟨S147456x512, .i32⟩
  | .hbm, ⟨8, _⟩ => ⟨S_, .i32⟩
  | .hbm, ⟨9, _⟩ => ⟨S147456x512, .i32⟩
  | .hbm, ⟨10, _⟩ => ⟨S147456x512, .i32⟩
  | .hbm, ⟨11, _⟩ => ⟨S147456x512, .f32⟩
  | .hbm, ⟨12, _⟩ => ⟨S_, .i32⟩
  | .hbm, ⟨13, _⟩ => ⟨S147456x512, .i32⟩
  | .hbm, ⟨14, _⟩ => ⟨S147456x512, .i32⟩
  | .hbm, ⟨15, _⟩ => ⟨S147456x512, .f32⟩
  | .hbm, ⟨16, _⟩ => ⟨S147456x1024, .f32⟩
  | .hbm, ⟨17, _⟩ => ⟨S288x512x1024, .f32⟩
  | .hbm, ⟨18, _⟩ => ⟨S1x32x1024x2048, .f32⟩
  | .hbm, ⟨19, _⟩ => ⟨S32x1024x2048, .f32⟩
  | .hbm, ⟨20, _⟩ => ⟨S_, .i32⟩
  | .hbm, ⟨21, _⟩ => ⟨S288, .i32⟩
  | .hbm, ⟨22, _⟩ => ⟨S288, .i1⟩
  | .hbm, ⟨23, _⟩ => ⟨S_, .i32⟩
  | .hbm, ⟨24, _⟩ => ⟨S288, .i32⟩
  | .hbm, ⟨25, _⟩ => ⟨S288, .i32⟩
  | .hbm, ⟨26, _⟩ => ⟨S288, .i32⟩
  | .hbm, ⟨27, _⟩ => ⟨S288x1, .i32⟩
  | .hbm, ⟨28, _⟩ => ⟨S288x1024x2048, .f32⟩
  | .hbm, ⟨29, _⟩ => ⟨S288x512x2048, .f32⟩
  | .hbm, ⟨30, _⟩ => ⟨S_, .i32⟩
  | .hbm, ⟨31, _⟩ => ⟨S288, .i32⟩
  | .hbm, ⟨32, _⟩ => ⟨S288, .i1⟩
  | .hbm, ⟨33, _⟩ => ⟨S_, .i32⟩
  | .hbm, ⟨34, _⟩ => ⟨S288, .i32⟩
  | .hbm, ⟨35, _⟩ => ⟨S288, .i32⟩
  | .hbm, ⟨36, _⟩ => ⟨S288, .i32⟩
  | .hbm, ⟨37, _⟩ => ⟨S288x1, .i32⟩
  | .hbm, ⟨38, _⟩ => ⟨S288x2048, .f32⟩
  | .hbm, ⟨39, _⟩ => ⟨S288x1x2048, .f32⟩
  | .hbm, ⟨40, _⟩ => ⟨S288x512x2048, .f32⟩
  | .hbm, ⟨41, _⟩ => ⟨S288x512x2048, .f32⟩
  | .hbm, ⟨42, _⟩ => ⟨S288x512x1024, .f32⟩
  | .hbm, ⟨43, _⟩ => ⟨S_, .f32⟩
  | .hbm, ⟨44, _⟩ => ⟨S288x512x1024, .f32⟩
  | .hbm, ⟨45, _⟩ => ⟨S288x512x1024, .f32⟩
  | .hbm, ⟨46, _⟩ => ⟨S288x512x1024, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S288x512x1024, .f32⟩
  | .hbm, ⟨51, _⟩ => ⟨S288x512x1024, .f32⟩
  | .hbm, ⟨52, _⟩ => ⟨S_, .f32⟩
  | .hbm, ⟨53, _⟩ => ⟨S288x512x1024, .f32⟩
  | .hbm, ⟨54, _⟩ => ⟨S288x512x1024, .f32⟩
  | .hbm, ⟨55, _⟩ => ⟨S_, .f32⟩
  | .hbm, ⟨56, _⟩ => ⟨S288x512x1024, .f32⟩
  | .hbm, ⟨57, _⟩ => ⟨S288x512x1024, .f32⟩
  | .hbm, ⟨58, _⟩ => ⟨S288x512x1024, .f32⟩
  | .hbm, ⟨59, _⟩ => ⟨S288x512x1024, .f32⟩
  | .hbm, ⟨60, _⟩ => ⟨S_, .f32⟩
  | .hbm, ⟨61, _⟩ => ⟨S288x512x1024, .f32⟩
  | .hbm, ⟨62, _⟩ => ⟨S288x512x1024, .f32⟩
  | .hbm, ⟨63, _⟩ => ⟨S_, .f32⟩
  | .hbm, ⟨64, _⟩ => ⟨S288x512x1024, .f32⟩
  | .hbm, ⟨65, _⟩ => ⟨S288x512x1024, .f32⟩
  | .hbm, ⟨66, _⟩ => ⟨S288x512x1024, .f32⟩
  | .hbm, ⟨67, _⟩ => ⟨S_, .f32⟩
  | .hbm, ⟨68, _⟩ => ⟨S288x512x1024, .f32⟩
  | .hbm, ⟨69, _⟩ => ⟨S288x512x1024, .f32⟩
  | .hbm, ⟨70, _⟩ => ⟨S288x512x1024, .f32⟩
  | .hbm, ⟨71, _⟩ => ⟨S1x32x1024x1024, .f32⟩
  | .hbm, ⟨72, _⟩ => ⟨S32x1024x1024, .f32⟩
  | .hbm, ⟨73, _⟩ => ⟨S_, .i32⟩
  | .hbm, ⟨74, _⟩ => ⟨S288, .i32⟩
  | .hbm, ⟨75, _⟩ => ⟨S288, .i1⟩
  | .hbm, ⟨76, _⟩ => ⟨S_, .i32⟩
  | .hbm, ⟨77, _⟩ => ⟨S288, .i32⟩
  | .hbm, ⟨78, _⟩ => ⟨S288, .i32⟩
  | .hbm, ⟨79, _⟩ => ⟨S288, .i32⟩
  | .hbm, ⟨80, _⟩ => ⟨S288x1, .i32⟩
  | .hbm, ⟨81, _⟩ => ⟨S288x1024x1024, .f32⟩
  | .hbm, ⟨82, _⟩ => ⟨S288x512x1024, .f32⟩
  | .hbm, ⟨83, _⟩ => ⟨S_, .i32⟩
  | .hbm, ⟨84, _⟩ => ⟨S288, .i32⟩
  | .hbm, ⟨85, _⟩ => ⟨S288, .i1⟩
  | .hbm, ⟨86, _⟩ => ⟨S_, .i32⟩
  | .hbm, ⟨87, _⟩ => ⟨S288, .i32⟩
  | .hbm, ⟨88, _⟩ => ⟨S288, .i32⟩
  | .hbm, ⟨89, _⟩ => ⟨S288, .i32⟩
  | .hbm, ⟨90, _⟩ => ⟨S288x1, .i32⟩
  | .hbm, ⟨91, _⟩ => ⟨S288x1024, .f32⟩
  | .hbm, ⟨92, _⟩ => ⟨S288x1x1024, .f32⟩
  | .hbm, ⟨93, _⟩ => ⟨S288x512x1024, .f32⟩
  | .hbm, ⟨94, _⟩ => ⟨S288x512x1024, .f32⟩
  | .hbm, ⟨95, _⟩ => ⟨S288, .i32⟩
  | .hbm, ⟨96, _⟩ => ⟨S_, .i32⟩
  | .hbm, ⟨97, _⟩ => ⟨S288, .i32⟩
  | .hbm, ⟨98, _⟩ => ⟨S288, .i1⟩
  | .hbm, ⟨99, _⟩ => ⟨S288x1x1, .i1⟩
  | .hbm, ⟨100, _⟩ => ⟨S_, .f32⟩
  | .hbm, ⟨101, _⟩ => ⟨S_, .f32⟩
  | .hbm, ⟨102, _⟩ => ⟨S288x512x1024, .i1⟩
  | .hbm, ⟨103, _⟩ => ⟨S288x512x1024, .f32⟩
  | .hbm, ⟨104, _⟩ => ⟨S288x512x1024, .f32⟩
  | .hbm, ⟨105, _⟩ => ⟨S147456x1024, .f32⟩
  | .hbm, ⟨106, _⟩ => ⟨S147456x1024, .bf16⟩
  | _, _ => ⟨S147456x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_cst_6 : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_v33 : Ref sig .tc := ⟨.hbm, 54, rfl⟩
abbrev main_cst_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_8 : Ref sig .tc := ⟨.hbm, 60, rfl⟩
abbrev main_v38 : Ref sig .tc := ⟨.hbm, 61, rfl⟩
abbrev main_v39 : Ref sig .tc := ⟨.hbm, 62, rfl⟩
abbrev main_cst_9 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_10 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c_11 : Ref sig .tc := ⟨.hbm, 73, rfl⟩
abbrev main_v48 : Ref sig .tc := ⟨.hbm, 74, rfl⟩
abbrev main_v49 : Ref sig .tc := ⟨.hbm, 75, rfl⟩
abbrev main_c_12 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_c_13 : Ref sig .tc := ⟨.hbm, 83, rfl⟩
abbrev main_v56 : Ref sig .tc := ⟨.hbm, 84, rfl⟩
abbrev main_v57 : Ref sig .tc := ⟨.hbm, 85, rfl⟩
abbrev main_c_14 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_15 : Ref sig .tc := ⟨.hbm, 100, rfl⟩
abbrev main_call1_v0 : Ref sig .tc := ⟨.hbm, 101, rfl⟩
abbrev main_call1_v1 : Ref sig .tc := ⟨.hbm, 102, rfl⟩
abbrev main_call1_v2 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩

abbrev nD : Nat := 1
abbrev τ : Topo := Topo.v7x

variable {F : FTy → Type} [FloatOps F]
-- ==== Kernel3.lean ====
abbrev S131072x512 : Shape := ⟨2, ![131072, 512]⟩
abbrev S32768x4 : Shape := ⟨2, ![32768, 4]⟩
abbrev S32768x1024 : Shape := ⟨2, ![32768, 1024]⟩
abbrev S1024 : Shape := ⟨1, ![1024]⟩
abbrev S1x1024 : Shape := ⟨2, ![1, 1024]⟩
abbrev S512x512 : Shape := ⟨2, ![512, 512]⟩
abbrev S512x4 : Shape := ⟨2, ![512, 4]⟩
abbrev S512x1024 : Shape := ⟨2, ![512, 1024]⟩
abbrev S512x1 : Shape := ⟨2, ![512, 1]⟩
abbrev S512 : Shape := ⟨1, ![512]⟩

abbrev nBuf : Space → Nat
  | .hbm => 8
  | .vmem => 16
  | .smem => 0
  | _ => 0

abbrev bufTy : (tb : Table) → Fin (tcTables nBuf tb) → BufTy
  | .hbm, ⟨0, _⟩ => ⟨S131072x512, .i32⟩
  | .hbm, ⟨1, _⟩ => ⟨S32768x4, .f32⟩
  | .hbm, ⟨2, _⟩ => ⟨S32768x1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S32768x1024, .f32⟩
  | .local _ .vmem, ⟨0, _⟩ => ⟨S512x512, .i32⟩
  | .local _ .vmem, ⟨1, _⟩ => ⟨S512x512, .i32⟩
  | .local _ .vmem, ⟨2, _⟩ => ⟨S512x512, .i32⟩
  | .local _ .vmem, ⟨3, _⟩ => ⟨S512x512, .i32⟩
  | .local _ .vmem, ⟨4, _⟩ => ⟨S512x512, .i32⟩
  | .local _ .vmem, ⟨5, _⟩ => ⟨S512x512, .i32⟩
  | .local _ .vmem, ⟨6, _⟩ => ⟨S512x512, .i32⟩
  | .local _ .vmem, ⟨7, _⟩ => ⟨S512x512, .i32⟩
  | .local _ .vmem, ⟨8, _⟩ => ⟨S512x4, .f32⟩
  | .local _ .vmem, ⟨9, _⟩ => ⟨S512x4, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | _, _ => ⟨S131072x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c128_i32 : BitVec 32 := 128#32
  let v0 : BitVec 32 := Scalar.addi c128_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c192_i32 : BitVec 32 := 192#32
  let v0 : BitVec 32 := Scalar.addi c192_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S131072x512 : Shape := ⟨2, ![131072, 512]⟩
abbrev S32768x4 : Shape := ⟨2, ![32768, 4]⟩
abbrev S32768x1024 : Shape := ⟨2, ![32768, 1024]⟩
abbrev S1024 : Shape := ⟨1, ![1024]⟩
abbrev S_ : Shape := ⟨0, ![]⟩
abbrev S131072x1024 : Shape := ⟨2, ![131072, 1024]⟩
abbrev S4x32768x1024 : Shape := ⟨3, ![4, 32768, 1024]⟩
abbrev S4x32768 : Shape := ⟨2, ![4, 32768]⟩
abbrev S4x32768x1 : Shape := ⟨3, ![4, 32768, 1]⟩
abbrev S32768 : Shape := ⟨1, ![32768]⟩
abbrev S32768x1 : Shape := ⟨2, ![32768, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S131072x512, .i32⟩
  | .hbm, ⟨1, _⟩ => ⟨S32768x4, .f32⟩
  | .hbm, ⟨2, _⟩ => ⟨S32768x1024, .f32⟩
  | .hbm, ⟨3, _⟩ => ⟨S1024, .f32⟩
  | .hbm, ⟨4, _⟩ => ⟨S1024, .f32⟩
  | .hbm, ⟨5, _⟩ => ⟨S131072x512, .i32⟩
  | .hbm, ⟨6, _⟩ => ⟨S_, .i32⟩
  | .hbm, ⟨7, _⟩ => ⟨S131072x512, .i32⟩
  | .hbm, ⟨8, _⟩ => ⟨S131072x512, .i32⟩
  | .hbm, ⟨9, _⟩ => ⟨S131072x512, .f32⟩
  | .hbm, ⟨10, _⟩ => ⟨S_, .i32⟩
  | .hbm, ⟨11, _⟩ => ⟨S131072x512, .i32⟩
  | .hbm, ⟨12, _⟩ => ⟨S131072x512, .i32⟩
  | .hbm, ⟨13, _⟩ => ⟨S131072x512, .f32⟩
  | .hbm, ⟨14, _⟩ => ⟨S131072x1024, .f32⟩
  | .hbm, ⟨15, _⟩ => ⟨S4x32768x1024, .f32⟩
  | .hbm, ⟨16, _⟩ => ⟨S4x32768, .f32⟩
  | .hbm, ⟨17, _⟩ => ⟨S4x32768x1, .f32⟩
  | .hbm, ⟨18, _⟩ => ⟨S4x32768x1024, .f32⟩
  | .hbm, ⟨19, _⟩ => ⟨S4x32768x1024, .f32⟩
  | .hbm, ⟨20, _⟩ => ⟨S_, .f32⟩
  | .hbm, ⟨21, _⟩ => ⟨S32768x1024, .f32⟩
  | .hbm, ⟨22, _⟩ => ⟨S_, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S_, .f32⟩
  | .hbm, ⟨27, _⟩ => ⟨S32768, .f32⟩
  | .hbm, ⟨28, _⟩ => ⟨S32768x1, .f32⟩
  | .hbm, ⟨29, _⟩ => ⟨S_, .f32⟩
  | .hbm, ⟨30, _⟩ => ⟨S32768x1, .f32⟩
  | .hbm, ⟨31, _⟩ => ⟨S32768x1, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S_, .f32⟩
  | .hbm, ⟨36, _⟩ => ⟨S32768, .f32⟩
  | .hbm, ⟨37, _⟩ => ⟨S32768x1, .f32⟩
  | .hbm, ⟨38, _⟩ => ⟨S_, .f32⟩
  | .hbm, ⟨39, _⟩ => ⟨S32768x1, .f32⟩
  | .hbm, ⟨40, _⟩ => ⟨S32768x1, .f32⟩
  | .hbm, ⟨41, _⟩ => ⟨S32768x1024, .f32⟩
  | .hbm, ⟨42, _⟩ => ⟨S32768x1024, .f32⟩
  | .hbm, ⟨43, _⟩ => ⟨S_, .f32⟩
  | .hbm, ⟨44, _⟩ => ⟨S32768x1, .f32⟩
  | .hbm, ⟨45, _⟩ => ⟨S32768x1, .f32⟩
  | .hbm, ⟨46, _⟩ => ⟨S32768x1, .f32⟩
  | .hbm, ⟨47, _⟩ => ⟨S32768x1024, .f32⟩
  | .hbm, ⟨48, _⟩ => ⟨S32768x1024, .f32⟩
  | .hbm, ⟨49, _⟩ => ⟨S1x1024, .f32⟩
  | .hbm, ⟨50, _⟩ => ⟨S32768x1024, .f32⟩
  | .hbm, ⟨51, _⟩ => ⟨S32768x1024, .f32⟩
  | .hbm, ⟨52, _⟩ => ⟨S1x1024, .f32⟩
  | .hbm, ⟨53, _⟩ => ⟨S32768x1024, .f32⟩
  | .hbm, ⟨54, _⟩ => ⟨S32768x1024, .f32⟩
  | _, _ => ⟨S131072x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel4.lean ====
abbrev S32768x1024 : Shape := ⟨2, ![32768, 1024]⟩
abbrev S4x256x2048 : Shape := ⟨3, ![4, 256, 2048]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S1x256x2048 : Shape := ⟨3, ![1, 256, 2048]⟩
abbrev S256x2048 : Shape := ⟨2, ![256, 2048]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 13
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S4x256x2048, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x1024, .bf16⟩
  | .hbm, ⟨7, _⟩ => ⟨S4x256x2048, .bf16⟩
  | .hbm, ⟨8, _⟩ => ⟨S1024x1024, .bf16⟩
  | .hbm, ⟨9, _⟩ => ⟨S1x1024, .f32⟩
  | .hbm, ⟨10, _⟩ => ⟨S1x1024, .f32⟩
  | .hbm, ⟨11, _⟩ => ⟨S32768x1024, .f32⟩
  | .hbm, ⟨12, _⟩ => ⟨S32768x1024, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1x256x2048, .bf16⟩
  | .local _ .vmem, ⟨4, _⟩ => ⟨S1x256x2048, .bf16⟩
  | .local _ .vmem, ⟨5, _⟩ => ⟨S1024x1024, .bf16⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S32768x1024 : Shape := ⟨2, ![32768, 1024]⟩
abbrev S4x256x2048 : Shape := ⟨3, ![4, 256, 2048]⟩
abbrev S1024x1024 : Shape := ⟨2, ![1024, 1024]⟩
abbrev S1024 : Shape := ⟨1, ![1024]⟩
abbrev S4x8192x1024 : Shape := ⟨3, ![4, 8192, 1024]⟩
abbrev S4x8192x4x256 : Shape := ⟨4, ![4, 8192, 4, 256]⟩
abbrev S4x256x1024 : Shape := ⟨3, ![4, 256, 1024]⟩
abbrev S4x256x4x256 : Shape := ⟨4, ![4, 256, 4, 256]⟩
abbrev S4x4x8192x256 : Shape := ⟨4, ![4, 4, 8192, 256]⟩
abbrev S_ : Shape := ⟨0, ![]⟩
abbrev S4x4x8192 : Shape := ⟨3, ![4, 4, 8192]⟩
abbrev S4x4x8192x1 : Shape := ⟨4, ![4, 4, 8192, 1]⟩
abbrev S4x4x256x8192 : Shape := ⟨4, ![4, 4, 256, 8192]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 70
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S4x256x2048, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S4x8192x1024, .f32⟩
  | .hbm, ⟨7, _⟩ => ⟨S4x8192x1024, .f32⟩
  | .hbm, ⟨8, _⟩ => ⟨S4x8192x4x256, .f32⟩
  | .hbm, ⟨9, _⟩ => ⟨S4x256x1024, .f32⟩
  | .hbm, ⟨10, _⟩ => ⟨S4x256x1024, .f32⟩
  | .hbm, ⟨11, _⟩ => ⟨S4x256x4x256, .f32⟩
  | .hbm, ⟨12, _⟩ => ⟨S4x256x4x256, .f32⟩
  | .hbm, ⟨13, _⟩ => ⟨S4x4x8192x256, .f32⟩
  | .hbm, ⟨14, _⟩ => ⟨S_, .f32⟩
  | .hbm, ⟨15, _⟩ => ⟨S4x4x8192x256, .f32⟩
  | .hbm, ⟨16, _⟩ => ⟨S4x4x8192x256, .f32⟩
  | .hbm, ⟨17, _⟩ => ⟨S_, .f32⟩
  | .hbm, ⟨18, _⟩ => ⟨S4x4x8192, .f32⟩
  | .hbm, ⟨19, _⟩ => ⟨S_, .f32⟩
  | .hbm, ⟨20, _⟩ => ⟨S4x4x8192, .f32⟩
  | .hbm, ⟨21, _⟩ => ⟨S4x4x8192, .f32⟩
  | .hbm, ⟨22, _⟩ => ⟨S4x4x8192x1, .f32⟩
  | .hbm, ⟨23, _⟩ => ⟨S4x4x8192x256, .f32⟩
  | .hbm, ⟨24, _⟩ => ⟨S4x4x8192x256, .f32⟩
  | .hbm, ⟨25, _⟩ => ⟨S4x4x8192x256, .f32⟩
  | .hbm, ⟨26, _⟩ => ⟨S_, .f32⟩
  | .hbm, ⟨27, _⟩ => ⟨S4x4x8192, .f32⟩
  | .hbm, ⟨28, _⟩ => ⟨S4x4x8192x1, .f32⟩
  | .hbm, ⟨29, _⟩ => ⟨S4x4x8192x256, .f32⟩
  | .hbm, ⟨30, _⟩ => ⟨S4x4x8192x256, .f32⟩
  | .hbm, ⟨31, _⟩ => ⟨S4x4x256x8192, .f32⟩
  | .hbm, ⟨32, _⟩ => ⟨S4x8192x4x256, .f32⟩
  | .hbm, ⟨33, _⟩ => ⟨S4x8192x1024, .f32⟩
  | .hbm, ⟨34, _⟩ => ⟨S_, .f32⟩
  | .hbm, ⟨35, _⟩ => ⟨S4x8192x1024, .f32⟩
  | .hbm, ⟨36, _⟩ => ⟨S4x8192x1024, .f32⟩
  | .hbm, ⟨37, _⟩ => ⟨S4x8192x1024, .f32⟩
  | .hbm, ⟨38, _⟩ => ⟨S4x8192x1024, .f32⟩
  | .hbm, ⟨39, _⟩ => ⟨S_, .f32⟩
  | .hbm, ⟨40, _⟩ => ⟨S4x8192, .f32⟩
  | .hbm, ⟨41, _⟩ => ⟨S4x8192x1, .f32⟩
  | .hbm, ⟨42, _⟩ => ⟨S_, .f32⟩
  | .hbm, ⟨43, _⟩ => ⟨S4x8192x1, .f32⟩
  | .hbm, ⟨44, _⟩ => ⟨S4x8192x1, .f32⟩
  | .hbm, ⟨45, _⟩ => ⟨S4x8192x1024, .f32⟩
  | .hbm, ⟨46, _⟩ => ⟨S4x8192x1024, .f32⟩
  | .hbm, ⟨47, _⟩ => ⟨S4x8192x1024, .f32⟩
  | .hbm, ⟨48, _⟩ => ⟨S_, .f32⟩
  | .hbm, ⟨49, _⟩ => ⟨S4x8192, .f32⟩
  | .hbm, ⟨50, _⟩ => ⟨S4x8192x1, .f32⟩
  | .hbm, ⟨51, _⟩ => ⟨S_, .f32⟩
  | .hbm, ⟨52, _⟩ => ⟨S4x8192x1, .f32⟩
  | .hbm, ⟨53, _⟩ => ⟨S4x8192x1, .f32⟩
  | .hbm, ⟨54, _⟩ => ⟨S4x8192x1024, .f32⟩
  | .hbm, ⟨55, _⟩ => ⟨S4x8192x1024, .f32⟩
  | .hbm, ⟨56, _⟩ => ⟨S_, .f32⟩
  | .hbm, ⟨57, _⟩ => ⟨S4x8192x1, .f32⟩
  | .hbm, ⟨58, _⟩ => ⟨S4x8192x1, .f32⟩
  | .hbm, ⟨59, _⟩ => ⟨S4x8192x1, .f32⟩
  | .hbm, ⟨60, _⟩ => ⟨S4x8192x1024, .f32⟩
  | .hbm, ⟨61, _⟩ => ⟨S4x8192x1024, .f32⟩
  | .hbm, ⟨62, _⟩ => ⟨S1x1x1024, .f32⟩
  | .hbm, ⟨63, _⟩ => ⟨S4x8192x1024, .f32⟩
  | .hbm, ⟨64, _⟩ => ⟨S4x8192x1024, .f32⟩
  | .hbm, ⟨65, _⟩ => ⟨S1x1x1024, .f32⟩
  | .hbm, ⟨66, _⟩ => ⟨S4x8192x1024, .f32⟩
  | .hbm, ⟨67, _⟩ => ⟨S4x8192x1024, .f32⟩
  | .hbm, ⟨68, _⟩ => ⟨S32768x1024, .f32⟩
  | .hbm, ⟨69, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩

abbrev nD : Nat := 1
abbrev τ : Topo := Topo.v7x

variable {F : FTy → Type} [FloatOps F]
-- ==== Kernel5.lean ====
abbrev S32768x1024 : Shape := ⟨2, ![32768, 1024]⟩
abbrev S1024x1024 : Shape := ⟨2, ![1024, 1024]⟩
abbrev S8192x4096 : Shape := ⟨2, ![8192, 4096]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S1024x1024, .bf16⟩
  | .hbm, ⟨3, _⟩ => ⟨S8192x4096, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S32768x1024 : Shape := ⟨2, ![32768, 1024]⟩
abbrev S1024x1024 : Shape := ⟨2, ![1024, 1024]⟩
abbrev S4x8192x1024 : Shape := ⟨3, ![4, 8192, 1024]⟩
abbrev S8192x4x1024 : Shape := ⟨3, ![8192, 4, 1024]⟩
abbrev S8192x4096 : Shape := ⟨2, ![8192, 4096]⟩

abbrev nBuf : Space → Nat
  | .hbm => 6
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S4x8192x1024, .f32⟩
  | .hbm, ⟨3, _⟩ => ⟨S4x8192x1024, .f32⟩
  | .hbm, ⟨4, _⟩ => ⟨S8192x4x1024, .f32⟩
  | .hbm, ⟨5, _⟩ => ⟨S8192x4096, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel6.lean ====
abbrev S8192x4096 : Shape := ⟨2, ![8192, 4096]⟩
abbrev S1024x2048 : Shape := ⟨2, ![1024, 2048]⟩
abbrev S32768x1024 : Shape := ⟨2, ![32768, 1024]⟩
abbrev S1024 : Shape := ⟨1, ![1024]⟩
abbrev S1x1024 : Shape := ⟨2, ![1, 1024]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 10
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S1024x2048, .f32⟩
  | .hbm, ⟨2, _⟩ => ⟨S32768x1024, .f32⟩
  | .hbm, ⟨3, _⟩ => ⟨S1024, .f32⟩
  | .hbm, ⟨4, _⟩ => ⟨S1024, .f32⟩
  | .hbm, ⟨5, _⟩ => ⟨S8192x4096, .bf16⟩
  | .hbm, ⟨6, _⟩ => ⟨S1024x2048, .bf16⟩
  | .hbm, ⟨7, _⟩ => ⟨S1x1024, .f32⟩
  | .hbm, ⟨8, _⟩ => ⟨S1x1024, .f32⟩
  | .hbm, ⟨9, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S8192x4096 : Shape := ⟨2, ![8192, 4096]⟩
abbrev S1024x2048 : Shape := ⟨2, ![1024, 2048]⟩
abbrev S32768x1024 : Shape := ⟨2, ![32768, 1024]⟩
abbrev S1024 : Shape := ⟨1, ![1024]⟩
abbrev S8192x4x1024 : Shape := ⟨3, ![8192, 4, 1024]⟩
abbrev S4x8192x1024 : Shape := ⟨3, ![4, 8192, 1024]⟩
abbrev S4x8192x2048 : Shape := ⟨3, ![4, 8192, 2048]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1024x2048, .f32⟩
  | .hbm, ⟨2, _⟩ => ⟨S32768x1024, .f32⟩
  | .hbm, ⟨3, _⟩ => ⟨S1024, .f32⟩
  | .hbm, ⟨4, _⟩ => ⟨S1024, .f32⟩
  | .hbm, ⟨5, _⟩ => ⟨S8192x4x1024, .f32⟩
  | .hbm, ⟨6, _⟩ => ⟨S4x8192x1024, .f32⟩
  | .hbm, ⟨7, _⟩ => ⟨S4x8192x1024, .f32⟩
  | .hbm, ⟨8, _⟩ => ⟨S4x8192x2048, .f32⟩
  | .hbm, ⟨9, _⟩ => ⟨S4x8192x1024, .f32⟩
  | .hbm, ⟨10, _⟩ => ⟨S4x8192x1024, .f32⟩
  | .hbm, ⟨11, _⟩ => ⟨S4x8192x1024, .f32⟩
  | .hbm, ⟨12, _⟩ => ⟨S4x8192x1024, .f32⟩
  | .hbm, ⟨13, _⟩ => ⟨S_, .f32⟩
  | .hbm, ⟨14, _⟩ => ⟨S4x8192x1024, .f32⟩
  | .hbm, ⟨15, _⟩ => ⟨S4x8192x1024, .f32⟩
  | .hbm, ⟨16, _⟩ => ⟨S_, .f32⟩
  | .hbm, ⟨17, _⟩ => ⟨S4x8192x1024, .f32⟩
  | .hbm, ⟨18, _⟩ => ⟨S4x8192x1024, .f32⟩
  | .hbm, ⟨19, _⟩ => ⟨S4x8192x1024, .f32⟩
  | .hbm, ⟨20, _⟩ => ⟨S_, .f32⟩
  | .hbm, ⟨21, _⟩ => ⟨S4x8192x1024, .f32⟩
  | .hbm, ⟨22, _⟩ => ⟨S4x8192x1024, .f32⟩
  | .hbm, ⟨23, _⟩ => ⟨S4x8192x1024, .f32⟩
  | .hbm, ⟨24, _⟩ => ⟨S_, .f32⟩
  | .hbm, ⟨25, _⟩ => ⟨S4x8192, .f32⟩
  | .hbm, ⟨26, _⟩ => ⟨S4x8192x1, .f32⟩
  | .hbm, ⟨27, _⟩ => ⟨S_, .f32⟩
  | .hbm, ⟨28, _⟩ => ⟨S4x8192x1, .f32⟩
  | .hbm, ⟨29, _⟩ => ⟨S4x8192x1, .f32⟩
  | .hbm, ⟨30, _⟩ => ⟨S4x8192x1024, .f32⟩
  | .hbm, ⟨31, _⟩ => ⟨S4x8192x1024, .f32⟩
  | .hbm, ⟨32, _⟩ => ⟨S4x8192x1024, .f32⟩
  | .hbm, ⟨33, _⟩ => ⟨S_, .f32⟩
  | .hbm, ⟨34, _⟩ => ⟨S4x8192, .f32⟩
  | .hbm, ⟨35, _⟩ => ⟨S4x8192x1, .f32⟩
  | .hbm, ⟨36, _⟩ => ⟨S_, .f32⟩
  | .hbm, ⟨37, _⟩ => ⟨S4x8192x1, .f32⟩
  | .hbm, ⟨38, _⟩ => ⟨S4x8192x1, .f32⟩
  | .hbm, ⟨39, _⟩ => ⟨S4x8192x1024, .f32⟩
  | .hbm, ⟨40, _⟩ => ⟨S4x8192x1024, .f32⟩
  | .hbm, ⟨41, _⟩ => ⟨S_, .f32⟩
  | .hbm, ⟨42, _⟩ => ⟨S4x8192x1, .f32⟩
  | .hbm, ⟨43, _⟩ => ⟨S4x8192x1, .f32⟩
  | .hbm, ⟨44, _⟩ => ⟨S4x8192x1, .f32⟩
  | .hbm, ⟨45, _⟩ => ⟨S4x8192x1024, .f32⟩
  | .hbm, ⟨46, _⟩ => ⟨S4x8192x1024, .f32⟩
  | .hbm, ⟨47, _⟩ => ⟨S1x1x1024, .f32⟩
  | .hbm, ⟨48, _⟩ => ⟨S4x8192x1024, .f32⟩
  | .hbm, ⟨49, _⟩ => ⟨S4x8192x1024, .f32⟩
  | .hbm, ⟨50, _⟩ => ⟨S1x1x1024, .f32⟩
  | .hbm, ⟨51, _⟩ => ⟨S4x8192x1024, .f32⟩
  | .hbm, ⟨52, _⟩ => ⟨S4x8192x1024, .f32⟩
  | .hbm, ⟨53, _⟩ => ⟨S32768x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Kernel7.lean ====
abbrev S32768x512 : Shape := ⟨2, ![32768, 512]⟩
abbrev S1024x1024 : Shape := ⟨2, ![1024, 1024]⟩
abbrev S32768x1024 : Shape := ⟨2, ![32768, 1024]⟩
abbrev S1024 : Shape := ⟨1, ![1024]⟩
abbrev S512x1024 : Shape := ⟨2, ![512, 1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 14
  | .vmem => 12
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S1024x1024, .f32⟩
  | .hbm, ⟨3, _⟩ => ⟨S32768x1024, .f32⟩
  | .hbm, ⟨4, _⟩ => ⟨S1024, .f32⟩
  | .hbm, ⟨5, _⟩ => ⟨S1024, .f32⟩
  | .hbm, ⟨6, _⟩ => ⟨S1024x1024, .bf16⟩
  | .hbm, ⟨7, _⟩ => ⟨S32768x512, .bf16⟩
  | .hbm, ⟨8, _⟩ => ⟨S32768x512, .bf16⟩
  | .hbm, ⟨9, _⟩ => ⟨S512x1024, .bf16⟩
  | .hbm, ⟨10, _⟩ => ⟨S512x1024, .bf16⟩
  | .hbm, ⟨11, _⟩ => ⟨S1x1024, .f32⟩
  | .hbm, ⟨12, _⟩ => ⟨S1x1024, .f32⟩
  | .hbm, ⟨13, _⟩ => ⟨S32768x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference7Ideal.lean ====
abbrev S32768x512 : Shape := ⟨2, ![32768, 512]⟩
abbrev S1024x1024 : Shape := ⟨2, ![1024, 1024]⟩
abbrev S32768x1024 : Shape := ⟨2, ![32768, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S1024x1024, .f32⟩
  | .hbm, ⟨3, _⟩ => ⟨S32768x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S32768x1024, .f32⟩
  | .hbm, ⟨8, _⟩ => ⟨S32768x1024, .f32⟩
  | .hbm, ⟨9, _⟩ => ⟨S32768x1024, .f32⟩
  | .hbm, ⟨10, _⟩ => ⟨S32768x1024, .f32⟩
  | .hbm, ⟨11, _⟩ => ⟨S32768x1024, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S_, .f32⟩
  | .hbm, ⟨22, _⟩ => ⟨S32768, .f32⟩
  | .hbm, ⟨23, _⟩ => ⟨S32768x1, .f32⟩
  | .hbm, ⟨24, _⟩ => ⟨S_, .f32⟩
  | .hbm, ⟨25, _⟩ => ⟨S32768x1, .f32⟩
  | .hbm, ⟨26, _⟩ => ⟨S32768x1, .f32⟩
  | .hbm, ⟨27, _⟩ => ⟨S32768x1024, .f32⟩
  | .hbm, ⟨28, _⟩ => ⟨S32768x1024, .f32⟩
  | .hbm, ⟨29, _⟩ => ⟨S_, .f32⟩
  | .hbm, ⟨30, _⟩ => ⟨S32768x1, .f32⟩
  | .hbm, ⟨31, _⟩ => ⟨S32768x1, .f32⟩
  | .hbm, ⟨32, _⟩ => ⟨S32768x1, .f32⟩
  | .hbm, ⟨33, _⟩ => ⟨S32768x1024, .f32⟩
  | .hbm, ⟨34, _⟩ => ⟨S32768x1024, .f32⟩
  | .hbm, ⟨35, _⟩ => ⟨S1x1024, .f32⟩
  | .hbm, ⟨36, _⟩ => ⟨S32768x1024, .f32⟩
  | .hbm, ⟨37, _⟩ => ⟨S32768x1024, .f32⟩
  | .hbm, ⟨38, _⟩ => ⟨S1x1024, .f32⟩
  | .hbm, ⟨39, _⟩ => ⟨S32768x1024, .f32⟩
  | .hbm, ⟨40, _⟩ => ⟨S32768x1024, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Kernel8.lean ====
abbrev S4x256x1024 : Shape := ⟨3, ![4, 256, 1024]⟩
abbrev S1024x2048 : Shape := ⟨2, ![1024, 2048]⟩
abbrev S1024x1024 : Shape := ⟨2, ![1024, 1024]⟩
abbrev S256x1024 : Shape := ⟨2, ![256, 1024]⟩
abbrev S256x2048 : Shape := ⟨2, ![256, 2048]⟩

abbrev nBuf : Space → Nat
  | .hbm => 5
  | .vmem => 5
  | .smem => 0
  | _ => 0

abbrev bufTy : (tb : Table) → Fin (tcTables nBuf tb) → BufTy
  | .hbm, ⟨0, _⟩ => ⟨S4x256x1024, .f32⟩
  | .hbm, ⟨1, _⟩ => ⟨S1024x2048, .f32⟩
  | .hbm, ⟨2, _⟩ => ⟨S1024x1024, .f32⟩
  | .hbm, ⟨3, _⟩ => ⟨S1024x2048, .bf16⟩
  | .hbm, ⟨4, _⟩ => ⟨S1024x2048, .bf16⟩
  | .local _ .vmem, ⟨0, _⟩ => ⟨S256x1024, .f32⟩
  | .local _ .vmem, ⟨1, _⟩ => ⟨S256x1024, .f32⟩
  | .local _ .vmem, ⟨2, _⟩ => ⟨S1024x2048, .bf16⟩
  | .local _ .vmem, ⟨3, _⟩ => ⟨S256x2048, .bf16⟩
  | .local _ .vmem, ⟨4, _⟩ => ⟨S256x2048, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S4x256x1024 : Shape := ⟨3, ![4, 256, 1024]⟩
abbrev S1024x2048 : Shape := ⟨2, ![1024, 2048]⟩
abbrev S4x256x2048 : Shape := ⟨3, ![4, 256, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024x2048, .f32⟩
  | .hbm, ⟨2, _⟩ => ⟨S4x256x2048, .f32⟩
  | .hbm, ⟨3, _⟩ => ⟨S1024x2048, .f32⟩
  | .hbm, ⟨4, _⟩ => ⟨S1024x2048, .bf16⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S32768x1024 : Shape := ⟨2, ![32768, 1024]⟩
abbrev S1024x2120 : Shape := ⟨2, ![1024, 2120]⟩
abbrev S256 : Shape := ⟨1, ![256]⟩
abbrev S256x512 : Shape := ⟨2, ![256, 512]⟩
abbrev S64 : Shape := ⟨1, ![64]⟩
abbrev S1024x584 : Shape := ⟨2, ![1024, 584]⟩
abbrev S_ : Shape := ⟨0, ![]⟩
abbrev S1024x56 : Shape := ⟨2, ![1024, 56]⟩
abbrev S1024x1536 : Shape := ⟨2, ![1024, 1536]⟩
abbrev S1024x2176 : Shape := ⟨2, ![1024, 2176]⟩
abbrev S128 : Shape := ⟨1, ![128]⟩
abbrev S1x128 : Shape := ⟨2, ![1, 128]⟩
abbrev S8 : Shape := ⟨1, ![8]⟩
abbrev S8192 : Shape := ⟨1, ![8192]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S1x256 : Shape := ⟨2, ![1, 256]⟩
abbrev S32768x512 : Shape := ⟨2, ![32768, 512]⟩
abbrev S32768x256 : Shape := ⟨2, ![32768, 256]⟩
abbrev S32768x64 : Shape := ⟨2, ![32768, 64]⟩
abbrev S32768x8 : Shape := ⟨2, ![32768, 8]⟩
abbrev S512x1024 : Shape := ⟨2, ![512, 1024]⟩
abbrev S512x128 : Shape := ⟨2, ![512, 128]⟩
abbrev S512x512 : Shape := ⟨2, ![512, 512]⟩
abbrev S512x256 : Shape := ⟨2, ![512, 256]⟩
abbrev S512x64 : Shape := ⟨2, ![512, 64]⟩
abbrev S512x8 : Shape := ⟨2, ![512, 8]⟩
abbrev S512x2176 : Shape := ⟨2, ![512, 2176]⟩
abbrev S512 : Shape := ⟨1, ![512]⟩
abbrev S512x1 : Shape := ⟨2, ![512, 1]⟩

abbrev nBuf : Space → Nat
  | .hbm => 70
  | .vmem => 32
  | .smem => 0
  | _ => 0

abbrev bufTy : (tb : Table) → Fin (tcTables nBuf tb) → BufTy
  | .hbm, ⟨0, _⟩ => ⟨S32768x1024, .f32⟩
  | .hbm, ⟨1, _⟩ => ⟨S1024x2120, .f32⟩
  | .hbm, ⟨2, _⟩ => ⟨S256, .f32⟩
  | .hbm, ⟨3, _⟩ => ⟨S256x512, .f32⟩
  | .hbm, ⟨4, _⟩ => ⟨S256x512, .f32⟩
  | .hbm, ⟨5, _⟩ => ⟨S64, .f32⟩
  | .hbm, ⟨6, _⟩ => ⟨S64, .f32⟩
  | .hbm, ⟨7, _⟩ => ⟨S1024x584, .f32⟩
  | .hbm, ⟨8, _⟩ => ⟨S_, .f32⟩
  | .hbm, ⟨9, _⟩ => ⟨S1024x56, .f32⟩
  | .hbm, ⟨10, _⟩ => ⟨S1024x1536, .f32⟩
  | .hbm, ⟨11, _⟩ => ⟨S1024x2176, .f32⟩
  | .hbm, ⟨12, _⟩ => ⟨S1024x2176, .bf16⟩
  | .hbm, ⟨13, _⟩ => ⟨S_, .f32⟩
  | .hbm, ⟨14, _⟩ => ⟨S64, .f32⟩
  | .hbm, ⟨15, _⟩ => ⟨S128, .f32⟩
  | .hbm, ⟨16, _⟩ => ⟨S1x128, .f32⟩
  | .hbm, ⟨17, _⟩ => ⟨S_, .f32⟩
  | .hbm, ⟨18, _⟩ => ⟨S64, .f32⟩
  | .hbm, ⟨19, _⟩ => ⟨S128, .f32⟩
  | .hbm, ⟨20, _⟩ => ⟨S1x128, .f32⟩
  | .hbm, ⟨21, _⟩ => ⟨S8, .f32⟩
  | .hbm, ⟨22, _⟩ => ⟨S8, .f32⟩
  | .hbm, ⟨23, _⟩ => ⟨S_, .f32⟩
  | .hbm, ⟨24, _⟩ => ⟨S8, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S8192, .f32⟩
  | .hbm, ⟨30, _⟩ => ⟨S8192x1, .f32⟩
  | .hbm, ⟨31, _⟩ => ⟨S1x8, .f32⟩
  | .hbm, ⟨32, _⟩ => ⟨S8192x8, .f32⟩
  | .hbm, ⟨33, _⟩ => ⟨S8192x8, .f32⟩
  | .hbm, ⟨34, _⟩ => ⟨S8192x8, .f32⟩
  | .hbm, ⟨35, _⟩ => ⟨S8192x8, .f32⟩
  | .hbm, ⟨36, _⟩ => ⟨S8192x8, .f32⟩
  | .hbm, ⟨37, _⟩ => ⟨S_, .f32⟩
  | .hbm, ⟨38, _⟩ => ⟨S8192x8, .f32⟩
  | .hbm, ⟨39, _⟩ => ⟨S_, .f32⟩
  | .hbm, ⟨40, _⟩ => ⟨S8192x48, .f32⟩
  | .hbm, ⟨41, _⟩ => ⟨S8192x64, .f32⟩
  | .hbm, ⟨42, _⟩ => ⟨S8192x8, .f32⟩
  | .hbm, ⟨43, _⟩ => ⟨S_, .f32⟩
  | .hbm, ⟨44, _⟩ => ⟨S8192x48, .f32⟩
  | .hbm, ⟨45, _⟩ => ⟨S8192x64, .f32⟩
  | .hbm, ⟨46, _⟩ => ⟨S_, .f32⟩
  | .hbm, ⟨47, _⟩ => ⟨S8192x48, .f32⟩
  | .hbm, ⟨48, _⟩ => ⟨S8192x64, .f32⟩
  | .hbm, ⟨49, _⟩ => ⟨S1x8192x1x64, .f32⟩
  | .hbm, ⟨50, _⟩ => ⟨S1x8192x2x64, .f32⟩
  | .hbm, ⟨51, _⟩ => ⟨S8192x128, .f32⟩
  | .hbm, ⟨52, _⟩ => ⟨S1x8192x1x64, .f32⟩
  | .hbm, ⟨53, _⟩ => ⟨S1x8192x2x64, .f32⟩
  | .hbm, ⟨54, _⟩ => ⟨S8192x128, .f32⟩
  | .hbm, ⟨55, _⟩ => ⟨S1x8192x1x64, .f32⟩
  | .hbm, ⟨56, _⟩ => ⟨S1x8192x2x64, .f32⟩
  | .hbm, ⟨57, _⟩ => ⟨S8192x128, .f32⟩
  | .hbm, ⟨58, _⟩ => ⟨S1x256, .f32⟩
  | .hbm, ⟨59, _⟩ => ⟨S256x512, .bf16⟩
  | .hbm, ⟨60, _⟩ => ⟨S256x512, .bf16⟩
  | .hbm, ⟨61, _⟩ => ⟨S32768x1024, .bf16⟩
  | .hbm, ⟨62, _⟩ => ⟨S32768x512, .bf16⟩
  | .hbm, ⟨63, _⟩ => ⟨S32768x256, .bf16⟩
  | .hbm, ⟨64, _⟩ => ⟨S32768x256, .bf16⟩
  | .hbm, ⟨65, _⟩ => ⟨S32768x64, .bf16⟩
  | .hbm, ⟨66, _⟩ => ⟨S32768x8, .f32⟩
  | .hbm, ⟨67, _⟩ => ⟨S32768x512, .bf16⟩
  | .hbm, ⟨68, _⟩ => ⟨S32768x512, .bf16⟩
  | .hbm, ⟨69, _⟩ => ⟨S32768x512, .bf16⟩
  | .local _ .vmem, ⟨0, _⟩ => ⟨S512x1024, .f32⟩
  | .local _ .vmem, ⟨1, _⟩ => ⟨S512x1024, .f32⟩
  | .local _ .vmem, ⟨2, _⟩ => ⟨S1024x2176, .bf16⟩
  | .local _ .vmem, ⟨3, _⟩ => ⟨S1x256, .f32⟩
  | .local _ .vmem, ⟨4, _⟩ => ⟨S256x512, .bf16⟩
  | .local _ .vmem, ⟨5, _⟩ => ⟨S256x512, .bf16⟩
  | .local _ .vmem, ⟨6, _⟩ => ⟨S1x128, .f32⟩
  | .local _ .vmem, ⟨7, _⟩ => ⟨S1x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x1024, .bf16⟩
  | .local _ .vmem, ⟨15, _⟩ => ⟨S512x1024, .bf16⟩
  | .local _ .vmem, ⟨16, _⟩ => ⟨S512x512, .bf16⟩
  | .local _ .vmem, ⟨17, _⟩ => ⟨S512x512, .bf16⟩
  | .local _ .vmem, ⟨18, _⟩ => ⟨S512x256, .bf16⟩
  | .local _ .vmem, ⟨19, _⟩ => ⟨S512x256, .bf16⟩
  | .local _ .vmem, ⟨20, _⟩ => ⟨S512x256, .bf16⟩
  | .local _ .vmem, ⟨21, _⟩ => ⟨S512x256, .bf16⟩
  | .local _ .vmem, ⟨22, _⟩ => ⟨S512x64, .bf16⟩
  | .local _ .vmem, ⟨23, _⟩ => ⟨S512x64, .bf16⟩
  | .local _ .vmem, ⟨24, _⟩ => ⟨S512x8, .f32⟩
  | .local _ .vmem, ⟨25, _⟩ => ⟨S512x8, .f32⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S512x512, .bf16⟩
  | .local _ .vmem, ⟨30, _⟩ => ⟨S512x512, .bf16⟩
  | .local _ .vmem, ⟨31, _⟩ => ⟨S512x512, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45_0 : Ref sig .tc := ⟨.hbm, 61, rfl⟩
abbrev main_v45_1 : Ref sig .tc := ⟨.hbm, 62, rfl⟩
abbrev main_v45_2 : Ref sig .tc := ⟨.hbm, 63, rfl⟩
abbrev main_v45_3 : Ref sig .tc := ⟨.hbm, 64, rfl⟩
abbrev main_v45_4 : Ref sig .tc := ⟨.hbm, 65, rfl⟩
abbrev main_v45_5 : Ref sig .tc := ⟨.hbm, 66, rfl⟩
abbrev main_v45_6 : Ref sig .tc := ⟨.hbm, 67, rfl⟩
abbrev main_v45_7 : Ref sig .tc := ⟨.hbm, 68, rfl⟩
abbrev main_v45_8 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2176 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x64 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x8 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference9Ideal.lean ====
abbrev S32768x1024 : Shape := ⟨2, ![32768, 1024]⟩
abbrev S1024x2120 : Shape := ⟨2, ![1024, 2120]⟩
abbrev S256 : Shape := ⟨1, ![256]⟩
abbrev S256x512 : Shape := ⟨2, ![256, 512]⟩
abbrev S64 : Shape := ⟨1, ![64]⟩
abbrev S4x8192x1024 : Shape := ⟨3, ![4, 8192, 1024]⟩
abbrev S8192 : Shape := ⟨1, ![8192]⟩
abbrev S4x8192x2120 : Shape := ⟨3, ![4, 8192, 2120]⟩
abbrev S4x8192x256 : Shape := ⟨3, ![4, 8192, 256]⟩
abbrev S4x8192x128 : Shape := ⟨3, ![4, 8192, 128]⟩
abbrev S4x8192x64 : Shape := ⟨3, ![4, 8192, 64]⟩
abbrev S4x8192x8 : Shape := ⟨3, ![4, 8192, 8]⟩
abbrev S4x8192x512 : Shape := ⟨3, ![4, 8192, 512]⟩
abbrev S_ : Shape := ⟨0, ![]⟩
abbrev S4x8192 : Shape := ⟨2, ![4, 8192]⟩
abbrev S4x8192x1 : Shape := ⟨3, ![4, 8192, 1]⟩
abbrev S1x1x256 : Shape := ⟨3, ![1, 1, 256]⟩
abbrev S4x8192x8x64 : Shape := ⟨4, ![4, 8192, 8, 64]⟩
abbrev S8 : Shape := ⟨1, ![8]⟩
abbrev S8192x1 : Shape := ⟨2, ![8192, 1]⟩
abbrev S1x8 : Shape := ⟨2, ![1, 8]⟩
abbrev S8192x8 : Shape := ⟨2, ![8192, 8]⟩
abbrev S8192x1x8 : Shape := ⟨3, ![8192, 1, 8]⟩
abbrev S4x8192x8x8 : Shape := ⟨4, ![4, 8192, 8, 8]⟩
abbrev S1x8192x1x8 : Shape := ⟨4, ![1, 8192, 1, 8]⟩
abbrev S4x8192x8x48 : Shape := ⟨4, ![4, 8192, 8, 48]⟩
abbrev S4x8192x2x64 : Shape := ⟨4, ![4, 8192, 2, 64]⟩
abbrev S4x8192x2x8 : Shape := ⟨4, ![4, 8192, 2, 8]⟩
abbrev S4x8192x2x48 : Shape := ⟨4, ![4, 8192, 2, 48]⟩
abbrev S1x1x64 : Shape := ⟨3, ![1, 1, 64]⟩
abbrev S4x8192x1x64 : Shape := ⟨4, ![4, 8192, 1, 64]⟩
abbrev S4x8192x1x8 : Shape := ⟨4, ![4, 8192, 1, 8]⟩
abbrev S4x8192x1x48 : Shape := ⟨4, ![4, 8192, 1, 48]⟩
abbrev S4x8192x8x128 : Shape := ⟨4, ![4, 8192, 8, 128]⟩
abbrev S4x8192x2x128 : Shape := ⟨4, ![4, 8192, 2, 128]⟩
abbrev S4x8192x2x1 : Shape := ⟨4, ![4, 8192, 2, 1]⟩
abbrev S4x8192x2x63 : Shape := ⟨4, ![4, 8192, 2, 63]⟩
abbrev S32768x512 : Shape := ⟨2, ![32768, 512]⟩
abbrev S32768x256 : Shape := ⟨2, ![32768, 256]⟩
abbrev S32768x64 : Shape := ⟨2, ![32768, 64]⟩
abbrev S32768x8 : Shape := ⟨2, ![32768, 8]⟩

abbrev nBuf : Space → Nat
  | .hbm => 254
  | .vmem => 0
  | .smem => 0
  | _ => 0

abbrev hbmTy0_0 (i : Nat) : BufTy := match i % 128 with
  | 0 => ⟨S32768x1024, .f32⟩
  | 1 => ⟨S1024x2120, .f32⟩
  | 2 => ⟨S256, .f32⟩
  | 3 => ⟨S256x512, .f32⟩
  | 4 => ⟨S256x512, .f32⟩
  | 5 => ⟨S64, .f32⟩
  | 6 => ⟨S64, .f32⟩
  | 7 => ⟨S4x8192x1024, .f32⟩
  | 8 => ⟨S8192, .f32⟩
  | 9 => ⟨S4x8192x2120, .f32⟩
  | 10 => ⟨S4x8192x256, .f32⟩
  | 11 => ⟨S4x8192x128, .f32⟩
  | 12 => ⟨S4x8192x128, .f32⟩
  | 13 => ⟨S4x8192x64, .f32⟩
  | 14 => ⟨S4x8192x8, .f32⟩
  | 15 => ⟨S4x8192x512, .f32⟩
  | 16 => ⟨S4x8192x512, .f32⟩
  | 17 => ⟨S4x8192x512, .f32⟩
  | 18 => ⟨S4x8192x256, .f32⟩
  | 19 => ⟨S_, .f32⟩
  | 20 => ⟨S4x8192, .f32⟩
  | 21 => ⟨S4x8192x1, .f32⟩
  | 22 => ⟨S_, .f32⟩
  | 23 => ⟨S4x8192x1, .f32⟩
  | 24 => ⟨S4x8192x1, .f32⟩
  | 25 => ⟨S_, .f32⟩
  | 26 => ⟨S4x8192x1, .f32⟩
  | 27 => ⟨S4x8192x1, .f32⟩
  | 28 => ⟨S4x8192x1, .f32⟩
  | 29 => ⟨S4x8192x256, .f32⟩
  | 30 => ⟨S4x8192x256, .f32⟩
  | 31 => ⟨S1x1x256, .f32⟩
  | 32 => ⟨S4x8192x256, .f32⟩
  | 33 => ⟨S4x8192x256, .f32⟩
  | 34 => ⟨S4x8192x512, .f32⟩
  | 35 => ⟨S4x8192x8x64, .f32⟩
  | 36 => ⟨S8, .f32⟩
  | 37 => ⟨S8, .f32⟩
  | 38 => ⟨S_, .f32⟩
  | 39 => ⟨S8, .f32⟩
  | 40 => ⟨S8, .f32⟩
  | 41 => ⟨S_, .f32⟩
  | 42 => ⟨S8, .f32⟩
  | 43 => ⟨S8, .f32⟩
  | 44 => ⟨S8192x1, .f32⟩
  | 45 => ⟨S1x8, .f32⟩
  | 46 => ⟨S8192x8, .f32⟩
  | 47 => ⟨S8192x8, .f32⟩
  | 48 => ⟨S8192x8, .f32⟩
  | 49 => ⟨S8192x8, .f32⟩
  | 50 => ⟨S8192x1x8, .f32⟩
  | 51 => ⟨S8192x8, .f32⟩
  | 52 => ⟨S8192x1x8, .f32⟩
  | 53 => ⟨S4x8192x8x8, .f32⟩
  | 54 => ⟨S4x8192x8x8, .f32⟩
  | 55 => ⟨S1x8192x1x8, .f32⟩
  | 56 => ⟨S4x8192x8x8, .f32⟩
  | 57 => ⟨S4x8192x8x8, .f32⟩
  | 58 => ⟨S1x8192x1x8, .f32⟩
  | 59 => ⟨S4x8192x8x8, .f32⟩
  | 60 => ⟨S4x8192x8x8, .f32⟩
  | 61 => ⟨S4x8192x8x8, .f32⟩
  | 62 => ⟨S1x8192x1x8, .f32⟩
  | 63 => ⟨S4x8192x8x8, .f32⟩
  | 64 => ⟨S4x8192x8x8, .f32⟩
  | 65 => ⟨S1x8192x1x8, .f32⟩
  | 66 => ⟨S4x8192x8x8, .f32⟩
  | 67 => ⟨S4x8192x8x8, .f32⟩
  | 68 => ⟨S4x8192x8x8, .f32⟩
  | 69 => ⟨S4x8192x8x48, .f32⟩
  | 70 => ⟨S4x8192x8x64, .f32⟩
  | 71 => ⟨S_, .f32⟩
  | 72 => ⟨S4x8192x8x64, .f32⟩
  | 73 => ⟨S4x8192x8x64, .f32⟩
  | 74 => ⟨S4x8192x2x64, .f32⟩
  | 75 => ⟨S8, .f32⟩
  | 76 => ⟨S8, .f32⟩
  | 77 => ⟨S_, .f32⟩
  | 78 => ⟨S8, .f32⟩
  | 79 => ⟨S8, .f32⟩
  | 80 => ⟨S_, .f32⟩
  | 81 => ⟨S8, .f32⟩
  | 82 => ⟨S8, .f32⟩
  | 83 => ⟨S8192x1, .f32⟩
  | 84 => ⟨S1x8, .f32⟩
  | 85 => ⟨S8192x8, .f32⟩
  | 86 => ⟨S8192x8, .f32⟩
  | 87 => ⟨S8192x8, .f32⟩
  | 88 => ⟨S8192x8, .f32⟩
  | 89 => ⟨S8192x1x8, .f32⟩
  | 90 => ⟨S8192x8, .f32⟩
  | 91 => ⟨S8192x1x8, .f32⟩
  | 92 => ⟨S4x8192x2x8, .f32⟩
  | 93 => ⟨S4x8192x2x8, .f32⟩
  | 94 => ⟨S1x8192x1x8, .f32⟩
  | 95 => ⟨S4x8192x2x8, .f32⟩
  | 96 => ⟨S4x8192x2x8, .f32⟩
  | 97 => ⟨S1x8192x1x8, .f32⟩
  | 98 => ⟨S4x8192x2x8, .f32⟩
  | 99 => ⟨S4x8192x2x8, .f32⟩
  | 100 => ⟨S4x8192x2x8, .f32⟩
  | 101 => ⟨S1x8192x1x8, .f32⟩
  | 102 => ⟨S4x8192x2x8, .f32⟩
  | 103 => ⟨S4x8192x2x8, .f32⟩
  | 104 => ⟨S1x8192x1x8, .f32⟩
  | 105 => ⟨S4x8192x2x8, .f32⟩
  | 106 => ⟨S4x8192x2x8, .f32⟩
  | 107 => ⟨S4x8192x2x8, .f32⟩
  | 108 => ⟨S4x8192x2x48, .f32⟩
  | 109 => ⟨S4x8192x2x64, .f32⟩
  | 110 => ⟨S4x8192x2x64, .f32⟩
  | 111 => ⟨S4x8192x512, .f32⟩
  | 112 => ⟨S4x8192x8x64, .f32⟩
  | 113 => ⟨S8, .f32⟩
  | 114 => ⟨S8, .f32⟩
  | 115 => ⟨S_, .f32⟩
  | 116 => ⟨S8, .f32⟩
  | 117 => ⟨S8, .f32⟩
  | 118 => ⟨S_, .f32⟩
  | 119 => ⟨S8, .f32⟩
  | 120 => ⟨S8, .f32⟩
  | 121 => ⟨S8192x1, .f32⟩
  | 122 => ⟨S1x8, .f32⟩
  | 123 => ⟨S8192x8, .f32⟩
  | 124 => ⟨S8192x8, .f32⟩
  | 125 => ⟨S8192x8, .f32⟩
  | 126 => ⟨S8192x8, .f32⟩
  | 127 => ⟨S8192x1x8, .f32⟩
  | _ => ⟨S32768x1024, .f32⟩

abbrev hbmTy0_1 (i : Nat) : BufTy := match i % 128 with
  | 0 => ⟨S8192x8, .f32⟩
  | 1 => ⟨S8192x1x8, .f32⟩
  | 2 => ⟨S4x8192x8x8, .f32⟩
  | 3 => ⟨S4x8192x8x8, .f32⟩
  | 4 => ⟨S1x8192x1x8, .f32⟩
  | 5 => ⟨S4x8192x8x8, .f32⟩
  | 6 => ⟨S4x8192x8x8, .f32⟩
  | 7 => ⟨S1x8192x1x8, .f32⟩
  | 8 => ⟨S4x8192x8x8, .f32⟩
  | 9 => ⟨S4x8192x8x8, .f32⟩
  | 10 => ⟨S4x8192x8x8, .f32⟩
  | 11 => ⟨S1x8192x1x8, .f32⟩
  | 12 => ⟨S4x8192x8x8, .f32⟩
  | 13 => ⟨S4x8192x8x8, .f32⟩
  | 14 => ⟨S1x8192x1x8, .f32⟩
  | 15 => ⟨S4x8192x8x8, .f32⟩
  | 16 => ⟨S4x8192x8x8, .f32⟩
  | 17 => ⟨S4x8192x8x8, .f32⟩
  | 18 => ⟨S4x8192x8x48, .f32⟩
  | 19 => ⟨S4x8192x8x64, .f32⟩
  | 20 => ⟨S_, .f32⟩
  | 21 => ⟨S4x8192x8x64, .f32⟩
  | 22 => ⟨S4x8192x8x64, .f32⟩
  | 23 => ⟨S_, .f32⟩
  | 24 => ⟨S4x8192, .f32⟩
  | 25 => ⟨S4x8192x1, .f32⟩
  | 26 => ⟨S_, .f32⟩
  | 27 => ⟨S4x8192x1, .f32⟩
  | 28 => ⟨S4x8192x1, .f32⟩
  | 29 => ⟨S4x8192x64, .f32⟩
  | 30 => ⟨S4x8192x64, .f32⟩
  | 31 => ⟨S4x8192x64, .f32⟩
  | 32 => ⟨S_, .f32⟩
  | 33 => ⟨S4x8192, .f32⟩
  | 34 => ⟨S4x8192x1, .f32⟩
  | 35 => ⟨S_, .f32⟩
  | 36 => ⟨S4x8192x1, .f32⟩
  | 37 => ⟨S4x8192x1, .f32⟩
  | 38 => ⟨S4x8192x64, .f32⟩
  | 39 => ⟨S4x8192x64, .f32⟩
  | 40 => ⟨S_, .f32⟩
  | 41 => ⟨S4x8192x1, .f32⟩
  | 42 => ⟨S4x8192x1, .f32⟩
  | 43 => ⟨S4x8192x1, .f32⟩
  | 44 => ⟨S4x8192x64, .f32⟩
  | 45 => ⟨S4x8192x64, .f32⟩
  | 46 => ⟨S1x1x64, .f32⟩
  | 47 => ⟨S4x8192x64, .f32⟩
  | 48 => ⟨S4x8192x64, .f32⟩
  | 49 => ⟨S1x1x64, .f32⟩
  | 50 => ⟨S4x8192x64, .f32⟩
  | 51 => ⟨S4x8192x64, .f32⟩
  | 52 => ⟨S4x8192x1x64, .f32⟩
  | 53 => ⟨S8, .f32⟩
  | 54 => ⟨S8, .f32⟩
  | 55 => ⟨S_, .f32⟩
  | 56 => ⟨S8, .f32⟩
  | 57 => ⟨S8, .f32⟩
  | 58 => ⟨S_, .f32⟩
  | 59 => ⟨S8, .f32⟩
  | 60 => ⟨S8, .f32⟩
  | 61 => ⟨S8192x1, .f32⟩
  | 62 => ⟨S1x8, .f32⟩
  | 63 => ⟨S8192x8, .f32⟩
  | 64 => ⟨S8192x8, .f32⟩
  | 65 => ⟨S8192x8, .f32⟩
  | 66 => ⟨S8192x8, .f32⟩
  | 67 => ⟨S8192x1x8, .f32⟩
  | 68 => ⟨S8192x8, .f32⟩
  | 69 => ⟨S8192x1x8, .f32⟩
  | 70 => ⟨S4x8192x1x8, .f32⟩
  | 71 => ⟨S4x8192x1x8, .f32⟩
  | 72 => ⟨S1x8192x1x8, .f32⟩
  | 73 => ⟨S4x8192x1x8, .f32⟩
  | 74 => ⟨S4x8192x1x8, .f32⟩
  | 75 => ⟨S1x8192x1x8, .f32⟩
  | 76 => ⟨S4x8192x1x8, .f32⟩
  | 77 => ⟨S4x8192x1x8, .f32⟩
  | 78 => ⟨S4x8192x1x8, .f32⟩
  | 79 => ⟨S1x8192x1x8, .f32⟩
  | 80 => ⟨S4x8192x1x8, .f32⟩
  | 81 => ⟨S4x8192x1x8, .f32⟩
  | 82 => ⟨S1x8192x1x8, .f32⟩
  | 83 => ⟨S4x8192x1x8, .f32⟩
  | 84 => ⟨S4x8192x1x8, .f32⟩
  | 85 => ⟨S4x8192x1x8, .f32⟩
  | 86 => ⟨S4x8192x1x48, .f32⟩
  | 87 => ⟨S4x8192x1x64, .f32⟩
  | 88 => ⟨S4x8192x64, .f32⟩
  | 89 => ⟨S_, .f32⟩
  | 90 => ⟨S4x8192x8, .f32⟩
  | 91 => ⟨S4x8192x8, .f32⟩
  | 92 => ⟨S_, .f32⟩
  | 93 => ⟨S4x8192x512, .f32⟩
  | 94 => ⟨S4x8192x512, .f32⟩
  | 95 => ⟨S_, .f32⟩
  | 96 => ⟨S4x8192x8x64, .f32⟩
  | 97 => ⟨S4x8192x8x128, .f32⟩
  | 98 => ⟨S_, .f32⟩
  | 99 => ⟨S4x8192x2x64, .f32⟩
  | 100 => ⟨S4x8192x2x128, .f32⟩
  | 101 => ⟨S_, .f32⟩
  | 102 => ⟨S4x8192x2x1, .f32⟩
  | 103 => ⟨S_, .f32⟩
  | 104 => ⟨S4x8192x2x1, .f32⟩
  | 105 => ⟨S4x8192x2x1, .f32⟩
  | 106 => ⟨S_, .f32⟩
  | 107 => ⟨S4x8192x2x63, .f32⟩
  | 108 => ⟨S4x8192x2x128, .f32⟩
  | 109 => ⟨S32768x1024, .f32⟩
  | 110 => ⟨S32768x1024, .bf16⟩
  | 111 => ⟨S32768x512, .f32⟩
  | 112 => ⟨S32768x512, .bf16⟩
  | 113 => ⟨S32768x256, .f32⟩
  | 114 => ⟨S32768x256, .bf16⟩
  | 115 => ⟨S32768x256, .f32⟩
  | 116 => ⟨S32768x256, .bf16⟩
  | 117 => ⟨S32768x64, .f32⟩
  | 118 => ⟨S32768x64, .bf16⟩
  | 119 => ⟨S32768x8, .f32⟩
  | 120 => ⟨S32768x512, .f32⟩
  | 121 => ⟨S32768x512, .bf16⟩
  | 122 => ⟨S32768x512, .f32⟩
  | 123 => ⟨S32768x512, .bf16⟩
  | 124 => ⟨S32768x512, .f32⟩
  | 125 => ⟨S32768x512, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_cst_4 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_cst_5 : Ref sig .tc := ⟨.hbm, 77, rfl⟩
abbrev main_v64 : Ref sig .tc := ⟨.hbm, 78, rfl⟩
abbrev main_v65 : Ref sig .tc := ⟨.hbm, 79, rfl⟩
abbrev main_cst_6 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_cst_7 : Ref sig .tc := ⟨.hbm, 115, rfl⟩
abbrev main_v100 : Ref sig .tc := ⟨.hbm, 116, rfl⟩
abbrev main_v101 : Ref sig .tc := ⟨.hbm, 117, rfl⟩
abbrev main_cst_8 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_cst_9 : Ref sig .tc := ⟨.hbm, 148, rfl⟩
abbrev main_v131 : Ref sig .tc := ⟨.hbm, 149, rfl⟩
abbrev main_v132 : Ref sig .tc := ⟨.hbm, 150, rfl⟩
abbrev main_cst_10 : Ref sig .tc := ⟨.hbm, 151, rfl⟩
abbrev main_v133 : Ref sig .tc := ⟨.hbm, 152, rfl⟩
abbrev main_v134 : Ref sig .tc := ⟨.hbm, 153, rfl⟩
abbrev main_cst_11 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_cst_12 : Ref sig .tc := ⟨.hbm, 160, rfl⟩
abbrev main_v140 : Ref sig .tc := ⟨.hbm, 161, rfl⟩
abbrev main_v141 : Ref sig .tc := ⟨.hbm, 162, rfl⟩
abbrev main_cst_13 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_cst_14 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_cst_15 : Ref sig .tc := ⟨.hbm, 183, rfl⟩
abbrev main_v160 : Ref sig .tc := ⟨.hbm, 184, rfl⟩
abbrev main_v161 : Ref sig .tc := ⟨.hbm, 185, rfl⟩
abbrev main_cst_16 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_v169 : Ref sig .tc := ⟨.hbm, 194, rfl⟩
abbrev main_v170 : Ref sig .tc := ⟨.hbm, 195, rfl⟩
abbrev main_v171 : Ref sig .tc := ⟨.hbm, 196, rfl⟩
abbrev main_v172 : Ref sig .tc := ⟨.hbm, 197, rfl⟩
abbrev main_v173 : Ref sig .tc := ⟨.hbm, 198, rfl⟩
abbrev main_v174 : Ref sig .tc := ⟨.hbm, 199, rfl⟩
abbrev main_v175 : Ref sig .tc := ⟨.hbm, 200, rfl⟩
abbrev main_v176 : Ref sig .tc := ⟨.hbm, 201, rfl⟩
abbrev main_v177 : Ref sig .tc := ⟨.hbm, 202, rfl⟩
abbrev main_v178 : Ref sig .tc := ⟨.hbm, 203, rfl⟩
abbrev main_v179 : Ref sig .tc := ⟨.hbm, 204, rfl⟩
abbrev main_v180 : Ref sig .tc := ⟨.hbm, 205, rfl⟩
abbrev main_v181 : Ref sig .tc := ⟨.hbm, 206, rfl⟩
abbrev main_v182 : Ref sig .tc := ⟨.hbm, 207, rfl⟩
abbrev main_v183 : Ref sig .tc := ⟨.hbm, 208, rfl⟩
abbrev main_v184 : Ref sig .tc := ⟨.hbm, 209, rfl⟩
abbrev main_v185 : Ref sig .tc := ⟨.hbm, 210, rfl⟩
abbrev main_v186 : Ref sig .tc := ⟨.hbm, 211, rfl⟩
abbrev main_v187 : Ref sig .tc := ⟨.hbm, 212, rfl⟩
abbrev main_v188 : Ref sig .tc := ⟨.hbm, 213, rfl⟩
abbrev main_v189 : Ref sig .tc := ⟨.hbm, 214, rfl⟩
abbrev main_v190 : Ref sig .tc := ⟨.hbm, 215, rfl⟩
abbrev main_v191 : Ref sig .tc := ⟨.hbm, 216, rfl⟩
abbrev main_cst_17 : Ref sig .tc := ⟨.hbm, 217, rfl⟩
abbrev main_v192 : Ref sig .tc := ⟨.hbm, 218, rfl⟩
abbrev main_v193 : Ref sig .tc := ⟨.hbm, 219, rfl⟩
abbrev main_cst_18 : Ref sig .tc := ⟨.hbm, 220, rfl⟩
abbrev main_v194 : Ref sig .tc := ⟨.hbm, 221, rfl⟩
abbrev main_v195 : Ref sig .tc := ⟨.hbm, 222, rfl⟩
abbrev main_cst_19 : Ref sig .tc := ⟨.hbm, 223, rfl⟩
abbrev main_v196 : Ref sig .tc := ⟨.hbm, 224, rfl⟩
abbrev main_v197 : Ref sig .tc := ⟨.hbm, 225, rfl⟩
abbrev main_cst_20 : Ref sig .tc := ⟨.hbm, 226, rfl⟩
abbrev main_v198 : Ref sig .tc := ⟨.hbm, 227, rfl⟩
abbrev main_v199 : Ref sig .tc := ⟨.hbm, 228, rfl⟩
abbrev main_cst_21 : Ref sig .tc := ⟨.hbm, 229, rfl⟩
abbrev main_v200 : Ref sig .tc := ⟨.hbm, 230, rfl⟩
abbrev main_cst_22 : Ref sig .tc := ⟨.hbm, 231, rfl⟩
abbrev main_v201 : Ref sig .tc := ⟨.hbm, 232, rfl⟩
abbrev main_v202 : Ref sig .tc := ⟨.hbm, 233, rfl⟩
abbrev main_cst_23 : Ref sig .tc := ⟨.hbm, 234, rfl⟩
abbrev main_v203 : Ref sig .tc := ⟨.hbm, 235, rfl⟩
abbrev main_v204 : Ref sig .tc := ⟨.hbm, 236, rfl⟩
abbrev main_v205 : Ref sig .tc := ⟨.hbm, 237, rfl⟩
abbrev main_v206 : Ref sig .tc := ⟨.hbm, 238, rfl⟩
abbrev main_v207 : Ref sig .tc := ⟨.hbm, 239, rfl⟩
abbrev main_v208 : Ref sig .tc := ⟨.hbm, 240, rfl⟩
abbrev main_v209 : Ref sig .tc := ⟨.hbm, 241, rfl⟩
abbrev main_v210 : Ref sig .tc := ⟨.hbm, 242, rfl⟩
abbrev main_v211 : Ref sig .tc := ⟨.hbm, 243, rfl⟩
abbrev main_v212 : Ref sig .tc := ⟨.hbm, 244, rfl⟩
abbrev main_v213 : Ref sig .tc := ⟨.hbm, 245, rfl⟩
abbrev main_v214 : Ref sig .tc := ⟨.hbm, 246, rfl⟩
abbrev main_v215 : Ref sig .tc := ⟨.hbm, 247, rfl⟩
abbrev main_v216 : Ref sig .tc := ⟨.hbm, 248, rfl⟩
abbrev main_v217 : Ref sig .tc := ⟨.hbm, 249, rfl⟩
abbrev main_v218 : Ref sig .tc := ⟨.hbm, 250, rfl⟩
abbrev main_v219 : Ref sig .tc := ⟨.hbm, 251, rfl⟩
abbrev main_v220 : Ref sig .tc := ⟨.hbm, 252, rfl⟩
abbrev main_v221 : Ref sig .tc := ⟨.hbm, 253, rfl⟩

abbrev nD : Nat := 1
abbrev τ : Topo := Topo.v7x

variable {F : FTy → Type} [FloatOps F]
-- ==== Proof.KernelIdeal.Kit.lean ====
/- The launch of the stick-breaking call: what its arrays hold when the call is entered, what each of its
   input windows holds at a grid point, and the frame claim from a run of the launch. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) (cfgs (F := F)) 0 defs₀ 𝒱₀ m (main (F := F)) (V m) :=
  Pipeline.hmain_prefixes (cfgs (F := F)) 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- Input window 0's current staging buffer holds its block at every point, fetched there or not, for any proof data
    whose array is the region's and whose body leaves the block in place. -/
theorem before0_0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof data
    whose array is the region's and whose body leaves the block in place. -/
theorem before0_1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof data
    whose array is the region's and whose body leaves the block in place. -/
theorem before0_2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof data
    whose array is the region's and whose body leaves the block in place. -/
theorem before0_3_of {c : Dev nD} (dat : Dat τ (Elt F) Unit ℕ (UR sig nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The arguments end as they began, for any proof data whose arrays are what the region finds: no host operation
    and no window of the call writes them. -/
theorem frame_of (dats : (p : Fin 1) → (c : Dev nD) → Dat τ (Elt F) Unit ℕ (UR sig nD τ) ℕ ((cfgs (F := F)) p) c)
    (hA : ∀ c w, (dats 0 c).A w = V m c (Pipeline.arrRef spec0 w))
    (h : θ_run defs (onTc (τ := τ) (main (F := F))) (s₀ m ρ) (Pipeline.FramePost (cfgs (F := F)) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (show ∀ w : Fin 5, (spec0 w).arr.view.ref ≠ main_arg0 by decide))).trans (V_main_arg0 m c),
      ((h c).2 main_arg1 (Pipeline.mem_restRefs_of main_arg1 (by decide) (show ∀ w : Fin 5, (spec0 w).arr.view.ref ≠ main_arg1 by decide))).trans (V_main_arg1 m c),
      ((h c).2 main_arg2 (Pipeline.mem_restRefs_of main_arg2 (by decide) (show ∀ w : Fin 5, (spec0 w).arr.view.ref ≠ main_arg2 by decide))).trans (V_main_arg2 m c)⟩) h

/-! ## The kernel body on any staging memrefs -/

/-- One staging buffer of output window 4, through which its contents are stated (`View.read_writes_of_cover`: the
    choice does not matter). -/
abbrev VO0_4 : View sig .tc .vmem S1x256x512 .bf16 := (Memref.whole cc0_stg4_0 : Memref sig .tc .vmem S1x256x512 .bf16).view
/-- Each window's current staging memref at point `t`, spelled as the pipeline passes it (`bodyAt0`), and its wholeness. -/
abbrev ms0_0 (t : Fin (cfg0 (F := F)).N) : Memref sig .tc .vmem S1x256x512 .bf16 := win0_0.stage ((cfg0 (F := F)).slots t 0)
abbrev hs0_0 (t : Fin (cfg0 (F := F)).N) : (ms0_0 (F := F) t).IsWhole := hstage0_0 (((cfg0 (F := F)).slots t 0).cast nbuf0_0)
abbrev ms0_1 (t : Fin (cfg0 (F := F)).N) : Memref sig .tc .vmem S1x8192x512 .bf16 := win0_1.stage ((cfg0 (F := F)).slots t 1)
abbrev hs0_1 (t : Fin (cfg0 (F := F)).N) : (ms0_1 (F := F) t).IsWhole := hstage0_1 (((cfg0 (F := F)).slots t 1).cast nbuf0_1)
abbrev ms0_2 (t : Fin (cfg0 (F := F)).N) : Memref sig .tc .vmem S1x8192x512 .bf16 := win0_2.stage ((cfg0 (F := F)).slots t 2)
abbrev hs0_2 (t : Fin (cfg0 (F := F)).N) : (ms0_2 (F := F) t).IsWhole := hstage0_2 (((cfg0 (F := F)).slots t 2).cast nbuf0_2)
abbrev ms0_3 (t : Fin (cfg0 (F := F)).N) : Memref sig .tc .vmem S256x256 .bf16 := win0_3.stage ((cfg0 (F := F)).slots t 3)
abbrev hs0_3 (t : Fin (cfg0 (F := F)).N) : (ms0_3 (F := F) t).IsWhole := hstage0_3 (((cfg0 (F := F)).slots t 3).cast nbuf0_3)
abbrev ms0_4 (t : Fin (cfg0 (F := F)).N) : Memref sig .tc .vmem S1x256x512 .bf16 := win0_4.stage ((cfg0 (F := F)).slots t 4)
abbrev hs0_4 (t : Fin (cfg0 (F := F)).N) : (ms0_4 (F := F) t).IsWhole := hstage0_4 (((cfg0 (F := F)).slots t 4).cast nbuf0_4)
/-- The scratch operands: whole scoped buffers of the kernel's own, passed beside the windows. -/
abbrev scM0_0 : Memref sig .tc .vmem S256x512 .f32 := Memref.whole cc0_scratch0
abbrev scM0_1 : Memref sig .tc .vmem S4x512x1 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.KernelIdeal.Trip.lean ====
/- One trip of the loop over key tiles. -/
module

public import proofs.«01_k».proof.Proof.KernelIdeal.Kit

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The number of key tiles the loop may visit at query tile `j`, as the kernel computes it. -/
def tilesOf (j : ℕ) : BitVec 32 :=
  let arg1 : BitVec 32 := BitVec.ofNat 32 j
  let v0 : BitVec 32 := Scalar.muli arg1 256#32
  let v10 : BitVec 32 := Scalar.addi v0 256#32
  let v11 : BitVec 32 := Scalar.subi v10 1#32
  let v13 : BitVec 1 := Scalar.cmpi .sgt v11 0#32
  let v14 : BitVec 32 := Scalar.extui v13
  let v15 : BitVec 1 := Scalar.cmpi .slt v11 0#32
  let v16 : BitVec 32 := Scalar.extui v15
  let v17 : BitVec 32 := Scalar.subi v14 v16
  let v18 : BitVec 1 := Scalar.cmpi .sgt 256#32 0#32
  let v19 : BitVec 32 := Scalar.extui v18
  let v20 : BitVec 1 := Scalar.cmpi .slt 256#32 0#32
  let v21 : BitVec 32 := Scalar.extui v20
  let v22 : BitVec 32 := Scalar.subi v19 v21
  let v23 : BitVec 1 := Scalar.cmpi .ne v17 v22
  let v24 : BitVec 32 := Scalar.remsi v11 256#32
  let v25 : BitVec 1 := Scalar.cmpi .ne v24 0#32
  let v26 : BitVec 1 := Scalar.andi v23 v25
  let v12 : BitVec 32 := Scalar.divsi v11 256#32
  let v27 : BitVec 32 := Scalar.subi v12 1#32
  let v28 : BitVec 32 := Scalar.select v26 v27 v12
  Scalar.addi v28 1#32

/-- The same at a grid point. -/
abbrev tilesW (i : grid0.Coords) : BitVec 32 := tilesOf (i 1).val

/-- The loop's condition. -/
def goesOn (i : grid0.Coords) (n : BitVec 32) (w : F .f32) : BitVec 1 :=
  Scalar.andi (Scalar.cmpi .slt n (tilesW i)) (Scalar.cmpf .oge w (Named.named κ "exit_log" 0xC2D00000#32))

set_option maxHeartbeats 4000000 in
/-- One trip of the loop, from its condition being met to the call of the next: the keys and values are left as they
    were, and what the trip writes over the two scratch buffers (the weighted sums `a` and the running sums `r`) and the
    largest of the running sums are read off the run. -/
noncomputable def trip (c : Dev nD) (i : grid0.Coords) (v4 : IVec S256x256 32) (v3 : IVec S256x1 32) (arg3 : Memref sig .tc .vmem S1x8192x512 .bf16) (harg3 : arg3.IsWhole) (arg4 : Memref sig .tc .vmem S1x8192x512 .bf16) (harg4 : arg4.IsWhole) (arg8 : Memref sig .tc .vmem S4x512x1 .f32) (harg8 : arg8.IsWhole) (v36 : FVec F S512x128 .bf16) (v9 : FVec F S256x256 .bf16) (arg7 : Memref sig .tc .vmem S256x512 .f32) (harg7 : arg7.IsWhole) (v7 : IVec S256x128 1) (v40 : FVec F S512x128 .bf16) (v44 : FVec F S512x128 .bf16) (v48 : FVec F S512x128 .bf16) (arg9 : BitVec 32)
    (x1 x2 : Vec F S1x8192x512 .bf16) (a : Vec F S256x512 .f32) (r : Vec F S4x512x1 .f32) (hchk : k0_chk1 i arg9) :
    Σ' (L7 : List (View.Piece (Elt F) S256x512 .f32)), Σ' (w' : F .f32), { L8 : List (View.Piece (Elt F) S4x512x1 .f32) //
      ∀ (bd : Option ℕ) (arg10 : F .f32) (hc : goesOn i arg9 arg10 = 1#1) (E : Set ℕ) (K : BitVec 32 × F .f32 → sProp 𝕄),
        iprop(owns (c : Thread nD τ) arg3 fullShare x1 ∗ owns (c : Thread nD τ) arg4 fullShare x2 ∗ owns (c : Thread nD τ) arg7 fullShare a ∗ owns (c : Thread nD τ) arg8 fullShare r
            ∗ (iprop(owns (c : Thread nD τ) arg3 fullShare x1 ∗ owns (c : Thread nD τ) arg4 fullShare x2 ∗ (arg7.view.loc (c : Thread nD τ) ↦[arg7.view.set]{fullShare} arg7.view.writes (Elt F) (harg7.unread a) L7) ∗ (arg8.view.loc (c : Thread nD τ) ↦[arg8.view.set]{fullShare} arg8.view.writes (Elt F) (harg8.unread r) L8))
              -∗ wp frame (wpE (defs₀ (F := F)) Variants.nat c bd) E (.op (.call (1 : (Λ₀ F).Label) ⟨i, v4, v3, arg3, harg3, arg4, harg4, arg8, harg8, v36, v9, arg7, harg7, v7, v40, v44, v48, Scalar.addi arg9 1#32, w'⟩) .ret) K))
          ⊢ wp frame (wpE (defs₀ (F := F)) Variants.nat c bd) E (cc0_while1 i v4 v3 arg3 harg3 arg4 harg4 arg8 harg8 v36 v9 arg7 harg7 v7 v40 v44 v48 arg9 arg10) K } := by
  refine ⟨?_, ?_, ?_, fun bd arg10 hc E K => ?run⟩
  case run =>
    simp only [cc0_while1_eq_skeleton]; unfold cc0_while1_skel
    simp only [k0_part2_eq_skeleton, k0_part3_eq_skeleton, k0_part4_eq_skeleton, k0_part5_eq_skeleton, k0_part6_eq_skeleton]
    unfold owns
    iintro ⟨⟨%f1, %hf1, H1⟩, ⟨%f2, %hf2, H2⟩, ⟨%f7, %hf7, H7⟩, ⟨%f8, %hf8, H8⟩, Hk⟩
    obtain rfl := harg3.eq_unread hf1; obtain rfl := harg4.eq_unread hf2; obtain rfl := harg7.eq_unread hf7; obtain rfl := harg8.eq_unread hf8
    sl_exec (disch := sl_exact hc)
    iapply Hk
    isplitl [H1]
    · iexists _; isplitr; · ipureintro; exact harg3.read_unread _
      iexact H1
    isplitl [H2]
    · iexists _; isplitr; · ipureintro; exact harg4.read_unread _
      iexact H2
    isplitl [H7]; · iexact H7
    iexact H8

end Cert.KernelIdeal.Hand

end
-- ==== Proof.KernelIdeal.Loop.lean ====
/- The loop over key tiles: how many tiles it may visit, where each tile lies, and what the loop leaves. -/
module

public import proofs.«01_k».proof.Proof.KernelIdeal.Trip

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The first row of the key tile visited at trip `n` of query tile `j`, as the kernel computes it. -/
def rowOf (j n : ℕ) : BitVec 32 :=
  Scalar.muli (Scalar.subi (Scalar.subi (tilesOf j) 1#32) (BitVec.ofNat 32 n)) 256#32

/-- Query tile `j` meets `j + 1` key tiles. -/
theorem tilesOf_eq (j : Fin 32) : tilesOf j.val = BitVec.ofNat 32 (j.val + 1) := by
  revert j; decide +kernel

/-- The tile of trip `n` starts at row `256 * (j - n)`. -/
theorem rowOf_eq (j n : Fin 32) (h : n ≤ j) : (rowOf j.val n.val).toNat = 256 * (j.val - n.val) := by
  revert j n; decide +kernel

/-- The counter is below the number of tiles as a word exactly when it is as a number. -/
theorem slt_tiles (j : Fin 32) (n : Fin 33) :
    Scalar.cmpi .slt (BitVec.ofNat 32 n.val) (tilesOf j.val) = if n.val < j.val + 1 then 1#1 else 0#1 := by
  revert j n; decide +kernel

theorem off1_eq (i : grid0.Coords) (n : ℕ) : k0_off1 i (BitVec.ofNat 32 n) = ![0, (rowOf (i 1).val n).toNat, 0] := rfl
theorem off2_eq (i : grid0.Coords) (n : ℕ) : k0_off2 i (BitVec.ofNat 32 n) = ![0, (rowOf (i 1).val n).toNat, 128] := rfl
theorem off3_eq (i : grid0.Coords) (n : ℕ) : k0_off3 i (BitVec.ofNat 32 n) = ![0, (rowOf (i 1).val n).toNat, 256] := rfl
theorem off4_eq (i : grid0.Coords) (n : ℕ) : k0_off4 i (BitVec.ofNat 32 n) = ![0, (rowOf (i 1).val n).toNat, 384] := rfl
theorem mult1_eq (i : grid0.Coords) (n : ℕ) : k0_mult1 i (BitVec.ofNat 32 n) = rowOf (i 1).val n := rfl

theorem i1_lt (i : grid0.Coords) : (i 1).val < 32 := (i 1).isLt

/-- The first row of a visited tile, as a number. -/
theorem row_eq (i : grid0.Coords) (n : ℕ) (h : n ≤ (i 1).val) :
    (rowOf (i 1).val n).toNat = 256 * ((i 1).val - n) :=
  rowOf_eq ⟨(i 1).val, i1_lt i⟩ ⟨n, lt_of_le_of_lt h (i1_lt i)⟩ h

/-- Every visited tile lies inside the keys and the values. -/
theorem chk (i : grid0.Coords) (n : ℕ) (h : n ≤ (i 1).val) : k0_chk1 i (BitVec.ofNat 32 n) := by
  have hr := row_eq i n h
  have hi := i1_lt i
  unfold k0_chk1
  rw [off1_eq, off2_eq, off3_eq, off4_eq, mult1_eq, hr]
  refine ⟨⟨_, rfl⟩, ?_, ?_, ?_, ?_⟩ <;>
  · intro a
    match a with
    | ⟨0, _⟩ => show 0 + 1 ≤ 1; omega
    | ⟨1, _⟩ => show 256 * ((i 1).val - n) + 256 ≤ 8192; omega
    | ⟨2, _⟩ => first | (show 0 + 128 ≤ 512; omega) | (show 128 + 128 ≤ 512; omega) | (show 256 + 128 ≤ 512; omega) | (show 384 + 128 ≤ 512; omega)

/-- Past the last tile the loop stops. -/
theorem stops (i : grid0.Coords) (w : F .f32) : ¬ goesOn i (BitVec.ofNat 32 ((i 1).val + 1)) w = 1#1 := by
  have h := slt_tiles ⟨(i 1).val, i1_lt i⟩ ⟨(i 1).val + 1, Nat.succ_lt_succ (i1_lt i)⟩
  rw [if_neg (by simp)] at h
  unfold goesOn
  rw [show Scalar.cmpi .slt (BitVec.ofNat 32 ((i 1).val + 1)) (tilesW i) = 0#1 from h]
  exact (by decide : ∀ b : BitVec 1, ¬ Scalar.andi 0#1 b = 1#1) _

section Run

variable (i : grid0.Coords) (v4 : IVec S256x256 32) (v3 : IVec S256x1 32) (arg3 : Memref sig .tc .vmem S1x8192x512 .bf16) (harg3 : arg3.IsWhole) (arg4 : Memref sig .tc .vmem S1x8192x512 .bf16) (harg4 : arg4.IsWhole) (arg8 : Memref sig .tc .vmem S4x512x1 .f32) (harg8 : arg8.IsWhole) (v36 : FVec F S512x128 .bf16) (v9 : FVec F S256x256 .bf16) (arg7 : Memref sig .tc .vmem S256x512 .f32) (harg7 : arg7.IsWhole) (v7 : IVec S256x128 1) (v40 : FVec F S512x128 .bf16) (v44 : FVec F S512x128 .bf16) (v48 : FVec F S512x128 .bf16)
  (x1 x2 : Vec F S1x8192x512 .bf16)

/-- The weighted sums after trip `n`. -/
def accStep (c : Dev nD) (n : ℕ) (hn : n ≤ (i 1).val) (a : Vec F S256x512 .f32) (r : Vec F S4x512x1 .f32) : Vec F S256x512 .f32 :=
  arg7.view.read (Elt F) (arg7.view.writes (Elt F) (harg7.unread a)
    (trip c i v4 v3 arg3 harg3 arg4 harg4 arg8 harg8 v36 v9 arg7 harg7 v7 v40 v44 v48 (BitVec.ofNat 32 n) x1 x2 a r (chk i n hn)).1)

/-- The running sums after trip `n`. -/
def runStep (c : Dev nD) (n : ℕ) (hn : n ≤ (i 1).val) (a : Vec F S256x512 .f32) (r : Vec F S4x512x1 .f32) : Vec F S4x512x1 .f32 :=
  arg8.view.read (Elt F) (arg8.view.writes (Elt F) (harg8.unread r)
    (trip c i v4 v3 arg3 harg3 arg4 harg4 arg8 harg8 v36 v9 arg7 harg7 v7 v40 v44 v48 (BitVec.ofNat 32 n) x1 x2 a r (chk i n hn)).2.2.1)

/-- The largest of the running sums after trip `n`. -/
def topStep (c : Dev nD) (n : ℕ) (hn : n ≤ (i 1).val) (a : Vec F S256x512 .f32) (r : Vec F S4x512x1 .f32) : F .f32 :=
  (trip c i v4 v3 arg3 harg3 arg4 harg4 arg8 harg8 v36 v9 arg7 harg7 v7 v40 v44 v48 (BitVec.ofNat 32 n) x1 x2 a r (chk i n hn)).2.1

/-- What the loop leaves in the two scratch buffers, from trip `n` with `k` trips possible. -/
def loopOut (c : Dev nD) : (k n : ℕ) → n + k = (i 1).val + 1 → Vec F S256x512 .f32 → Vec F S4x512x1 .f32 → F .f32 →
    Vec F S256x512 .f32 × Vec F S4x512x1 .f32
  | 0, _, _, a, r, _ => (a, r)
  | k + 1, n, h, a, r, w =>
    if goesOn i (BitVec.ofNat 32 n) w = 1#1 then
      loopOut c k (n + 1) (by omega)
        (accStep i v4 v3 arg3 harg3 arg4 harg4 arg8 harg8 v36 v9 arg7 harg7 v7 v40 v44 v48 x1 x2 c n (by omega) a r)
        (runStep i v4 v3 arg3 harg3 arg4 harg4 arg8 harg8 v36 v9 arg7 harg7 v7 v40 v44 v48 x1 x2 c n (by omega) a r)
        (topStep i v4 v3 arg3 harg3 arg4 harg4 arg8 harg8 v36 v9 arg7 harg7 v7 v40 v44 v48 x1 x2 c n (by omega) a r)
    else (a, r)

/-- A loop whose condition fails returns at once. -/
theorem loop_stop (c : Dev nD) (bd : Option ℕ) (arg9 : BitVec 32) (w : F .f32) (hc : ¬ goesOn i arg9 w = 1#1) (E : Set ℕ) (K : BitVec 32 × F .f32 → sProp 𝕄) :
    K (arg9, w) ⊢ wp frame (wpE (defs₀ (F := F)) Variants.nat c bd) E (cc0_while1 i v4 v3 arg3 harg3 arg4 harg4 arg8 harg8 v36 v9 arg7 harg7 v7 v40 v44 v48 arg9 w) K := by
  simp only [cc0_while1_eq_skeleton]; unfold cc0_while1_skel
  iintro Hk
  sl_exec (disch := sl_exact hc)
  sl_step
  iexact Hk

/-- The counter's next word. -/
theorem next_word (n : ℕ) : Scalar.addi (BitVec.ofNat 32 n) 1#32 = BitVec.ofNat 32 (n + 1) := by
  show BitVec.ofNat 32 n + 1#32 = _
  rw [show (1#32 : BitVec 32) = BitVec.ofNat 32 1 from rfl, ← BitVec.ofNat_add]

/-- THE LOOP: from trip `n` with `k` trips possible, the body label entered at `k` runs to what `loopOut` says. -/
theorem loop (c : Dev nD) (E : Set ℕ) : ∀ (k n : ℕ) (h : n + k = (i 1).val + 1) (a : Vec F S256x512 .f32) (r : Vec F S4x512x1 .f32) (w : F .f32)
    (K : BitVec 32 × F .f32 → sProp 𝕄),
    iprop(owns (c : Thread nD τ) arg3 fullShare x1 ∗ owns (c : Thread nD τ) arg4 fullShare x2 ∗ owns (c : Thread nD τ) arg7 fullShare a ∗ owns (c : Thread nD τ) arg8 fullShare r
        ∗ (∀ o, iprop(owns (c : Thread nD τ) arg3 fullShare x1 ∗ owns (c : Thread nD τ) arg4 fullShare x2
            ∗ owns (c : Thread nD τ) arg7 fullShare (loopOut i v4 v3 arg3 harg3 arg4 harg4 arg8 harg8 v36 v9 arg7 harg7 v7 v40 v44 v48 x1 x2 c k n h a r w).1
            ∗ owns (c : Thread nD τ) arg8 fullShare (loopOut i v4 v3 arg3 harg3 arg4 harg4 arg8 harg8 v36 v9 arg7 harg7 v7 v40 v44 v48 x1 x2 c k n h a r w).2) -∗ K o))
      ⊢ wp frame (wpE (defs₀ (F := F)) Variants.nat c (some k)) E (cc0_while1 i v4 v3 arg3 harg3 arg4 harg4 arg8 harg8 v36 v9 arg7 harg7 v7 v40 v44 v48 (BitVec.ofNat 32 n) w) K := by
  intro k
  induction k with
  | zero =>
    intro n h a r w K
    obtain rfl : n = (i 1).val + 1 := by omega
    simp only [loopOut]
    iintro ⟨H1, H2, H7, H8, Hk⟩
    iapply (loop_stop i v4 v3 arg3 harg3 arg4 harg4 arg8 harg8 v36 v9 arg7 harg7 v7 v40 v44 v48 c _ _ w (stops i w) E K)
    iapply Hk
    isplitl [H1]; · iexact H1
    isplitl [H2]; · iexact H2
    isplitl [H7]; · iexact H7
    iexact H8
  | succ k ih =>
    intro n h a r w K
    by_cases hc : goesOn i (BitVec.ofNat 32 n) w = 1#1
    · simp only [loopOut, if_pos hc]
      iintro ⟨H1, H2, H7, H8, Hk⟩
      iapply ((trip c i v4 v3 arg3 harg3 arg4 harg4 arg8 harg8 v36 v9 arg7 harg7 v7 v40 v44 v48 (BitVec.ofNat 32 n) x1 x2 a r (chk i n (by omega))).2.2.2 (some (k + 1)) w hc E K)
      isplitl [H1]; · iexact H1
      isplitl [H2]; · iexact H2
      isplitl [H7]; · iexact H7
      isplitl [H8]; · iexact H8
      iintro ⟨H1, H2, H7, H8⟩
      iapply (wp_call Variants.nat (c : Thread nD τ) (some (k + 1)) E (ℓ := (1 : (Λ₀ F).Label)) (k : ℕ) (fun u hu => by cases hu; exact Nat.lt_succ_self k))
      unfold defs₀; rw [Defs.onTc_tc]
      have ih' := fun a r w K => ih (n + 1) (by omega) a r w K
      rw [← next_word] at ih'
      iapply (ih' _ _ _ _)
      isplitl [H1]; · iexact H1
      isplitl [H2]; · iexact H2
      isplitl [H7]
      · unfold owns; iexists _; isplitr
        swap; · iexact H7
        ipureintro; rfl
      isplitl [H8]
      · unfold owns; iexists _; isplitr
        swap; · iexact H8
        ipureintro; rfl
      iintro %o H
      rw [wp_ret]
      imodintro
      iapply Hk
      iexact H
    · simp only [loopOut, if_neg hc]
      iintro ⟨H1, H2, H7, H8, Hk⟩
      iapply (loop_stop i v4 v3 arg3 harg3 arg4 harg4 arg8 harg8 v36 v9 arg7 harg7 v7 v40 v44 v48 c _ _ w hc E K)
      iapply Hk
      isplitl [H1]; · iexact H1
      isplitl [H2]; · iexact H2
      isplitl [H7]; · iexact H7
      iexact H8

end Run

end Cert.KernelIdeal.Hand

end
-- ==== Proof.KernelIdeal.Body.lean ====
/- The body of the kernel at one grid point. -/
module

public import proofs.«01_k».proof.Proof.KernelIdeal.Loop
public import Idealize.ShloMosaic.Lib.VecWindow

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at a grid point. -/
noncomputable def kernelRun (c : Dev nD) (i : grid0.Coords) (arg2 : Memref sig .tc .vmem S1x256x512 .bf16) (harg2 : arg2.IsWhole) (arg3 : Memref sig .tc .vmem S1x8192x512 .bf16) (harg3 : arg3.IsWhole) (arg4 : Memref sig .tc .vmem S1x8192x512 .bf16) (harg4 : arg4.IsWhole) (arg5 : Memref sig .tc .vmem S256x256 .bf16) (harg5 : arg5.IsWhole) (arg6 : Memref sig .tc .vmem S1x256x512 .bf16) (harg6 : arg6.IsWhole) (arg7 : Memref sig .tc .vmem S256x512 .f32) (harg7 : arg7.IsWhole) (arg8 : Memref sig .tc .vmem S4x512x1 .f32) (harg8 : arg8.IsWhole)
    (x0 : Vec F S1x256x512 .bf16) (x1 : Vec F S1x8192x512 .bf16) (x2 : Vec F S1x8192x512 .bf16) (x3 : Vec F S256x256 .bf16) :
    { L4 : List (View.Piece (Elt F) S1x256x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ d, owns (c : Thread nD τ) arg7 fullShare d) ∗ (∃ d, owns (c : Thread nD τ) arg8 fullShare d)) -∗ K ⟨⟩))
          ⊢ wp frame (wpE (defs₀ (F := F)) Variants.nat c none) E (cc0_stick_breaking i arg2 harg2 arg3 harg3 arg4 harg4 arg5 harg5 arg6 harg6 arg7 harg7 arg8 harg8) K } := by
  refine ⟨?_, fun E K => ?run⟩
  case run =>
    simp only [cc0_stick_breaking_eq_skeleton]; unfold cc0_stick_breaking_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec
    iapply (wp_call Variants.nat (c : Thread nD τ) none E (ℓ := (1 : (Λ₀ F).Label)) ((i 1).val + 1 : ℕ) (fun u hu => by cases hu))
    unfold defs₀; rw [Defs.onTc_tc]
    iapply (loop i _ _ arg3 harg3 arg4 harg4 arg8 harg8 _ _ arg7 harg7 _ _ _ _ x1 x2 c E ((i 1).val + 1) 0 (Nat.zero_add _) k0_pay4 k0_pay5 _ _)
    isplitl [H1]
    · unfold owns; iexists _; isplitr; · ipureintro; exact harg3.read_unread _
      iexact H1
    isplitl [H2]
    · unfold owns; iexists _; isplitr; · ipureintro; exact harg4.read_unread _
      iexact H2
    isplitl [HS0]
    · unfold owns; iexists _; isplitr
      swap; · iexact HS0
      ipureintro; exact View.read_writes_full (s := S256x512) _ _ _ _ _
    isplitl [HS1]
    · unfold owns; iexists _; isplitr
      swap; · iexact HS1
      ipureintro; exact View.read_writes_full (s := S4x512x1) _ _ _ _ _
    iintro %o ⟨H1, H2, HS0, HS1⟩
    unfold owns
    icases HS0 with ⟨%g0, %hg0, HS0⟩
    icases HS1 with ⟨%g1, %hg1, HS1⟩
    obtain rfl := harg7.eq_unread hg0; obtain rfl := harg8.eq_unread hg1
    sl_exec
    sl_step
    iapply Hk
    isplitl [H0]
    · iexists _; isplitr; · ipureintro; exact harg2.read_unread _
      iexact H0
    isplitl [H1]; · iexact H1
    isplitl [H2]; · iexact H2
    isplitl [H3]
    · iexists _; isplitr; · ipureintro; exact harg5.read_unread _
      iexact H3
    isplitl [H4]; · iexists _; iexact H4
    isplitl [HS0]
    · iexists _; iexists _; isplitr
      swap; · iexact HS0
      ipureintro; rfl
    iexists _; iexists _; isplitr
    swap; · iexact HS1
    ipureintro; rfl

end Cert.KernelIdeal.Hand

end
-- ==== Proof.KernelIdeal.Frame.lean ====
/- The run of the stick-breaking call: what each output block holds, the proof data of the pipeline, the run of the whole
   launch, and its frame. -/
module

public import proofs.«01_k».proof.Proof.KernelIdeal.Body
public import Idealize.ShloMosaic.Lib.Claim

@[expose] public section

set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The one store into the output block covers it. -/
theorem cover (c : Dev nD) (i : grid0.Coords) (arg2 : Memref sig .tc .vmem S1x256x512 .bf16) (harg2 : arg2.IsWhole) (arg3 : Memref sig .tc .vmem S1x8192x512 .bf16) (harg3 : arg3.IsWhole) (arg4 : Memref sig .tc .vmem S1x8192x512 .bf16) (harg4 : arg4.IsWhole) (arg5 : Memref sig .tc .vmem S256x256 .bf16) (harg5 : arg5.IsWhole) (arg6 : Memref sig .tc .vmem S1x256x512 .bf16) (harg6 : arg6.IsWhole) (arg7 : Memref sig .tc .vmem S256x512 .f32) (harg7 : arg7.IsWhole) (arg8 : Memref sig .tc .vmem S4x512x1 .f32) (harg8 : arg8.IsWhole)
    (x0 : Vec F S1x256x512 .bf16) (x1 : Vec F S1x8192x512 .bf16) (x2 : Vec F S1x8192x512 .bf16) (x3 : Vec F S256x256 .bf16) (y : S1x256x512.Idx) :
    ∃ pc ∈ (kernelRun c i arg2 harg2 arg3 harg3 arg4 harg4 arg5 harg5 arg6 harg6 arg7 harg7 arg8 harg8 x0 x1 x2 x3).1, y ∈ pc.1.set :=
  View.cover_of_tiledL (kernelRun c i arg2 harg2 arg3 harg3 arg4 harg4 arg5 harg5 arg6 harg6 arg7 harg7 arg8 harg8 x0 x1 x2 x3).1 S1x256x512.size (by sl_kernel_rfl) y

/-- What the body leaves in the output's staging buffer, whatever was there before. -/
def outBlk (c : Dev nD) (i : grid0.Coords) (arg2 : Memref sig .tc .vmem S1x256x512 .bf16) (harg2 : arg2.IsWhole) (arg3 : Memref sig .tc .vmem S1x8192x512 .bf16) (harg3 : arg3.IsWhole) (arg4 : Memref sig .tc .vmem S1x8192x512 .bf16) (harg4 : arg4.IsWhole) (arg5 : Memref sig .tc .vmem S256x256 .bf16) (harg5 : arg5.IsWhole) (arg6 : Memref sig .tc .vmem S1x256x512 .bf16) (harg6 : arg6.IsWhole) (arg7 : Memref sig .tc .vmem S256x512 .f32) (harg7 : arg7.IsWhole) (arg8 : Memref sig .tc .vmem S4x512x1 .f32) (harg8 : arg8.IsWhole)
    (x0 : Vec F S1x256x512 .bf16) (x1 : Vec F S1x8192x512 .bf16) (x2 : Vec F S1x8192x512 .bf16) (x3 : Vec F S256x256 .bf16) : Vec F S1x256x512 .bf16 :=
  VO0_4.read (Elt F) (VO0_4.writes (Elt F) VO0_4.junk (kernelRun c i arg2 harg2 arg3 harg3 arg4 harg4 arg5 harg5 arg6 harg6 arg7 harg7 arg8 harg8 x0 x1 x2 x3).1)

/-! ## What the outputs hold after each point -/

/-- What the outputs' staging buffers hold after the body at point `t`: the run's contents at
    the point's memrefs and input blocks. -/
def outsAt0 (c : Dev nD) (t : Fin (cfg0 (F := F)).N) : Vec F S1x256x512 .bf16 :=
  outBlk c (grid0.coords t) (ms0_0 (F := F) t) (hs0_0 (F := F) t) (ms0_1 (F := F) t) (hs0_1 (F := F) t) (ms0_2 (F := F) t) (hs0_2 (F := F) t) (ms0_3 (F := F) t) (hs0_3 (F := F) t) (ms0_4 (F := F) t) (hs0_4 (F := F) t) scM0_0 (Memref.isWhole_whole _) scM0_1 (Memref.isWhole_whole _) (iblk m c 0 t) (iblk m c 1 t) (iblk m c 2 t) (iblk m c 3 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t)
  Φ _ := Pipeline.ΦA spec0 c
  q _ := fullShare
  owed _ := 0

/-- The proof data's arrays are what the region finds. -/
theorem A_eq (c : Dev nD) (w : Fin (cfg0 (F := F)).W) : (dats m 0 c).A w = V m c (Pipeline.arrRef spec0 w) := by
  dsimp only [dats]

/-- What the body leaves, window by window. -/
theorem after0_0 (c : Dev nD) (t : Fin (cfg0 (F := F)).N) : (dats m 0 c).after 0 t = iblk m c 0 t := by dsimp only [dats]; rfl
theorem after0_1 (c : Dev nD) (t : Fin (cfg0 (F := F)).N) : (dats m 0 c).after 1 t = iblk m c 1 t := by dsimp only [dats]; rfl
theorem after0_2 (c : Dev nD) (t : Fin (cfg0 (F := F)).N) : (dats m 0 c).after 2 t = iblk m c 2 t := by dsimp only [dats]; rfl
theorem after0_3 (c : Dev nD) (t : Fin (cfg0 (F := F)).N) : (dats m 0 c).after 3 t = iblk m c 3 t := by dsimp only [dats]; rfl
theorem after0_4 (c : Dev nD) (t : Fin (cfg0 (F := F)).N) : (dats m 0 c).after 4 t = (outsAt0 m c t) := by dsimp only [dats]; rfl

/-- Each input's current staging buffer holds its block at every point, fetched there or not (`beforeK_W_of`). -/
theorem before0_0 (c : Dev nD) (t : Fin (cfg0 (F := F)).N) (d) : (dats m 0 c).before 0 t d = iblk m c 0 t :=
  before0_0_of m (dats m 0 c) (A_eq m c 0) (after0_0 m c) t d
theorem before0_1 (c : Dev nD) (t : Fin (cfg0 (F := F)).N) (d) : (dats m 0 c).before 1 t d = iblk m c 1 t :=
  before0_1_of m (dats m 0 c) (A_eq m c 1) (after0_1 m c) t d
theorem before0_2 (c : Dev nD) (t : Fin (cfg0 (F := F)).N) (d) : (dats m 0 c).before 2 t d = iblk m c 2 t :=
  before0_2_of m (dats m 0 c) (A_eq m c 2) (after0_2 m c) t d
theorem before0_3 (c : Dev nD) (t : Fin (cfg0 (F := F)).N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms0_0 (F := F) t) fullShare ((dats m 0 c).before 0 t d))
    ∗ (∃ d, owns (c : Thread nD τ) (ms0_1 (F := F) t) fullShare ((dats m 0 c).before 1 t d))
    ∗ (∃ d, owns (c : Thread nD τ) (ms0_2 (F := F) t) fullShare ((dats m 0 c).before 2 t d))
    ∗ (∃ d, owns (c : Thread nD τ) (ms0_3 (F := F) t) fullShare ((dats m 0 c).before 3 t d))
    ∗ (∃ d, owns (c : Thread nD τ) (ms0_4 (F := F) t) fullShare ((dats m 0 c).before 4 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (ms0_0 (F := F) t) fullShare ((dats m 0 c).after 0 t)
    ∗ owns (c : Thread nD τ) (ms0_1 (F := F) t) fullShare ((dats m 0 c).after 1 t)
    ∗ owns (c : Thread nD τ) (ms0_2 (F := F) t) fullShare ((dats m 0 c).after 2 t)
    ∗ owns (c : Thread nD τ) (ms0_3 (F := F) t) fullShare ((dats m 0 c).after 3 t)
    ∗ owns (c : Thread nD τ) (ms0_4 (F := F) t) fullShare ((dats m 0 c).after 4 t))

/-- The body at any point: the inputs' memrefs hold their blocks (`before0_W`); so the
    run applies; the invariant hands the body its scratch buffers at some contents (and the generator register) and takes them back at some contents (`PhiA_eq`); the core owes nothing throughout. -/
theorem sound_body (c : Dev nD) (t : Fin (cfg0 (F := F)).N) :
    bodyPre m c t ⊢ wp frame (wpE (defs₀ (F := F)) Variants.nat c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  unfold outsAt0
  unfold outBlk
  iintro ⟨⟨⟨HS0, HS1⟩, Hg⟩, Ho, ⟨%d0, H0⟩, ⟨%d1, H1⟩, ⟨%d2, H2⟩, ⟨%d3, H3⟩, ⟨%d4, H4⟩⟩
  iapply ((kernelRun c (grid0.coords t) _ _ _ _ _ _ _ _ _ _ _ _ _ _ (iblk m c 0 t) (iblk m c 1 t) (iblk m c 2 t) (iblk m c 3 t)).2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  iintro ⟨H0, H1, H2, H3, ⟨%e4, H4⟩, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover c _ _ _ _ _ _ _ _ _ _ _ _ _ _ _ _ _ _ _)

/-- The body table's row at point `t`'s slots is the body as `bodyAt0` spells it. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.nat () Set.univ := fun t => by
  rw [bigSep_W0, bigSep_W0, defs₀_row]
  exact triple_restated (sound_body m c t) rfl .rfl fun _ => .rfl

/-! ## The run and the frame -/

set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost (cfgs (F := F)) (dats m) 0 (V m)) r ∧ r.2.sem = fun _ => 0) :=
  Pipeline.θ_run_frame (Q' := _) (cfgs (F := F)) (dats m) (0 : Fin 1) launch0 defs₀ Variants.nat m ρ main
    (hbody := fun c => (body_obligation m c).loose) (hshare := fun c => (dats m 0 c).share_full fun _ => rfl)
    (howed := fun _ _ => rfl) (V := V m) (hmain := hmain m Variants.nat) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost (cfgs (F := F)) (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: every run ends with the arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Hand

end
-- ==== Proof.Value.Step.lean ====
/- One trip of the loop written once for the four pairs of heads: what it stores as functions of the tile's keys and
   values and of what the two scratch buffers held. -/
module

public import proofs.«01_k».proof.Proof.KernelIdeal.Frame

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F] [Named F]

/-- The scores of a pair's two stacked query blocks against a tile of keys. -/
def scores (q : FVec F S512x128 .bf16) (kt : Vec F S1x256x128 .bf16) : FVec F S512x256 .f32 :=
  matmul dot_S512x128_S256x128_S512x256_1_1_0_0_n_n none q (shapeCast S256x128 kt shapeCasts_S1x256x128_S256x128) (constant S512x256 .f32 0x00000000#32)

/-- The softplus of the scores, as the kernel computes it. -/
def softs (z : FVec F S512x256 .f32) : FVec F S512x256 .f32 :=
  addf (maximumf z (broadcast S512x256 (Scalar.ofBits .f32 0x00000000#32)))
    (log (addf (broadcast S512x256 (Scalar.ofBits .f32 0x3F800000#32)) (exp (subf (broadcast S512x256 (Scalar.ofBits .f32 0x00000000#32)) (absf z)))))

/-- The logarithms of what each key leaves of the stick. -/
def logs (mask : IVec S512x256 1) (z : FVec F S512x256 .f32) : FVec F S512x256 .f32 :=
  select mask (subf (broadcast S512x256 (Scalar.ofBits .f32 0x00000000#32)) (softs z)) (broadcast S512x256 (Scalar.ofBits .f32 0x00000000#32))

/-- Their sums over the tile's later keys (as two bf16 parts) and over the tiles already visited. -/
def afters (up : FVec F S256x256 .bf16) (l : FVec F S512x256 .f32) (run : Vec F S1x512x1 .f32) : FVec F S512x256 .f32 :=
  addf (addf
      (matmul dot_S512x256_S256x256_S512x256_1_0_0_1_n_n none (truncf .bf16 l bitsLt_bf16_f32) up (constant S512x256 .f32 0x00000000#32))
      (matmul dot_S512x256_S256x256_S512x256_1_0_0_1_n_n none (truncf .bf16 (subf l (extf .f32 (truncf .bf16 l bitsLt_bf16_f32) bitsLt_bf16_f32)) bitsLt_bf16_f32) up (constant S512x256 .f32 0x00000000#32)))
    (broadcastTo S512x256 (shapeCast S512x1 run shapeCasts_S1x512x1_S512x1) broadcasts_S512x1_S512x256)

/-- The weights. -/
def weights (mask : IVec S512x256 1) (z after : FVec F S512x256 .f32) : FVec F S512x256 .f32 :=
  select mask (exp (addf (subf z (softs z)) after)) (broadcast S512x256 (Scalar.ofBits .f32 0x00000000#32))

/-- The values weighted, for the two stacked blocks. -/
def outs (a : FVec F S512x256 .f32) (vt : Vec F S1x256x128 .bf16) : FVec F S512x128 .f32 :=
  matmul dot_S512x256_S256x128_S512x128_1_0_0_1_n_n none (truncf .bf16 a bitsLt_bf16_f32) (shapeCast S256x128 vt shapeCasts_S1x256x128_S256x128) (constant S512x128 .f32 0x00000000#32)

/-- A pair's new weighted sums. -/
def accOf (lanes : IVec S256x128 1) (old : Vec F S256x128 .f32) (o : FVec F S512x128 .f32) : FVec F S256x128 .f32 :=
  shapeCast S256x128 (addf old (select lanes (extractStridedSlice S256x128 ![0, 0] o slices_S512x128_o0_0_S256x128)
    (extractStridedSlice S256x128 ![256, 0] o slices_S512x128_o256_0_S256x128))) shapeCasts_S256x128_S256x128

/-- A pair's new running sums. -/
def runOf (run : Vec F S1x512x1 .f32) (l : FVec F S512x256 .f32) : FVec F S1x512x1 .f32 :=
  shapeCast S1x512x1 (addf (shapeCast S512x1 run shapeCasts_S1x512x1_S512x1)
    (shapeCast S512x1 (multiReduction .add [1] S512 l 0x00000000#32 reduces_S512x256_S512 (.inl rfl) rfl) shapeCasts_S512_S512x1)) shapeCasts_S512x1_S1x512x1

/-- What a trip stores over a pair's weighted sums. -/
def accPart (mask : IVec S512x256 1) (lanes : IVec S256x128 1) (up : FVec F S256x256 .bf16) (q : FVec F S512x128 .bf16)
    (kt vt : Vec F S1x256x128 .bf16) (a : Vec F S256x128 .f32) (r : Vec F S1x512x1 .f32) : FVec F S256x128 .f32 :=
  accOf lanes a (outs (weights mask (scores q kt) (afters up (logs mask (scores q kt)) r)) vt)

/-- What a trip stores over a pair's running sums. -/
def runPart (mask : IVec S512x256 1) (q : FVec F S512x128 .bf16) (kt : Vec F S1x256x128 .bf16) (r : Vec F S1x512x1 .f32) : FVec F S1x512x1 .f32 :=
  runOf r (logs mask (scores q kt))

section Run

variable (i : grid0.Coords) (v4 : IVec S256x256 32) (v3 : IVec S256x1 32) (arg3 : Memref sig .tc .vmem S1x8192x512 .bf16) (harg3 : arg3.IsWhole) (arg4 : Memref sig .tc .vmem S1x8192x512 .bf16) (harg4 : arg4.IsWhole) (arg8 : Memref sig .tc .vmem S4x512x1 .f32) (harg8 : arg8.IsWhole) (v36 : FVec F S512x128 .bf16) (v9 : FVec F S256x256 .bf16) (arg7 : Memref sig .tc .vmem S256x512 .f32) (harg7 : arg7.IsWhole) (v7 : IVec S256x128 1) (v40 : FVec F S512x128 .bf16) (v44 : FVec F S512x128 .bf16) (v48 : FVec F S512x128 .bf16)
  (x1 x2 : Vec F S1x8192x512 .bf16)

/-- Which keys of the tile at trip `arg9` lie before each query. -/
abbrev maskOf (arg9 : BitVec 32) : IVec S512x256 1 := k0_pay20 v4 v3 arg9 (tilesW i)

theorem inb_tile (arg9 : BitVec 32) (h : k0_chk1 i arg9) :
    (∀ a, k0_off1 i arg9 a + S1x256x128.size a ≤ S1x8192x512.size a) ∧ (∀ a, k0_off2 i arg9 a + S1x256x128.size a ≤ S1x8192x512.size a)
    ∧ (∀ a, k0_off3 i arg9 a + S1x256x128.size a ≤ S1x8192x512.size a) ∧ (∀ a, k0_off4 i arg9 a + S1x256x128.size a ≤ S1x8192x512.size a) := h.2

/-- What trip `arg9` stores over the weighted sums. -/
theorem trip_acc (c : Dev nD) (arg9 : BitVec 32) (a : Vec F S256x512 .f32) (r : Vec F S4x512x1 .f32) (h : k0_chk1 i arg9) :
    (trip c i v4 v3 arg3 harg3 arg4 harg4 arg8 harg8 v36 v9 arg7 harg7 v7 v40 v44 v48 arg9 x1 x2 a r h).1
      = [⟨Rect.unit ![0, 384] S256x128.size inb_S256x512_S256x128_0_384, accPart (maskOf i v4 v3 arg9) v7 v9 v48
            (arg3.view.readAt (Elt F) (Rect.unit (s := S1x8192x512) (k0_off4 i arg9) S1x256x128.size (inb_tile i arg9 h).2.2.2).toLoadRect (harg3.unread x1))
            (arg4.view.readAt (Elt F) (Rect.unit (s := S1x8192x512) (k0_off4 i arg9) S1x256x128.size (inb_tile i arg9 h).2.2.2).toLoadRect (harg4.unread x2))
            (arg7.view.readAt (Elt F) (Rect.unit (s := S256x512) ![0, 384] S256x128.size inb_S256x512_S256x128_0_384).toLoadRect (harg7.unread a))
            (arg8.view.readAt (Elt F) (Rect.unit (s := S4x512x1) ![3, 0, 0] S1x512x1.size inb_S4x512x1_S1x512x1_3_0_0).toLoadRect (harg8.unread r))⟩,
         ⟨Rect.unit ![0, 256] S256x128.size inb_S256x512_S256x128_0_256, accPart (maskOf i v4 v3 arg9) v7 v9 v44
            (arg3.view.readAt (Elt F) (Rect.unit (s := S1x8192x512) (k0_off3 i arg9) S1x256x128.size (inb_tile i arg9 h).2.2.1).toLoadRect (harg3.unread x1))
            (arg4.view.readAt (Elt F) (Rect.unit (s := S1x8192x512) (k0_off3 i arg9) S1x256x128.size (inb_tile i arg9 h).2.2.1).toLoadRect (harg4.unread x2))
            (arg7.view.readAt (Elt F) (Rect.unit (s := S256x512) ![0, 256] S256x128.size inb_S256x512_S256x128_0_256).toLoadRect (harg7.unread a))
            (arg8.view.readAt (Elt F) (Rect.unit (s := S4x512x1) ![2, 0, 0] S1x512x1.size inb_S4x512x1_S1x512x1_2_0_0).toLoadRect (harg8.unread r))⟩,
         ⟨Rect.unit ![0, 128] S256x128.size inb_S256x512_S256x128_0_128, accPart (maskOf i v4 v3 arg9) v7 v9 v40
            (arg3.view.readAt (Elt F) (Rect.unit (s := S1x8192x512) (k0_off2 i arg9) S1x256x128.size (inb_tile i arg9 h).2.1).toLoadRect (harg3.unread x1))
            (arg4.view.readAt (Elt F) (Rect.unit (s := S1x8192x512) (k0_off2 i arg9) S1x256x128.size (inb_tile i arg9 h).2.1).toLoadRect (harg4.unread x2))
            (arg7.view.readAt (Elt F) (Rect.unit (s := S256x512) ![0, 128] S256x128.size inb_S256x512_S256x128_0_128).toLoadRect (harg7.unread a))
            (arg8.view.readAt (Elt F) (Rect.unit (s := S4x512x1) ![1, 0, 0] S1x512x1.size inb_S4x512x1_S1x512x1_1_0_0).toLoadRect (harg8.unread r))⟩,
         ⟨Rect.unit ![0, 0] S256x128.size inb_S256x512_S256x128_0_0, accPart (maskOf i v4 v3 arg9) v7 v9 v36
            (arg3.view.readAt (Elt F) (Rect.unit (s := S1x8192x512) (k0_off1 i arg9) S1x256x128.size (inb_tile i arg9 h).1).toLoadRect (harg3.unread x1))
            (arg4.view.readAt (Elt F) (Rect.unit (s := S1x8192x512) (k0_off1 i arg9) S1x256x128.size (inb_tile i arg9 h).1).toLoadRect (harg4.unread x2))
            (arg7.view.readAt (Elt F) (Rect.unit (s := S256x512) ![0, 0] S256x128.size inb_S256x512_S256x128_0_0).toLoadRect (harg7.unread a))
            (arg8.view.readAt (Elt F) (Rect.unit (s := S4x512x1) ![0, 0, 0] S1x512x1.size inb_S4x512x1_S1x512x1_0_0_0).toLoadRect (harg8.unread r))⟩] := rfl

/-- What trip `arg9` stores over the running sums. -/
theorem trip_run (c : Dev nD) (arg9 : BitVec 32) (a : Vec F S256x512 .f32) (r : Vec F S4x512x1 .f32) (h : k0_chk1 i arg9) :
    (trip c i v4 v3 arg3 harg3 arg4 harg4 arg8 harg8 v36 v9 arg7 harg7 v7 v40 v44 v48 arg9 x1 x2 a r h).2.2.1
      = [⟨Rect.unit ![3, 0, 0] S1x512x1.size inb_S4x512x1_S1x512x1_3_0_0, runPart (maskOf i v4 v3 arg9) v48
            (arg3.view.readAt (Elt F) (Rect.unit (s := S1x8192x512) (k0_off4 i arg9) S1x256x128.size (inb_tile i arg9 h).2.2.2).toLoadRect (harg3.unread x1))
            (arg8.view.readAt (Elt F) (Rect.unit (s := S4x512x1) ![3, 0, 0] S1x512x1.size inb_S4x512x1_S1x512x1_3_0_0).toLoadRect (harg8.unread r))⟩,
         ⟨Rect.unit ![2, 0, 0] S1x512x1.size inb_S4x512x1_S1x512x1_2_0_0, runPart (maskOf i v4 v3 arg9) v44
            (arg3.view.readAt (Elt F) (Rect.unit (s := S1x8192x512) (k0_off3 i arg9) S1x256x128.size (inb_tile i arg9 h).2.2.1).toLoadRect (harg3.unread x1))
            (arg8.view.readAt (Elt F) (Rect.unit (s := S4x512x1) ![2, 0, 0] S1x512x1.size inb_S4x512x1_S1x512x1_2_0_0).toLoadRect (harg8.unread r))⟩,
         ⟨Rect.unit ![1, 0, 0] S1x512x1.size inb_S4x512x1_S1x512x1_1_0_0, runPart (maskOf i v4 v3 arg9) v40
            (arg3.view.readAt (Elt F) (Rect.unit (s := S1x8192x512) (k0_off2 i arg9) S1x256x128.size (inb_tile i arg9 h).2.1).toLoadRect (harg3.unread x1))
            (arg8.view.readAt (Elt F) (Rect.unit (s := S4x512x1) ![1, 0, 0] S1x512x1.size inb_S4x512x1_S1x512x1_1_0_0).toLoadRect (harg8.unread r))⟩,
         ⟨Rect.unit ![0, 0, 0] S1x512x1.size inb_S4x512x1_S1x512x1_0_0_0, runPart (maskOf i v4 v3 arg9) v36
            (arg3.view.readAt (Elt F) (Rect.unit (s := S1x8192x512) (k0_off1 i arg9) S1x256x128.size (inb_tile i arg9 h).1).toLoadRect (harg3.unread x1))
            (arg8.view.readAt (Elt F) (Rect.unit (s := S4x512x1) ![0, 0, 0] S1x512x1.size inb_S4x512x1_S1x512x1_0_0_0).toLoadRect (harg8.unread r))⟩] := rfl

end Run

end Cert.KernelIdeal.Hand

end
-- ==== Proof.Value.Point.lean ====
/- One trip's arithmetic read entry by entry over the extended reals. -/
module

public import proofs.«01_k».proof.Proof.Value.Step
public import Idealize.ShloMosaic.Lib.MatmulPlain
public import Idealize.ShloMosaic.Lib.ValueLayout
public import Idealize.ShloMosaic.Lib.ValueLayoutCasts
public import Idealize.ShloMosaic.Lib.Pointwise
public import Idealize.ShloMosaic.Lib.IdealHost
public import Idealize.ShloMosaic.Lib.WritesUnit
public import Idealize.ShloMosaic.Lib.VecWindow

@[expose] public section

set_option maxRecDepth 16384

noncomputable section

namespace Cert.KernelIdeal.Hand

open Cert.KernelIdeal Cert.KernelIdeal.Gen
open Idealize.ShloMosaic hiding ix0 ix1 ix2 ix3 ix4 ix5
open Idealize.ShloMosaic.TcCoe Idealize.ShloMosaic.ValueIdx

/-- Softplus as the kernel computes it, of one score. -/
def softp (x : EReal) : EReal := max x 0 + Ideal.log (1 + Ideal.exp (0 - max x (-x)))

theorem scores_apply (q : FVec Ideal S512x128 .bf16) (kt : FVec Ideal S1x256x128 .bf16) (ρ : Fin 512) (s : Fin 256) :
    scores q kt (ix2 ρ s) = ∑ k : Fin 128, q (ix2 ρ k) * kt (ix3 (0 : Fin 1) s k) := by
  unfold scores
  refine (Ideal.matmul_transposedRhs_apply none _ _ _ ρ s).trans ?_
  rw [show (constant S512x256 .f32 0x00000000#32 : FVec Ideal S512x256 .f32) (ix2 ρ s) = 0 from Ideal.ofBits_zero_f32, zero_add]
  exact Finset.sum_congr rfl fun k _ => congrArg (q (ix2 ρ k) * ·) (shapeCast_1ab_ab_apply kt _ s k)

theorem softs_apply (z : FVec Ideal S512x256 .f32) (y : S512x256.Idx) : softs z y = softp (z y) := by
  show max (z y) (Ideal.ofBits .f32 0x00000000#32) + Ideal.log (Ideal.ofBits .f32 0x3F800000#32 + Ideal.exp (Ideal.ofBits .f32 0x00000000#32 - max (z y) (-(z y)))) = _
  rw [Ideal.ofBits_zero_f32, Ideal.ofBits_one_f32]; rfl

theorem logs_apply (mask : IVec S512x256 1) (z : FVec Ideal S512x256 .f32) (y : S512x256.Idx) :
    logs mask z y = if mask y = 1#1 then 0 - softp (z y) else 0 := by
  show (if mask y = 1#1 then Ideal.ofBits .f32 0x00000000#32 - softs z y else Ideal.ofBits .f32 0x00000000#32) = _
  rw [Ideal.ofBits_zero_f32, softs_apply]

theorem afters_apply (up : FVec Ideal S256x256 .bf16) (l : FVec Ideal S512x256 .f32) (run : FVec Ideal S1x512x1 .f32) (ρ : Fin 512) (s : Fin 256) :
    afters up l run (ix2 ρ s)
      = (∑ x : Fin 256, l (ix2 ρ x) * up (ix2 x s) + ∑ x : Fin 256, (l (ix2 ρ x) - l (ix2 ρ x)) * up (ix2 x s)) + run (ix3 (0 : Fin 1) ρ (0 : Fin 1)) := by
  unfold afters
  have e1 := Ideal.matmul_plain_apply (φ₁ := .bf16) (φ₂ := .bf16) none (truncf .bf16 l bitsLt_bf16_f32) up (constant S512x256 .f32 0x00000000#32) ρ s
  have e2 := Ideal.matmul_plain_apply (φ₁ := .bf16) (φ₂ := .bf16) none (truncf .bf16 (subf l (extf .f32 (truncf .bf16 l bitsLt_bf16_f32) bitsLt_bf16_f32)) bitsLt_bf16_f32) up (constant S512x256 .f32 0x00000000#32) ρ s
  rw [show (constant S512x256 .f32 0x00000000#32 : FVec Ideal S512x256 .f32) (ix2 ρ s) = 0 from Ideal.ofBits_zero_f32, zero_add] at e1 e2
  refine congrArg₂ (· + ·) (congrArg₂ (· + ·) e1 e2) ?_
  refine (broadcastTo_apply _ _ (ix2 ρ s) (ix2 ρ (0 : Fin 1)) ?_).trans (shapeCast_1ab_ab_apply run _ ρ 0)
  intro a
  match a with
  | ⟨0, _⟩ => rfl
  | ⟨1, _⟩ => rfl

theorem weights_apply (mask : IVec S512x256 1) (z after : FVec Ideal S512x256 .f32) (y : S512x256.Idx) :
    weights mask z after y = if mask y = 1#1 then Ideal.exp ((z y - softp (z y)) + after y) else 0 := by
  show (if mask y = 1#1 then Ideal.exp ((z y - softs z y) + after y) else Ideal.ofBits .f32 0x00000000#32) = _
  rw [Ideal.ofBits_zero_f32, softs_apply]

theorem outs_apply (a : FVec Ideal S512x256 .f32) (vt : FVec Ideal S1x256x128 .bf16) (ρ : Fin 512) (k : Fin 128) :
    outs a vt (ix2 ρ k) = ∑ s : Fin 256, a (ix2 ρ s) * vt (ix3 (0 : Fin 1) s k) := by
  unfold outs
  refine (Ideal.matmul_plain_apply (φ₁ := .bf16) (φ₂ := .bf16) none _ _ _ ρ k).trans ?_
  rw [show (constant S512x128 .f32 0x00000000#32 : FVec Ideal S512x128 .f32) (ix2 ρ k) = 0 from Ideal.ofBits_zero_f32, zero_add]
  exact Finset.sum_congr rfl fun s _ => congrArg (a (ix2 ρ s) * ·) (shapeCast_1ab_ab_apply vt _ s k)

theorem accOf_apply (lanes : IVec S256x128 1) (old : FVec Ideal S256x128 .f32) (o : FVec Ideal S512x128 .f32) (r : Fin 256) (k : Fin 128) :
    accOf lanes old o (ix2 r k) = old (ix2 r k) + if lanes (ix2 r k) = 1#1 then o (ix2 (⟨r.val, by omega⟩ : Fin 512) k) else o (ix2 (⟨256 + r.val, by omega⟩ : Fin 512) k) := by
  unfold accOf
  rw [shapeCast_self]
  show old (ix2 r k) + (if lanes (ix2 r k) = 1#1 then extractStridedSlice S256x128 ![0, 0] o slices_S512x128_o0_0_S256x128 (ix2 r k)
    else extractStridedSlice S256x128 ![256, 0] o slices_S512x128_o256_0_S256x128 (ix2 r k)) = _
  rw [extractStridedSlice_apply ![0, 0] o slices_S512x128_o0_0_S256x128 (ix2 r k) (ix2 (⟨r.val, by omega⟩ : Fin 512) k),
    extractStridedSlice_apply ![256, 0] o slices_S512x128_o256_0_S256x128 (ix2 r k) (ix2 (⟨256 + r.val, by omega⟩ : Fin 512) k)]
  · intro a
    match a with
    | ⟨0, _⟩ => rfl
    | ⟨1, _⟩ => show k.val = 0 + k.val; omega
  · intro a
    match a with
    | ⟨0, _⟩ => show r.val = 0 + r.val; omega
    | ⟨1, _⟩ => show k.val = 0 + k.val; omega

theorem runOf_apply (run : FVec Ideal S1x512x1 .f32) (l : FVec Ideal S512x256 .f32) (ρ : Fin 512) :
    runOf run l (ix3 (0 : Fin 1) ρ (0 : Fin 1)) = run (ix3 (0 : Fin 1) ρ (0 : Fin 1)) + ∑ s : Fin 256, l (ix2 ρ s) := by
  unfold runOf
  rw [shapeCast_ab_1ab_apply]
  refine congrArg₂ (· + ·) (shapeCast_1ab_ab_apply run _ ρ 0) ?_
  rw [shapeCast_a_a1_apply]
  refine (Ideal.multiReduction_add_single l _ reduces_S512x256_S512 _ _ (ix1 ρ)).trans ?_
  refine Finset.sum_congr rfl fun s _ => congrArg l (funext fun a => Fin.ext ?_)
  match a with
  | ⟨0, _⟩ => rfl
  | ⟨1, _⟩ => rfl

end Cert.KernelIdeal.Hand

end
-- ==== Proof.Value.Stick.lean ====
/- Stick-breaking attention for one query over real scores, and one trip of the kernel's loop against it. -/
module

public import proofs.«01_k».proof.Proof.Value.Point

@[expose] public section

set_option maxRecDepth 16384

noncomputable section

namespace Cert.KernelIdeal.Hand

open Cert.KernelIdeal Cert.KernelIdeal.Gen
open Idealize.ShloMosaic hiding ix0 ix1 ix2 ix3 ix4 ix5
open Idealize.ShloMosaic.TcCoe Idealize.ShloMosaic.ValueIdx
open Finset

/-- Softplus of a real score, with the exponential's argument never positive. -/
def sp (x : ℝ) : ℝ := max x 0 + Real.log (1 + Real.exp (-|x|))

theorem coe_max (x y : ℝ) : max (x : EReal) (y : EReal) = ((max x y : ℝ) : EReal) :=
  (EReal.coe_strictMono.monotone.map_max).symm

theorem log_one_add_exp (x : ℝ) : Ideal.log (1 + Ideal.exp (x : EReal)) = ((Real.log (1 + Real.exp x) : ℝ) : EReal) := by
  rw [Ideal.exp_coe, show (1 : EReal) + (Real.exp x : EReal) = ((1 + Real.exp x : ℝ) : EReal) by push_cast; rfl, Ideal.log_coe,
    if_neg (not_le.mpr (by positivity))]

theorem softp_coe (x : ℝ) : softp (x : EReal) = ((sp x : ℝ) : EReal) := by
  unfold softp sp
  rw [show (0 : EReal) = ((0 : ℝ) : EReal) from rfl, coe_max, ← EReal.coe_neg, coe_max, ← EReal.coe_sub, log_one_add_exp, ← EReal.coe_add,
    show max x (-x) = |x| from rfl, zero_sub]

/-- Softplus of the negated score is softplus less the score. -/
theorem sp_neg (x : ℝ) : sp (-x) = sp x - x := by
  unfold sp
  rw [abs_neg]
  have : max (-x) 0 = max x 0 - x := by
    rcases le_total x 0 with h | h
    · rw [max_eq_left (by linarith), max_eq_right h]; ring
    · rw [max_eq_right (by linarith), max_eq_left h]; ring
  rw [this]; ring

/-- The logarithm of what key `s` leaves of the stick, for a query that sees the keys before `t`. -/
def left (Z : ℕ → ℝ) (t s : ℕ) : ℝ := if s < t then -sp (Z s) else 0

/-- The weight of key `s` among `N` keys: its share of the stick times what every later key before `t` left. -/
def share (Z : ℕ → ℝ) (t N s : ℕ) : ℝ := if s < t then Real.exp (Z s - sp (Z s) + ∑ x ∈ Ico (s + 1) N, left Z t x) else 0

theorem left_of_le (Z : ℕ → ℝ) {t s : ℕ} (h : t ≤ s) : left Z t s = 0 := if_neg (not_lt.mpr h)
theorem share_of_le (Z : ℕ → ℝ) {t s : ℕ} (N : ℕ) (h : t ≤ s) : share Z t N s = 0 := if_neg (not_lt.mpr h)

theorem coe_sum {ι : Type} (s : Finset ι) (f : ι → ℝ) : ((∑ x ∈ s, f x : ℝ) : EReal) = ∑ x ∈ s, (f x : EReal) := by
  classical
  induction s using Finset.induction_on with
  | empty => simp
  | insert a s ha ih => rw [sum_insert ha, sum_insert ha, EReal.coe_add, ih]

/-- A tile's sum is the sum over its keys. -/
theorem sum_tile {M : Type} [AddCommMonoid M] (f : ℕ → M) (B : ℕ) : ∑ s : Fin 256, f (B + s.val) = ∑ x ∈ Ico B (B + 256), f x := by
  rw [Fin.sum_univ_eq_sum_range (fun s => f (B + s)) 256, Finset.sum_Ico_eq_sum_range]
  simp

/-- The part of a tile's sum after key `s`. -/
theorem sum_tile_after (f : ℕ → ℝ) (B : ℕ) (s : Fin 256) :
    ∑ x : Fin 256, f (B + x.val) * (if s < x then 1 else 0) = ∑ x ∈ Ico (B + s.val + 1) (B + 256), f x := by
  have h1 : ∀ x : Fin 256, f (B + x.val) * (if s < x then (1 : ℝ) else 0) = (fun y => if B + s.val < y then f y else 0) (B + x.val) := by
    intro x
    by_cases h : s < x
    · have : B + s.val < B + x.val := by have := Fin.lt_def.mp h; omega
      simp [h]
    · have : ¬ B + s.val < B + x.val := by have := mt Fin.lt_def.mpr h; omega
      simp [h]
  rw [Finset.sum_congr rfl fun x _ => h1 x, sum_tile (fun y => if B + s.val < y then f y else 0), ← Finset.sum_filter]
  refine Finset.sum_congr ?_ fun _ _ => rfl
  have := s.isLt
  ext x
  simp only [mem_filter, mem_Ico]
  omega

section Trip

variable (Z : ℕ → ℝ) (t N B : ℕ) (hN : B + 256 ≤ N)
variable (mask : IVec S512x256 1) (up : FVec Ideal S256x256 .bf16) (q : FVec Ideal S512x128 .bf16) (kt vt : FVec Ideal S1x256x128 .bf16)
  (a : FVec Ideal S256x128 .f32) (r : FVec Ideal S1x512x1 .f32) (ρ : Fin 512)
variable (hz : ∀ s : Fin 256, scores q kt (ix2 ρ s) = ((Z (B + s.val) : ℝ) : EReal))
  (hm : ∀ s : Fin 256, mask (ix2 ρ s) = 1#1 ↔ B + s.val < t)
  (hup : ∀ x s : Fin 256, up (ix2 x s) = if s < x then 1 else 0)
  (hr : r (ix3 (0 : Fin 1) ρ (0 : Fin 1)) = ((∑ x ∈ Ico (B + 256) N, left Z t x : ℝ) : EReal))

include hz hm in
theorem logs_row (s : Fin 256) : logs mask (scores q kt) (ix2 ρ s) = ((left Z t (B + s.val) : ℝ) : EReal) := by
  rw [logs_apply, hz, softp_coe]
  unfold left
  by_cases h : B + s.val < t
  · rw [if_pos ((hm s).mpr h), if_pos h, zero_sub, EReal.coe_neg]
  · rw [if_neg (mt (hm s).mp h), if_neg h]; rfl

include hN hz hm hr in
theorem runPart_row : runPart mask q kt r (ix3 (0 : Fin 1) ρ (0 : Fin 1)) = ((∑ x ∈ Ico B N, left Z t x : ℝ) : EReal) := by
  unfold runPart
  rw [runOf_apply, hr, Finset.sum_congr rfl fun s _ => logs_row Z t B mask q kt ρ hz hm s, ← coe_sum, ← EReal.coe_add, sum_tile (left Z t) B, add_comm,
    Finset.sum_Ico_consecutive _ (by omega) hN]

include hN hz hm hup hr in
theorem afters_row (s : Fin 256) :
    afters up (logs mask (scores q kt)) r (ix2 ρ s) = ((∑ x ∈ Ico (B + s.val + 1) N, left Z t x : ℝ) : EReal) := by
  have hs := s.isLt
  rw [afters_apply, hr]
  have e1 : ∑ x : Fin 256, logs mask (scores q kt) (ix2 ρ x) * up (ix2 x s) = ((∑ x ∈ Ico (B + s.val + 1) (B + 256), left Z t x : ℝ) : EReal) := by
    rw [← sum_tile_after, coe_sum]
    refine Finset.sum_congr rfl fun x _ => ?_
    rw [logs_row Z t B mask q kt ρ hz hm x, hup, EReal.coe_mul]
    by_cases h : s < x <;> simp [h]
  have e2 : ∑ x : Fin 256, (logs mask (scores q kt) (ix2 ρ x) - logs mask (scores q kt) (ix2 ρ x)) * up (ix2 x s) = 0 := by
    refine Finset.sum_eq_zero fun x _ => ?_
    rw [logs_row Z t B mask q kt ρ hz hm x, ← EReal.coe_sub, sub_self, EReal.coe_zero, zero_mul]
  rw [e1, e2, add_zero, ← EReal.coe_add, Finset.sum_Ico_consecutive _ (by omega) hN]

include hN hz hm hup hr in
theorem weights_row (s : Fin 256) :
    weights mask (scores q kt) (afters up (logs mask (scores q kt)) r) (ix2 ρ s) = ((share Z t N (B + s.val) : ℝ) : EReal) := by
  rw [weights_apply, hz, softp_coe, afters_row Z t N B hN mask up q kt r ρ hz hm hup hr s]
  unfold share
  by_cases h : B + s.val < t
  · rw [if_pos ((hm s).mpr h), if_pos h, ← EReal.coe_sub, ← EReal.coe_add, Ideal.exp_coe]
  · rw [if_neg (mt (hm s).mp h), if_neg h]; rfl

include hN hz hm hup hr in
theorem outs_row (k : Fin 128) :
    outs (weights mask (scores q kt) (afters up (logs mask (scores q kt)) r)) vt (ix2 ρ k)
      = ∑ s : Fin 256, ((share Z t N (B + s.val) : ℝ) : EReal) * vt (ix3 (0 : Fin 1) s k) := by
  rw [outs_apply]
  exact Finset.sum_congr rfl fun s _ => congrArg (· * vt (ix3 (0 : Fin 1) s k)) (weights_row Z t N B hN mask up q kt r ρ hz hm hup hr s)

end Trip

end Cert.KernelIdeal.Hand

end
-- ==== Proof.Value.Window.lean ====
/- The reference's running sum from the end of each row, over real numbers. -/
module

public import proofs.«01_k».proof.Proof.Gen.ReferenceIdeal.Read
public import proofs.«01_k».proof.Proof.Value.Stick

@[expose] public section

set_option maxRecDepth 16384

noncomputable section

namespace Cert.ReferenceIdeal.Hand

open Cert.ReferenceIdeal Cert.ReferenceIdeal.Gen
open Idealize.ShloMosaic hiding ix0 ix1 ix2 ix3 ix4 ix5
open Idealize.ShloMosaic.TcCoe Idealize.ShloMosaic.ValueIdx
open Finset

/-- A fold that adds one real number at each step ends at the sum of them all. -/
theorem foldl_coe {ι : Type} (l : List ι) (f : EReal → ι → EReal) (g : ι → ℝ) (hf : ∀ r n, f r n = r + (g n : EReal)) (r : ℝ) :
    l.foldl f (r : EReal) = ((r + (l.map g).sum : ℝ) : EReal) := by
  induction l generalizing r with
  | nil => simp
  | cons a l ih => rw [List.foldl_cons, hf, ← EReal.coe_add, ih, List.map_cons, List.sum_cons, add_assoc]

/-- A window of one row's whole length. -/
abbrev row : Shape := ⟨4, ![1, 1, 1, 8192]⟩

theorem row_numel : row.numel = 8192 := by
  show ∏ a : Fin 4, (![1, 1, 1, 8192] : Fin 4 → ℕ) a = 8192
  rw [Fin.prod_univ_four]
  simp

theorem row_last (n : Fin row.numel) : (row.rowMajor.symm n 3).val = n.val := by
  have h := Shape.rowMajor_val_four (row.rowMajor.symm n)
  rw [Equiv.apply_symm_apply] at h
  have h0 : (row.rowMajor.symm n 0).val < 1 := (row.rowMajor.symm n 0).isLt
  have h1 : (row.rowMajor.symm n 1).val < 1 := (row.rowMajor.symm n 1).isLt
  have h2 : (row.rowMajor.symm n 2).val < 1 := (row.rowMajor.symm n 2).isLt
  change n.val = (((row.rowMajor.symm n 0).val * 1 + (row.rowMajor.symm n 1).val) * 1 + (row.rowMajor.symm n 2).val) * 8192 + (row.rowMajor.symm n 3).val at h
  omega

theorem row_first (n : Fin row.numel) : (row.rowMajor.symm n 0).val = 0 ∧ (row.rowMajor.symm n 1).val = 0 ∧ (row.rowMajor.symm n 2).val = 0 :=
  ⟨Nat.lt_one_iff.mp (row.rowMajor.symm n 0).isLt, Nat.lt_one_iff.mp (row.rowMajor.symm n 1).isLt, Nat.lt_one_iff.mp (row.rowMajor.symm n 2).isLt⟩

/-- The entries `s, s + 1, …` of a row, counted from `s`. -/
theorem sum_shift (g : ℕ → ℝ) (s N : ℕ) (h : s ≤ N) : ∑ n ∈ range N, (if s + n < N then g (s + n) else 0) = ∑ x ∈ Ico s N, g x := by
  rw [← sum_filter, Finset.sum_Ico_eq_sum_range]
  refine sum_congr ?_ fun _ _ => rfl
  ext n
  simp only [mem_filter, mem_range]
  omega

/-- The running sum from the end: entry `s` of a row holds the sum of the row's entries from `s` on. -/
theorem window_row (x : FVec Ideal S4x8x8192x8192 .f32) (z : FVec Ideal S_ .f32) (hz : z = fun _ => 0) (g : ℕ → ℝ)
    (b : Fin 4) (h : Fin 8) (t s : Fin 8192) (hx : ∀ k : Fin 8192, x (ix4 b h t k) = ((g k.val : ℝ) : EReal)) :
    Host.reduceWindowAdd ![1, 1, 1, 8192] ![1, 1, 1, 1] ![0, 0, 0, 0] ![0, 0, 0, 8191] x z reduceWindows_S4x8x8192x8192_S4x8x8192x8192_w1s1p0_0_w1s1p0_0_w1s1p0_0_w8192s1p0_8191 h_S_ (ix4 b h t s)
      = ((∑ k ∈ Ico s.val 8192, g k : ℝ) : EReal) := by
  subst hz
  have hs := s.isLt
  have hb := b.isLt
  have hh := h.isLt
  have ht := t.isLt
  unfold Host.reduceWindowAdd
  rw [Ideal.hostReduceWindowAdd_def]
  unfold Ideal.hostReduceWindowAdd Host.reduceWindow
  dsimp only
  refine (foldl_coe _ _ (fun n => if s.val + n.val < 8192 then g (s.val + n.val) else 0) (fun r n => ?_) 0).trans ?_
  · refine congrArg (r + ·) ?_
    obtain ⟨w0, w1, w2⟩ := row_first n
    have w3 := row_last n
    split
    · next hin =>
      have h3 := hin 3
      change 0 ≤ s.val * 1 + (row.rowMajor.symm n 3).val ∧ s.val * 1 + (row.rowMajor.symm n 3).val - 0 < 8192 at h3
      rw [w3] at h3
      rw [if_pos (by omega)]
      refine (congrArg x (funext fun a => Fin.ext ?_)).trans (hx ⟨s.val + n.val, by omega⟩)
      match a with
      | ⟨0, _⟩ => show b.val * 1 + (row.rowMajor.symm n 0).val - 0 = b.val; omega
      | ⟨1, _⟩ => show h.val * 1 + (row.rowMajor.symm n 1).val - 0 = h.val; omega
      | ⟨2, _⟩ => show t.val * 1 + (row.rowMajor.symm n 2).val - 0 = t.val; omega
      | ⟨3, _⟩ => show s.val * 1 + (row.rowMajor.symm n 3).val - 0 = s.val + n.val; omega
    · next hin =>
      rw [if_neg fun hle => hin fun a => by
        match a with
        | ⟨0, _⟩ => show 0 ≤ b.val * 1 + (row.rowMajor.symm n 0).val ∧ b.val * 1 + (row.rowMajor.symm n 0).val - 0 < 4; omega
        | ⟨1, _⟩ => show 0 ≤ h.val * 1 + (row.rowMajor.symm n 1).val ∧ h.val * 1 + (row.rowMajor.symm n 1).val - 0 < 8; omega
        | ⟨2, _⟩ => show 0 ≤ t.val * 1 + (row.rowMajor.symm n 2).val ∧ t.val * 1 + (row.rowMajor.symm n 2).val - 0 < 8192; omega
        | ⟨3, _⟩ => show 0 ≤ s.val * 1 + (row.rowMajor.symm n 3).val ∧ s.val * 1 + (row.rowMajor.symm n 3).val - 0 < 8192; omega]
      rfl
  · refine congrArg _ ?_
    rw [zero_add, ← Fin.sum_univ_def, ← sum_shift g s.val 8192 hs.le]
    exact (Fin.sum_univ_eq_sum_range (fun n => if s.val + n < 8192 then g (s.val + n) else 0) row.numel).trans
      (congrArg (fun M => ∑ n ∈ range M, if s.val + n < 8192 then g (s.val + n) else 0) row_numel)

end Cert.ReferenceIdeal.Hand

end
-- ==== Proof.Value.Pairs.lean ====
/- The loop's inputs read entry by entry: the stacked queries of a pair of heads, the masks, and the loads of a tile. -/
module

public import proofs.«01_k».proof.Proof.Value.Stick
public import Idealize.ShloMosaic.Lib.WordCmp

@[expose] public section

set_option maxRecDepth 16384

noncomputable section

namespace Cert.KernelIdeal.Hand

open Cert.KernelIdeal Cert.KernelIdeal.Gen
open Idealize.ShloMosaic hiding ix0 ix1 ix2 ix3 ix4 ix5
open Idealize.ShloMosaic.TcCoe Idealize.ShloMosaic.ValueIdx
open Finset

/-! ## Rows stacked in two halves -/

section Stack
variable {α : Type}

theorem stacked_top {n : ℕ} (x y : (⟨2, ![256, n]⟩ : Shape).Idx → α)
    (h : Shape.Concatenates [⟨2, ![256, n]⟩, ⟨2, ![256, n]⟩] ⟨2, ![512, n]⟩ 0) (ρ : Fin 512) (k : Fin n) (hρ : ρ.val < 256) :
    concatenate (⟨2, ![512, n]⟩ : Shape) 0 [⟨⟨2, ![256, n]⟩, x⟩, ⟨⟨2, ![256, n]⟩, y⟩] h (ix2 ρ k) = x (ix2 ⟨ρ.val % 256, Nat.mod_lt _ (by decide)⟩ k) := by
  refine concatenate_pair_apply_left (t := ⟨2, ![512, n]⟩) (0 : Fin 2) x y h (ix2 ρ k) rfl _ ?_
  intro b
  match b with
  | ⟨0, _⟩ => show ρ.val % 256 = ρ.val; omega
  | ⟨1, _⟩ => rfl

theorem stacked_bot {n : ℕ} (x y : (⟨2, ![256, n]⟩ : Shape).Idx → α)
    (h : Shape.Concatenates [⟨2, ![256, n]⟩, ⟨2, ![256, n]⟩] ⟨2, ![512, n]⟩ 0) (ρ : Fin 512) (k : Fin n) (hρ : ¬ ρ.val < 256) :
    concatenate (⟨2, ![512, n]⟩ : Shape) 0 [⟨⟨2, ![256, n]⟩, x⟩, ⟨⟨2, ![256, n]⟩, y⟩] h (ix2 ρ k) = y (ix2 ⟨ρ.val % 256, Nat.mod_lt _ (by decide)⟩ k) := by
  refine concatenate_pair_apply_right (t := ⟨2, ![512, n]⟩) (0 : Fin 2) x y h (ix2 ρ k) rfl rfl _ ?_ ?_
  · intro b hb
    match b with
    | ⟨0, _⟩ => exact absurd rfl hb
    | ⟨1, _⟩ => rfl
  · show ρ.val % 256 + 256 = ρ.val
    have := ρ.isLt
    omega

end Stack

/-! ## The masks -/

/-- The lanes of a pair's first head. -/
theorem lanes_iff (r : Fin 256) (k : Fin 128) : k0_pay12 (ix2 r k) = 1#1 ↔ k.val < 64 := by
  show Scalar.cmpi .slt (iota .tc S256x128 32 [1] iota_S256x128_d1_w32 (ix2 r k)) 64#32 = 1#1 ↔ _
  rw [iota_single_apply]
  exact (by decide +kernel : ∀ k : Fin 128, Scalar.cmpi .slt (BitVec.ofNat 32 k.val) 64#32 = 1#1 ↔ k.val < 64) k

/-- A key's position in a tile, against a query's: both are small words. -/
theorem key_before (j n : Fin 32) (h : n ≤ j) (s r : Fin 256) :
    Scalar.cmpi .slt (Scalar.addi (rowOf j.val n.val) (BitVec.ofNat 32 s.val)) (Scalar.addi (Scalar.muli (BitVec.ofNat 32 j.val) 256#32) (BitVec.ofNat 32 r.val)) = 1#1
      ↔ 256 * (j.val - n.val) + s.val < 256 * j.val + r.val := by
  have hj := j.isLt
  have e1 : rowOf j.val n.val = BitVec.ofNat 32 (256 * (j.val - n.val)) := by
    rw [← rowOf_eq j n h, BitVec.ofNat_toNat, BitVec.setWidth_eq]
  have e2 : Scalar.muli (BitVec.ofNat 32 j.val) 256#32 = BitVec.ofNat 32 (256 * j.val) := by
    exact (by decide +kernel : ∀ j : Fin 32, Scalar.muli (BitVec.ofNat 32 j.val) 256#32 = BitVec.ofNat 32 (256 * j.val)) j
  rw [e1, e2]
  show Scalar.cmpi .slt (BitVec.ofNat 32 _ + BitVec.ofNat 32 _) (BitVec.ofNat 32 _ + BitVec.ofNat 32 _) = 1#1 ↔ _
  rw [← BitVec.ofNat_add, ← BitVec.ofNat_add]
  word_cmp

/-- The mask of the tile at trip `n`. -/
theorem mask_iff (i : grid0.Coords) (n : ℕ) (hn : n ≤ (i 1).val) (ρ : Fin 512) (s : Fin 256) :
    maskOf i (iota .tc S256x256 32 [1] iota_S256x256_d1_w32) (k0_pay11 i) (BitVec.ofNat 32 n) (ix2 ρ s) = 1#1
      ↔ 256 * ((i 1).val - n) + s.val < 256 * (i 1).val + ρ.val % 256 := by
  have key := key_before ⟨(i 1).val, i1_lt i⟩ ⟨n, lt_of_le_of_lt hn (i1_lt i)⟩ hn s ⟨ρ.val % 256, Nat.mod_lt _ (by decide)⟩
  refine Iff.trans ?_ key
  have e : ∀ r : Fin 256, cmpi .slt (addi (broadcast S256x256 (rowOf (i 1).val n)) (iota .tc S256x256 32 [1] iota_S256x256_d1_w32))
      (broadcastTo S256x256 (k0_pay11 i) broadcasts_S256x1_S256x256) (ix2 r s)
      = Scalar.cmpi .slt (Scalar.addi (rowOf (i 1).val n) (BitVec.ofNat 32 s.val)) (Scalar.addi (Scalar.muli (BitVec.ofNat 32 (i 1).val) 256#32) (BitVec.ofNat 32 r.val)) := by
    intro r
    show Scalar.cmpi .slt (Scalar.addi (rowOf (i 1).val n) (iota .tc S256x256 32 [1] iota_S256x256_d1_w32 (ix2 r s)))
      (broadcastTo S256x256 (k0_pay11 i) broadcasts_S256x1_S256x256 (ix2 r s)) = _
    rw [iota_single_apply, broadcastTo_apply _ _ (ix2 r s) (ix2 r (0 : Fin 1)) (fun a => by
      match a with
      | ⟨0, _⟩ => rfl
      | ⟨1, _⟩ => rfl)]
    show Scalar.cmpi .slt _ (Scalar.addi (Scalar.muli (BitVec.ofNat 32 (i 1).val) 256#32) (iota .tc S256x1 32 [0] iota_S256x1_d0_w32 (ix2 r (0 : Fin 1)))) = _
    rw [iota_single_apply]
  by_cases hρ : ρ.val < 256
  · exact iff_of_eq (congrArg (· = 1#1) ((stacked_top _ _ concatenates_S256x256_S256x256_S512x256_d0 ρ s hρ).trans (e _)))
  · exact iff_of_eq (congrArg (· = 1#1) ((stacked_bot _ _ concatenates_S256x256_S256x256_S512x256_d0 ρ s hρ).trans (e _)))

/-! ## The stacked queries -/

/-- A pair's queries stacked twice: the first head's lanes kept above, the second's below. -/
def stackOf (off : Fin 2 → ℕ) (h : S256x512.Slices off S256x128) (x0 : FVec Ideal S1x256x512 .bf16) : FVec Ideal S512x128 .bf16 :=
  concatenate S512x128 0 [⟨S256x128, select k0_pay12 (extractStridedSlice S256x128 off (k0_pay14 (F := Ideal) x0) h) (k0_pay15 (F := Ideal))⟩,
    ⟨S256x128, select k0_pay12 (k0_pay15 (F := Ideal)) (extractStridedSlice S256x128 off (k0_pay14 (F := Ideal) x0) h)⟩] concatenates_S256x128_S256x128_S512x128_d0

/-- A stack of queries: the entry of the query's own head, and nothing in the other head's lanes. -/
def IsStack (q : FVec Ideal S512x128 .bf16) (x0 : FVec Ideal S1x256x512 .bf16) (p : Fin 4) : Prop :=
  ∀ (ρ : Fin 512) (k : Fin 128), q (ix2 ρ k)
    = if (k.val < 64 ↔ ρ.val < 256) then x0 (ix3 (0 : Fin 1) (⟨ρ.val % 256, Nat.mod_lt _ (by decide)⟩ : Fin 256) (⟨128 * p.val + k.val, by omega⟩ : Fin 512)) else 0

theorem stackOf_isStack (off : Fin 2 → ℕ) (h : S256x512.Slices off S256x128) (x0 : FVec Ideal S1x256x512 .bf16) (p : Fin 4)
    (hoff : off = ![0, 128 * p.val]) : IsStack (stackOf off h x0) x0 p := by
  subst hoff
  intro ρ k
  have hs : ∀ r : Fin 256, extractStridedSlice S256x128 ![0, 128 * p.val] (k0_pay14 (F := Ideal) x0) h (ix2 r k)
      = x0 (ix3 (0 : Fin 1) r (⟨128 * p.val + k.val, by omega⟩ : Fin 512)) := by
    intro r
    refine (extractStridedSlice_apply _ (k0_pay14 (F := Ideal) x0) h (ix2 r k) (ix2 r (⟨128 * p.val + k.val, by omega⟩ : Fin 512)) ?_).trans (shapeCast_1ab_ab_apply x0 _ r _)
    intro a
    match a with
    | ⟨0, _⟩ => show r.val = 0 + r.val; omega
    | ⟨1, _⟩ => rfl
  have h0 : ∀ r : Fin 256, k0_pay15 (F := Ideal) (ix2 r k) = (0 : EReal) := fun r => Ideal.ofBits_zero_bf16
  unfold stackOf
  by_cases hρ : ρ.val < 256
  · refine (stacked_top _ _ concatenates_S256x128_S256x128_S512x128_d0 ρ k hρ).trans ?_
    rw [select_apply, hs, h0]
    by_cases hk : k.val < 64
    · rw [if_pos (by simp [hk, hρ])]; exact if_pos ((lanes_iff _ k).mpr hk)
    · rw [if_neg (by simp [hk, hρ])]; exact if_neg (mt (lanes_iff _ k).mp hk)
  · refine (stacked_bot _ _ concatenates_S256x128_S256x128_S512x128_d0 ρ k hρ).trans ?_
    rw [select_apply, hs, h0]
    by_cases hk : k.val < 64
    · rw [if_neg (by simp [hk, hρ])]; exact if_pos ((lanes_iff _ k).mpr hk)
    · rw [if_pos (by simp [hk, hρ])]; exact if_neg (mt (lanes_iff _ k).mp hk)

theorem stack0 (x0 : FVec Ideal S1x256x512 .bf16) : IsStack (k0_pay16 (F := Ideal) x0) x0 0 :=
  stackOf_isStack _ slices_S256x512_o0_0_S256x128 x0 0 rfl
theorem stack1 (x0 : FVec Ideal S1x256x512 .bf16) : IsStack (k0_pay1 (k0_pay18 (F := Ideal) x0) (k0_pay19 (F := Ideal) x0)) x0 1 :=
  stackOf_isStack _ slices_S256x512_o0_128_S256x128 x0 1 rfl
theorem stack2 (x0 : FVec Ideal S1x256x512 .bf16) : IsStack (k0_pay2 k0_pay12 (k0_pay14 (F := Ideal) x0) (k0_pay15 (F := Ideal))) x0 2 :=
  stackOf_isStack _ slices_S256x512_o0_256_S256x128 x0 2 rfl
theorem stack3 (x0 : FVec Ideal S1x256x512 .bf16) : IsStack (k0_pay3 k0_pay12 (k0_pay14 (F := Ideal) x0) (k0_pay15 (F := Ideal))) x0 3 :=
  stackOf_isStack _ slices_S256x512_o0_384_S256x128 x0 3 rfl

/-! ## The scores -/

/-- The real score of key `s` for head `h`, from real queries `Q` and keys `K`. -/
def scoreR (Q : ℕ → ℝ) (K : ℕ → ℕ → ℝ) (h s : ℕ) : ℝ := ∑ d : Fin 64, Q (64 * h + d.val) * K s (64 * h + d.val)

/-- The head of a stacked row. -/
def headOf (p : Fin 4) (ρ : Fin 512) : ℕ := 2 * p.val + ρ.val / 256

theorem scores_stack (q : FVec Ideal S512x128 .bf16) (x0 : FVec Ideal S1x256x512 .bf16) (p : Fin 4) (hq : IsStack q x0 p)
    (kt : FVec Ideal S1x256x128 .bf16) (Q : ℕ → ℝ) (K : ℕ → ℕ → ℝ) (B : ℕ) (ρ : Fin 512)
    (hQ : ∀ c : Fin 512, x0 (ix3 (0 : Fin 1) (⟨ρ.val % 256, Nat.mod_lt _ (by decide)⟩ : Fin 256) c) = ((Q c.val : ℝ) : EReal))
    (hK : ∀ (s : Fin 256) (k : Fin 128), kt (ix3 (0 : Fin 1) s k) = ((K (B + s.val) (128 * p.val + k.val) : ℝ) : EReal)) (s : Fin 256) :
    scores q kt (ix2 ρ s) = ((scoreR Q K (headOf p ρ) (B + s.val) : ℝ) : EReal) := by
  rw [scores_apply]
  have hρ := ρ.isLt
  have e : ∀ k : Fin 128, q (ix2 ρ k) * kt (ix3 (0 : Fin 1) s k)
      = (((if (k.val < 64 ↔ ρ.val < 256) then Q (128 * p.val + k.val) * K (B + s.val) (128 * p.val + k.val) else 0 : ℝ)) : EReal) := by
    intro k
    rw [hq, hQ, hK]
    by_cases hc : (k.val < 64 ↔ ρ.val < 256)
    · rw [if_pos hc, if_pos hc, EReal.coe_mul]
    · rw [if_neg hc, if_neg hc, zero_mul]; rfl
  rw [Finset.sum_congr rfl fun k _ => e k, ← coe_sum]
  congr 1
  rw [show (∑ k : Fin 128, (if (k.val < 64 ↔ ρ.val < 256) then Q (128 * p.val + k.val) * K (B + s.val) (128 * p.val + k.val) else 0 : ℝ))
      = ∑ k : Fin (64 + 64), (if (k.val < 64 ↔ ρ.val < 256) then Q (128 * p.val + k.val) * K (B + s.val) (128 * p.val + k.val) else 0 : ℝ) from rfl,
    Fin.sum_univ_add]
  unfold scoreR headOf
  by_cases h : ρ.val < 256
  · have h2 : ρ.val / 256 = 0 := by omega
    rw [Finset.sum_eq_zero (s := univ) (f := fun d : Fin 64 => if (Fin.natAdd 64 d).val < 64 ↔ ρ.val < 256 then Q (128 * p.val + (Fin.natAdd 64 d).val) * K (B + s.val) (128 * p.val + (Fin.natAdd 64 d).val) else 0) (by
      intro d _
      refine if_neg fun hc => ?_
      have := hc.mpr h
      simp only [Fin.val_natAdd] at this
      omega), add_zero]
    refine Finset.sum_congr rfl fun d _ => ?_
    have hd := d.isLt
    rw [if_pos (by simp [h])]
    simp only [Fin.val_castAdd, h2]
    rw [show 128 * p.val + d.val = 64 * (2 * p.val + 0) + d.val by omega]
  · have h2 : ρ.val / 256 = 1 := by omega
    rw [Finset.sum_eq_zero, zero_add]
    rotate_left
    · intro d _
      rw [if_neg]
      simp only [Fin.val_castAdd]
      intro hc
      exact h (hc.mp d.isLt)
    refine Finset.sum_congr rfl fun d _ => ?_
    have hd := d.isLt
    rw [if_pos (by simp [h])]
    simp only [Fin.val_natAdd, h2]
    rw [show 128 * p.val + (64 + d.val) = 64 * (2 * p.val + 1) + d.val by omega]

/-! ## Loads -/

theorem load_tile (M : Memref sig .tc .vmem S1x8192x512 .bf16) (hM : M.IsWhole) (x : FVec Ideal S1x8192x512 .bf16) (off : Fin 3 → ℕ)
    (h : ∀ a, off a + S1x256x128.size a ≤ S1x8192x512.size a) (B c : ℕ) (heq : off = ![0, B, c]) (hB : B + 256 ≤ 8192) (hc : c + 128 ≤ 512)
    (s : Fin 256) (k : Fin 128) :
    M.view.readAt (Elt Ideal) (Rect.unit (s := S1x8192x512) off S1x256x128.size h).toLoadRect (hM.unread x) (ix3 (0 : Fin 1) s k)
      = x (ix3 (0 : Fin 1) (⟨B + s.val, by omega⟩ : Fin 8192) (⟨c + k.val, by omega⟩ : Fin 512)) := by
  subst heq
  rw [View.readAt_apply, hM.read_unread]
  refine congrArg x (funext fun a => Fin.ext ?_)
  match a with
  | ⟨0, _⟩ => rfl
  | ⟨1, _⟩ => show B + 1 * s.val = B + s.val; omega
  | ⟨2, _⟩ => show c + 1 * k.val = c + k.val; omega

theorem load_acc (M : Memref sig .tc .vmem S256x512 .f32) (hM : M.IsWhole) (x : FVec Ideal S256x512 .f32) (c : ℕ)
    (h : ∀ a, (![0, c] : Fin 2 → ℕ) a + S256x128.size a ≤ S256x512.size a) (hc : c + 128 ≤ 512) (r : Fin 256) (k : Fin 128) :
    M.view.readAt (Elt Ideal) (Rect.unit (s := S256x512) ![0, c] S256x128.size h).toLoadRect (hM.unread x) (ix2 r k)
      = x (ix2 r (⟨c + k.val, by omega⟩ : Fin 512)) := by
  rw [View.readAt_apply, hM.read_unread]
  refine congrArg x (funext fun a => Fin.ext ?_)
  match a with
  | ⟨0, _⟩ => show 0 + 1 * r.val = r.val; omega
  | ⟨1, _⟩ => show c + 1 * k.val = c + k.val; omega

theorem load_run (M : Memref sig .tc .vmem S4x512x1 .f32) (hM : M.IsWhole) (x : FVec Ideal S4x512x1 .f32) (p : Fin 4)
    (h : ∀ a, (![p.val, 0, 0] : Fin 3 → ℕ) a + S1x512x1.size a ≤ S4x512x1.size a) (ρ : Fin 512) :
    M.view.readAt (Elt Ideal) (Rect.unit (s := S4x512x1) ![p.val, 0, 0] S1x512x1.size h).toLoadRect (hM.unread x) (ix3 (0 : Fin 1) ρ (0 : Fin 1))
      = x (ix3 p ρ (0 : Fin 1)) := by
  rw [View.readAt_apply, hM.read_unread]
  refine congrArg x (funext fun a => Fin.ext ?_)
  match a with
  | ⟨0, _⟩ => rfl
  | ⟨1, _⟩ => show 0 + 1 * ρ.val = ρ.val; omega
  | ⟨2, _⟩ => rfl

end Cert.KernelIdeal.Hand

end
-- ==== Proof.Value.Loop.lean ====
/- What the loop leaves over real queries and keys: after `n` trips the two scratch buffers hold the sums over the keys of
   the last `n` tiles, and no trip is skipped. -/
module

public import proofs.«01_k».proof.Proof.Value.Pairs

@[expose] public section

set_option maxRecDepth 16384

noncomputable section

namespace Cert.KernelIdeal.Hand

open Cert.KernelIdeal Cert.KernelIdeal.Gen
open Idealize.ShloMosaic hiding ix0 ix1 ix2 ix3 ix4 ix5
open Idealize.ShloMosaic.TcCoe Idealize.ShloMosaic.ValueIdx
open Finset

/-! ## Reading back four stores -/

theorem read_run4 (M : Memref sig .tc .vmem S4x512x1 .f32) (f : M.view.ty.Contents (Elt Ideal)) (w0 w1 w2 w3 : FVec Ideal S1x512x1 .f32) (p : Fin 4) (ρ : Fin 512) :
    M.view.read (Elt Ideal) (M.view.writes (Elt Ideal) f
      [⟨Rect.unit (s := S4x512x1) ![3, 0, 0] S1x512x1.size inb_S4x512x1_S1x512x1_3_0_0, w3⟩, ⟨Rect.unit (s := S4x512x1) ![2, 0, 0] S1x512x1.size inb_S4x512x1_S1x512x1_2_0_0, w2⟩,
       ⟨Rect.unit (s := S4x512x1) ![1, 0, 0] S1x512x1.size inb_S4x512x1_S1x512x1_1_0_0, w1⟩, ⟨Rect.unit (s := S4x512x1) ![0, 0, 0] S1x512x1.size inb_S4x512x1_S1x512x1_0_0_0, w0⟩])
      (ix3 p ρ (0 : Fin 1)) = (![w0, w1, w2, w3] : Fin 4 → FVec Ideal S1x512x1 .f32) p (ix3 (0 : Fin 1) ρ (0 : Fin 1)) := by
  have hx : ∀ (p : Fin 4) (a : Fin 3), ((ix3 p ρ (0 : Fin 1) : S4x512x1.Idx) a).val = (![p.val, 0, 0] : Fin 3 → ℕ) a + ((ix3 (0 : Fin 1) ρ (0 : Fin 1) : S1x512x1.Idx) a).val := by
    intro p a
    match a with
    | ⟨0, _⟩ => rfl
    | ⟨1, _⟩ => show ρ.val = 0 + ρ.val; omega
    | ⟨2, _⟩ => rfl
  match p with
  | ⟨3, _⟩ => exact View.read_writes_cons_unit_of_mem (s := S4x512x1) (off' := ![3, 0, 0]) _ _ _ _ _ _ (ix3 (0 : Fin 1) ρ (0 : Fin 1)) rfl (hx 3)
  | ⟨2, _⟩ =>
    rw [View.read_writes_cons_unit_of_not_mem (s := S4x512x1) _ _ _ _ _ _ rfl (0 : Fin 3) (Or.inl (by show 2 < 3; decide))]
    exact View.read_writes_cons_unit_of_mem (s := S4x512x1) (off' := ![2, 0, 0]) _ _ _ _ _ _ (ix3 (0 : Fin 1) ρ (0 : Fin 1)) rfl (hx 2)
  | ⟨1, _⟩ =>
    rw [View.read_writes_cons_unit_of_not_mem (s := S4x512x1) _ _ _ _ _ _ rfl (0 : Fin 3) (Or.inl (by show 1 < 3; decide)),
      View.read_writes_cons_unit_of_not_mem (s := S4x512x1) _ _ _ _ _ _ rfl (0 : Fin 3) (Or.inl (by show 1 < 2; decide))]
    exact View.read_writes_cons_unit_of_mem (s := S4x512x1) (off' := ![1, 0, 0]) _ _ _ _ _ _ (ix3 (0 : Fin 1) ρ (0 : Fin 1)) rfl (hx 1)
  | ⟨0, _⟩ =>
    rw [View.read_writes_cons_unit_of_not_mem (s := S4x512x1) _ _ _ _ _ _ rfl (0 : Fin 3) (Or.inl (by show 0 < 3; decide)),
      View.read_writes_cons_unit_of_not_mem (s := S4x512x1) _ _ _ _ _ _ rfl (0 : Fin 3) (Or.inl (by show 0 < 2; decide)),
      View.read_writes_cons_unit_of_not_mem (s := S4x512x1) _ _ _ _ _ _ rfl (0 : Fin 3) (Or.inl (by show 0 < 1; decide))]
    exact View.read_writes_cons_unit_of_mem (s := S4x512x1) (off' := ![0, 0, 0]) _ _ _ _ _ _ (ix3 (0 : Fin 1) ρ (0 : Fin 1)) rfl (hx 0)

theorem read_acc4 (M : Memref sig .tc .vmem S256x512 .f32) (f : M.view.ty.Contents (Elt Ideal)) (w0 w1 w2 w3 : FVec Ideal S256x128 .f32) (p : Fin 4) (r : Fin 256) (k : Fin 128) :
    M.view.read (Elt Ideal) (M.view.writes (Elt Ideal) f
      [⟨Rect.unit (s := S256x512) ![0, 384] S256x128.size inb_S256x512_S256x128_0_384, w3⟩, ⟨Rect.unit (s := S256x512) ![0, 256] S256x128.size inb_S256x512_S256x128_0_256, w2⟩,
       ⟨Rect.unit (s := S256x512) ![0, 128] S256x128.size inb_S256x512_S256x128_0_128, w1⟩, ⟨Rect.unit (s := S256x512) ![0, 0] S256x128.size inb_S256x512_S256x128_0_0, w0⟩])
      (ix2 r (⟨128 * p.val + k.val, by omega⟩ : Fin 512)) = (![w0, w1, w2, w3] : Fin 4 → FVec Ideal S256x128 .f32) p (ix2 r k) := by
  have hk := k.isLt
  have hx : ∀ (p : Fin 4) (a : Fin 2), ((ix2 r (⟨128 * p.val + k.val, by omega⟩ : Fin 512) : S256x512.Idx) a).val = (![0, 128 * p.val] : Fin 2 → ℕ) a + ((ix2 r k : S256x128.Idx) a).val := by
    intro p a
    match a with
    | ⟨0, _⟩ => show r.val = 0 + r.val; omega
    | ⟨1, _⟩ => rfl
  match p with
  | ⟨3, _⟩ => exact View.read_writes_cons_unit_of_mem (s := S256x512) (off' := ![0, 384]) _ _ _ _ _ _ (ix2 r k) rfl (hx 3)
  | ⟨2, _⟩ =>
    rw [View.read_writes_cons_unit_of_not_mem (s := S256x512) _ _ _ _ _ _ rfl (1 : Fin 2) (Or.inl (by show 128 * 2 + k.val < 384; omega))]
    exact View.read_writes_cons_unit_of_mem (s := S256x512) (off' := ![0, 256]) _ _ _ _ _ _ (ix2 r k) rfl (hx 2)
  | ⟨1, _⟩ =>
    rw [View.read_writes_cons_unit_of_not_mem (s := S256x512) _ _ _ _ _ _ rfl (1 : Fin 2) (Or.inl (by show 128 * 1 + k.val < 384; omega)),
      View.read_writes_cons_unit_of_not_mem (s := S256x512) _ _ _ _ _ _ rfl (1 : Fin 2) (Or.inl (by show 128 * 1 + k.val < 256; omega))]
    exact View.read_writes_cons_unit_of_mem (s := S256x512) (off' := ![0, 128]) _ _ _ _ _ _ (ix2 r k) rfl (hx 1)
  | ⟨0, _⟩ =>
    rw [View.read_writes_cons_unit_of_not_mem (s := S256x512) _ _ _ _ _ _ rfl (1 : Fin 2) (Or.inl (by show 128 * 0 + k.val < 384; omega)),
      View.read_writes_cons_unit_of_not_mem (s := S256x512) _ _ _ _ _ _ rfl (1 : Fin 2) (Or.inl (by show 128 * 0 + k.val < 256; omega)),
      View.read_writes_cons_unit_of_not_mem (s := S256x512) _ _ _ _ _ _ rfl (1 : Fin 2) (Or.inl (by show 128 * 0 + k.val < 128; omega))]
    exact View.read_writes_cons_unit_of_mem (s := S256x512) (off' := ![0, 0]) _ _ _ _ _ _ (ix2 r k) rfl (hx 0)

/-! ## The invariant -/

/-- Column `c` of the values, by key (nothing past the last key). -/
def valOf (x2 : FVec Ideal S1x8192x512 .bf16) (c : Fin 512) (s : ℕ) : EReal :=
  if h : s < 8192 then x2 (ix3 (0 : Fin 1) (⟨s, h⟩ : Fin 8192) c) else 0

section Run

variable (Q K : ℕ → ℕ → ℝ) (i : grid0.Coords)
variable (x0 : FVec Ideal S1x256x512 .bf16) (x1 x2 : FVec Ideal S1x8192x512 .bf16)

/-- After `n` trips the running sums are those over the keys of the last `n` tiles. -/
def RunInv (n : ℕ) (r : FVec Ideal S4x512x1 .f32) : Prop :=
  ∀ (p : Fin 4) (ρ : Fin 512), r (ix3 p ρ (0 : Fin 1))
    = ((∑ x ∈ Ico (256 * ((i 1).val + 1 - n)) 8192, left (scoreR (Q (ρ.val % 256)) K (headOf p ρ)) (256 * (i 1).val + ρ.val % 256) x : ℝ) : EReal)

/-- After `n` trips the weighted sums are those over the keys of the last `n` tiles. -/
def AccInv (n : ℕ) (a : FVec Ideal S256x512 .f32) : Prop :=
  ∀ (r : Fin 256) (c : Fin 512), a (ix2 r c)
    = ∑ x ∈ Ico (256 * ((i 1).val + 1 - n)) 8192, ((share (scoreR (Q r.val) K (c.val / 64)) (256 * (i 1).val + r.val) 8192 x : ℝ) : EReal) * valOf x2 c x

theorem RunInv_zero : RunInv Q K i 0 (k0_pay5 (F := Ideal)) := by
  intro p ρ
  have e : k0_pay5 (F := Ideal) (ix3 p ρ (0 : Fin 1)) = (0 : EReal) := by
    unfold k0_pay5; rw [shapeCast_self]; exact Ideal.ofBits_zero_f32
  rw [e, Finset.sum_eq_zero, EReal.coe_zero]
  intro x hx
  have := (mem_Ico.mp hx).1
  have := Nat.mod_lt ρ.val (show 256 > 0 by decide)
  exact left_of_le _ (by omega)

theorem AccInv_zero : AccInv Q K i x2 0 (k0_pay4 (F := Ideal)) := by
  intro r c
  have e : k0_pay4 (F := Ideal) (ix2 r c) = (0 : EReal) := by
    unfold k0_pay4; rw [shapeCast_self]; exact Ideal.ofBits_zero_f32
  rw [e, Finset.sum_eq_zero]
  intro x hx
  have := (mem_Ico.mp hx).1
  have := r.isLt
  rw [share_of_le _ _ (by omega), EReal.coe_zero, zero_mul]

variable (hQ : ∀ (r : Fin 256) (c : Fin 512), x0 (ix3 (0 : Fin 1) r c) = ((Q r.val c.val : ℝ) : EReal))
  (hK : ∀ (s : Fin 8192) (c : Fin 512), x1 (ix3 (0 : Fin 1) s c) = ((K s.val c.val : ℝ) : EReal))

/-- The kernel's mask at trip `n`. -/
abbrev maskAt (n : ℕ) : IVec S512x256 1 := maskOf i (iota .tc S256x256 32 [1] iota_S256x256_d1_w32) (k0_pay11 i) (BitVec.ofNat 32 n)

section Pair

variable (n : ℕ) (hn : n ≤ (i 1).val) (p : Fin 4) (q : FVec Ideal S512x128 .bf16) (hq : IsStack q x0 p)
  (kt vt : FVec Ideal S1x256x128 .bf16)
  (hkt : ∀ (s : Fin 256) (k : Fin 128), kt (ix3 (0 : Fin 1) s k)
    = x1 (ix3 (0 : Fin 1) (⟨256 * ((i 1).val - n) + s.val, by have := i1_lt i; omega⟩ : Fin 8192) (⟨128 * p.val + k.val, by omega⟩ : Fin 512)))
  (hvt : ∀ (s : Fin 256) (k : Fin 128), vt (ix3 (0 : Fin 1) s k)
    = x2 (ix3 (0 : Fin 1) (⟨256 * ((i 1).val - n) + s.val, by have := i1_lt i; omega⟩ : Fin 8192) (⟨128 * p.val + k.val, by omega⟩ : Fin 512)))
  (rr : FVec Ideal S4x512x1 .f32) (hR : RunInv Q K i n rr) (r : FVec Ideal S1x512x1 .f32)
  (hr : ∀ ρ : Fin 512, r (ix3 (0 : Fin 1) ρ (0 : Fin 1)) = rr (ix3 p ρ (0 : Fin 1)))
  (aa : FVec Ideal S256x512 .f32) (hA : AccInv Q K i x2 n aa) (a : FVec Ideal S256x128 .f32)
  (ha : ∀ (r : Fin 256) (k : Fin 128), a (ix2 r k) = aa (ix2 r (⟨128 * p.val + k.val, by omega⟩ : Fin 512)))
  (up : FVec Ideal S256x256 .bf16) (hup : ∀ x s : Fin 256, up (ix2 x s) = if s < x then 1 else 0)

include hn in
theorem tile_le : 256 * ((i 1).val - n) + 256 = 256 * ((i 1).val + 1 - n) ∧ 256 * ((i 1).val - n) + 256 ≤ 8192 := by
  have := i1_lt i
  omega

include hQ hK hq hkt in
theorem pair_scores (ρ : Fin 512) (s : Fin 256) :
    scores q kt (ix2 ρ s) = ((scoreR (Q (ρ.val % 256)) K (headOf p ρ) (256 * ((i 1).val - n) + s.val) : ℝ) : EReal) :=
  scores_stack q x0 p hq kt (Q (ρ.val % 256)) K _ ρ (fun c => hQ _ c) (fun s k => (hkt s k).trans (hK _ _)) s

include hQ hK hq hkt hn hR hr in
/-- A pair's running sums after the trip. -/
theorem pair_run (ρ : Fin 512) : runPart (maskAt i n) q kt r (ix3 (0 : Fin 1) ρ (0 : Fin 1))
    = ((∑ x ∈ Ico (256 * ((i 1).val + 1 - (n + 1))) 8192, left (scoreR (Q (ρ.val % 256)) K (headOf p ρ)) (256 * (i 1).val + ρ.val % 256) x : ℝ) : EReal) := by
  have ht := tile_le i n hn
  rw [show (i 1).val + 1 - (n + 1) = (i 1).val - n by omega]
  refine runPart_row _ _ 8192 _ ht.2 (maskAt i n) q kt r ρ (pair_scores Q K i x0 x1 hQ hK n hn p q hq kt hkt ρ) (fun s => mask_iff i n hn ρ s) ?_
  rw [hr, hR, ht.1]

include hQ hK hq hkt hvt hn hR hr hup in
/-- A pair's weighted values of the trip's tile. -/
theorem pair_outs (ρ : Fin 512) (k : Fin 128) :
    outs (weights (maskAt i n) (scores q kt) (afters up (logs (maskAt i n) (scores q kt)) r)) vt (ix2 ρ k)
      = ∑ x ∈ Ico (256 * ((i 1).val - n)) (256 * ((i 1).val - n) + 256),
          ((share (scoreR (Q (ρ.val % 256)) K (headOf p ρ)) (256 * (i 1).val + ρ.val % 256) 8192 x : ℝ) : EReal) * valOf x2 (⟨128 * p.val + k.val, by omega⟩ : Fin 512) x := by
  have ht := tile_le i n hn
  rw [outs_row (scoreR (Q (ρ.val % 256)) K (headOf p ρ)) (256 * (i 1).val + ρ.val % 256) 8192 (256 * ((i 1).val - n)) ht.2 (maskAt i n) up q kt vt r ρ
    (pair_scores Q K i x0 x1 hQ hK n hn p q hq kt hkt ρ) (fun s => mask_iff i n hn ρ s) hup (by rw [hr, hR, ht.1]) k,
    ← sum_tile (fun x => ((share (scoreR (Q (ρ.val % 256)) K (headOf p ρ)) (256 * (i 1).val + ρ.val % 256) 8192 x : ℝ) : EReal) * valOf x2 (⟨128 * p.val + k.val, by omega⟩ : Fin 512) x)]
  refine Finset.sum_congr rfl fun s _ => ?_
  have hs := s.isLt
  rw [hvt]
  unfold valOf
  rw [dif_pos (by omega : 256 * ((i 1).val - n) + s.val < 8192)]

include hQ hK hq hkt hvt hn hR hr hup hA ha in
/-- A pair's weighted sums after the trip. -/
theorem pair_acc (ro : Fin 256) (k : Fin 128) : accPart (maskAt i n) k0_pay12 up q kt vt a r (ix2 ro k)
    = ∑ x ∈ Ico (256 * ((i 1).val + 1 - (n + 1))) 8192,
        ((share (scoreR (Q ro.val) K ((128 * p.val + k.val) / 64)) (256 * (i 1).val + ro.val) 8192 x : ℝ) : EReal) * valOf x2 (⟨128 * p.val + k.val, by omega⟩ : Fin 512) x := by
  have ht := tile_le i n hn
  have hro := ro.isLt
  have hk := k.isLt
  rw [show (i 1).val + 1 - (n + 1) = (i 1).val - n by omega]
  unfold accPart
  rw [accOf_apply, ha, hA, ← ht.1, ← Finset.sum_Ico_consecutive _ (by omega : 256 * ((i 1).val - n) ≤ 256 * ((i 1).val - n) + 256) ht.2, add_comm]
  congr 1
  by_cases h : k.val < 64
  · rw [if_pos ((lanes_iff ro k).mpr h), pair_outs Q K i x0 x1 x2 hQ hK n hn p q hq kt vt hkt hvt rr hR r hr up hup]
    simp only [headOf]
    rw [show ro.val % 256 = ro.val by omega, show 2 * p.val + ro.val / 256 = (128 * p.val + k.val) / 64 by omega]
  · rw [if_neg (mt (lanes_iff ro k).mp h), pair_outs Q K i x0 x1 x2 hQ hK n hn p q hq kt vt hkt hvt rr hR r hr up hup]
    simp only [headOf]
    rw [show (256 + ro.val) % 256 = ro.val by omega, show 2 * p.val + (256 + ro.val) / 256 = (128 * p.val + k.val) / 64 by omega]

end Pair

/-! ## The loop -/

variable (arg3 : Memref sig .tc .vmem S1x8192x512 .bf16) (harg3 : arg3.IsWhole) (arg4 : Memref sig .tc .vmem S1x8192x512 .bf16) (harg4 : arg4.IsWhole) (arg8 : Memref sig .tc .vmem S4x512x1 .f32) (harg8 : arg8.IsWhole) (arg7 : Memref sig .tc .vmem S256x512 .f32) (harg7 : arg7.IsWhole)
  (v36 v40 v44 v48 : FVec Ideal S512x128 .bf16) (up : FVec Ideal S256x256 .bf16)
  (h0 : IsStack v36 x0 0) (h1 : IsStack v40 x0 1) (h2 : IsStack v44 x0 2) (h3 : IsStack v48 x0 3)
  (hup : ∀ x s : Fin 256, up (ix2 x s) = if s < x then 1 else 0)

theorem off_of (n : ℕ) (hn : n ≤ (i 1).val) (c : ℕ) : (![0, (rowOf (i 1).val n).toNat, c] : Fin 3 → ℕ) = ![0, 256 * ((i 1).val - n), c] := by
  rw [row_eq i n hn]

include hQ hK h0 h1 h2 h3 in
theorem runStep_inv (c : Dev nD) (n : ℕ) (hn : n ≤ (i 1).val) (a : FVec Ideal S256x512 .f32) (r : FVec Ideal S4x512x1 .f32) (hR : RunInv Q K i n r) :
    RunInv Q K i (n + 1) (runStep i (iota .tc S256x256 32 [1] iota_S256x256_d1_w32) (k0_pay11 i) arg3 harg3 arg4 harg4 arg8 harg8 v36 up arg7 harg7 k0_pay12 v40 v44 v48 x1 x2 c n hn a r) := by
  have ht := tile_le i n hn
  intro p ρ
  unfold runStep
  rw [trip_run]
  refine (read_run4 arg8 _ _ _ _ _ p ρ).trans ?_
  match p with
  | ⟨0, _⟩ => exact pair_run Q K i x0 x1 hQ hK n hn 0 _ h0 _ (load_tile arg3 harg3 x1 _ _ _ 0 (off_of i n hn 0) ht.2 (by decide)) r hR _ (load_run arg8 harg8 r 0 _) ρ
  | ⟨1, _⟩ => exact pair_run Q K i x0 x1 hQ hK n hn 1 _ h1 _ (load_tile arg3 harg3 x1 _ _ _ 128 (off_of i n hn 128) ht.2 (by decide)) r hR _ (load_run arg8 harg8 r 1 _) ρ
  | ⟨2, _⟩ => exact pair_run Q K i x0 x1 hQ hK n hn 2 _ h2 _ (load_tile arg3 harg3 x1 _ _ _ 256 (off_of i n hn 256) ht.2 (by decide)) r hR _ (load_run arg8 harg8 r 2 _) ρ
  | ⟨3, _⟩ => exact pair_run Q K i x0 x1 hQ hK n hn 3 _ h3 _ (load_tile arg3 harg3 x1 _ _ _ 384 (off_of i n hn 384) ht.2 (by decide)) r hR _ (load_run arg8 harg8 r 3 _) ρ

include hQ hK h0 h1 h2 h3 hup in
theorem accStep_inv (c : Dev nD) (n : ℕ) (hn : n ≤ (i 1).val) (a : FVec Ideal S256x512 .f32) (r : FVec Ideal S4x512x1 .f32) (hR : RunInv Q K i n r) (hA : AccInv Q K i x2 n a) :
    AccInv Q K i x2 (n + 1) (accStep i (iota .tc S256x256 32 [1] iota_S256x256_d1_w32) (k0_pay11 i) arg3 harg3 arg4 harg4 arg8 harg8 v36 up arg7 harg7 k0_pay12 v40 v44 v48 x1 x2 c n hn a r) := by
  have ht := tile_le i n hn
  intro ro col
  obtain ⟨p, k, hpk⟩ : ∃ (p : Fin 4) (k : Fin 128), col = ⟨128 * p.val + k.val, by omega⟩ :=
    ⟨⟨col.val / 128, by omega⟩, ⟨col.val % 128, Nat.mod_lt _ (by decide)⟩, Fin.ext (by show col.val = 128 * (col.val / 128) + col.val % 128; omega)⟩
  subst hpk
  unfold accStep
  rw [trip_acc]
  refine (read_acc4 arg7 _ _ _ _ _ p ro k).trans ?_
  match p with
  | ⟨0, _⟩ => exact pair_acc Q K i x0 x1 x2 hQ hK n hn 0 _ h0 _ _ (load_tile arg3 harg3 x1 _ _ _ 0 (off_of i n hn 0) ht.2 (by decide)) (load_tile arg4 harg4 x2 _ _ _ 0 (off_of i n hn 0) ht.2 (by decide)) r hR _ (load_run arg8 harg8 r 0 _) a hA _ (load_acc arg7 harg7 a 0 _ (by decide)) up hup ro k
  | ⟨1, _⟩ => exact pair_acc Q K i x0 x1 x2 hQ hK n hn 1 _ h1 _ _ (load_tile arg3 harg3 x1 _ _ _ 128 (off_of i n hn 128) ht.2 (by decide)) (load_tile arg4 harg4 x2 _ _ _ 128 (off_of i n hn 128) ht.2 (by decide)) r hR _ (load_run arg8 harg8 r 1 _) a hA _ (load_acc arg7 harg7 a 128 _ (by decide)) up hup ro k
  | ⟨2, _⟩ => exact pair_acc Q K i x0 x1 x2 hQ hK n hn 2 _ h2 _ _ (load_tile arg3 harg3 x1 _ _ _ 256 (off_of i n hn 256) ht.2 (by decide)) (load_tile arg4 harg4 x2 _ _ _ 256 (off_of i n hn 256) ht.2 (by decide)) r hR _ (load_run arg8 harg8 r 2 _) a hA _ (load_acc arg7 harg7 a 256 _ (by decide)) up hup ro k
  | ⟨3, _⟩ => exact pair_acc Q K i x0 x1 x2 hQ hK n hn 3 _ h3 _ _ (load_tile arg3 harg3 x1 _ _ _ 384 (off_of i n hn 384) ht.2 (by decide)) (load_tile arg4 harg4 x2 _ _ _ 384 (off_of i n hn 384) ht.2 (by decide)) r hR _ (load_run arg8 harg8 r 3 _) a hA _ (load_acc arg7 harg7 a 384 _ (by decide)) up hup ro k

/-- While a tile is left the loop goes on: no running sum lies below the exit bound, which is `⊥`. -/
theorem goes (n : ℕ) (hn : n ≤ (i 1).val) (w : EReal) : goesOn (F := Ideal) i (BitVec.ofNat 32 n) w = 1#1 := by
  have hi := i1_lt i
  have hs := slt_tiles ⟨(i 1).val, hi⟩ ⟨n, by omega⟩
  rw [if_pos (by show n < (i 1).val + 1; omega)] at hs
  unfold goesOn
  rw [show Scalar.cmpi .slt (BitVec.ofNat 32 n) (tilesW i) = 1#1 from hs,
    IdealRules.named_const.ideal_named_scalar κ "exit_log" (φ := .f32) 0xC2D00000#32 ⊥ rfl,
    show Scalar.cmpf (F := Ideal) (φ := .f32) .oge w (⊥ : EReal) = BitVec.ofBool (decide ((⊥ : EReal) ≤ w)) from rfl, decide_eq_true bot_le]
  rfl

include hQ hK h0 h1 h2 h3 hup in
theorem loopOut_inv (c : Dev nD) : ∀ (k n : ℕ) (h : n + k = (i 1).val + 1) (a : FVec Ideal S256x512 .f32) (r : FVec Ideal S4x512x1 .f32) (w : EReal),
    RunInv Q K i n r → AccInv Q K i x2 n a →
    AccInv Q K i x2 ((i 1).val + 1) (loopOut (F := Ideal) i (iota .tc S256x256 32 [1] iota_S256x256_d1_w32) (k0_pay11 i) arg3 harg3 arg4 harg4 arg8 harg8 v36 up arg7 harg7 k0_pay12 v40 v44 v48 x1 x2 c k n h a r w).1 := by
  intro k
  induction k with
  | zero =>
    intro n h a r w hR hA
    obtain rfl : n = (i 1).val + 1 := by omega
    exact hA
  | succ k ih =>
    intro n h a r w hR hA
    unfold loopOut
    rw [if_pos (goes i n (by omega) w)]
    exact ih (n + 1) _ _ _ _ (runStep_inv Q K i x0 x1 x2 hQ hK arg3 harg3 arg4 harg4 arg8 harg8 arg7 harg7 v36 v40 v44 v48 up h0 h1 h2 h3 c n _ a r hR)
      (accStep_inv Q K i x0 x1 x2 hQ hK arg3 harg3 arg4 harg4 arg8 harg8 arg7 harg7 v36 v40 v44 v48 up h0 h1 h2 h3 hup c n _ a r hR hA)

end Run

end Cert.KernelIdeal.Hand

end
-- ==== Proof.Value.Block.lean ====
/- What the body leaves in the output's block, entry by entry: the values weighted by their shares of the stick. -/
module

public import proofs.«01_k».proof.Proof.Value.Loop

@[expose] public section

set_option maxRecDepth 16384

noncomputable section

namespace Cert.KernelIdeal.Hand

open Cert.KernelIdeal Cert.KernelIdeal.Gen
open Idealize.ShloMosaic hiding ix0 ix1 ix2 ix3 ix4 ix5
open Idealize.ShloMosaic.TcCoe Idealize.ShloMosaic.ValueIdx
open Finset

section Body

variable (c : Dev nD) (i : grid0.Coords) (arg2 : Memref sig .tc .vmem S1x256x512 .bf16) (harg2 : arg2.IsWhole) (arg3 : Memref sig .tc .vmem S1x8192x512 .bf16) (harg3 : arg3.IsWhole) (arg4 : Memref sig .tc .vmem S1x8192x512 .bf16) (harg4 : arg4.IsWhole) (arg5 : Memref sig .tc .vmem S256x256 .bf16) (harg5 : arg5.IsWhole) (arg6 : Memref sig .tc .vmem S1x256x512 .bf16) (harg6 : arg6.IsWhole) (arg7 : Memref sig .tc .vmem S256x512 .f32) (harg7 : arg7.IsWhole) (arg8 : Memref sig .tc .vmem S4x512x1 .f32) (harg8 : arg8.IsWhole)

section Generic
variable {F : FTy → Type} [FloatOps F] [Named F]
variable (x0 : Vec F S1x256x512 .bf16) (x1 x2 : Vec F S1x8192x512 .bf16) (x3 : Vec F S256x256 .bf16)

/-- The queries' block as the body loads it. -/
abbrev ldQ : Vec F S1x256x512 .bf16 := arg2.view.readAt (Elt F) (Rect.unit (s := S1x256x512) ![0, 0, 0] S1x256x512.size inb_S1x256x512_S1x256x512_0_0_0).toLoadRect (harg2.unread x0)
/-- The table as the body loads it. -/
abbrev ldU : Vec F S256x256 .bf16 := arg5.view.readAt (Elt F) (Rect.unit (s := S256x256) ![0, 0] S256x256.size inb_S256x256_S256x256_0_0).toLoadRect (harg5.unread x3)

/-- What the whole loop leaves. -/
def loopAll : Vec F S256x512 .f32 × Vec F S4x512x1 .f32 :=
  loopOut i (iota .tc S256x256 32 [1] iota_S256x256_d1_w32) (k0_pay11 i) arg3 harg3 arg4 harg4 arg8 harg8 (k0_pay16 (ldQ arg2 harg2 x0)) (k0_pay13 (ldU arg5 harg5 x3)) arg7 harg7 k0_pay12
    (k0_pay1 (k0_pay18 (ldQ arg2 harg2 x0)) (k0_pay19 (ldQ arg2 harg2 x0))) (k0_pay2 k0_pay12 (k0_pay14 (ldQ arg2 harg2 x0)) (k0_pay15 (F := F))) (k0_pay3 k0_pay12 (k0_pay14 (ldQ arg2 harg2 x0)) (k0_pay15 (F := F)))
    x1 x2 c ((i 1).val + 1) 0 (Nat.zero_add _) k0_pay4 k0_pay5 (Scalar.ofBits .f32 0x00000000#32)

theorem kernelRun_stores :
    (kernelRun c i arg2 harg2 arg3 harg3 arg4 harg4 arg5 harg5 arg6 harg6 arg7 harg7 arg8 harg8 x0 x1 x2 x3).1
      = [⟨Rect.unit (s := S1x256x512) ![0, 0, 0] S1x256x512.size inb_S1x256x512_S1x256x512_0_0_0,
          k0_pay6 (arg7.view.readAt (Elt F) (Rect.unit (s := S256x512) ![0, 0] S256x512.size inb_S256x512_S256x512_0_0).toLoadRect
            (harg7.unread (loopAll c i arg2 harg2 arg3 harg3 arg4 harg4 arg5 harg5 arg7 harg7 arg8 harg8 x0 x1 x2 x3).1))⟩] := rfl

theorem outBlk_eq : outBlk c i arg2 harg2 arg3 harg3 arg4 harg4 arg5 harg5 arg6 harg6 arg7 harg7 arg8 harg8 x0 x1 x2 x3
    = k0_pay6 (loopAll c i arg2 harg2 arg3 harg3 arg4 harg4 arg5 harg5 arg7 harg7 arg8 harg8 x0 x1 x2 x3).1 := by
  unfold outBlk
  rw [kernelRun_stores]
  refine (View.read_writes_full (s := S1x256x512) _ _ _ _ _).trans (congrArg k0_pay6 ?_)
  exact (View.readAt_full (s := S256x512) _ _ _).trans (harg7.read_unread _)

end Generic

variable (x0 : FVec Ideal S1x256x512 .bf16) (x1 x2 : FVec Ideal S1x8192x512 .bf16) (x3 : FVec Ideal S256x256 .bf16)
  (Q K : ℕ → ℕ → ℝ)
  (hQ : ∀ (r : Fin 256) (c : Fin 512), x0 (ix3 (0 : Fin 1) r c) = ((Q r.val c.val : ℝ) : EReal))
  (hK : ∀ (s : Fin 8192) (c : Fin 512), x1 (ix3 (0 : Fin 1) s c) = ((K s.val c.val : ℝ) : EReal))
  (hU : ∀ x s : Fin 256, x3 (ix2 x s) = if s < x then 1 else 0)

include hQ hK hU in
theorem outBlk_apply (r : Fin 256) (col : Fin 512) :
    outBlk (F := Ideal) c i arg2 harg2 arg3 harg3 arg4 harg4 arg5 harg5 arg6 harg6 arg7 harg7 arg8 harg8 x0 x1 x2 x3 (ix3 (0 : Fin 1) r col)
      = ∑ x ∈ range 8192, ((share (scoreR (Q r.val) K (col.val / 64)) (256 * (i 1).val + r.val) 8192 x : ℝ) : EReal) * valOf x2 col x := by
  rw [outBlk_eq]
  have e0 : ldQ (F := Ideal) arg2 harg2 x0 = x0 := (View.readAt_full (s := S1x256x512) _ _ _).trans (harg2.read_unread _)
  have e3 : ldU (F := Ideal) arg5 harg5 x3 = x3 := (View.readAt_full (s := S256x256) _ _ _).trans (harg5.read_unread _)
  unfold k0_pay6
  refine (shapeCast_ab_1ab_apply _ _ 0 r col).trans ?_
  have key := loopOut_inv Q K i x0 x1 x2 hQ hK arg3 harg3 arg4 harg4 arg8 harg8 arg7 harg7 _ _ _ _ (k0_pay13 (F := Ideal) x3) (stack0 x0) (stack1 x0) (stack2 x0) (stack3 x0)
    (fun x s => by unfold k0_pay13; rw [shapeCast_self]; exact hU x s) c ((i 1).val + 1) 0 (Nat.zero_add _) _ _ (Scalar.ofBits (F := Ideal) .f32 0x00000000#32) (RunInv_zero Q K i) (AccInv_zero Q K i x2) r col
  rw [Nat.sub_self, Nat.mul_zero, ← Finset.range_eq_Ico] at key
  unfold loopAll
  rw [e0, e3]
  exact key

end Body

end Cert.KernelIdeal.Hand

end
-- ==== Proof.Value.Array.lean ====
/- The output array from its blocks: every entry of the result, from what the queries', keys', values' and table's arrays
   held when the call was entered. -/
module

public import proofs.«01_k».proof.Proof.Value.Block
public import Idealize.ShloMosaic.Lib.Pipeline.ValueKit

@[expose] public section

set_option maxRecDepth 16384

noncomputable section

namespace Cert.KernelIdeal.Hand

open Cert.KernelIdeal Cert.KernelIdeal.Gen
open Idealize.ShloMosaic hiding ix0 ix1 ix2 ix3 ix4 ix5
open Idealize.ShloMosaic.TcCoe Idealize.ShloMosaic.ValueIdx
open Finset

/-- Column `c` of batch `b` of the values, by key (nothing past the last key). -/
def valG (v : FVec Ideal S4x8192x512 .bf16) (b : Fin 4) (c : Fin 512) (s : ℕ) : EReal :=
  if h : s < 8192 then v (ix3 b (⟨s, h⟩ : Fin 8192) c) else 0

/-- The result: entry `(b, t, c)` is the values of column `c` weighted by query `t`'s shares for the column's head. -/
def attn (Q K : ℕ → ℕ → ℕ → ℝ) (v : FVec Ideal S4x8192x512 .bf16) (b : Fin 4) (t : Fin 8192) (c : Fin 512) : EReal :=
  ∑ x ∈ range 8192, ((share (scoreR (Q b.val t.val) (K b.val) (c.val / 64)) t.val 8192 x : ℝ) : EReal) * valG v b c x

def attnVec (Q K : ℕ → ℕ → ℕ → ℝ) (v : FVec Ideal S4x8192x512 .bf16) : FVec Ideal S4x8192x512 .bf16 := fun y => attn Q K v (y 0) (y 1) (y 2)

section Blocks

variable (m : (ℓ : Loc nD τ sig) → Buf (Elt Ideal) ℓ) (c : Dev nD)

/-- The queries', keys', values' and table's arrays at the call. -/
abbrev qArr : FVec Ideal S4x8192x512 .bf16 := V m c main_v2
abbrev kArr : FVec Ideal S4x8192x512 .bf16 := V m c main_v3
abbrev vArr : FVec Ideal S4x8192x512 .bf16 := V m c main_v4
abbrev uArr : FVec Ideal S256x256 .bf16 := V m c main_v9

theorem index_0 : ∀ t : Fin grid0.N, win0_0.index t = ![(grid0.coords t 0).val, (grid0.coords t 1).val, 0] := by decide +kernel
theorem index_1 : ∀ t : Fin grid0.N, win0_1.index t = ![(grid0.coords t 0).val, 0, 0] := by decide +kernel
theorem index_2 : ∀ t : Fin grid0.N, win0_2.index t = ![(grid0.coords t 0).val, 0, 0] := by decide +kernel
theorem index_3 : ∀ t : Fin grid0.N, win0_3.index t = ![0, 0] := by decide +kernel
theorem index_4 : ∀ t : Fin grid0.N, win0_4.index t = ![(grid0.coords t 0).val, (grid0.coords t 1).val, 0] := by decide +kernel

theorem i0_lt (i : grid0.Coords) : (i 0).val < 4 := (i 0).isLt

theorem iblk0_apply (t : Fin grid0.N) (r : Fin 256) (col : Fin 512) :
    (iblk (F := Ideal) m c 0 t : FVec Ideal S1x256x512 .bf16) (ix3 (0 : Fin 1) r col)
      = qArr m c (ix3 (⟨(grid0.coords t 0).val, i0_lt _⟩ : Fin 4) (⟨256 * (grid0.coords t 1).val + r.val, by have := i1_lt (grid0.coords t); omega⟩ : Fin 8192) col) := by
  have e := index_0 t
  unfold iblk
  blk_simp
  refine congrArg (qArr m c) ?_
  blk_ext [e]
  show (grid0.coords t 1).val * 256 + r.val = 256 * (grid0.coords t 1).val + r.val
  omega

theorem iblk1_apply (t : Fin grid0.N) (s : Fin 8192) (col : Fin 512) :
    (iblk (F := Ideal) m c 1 t : FVec Ideal S1x8192x512 .bf16) (ix3 (0 : Fin 1) s col) = kArr m c (ix3 (⟨(grid0.coords t 0).val, i0_lt _⟩ : Fin 4) s col) := by
  have e := index_1 t
  unfold iblk
  blk_simp
  refine congrArg (kArr m c) ?_
  blk_ext [e]

theorem iblk2_apply (t : Fin grid0.N) (s : Fin 8192) (col : Fin 512) :
    (iblk (F := Ideal) m c 2 t : FVec Ideal S1x8192x512 .bf16) (ix3 (0 : Fin 1) s col) = vArr m c (ix3 (⟨(grid0.coords t 0).val, i0_lt _⟩ : Fin 4) s col) := by
  have e := index_2 t
  unfold iblk
  blk_simp
  refine congrArg (vArr m c) ?_
  blk_ext [e]

theorem iblk3_apply (t : Fin grid0.N) (x s : Fin 256) :
    (iblk (F := Ideal) m c 3 t : FVec Ideal S256x256 .bf16) (ix2 x s) = uArr m c (ix2 x s) := by
  have e := index_3 t
  unfold iblk
  blk_simp
  refine congrArg (uArr m c) ?_
  blk_ext [e]

variable (Q K : ℕ → ℕ → ℕ → ℝ)
  (hQ : ∀ (b : Fin 4) (t : Fin 8192) (col : Fin 512), qArr m c (ix3 b t col) = ((Q b.val t.val col.val : ℝ) : EReal))
  (hK : ∀ (b : Fin 4) (t : Fin 8192) (col : Fin 512), kArr m c (ix3 b t col) = ((K b.val t.val col.val : ℝ) : EReal))
  (hU : ∀ x s : Fin 256, uArr m c (ix2 x s) = if s < x then 1 else 0)

include hQ hK hU in
/-- The block a grid point leaves. -/
theorem outsAt0_apply (t : Fin grid0.N) (r : Fin 256) (col : Fin 512) :
    (outsAt0 (F := Ideal) m c t : FVec Ideal S1x256x512 .bf16) (ix3 (0 : Fin 1) r col)
      = attn Q K (vArr m c) (⟨(grid0.coords t 0).val, i0_lt _⟩ : Fin 4) (⟨256 * (grid0.coords t 1).val + r.val, by have := i1_lt (grid0.coords t); omega⟩ : Fin 8192) col := by
  unfold outsAt0
  refine (outBlk_apply c (grid0.coords t) _ _ _ _ _ _ _ _ _ _ _ _ _ _ _ _ _ _ (fun r c => Q (grid0.coords t 0).val (256 * (grid0.coords t 1).val + r) c) (K (grid0.coords t 0).val)
    (fun r col => (iblk0_apply m c t r col).trans (hQ _ _ _)) (fun s col => (iblk1_apply m c t s col).trans (hK _ _ _)) (fun x s => (iblk3_apply m c t x s).trans (hU x s)) r col).trans ?_
  unfold attn
  refine Finset.sum_congr rfl fun x hx => ?_
  have hx' : x < 8192 := mem_range.mp hx
  unfold valOf valG
  rw [dif_pos hx', dif_pos hx']
  exact congrArg _ (iblk2_apply m c t ⟨x, hx'⟩ col)

include hQ hK hU in
/-- The output array after the call. -/
theorem out_array : (dats (F := Ideal) m 0 c).arrAt 4 (cfg0 (F := Ideal)).N = attnVec Q K (vArr m c) := by
  refine (dats m 0 c).arrAt_eq_of_covers 4 _ (by decide +kernel) fun t hf y => ?_
  have e := index_4 t
  blk_simp
  rw [after0_4]
  have hy : ∃ (r : Fin 256) (col : Fin 512), y = (ix3 (0 : Fin 1) r col : S1x256x512.Idx) := by
    refine ⟨y 1, y 2, funext fun a => Fin.ext ?_⟩
    match a with
    | ⟨0, _⟩ => exact Nat.lt_one_iff.mp (show (y 0).val < 1 from (y 0).isLt)
    | ⟨1, _⟩ => rfl
    | ⟨2, _⟩ => rfl
  obtain ⟨r, col, rfl⟩ := hy
  refine (outsAt0_apply m c Q K hQ hK hU t r col).trans ?_
  have hp : ∀ (b b' : Fin 4) (t t' : Fin 8192) (k k' : Fin 512), b = b' → t = t' → k = k' → attn Q K (vArr m c) b t k = attn Q K (vArr m c) b' t' k' := by
    intro b b' t t' k k' h1 h2 h3; rw [h1, h2, h3]
  unfold attnVec
  refine hp _ _ _ _ _ _ (Fin.ext ?_) (Fin.ext ?_) (Fin.ext ?_)
  · blk_simp [e]
  · blk_simp [e]
    show 256 * (grid0.coords t 1).val + r.val = (grid0.coords t 1).val * 256 + r.val
    omega
  · blk_simp [e]

end Blocks

end Cert.KernelIdeal.Hand

end
-- ==== Proof.Value.Host.lean ====
/- What the host operations before the call leave in the four input arrays, over the extended reals. -/
module

public import proofs.«01_k».proof.Proof.Value.Array

@[expose] public section

set_option maxRecDepth 16384

noncomputable section

namespace Cert.KernelIdeal.Hand

open Cert.KernelIdeal Cert.KernelIdeal.Gen
open Idealize.ShloMosaic hiding ix0 ix1 ix2 ix3 ix4 ix5
open Idealize.ShloMosaic.TcCoe Idealize.ShloMosaic.ValueIdx Idealize.ShloMosaic.Tactic

variable (m : (ℓ : Loc nD τ sig) → Buf (Elt Ideal) ℓ) (c : Dev nD)

/-- The three arguments. -/
abbrev arg0 : FVec Ideal S4x8192x512 .f32 := m ((c.tc : Thread nD τ).loc main_arg0)
abbrev arg1 : FVec Ideal S4x8192x512 .f32 := m ((c.tc : Thread nD τ).loc main_arg1)
abbrev arg2 : FVec Ideal S4x8192x512 .f32 := m ((c.tc : Thread nD τ).loc main_arg2)

theorem qArr_eq : qArr m c = fun y => arg0 m c y * Ideal.ofBits .f32 0x3E000000#32 := by
  show StableHlo.after _ _ (Proc.devRef .tc main_v2) = _
  simp only [hostOps0, hostOps0_1, hostOps0_2, List.flatten_cons, List.flatten_nil, List.append_nil, List.cons_append, List.nil_append]
  after_results
  rfl

theorem kArr_eq : kArr m c = arg1 m c := by
  show StableHlo.after _ _ (Proc.devRef .tc main_v3) = _
  simp only [hostOps0, hostOps0_1, hostOps0_2, List.flatten_cons, List.flatten_nil, List.append_nil, List.cons_append, List.nil_append]
  after_results
  rfl

theorem vArr_eq : vArr m c = arg2 m c := by
  show StableHlo.after _ _ (Proc.devRef .tc main_v4) = _
  simp only [hostOps0, hostOps0_1, hostOps0_2, List.flatten_cons, List.flatten_nil, List.append_nil, List.cons_append, List.nil_append]
  after_results
  rfl

theorem uArr_eq : uArr m c = select (cmpi .sgt (iotaInDim S256x256 32 0) (iotaInDim S256x256 32 1)) (fun _ => Ideal.ofBits .f32 0x3F800000#32) (fun _ => Ideal.ofBits .f32 0x00000000#32) := by
  show StableHlo.after _ _ (Proc.devRef .tc main_v9) = _
  simp only [hostOps0, hostOps0_1, hostOps0_2, List.flatten_cons, List.flatten_nil, List.append_nil, List.cons_append, List.nil_append]
  after_results
  rfl

theorem ofBits_eighth : Ideal.ofBits .f32 0x3E000000#32 = ((1 / 8 : ℝ) : EReal) := by
  simp [Ideal.ofBits, Ideal.ieee]
  rw [← EReal.coe_mul]
  norm_num

theorem uArr_apply (x s : Fin 256) : uArr m c (ix2 x s) = if s < x then 1 else 0 := by
  rw [uArr_eq, select_apply]
  have h : cmpi .sgt (iotaInDim S256x256 32 0) (iotaInDim S256x256 32 1) (ix2 x s) = 1#1 ↔ s < x := by
    show Scalar.cmpi .sgt (BitVec.ofNat 32 x.val) (BitVec.ofNat 32 s.val) = 1#1 ↔ s.val < x.val
    word_cmp
  by_cases hs : s < x
  · rw [if_pos hs]; exact (if_pos (h.mpr hs)).trans Ideal.ofBits_one_f32
  · rw [if_neg hs]; exact (if_neg (mt h.mp hs)).trans Ideal.ofBits_zero_f32

end Cert.KernelIdeal.Hand

end
-- ==== Proof.Value.Reference.lean ====
/- The reference's result over real queries and keys: the same stick-breaking attention. -/
module

public import proofs.«01_k».proof.Proof.Value.Window
public import proofs.«01_k».proof.Proof.Value.Host

@[expose] public section

set_option maxRecDepth 16384

noncomputable section

namespace Cert.ReferenceIdeal.Hand

open Cert.ReferenceIdeal Cert.ReferenceIdeal.Gen Cert.ReferenceIdeal.Read
open Idealize.ShloMosaic hiding ix0 ix1 ix2 ix3 ix4 ix5
open Idealize.ShloMosaic.TcCoe Idealize.ShloMosaic.ValueIdx
open Cert.KernelIdeal.Hand (sp sp_neg left share coe_max coe_sum log_one_add_exp scoreR valG attn ofBits_eighth)
open Finset

/-- The logarithm of the logistic function, as the reference computes it, of a real number. -/
theorem log_sigmoid (x : ℝ) (z : Ideal .f32) (hz : z = (0 : EReal)) :
    (FloatOps.hostNegf (F := Ideal) (φ := .f32) (Scalar.select (FloatOps.cmpf (F := Ideal) (φ := .f32) .une (FloatOps.subf (F := Ideal) (φ := .f32) (x : EReal) z) (FloatOps.subf (F := Ideal) (φ := .f32) (x : EReal) z))
      (FloatOps.addf (F := Ideal) (φ := .f32) (x : EReal) z)
      (FloatOps.addf (F := Ideal) (φ := .f32) (FloatOps.maximumf (F := Ideal) (φ := .f32) (x : EReal) z)
        (FloatOps.hostUnary (F := Ideal) (φ := .f32) .log1p (FloatOps.hostUnary (F := Ideal) (φ := .f32) .exp (FloatOps.hostNegf (F := Ideal) (φ := .f32) (FloatOps.hostAbsf (F := Ideal) (φ := .f32) (FloatOps.subf (F := Ideal) (φ := .f32) (x : EReal) z)))))) ) : EReal)
      = ((-sp x : ℝ) : EReal) := by
  subst hz
  show -(if Ideal.cmp .une ((x : EReal) - 0) ((x : EReal) - 0) = 1#1 then (x : EReal) + 0
    else max (x : EReal) 0 + Ideal.log (1 + Ideal.exp (-(max ((x : EReal) - 0) (-((x : EReal) - 0)))))) = _
  rw [if_neg (by simp [Ideal.cmp]), sub_zero, ← EReal.coe_neg, coe_max, ← EReal.coe_neg, log_one_add_exp,
    show (0 : EReal) = ((0 : ℝ) : EReal) from rfl, coe_max, ← EReal.coe_add, ← EReal.coe_neg]
  rfl

theorem zero_word : (FloatOps.ofBits (F := Ideal) .f32 0x00000000#32 : EReal) = 0 := Ideal.ofBits_zero_f32

/-- The mask lets a query see the keys strictly before it. -/
theorem mask_apply (t s : Fin 8192) : val_main_v8 (F := Ideal) (ix2 t s) = 1#1 ↔ s.val < t.val := by
  have ht := t.isLt
  have hs := s.isLt
  rw [val_main_v8_apply, val_main_v6_apply, val_main_v7_apply, val_main_v4_apply, val_main_v5_apply, val_main_v3_apply, val_main_v3_apply]
  show Scalar.cmpi .slt (BitVec.ofNat 32 s.val) (BitVec.ofNat 32 t.val) = 1#1 ↔ s.val < t.val
  word_cmp

variable (x0 x1 x2 : FVec Ideal S4x8192x512 .f32) (q k : Fin 4 → Fin 8192 → Fin 512 → ℝ) (Q K : ℕ → ℕ → ℕ → ℝ)
  (h0 : ∀ b t c, x0 (ix3 b t c) = ((q b t c : ℝ) : EReal)) (h1 : ∀ b t c, x1 (ix3 b t c) = ((k b t c : ℝ) : EReal))
  (hQ : ∀ b t c, Q b.val t.val c.val = q b t c * (1 / 8)) (hK : ∀ b t c, K b.val t.val c.val = k b t c)

/-- The scores of one query against the keys, one head. -/
abbrev Z (b : Fin 4) (h : Fin 8) (t : Fin 8192) : ℕ → ℝ := scoreR (Q b.val t.val) (K b.val) h.val

/-- A column of one head. -/
def col (h : Fin 8) (d : Fin 64) : Fin 512 := ⟨64 * h.val + d.val, by omega⟩

theorem heads_q (b : Fin 4) (t : Fin 8192) (h : Fin 8) (d : Fin 64) : val_main_v0 (F := Ideal) x0 (ix4 b t h d) = x0 (ix3 b t (col h d)) := by
  rw [val_main_v0_apply]
  refine congrArg x0 (funext fun a => Fin.ext ?_)
  have hb := b.isLt
  have ht := t.isLt
  have hh := h.isLt
  have hd := d.isLt
  match a with
  | ⟨0, _⟩ => show (((b.val * 8192 + t.val) * 8 + h.val) * 64 + d.val) / 4194304 = b.val; omega
  | ⟨1, _⟩ => show (((b.val * 8192 + t.val) * 8 + h.val) * 64 + d.val) / 512 % 8192 = t.val; omega
  | ⟨2, _⟩ => show (((b.val * 8192 + t.val) * 8 + h.val) * 64 + d.val) % 512 = 64 * h.val + d.val; omega

theorem heads_k (b : Fin 4) (t : Fin 8192) (h : Fin 8) (d : Fin 64) : val_main_v1 (F := Ideal) x1 (ix4 b t h d) = x1 (ix3 b t (col h d)) :=
  heads_q x1 b t h d
theorem heads_v (b : Fin 4) (t : Fin 8192) (h : Fin 8) (d : Fin 64) : val_main_v2 (F := Ideal) x2 (ix4 b t h d) = x2 (ix3 b t (col h d)) :=
  heads_q x2 b t h d

include h0 h1 hQ hK in
/-- The scaled scores. -/
theorem score_apply (b : Fin 4) (h : Fin 8) (t s : Fin 8192) :
    val_main_v11 (F := Ideal) x0 x1 (ix4 b h t s) = ((Z Q K b h t s.val : ℝ) : EReal) := by
  rw [val_main_v11_apply, val_main_v9_apply, val_main_v10_apply]
  have e : ∀ d : Fin 64, val_main_v0 (F := Ideal) x0 (lidx_main_v9 (ix4 b h t s) d) * val_main_v1 (F := Ideal) x1 (ridx_main_v9 (ix4 b h t s) d)
      = ((q b t (col h d) * k b s (col h d) : ℝ) : EReal) := fun d => by
    have el : lidx_main_v9 (ix4 b h t s) d = ix4 b t h d := funext fun a => match a with | ⟨0, _⟩ => rfl | ⟨1, _⟩ => rfl | ⟨2, _⟩ => rfl | ⟨3, _⟩ => rfl
    have er : ridx_main_v9 (ix4 b h t s) d = ix4 b s h d := funext fun a => match a with | ⟨0, _⟩ => rfl | ⟨1, _⟩ => rfl | ⟨2, _⟩ => rfl | ⟨3, _⟩ => rfl
    rw [el, er, heads_q, heads_k, h0, h1, EReal.coe_mul]
  simp only [e]
  show (∑ d : Fin 64, ((q b t (col h d) * k b s (col h d) : ℝ) : EReal)) * Ideal.ofBits .f32 0x3E000000#32 = _
  rw [← coe_sum, ofBits_eighth, ← EReal.coe_mul]
  refine congrArg _ ?_
  unfold Z scoreR
  rw [sum_mul]
  refine sum_congr rfl fun d _ => ?_
  rw [show 64 * h.val + d.val = (col h d).val from rfl, hQ, hK]
  ring

include h0 h1 hQ hK in
/-- What each key leaves of the stick, in logarithms. -/
theorem left_apply (b : Fin 4) (h : Fin 8) (t s : Fin 8192) :
    val_main_v14 (F := Ideal) x0 x1 (ix4 b h t s) = ((left (Z Q K b h t) t.val s.val : ℝ) : EReal) := by
  have e : val_main_call1_v1 (F := Ideal) (ix4 b h t s) = val_main_v8 (F := Ideal) (ix2 t s) := by
    rw [val_main_call1_v1_apply]
    exact congrArg _ (funext fun a => match a with | ⟨0, _⟩ => rfl | ⟨1, _⟩ => rfl)
  have ez : val_main_call0_v0 (F := Ideal) x0 x1 (ix4 b h t s) = ((Z Q K b h t s.val : ℝ) : EReal) := by
    rw [val_main_call0_v0_apply, val_main_v12_apply, score_apply x0 x1 q k Q K h0 h1 hQ hK]
    exact neg_neg _
  have hv : val_main_v13 (F := Ideal) x0 x1 (ix4 b h t s) = ((-sp (Z Q K b h t s.val) : ℝ) : EReal) := by
    rw [val_main_v13_apply, val_main_call0_v1_apply, val_main_call0_call0_v4_apply, val_main_call0_call0_v6_apply, val_main_call0_call0_v11_apply,
      val_main_call0_call0_v1_apply, val_main_call0_call0_v10_apply, val_main_call0_call0_v9_apply, val_main_call0_call0_v8_apply, val_main_call0_call0_v7_apply,
      val_main_call0_call0_v3_apply, val_main_call0_call0_v5_apply, val_main_call0_call0_v2_apply, val_main_call0_call0_v0_apply, val_main_call0_call0_cst_apply, ez]
    exact log_sigmoid _ _ zero_word
  rw [val_main_v14_apply, e, hv]
  unfold left
  by_cases hs : s.val < t.val
  · rw [if_pos hs]
    exact if_pos ((mask_apply t s).mpr hs)
  · rw [if_neg hs]
    refine (if_neg (mt (mask_apply t s).mp hs)).trans ?_
    rw [val_main_call1_v2_apply, val_main_call1_v0_apply, val_main_cst_0_apply]
    exact zero_word

include h0 h1 hQ hK in
/-- What the later keys leave of the stick, in logarithms. -/
theorem after_apply (b : Fin 4) (h : Fin 8) (t s : Fin 8192) :
    val_main_v16 (F := Ideal) x0 x1 (ix4 b h t s) = ((∑ x ∈ Ico (s.val + 1) 8192, left (Z Q K b h t) t.val x : ℝ) : EReal) := by
  have hs := s.isLt
  have hz : val_main_call2_v0 (F := Ideal) = fun _ => (0 : EReal) := funext fun i => by
    rw [val_main_call2_v0_apply, val_main_call2_cst_apply]; exact zero_word
  have hw : val_main_v15 (F := Ideal) x0 x1 (ix4 b h t s) = ((∑ x ∈ Ico s.val 8192, left (Z Q K b h t) t.val x : ℝ) : EReal) :=
    window_row (val_main_v14 (F := Ideal) x0 x1) _ hz (left (Z Q K b h t) t.val) b h t s (fun x => left_apply x0 x1 q k Q K h0 h1 hQ hK b h t x)
  rw [val_main_v16_apply, hw, left_apply x0 x1 q k Q K h0 h1 hQ hK]
  refine (EReal.coe_sub _ _).symm.trans (congrArg _ ?_)
  rw [sum_eq_sum_Ico_succ_bot hs]
  ring

include h0 h1 hQ hK in
/-- The weight of each key. -/
theorem share_apply (b : Fin 4) (h : Fin 8) (t s : Fin 8192) :
    val_main_v20 (F := Ideal) x0 x1 (ix4 b h t s) = ((share (Z Q K b h t) t.val 8192 s.val : ℝ) : EReal) := by
  have e : val_main_call4_v1 (F := Ideal) (ix4 b h t s) = val_main_v8 (F := Ideal) (ix2 t s) := by
    rw [val_main_call4_v1_apply]
    exact congrArg _ (funext fun a => match a with | ⟨0, _⟩ => rfl | ⟨1, _⟩ => rfl)
  have ez : val_main_call3_v0 (F := Ideal) x0 x1 (ix4 b h t s) = ((-Z Q K b h t s.val : ℝ) : EReal) := by
    rw [val_main_call3_v0_apply, score_apply x0 x1 q k Q K h0 h1 hQ hK]
    rfl
  have hv : val_main_v17 (F := Ideal) x0 x1 (ix4 b h t s) = ((-sp (-Z Q K b h t s.val) : ℝ) : EReal) := by
    rw [val_main_v17_apply, val_main_call3_v1_apply, val_main_call3_call0_v4_apply, val_main_call3_call0_v6_apply, val_main_call3_call0_v11_apply,
      val_main_call3_call0_v1_apply, val_main_call3_call0_v10_apply, val_main_call3_call0_v9_apply, val_main_call3_call0_v8_apply, val_main_call3_call0_v7_apply,
      val_main_call3_call0_v3_apply, val_main_call3_call0_v5_apply, val_main_call3_call0_v2_apply, val_main_call3_call0_v0_apply, val_main_call3_call0_cst_apply, ez]
    exact log_sigmoid _ _ zero_word
  rw [val_main_v20_apply, e]
  unfold share
  by_cases hs : s.val < t.val
  · rw [if_pos hs]
    refine (if_pos ((mask_apply t s).mpr hs)).trans ?_
    rw [val_main_v19_apply, val_main_v18_apply, hv, after_apply x0 x1 q k Q K h0 h1 hQ hK, Ideal.hostUnary_exp_def]
    show Ideal.exp (((-sp (-Z Q K b h t s.val) : ℝ) : EReal) + ((∑ x ∈ Ico (s.val + 1) 8192, left (Z Q K b h t) t.val x : ℝ) : EReal)) = _
    rw [← EReal.coe_add, Ideal.exp_coe, sp_neg]
    refine congrArg (fun r : ℝ => ((Real.exp r : ℝ) : EReal)) ?_
    ring
  · rw [if_neg hs]
    refine (if_neg (mt (mask_apply t s).mp hs)).trans ?_
    rw [val_main_call4_v2_apply, val_main_call4_v0_apply, val_main_cst_1_apply]
    exact zero_word

include h0 h1 hQ hK in
/-- The reference's result, one entry. -/
theorem result_apply (b : Fin 4) (t : Fin 8192) (c : Fin 512) :
    val_main_v24 (F := Ideal) x0 x1 x2 (ix3 b t c) = attn Q K x2 b t c := by
  have hb := b.isLt
  have ht := t.isLt
  have hc := c.isLt
  have e23 : idx_main_v23 (ix3 b t c) = ix4 b t (⟨c.val / 64, by omega⟩ : Fin 8) (⟨c.val % 64, by omega⟩ : Fin 64) := funext fun a => Fin.ext (by
    match a with
    | ⟨0, _⟩ => show ((b.val * 8192 + t.val) * 512 + c.val) / 4194304 = b.val; omega
    | ⟨1, _⟩ => show ((b.val * 8192 + t.val) * 512 + c.val) / 512 % 8192 = t.val; omega
    | ⟨2, _⟩ => show ((b.val * 8192 + t.val) * 512 + c.val) / 64 % 8 = c.val / 64; omega
    | ⟨3, _⟩ => show ((b.val * 8192 + t.val) * 512 + c.val) % 64 = c.val % 64; omega)
  have e22 : idx_main_v22 (ix4 b t (⟨c.val / 64, by omega⟩ : Fin 8) (⟨c.val % 64, by omega⟩ : Fin 64)) = ix4 b (⟨c.val / 64, by omega⟩ : Fin 8) (⟨c.val % 64, by omega⟩ : Fin 64) t :=
    funext fun a => match a with | ⟨0, _⟩ => rfl | ⟨1, _⟩ => rfl | ⟨2, _⟩ => rfl | ⟨3, _⟩ => rfl
  have ec : col (⟨c.val / 64, by omega⟩ : Fin 8) (⟨c.val % 64, by omega⟩ : Fin 64) = c := Fin.ext (by show 64 * (c.val / 64) + c.val % 64 = c.val; omega)
  rw [val_main_v24_apply]
  show val_main_v23 (F := Ideal) x0 x1 x2 (ix3 b t c) = _
  rw [val_main_v23_apply, e23, val_main_v22_apply, e22, val_main_v21_apply]
  unfold attn
  rw [Finset.sum_range]
  refine sum_congr rfl fun s _ => ?_
  have el : lidx_main_v21 (ix4 b (⟨c.val / 64, by omega⟩ : Fin 8) (⟨c.val % 64, by omega⟩ : Fin 64) t) s = ix4 b s (⟨c.val / 64, by omega⟩ : Fin 8) (⟨c.val % 64, by omega⟩ : Fin 64) :=
    funext fun a => match a with | ⟨0, _⟩ => rfl | ⟨1, _⟩ => rfl | ⟨2, _⟩ => rfl | ⟨3, _⟩ => rfl
  have er : ridx_main_v21 (ix4 b (⟨c.val / 64, by omega⟩ : Fin 8) (⟨c.val % 64, by omega⟩ : Fin 64) t) s = ix4 b (⟨c.val / 64, by omega⟩ : Fin 8) t s :=
    funext fun a => match a with | ⟨0, _⟩ => rfl | ⟨1, _⟩ => rfl | ⟨2, _⟩ => rfl | ⟨3, _⟩ => rfl
  rw [el, er, heads_v, ec, share_apply x0 x1 q k Q K h0 h1 hQ hK]
  unfold valG
  rw [dif_pos s.isLt]
  exact mul_comm _ _

end Cert.ReferenceIdeal.Hand

end
-- ==== Proof.Value.Result.lean ====
/- The kernel's result over real queries and keys, and its equality with the reference's. -/
module

public import proofs.«01_k».proof.Proof.Value.Reference
public import proofs.«01_k».proof.Defs

@[expose] public section

set_option maxRecDepth 16384

noncomputable section

namespace Cert.KernelIdeal.Hand

open Cert.KernelIdeal Cert.KernelIdeal.Gen
open Idealize.ShloMosaic hiding ix0 ix1 ix2 ix3 ix4 ix5
open Idealize.ShloMosaic.TcCoe Idealize.ShloMosaic.ValueIdx
open Idealize.SL.Sem

/-- An entry is a real number where its absolute value is below infinity. -/
theorem real_of_abs_lt (x : EReal) (h : max x (-x) < ⊤) : x = ((x.toReal : ℝ) : EReal) := by
  refine (EReal.coe_toReal ?_ ?_).symm
  · rintro rfl; simp at h
  · rintro rfl; simp at h

/-- The entry `(b, t, c)` of an array as a real number, for natural indices. -/
def entry (x : FVec Ideal S4x8192x512 .f32) (b t c : ℕ) : ℝ :=
  if h : b < 4 ∧ t < 8192 ∧ c < 512 then EReal.toReal (x (ix3 ⟨b, h.1⟩ ⟨t, h.2.1⟩ ⟨c, h.2.2⟩)) else 0

theorem entry_val (x : FVec Ideal S4x8192x512 .f32) (b : Fin 4) (t : Fin 8192) (c : Fin 512) :
    entry x b.val t.val c.val = EReal.toReal (x (ix3 b t c)) := by
  unfold entry
  rw [dif_pos ⟨b.isLt, t.isLt, c.isLt⟩]

instance pre_facts : Cert.Pre_finite_scores.Facts := ⟨by decide⟩

/-- What the precondition says: every query and key entry is a real number. -/
theorem finite_of_pre (x0 x1 x2 : FVec Ideal S4x8192x512 .f32) (h : Cert.Pre_finite_scores.fn (F := Ideal) x0 x1 x2 = fun _ => 1#1) (y : S4x8192x512.Idx) :
    x0 y = ((EReal.toReal (x0 y) : ℝ) : EReal) ∧ x1 y = ((EReal.toReal (x1 y) : ℝ) : EReal) := by
  have hy := congrFun h y
  change (BitVec.ofBool (decide (max (x0 y) (-(x0 y)) < Ideal.ofBits .f32 0x7F800000#32))) &&& (BitVec.ofBool (decide (max (x1 y) (-(x1 y)) < Ideal.ofBits .f32 0x7F800000#32))) = 1#1 at hy
  have ht : Ideal.ofBits .f32 0x7F800000#32 = ⊤ := by simp [Ideal.ofBits, Ideal.ieee]
  rw [ht] at hy
  by_cases a : max (x0 y) (-(x0 y)) < ⊤ <;> by_cases b : max (x1 y) (-(x1 y)) < ⊤ <;> simp [a, b] at hy
  exact ⟨real_of_abs_lt _ a, real_of_abs_lt _ b⟩

variable (m : (ℓ : Loc nD τ sig) → Buf (Elt Ideal) ℓ) (g : Dev nD → PrngReg)

/-- The scaled queries and the keys of device `c` as real numbers. -/
def queries (c : Dev nD) (b t k : ℕ) : ℝ := entry (arg0 m c) b t k * (1 / 8)
def keys (c : Dev nD) (b t k : ℕ) : ℝ := entry (arg1 m c) b t k

/-- The value both programs end with. -/
def result (c : Dev nD) : FVec Ideal S4x8192x512 .bf16 := attnVec (queries m c) (keys m c) (arg2 m c)

theorem kernel_array (hpre : Cert.Pre_KernelIdeal_finite_scores m) (c : Dev nD) :
    (dats (F := Ideal) m 0 c).arrAt 4 (cfg0 (F := Ideal)).N = result m c := by
  have hf := finite_of_pre _ _ _ (hpre c)
  refine (out_array m c (queries m c) (keys m c) (fun b t k => ?_) (fun b t k => ?_) (uArr_apply m c)).trans ?_
  · rw [qArr_eq, ofBits_eighth]
    unfold queries
    rw [entry_val, EReal.coe_mul]
    exact congrArg (· * _) (hf (ix3 b t k)).1
  · rw [kArr_eq]
    unfold keys
    rw [entry_val]
    exact (hf (ix3 b t k)).2
  · rw [vArr_eq]; rfl

/-- The kernel's run ends with the result and leaves its arguments. -/
theorem kernel_run (hpre : Cert.Pre_KernelIdeal_finite_scores m) :
    θ_run defs (onTc (τ := τ) (main (F := Ideal))) ⟨m, fun _ => 0, g⟩ (fun r => ∀ c : Dev nD,
      r.2.mem ((c.tc : Thread nD τ).loc main_v10) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h.1.out_eq c 4).trans (kernel_array m hpre c), h.2 c⟩) (θ_run_and (run_main m g) (unchanged m g))

/-- The reference's term of the same arguments is the same result. -/
theorem reference_value (hpre : Cert.Pre_KernelIdeal_finite_scores m) (c : Dev nD) :
    Cert.ReferenceIdeal.Read.val_main_v24 (F := Ideal) (arg0 m c) (arg1 m c) (arg2 m c) = result m c := by
  have hf := finite_of_pre _ _ _ (hpre c)
  refine funext fun y => ?_
  have e := Cert.ReferenceIdeal.Hand.result_apply (arg0 m c) (arg1 m c) (arg2 m c)
    (fun b t k => EReal.toReal (arg0 m c (ix3 b t k))) (fun b t k => EReal.toReal (arg1 m c (ix3 b t k))) (queries m c) (keys m c)
    (fun b t k => (hf (ix3 b t k)).1) (fun b t k => (hf (ix3 b t k)).2) (fun b t k => by unfold queries; rw [entry_val])
    (fun b t k => entry_val _ b t k) (y 0) (y 1) (y 2)
  have ey : ix3 (y 0) (y 1) (y 2) = y := funext fun a => match a with | ⟨0, _⟩ => rfl | ⟨1, _⟩ => rfl | ⟨2, _⟩ => rfl
  exact (congrArg _ ey.symm).trans e

end Cert.KernelIdeal.Hand

end
-- ==== Proof.Experts.Kit.lean ====
/- The launch of the experts call: what its arrays and tables hold when the call is entered, what each of its input
   windows holds at a grid point, and what the call's frame needs of them. -/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel2Ideal.Hand

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the two reshapes of the biases. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main up to the region: the host operations, then the region. -/
theorem hmain (𝒱₀ : Variants) : Pipeline.HMainP (Ix := Unit) (Name := ℕ) (U := UR sig nD τ) (Lvl := ℕ) (pcfgs (F := F)) 0 defs₀ 𝒱₀ m (main (F := F)) (V m) :=
  Pipeline.hmainP_prefix (pcfgs (F := F)) 0 defs₀ 𝒱₀ m main hostOps0 hostOps0_sub hostOps0_fresh main_chain

/-- No host operation before the region writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))
/-- No host operation before the region writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))
/-- No host operation before the region writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))
/-- No host operation before the region writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))
/-- No host operation before the region writes `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))
/-- No host operation before the region writes `main_arg5`. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.reshape_writes, Finset.mem_singleton]
    repeat' apply And.intro
    all_goals exact StableHlo.devRef_ne_of_ne (by decide)))
/-- No host operation before the region writes `main_arg6`. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.reshape_writes, Finset.mem_singleton]
    repeat' apply And.intro
    all_goals exact StableHlo.devRef_ne_of_ne (by decide)))

/-! ## The tables -/

/-- The tables' contents when the region is entered. -/
def tbl : pre0.Contents (Elt F) := fun j => V m (0 : Dev nD) (pre0.ref j)

/-- On every device the tables hold those contents: there is one device. -/
theorem V_pre (c : Dev nD) (j : Fin 2) : V m c (pre0.ref j) = tbl m j := by
  obtain rfl : c = 0 := Subsingleton.elim _ _; rfl

/-- What the windows need of the tables: every block they name lies in its array. -/
abbrev Ok : Prop := ok0 (F := F) (tbl m)

/-- The tables' contents as admissible ones, and the pipeline at them. -/
abbrev adm (hO : Ok m) : (pcfg0 (F := F)).Adm := ⟨tbl m, hO⟩
abbrev cfgM (hO : Ok m) : Pipeline.Cfg sig Λ₀ := cfg0 (adm m hO)

/-- Each table as the body is handed it. -/
abbrev tbM0_0 : Memref sig .tc .smem S288 .i32 := Memref.whole main_arg1
abbrev tbM0_1 : Memref sig .tc .smem S1 .i32 := Memref.whole main_arg2

/-- A table's buffer on core `c`, and that buffer held at half the full share. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves handed to the body, table by table. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide, bigSep_insert (by decide), bigSep_singleton]
  rfl

/-! ## The windows' blocks -/

/-- Window `w`'s block at point `t`, read off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs -/

/-- Each window's current staging memref at point `t`, and its wholeness. -/
abbrev ms0_0 (hO : Ok m) (t : Fin (cfgM m hO).N) : Memref sig .tc .vmem S512x512 .i32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x1024x2048 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x2048 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x1024x1024 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x1024 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S512x1024 .bf16 := spec0_5.stage ((cfgM m hO).slots t 5)
abbrev hs0_5 (hO : Ok m) (t : Fin (cfgM m hO).N) : (ms0_5 m hO t).IsWhole := hstage0_5 (((cfgM m hO).slots t 5).cast nbuf0_5)
/-- The two scratch buffers. -/
abbrev scM0_0 : Memref sig .tc .vmem S1024x2048 .bf16 := Memref.whole cc0_scratch0
abbrev scM0_1 : Memref sig .tc .vmem S1024x1024 .bf16 := Memref.whole cc0_scratch1

/-- The body at point `t`. -/
abbrev bodyAt0 (hO : Ok m) (t : Fin (cfgM m hO).N) : Prog (TpuEff nD τ sig (Elt F) Λ₀ .tc) PUnit :=
  cc0_moe_experts (grid0.coords t) tbM0_0 (Memref.isWhole_whole _) tbM0_1 (Memref.isWhole_whole _) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _)

/-- The invariant's scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The body table's row at point `t`'s slots is the body. -/
theorem defs₀_row (hO : Ok m) (t : Fin (cfgM m hO).N) :
    defs₀ (F := F) .tc (cfgM m hO).body ((cfgM m hO).bodyArgs t ((cfgM m hO).slots t)) = bodyAt0 m hO t := by
  unfold defs₀; rw [Defs.onTc_tc]

end Cert.Kernel2Ideal.Hand

end
-- ==== Proof.Experts.Body.lean ====
/- The body of the experts call at one grid point. -/
module

public import proofs.«01_k».proof.Proof.Experts.Kit
public import Idealize.ShloMosaic.Lib.VecWindow

@[expose] public section

set_option maxRecDepth 16384

noncomputable section

namespace Cert.Kernel2Ideal.Hand

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The expert of the block at a grid point, as the body reads it from the table. -/
def expertAt (i : grid0.Coords) (f : S288.Idx → BitVec 32) : BitVec 32 :=
  f ((Rect.unit (s := S288) (k0_off1 i) S1.size (k0_off1_inb i)).idx (Shape.Idx.first (numel1_S1.symm ▸ Nat.one_pos)))

/-- The expert of the block before, as the body reads it; at the first point that of the first block itself. -/
def expertBefore (i : grid0.Coords) (f : S288.Idx → BitVec 32) : BitVec 32 :=
  f ((Rect.unit (s := S288) (k0_off2 i) S1.size (k0_off2_inb i)).idx (Shape.Idx.first (numel1_S1.symm ▸ Nat.one_pos)))

/-- Whether the body loads the weights of its expert: at the first point, and where the expert changes. -/
abbrev reloads (i : grid0.Coords) (f : S288.Idx → BitVec 32) : Prop :=
  Scalar.cmpi .ne (Scalar.extui (Scalar.ori (Scalar.cmpi .eq (BitVec.ofNat 32 (i 0).val) 0#32)
    (Scalar.cmpi .ne (expertAt i f) (expertBefore i f)))) 0#32 = 1#1

/-- The number of used blocks, as the body reads it from its table. -/
def usedOf (f : S1.Idx → BitVec 32) : BitVec 32 :=
  f ((Rect.unit (s := S1) ![0] S1.size inb_S1_S1_0).idx (Shape.Idx.first (numel1_S1.symm ▸ Nat.one_pos)))

/-- The two scratch buffers after the weights' load, or as they were where nothing is loaded. -/
def weightsUp (i : grid0.Coords) (f : S288.Idx → BitVec 32) (x1 : Vec F S1x1x1024x2048 .f32) (w0 : Vec F S1024x2048 .bf16) : Vec F S1024x2048 .bf16 :=
  if reloads i f then k0_pay1 x1 else w0
def weightsDown (i : grid0.Coords) (f : S288.Idx → BitVec 32) (x3 : Vec F S1x1x1024x1024 .f32) (w1 : Vec F S1024x1024 .bf16) : Vec F S1024x1024 .bf16 :=
  if reloads i f then k0_pay2 x3 else w1

/-- The upper and the lower half of the up weights' rows. -/
def upperRows (w : Vec F S1024x2048 .bf16) : Vec F S512x2048 .bf16 :=
  fun j => w ((Rect.unit (s := S1024x2048) ![0, 0] S512x2048.size inb_S1024x2048_S512x2048_0_0).idx j)
def lowerRows (w : Vec F S1024x2048 .bf16) : Vec F S512x2048 .bf16 :=
  fun j => w ((Rect.unit (s := S1024x2048) ![512, 0] S512x2048.size inb_S1024x2048_S512x2048_512_0).idx j)

/-- The block of the output the body leaves: the experts' rows in a used block, zeros in the others. -/
def outBlk (i : grid0.Coords) (f : S1.Idx → BitVec 32) (x0 : Vec F S512x512 .i32) (w0 : Vec F S1024x2048 .bf16) (x2 : Vec F S1x1x2048 .f32)
    (w1 : Vec F S1024x1024 .bf16) (x4 : Vec F S1x1x1024 .f32) : Vec F S512x1024 .bf16 :=
  if k0_cond3 i (usedOf f) = 1#1 then k0_pay4
  else k0_pay3 (k0_pay5 x0 (upperRows w0) (lowerRows w0) x2 w1) x4

/-- A branch on a widened flag is a branch on the flag. -/
theorem flag_iff (b : Bool) : IntOp.cmpi .ne ((BitVec.ofBool b).setWidth 32) 0#32 = 1#1 ↔ b = true := by
  cases b <;> decide

theorem toInt_coord (i : grid0.Coords) : (BitVec.ofNat 32 (i 0).val).toInt = ((i 0).val : Int) :=
  WordCmp.toInt_ofNat_of_lt (by have h : (i 0).val < 288 := (i 0).isLt; omega)

/-- The body's second condition: the block lies before the number of used blocks. -/
theorem cond2_iff (i : grid0.Coords) (v : BitVec 32) : k0_cond2 i v = 1#1 ↔ ((i 0).val : Int) < v.toInt := by
  rw [← toInt_coord]
  exact (flag_iff _).trans decide_eq_true_iff

/-- And its third: the block lies at or after it. -/
theorem cond3_iff (i : grid0.Coords) (v : BitVec 32) : k0_cond3 i v = 1#1 ↔ v.toInt ≤ ((i 0).val : Int) := by
  rw [← toInt_coord]
  exact (flag_iff _).trans decide_eq_true_iff

/-- A block is used or it is not. -/
theorem cond2_of_not_cond3 (i : grid0.Coords) (v : BitVec 32) (h : ¬ k0_cond3 i v = 1#1) : k0_cond2 i v = 1#1 :=
  (cond2_iff i v).2 (not_le.1 fun h' => h ((cond3_iff i v).2 h'))

/-- The weights are loaded at the first point and where the expert changes. -/
theorem reloads_iff (i : grid0.Coords) (f : S288.Idx → BitVec 32) :
    reloads i f ↔ (i 0).val = 0 ∨ expertAt i f ≠ expertBefore i f := by
  unfold reloads
  show IntOp.cmpi .ne ((IntOp.ori (IntOp.cmpi .eq _ _) (IntOp.cmpi .ne _ _)).setWidth 32) 0#32 = 1#1 ↔ _
  rw [WordCmp.cmpi_eq_eq_toNat, WordCmp.cmpi_ne_eq (expertAt i f) (expertBefore i f), WordCmp.ori_ofBool, flag_iff, Bool.or_eq_true, decide_eq_true_iff, decide_eq_true_iff]
  have h : (i 0).val < 288 := (i 0).isLt
  rw [BitVec.toNat_ofNat, Nat.mod_eq_of_lt (by omega)]
  rfl

set_option maxHeartbeats 4000000 in
/-- The body at a grid point, from scratch buffers at `w0` and `w1`. -/
theorem kernel_run (c : Dev nD) (i : grid0.Coords) (arg3 : Memref sig .tc .vmem S512x512 .i32) (harg3 : arg3.IsWhole) (arg4 : Memref sig .tc .vmem S1x1x1024x2048 .f32) (harg4 : arg4.IsWhole) (arg5 : Memref sig .tc .vmem S1x1x2048 .f32) (harg5 : arg5.IsWhole) (arg6 : Memref sig .tc .vmem S1x1x1024x1024 .f32) (harg6 : arg6.IsWhole) (arg7 : Memref sig .tc .vmem S1x1x1024 .f32) (harg7 : arg7.IsWhole) (arg8 : Memref sig .tc .vmem S512x1024 .bf16) (harg8 : arg8.IsWhole) (arg9 : Memref sig .tc .vmem S1024x2048 .bf16) (harg9 : arg9.IsWhole) (arg10 : Memref sig .tc .vmem S1024x1024 .bf16) (harg10 : arg10.IsWhole)
    (x0 : Vec F S512x512 .i32) (x1 : Vec F S1x1x1024x2048 .f32) (x2 : Vec F S1x1x2048 .f32) (x3 : Vec F S1x1x1024x1024 .f32) (x4 : Vec F S1x1x1024 .f32)
    (w0 : Vec F S1024x2048 .bf16) (w1 : Vec F S1024x1024 .bf16) (f1 : TbBuf0 (F := F) c tbM0_0) (f2 : TbBuf0 (F := F) c tbM0_1) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare w0 ∗ owns (c : Thread nD τ) arg10 fullShare w1 ∗ tbPt0 c tbM0_0 f1 ∗ tbPt0 c tbM0_1 f2
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (outBlk i f2 x0 (weightsUp i f1 x1 w0) x2 (weightsDown i f1 x3 w1) x4)
            ∗ owns (c : Thread nD τ) arg9 fullShare (weightsUp i f1 x1 w0) ∗ owns (c : Thread nD τ) arg10 fullShare (weightsDown i f1 x3 w1) ∗ tbPt0 c tbM0_0 f1 ∗ tbPt0 c tbM0_1 f2) -∗ K ⟨⟩))
      ⊢ wp frame (wpE (defs₀ (F := F)) Variants.nat c none) E (cc0_moe_experts i tbM0_0 (Memref.isWhole_whole _) tbM0_1 (Memref.isWhole_whole _) arg3 harg3 arg4 harg4 arg5 harg5 arg6 harg6 arg7 harg7 arg8 harg8 arg9 harg9 arg10 harg10) K := by
  simp only [cc0_moe_experts_eq_skeleton]; unfold cc0_moe_experts_skel
  simp only [k0_part1_eq_skeleton]
  unfold owns
  iintro ⟨⟨%g0, %hg0, H0⟩, ⟨%g1, %hg1, H1⟩, ⟨%g2, %hg2, H2⟩, ⟨%g3, %hg3, H3⟩, ⟨%g4, %hg4, H4⟩, ⟨%d5, %g5, -, H5⟩, ⟨%g6, %hg6, H6⟩, ⟨%g7, %hg7, H7⟩, HT0, HT1, Hk⟩
  obtain rfl := harg3.eq_unread hg0; obtain rfl := harg4.eq_unread hg1; obtain rfl := harg5.eq_unread hg2; obtain rfl := harg6.eq_unread hg3; obtain rfl := harg7.eq_unread hg4
  obtain rfl := harg9.eq_unread hg6; obtain rfl := harg10.eq_unread hg7
  sl_exec
  have l4 : arg4.view.readAt (Elt F) (Rect.unit (s := S1x1x1024x2048) ![0, 0, 0, 0] S1x1x1024x2048.size inb_S1x1x1024x2048_S1x1x1024x2048_0_0_0_0).toLoadRect (harg4.unread x1) = x1 :=
    (View.readAt_full (s := S1x1x1024x2048) _ _ _).trans (harg4.read_unread _)
  have l6 : arg6.view.readAt (Elt F) (Rect.unit (s := S1x1x1024x1024) ![0, 0, 0, 0] S1x1x1024x1024.size inb_S1x1x1024x1024_S1x1x1024x1024_0_0_0_0).toLoadRect (harg6.unread x3) = x3 :=
    (View.readAt_full (s := S1x1x1024x1024) _ _ _).trans (harg6.read_unread _)
  have l3 : arg3.view.readAt (Elt F) (Rect.unit (s := S512x512) ![0, 0] S512x512.size inb_S512x512_S512x512_0_0).toLoadRect (harg3.unread x0) = x0 :=
    (View.readAt_full (s := S512x512) _ _ _).trans (harg3.read_unread _)
  have l5 : arg5.view.readAt (Elt F) (Rect.unit (s := S1x1x2048) ![0, 0, 0] S1x1x2048.size inb_S1x1x2048_S1x1x2048_0_0_0).toLoadRect (harg5.unread x2) = x2 :=
    (View.readAt_full (s := S1x1x2048) _ _ _).trans (harg5.read_unread _)
  have l7 : arg7.view.readAt (Elt F) (Rect.unit (s := S1x1x1024) ![0, 0, 0] S1x1x1024.size inb_S1x1x1024_S1x1x1024_0_0_0).toLoadRect (harg7.unread x4) = x4 :=
    (View.readAt_full (s := S1x1x1024) _ _ _).trans (harg7.read_unread _)
  have e9 : arg9.view.read (Elt F) (if hc : reloads i f1 then arg9.view.writes (Elt F) (harg9.unread w0)
        [⟨Rect.unit (s := S1024x2048) ![0, 0] S1024x2048.size inb_S1024x2048_S1024x2048_0_0, k0_pay1 x1⟩] else harg9.unread w0) = weightsUp i f1 x1 w0 := by
    unfold weightsUp; split
    · exact View.read_writes_full (s := S1024x2048) _ _ _ _ _
    · exact harg9.read_unread _
  have e10 : arg10.view.read (Elt F) (if hc : reloads i f1 then arg10.view.writes (Elt F) (harg10.unread w1)
        [⟨Rect.unit (s := S1024x1024) ![0, 0] S1024x1024.size inb_S1024x1024_S1024x1024_0_0, k0_pay2 x3⟩] else harg10.unread w1) = weightsDown i f1 x3 w1 := by
    unfold weightsDown; split
    · exact View.read_writes_full (s := S1024x1024) _ _ _ _ _
    · exact harg10.read_unread _
  have l9a : kernel_run.sl.v27 c i arg4 harg4 arg9 harg9 x1 w0 f1 = upperRows (weightsUp i f1 x1 w0) := by
    unfold kernel_run.sl.v27 kernel_run.sl.r kernel_run.sl.r_1 kernel_run.sl.v19
    rw [l4]
    funext j
    rw [View.readAt_apply]
    exact congrFun e9 _
  have l9b : kernel_run.sl.v30 c i arg4 harg4 arg9 harg9 x1 w0 f1 = lowerRows (weightsUp i f1 x1 w0) := by
    unfold kernel_run.sl.v30 kernel_run.sl.r kernel_run.sl.r_1 kernel_run.sl.v19
    rw [l4]
    funext j
    rw [View.readAt_apply]
    exact congrFun e9 _
  have l10 : kernel_run.sl.v53 c i arg6 harg6 arg10 harg10 x3 w1 f1 = weightsDown i f1 x3 w1 := by
    unfold kernel_run.sl.v53 kernel_run.sl.r kernel_run.sl.r_1 kernel_run.sl.v25
    rw [l6]
    exact (View.readAt_full (s := S1024x1024) _ _ _).trans e10
  unfold kernel_run.sl.r kernel_run.sl.r_1 kernel_run.sl.r_2 kernel_run.sl.r_3 kernel_run.sl.v19 kernel_run.sl.v25
  rw [l9a, l9b, l10, l3, l4, l5, l6, l7]
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr
    swap; · iexact H5
    ipureintro
    unfold outBlk
    show View.read (Elt F) arg8.view (if hc : k0_cond3 i (usedOf f2) = 1#1 then _ else if hc : k0_cond2 i (usedOf f2) = 1#1 then _ else g5) = _
    by_cases h3 : k0_cond3 i (usedOf f2) = 1#1
    · rw [dif_pos h3, if_pos h3]; exact View.read_writes_full (s := S512x1024) _ _ _ _ _
    · rw [dif_neg h3, if_neg h3, dif_pos (cond2_of_not_cond3 i _ h3)]; exact View.read_writes_full (s := S512x1024) _ _ _ _ _
  isplitl [H6]
  · iexists _; isplitr
    swap; · iexact H6
    ipureintro; exact e9
  isplitl [H7]
  · iexists _; isplitr
    swap; · iexact H7
    ipureintro; exact e10
  isplitl [HT0]; · iexact HT0
  iexact HT1

end Cert.Kernel2Ideal.Hand

end
-- ==== Proof.Experts.Blocks.lean ====
/- The experts call's weights from one grid point to the next: where the expert stays, its blocks stay, so what the scratch
   buffers keep is the current expert's weights at every point. -/
module

public import proofs.«01_k».proof.Proof.Experts.Body

@[expose] public section

set_option maxRecDepth 16384

noncomputable section

namespace Cert.Kernel2Ideal.Hand

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid's points run in order. -/
theorem coords_val : ∀ t : Fin grid0.N, (grid0.coords t 0).val = t.val := by decide +kernel

/-- The input blocks of a grid point. -/
abbrev rowsBlk (hO : Ok m) (c : Dev nD) (t : Fin (cfgM m hO).N) : Vec F S512x512 .i32 := iblk m hO c 0 t
abbrev upBlk (hO : Ok m) (c : Dev nD) (t : Fin (cfgM m hO).N) : Vec F S1x1x1024x2048 .f32 := iblk m hO c 1 t
abbrev upBiasBlk (hO : Ok m) (c : Dev nD) (t : Fin (cfgM m hO).N) : Vec F S1x1x2048 .f32 := iblk m hO c 2 t
abbrev downBlk (hO : Ok m) (c : Dev nD) (t : Fin (cfgM m hO).N) : Vec F S1x1x1024x1024 .f32 := iblk m hO c 3 t
abbrev downBiasBlk (hO : Ok m) (c : Dev nD) (t : Fin (cfgM m hO).N) : Vec F S1x1x1024 .f32 := iblk m hO c 4 t

/-- The block index of the weights' windows. -/
theorem ix_up (i : grid0.Coords) : Cert.Kernel2Ideal.ix0 (tbl m) 1 i = ![0, (expertAt i (tbl m 0)).toNat, 0, 0] := rfl
theorem ix_down (i : grid0.Coords) : Cert.Kernel2Ideal.ix0 (tbl m) 3 i = ![0, (expertAt i (tbl m 0)).toNat, 0, 0] := rfl

theorem upBlk_eq (hO : Ok m) (c : Dev nD) (t : Fin (cfgM m hO).N) :
    upBlk m hO c t = fun y => (V m c main_arg3 : Vec F S2x32x1024x2048 .f32)
      ((Rect.block (s := S2x32x1024x2048) S1x1x1024x2048.size (Cert.Kernel2Ideal.ix0 (tbl m) 1 (grid0.coords t)) (hinb0 (tbl m) hO 1 _)).emb y) := rfl
theorem downBlk_eq (hO : Ok m) (c : Dev nD) (t : Fin (cfgM m hO).N) :
    downBlk m hO c t = fun y => (V m c main_arg5 : Vec F S2x32x1024x1024 .f32)
      ((Rect.block (s := S2x32x1024x1024) S1x1x1024x1024.size (Cert.Kernel2Ideal.ix0 (tbl m) 3 (grid0.coords t)) (hinb0 (tbl m) hO 3 _)).emb y) := rfl

/-- The blocks of two points of one expert are the same. -/
theorem upBlk_congr (hO : Ok m) (c : Dev nD) (t s : Fin (cfgM m hO).N) (h : expertAt (grid0.coords t) (tbl m 0) = expertAt (grid0.coords s) (tbl m 0)) :
    upBlk m hO c t = upBlk m hO c s := by
  rw [upBlk_eq, upBlk_eq]
  have key : ∀ (a b : Fin 4 → ℕ) (ha : ∀ x, (a x + 1) * S1x1x1024x2048.size x ≤ S2x32x1024x2048.size x) (hb : ∀ x, (b x + 1) * S1x1x1024x2048.size x ≤ S2x32x1024x2048.size x), a = b →
      (fun y => (V m c main_arg3 : Vec F S2x32x1024x2048 .f32) ((Rect.block (s := S2x32x1024x2048) S1x1x1024x2048.size a ha).emb y))
        = fun y => (V m c main_arg3 : Vec F S2x32x1024x2048 .f32) ((Rect.block (s := S2x32x1024x2048) S1x1x1024x2048.size b hb).emb y) := by
    intro a b ha hb hab; subst hab; rfl
  exact key _ _ _ _ (by rw [ix_up, ix_up, h])
theorem downBlk_congr (hO : Ok m) (c : Dev nD) (t s : Fin (cfgM m hO).N) (h : expertAt (grid0.coords t) (tbl m 0) = expertAt (grid0.coords s) (tbl m 0)) :
    downBlk m hO c t = downBlk m hO c s := by
  rw [downBlk_eq, downBlk_eq]
  have key : ∀ (a b : Fin 4 → ℕ) (ha : ∀ x, (a x + 1) * S1x1x1024x1024.size x ≤ S2x32x1024x1024.size x) (hb : ∀ x, (b x + 1) * S1x1x1024x1024.size x ≤ S2x32x1024x1024.size x), a = b →
      (fun y => (V m c main_arg5 : Vec F S2x32x1024x1024 .f32) ((Rect.block (s := S2x32x1024x1024) S1x1x1024x1024.size a ha).emb y))
        = fun y => (V m c main_arg5 : Vec F S2x32x1024x1024 .f32) ((Rect.block (s := S2x32x1024x1024) S1x1x1024x1024.size b hb).emb y) := by
    intro a b ha hb hab; subst hab; rfl
  exact key _ _ _ _ (by rw [ix_down, ix_down, h])

/-- The table's offsets: the point's own entry, and the one before it. -/
theorem off1_eq : ∀ t : Fin grid0.N, k0_off1 (grid0.coords t) = ![t.val] := by decide +kernel
theorem off2_eq : ∀ t : Fin grid0.N, k0_off2 (grid0.coords t) = ![t.val - 1] := by decide +kernel

/-- The expert the body compares with is the one of the point before. -/
theorem expertBefore_eq (f : S288.Idx → BitVec 32) (t s : Fin grid0.N) (h : s.val + 1 = t.val) :
    expertBefore (grid0.coords t) f = expertAt (grid0.coords s) f := by
  unfold expertBefore expertAt
  refine congrArg f (funext fun a => Fin.ext ?_)
  obtain rfl : a = 0 := Subsingleton.elim _ _
  have e : k0_off2 (grid0.coords t) 0 = k0_off1 (grid0.coords s) 0 := by
    rw [off1_eq, off2_eq]
    show t.val - 1 = s.val
    omega
  exact congrArg (fun n => n + 1 * (Shape.Idx.first (s := S1) (numel1_S1.symm ▸ Nat.one_pos) 0).val) e

/-- A point that reloads nothing has a point before it, of the same expert. -/
theorem kept (f : S288.Idx → BitVec 32) (t : Fin grid0.N) (h : ¬ reloads (grid0.coords t) f) :
    ∃ s : Fin grid0.N, s.val + 1 = t.val ∧ expertAt (grid0.coords t) f = expertAt (grid0.coords s) f := by
  rw [reloads_iff, not_or, coords_val, not_not] at h
  obtain ⟨h0, h1⟩ := h
  refine ⟨⟨t.val - 1, by have := t.isLt; omega⟩, by show t.val - 1 + 1 = t.val; omega, h1.trans (expertBefore_eq f t _ (by show t.val - 1 + 1 = t.val; omega))⟩

/-- What the scratch buffers hold after a point is the weights of the point's expert, if before it they held those of the point before. -/
theorem weightsUp_eq (hO : Ok m) (c : Dev nD) (t : Fin (cfgM m hO).N) (d : Vec F S1024x2048 .bf16)
    (hd : ∀ s : Fin (cfgM m hO).N, s.val + 1 = t.val → d = k0_pay1 (upBlk m hO c s)) :
    weightsUp (grid0.coords t) (tbl m 0) (upBlk m hO c t) d = k0_pay1 (upBlk m hO c t) := by
  unfold weightsUp
  split
  · rfl
  · next h =>
    obtain ⟨s, hs, he⟩ := kept (tbl m 0) t h
    rw [hd s hs, upBlk_congr m hO c t s he]
theorem weightsDown_eq (hO : Ok m) (c : Dev nD) (t : Fin (cfgM m hO).N) (d : Vec F S1024x1024 .bf16)
    (hd : ∀ s : Fin (cfgM m hO).N, s.val + 1 = t.val → d = k0_pay2 (downBlk m hO c s)) :
    weightsDown (grid0.coords t) (tbl m 0) (downBlk m hO c t) d = k0_pay2 (downBlk m hO c t) := by
  unfold weightsDown
  split
  · rfl
  · next h =>
    obtain ⟨s, hs, he⟩ := kept (tbl m 0) t h
    rw [hd s hs, downBlk_congr m hO c t s he]

end Cert.Kernel2Ideal.Hand

end
-- ==== Proof.Experts.Frame.lean ====
/- The run of the experts call: the proof data of its pipeline, the run of the whole launch, and its frame. -/
module

public import proofs.«01_k».proof.Proof.Experts.Blocks
public import Idealize.ShloMosaic.Lib.Claim

@[expose] public section

set_option maxRecDepth 16384

noncomputable section

namespace Cert.Kernel2Ideal.Hand

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body leaves in the output's buffer at point `t`. -/
def outsAt (hO : Ok m) (c : Dev nD) (t : Fin (cfgM m hO).N) : Vec F S512x1024 .bf16 :=
  outBlk (grid0.coords t) (tbl m 1) (rowsBlk m hO c t) (k0_pay1 (upBlk m hO c t)) (upBiasBlk m hO c t) (k0_pay2 (downBlk m hO c t)) (downBiasBlk m hO c t)

/-- Between points: the scratch buffers hold the weights of the last point's expert (before the first point, anything). -/
def Held (hO : Ok m) (c : Dev nD) (t : Fin ((cfgM m hO).N + 1)) : sProp 𝕄 :=
  iprop(∃ d0 d1, ⌜(∀ s : Fin (cfgM m hO).N, s.val + 1 = t.val → d0 = k0_pay1 (upBlk m hO c s)) ∧ ∀ s : Fin (cfgM m hO).N, s.val + 1 = t.val → d1 = k0_pay2 (downBlk m hO c s)⌝
    ∗ owns (c : Thread nD τ) scM0_0 fullShare d0 ∗ owns (c : Thread nD τ) scM0_1 fullShare d1 ∗ (∃ r, prngReg c r) ∗ Pipeline.ΦT pre0 (tbl m) c)

/-- The proof data of the one pipeline on core `c`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => (outsAt m hO c t)
  Φ t := Held m hO c t
  q _ := fullShare
  owed _ := 0

theorem A_eq (hO : Ok m) (c : Dev nD) (w : Fin (cfgM m hO).W) : (dats m hO 0 c).A w = V m c (Pipeline.arrRef spec0 w) := by
  dsimp only [dats]

/-- What the body leaves, window by window. -/
theorem after0_0 (hO : Ok m) (c : Dev nD) (t : Fin (cfgM m hO).N) : (dats m hO 0 c).after 0 t = iblk m hO c 0 t := by dsimp only [dats]; rfl
theorem after0_1 (hO : Ok m) (c : Dev nD) (t : Fin (cfgM m hO).N) : (dats m hO 0 c).after 1 t = iblk m hO c 1 t := by dsimp only [dats]; rfl
theorem after0_2 (hO : Ok m) (c : Dev nD) (t : Fin (cfgM m hO).N) : (dats m hO 0 c).after 2 t = iblk m hO c 2 t := by dsimp only [dats]; rfl
theorem after0_3 (hO : Ok m) (c : Dev nD) (t : Fin (cfgM m hO).N) : (dats m hO 0 c).after 3 t = iblk m hO c 3 t := by dsimp only [dats]; rfl
theorem after0_4 (hO : Ok m) (c : Dev nD) (t : Fin (cfgM m hO).N) : (dats m hO 0 c).after 4 t = iblk m hO c 4 t := by dsimp only [dats]; rfl
theorem after0_5 (hO : Ok m) (c : Dev nD) (t : Fin (cfgM m hO).N) : (dats m hO 0 c).after 5 t = outsAt m hO c t := by dsimp only [dats]; rfl

/-- Each input's current staging buffer holds its block at every point. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t))

set_option maxHeartbeats 1000000 in
/-- The body at any point. -/
theorem sound_body (hO : Ok m) (c : Dev nD) (t : Fin (cfgM m hO).N) :
    bodyPre m hO c t ⊢ wp frame (wpE (defs₀ (F := F)) Variants.nat c none) Set.univ (bodyAt0 m hO t) (fun _ => bodyPost m hO c t) := by
  unfold bodyPre bodyPost bodyAt0
  simp only [before0_0, before0_1, before0_2, before0_3, before0_4]
  rw [show (dats m hO 0 c).owesAt () t.succ = (dats m hO 0 c).owesAt () t.castSucc from rfl,
    after0_0, after0_1, after0_2, after0_3, after0_4, after0_5]
  rw [show (dats m hO 0 c).Φ t.castSucc = Held m hO c t.castSucc from rfl, show (dats m hO 0 c).Φ t.succ = Held m hO c t.succ from rfl]
  unfold Held outsAt
  rw [PhiT0_eq]
  iintro ⟨⟨%d0, %d1, %hd, HS0, HS1, Hg, HT0, HT1⟩, Ho, ⟨%e0, H0⟩, ⟨%e1, H1⟩, ⟨%e2, H2⟩, ⟨%e3, H3⟩, ⟨%e4, H4⟩, ⟨%e5, H5⟩⟩
  have hu := weightsUp_eq m hO c t d0 hd.1
  have hw := weightsDown_eq m hO c t d1 hd.2
  iapply (kernel_run c (grid0.coords t) _ _ _ _ _ _ _ _ _ _ _ _ _ _ _ _ (rowsBlk m hO c t) (upBlk m hO c t) (upBiasBlk m hO c t) (downBlk m hO c t) (downBiasBlk m hO c t) d0 d1 (tbl m 0) (tbl m 1) Set.univ _)
  rw [hu, hw]
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HT0]; · iexact HT0
  isplitl [HT1]; · iexact HT1
  iintro ⟨H0, H1, H2, H3, H4, H5, HS0, HS1, HT0, HT1⟩
  isplitl [HS0 HS1 Hg HT0 HT1]
  · iexists _; iexists _
    isplitr
    swap
    · isplitl [HS0]; · iexact HS0
      isplitl [HS1]; · iexact HS1
      isplitl [Hg]; · iexact Hg
      isplitl [HT0]; · iexact HT0
      iexact HT1
    · ipureintro
      have hs : ∀ s : Fin (cfgM m hO).N, s.val + 1 = t.succ.val → s = t := fun s h => Fin.ext (Nat.succ.inj h)
      exact ⟨fun s h => by rw [hs s h], fun s h => by rw [hs s h]⟩
  isplitl [Ho]; · iexact Ho
  isplitl [H0]; · iexact H0
  isplitl [H1]; · iexact H1
  isplitl [H2]; · iexact H2
  isplitl [H3]; · iexact H3
  isplitl [H4]; · iexact H4
  iexact H5

/-- At every point the body stores into the output's buffer: a block is used or it is not. -/
theorem not_idle (i : grid0.Coords) (v : BitVec 32) : (!(k0_cond2 i v == 1#1) && !(k0_cond3 i v == 1#1)) = false := by
  by_cases h : k0_cond3 i v = 1#1
  · rw [h]; simp only [beq_self_eq_true, Bool.not_true, Bool.and_false]
  · rw [cond2_of_not_cond3 i v h]; simp only [beq_self_eq_true, Bool.not_true, Bool.false_and]
theorem idle0_5 (pf : pre0.Contents (Elt F)) (i : grid0.Coords) : idle0 pf 5 i = false := not_idle i (pf.atD 1 ![0])
theorem idle_eq (hO : Ok m) : (cfgM m hO).idle = idle0 (tbl m) := rfl
theorem idle5 (hO : Ok m) (i : grid0.Coords) : (cfgM m hO).idle 5 i = false := (congrFun (congrFun (idle_eq m hO) 5) i).trans (idle0_5 (tbl m) i)

/-- The library's body obligation, at every point. -/
theorem body_obligation (hO : Ok m) (c : Dev nD) : BodyObligation (dats m hO 0 c) (defs₀ (F := F)) Variants.nat () Set.univ := fun t => by
  rw [bigSep_W0, bigSep_W0, defs₀_row]
  rw [idle5]
  exact triple_restated (sound_body m hO c t) rfl .rfl fun _ => .rfl

/-! ## The run and the frame -/

/-- The invariant is entered from the launch, -/
theorem held_in (hO : Ok m) (c : Dev nD) : iprop(Pipeline.ΦA spec0 c ∗ Pipeline.ΦT pre0 (tbl m) c) ⊢ (Held m hO c 0 : sProp 𝕄) := by
  unfold Held
  rw [PhiA0_eq]
  iintro ⟨⟨⟨⟨%d0, HS0⟩, ⟨%d1, HS1⟩⟩, Hg⟩, HT⟩
  iexists d0; iexists d1
  isplitr
  swap
  · isplitl [HS0]; · iexact HS0
    isplitl [HS1]; · iexact HS1
    isplitl [Hg]; · iexact Hg
    iexact HT
  · ipureintro
    exact ⟨fun s h => absurd h (Nat.succ_ne_zero _), fun s h => absurd h (Nat.succ_ne_zero _)⟩

/-- and left at the end. -/
theorem held_out (hO : Ok m) (c : Dev nD) (t) : (Held m hO c t : sProp 𝕄) ⊢ Pipeline.ΦA spec0 c := by
  unfold Held
  rw [PhiA0_eq]
  iintro ⟨%d0, %d1, %hd, HS0, HS1, Hg, HT⟩
  isplitl [HS0 HS1]
  · isplitl [HS0]
    · iexists _; iexact HS0
    iexists _; iexact HS1
  iexact Hg

set_option backward.isDefEq.respectTransparency.types false in
/-- THE LAUNCH, with every semaphore counter of the machine at zero at every final state. -/
theorem run_main_quiescent (hO : Ok m) : θ_run defs (onTc (τ := τ) (main (F := F))) (s₀ m ρ)
    (fun r => (Pipeline.FramePost (Pipeline.pin (pcfgs (F := F)) fun _ => adm m hO) (dats m hO) 0 (V m)) r ∧ r.2.sem = fun _ => 0) :=
  Pipeline.θ_run_frameP_track (Q' := _) (pcfgs (F := F)) (fun _ => adm m hO) (dats m hO) (0 : Fin 1) launch0 defs₀ Variants.nat m ρ main
    (hbody := fun c => (body_obligation m hO c).loose) (hshare := fun c => (dats m hO 0 c).share_full fun _ => rfl)
    (howed := fun _ _ => rfl) (V := V m) (hmain := hmain m Variants.nat) (hA := A_eq m hO) (hpf := V_pre m)
    (hin := held_in m hO) (hout := fun c => held_out m hO c _)

theorem run_main (hO : Ok m) : θ_run defs (onTc (τ := τ) (main (F := F))) (s₀ m ρ)
    (Pipeline.FramePost (Pipeline.pin (pcfgs (F := F)) fun _ => adm m hO) (dats m hO) 0 (V m)) :=
  (θ_run defs _ _).mono (fun _ h => h.1) (run_main_quiescent m ρ hO)

/-- The argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats m hO 0 c).arrAt_in 0 rfl _).trans (V_main_arg0 m c)),
      ((h c).2 main_arg1 (Pipeline.mem_restRefs_of main_arg1 (by decide) (show ∀ w : Fin 6, (spec0 w).arr.view.ref ≠ main_arg1 by decide))).trans (V_main_arg1 m c),
      ((h c).2 main_arg2 (Pipeline.mem_restRefs_of main_arg2 (by decide) (show ∀ w : Fin 6, (spec0 w).arr.view.ref ≠ main_arg2 by decide))).trans (V_main_arg2 m c),
      ((h c).1 1).trans (((dats m hO 0 c).arrAt_in 1 rfl _).trans (V_main_arg3 m c)),
      ((h c).2 main_arg4 (Pipeline.mem_restRefs_of main_arg4 (by decide) (show ∀ w : Fin 6, (spec0 w).arr.view.ref ≠ main_arg4 by decide))).trans (V_main_arg4 m c),
      ((h c).1 3).trans (((dats m hO 0 c).arrAt_in 3 rfl _).trans (V_main_arg5 m c)),
      ((h c).2 main_arg6 (Pipeline.mem_restRefs_of main_arg6 (by decide) (show ∀ w : Fin 6, (spec0 w).arr.view.ref ≠ main_arg6 by decide))).trans (V_main_arg6 m c)⟩) (run_main m ρ hO)

/-- The frame: every run ends with the arguments unchanged and every semaphore counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO) ((θ_run defs _ _).mono (fun _ h => h.2) (run_main_quiescent m ρ hO))

end Cert.Kernel2Ideal.Hand

end
-- ==== Proof.Experts.Pre.lean ====
/- What the precondition says of the experts' table, and that with it every window's block lies in its array. -/
module

public import proofs.«01_k».proof.Proof.Experts.Frame
public import proofs.«01_k».proof.Proof.Gen.Pre_experts_in_range
public import proofs.«01_k».proof.Defs
public import Idealize.ShloMosaic.Lib.StableHlo.Predicate

@[expose] public section

set_option maxRecDepth 16384

noncomputable section

namespace Cert.Kernel2Ideal.Hand

open Cert.Kernel2Ideal.Gen
open Idealize.ShloMosaic Idealize.ShloMosaic.TcCoe

variable {F : FTy → Type} [FloatOps F]

/-- The precondition, entry by entry: an expert's number is one of the 32. -/
theorem range_of_pre (x0 : IVec S147456x512 32) (x1 : IVec S288 32) (x2 : IVec S1 32) (x3 : FVec F S2x32x1024x2048 .f32) (x4 : FVec F S32x2048 .f32)
    (x5 : FVec F S2x32x1024x1024 .f32) (x6 : FVec F S32x1024 .f32) (h : Cert.Pre_experts_in_range.fn (F := F) x0 x1 x2 x3 x4 x5 x6 = fun _ => 1#1) (y : S288.Idx) :
    0 ≤ (x1 y).toInt ∧ (x1 y).toInt < 32 := by
  have hy : Scalar.andi (Scalar.cmpi .sge (x1 y) 0#32) (Scalar.cmpi .slt (x1 y) 32#32) = 1#1 := congrFun h y
  have key : ∀ a b : Bool, Scalar.andi (BitVec.ofBool a) (BitVec.ofBool b) = 1#1 → a = true ∧ b = true := by decide
  obtain ⟨h1, h2⟩ := key _ _ hy
  refine ⟨?_, ?_⟩
  · have := of_decide_eq_true h1
    simpa using this
  · have := of_decide_eq_true h2
    simpa using this

theorem toNat_lt (w : BitVec 32) (h : 0 ≤ w.toInt ∧ w.toInt < 32) : w.toNat < 32 := by
  have h0 := h.1
  have h1 := h.2
  rw [BitVec.toInt_eq_toNat_cond] at h0 h1
  have := w.isLt
  split at h0 <;> omega

theorem toInt_toNat (w : BitVec 32) (h : 0 ≤ w.toInt ∧ w.toInt < 32) : w.toInt.toNat = w.toNat := by
  have h0 := h.1
  rw [BitVec.toInt_eq_toNat_cond] at h0 ⊢
  have := w.isLt
  split at h0 <;> split <;> omega

/-- With the experts in range every window's block lies in its array. -/
theorem ok_of_lt (pf : pre0.Contents (Elt F)) (h : ∀ i : grid0.Coords, (expertAt i (pf 0)).toNat < 32) : ok0 pf := by
  refine ⟨fun i => ⟨fun a => ?_, .inl rfl⟩, fun i => ⟨fun a => ?_, .inl rfl⟩, fun i => ⟨fun a => ?_, .inl rfl⟩, fun i => ⟨fun a => ?_, .inl rfl⟩⟩
  · have e : cc0_transform_1 k0_off1_inb numel1_S1 pf i = ![0, (expertAt i (pf 0)).toNat, 0, 0] := rfl
    have hi := h i
    rw [e]
    match a with
    | ⟨0, _⟩ => show (0 + 1) * 1 ≤ 2; omega
    | ⟨1, _⟩ => show ((expertAt i (pf 0)).toNat + 1) * 1 ≤ 32; omega
    | ⟨2, _⟩ => show (0 + 1) * 1024 ≤ 1024; omega
    | ⟨3, _⟩ => show (0 + 1) * 2048 ≤ 2048; omega
  · have e : cc0_transform_2 k0_off1_inb numel1_S1 pf i = ![(expertAt i (pf 0)).toNat, 0, 0] := rfl
    have hi := h i
    rw [e]
    match a with
    | ⟨0, _⟩ => show ((expertAt i (pf 0)).toNat + 1) * 1 ≤ 32; omega
    | ⟨1, _⟩ => show (0 + 1) * 1 ≤ 1; omega
    | ⟨2, _⟩ => show (0 + 1) * 2048 ≤ 2048; omega
  · have e : cc0_transform_3 k0_off1_inb numel1_S1 pf i = ![0, (expertAt i (pf 0)).toNat, 0, 0] := rfl
    have hi := h i
    rw [e]
    match a with
    | ⟨0, _⟩ => show (0 + 1) * 1 ≤ 2; omega
    | ⟨1, _⟩ => show ((expertAt i (pf 0)).toNat + 1) * 1 ≤ 32; omega
    | ⟨2, _⟩ => show (0 + 1) * 1024 ≤ 1024; omega
    | ⟨3, _⟩ => show (0 + 1) * 1024 ≤ 1024; omega
  · have e : cc0_transform_4 k0_off1_inb numel1_S1 pf i = ![(expertAt i (pf 0)).toNat, 0, 0] := rfl
    have hi := h i
    rw [e]
    match a with
    | ⟨0, _⟩ => show ((expertAt i (pf 0)).toNat + 1) * 1 ≤ 32; omega
    | ⟨1, _⟩ => show (0 + 1) * 1 ≤ 1; omega
    | ⟨2, _⟩ => show (0 + 1) * 1024 ≤ 1024; omega

variable (m : (ℓ : Loc nD τ sig) → Buf (Elt F) ℓ) (ρ : Dev nD → PrngReg)

/-- The experts' table and the count of used blocks of device `c`. -/
abbrev experts (c : Dev nD) : IVec S288 32 := m ((c.tc : Thread nD τ).loc main_arg1)

theorem tbl_0 : (tbl m 0 : IVec S288 32) = experts m 0 := V_main_arg1 m 0

/-- The precondition on every device, over any values. -/
abbrev InRange : Prop := ∀ c : Dev nD, Cert.Pre_experts_in_range.fn (F := F) (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4)) (m ((c.tc : Thread nD τ).loc main_arg5))
  (m ((c.tc : Thread nD τ).loc main_arg6)) = fun _ => 1#1

theorem in_range (h : InRange m) (y : S288.Idx) : 0 ≤ ((tbl m 0 : IVec S288 32) y).toInt ∧ ((tbl m 0 : IVec S288 32) y).toInt < 32 := by
  rw [tbl_0]
  exact range_of_pre _ _ _ _ _ _ _ (h 0) y

theorem ok_of_pre (h : InRange m) : Ok m := ok_of_lt _ fun i => toNat_lt _ (in_range m h _)

end Cert.Kernel2Ideal.Hand

end
-- ==== Proof.Experts.Frames.lean ====
/- The frames of the two kernels and the reference of the experts' call. -/
module

public import proofs.«01_k».proof.Proof.Experts.Pre
public import proofs.«01_k».proof.Proof.Gen.Kernel2
public import proofs.«01_k».proof.Proof.Gen.Reference2Ideal.Run
public import Idealize.ShloMosaic.Adequacy
public import Idealize.ShloMosaic.Init

@[expose] public section

set_option maxRecDepth 16384
set_option maxHeartbeats 1000000

noncomputable section

namespace Cert.Proof

open Idealize.ShloMosaic Idealize.ShloMosaic.TcCoe Idealize.SL.Sem

/-- The two kernels have the same bodies, the same calls and the same main. -/
theorem calls_eq : Cert.Kernel2.pcfgs (F := Bits) = Cert.Kernel2Ideal.pcfgs (F := Bits) := rfl
theorem bodies_eq : Cert.Kernel2.defs₀ (F := Bits) = Cert.Kernel2Ideal.defs₀ (F := Bits) := by
  unfold Cert.Kernel2.defs₀ Cert.Kernel2Ideal.defs₀
  refine congrArg Defs.onTc (funext fun l => ?_)
  obtain rfl : l = 0 := Subsingleton.elim _ _
  refine funext fun p => ?_
  rfl
theorem defs_eq : Cert.Kernel2.defs (F := Bits) = Cert.Kernel2Ideal.defs (F := Bits) := by
  unfold Cert.Kernel2.defs Cert.Kernel2Ideal.defs
  exact congrArg (Pipeline.defs (Cert.Kernel2Ideal.pcfgs (F := Bits))) bodies_eq
theorem main_eq : Cert.Kernel2.main (F := Bits) = Cert.Kernel2Ideal.main (F := Bits) := rfl
theorem pre_eq (m : (ℓ : Loc Cert.Kernel2.nD Cert.Kernel2.τ Cert.Kernel2.sig) → Buf (Elt Bits) ℓ) (h : Pre_Kernel2 m) : Cert.Kernel2Ideal.Hand.InRange (F := Bits) m := h

/-- The experts' kernel runs as the ideal one does, whose text it shares. -/
theorem frame_experts : Cert.quiescent_Kernel2 := by
  intro m ρ h
  rw [defs_eq, main_eq]
  exact Cert.Kernel2Ideal.Hand.frame (F := Bits) m ρ (Cert.Kernel2Ideal.Hand.ok_of_pre (F := Bits) m (pre_eq m h))

theorem frame_experts_ideal : Cert.quiescent_Kernel2Ideal := fun m ρ h =>
  Cert.Kernel2Ideal.Hand.frame m ρ (Cert.Kernel2Ideal.Hand.ok_of_pre m h)

/-- The reference leaves its arguments, and it has no semaphore. -/
theorem frame_experts_reference : Cert.quiescent_Reference2Ideal := fun m ρ _ =>
  (θ_run Cert.Reference2Ideal.defs _ _).mono (fun r h => ⟨fun c => (h c).2, sem_eq_zero_of_no_sems (by decide) r.2⟩) (Cert.Reference2Ideal.Value.run (F := Ideal) m ρ)
theorem frame_experts_reference_pre : Cert.quiescent_Reference2Ideal_pre_experts_in_range := fun m ρ _ =>
  (θ_run Cert.Reference2Ideal.defs _ _).mono (fun r h => ⟨fun c => (h c).2, sem_eq_zero_of_no_sems (by decide) r.2⟩) (Cert.Reference2Ideal.Value.run (F := Ideal) m ρ)

end Cert.Proof

end
-- ==== Proof.Experts.Row.lean ====
/- One row through one expert, over the extended reals, and that the kernel's block computes it. -/
module

public import proofs.«01_k».proof.Proof.Experts.Body
public import Idealize.ShloMosaic.Lib.MatmulPlain
public import Idealize.ShloMosaic.Lib.ValueLayout
public import Idealize.ShloMosaic.Lib.ValueIdx
public import Idealize.ShloMosaic.Lib.Pipeline.ValueKit

@[expose] public section

set_option maxRecDepth 16384

noncomputable section

namespace Cert.Experts

open Idealize.ShloMosaic hiding ix0 ix1 ix2 ix3 ix4 ix5
open Idealize.ShloMosaic.ValueIdx

/-- A row of 512 words is 1024 numbers: the words' lower halves, then their upper halves. -/
def unpack (u : Fin 512 → BitVec 32) (d : Fin 1024) : EReal :=
  if h : d.val < 512 then Ideal.ofBits .f32 (u ⟨d.val, h⟩ <<< 16#32)
  else Ideal.ofBits .f32 (IntOp.andi (u ⟨d.val - 512, by omega⟩) 4294901760#32)

/-- The hidden values of a row: a product with the up weights, and the bias. -/
def hiddens (X : Fin 1024 → EReal) (W : Fin 1024 → Fin 2048 → EReal) (b : Fin 2048 → EReal) (f : Fin 2048) : EReal :=
  ∑ d : Fin 1024, X d * W d f + b f

/-- The gate, clipped from above at 7, times its own logistic function (of 1.702 times it), times one more than the other half clipped to [-7, 7]. -/
def gated (g u : EReal) : EReal :=
  min g (Ideal.ofBits .f32 0x40E00000#32) * Ideal.logistic (min g (Ideal.ofBits .f32 0x40E00000#32) * Ideal.ofBits .f32 0x3FD9DB23#32)
    * (min (Ideal.ofBits .f32 0x40E00000#32) (max (Ideal.ofBits .f32 0xC0E00000#32) u) + 1)

/-- The activations of a row. -/
def active (X : Fin 1024 → EReal) (W : Fin 1024 → Fin 2048 → EReal) (b : Fin 2048 → EReal) (k : Fin 1024) : EReal :=
  gated (hiddens X W b ⟨k.val, by omega⟩) (hiddens X W b ⟨1024 + k.val, by omega⟩)

/-- The expert's answer to a row, column `c`. -/
def row (X : Fin 1024 → EReal) (W : Fin 1024 → Fin 2048 → EReal) (b : Fin 2048 → EReal) (D : Fin 1024 → Fin 1024 → EReal) (e : Fin 1024 → EReal) (c : Fin 1024) : EReal :=
  ∑ k : Fin 1024, active X W b k * D k c + e c

/-- The expert of a block, from the table of the blocks' experts (whose entries are below 32). -/
def expertOf (x1 : (⟨1, ![288]⟩ : Shape).Idx → BitVec 32) (b : Fin 288) : Fin 32 := ⟨(x1 (ix1 b)).toNat % 32, Nat.mod_lt _ (by decide)⟩

/-- The block of a row: 512 rows each. -/
def blockOf (R : Fin 147456) : Fin 288 := ⟨R.val / 512, by omega⟩

/-- Entry `(R, c)` of the result: nothing where the row's block is not below the number of used blocks, and otherwise the answer of the block's expert to the row. -/
def answer (x0 : (⟨2, ![147456, 512]⟩ : Shape).Idx → BitVec 32) (x1 : (⟨1, ![288]⟩ : Shape).Idx → BitVec 32) (x2 : (⟨1, ![1]⟩ : Shape).Idx → BitVec 32)
    (x3 : (⟨4, ![2, 32, 1024, 2048]⟩ : Shape).Idx → EReal) (x4 : (⟨2, ![32, 2048]⟩ : Shape).Idx → EReal)
    (x5 : (⟨4, ![2, 32, 1024, 1024]⟩ : Shape).Idx → EReal) (x6 : (⟨2, ![32, 1024]⟩ : Shape).Idx → EReal) (R : Fin 147456) (c : Fin 1024) : EReal :=
  if (x2 (ix1 (0 : Fin 1))).toInt ≤ ((blockOf R).val : Int) then 0
  else row (unpack fun j => x0 (ix2 R j)) (fun d f => x3 (ix4 (0 : Fin 2) (expertOf x1 (blockOf R)) d f)) (fun f => x4 (ix2 (expertOf x1 (blockOf R)) f))
    (fun k c => x5 (ix4 (0 : Fin 2) (expertOf x1 (blockOf R)) k c)) (fun c => x6 (ix2 (expertOf x1 (blockOf R)) c)) c

/-- A sum over 1024 is the sum over the first 512 and the sum over the last 512. -/
theorem sum_halves (f : Fin 1024 → EReal) :
    ∑ d : Fin 512, f ⟨d.val, by omega⟩ + ∑ d : Fin 512, f ⟨512 + d.val, by omega⟩ = ∑ d : Fin 1024, f d :=
  (Fin.sum_univ_add (a := 512) (b := 512) f).symm

end Cert.Experts

namespace Cert.Kernel2Ideal.Hand

open Cert.Kernel2Ideal Cert.Kernel2Ideal.Gen Cert.Experts
open Idealize.ShloMosaic hiding ix0 ix1 ix2 ix3 ix4 ix5
open Idealize.ShloMosaic.TcCoe Idealize.ShloMosaic.ValueIdx

/-- The hidden values of a block, as the kernel computes them: a product over each half of the columns. -/
def hids (x : IVec S512x512 32) (wu wl : FVec Ideal S512x2048 .bf16) (b : FVec Ideal S1x1x2048 .f32) : FVec Ideal S512x2048 .f32 :=
  addf (addf
    (matmul dot_S512x512_S512x2048_S512x2048_1_0_0_1_n_n none (truncf .bf16 (bitcastToFloat .f32 (shli x (broadcast S512x512 16#32)) : FVec Ideal S512x512 .f32) bitsLt_bf16_f32) wu (constant S512x2048 .f32 0x00000000#32))
    (matmul dot_S512x512_S512x2048_S512x2048_1_0_0_1_n_n none (truncf .bf16 (bitcastToFloat .f32 (andi x (broadcast S512x512 4294901760#32)) : FVec Ideal S512x512 .f32) bitsLt_bf16_f32) wl (constant S512x2048 .f32 0x00000000#32)))
    (broadcastTo S512x2048 (shapeCast S1x2048 b shapeCasts_S1x1x2048_S1x2048) broadcasts_S1x2048_S512x2048)

/-- The activations of a block. -/
def acts (h : FVec Ideal S512x2048 .f32) : FVec Ideal S512x1024 .f32 :=
  mulf (mulf (minimumf (extractStridedSlice S512x1024 ![0, 0] h slices_S512x2048_o0_0_S512x1024) (broadcast S512x1024 (Scalar.ofBits .f32 0x40E00000#32)))
      (logistic (mulf (minimumf (extractStridedSlice S512x1024 ![0, 0] h slices_S512x2048_o0_0_S512x1024) (broadcast S512x1024 (Scalar.ofBits .f32 0x40E00000#32))) (broadcast S512x1024 (Scalar.ofBits .f32 0x3FD9DB23#32)))))
    (addf (minimumf (broadcast S512x1024 (Scalar.ofBits .f32 0x40E00000#32)) (maximumf (broadcast S512x1024 (Scalar.ofBits .f32 0xC0E00000#32)) (extractStridedSlice S512x1024 ![0, 1024] h slices_S512x2048_o0_1024_S512x1024)))
      (broadcast S512x1024 (Scalar.ofBits .f32 0x3F800000#32)))

theorem pay5_eq (x : IVec S512x512 32) (wu wl : FVec Ideal S512x2048 .bf16) (b : FVec Ideal S1x1x2048 .f32) (d : FVec Ideal S1024x1024 .bf16) :
    k0_pay5 (F := Ideal) x wu wl b d
      = matmul dot_S512x1024_S1024x1024_S512x1024_1_0_0_1_n_n none (truncf .bf16 (acts (hids x wu wl b)) bitsLt_bf16_f32) d (constant S512x1024 .f32 0x00000000#32) := rfl

theorem hids_apply (x : IVec S512x512 32) (wu wl : FVec Ideal S512x2048 .bf16) (b : FVec Ideal S1x1x2048 .f32) (W : Fin 1024 → Fin 2048 → EReal)
    (hu : ∀ (d : Fin 512) f, wu (ix2 d f) = W ⟨d.val, by omega⟩ f) (hl : ∀ (d : Fin 512) f, wl (ix2 d f) = W ⟨512 + d.val, by omega⟩ f) (r : Fin 512) (f : Fin 2048) :
    hids x wu wl b (ix2 r f) = hiddens (unpack fun j => x (ix2 r j)) W (fun f => b (ix3 (0 : Fin 1) (0 : Fin 1) f)) f := by
  unfold hids hiddens
  have e1 := Ideal.matmul_plain_apply (φ₁ := .bf16) (φ₂ := .bf16) none (truncf .bf16 (bitcastToFloat .f32 (shli x (broadcast S512x512 16#32)) : FVec Ideal S512x512 .f32) bitsLt_bf16_f32) wu (constant S512x2048 .f32 0x00000000#32) r f
  have e2 := Ideal.matmul_plain_apply (φ₁ := .bf16) (φ₂ := .bf16) none (truncf .bf16 (bitcastToFloat .f32 (andi x (broadcast S512x512 4294901760#32)) : FVec Ideal S512x512 .f32) bitsLt_bf16_f32) wl (constant S512x2048 .f32 0x00000000#32) r f
  rw [show (constant S512x2048 .f32 0x00000000#32 : FVec Ideal S512x2048 .f32) (ix2 r f) = 0 from Ideal.ofBits_zero_f32, zero_add] at e1 e2
  refine congrArg₂ (· + ·) ((congrArg₂ (· + ·) e1 e2).trans ?_) ?_
  · rw [← sum_halves fun d => unpack (fun j => x (ix2 r j)) d * W d f]
    refine congrArg₂ (· + ·) (Finset.sum_congr rfl fun d _ => ?_) (Finset.sum_congr rfl fun d _ => ?_)
    · rw [hu]
      refine congrArg (· * _) ?_
      unfold unpack
      rw [dif_pos d.isLt]
      rfl
    · rw [hl]
      refine congrArg (· * _) ?_
      unfold unpack
      rw [dif_neg (by show ¬ 512 + d.val < 512; omega)]
      show Ideal.ofBits .f32 (IntOp.andi (x (ix2 r d)) 4294901760#32) = _
      refine congrArg (fun j : Fin 512 => Ideal.ofBits .f32 (IntOp.andi (x (ix2 r j)) 4294901760#32)) (Fin.ext ?_)
      show d.val = 512 + d.val - 512
      omega
  · refine (broadcastTo_apply _ _ (ix2 r f) (ix2 (0 : Fin 1) f) ?_).trans (shapeCast_1ab_ab_apply b _ 0 f)
    intro a
    match a with
    | ⟨0, _⟩ => rfl
    | ⟨1, _⟩ => rfl

theorem acts_apply (h : FVec Ideal S512x2048 .f32) (r : Fin 512) (k : Fin 1024) :
    acts h (ix2 r k) = gated (h (ix2 r (⟨k.val, by omega⟩ : Fin 2048))) (h (ix2 r (⟨1024 + k.val, by omega⟩ : Fin 2048))) := by
  have e1 : extractStridedSlice S512x1024 ![0, 0] h slices_S512x2048_o0_0_S512x1024 (ix2 r k) = h (ix2 r (⟨k.val, by omega⟩ : Fin 2048)) :=
    extractStridedSlice_apply _ _ _ _ _ fun a => by
      match a with
      | ⟨0, _⟩ => show r.val = 0 + r.val; omega
      | ⟨1, _⟩ => show k.val = 0 + k.val; omega
  have e2 : extractStridedSlice S512x1024 ![0, 1024] h slices_S512x2048_o0_1024_S512x1024 (ix2 r k) = h (ix2 r (⟨1024 + k.val, by omega⟩ : Fin 2048)) :=
    extractStridedSlice_apply _ _ _ _ _ fun a => by
      match a with
      | ⟨0, _⟩ => show r.val = 0 + r.val; omega
      | ⟨1, _⟩ => show 1024 + k.val = 1024 + k.val; rfl
  unfold gated
  rw [← e1, ← e2, ← Ideal.ofBits_one_f32]
  rfl

/-- An entry of what the body stores in a used block. -/
theorem used_apply (x : IVec S512x512 32) (wu wl : FVec Ideal S512x2048 .bf16) (b : FVec Ideal S1x1x2048 .f32) (d : FVec Ideal S1024x1024 .bf16) (e : FVec Ideal S1x1x1024 .f32)
    (W : Fin 1024 → Fin 2048 → EReal)
    (hu : ∀ (d : Fin 512) f, wu (ix2 d f) = W ⟨d.val, by omega⟩ f) (hl : ∀ (d : Fin 512) f, wl (ix2 d f) = W ⟨512 + d.val, by omega⟩ f) (r : Fin 512) (c : Fin 1024) :
    k0_pay3 (F := Ideal) (k0_pay5 x wu wl b d) e (ix2 r c)
      = row (unpack fun j => x (ix2 r j)) W (fun f => b (ix3 (0 : Fin 1) (0 : Fin 1) f)) (fun k c => d (ix2 k c)) (fun c => e (ix3 (0 : Fin 1) (0 : Fin 1) c)) c := by
  unfold row
  refine congrArg₂ (fun p q : EReal => p + q) ?_ ?_
  · rw [pay5_eq]
    refine (Ideal.matmul_plain_apply (φ₁ := .bf16) (φ₂ := .bf16) none _ _ _ r c).trans ?_
    rw [show (constant S512x1024 .f32 0x00000000#32 : FVec Ideal S512x1024 .f32) (ix2 r c) = 0 from Ideal.ofBits_zero_f32, zero_add]
    refine Finset.sum_congr rfl fun k _ => congrArg (· * d (ix2 k c)) ?_
    refine (acts_apply (hids x wu wl b) r k).trans ?_
    rw [hids_apply x wu wl b W hu hl, hids_apply x wu wl b W hu hl]
    rfl
  · refine (broadcastTo_apply _ _ (ix2 r c) (ix2 (0 : Fin 1) c) ?_).trans (shapeCast_1ab_ab_apply e _ 0 c)
    intro a
    match a with
    | ⟨0, _⟩ => rfl
    | ⟨1, _⟩ => rfl

end Cert.Kernel2Ideal.Hand

end
-- ==== Proof.Experts.Array.lean ====
/- The experts call's output array from its blocks: every entry of the result, from what the arguments held when the call was entered. -/
module

public import proofs.«01_k».proof.Proof.Experts.Frame
public import proofs.«01_k».proof.Proof.Experts.Pre
public import proofs.«01_k».proof.Proof.Experts.Row

@[expose] public section

set_option maxRecDepth 16384

noncomputable section

namespace Cert.Kernel2Ideal.Hand

open Cert.Kernel2Ideal Cert.Kernel2Ideal.Gen Cert.Experts
open Idealize.ShloMosaic hiding ix0 ix1 ix2 ix3 ix4 ix5
open Idealize.ShloMosaic.TcCoe Idealize.ShloMosaic.ValueIdx

variable (m : (ℓ : Loc nD τ sig) → Buf (Elt Ideal) ℓ)

/-- The arguments on device `c`. -/
abbrev rowsArg (c : Dev nD) : IVec S147456x512 32 := m ((c.tc : Thread nD τ).loc main_arg0)
abbrev tableArg (c : Dev nD) : IVec S288 32 := m ((c.tc : Thread nD τ).loc main_arg1)
abbrev usedArg (c : Dev nD) : IVec S1 32 := m ((c.tc : Thread nD τ).loc main_arg2)
abbrev upArg (c : Dev nD) : FVec Ideal S2x32x1024x2048 .f32 := m ((c.tc : Thread nD τ).loc main_arg3)
abbrev upBiasArg (c : Dev nD) : FVec Ideal S32x2048 .f32 := m ((c.tc : Thread nD τ).loc main_arg4)
abbrev downArg (c : Dev nD) : FVec Ideal S2x32x1024x1024 .f32 := m ((c.tc : Thread nD τ).loc main_arg5)
abbrev downBiasArg (c : Dev nD) : FVec Ideal S32x1024 .f32 := m ((c.tc : Thread nD τ).loc main_arg6)

/-- The result of device `c`. -/
def answers (c : Dev nD) : FVec Ideal S147456x1024 .bf16 := fun y =>
  answer (rowsArg m c) (tableArg m c) (usedArg m c) (upArg m c) (upBiasArg m c) (downArg m c) (downBiasArg m c) (y 0) (y 1)

/-- The two biases as the call reads them: the arguments with an axis of size one put in. -/
theorem upBias_eq (c : Dev nD) : (V m c main_v0 : FVec Ideal S32x1x2048 .f32) = shapeCast S32x1x2048 (upBiasArg m c) shapeCasts_S32x2048_S32x1x2048 := by
  show StableHlo.after _ _ (Proc.devRef .tc main_v0) = _
  after_results
  rfl
theorem downBias_eq (c : Dev nD) : (V m c main_v1 : FVec Ideal S32x1x1024 .f32) = shapeCast S32x1x1024 (downBiasArg m c) shapeCasts_S32x1024_S32x1x1024 := by
  show StableHlo.after _ _ (Proc.devRef .tc main_v1) = _
  after_results
  rfl

theorem expertAt_eq (f : S288.Idx → BitVec 32) (t : Fin grid0.N) : expertAt (grid0.coords t) f = f (ix1 (⟨t.val, t.isLt⟩ : Fin 288)) := by
  unfold expertAt
  refine congrArg f (funext fun a => Fin.ext ?_)
  obtain rfl : a = 0 := Subsingleton.elim _ _
  have e : k0_off1 (grid0.coords t) 0 = t.val := by rw [off1_eq]; rfl
  exact (congrArg (fun n => n + 1 * (Shape.Idx.first (s := S1) (numel1_S1.symm ▸ Nat.one_pos) 0).val) e).trans (by
    show t.val + 1 * (Shape.Idx.first (s := S1) (numel1_S1.symm ▸ Nat.one_pos) 0).val = t.val
    have := (Shape.Idx.first (s := S1) (numel1_S1.symm ▸ Nat.one_pos) 0).isLt
    have h1 : S1.size 0 = 1 := rfl
    omega)

theorem usedOf_eq (f : S1.Idx → BitVec 32) : usedOf f = f (ix1 (0 : Fin 1)) := by
  unfold usedOf
  refine congrArg f (funext fun a => ?_)
  obtain rfl : a = 0 := Subsingleton.elim _ _
  exact Subsingleton.elim (α := Fin 1) _ _

/-- The block indices of the windows that read no table, and of the biases'. -/
theorem ix_rows : ∀ t : Fin grid0.N, cc0_transform_0 (grid0.coords t) = ![t.val, 0] := by decide +kernel
theorem ix_out : ∀ t : Fin grid0.N, cc0_transform_5 (grid0.coords t) = ![t.val, 0] := by decide +kernel
theorem ix_upBias (i : grid0.Coords) : Cert.Kernel2Ideal.ix0 (tbl m) 2 i = ![(expertAt i (tbl m 0)).toNat, 0, 0] := rfl
theorem ix_downBias (i : grid0.Coords) : Cert.Kernel2Ideal.ix0 (tbl m) 4 i = ![(expertAt i (tbl m 0)).toNat, 0, 0] := rfl

section Blocks

variable (hO : Ok m) (c : Dev nD) (t : Fin (cfgM m hO).N)

theorem rowsBlk_apply (r j : Fin 512) (R : Fin 147456) (hR : R.val = t.val * 512 + r.val) : rowsBlk m hO c t (ix2 r j) = rowsArg m c (ix2 R j) := by
  have e : ∀ y, rowsBlk m hO c t y = (V m c main_arg0 : IVec S147456x512 32)
      ((Rect.block (s := S147456x512) S512x512.size (cc0_transform_0 (grid0.coords t)) (hinb0_0 _)).emb y) := fun _ => rfl
  rw [e, V_main_arg0]
  refine congrArg (rowsArg m c) (funext fun a => Fin.ext ?_)
  have h := ix_rows t
  match a with
  | ⟨0, _⟩ =>
    show cc0_transform_0 (grid0.coords t) 0 * 512 + 1 * r.val = R.val
    rw [h]
    show t.val * 512 + 1 * r.val = R.val
    omega
  | ⟨1, _⟩ =>
    show cc0_transform_0 (grid0.coords t) 1 * 512 + 1 * j.val = j.val
    rw [h]
    show 0 * 512 + 1 * j.val = j.val
    omega

variable (x : Fin 32) (hx : (expertAt (grid0.coords t) (tbl m 0)).toNat = x.val)

include hx

theorem upBlk_apply (d : Fin 1024) (f : Fin 2048) : upBlk m hO c t (ix4 (0 : Fin 1) (0 : Fin 1) d f) = upArg m c (ix4 (0 : Fin 2) x d f) := by
  rw [upBlk_eq]
  show (V m c main_arg3 : FVec Ideal S2x32x1024x2048 .f32) _ = _
  rw [V_main_arg3]
  refine congrArg (upArg m c) (funext fun a => Fin.ext ?_)
  match a with
  | ⟨0, _⟩ => rfl
  | ⟨1, _⟩ =>
    show (expertAt (grid0.coords t) (tbl m 0)).toNat * 1 + 1 * 0 = x.val
    omega
  | ⟨2, _⟩ =>
    show 0 * 1024 + 1 * d.val = d.val
    omega
  | ⟨3, _⟩ =>
    show 0 * 2048 + 1 * f.val = f.val
    omega

theorem downBlk_apply (k : Fin 1024) (f : Fin 1024) : downBlk m hO c t (ix4 (0 : Fin 1) (0 : Fin 1) k f) = downArg m c (ix4 (0 : Fin 2) x k f) := by
  rw [downBlk_eq]
  show (V m c main_arg5 : FVec Ideal S2x32x1024x1024 .f32) _ = _
  rw [V_main_arg5]
  refine congrArg (downArg m c) (funext fun a => Fin.ext ?_)
  match a with
  | ⟨0, _⟩ => rfl
  | ⟨1, _⟩ =>
    show (expertAt (grid0.coords t) (tbl m 0)).toNat * 1 + 1 * 0 = x.val
    omega
  | ⟨2, _⟩ =>
    show 0 * 1024 + 1 * k.val = k.val
    omega
  | ⟨3, _⟩ =>
    show 0 * 1024 + 1 * f.val = f.val
    omega

theorem upBiasBlk_apply (f : Fin 2048) : upBiasBlk m hO c t (ix3 (0 : Fin 1) (0 : Fin 1) f) = upBiasArg m c (ix2 x f) := by
  have e : ∀ y, upBiasBlk m hO c t y = (V m c main_v0 : FVec Ideal S32x1x2048 .f32)
      ((Rect.block (s := S32x1x2048) S1x1x2048.size (Cert.Kernel2Ideal.ix0 (tbl m) 2 (grid0.coords t)) (hinb0 (tbl m) hO 2 _)).emb y) := fun _ => rfl
  rw [e, upBias_eq]
  refine shapeCast_apply _ _ _ _ ?_
  rw [Shape.rowMajor_val_two, Shape.rowMajor_val_three]
  show x.val * 2048 + f.val = (((expertAt (grid0.coords t) (tbl m 0)).toNat * 1 + 1 * 0) * 1 + (0 * 1 + 1 * 0)) * 2048 + (0 * 2048 + 1 * f.val)
  omega

theorem downBiasBlk_apply (f : Fin 1024) : downBiasBlk m hO c t (ix3 (0 : Fin 1) (0 : Fin 1) f) = downBiasArg m c (ix2 x f) := by
  have e : ∀ y, downBiasBlk m hO c t y = (V m c main_v1 : FVec Ideal S32x1x1024 .f32)
      ((Rect.block (s := S32x1x1024) S1x1x1024.size (Cert.Kernel2Ideal.ix0 (tbl m) 4 (grid0.coords t)) (hinb0 (tbl m) hO 4 _)).emb y) := fun _ => rfl
  rw [e, downBias_eq]
  refine shapeCast_apply _ _ _ _ ?_
  rw [Shape.rowMajor_val_two, Shape.rowMajor_val_three]
  show x.val * 1024 + f.val = (((expertAt (grid0.coords t) (tbl m 0)).toNat * 1 + 1 * 0) * 1 + (0 * 1 + 1 * 0)) * 1024 + (0 * 1024 + 1 * f.val)
  omega

end Blocks

/-- What the scratch buffers keep of the weights: their entries, without the two axes of size one. -/
theorem pay1_apply (w : FVec Ideal S1x1x1024x2048 .f32) (d : Fin 1024) (f : Fin 2048) : k0_pay1 (F := Ideal) w (ix2 d f) = w (ix4 (0 : Fin 1) (0 : Fin 1) d f) := by
  unfold k0_pay1
  rw [shapeCast_self]
  refine shapeCast_apply w _ (ix2 d f) _ ?_
  rw [Shape.rowMajor_val_four, Shape.rowMajor_val_two]
  show ((0 * 1 + 0) * 1024 + d.val) * 2048 + f.val = d.val * 2048 + f.val
  omega
theorem pay2_apply (w : FVec Ideal S1x1x1024x1024 .f32) (k : Fin 1024) (f : Fin 1024) : k0_pay2 (F := Ideal) w (ix2 k f) = w (ix4 (0 : Fin 1) (0 : Fin 1) k f) := by
  unfold k0_pay2
  rw [shapeCast_self]
  refine shapeCast_apply w _ (ix2 k f) _ ?_
  rw [Shape.rowMajor_val_four, Shape.rowMajor_val_two]
  show ((0 * 1 + 0) * 1024 + k.val) * 1024 + f.val = k.val * 1024 + f.val
  omega

theorem upperRows_apply (w : FVec Ideal S1024x2048 .bf16) (d : Fin 512) (f : Fin 2048) : upperRows (F := Ideal) w (ix2 d f) = w (ix2 (⟨d.val, by omega⟩ : Fin 1024) f) := by
  unfold upperRows
  refine congrArg w (funext fun a => Fin.ext ?_)
  match a with
  | ⟨0, _⟩ => show 0 + 1 * d.val = d.val; omega
  | ⟨1, _⟩ => show 0 + 1 * f.val = f.val; omega
theorem lowerRows_apply (w : FVec Ideal S1024x2048 .bf16) (d : Fin 512) (f : Fin 2048) : lowerRows (F := Ideal) w (ix2 d f) = w (ix2 (⟨512 + d.val, by omega⟩ : Fin 1024) f) := by
  unfold lowerRows
  refine congrArg w (funext fun a => Fin.ext ?_)
  match a with
  | ⟨0, _⟩ => show 512 + 1 * d.val = 512 + d.val; omega
  | ⟨1, _⟩ => show 0 + 1 * f.val = f.val; omega

/-- The block a grid point leaves. -/
theorem outsAt_apply (hr : InRange m) (hO : Ok m) (t : Fin (cfgM m hO).N) (r : Fin 512) (k : Fin 1024) (R : Fin 147456) (hR : R.val = t.val * 512 + r.val) :
    outsAt m hO (0 : Dev nD) t (ix2 r k)
      = answer (rowsArg m 0) (tableArg m 0) (usedArg m 0) (upArg m 0) (upBiasArg m 0) (downArg m 0) (downBiasArg m 0) R k := by
  have hb : blockOf R = (⟨t.val, t.isLt⟩ : Fin 288) := Fin.ext (by show R.val / 512 = t.val; omega)
  have hu : usedOf (tbl m 1) = usedArg m 0 (ix1 (0 : Fin 1)) :=
    (usedOf_eq (tbl m 1)).trans (congrFun (show (tbl m 1 : IVec S1 32) = usedArg m 0 from V_main_arg2 m 0) _)
  have he : expertAt (grid0.coords t) (tbl m 0) = tableArg m 0 (ix1 (⟨t.val, t.isLt⟩ : Fin 288)) :=
    (expertAt_eq (tbl m 0) t).trans (congrFun (tbl_0 m) _)
  have hlt : (tableArg m 0 (ix1 (⟨t.val, t.isLt⟩ : Fin 288))).toNat < 32 := by
    rw [← he]; exact toNat_lt _ (in_range m hr _)
  have hx : (expertAt (grid0.coords t) (tbl m 0)).toNat = (expertOf (tableArg m 0) ⟨t.val, t.isLt⟩).val := by
    rw [he]; exact (Nat.mod_eq_of_lt hlt).symm
  unfold outsAt outBlk answer
  rw [hb]
  by_cases h3 : k0_cond3 (grid0.coords t) (usedOf (tbl m 1)) = 1#1
  · have h3' := (cond3_iff _ _).1 h3
    rw [coords_val, hu] at h3'
    rw [if_pos h3, if_pos h3']
    show Ideal.ofBits .bf16 0x0000#16 = 0
    simp [Ideal.ofBits, Ideal.ieee]
  · have h3' : ¬ (usedArg m 0 (ix1 (0 : Fin 1))).toInt ≤ ((t.val : ℕ) : Int) := by
      rw [← hu, ← coords_val]; exact fun h => h3 ((cond3_iff _ _).2 h)
    rw [if_neg h3, if_neg h3']
    refine (used_apply _ _ _ _ _ _ (fun d f => k0_pay1 (F := Ideal) (upBlk m hO 0 t) (ix2 d f)) (fun d f => upperRows_apply _ d f) (fun d f => lowerRows_apply _ d f) r k).trans ?_
    have e0 : (fun j => rowsBlk m hO 0 t (ix2 r j)) = fun j => rowsArg m 0 (ix2 R j) := funext fun j => rowsBlk_apply m hO 0 t r j R hR
    have e1 : (fun d f => k0_pay1 (F := Ideal) (upBlk m hO 0 t) (ix2 d f)) = fun (d : Fin 1024) (f : Fin 2048) => upArg m 0 (ix4 (0 : Fin 2) (expertOf (tableArg m 0) ⟨t.val, t.isLt⟩) d f) :=
      funext fun d => funext fun f => (pay1_apply _ d f).trans (upBlk_apply m hO 0 t _ hx d f)
    have e2 : (fun f => upBiasBlk m hO 0 t (ix3 (0 : Fin 1) (0 : Fin 1) f)) = fun (f : Fin 2048) => upBiasArg m 0 (ix2 (expertOf (tableArg m 0) ⟨t.val, t.isLt⟩) f) :=
      funext fun f => upBiasBlk_apply m hO 0 t _ hx f
    have e3 : (fun d f => k0_pay2 (F := Ideal) (downBlk m hO 0 t) (ix2 d f)) = fun (d : Fin 1024) (f : Fin 1024) => downArg m 0 (ix4 (0 : Fin 2) (expertOf (tableArg m 0) ⟨t.val, t.isLt⟩) d f) :=
      funext fun d => funext fun f => (pay2_apply _ d f).trans (downBlk_apply m hO 0 t _ hx d f)
    have e4 : (fun f => downBiasBlk m hO 0 t (ix3 (0 : Fin 1) (0 : Fin 1) f)) = fun (f : Fin 1024) => downBiasArg m 0 (ix2 (expertOf (tableArg m 0) ⟨t.val, t.isLt⟩) f) :=
      funext fun f => downBiasBlk_apply m hO 0 t _ hx f
    rw [e0, e1, e2, e3, e4]

/-- Every grid point writes its block of the output, and the blocks make up the array. -/
theorem out_index (hO : Ok m) (t : Fin (cfgM m hO).N) : ((cfgM m hO).win 5).index t = ![t.val, 0] := ix_out t
theorem out_flush_closed : ∀ t : Fin grid0.N, spec0_5.flushAt (G := grid0) cc0_transform_5 t = true := by decide +kernel
theorem out_flush (hO : Ok m) (t : Fin (cfgM m hO).N) : ((cfgM m hO).win 5).flush t = true := out_flush_closed t

theorem out_covers (hO : Ok m) : ((cfgM m hO).win 5).Covers := by
  refine ⟨(by decide : ∀ a, 0 < S512x1024.size a), fun β => ?_⟩
  have h0 : (β (0 : Fin 2)).val < (147456 + 512 - 1) / 512 := (β (0 : Fin 2)).isLt
  have h1 : (β (1 : Fin 2)).val < (1024 + 1024 - 1) / 1024 := (β (1 : Fin 2)).isLt
  have hN : (cfgM m hO).grid.N = 288 := rfl
  refine ⟨⟨(β (0 : Fin 2)).val, by rw [hN]; omega⟩, out_flush m hO _, fun a => ⟨?_, .inl rfl⟩⟩
  rw [out_index]
  match a with
  | ⟨0, _⟩ => rfl
  | ⟨1, _⟩ => show 0 = (β (1 : Fin 2)).val; omega

/-- The output array after the call. -/
theorem out_array (hr : InRange m) (hO : Ok m) (c : Dev nD) : (dats m hO 0 c).arrAt 5 (cfgM m hO).N = answers m c := by
  obtain rfl : c = 0 := Subsingleton.elim _ _
  refine (dats m hO 0 0).arrAt_eq_of_covers 5 _ (out_covers m hO) fun t hf y => ?_
  have e := out_index m hO t
  have hy : ∃ (r : Fin 512) (k : Fin 1024), y = (ix2 r k : S512x1024.Idx) := by
    refine ⟨y (0 : Fin 2), y (1 : Fin 2), funext fun a => ?_⟩
    match a with
    | ⟨0, _⟩ => rfl
    | ⟨1, _⟩ => rfl
  obtain ⟨r, k, rfl⟩ := hy
  show (dats m hO 0 0).after 5 t (ix2 r k) = _
  rw [after0_5]
  have e0 : ((((cfgM m hO).win 5).blk t).view.emb (ix2 r k) (0 : Fin 2)).val = t.val * 512 + r.val := by
    show cc0_transform_5 (grid0.coords t) 0 * 512 + 1 * r.val = _
    rw [ix_out]
    show t.val * 512 + 1 * r.val = _
    omega
  have e1 : ((((cfgM m hO).win 5).blk t).view.emb (ix2 r k) (1 : Fin 2)) = k := by
    refine Fin.ext ?_
    show cc0_transform_5 (grid0.coords t) 1 * 1024 + 1 * k.val = _
    rw [ix_out]
    show 0 * 1024 + 1 * k.val = k.val
    omega
  refine (outsAt_apply m hr hO t r k _ e0).trans ?_
  unfold answers
  rw [e1]

end Cert.Kernel2Ideal.Hand

end
-- ==== Proof.Experts.Reference.lean ====
/- The experts' reference over the extended reals: every entry of its result. -/
module

public import proofs.«01_k».proof.Proof.Experts.Row
public import proofs.«01_k».proof.Proof.Gen.Reference2Ideal.Read
public import Idealize.ShloMosaic.Lib.Routing.Ops
public import Idealize.ShloMosaic.Lib.Pipeline.Value
public import Idealize.ShloMosaic.Lib.IdealHost

@[expose] public section

set_option maxRecDepth 16384

noncomputable section

namespace Cert.Experts

open Idealize.ShloMosaic hiding ix0 ix1 ix2 ix3 ix4 ix5
open Idealize.ShloMosaic.ValueIdx

/-- The dimension numbers of a gather of whole matrices: matrix `idx (b, 0)` of `N` for each `b` of `n`. -/
abbrev matrixDims (N A B n : ℕ) (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- A gather of whole matrices, entry by entry. -/
theorem gather_matrix {α : Type} {N A B n w : ℕ} (wf : GatherDims.WF ⟨3, ![N, A, B]⟩ ⟨2, ![n, 1]⟩ ⟨3, ![n, A, B]⟩ [1, 2] [0] [] [0] [] 1 ![1, A, B])
    (x : (⟨3, ![N, A, B]⟩ : Shape).Idx → α) (idx : IVec ⟨2, ![n, 1]⟩ w) (b : Fin n) (i : Fin A) (j : Fin B) (e : Fin N) (he : (idx (ix2 b (0 : Fin 1))).toInt.toNat = e.val) :
    Host.gather (matrixDims N A B n wf) x idx (ix3 b i j) = x (ix3 e i j) := by
  unfold Host.gather
  refine congrArg x (funext fun a => Fin.ext ?_)
  show (matrixDims N A B n wf).start (ix3 b i j) idx a + (matrixDims N A B n wf).batchCoord (ix3 b i j) a + (matrixDims N A B n wf).offCoord (ix3 b i j) a = _
  rw [GatherDims.batchCoord_eq_zero _ _ _ (fun h => by simp at h), Nat.add_zero]
  match a with
  | ⟨0, _⟩ =>
    show (matrixDims N A B n wf).start (ix3 b i j) idx (0 : Fin 3) + (matrixDims N A B n wf).offCoord (ix3 b i j) (0 : Fin 3) = e.val
    rw [GatherDims.offCoord_eq_zero _ _ _ (fun h => ((GatherDims.mem_sKept _ _).mp h).1 (List.mem_singleton.mpr rfl)), Nat.add_zero]
    unfold GatherDims.start
    rw [dif_pos (show (0 : Fin 3) ∈ (matrixDims N A B n wf).startIndexMap from List.mem_singleton.mpr rfl)]
    have hsi : (matrixDims N A B n wf).siIdx (ix3 b i j) ⟨List.idxOf (0 : Fin 3) (matrixDims N A B n wf).startIndexMap, List.idxOf_lt_length_iff.2 (List.mem_singleton.mpr rfl)⟩ = ix2 b (0 : Fin 1) := by
      funext k
      refine Fin.ext ?_
      match k with
      | ⟨0, _⟩ => rfl
      | ⟨1, _⟩ => rfl
    rw [hsi, he]
    show min e.val (N - 1) = e.val
    have := e.isLt
    omega
  | ⟨1, _⟩ =>
    show (matrixDims N A B n wf).start (ix3 b i j) idx (1 : Fin 3) + (matrixDims N A B n wf).offCoord (ix3 b i j) (1 : Fin 3) = i.val
    unfold GatherDims.start GatherDims.offCoord
    rw [dif_neg (show ¬ (1 : Fin 3) ∈ ([0] : List (Fin 3)) by decide), dif_pos ((GatherDims.mem_sKept _ _).mpr ⟨by show ¬ (1 : Fin 3) ∈ ([0] : List (Fin 3)); decide, by show ¬ (1 : Fin 3) ∈ ([] : List (Fin 3)); decide⟩), Nat.zero_add]
    rfl
  | ⟨2, _⟩ =>
    show (matrixDims N A B n wf).start (ix3 b i j) idx (2 : Fin 3) + (matrixDims N A B n wf).offCoord (ix3 b i j) (2 : Fin 3) = j.val
    unfold GatherDims.start GatherDims.offCoord
    rw [dif_neg (show ¬ (2 : Fin 3) ∈ ([0] : List (Fin 3)) by decide), dif_pos ((GatherDims.mem_sKept _ _).mpr ⟨by show ¬ (2 : Fin 3) ∈ ([0] : List (Fin 3)); decide, by show ¬ (2 : Fin 3) ∈ ([] : List (Fin 3)); decide⟩), Nat.zero_add]
    rfl

end Cert.Experts

namespace Cert.Reference2Ideal.Hand

open Cert.Reference2Ideal Cert.Reference2Ideal.Gen Cert.Reference2Ideal.Read Cert.Experts
open Idealize.ShloMosaic hiding ix0 ix1 ix2 ix3 ix4 ix5
open Idealize.ShloMosaic.TcCoe Idealize.ShloMosaic.ValueIdx

variable (x0 : IVec S147456x512 32) (x1 : IVec S288 32) (x2 : IVec S1 32) (x3 : FVec Ideal S2x32x1024x2048 .f32) (x4 : FVec Ideal S32x2048 .f32)
  (x5 : FVec Ideal S2x32x1024x1024 .f32) (x6 : FVec Ideal S32x1024 .f32)

/-- The unpacked rows. -/
theorem rows_apply (R : Fin 147456) (d : Fin 1024) : val_main_v7 (F := Ideal) x0 (ix2 R d) = unpack (fun j => x0 (ix2 R j)) d := by
  unfold val_main_v7 unpack
  by_cases h : d.val < 512
  · rw [dif_pos h]
    refine (concatenate_pair_apply_left (t := S147456x1024) (s₁ := S147456x512) (s₂ := S147456x512) (1 : Fin 2) _ _ concatenates_S147456x512_S147456x512_S147456x1024_d1 (ix2 R d) rfl (ix2 R (⟨d.val, h⟩ : Fin 512)) fun b => ?_).trans ?_
    · match b with
      | ⟨0, _⟩ => rfl
      | ⟨1, _⟩ => rfl
    · rw [val_main_v3_apply, val_main_v2_apply, val_main_v1_apply, val_main_c_apply, val_main_v0_apply]
      rfl
  · rw [dif_neg h]
    refine (concatenate_pair_apply_right (t := S147456x1024) (s₁ := S147456x512) (s₂ := S147456x512) (1 : Fin 2) _ _ concatenates_S147456x512_S147456x512_S147456x1024_d1 (ix2 R d) rfl rfl (ix2 R (⟨d.val - 512, by omega⟩ : Fin 512)) (fun b hb => ?_) ?_).trans ?_
    · match b with
      | ⟨0, _⟩ => rfl
      | ⟨1, _⟩ => exact absurd rfl hb
    · show d.val - 512 + 512 = d.val
      omega
    · rw [val_main_v6_apply, val_main_v5_apply, val_main_v4_apply, val_main_c_0_apply, val_main_v0_apply]
      rfl

/-- The row of block `b` and position `r`. -/
def rowOf (b : Fin 288) (r : Fin 512) : Fin 147456 := ⟨b.val * 512 + r.val, by omega⟩

theorem blocks_apply (b : Fin 288) (r : Fin 512) (d : Fin 1024) : val_main_v8 (F := Ideal) x0 (ix3 b r d) = unpack (fun j => x0 (ix2 (rowOf b r) j)) d := by
  rw [val_main_v8_apply, ← rows_apply]
  refine congrArg (val_main_v7 (F := Ideal) x0) (funext fun a => Fin.ext ?_)
  match a with
  | ⟨0, _⟩ => show ((b.val * 512 + r.val) * 1024 + d.val) / 1024 = b.val * 512 + r.val; omega
  | ⟨1, _⟩ => show ((b.val * 512 + r.val) * 1024 + d.val) % 1024 = d.val; omega

variable (hx : ∀ y, 0 ≤ (x1 y).toInt ∧ (x1 y).toInt < 32)

include hx

theorem toNat_lt (y : S288.Idx) : (x1 y).toNat < 32 := by
  have h0 := (hx y).1
  have h1 := (hx y).2
  rw [BitVec.toInt_eq_toNat_cond] at h0 h1
  have := (x1 y).isLt
  split at h0 <;> omega

/-- An expert's number is not negative: the wrap of a negative index leaves it. -/
theorem not_wrapped (y : S288.Idx) (z : BitVec 32) : Scalar.select (IntOp.cmpi .slt (x1 y) 0#32) z (x1 y) = x1 y := by
  have h : IntOp.cmpi .slt (x1 y) 0#32 = 0#1 := by
    unfold IntOp.cmpi
    have h0 := (hx y).1
    have : (x1 y).slt 0#32 = false := by
      rw [BitVec.slt, decide_eq_false_iff_not]
      simpa using h0
    rw [this]; rfl
  rw [h]; rfl

theorem expert_toInt (b : Fin 288) : (x1 (ix1 b)).toInt.toNat = (expertOf x1 b).val := by
  have h := toNat_lt x1 hx (ix1 b)
  have h0 := (hx (ix1 b)).1
  show (x1 (ix1 b)).toInt.toNat = (x1 (ix1 b)).toNat % 32
  rw [Nat.mod_eq_of_lt h, BitVec.toInt_eq_toNat_cond]
  split <;> omega

theorem expert_word (b : Fin 288) : x1 (ix1 b) = BitVec.ofNat 32 (expertOf x1 b).val := by
  show x1 (ix1 b) = BitVec.ofNat 32 ((x1 (ix1 b)).toNat % 32)
  rw [Nat.mod_eq_of_lt (toNat_lt x1 hx (ix1 b)), BitVec.ofNat_toNat, BitVec.setWidth_eq]

theorem table16 (b : Fin 288) : val_main_v16 (F := Ideal) x1 (ix2 b (0 : Fin 1)) = x1 (ix1 b) := by
  rw [val_main_v16_apply, val_main_v15_apply, val_main_v12_apply, val_main_v11_apply, val_main_c_1_apply,
    show idx_main_v16 (ix2 b (0 : Fin 1)) = (ix1 b : S288.Idx) from funext fun a => by match a with | ⟨0, _⟩ => rfl]
  exact not_wrapped x1 hx (ix1 b) _
theorem table24 (b : Fin 288) : val_main_v24 (F := Ideal) x1 (ix2 b (0 : Fin 1)) = x1 (ix1 b) := by
  rw [val_main_v24_apply, val_main_v23_apply, val_main_v20_apply, val_main_v19_apply, val_main_c_3_apply,
    show idx_main_v24 (ix2 b (0 : Fin 1)) = (ix1 b : S288.Idx) from funext fun a => by match a with | ⟨0, _⟩ => rfl]
  exact not_wrapped x1 hx (ix1 b) _
theorem table53 (b : Fin 288) : val_main_v53 (F := Ideal) x1 (ix2 b (0 : Fin 1)) = x1 (ix1 b) := by
  rw [val_main_v53_apply, val_main_v52_apply, val_main_v49_apply, val_main_v48_apply, val_main_c_11_apply,
    show idx_main_v53 (ix2 b (0 : Fin 1)) = (ix1 b : S288.Idx) from funext fun a => by match a with | ⟨0, _⟩ => rfl]
  exact not_wrapped x1 hx (ix1 b) _
theorem table61 (b : Fin 288) : val_main_v61 (F := Ideal) x1 (ix2 b (0 : Fin 1)) = x1 (ix1 b) := by
  rw [val_main_v61_apply, val_main_v60_apply, val_main_v57_apply, val_main_v56_apply, val_main_c_13_apply,
    show idx_main_v61 (ix2 b (0 : Fin 1)) = (ix1 b : S288.Idx) from funext fun a => by match a with | ⟨0, _⟩ => rfl]
  exact not_wrapped x1 hx (ix1 b) _

/-- The weights and biases of each block's expert. -/
theorem up_apply (b : Fin 288) (d : Fin 1024) (f : Fin 2048) : val_main_v17 (F := Ideal) x1 x3 (ix3 b d f) = x3 (ix4 (0 : Fin 2) (expertOf x1 b) d f) := by
  refine (gather_matrix gather_S32x1024x2048_S288x1_S288x1024x2048_12_0_n_n_0_1_110242048_wf _ _ b d f (expertOf x1 b) (by rw [table16 x1 hx, expert_toInt x1 hx])).trans ?_
  rw [val_main_v10_apply, val_main_v9_apply]
  refine congrArg x3 (funext fun a => Fin.ext ?_)
  generalize expertOf x1 b = e
  have h1 := e.isLt
  have h2 := d.isLt
  have h3 := f.isLt
  match a with
  | ⟨0, _⟩ => rfl
  | ⟨1, _⟩ => show ((e.val * 1024 + d.val) * 2048 + f.val) / 2097152 % 32 = e.val; omega
  | ⟨2, _⟩ => show ((e.val * 1024 + d.val) * 2048 + f.val) / 2048 % 1024 = d.val; omega
  | ⟨3, _⟩ => show ((e.val * 1024 + d.val) * 2048 + f.val) % 2048 = f.val; omega

theorem down_apply (b : Fin 288) (k : Fin 1024) (f : Fin 1024) : val_main_v54 (F := Ideal) x1 x5 (ix3 b k f) = x5 (ix4 (0 : Fin 2) (expertOf x1 b) k f) := by
  refine (gather_matrix gather_S32x1024x1024_S288x1_S288x1024x1024_12_0_n_n_0_1_110241024_wf _ _ b k f (expertOf x1 b) (by rw [table53 x1 hx, expert_toInt x1 hx])).trans ?_
  rw [val_main_v47_apply, val_main_v46_apply]
  refine congrArg x5 (funext fun a => Fin.ext ?_)
  generalize expertOf x1 b = e
  have h1 := e.isLt
  have h2 := k.isLt
  have h3 := f.isLt
  match a with
  | ⟨0, _⟩ => rfl
  | ⟨1, _⟩ => show ((e.val * 1024 + k.val) * 1024 + f.val) / 1048576 % 32 = e.val; omega
  | ⟨2, _⟩ => show ((e.val * 1024 + k.val) * 1024 + f.val) / 1024 % 1024 = k.val; omega
  | ⟨3, _⟩ => show ((e.val * 1024 + k.val) * 1024 + f.val) % 1024 = f.val; omega

theorem upBias_apply (b : Fin 288) (r : Fin 512) (f : Fin 2048) : val_main_v27 (F := Ideal) x1 x4 (ix3 b r f) = x4 (ix2 (expertOf x1 b) f) := by
  rw [val_main_v27_apply, val_main_v26_apply]
  have e : idx_main_v26 (idx_main_v27 (ix3 b r f)) = (ix2 b f : S288x2048.Idx) := funext fun a => by
    match a with
    | ⟨0, _⟩ => rfl
    | ⟨1, _⟩ => rfl
  rw [e]
  exact Routing.gather_row gather_S32x2048_S288x1_S288x2048_1_0_n_n_0_1_12048 rfl rfl rfl rfl rfl x4 _ b f (expertOf x1 b) ((table24 x1 hx b).trans (expert_word x1 hx b)) (by norm_num)

theorem downBias_apply (b : Fin 288) (r : Fin 512) (f : Fin 1024) : val_main_v64 (F := Ideal) x1 x6 (ix3 b r f) = x6 (ix2 (expertOf x1 b) f) := by
  rw [val_main_v64_apply, val_main_v63_apply]
  have e : idx_main_v63 (idx_main_v64 (ix3 b r f)) = (ix2 b f : S288x1024.Idx) := funext fun a => by
    match a with
    | ⟨0, _⟩ => rfl
    | ⟨1, _⟩ => rfl
  rw [e]
  exact Routing.gather_row gather_S32x1024_S288x1_S288x1024_1_0_n_n_0_1_11024 rfl rfl rfl rfl rfl x6 _ b f (expertOf x1 b) ((table61 x1 hx b).trans (expert_word x1 hx b)) (by norm_num)

/-- The hidden values. -/
theorem hiddens_apply (b : Fin 288) (r : Fin 512) (f : Fin 2048) :
    val_main_v28 (F := Ideal) x0 x1 x3 x4 (ix3 b r f)
      = hiddens (unpack fun j => x0 (ix2 (rowOf b r) j)) (fun d f => x3 (ix4 (0 : Fin 2) (expertOf x1 b) d f)) (fun f => x4 (ix2 (expertOf x1 b) f)) f := by
  rw [val_main_v28_apply, val_main_v18_apply, upBias_apply x1 x4 hx]
  unfold hiddens
  refine congrArg (fun s : EReal => s + _) (Finset.sum_congr rfl fun d _ => ?_)
  have el : lidx_main_v18 (ix3 b r f) d = ix3 b r d := funext fun a => by
    match a with
    | ⟨0, _⟩ => rfl
    | ⟨1, _⟩ => rfl
    | ⟨2, _⟩ => rfl
  have er : ridx_main_v18 (ix3 b r f) d = ix3 b d f := funext fun a => by
    match a with
    | ⟨0, _⟩ => rfl
    | ⟨1, _⟩ => rfl
    | ⟨2, _⟩ => rfl
  rw [el, er, blocks_apply, up_apply x1 x3 hx]

/-- The activations. -/
theorem active_apply (b : Fin 288) (r : Fin 512) (k : Fin 1024) :
    val_main_v45 (F := Ideal) x0 x1 x3 x4 (ix3 b r k)
      = active (unpack fun j => x0 (ix2 (rowOf b r) j)) (fun d f => x3 (ix4 (0 : Fin 2) (expertOf x1 b) d f)) (fun f => x4 (ix2 (expertOf x1 b) f)) k := by
  have eg : val_main_v29 (F := Ideal) x0 x1 x3 x4 (ix3 b r k) = hiddens (unpack fun j => x0 (ix2 (rowOf b r) j)) (fun d f => x3 (ix4 (0 : Fin 2) (expertOf x1 b) d f)) (fun f => x4 (ix2 (expertOf x1 b) f)) ⟨k.val, by omega⟩ := by
    rw [val_main_v29_apply, ← hiddens_apply x0 x1 x3 x4 hx b r]
    refine congrArg (val_main_v28 (F := Ideal) x0 x1 x3 x4) (funext fun a => Fin.ext ?_)
    match a with
    | ⟨0, _⟩ => rfl
    | ⟨1, _⟩ => rfl
    | ⟨2, _⟩ => rfl
  have eu : val_main_v32 (F := Ideal) x0 x1 x3 x4 (ix3 b r k) = hiddens (unpack fun j => x0 (ix2 (rowOf b r) j)) (fun d f => x3 (ix4 (0 : Fin 2) (expertOf x1 b) d f)) (fun f => x4 (ix2 (expertOf x1 b) f)) ⟨1024 + k.val, by omega⟩ := by
    rw [val_main_v32_apply, ← hiddens_apply x0 x1 x3 x4 hx b r]
    refine congrArg (val_main_v28 (F := Ideal) x0 x1 x3 x4) (funext fun a => Fin.ext ?_)
    match a with
    | ⟨0, _⟩ => rfl
    | ⟨1, _⟩ => rfl
    | ⟨2, _⟩ => rfl
  unfold active
  rw [← eg, ← eu, val_main_v45_apply, val_main_v42_apply, val_main_v41_apply, val_main_v40_apply, val_main_cst_9_apply, val_main_v39_apply, val_main_v38_apply, val_main_cst_8_apply,
    val_main_v37_apply, val_main_v36_apply, val_main_v35_apply, val_main_v34_apply, val_main_cst_7_apply, val_main_v44_apply, val_main_v43_apply, val_main_cst_10_apply,
    val_main_v33_apply, val_main_v31_apply, val_main_v30_apply, val_main_cst_apply]
  unfold gated
  rw [← Ideal.ofBits_one_f32]
  unfold Ideal.logistic
  rw [← Ideal.ofBits_one_f32]
  rfl

/-- An expert's answer. -/
theorem answer_apply (b : Fin 288) (r : Fin 512) (c : Fin 1024) :
    val_main_v65 (F := Ideal) x0 x1 x3 x4 x5 x6 (ix3 b r c)
      = row (unpack fun j => x0 (ix2 (rowOf b r) j)) (fun d f => x3 (ix4 (0 : Fin 2) (expertOf x1 b) d f)) (fun f => x4 (ix2 (expertOf x1 b) f))
          (fun k c => x5 (ix4 (0 : Fin 2) (expertOf x1 b) k c)) (fun c => x6 (ix2 (expertOf x1 b) c)) c := by
  rw [val_main_v65_apply, val_main_v55_apply, downBias_apply x1 x6 hx]
  unfold row
  refine congrArg (fun s : EReal => s + _) (Finset.sum_congr rfl fun k _ => ?_)
  have el : lidx_main_v55 (ix3 b r c) k = ix3 b r k := funext fun a => by
    match a with
    | ⟨0, _⟩ => rfl
    | ⟨1, _⟩ => rfl
    | ⟨2, _⟩ => rfl
  have er : ridx_main_v55 (ix3 b r c) k = ix3 b k c := funext fun a => by
    match a with
    | ⟨0, _⟩ => rfl
    | ⟨1, _⟩ => rfl
    | ⟨2, _⟩ => rfl
  rw [el, er, active_apply x0 x1 x3 x4 hx, down_apply x1 x5 hx]

omit hx in
/-- The blocks in use. -/
theorem used_apply (b : Fin 288) (r : Fin 512) (c : Fin 1024) :
    val_main_call1_v1 (F := Ideal) x2 (ix3 b r c) = BitVec.ofBool (decide ((b.val : Int) < (x2 (ix1 (0 : Fin 1))).toInt)) := by
  rw [val_main_call1_v1_apply, val_main_v70_apply, val_main_v69_apply, val_main_v66_apply, val_main_v68_apply]
  have e : val_main_v67 (F := Ideal) x2 (idx_main_v68 (idx_main_v70 (idx_main_call1_v1 (ix3 b r c)))) = x2 (ix1 (0 : Fin 1)) := by
    unfold val_main_v67
    refine shapeCast_apply x2 _ _ _ ?_
    have h1 := lt_of_lt_of_eq (Shape.rowMajor S1 (ix1 (0 : Fin 1))).isLt (show S1.numel = 1 by decide)
    have h2 := lt_of_lt_of_eq (Shape.rowMajor S_ (idx_main_v68 (idx_main_v70 (idx_main_call1_v1 (ix3 b r c))))).isLt (show S_.numel = 1 by decide)
    exact (Nat.lt_one_iff.mp h1).trans (Nat.lt_one_iff.mp h2).symm
  rw [e]
  show BitVec.ofBool ((BitVec.ofNat 32 b.val).slt (x2 (ix1 (0 : Fin 1)))) = _
  refine congrArg BitVec.ofBool ?_
  have hb := b.isLt
  rw [BitVec.slt, StableHlo.Predicate.toInt_ofNat_small b.val (by omega)]

/-- The reference's result, entry by entry. -/
theorem result_apply (R : Fin 147456) (c : Fin 1024) :
    val_main_v73 (F := Ideal) x0 x1 x2 x3 x4 x5 x6 (ix2 R c) = answer x0 x1 x2 x3 x4 x5 x6 R c := by
  rw [val_main_v73_apply, val_main_v72_apply]
  have hR := R.isLt
  have hr : R.val % 512 < 512 := Nat.mod_lt _ (by decide)
  have e : idx_main_v72 (ix2 R c) = ix3 (blockOf R) (⟨R.val % 512, hr⟩ : Fin 512) c := funext fun a => Fin.ext (by
    have hc := c.isLt
    match a with
    | ⟨0, _⟩ => show (R.val * 1024 + c.val) / 524288 = R.val / 512; omega
    | ⟨1, _⟩ => show (R.val * 1024 + c.val) / 1024 % 512 = R.val % 512; omega
    | ⟨2, _⟩ => show (R.val * 1024 + c.val) % 1024 = c.val; omega)
  have eR : rowOf (blockOf R) (⟨R.val % 512, hr⟩ : Fin 512) = R := Fin.ext (by show R.val / 512 * 512 + R.val % 512 = R.val; omega)
  rw [e, val_main_v71_apply, used_apply, answer_apply x0 x1 x3 x4 x5 x6 hx, eR, val_main_call1_v2_apply]
  unfold answer
  by_cases h : (x2 (ix1 (0 : Fin 1))).toInt ≤ ((blockOf R).val : Int)
  · rw [if_pos h, decide_eq_false (not_lt.2 h)]
    exact Ideal.ofBits_zero_f32
  · rw [if_neg h, decide_eq_true (not_le.1 h)]
    rfl

end Cert.Reference2Ideal.Hand

end
-- ==== Proof.Experts.Result.lean ====
/- Over the extended reals the experts' kernel and its reference return the same result. -/
module

public import proofs.«01_k».proof.Proof.Experts.Array
public import proofs.«01_k».proof.Proof.Experts.Frames
public import proofs.«01_k».proof.Proof.Experts.Reference
public import proofs.«01_k».proof.Proof.Gen.Reference2Ideal.Run

@[expose] public section

set_option maxRecDepth 16384

noncomputable section

namespace Cert.Kernel2Ideal.Hand

open Cert.Kernel2Ideal Cert.Kernel2Ideal.Gen Cert.Experts
open Idealize.ShloMosaic hiding ix0 ix1 ix2 ix3 ix4 ix5
open Idealize.ShloMosaic.TcCoe Idealize.ShloMosaic.ValueIdx
open Idealize.SL.Sem

variable (m : (ℓ : Loc nD τ sig) → Buf (Elt Ideal) ℓ) (g : Dev nD → PrngReg)

/-- The kernel ends with every row's answer, and leaves its arguments. -/
theorem answers_run (hr : InRange m) : θ_run defs (onTc (τ := τ) (main (F := Ideal))) ⟨m, fun _ => 0, g⟩ (fun r => ∀ c : Dev nD,
      r.2.mem ((c.tc : Thread nD τ).loc main_v2) = answers m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h.1.out_eq c 5).trans (out_array m hr (ok_of_pre m hr) c), h.2 c⟩)
    (θ_run_and (run_main m g (ok_of_pre m hr)) (unchanged m g (ok_of_pre m hr)))

/-- What the reference computes of the kernel's arguments is the kernel's result. -/
theorem reference_answers (hr : InRange m) (c : Dev nD) :
    Cert.Reference2Ideal.Read.val_main_v73 (F := Ideal) (rowsArg m c) (tableArg m c) (usedArg m c) (upArg m c) (upBiasArg m c) (downArg m c) (downBiasArg m c) = answers m c := by
  funext y
  obtain ⟨R, k, rfl⟩ : ∃ (R : Fin 147456) (k : Fin 1024), y = (ix2 R k : S147456x1024.Idx) := ⟨y (0 : Fin 2), y (1 : Fin 2), ValueIdx.eq_ix2 y⟩
  exact Cert.Reference2Ideal.Hand.result_apply (rowsArg m c) (tableArg m c) (usedArg m c) (upArg m c) (upBiasArg m c) (downArg m c) (downBiasArg m c)
    (range_of_pre _ _ _ _ _ _ _ (hr c)) R k

end Cert.Kernel2Ideal.Hand

namespace Cert.Proof

open Idealize.ShloMosaic Idealize.ShloMosaic.TcCoe Idealize.SL.Sem

/-- Over the extended reals the experts' kernel and its reference return the same result. -/
theorem same_experts : Cert.algebraic_Kernel2Ideal_Reference2Ideal := fun m g m' g' hpre hargs =>
  ⟨Cert.Kernel2Ideal.Hand.answers m, Cert.Kernel2Ideal.Hand.answers_run m g hpre,
    (θ_run Cert.Reference2Ideal.defs _ _).mono (fun r h c => ⟨by
      refine (h c).1.trans ((Cert.Reference2Ideal.Read.val_main_v73_eq m' c).trans ?_)
      rw [(hargs c).1, (hargs c).2.1, (hargs c).2.2.1, (hargs c).2.2.2.1, (hargs c).2.2.2.2.1, (hargs c).2.2.2.2.2.1, (hargs c).2.2.2.2.2.2]
      exact Cert.Kernel2Ideal.Hand.reference_answers m hpre c, (h c).2⟩) (Cert.Reference2Ideal.Value.run (F := Ideal) m' g')⟩

end Cert.Proof

end
-- ==== Proof.Combine.Frames.lean ====
/- The frames of the two kernels and the reference of the combining call. -/
module

public import proofs.«01_k».proof.Defs
public import proofs.«01_k».proof.Proof.Gen.Kernel3
public import proofs.«01_k».proof.Proof.Gen.Kernel3Ideal.Value
public import proofs.«01_k».proof.Proof.Gen.Reference3Ideal.Run
public import Idealize.ShloMosaic.Adequacy
public import Idealize.ShloMosaic.Init

@[expose] public section

set_option maxRecDepth 16384
set_option maxHeartbeats 1000000

noncomputable section

namespace Cert.Proof.Combine

open Idealize.ShloMosaic Idealize.ShloMosaic.TcCoe Idealize.SL.Sem

/-- The two kernels have the same bodies, the same calls and the same main. -/
theorem bodies_eq : Cert.Kernel3.defs₀ (F := Bits) = Cert.Kernel3Ideal.defs₀ (F := Bits) := by
  unfold Cert.Kernel3.defs₀ Cert.Kernel3Ideal.defs₀
  refine congrArg Defs.onTc (funext fun l => ?_)
  obtain rfl : l = 0 := Subsingleton.elim _ _
  refine funext fun p => ?_
  rfl
theorem defs_eq : Cert.Kernel3.defs (F := Bits) = Cert.Kernel3Ideal.defs (F := Bits) := by
  unfold Cert.Kernel3.defs Cert.Kernel3Ideal.defs
  exact congrArg (Pipeline.defs (Cert.Kernel3Ideal.pcfgs (F := Bits))) bodies_eq
theorem main_eq : Cert.Kernel3.main (F := Bits) = Cert.Kernel3Ideal.main (F := Bits) := rfl

/-- The kernel runs as the ideal one does, whose text it shares. -/
theorem frame_kernel : Cert.quiescent_Kernel3 := by
  intro m ρ _
  rw [defs_eq, main_eq]
  exact Cert.Kernel3Ideal.Gen.frame (F := Bits) m ρ

/-- The ideal kernel ends with its arguments as they were. -/
theorem frame_ideal : Cert.quiescent_Kernel3Ideal := fun m ρ _ => Cert.Kernel3Ideal.Gen.frame m ρ

/-- The reference leaves its arguments, and it has no semaphore. -/
theorem frame_reference : Cert.quiescent_Reference3Ideal := fun m ρ _ =>
  (θ_run Cert.Reference3Ideal.defs _ _).mono (fun r h => ⟨fun c => (h c).2, sem_eq_zero_of_no_sems (by decide) r.2⟩) (Cert.Reference3Ideal.Value.run (F := Ideal) m ρ)

end Cert.Proof.Combine

end
-- ==== Proof.Trunk.Norm.lean ====
/- One row divided by its deviation about its mean, over the extended reals, and that the kernels' blocks compute it. -/
module

public import Idealize.ShloMosaic.Lib.MatmulPlain
public import Idealize.ShloMosaic.Lib.ValueLayout
public import Idealize.ShloMosaic.Lib.ValueLayoutCasts
public import Idealize.ShloMosaic.Lib.ValueIdx
public import Idealize.ShloMosaic.Lib.Pipeline.ValueKit

@[expose] public section

set_option maxRecDepth 16384

noncomputable section

namespace Cert.Trunk

open Idealize.ShloMosaic hiding ix0 ix1 ix2 ix3 ix4 ix5
open Idealize.ShloMosaic.ValueIdx

/-- The mean of a row of 1024. -/
def mean (f : Fin 1024 → EReal) : EReal := Ideal.div (∑ k, f k) (Ideal.ofBits .f32 0x44800000#32)

/-- A row less its mean, over its deviation, times a gain, plus a bias. -/
def normed (y g b : Fin 1024 → EReal) (c : Fin 1024) : EReal :=
  (y c - mean y) * Ideal.rsqrt (mean (fun k => (y k - mean y) * (y k - mean y)) + Ideal.ofBits .f32 0x3727C5AC#32) * g c + b c

/-- The shapes of a block, of a column, of a vector and of a row. -/
abbrev Blk : Shape := ⟨2, ![512, 1024]⟩
abbrev Col : Shape := ⟨2, ![512, 1]⟩
abbrev Vct : Shape := ⟨1, ![512]⟩
abbrev Row : Shape := ⟨2, ![1, 1024]⟩

variable (hr : Shape.Reduces Blk [1] Vct) (hc : Shape.ShapeCasts Vct Col) (hb : Shape.Broadcasts Col Blk) (hg : Shape.Broadcasts Row Blk)

/-- The accumulator a product starts from holds zeros. -/
theorem zero_at {s : Shape} (y : s.Idx) : (constant s .f32 0x00000000#32 : FVec Ideal s .f32) y = 0 := Ideal.ofBits_zero_f32

/-- The means of a block's rows, as a column. -/
def means (v : FVec Ideal Blk .f32) : FVec Ideal Col .f32 :=
  divf (shapeCast Col (multiReduction .add [1] Vct v 0x00000000#32 hr (.inl rfl) rfl) hc) (broadcast Col (Scalar.ofBits .f32 0x44800000#32))

/-- A block less its rows' means. -/
def centred (v : FVec Ideal Blk .f32) : FVec Ideal Blk .f32 := subf v (broadcastTo Blk (means hr hc v) hb)

/-- The normalised block. -/
def normBlock (v : FVec Ideal Blk .f32) (g b : FVec Ideal Row .f32) : FVec Ideal Blk .f32 :=
  addf (mulf (mulf (centred hr hc hb v)
      (broadcastTo Blk (rsqrt (addf (means hr hc (mulf (centred hr hc hb v) (centred hr hc hb v))) (broadcast Col (Scalar.ofBits .f32 0x3727C5AC#32)))) hb))
    (broadcastTo Blk g hg)) (broadcastTo Blk b hg)

theorem means_apply (v : FVec Ideal Blk .f32) (r : Fin 512) (u : Fin 1) : means hr hc v (ix2 r u) = mean fun k => v (ix2 r k) := by
  unfold means mean
  refine congrArg (fun s : EReal => Ideal.div s (Ideal.ofBits .f32 0x44800000#32)) ?_
  refine (shapeCast_a_a1_apply _ hc r u).trans ((Ideal.multiReduction_add_single v _ hr _ _ (ix1 r)).trans ?_)
  refine Finset.sum_congr rfl fun k _ => congrArg v (funext fun a => Fin.ext ?_)
  match a with
  | ⟨0, _⟩ => rfl
  | ⟨1, _⟩ => rfl

/-- A column, broadcast along the rows. -/
theorem column_apply {n : ℕ} (v : FVec Ideal Col .f32) (h : Shape.Broadcasts Col ⟨2, ![512, n]⟩) (r : Fin 512) (c : Fin n) :
    broadcastTo ⟨2, ![512, n]⟩ v h (ix2 r c) = v (ix2 r (0 : Fin 1)) :=
  broadcastTo_apply v h (ix2 r c) (ix2 r (0 : Fin 1)) fun a => by
    match a with
    | ⟨0, _⟩ => rfl
    | ⟨1, _⟩ => rfl

theorem centred_apply (v : FVec Ideal Blk .f32) (r : Fin 512) (c : Fin 1024) :
    centred hr hc hb v (ix2 r c) = v (ix2 r c) - mean fun k => v (ix2 r k) := by
  unfold centred
  exact congrArg (fun s : EReal => v (ix2 r c) - s) ((column_apply _ hb r c).trans (means_apply hr hc v r 0))

theorem normBlock_apply (v : FVec Ideal Blk .f32) (g b : FVec Ideal Row .f32) (r : Fin 512) (c : Fin 1024) :
    normBlock hr hc hb hg v g b (ix2 r c) = normed (fun k => v (ix2 r k)) (fun k => g (ix2 (0 : Fin 1) k)) (fun k => b (ix2 (0 : Fin 1) k)) c := by
  unfold normBlock normed
  refine congrArg₂ (fun p q : EReal => p + q) (congrArg₂ (fun p q : EReal => p * q) (congrArg₂ (fun p q : EReal => p * q) (centred_apply hr hc hb v r c) ?_)
    (broadcastTo_1b_ab_apply g hg r c)) (broadcastTo_1b_ab_apply b hg r c)
  refine (column_apply _ hb r c).trans (congrArg (fun s : EReal => Ideal.rsqrt (s + Ideal.ofBits .f32 0x3727C5AC#32)) ?_)
  refine (means_apply hr hc _ r 0).trans (congrArg mean (funext fun k => ?_))
  exact congrArg₂ (fun p q : EReal => p * q) (centred_apply hr hc hb v r k) (centred_apply hr hc hb v r k)

end Cert.Trunk

end
-- ==== Proof.Combine.Row.lean ====
/- One row of the sum of the experts' answers and the residual, and that the kernel's block computes its normalisation. -/
module

public import proofs.«01_k».proof.Proof.Experts.Row
public import proofs.«01_k».proof.Proof.Trunk.Norm
public import proofs.«01_k».proof.Proof.Gen.Kernel3Ideal.Value

@[expose] public section

set_option maxRecDepth 16384

noncomputable section

namespace Cert.Combine

open Idealize.ShloMosaic hiding ix0 ix1 ix2 ix3 ix4 ix5
open Idealize.ShloMosaic.ValueIdx

/-- The residual, scaled, and the four chosen experts' answers, each times its gate. -/
def summed (u : Fin 4 → Fin 512 → BitVec 32) (gate : Fin 4 → EReal) (h : Fin 1024 → EReal) (d : Fin 1024) : EReal :=
  Ideal.ofBits .f32 0x3FB504F3#32 * h d + ∑ k : Fin 4, Experts.unpack (u k) d * gate k

/-- The row of the experts' answers that holds choice `k` of row `R`. -/
def choiceRow (k : Fin 4) (R : Fin 32768) : Fin 131072 := ⟨k.val * 32768 + R.val, by omega⟩

/-- Entry `(R, c)` of the result. -/
def answer (x0 : (⟨2, ![131072, 512]⟩ : Shape).Idx → BitVec 32) (x1 : (⟨2, ![32768, 4]⟩ : Shape).Idx → EReal) (x2 : (⟨2, ![32768, 1024]⟩ : Shape).Idx → EReal)
    (x3 x4 : (⟨1, ![1024]⟩ : Shape).Idx → EReal) (R : Fin 32768) (c : Fin 1024) : EReal :=
  Trunk.normed (summed (fun k j => x0 (ix2 (choiceRow k R) j)) (fun k => x1 (ix2 R k)) fun d => x2 (ix2 R d)) (fun d => x3 (ix1 d)) (fun d => x4 (ix1 d)) c

end Cert.Combine

namespace Cert.Kernel3Ideal.Hand

open Cert.Kernel3Ideal Cert.Kernel3Ideal.Gen Cert.Combine Cert.Trunk Cert.Experts
open Idealize.ShloMosaic hiding ix0 ix1 ix2 ix3 ix4 ix5
open Idealize.ShloMosaic.TcCoe Idealize.ShloMosaic.ValueIdx

/-- The numbers in the lower and in the upper halves of a block of words. -/
def lower (x : IVec S512x512 32) : FVec Ideal S512x512 .f32 := bitcastToFloat .f32 (shli x (broadcast S512x512 16#32))
def upper (x : IVec S512x512 32) : FVec Ideal S512x512 .f32 := bitcastToFloat .f32 (andi x (broadcast S512x512 4294901760#32))

/-- The four blocks `f` of, each times its column of the gates, added up. -/
def gatedSum (f : IVec S512x512 32 → FVec Ideal S512x512 .f32) (x0 x1 x2 x3 : IVec S512x512 32) (g : FVec Ideal S512x4 .f32) : FVec Ideal S512x512 .f32 :=
  addf (addf (addf
    (mulf (f x0) (broadcastTo S512x512 (extractStridedSlice S512x1 ![0, 0] g slices_S512x4_o0_0_S512x1) broadcasts_S512x1_S512x512))
    (mulf (f x1) (broadcastTo S512x512 (extractStridedSlice S512x1 ![0, 1] g slices_S512x4_o0_1_S512x1) broadcasts_S512x1_S512x512)))
    (mulf (f x2) (broadcastTo S512x512 (extractStridedSlice S512x1 ![0, 2] g slices_S512x4_o0_2_S512x1) broadcasts_S512x1_S512x512)))
    (mulf (f x3) (broadcastTo S512x512 (extractStridedSlice S512x1 ![0, 3] g slices_S512x4_o0_3_S512x1) broadcasts_S512x1_S512x512))

/-- The block before it is normalised. -/
def sumBlock (x0 x1 x2 x3 : IVec S512x512 32) (g : FVec Ideal S512x4 .f32) (h : FVec Ideal S512x1024 .f32) : FVec Ideal S512x1024 .f32 :=
  addf (mulf (broadcast S512x1024 (Scalar.ofBits .f32 0x3FB504F3#32)) h)
    (concatenate S512x1024 1 [⟨S512x512, gatedSum lower x0 x1 x2 x3 g⟩, ⟨S512x512, gatedSum upper x0 x1 x2 x3 g⟩] concatenates_S512x512_S512x512_S512x1024_d1)

theorem pay6_eq (x0 x1 x2 x3 : IVec S512x512 32) (g : FVec Ideal S512x4 .f32) (h : FVec Ideal S512x1024 .f32) (p q : FVec Ideal S1x1024 .f32) :
    k0_pay6 (F := Ideal) g (k0_pay4 g x0 x1 x2) (k0_pay5 g x0 x1 x2) x3 16#32 h p q
      = normBlock reduces_S512x1024_S512 shapeCasts_S512_S512x1 broadcasts_S512x1_S512x1024 broadcasts_S1x1024_S512x1024 (sumBlock x0 x1 x2 x3 g h)
          (shapeCast S1x1024 p shapeCasts_S1x1024_S1x1024) (shapeCast S1x1024 q shapeCasts_S1x1024_S1x1024) := rfl

/-- A column of the gates, broadcast. -/
theorem gate_apply (g : FVec Ideal S512x4 .f32) (n : ℕ) (hs : S512x4.Slices ![0, n] S512x1) (k : Fin 4) (hk : n = k.val) (r d : Fin 512) :
    broadcastTo S512x512 (extractStridedSlice S512x1 ![0, n] g hs) broadcasts_S512x1_S512x512 (ix2 r d) = g (ix2 r k) := by
  refine (column_apply _ _ r d).trans (extractStridedSlice_apply _ _ _ _ _ fun a => ?_)
  match a with
  | ⟨0, _⟩ => show r.val = 0 + r.val; omega
  | ⟨1, _⟩ => show k.val = n + 0; omega

theorem gatedSum_apply (f : IVec S512x512 32 → FVec Ideal S512x512 .f32) (x : Fin 4 → IVec S512x512 32) (g : FVec Ideal S512x4 .f32) (r d : Fin 512) :
    gatedSum f (x 0) (x 1) (x 2) (x 3) g (ix2 r d) = ∑ k : Fin 4, f (x k) (ix2 r d) * g (ix2 r k) := by
  rw [Fin.sum_univ_four, ← gate_apply g 0 slices_S512x4_o0_0_S512x1 0 rfl r d, ← gate_apply g 1 slices_S512x4_o0_1_S512x1 1 rfl r d,
    ← gate_apply g 2 slices_S512x4_o0_2_S512x1 2 rfl r d, ← gate_apply g 3 slices_S512x4_o0_3_S512x1 3 rfl r d]
  rfl

theorem sumBlock_apply (x : Fin 4 → IVec S512x512 32) (g : FVec Ideal S512x4 .f32) (h : FVec Ideal S512x1024 .f32) (r : Fin 512) (d : Fin 1024) :
    sumBlock (x 0) (x 1) (x 2) (x 3) g h (ix2 r d) = summed (fun k j => x k (ix2 r j)) (fun k => g (ix2 r k)) (fun d => h (ix2 r d)) d := by
  unfold sumBlock summed
  refine congrArg (fun s : EReal => Ideal.ofBits .f32 0x3FB504F3#32 * h (ix2 r d) + s) ?_
  by_cases hd : d.val < 512
  · refine (concatenate_pair_apply_left (t := S512x1024) (s₁ := S512x512) (s₂ := S512x512) (1 : Fin 2) _ _ concatenates_S512x512_S512x512_S512x1024_d1 (ix2 r d) rfl (ix2 r (⟨d.val, hd⟩ : Fin 512)) fun b => ?_).trans ?_
    · match b with
      | ⟨0, _⟩ => rfl
      | ⟨1, _⟩ => rfl
    · refine (gatedSum_apply lower x g r _).trans (Finset.sum_congr rfl fun k _ => congrArg (· * g (ix2 r k)) ?_)
      unfold unpack
      rw [dif_pos hd]
      rfl
  · refine (concatenate_pair_apply_right (t := S512x1024) (s₁ := S512x512) (s₂ := S512x512) (1 : Fin 2) _ _ concatenates_S512x512_S512x512_S512x1024_d1 (ix2 r d) rfl rfl (ix2 r (⟨d.val - 512, by omega⟩ : Fin 512)) (fun b hb => ?_) ?_).trans ?_
    · match b with
      | ⟨0, _⟩ => rfl
      | ⟨1, _⟩ => exact absurd rfl hb
    · show d.val - 512 + 512 = d.val
      omega
    · refine (gatedSum_apply upper x g r _).trans (Finset.sum_congr rfl fun k _ => congrArg (· * g (ix2 r k)) ?_)
      unfold unpack
      rw [dif_neg hd]
      rfl

/-- An entry of what the body stores. -/
theorem stored_apply (x : Fin 4 → IVec S512x512 32) (g : FVec Ideal S512x4 .f32) (h : FVec Ideal S512x1024 .f32) (p q : FVec Ideal S1x1024 .f32) (r : Fin 512) (c : Fin 1024) :
    k0_pay6 (F := Ideal) g (k0_pay4 g (x 0) (x 1) (x 2)) (k0_pay5 g (x 0) (x 1) (x 2)) (x 3) 16#32 h p q (ix2 r c)
      = normed (summed (fun k j => x k (ix2 r j)) (fun k => g (ix2 r k)) fun d => h (ix2 r d)) (fun d => p (ix2 (0 : Fin 1) d)) (fun d => q (ix2 (0 : Fin 1) d)) c := by
  rw [pay6_eq, shapeCast_self, shapeCast_self]
  refine (normBlock_apply _ _ _ _ _ _ _ r c).trans ?_
  rw [funext fun d => sumBlock_apply x g h r d]

end Cert.Kernel3Ideal.Hand

end
-- ==== Proof.Combine.Array.lean ====
/- The combining call's output array from its blocks: every entry of the result, from what the arguments held when the call was entered. -/
module

public import proofs.«01_k».proof.Proof.Combine.Row

@[expose] public section

set_option maxRecDepth 16384

noncomputable section

namespace Cert.Kernel3Ideal.Hand

open Cert.Kernel3Ideal Cert.Kernel3Ideal.Gen Cert.Combine
open Idealize.ShloMosaic hiding ix0 ix1 ix2 ix3 ix4 ix5
open Idealize.ShloMosaic.TcCoe Idealize.ShloMosaic.ValueIdx
open Idealize.SL.Sem

variable (m : (ℓ : Loc nD τ sig) → Buf (Elt Ideal) ℓ) (c : Dev nD)

/-- The arguments on device `c`. -/
abbrev rowsArg : IVec S131072x512 32 := m ((c.tc : Thread nD τ).loc main_arg0)
abbrev gatesArg : FVec Ideal S32768x4 .f32 := m ((c.tc : Thread nD τ).loc main_arg1)
abbrev residualArg : FVec Ideal S32768x1024 .f32 := m ((c.tc : Thread nD τ).loc main_arg2)
abbrev gainArg : FVec Ideal S1024 .f32 := m ((c.tc : Thread nD τ).loc main_arg3)
abbrev biasArg : FVec Ideal S1024 .f32 := m ((c.tc : Thread nD τ).loc main_arg4)

/-- The result of device `c`. -/
def answers : FVec Ideal S32768x1024 .f32 := fun y => answer (rowsArg m c) (gatesArg m c) (residualArg m c) (gainArg m c) (biasArg m c) (y 0) (y 1)

/-- The gain and the bias as the call reads them: the arguments with an axis of size one put in. -/
theorem gain_eq : (V m c main_v0 : FVec Ideal S1x1024 .f32) = shapeCast S1x1024 (gainArg m c) shapeCasts_S1024_S1x1024 := by
  show StableHlo.after _ _ (Proc.devRef .tc main_v0) = _
  after_results
  rfl
theorem bias_eq : (V m c main_v1 : FVec Ideal S1x1024 .f32) = shapeCast S1x1024 (biasArg m c) shapeCasts_S1024_S1x1024 := by
  show StableHlo.after _ _ (Proc.devRef .tc main_v1) = _
  after_results
  rfl

/-- The block indices. -/
theorem ix_rows0 : ∀ t : Fin grid0.N, cc0_transform_0 (grid0.coords t) = ![t.val, 0] := by decide +kernel
theorem ix_rows1 : ∀ t : Fin grid0.N, cc0_transform_1 (grid0.coords t) = ![64 + t.val, 0] := by decide +kernel
theorem ix_rows2 : ∀ t : Fin grid0.N, cc0_transform_2 (grid0.coords t) = ![128 + t.val, 0] := by decide +kernel
theorem ix_rows3 : ∀ t : Fin grid0.N, cc0_transform_3 (grid0.coords t) = ![192 + t.val, 0] := by decide +kernel
theorem ix_gates : ∀ t : Fin grid0.N, cc0_transform_4 (grid0.coords t) = ![t.val, 0] := by decide +kernel
theorem ix_residual : ∀ t : Fin grid0.N, cc0_transform_5 (grid0.coords t) = ![t.val, 0] := by decide +kernel
theorem ix_gain : ∀ t : Fin grid0.N, cc0_transform_6 (grid0.coords t) = ![0, 0] := by decide +kernel
theorem ix_bias : ∀ t : Fin grid0.N, cc0_transform_7 (grid0.coords t) = ![0, 0] := by decide +kernel
theorem ix_out : ∀ t : Fin grid0.N, cc0_transform_8 (grid0.coords t) = ![t.val, 0] := by decide +kernel

variable (t : Fin cfg0.N)

/-- The blocks at a grid point. -/
abbrev rowsBlk (k : Fin 4) : IVec S512x512 32 := match k with
  | 0 => iblk m c 0 t
  | 1 => iblk m c 1 t
  | 2 => iblk m c 2 t
  | 3 => iblk m c 3 t
abbrev gatesBlk : FVec Ideal S512x4 .f32 := iblk m c 4 t
abbrev residualBlk : FVec Ideal S512x1024 .f32 := iblk m c 5 t
abbrev gainBlk : FVec Ideal S1x1024 .f32 := iblk m c 6 t
abbrev biasBlk : FVec Ideal S1x1024 .f32 := iblk m c 7 t

/-- A row of the words, by its number. -/
theorem rows_at (y : S131072x512.Idx) (R : Fin 131072) (j : Fin 512) (h0 : (y 0).val = R.val) (h1 : (y 1).val = j.val) :
    (V m c main_arg0 : IVec S131072x512 32) y = rowsArg m c (ix2 R j) := by
  rw [V_main_arg0]
  refine congrArg (rowsArg m c) (funext fun a => Fin.ext ?_)
  match a with
  | ⟨0, _⟩ => exact h0
  | ⟨1, _⟩ => exact h1

theorem rowsBlk_apply (k : Fin 4) (r j : Fin 512) (R : Fin 32768) (hR : R.val = t.val * 512 + r.val) : rowsBlk m c t k (ix2 r j) = rowsArg m c (ix2 (choiceRow k R) j) := by
  match k with
  | 0 =>
    refine rows_at m c (((cfg0.win 0).blk t).view.emb (ix2 r j)) (choiceRow 0 R) j ?_ ?_
    · show cc0_transform_0 (grid0.coords t) 0 * 512 + 1 * r.val = 0 * 32768 + R.val
      rw [ix_rows0]; show t.val * 512 + 1 * r.val = 0 * 32768 + R.val; omega
    · show cc0_transform_0 (grid0.coords t) 1 * 512 + 1 * j.val = j.val
      rw [ix_rows0]; show 0 * 512 + 1 * j.val = j.val; omega
  | 1 =>
    refine rows_at m c (((cfg0.win 1).blk t).view.emb (ix2 r j)) (choiceRow 1 R) j ?_ ?_
    · show cc0_transform_1 (grid0.coords t) 0 * 512 + 1 * r.val = 1 * 32768 + R.val
      rw [ix_rows1]; show (64 + t.val) * 512 + 1 * r.val = 1 * 32768 + R.val; omega
    · show cc0_transform_1 (grid0.coords t) 1 * 512 + 1 * j.val = j.val
      rw [ix_rows1]; show 0 * 512 + 1 * j.val = j.val; omega
  | 2 =>
    refine rows_at m c (((cfg0.win 2).blk t).view.emb (ix2 r j)) (choiceRow 2 R) j ?_ ?_
    · show cc0_transform_2 (grid0.coords t) 0 * 512 + 1 * r.val = 2 * 32768 + R.val
      rw [ix_rows2]; show (128 + t.val) * 512 + 1 * r.val = 2 * 32768 + R.val; omega
    · show cc0_transform_2 (grid0.coords t) 1 * 512 + 1 * j.val = j.val
      rw [ix_rows2]; show 0 * 512 + 1 * j.val = j.val; omega
  | 3 =>
    refine rows_at m c (((cfg0.win 3).blk t).view.emb (ix2 r j)) (choiceRow 3 R) j ?_ ?_
    · show cc0_transform_3 (grid0.coords t) 0 * 512 + 1 * r.val = 3 * 32768 + R.val
      rw [ix_rows3]; show (192 + t.val) * 512 + 1 * r.val = 3 * 32768 + R.val; omega
    · show cc0_transform_3 (grid0.coords t) 1 * 512 + 1 * j.val = j.val
      rw [ix_rows3]; show 0 * 512 + 1 * j.val = j.val; omega

theorem gatesBlk_apply (r : Fin 512) (k : Fin 4) (R : Fin 32768) (hR : R.val = t.val * 512 + r.val) : gatesBlk m c t (ix2 r k) = gatesArg m c (ix2 R k) := by
  show (V m c main_arg1 : FVec Ideal S32768x4 .f32) (((cfg0.win 4).blk t).view.emb (ix2 r k)) = _
  rw [V_main_arg1]
  refine congrArg (gatesArg m c) (funext fun a => Fin.ext ?_)
  match a with
  | ⟨0, _⟩ =>
    show cc0_transform_4 (grid0.coords t) 0 * 512 + 1 * r.val = R.val
    rw [ix_gates]; show t.val * 512 + 1 * r.val = R.val; omega
  | ⟨1, _⟩ =>
    show cc0_transform_4 (grid0.coords t) 1 * 4 + 1 * k.val = k.val
    rw [ix_gates]; show 0 * 4 + 1 * k.val = k.val; omega

theorem residualBlk_apply (r : Fin 512) (d : Fin 1024) (R : Fin 32768) (hR : R.val = t.val * 512 + r.val) : residualBlk m c t (ix2 r d) = residualArg m c (ix2 R d) := by
  show (V m c main_arg2 : FVec Ideal S32768x1024 .f32) (((cfg0.win 5).blk t).view.emb (ix2 r d)) = _
  rw [V_main_arg2]
  refine congrArg (residualArg m c) (funext fun a => Fin.ext ?_)
  match a with
  | ⟨0, _⟩ =>
    show cc0_transform_5 (grid0.coords t) 0 * 512 + 1 * r.val = R.val
    rw [ix_residual]; show t.val * 512 + 1 * r.val = R.val; omega
  | ⟨1, _⟩ =>
    show cc0_transform_5 (grid0.coords t) 1 * 1024 + 1 * d.val = d.val
    rw [ix_residual]; show 0 * 1024 + 1 * d.val = d.val; omega

theorem gainBlk_apply (d : Fin 1024) : gainBlk m c t (ix2 (0 : Fin 1) d) = gainArg m c (ix1 d) := by
  show (V m c main_v0 : FVec Ideal S1x1024 .f32) (((cfg0.win 6).blk t).view.emb (ix2 (0 : Fin 1) d)) = _
  rw [gain_eq]
  refine shapeCast_apply _ _ _ _ ?_
  rw [Shape.rowMajor_val_one, Shape.rowMajor_val_two]
  show d.val = (cc0_transform_6 (grid0.coords t) 0 * 1 + 1 * 0) * 1024 + (cc0_transform_6 (grid0.coords t) 1 * 1024 + 1 * d.val)
  rw [ix_gain]; show d.val = (0 * 1 + 1 * 0) * 1024 + (0 * 1024 + 1 * d.val); omega

theorem biasBlk_apply (d : Fin 1024) : biasBlk m c t (ix2 (0 : Fin 1) d) = biasArg m c (ix1 d) := by
  show (V m c main_v1 : FVec Ideal S1x1024 .f32) (((cfg0.win 7).blk t).view.emb (ix2 (0 : Fin 1) d)) = _
  rw [bias_eq]
  refine shapeCast_apply _ _ _ _ ?_
  rw [Shape.rowMajor_val_one, Shape.rowMajor_val_two]
  show d.val = (cc0_transform_7 (grid0.coords t) 0 * 1 + 1 * 0) * 1024 + (cc0_transform_7 (grid0.coords t) 1 * 1024 + 1 * d.val)
  rw [ix_bias]; show d.val = (0 * 1 + 1 * 0) * 1024 + (0 * 1024 + 1 * d.val); omega

/-- The block a grid point leaves. -/
theorem out_apply (r : Fin 512) (k : Fin 1024) (R : Fin 32768) (hR : R.val = t.val * 512 + r.val) :
    out0_8 (F := Ideal) (iblk m c 0 t) (iblk m c 1 t) (iblk m c 2 t) (iblk m c 3 t) (iblk m c 4 t) (iblk m c 5 t) (iblk m c 6 t) (iblk m c 7 t) (ix2 r k)
      = answer (rowsArg m c) (gatesArg m c) (residualArg m c) (gainArg m c) (biasArg m c) R k := by
  unfold out0_8 answer
  rw [View.canon_cons_unit_lit _ _ _ (by decide)]
  iterate 8 rw [View.ld_unit_lit _ _ (by decide)]
  refine (stored_apply (rowsBlk m c t) (gatesBlk m c t) (residualBlk m c t) (gainBlk m c t) (biasBlk m c t) r k).trans ?_
  rw [show (fun k j => rowsBlk m c t k (ix2 r j)) = fun k (j : Fin 512) => rowsArg m c (ix2 (choiceRow k R) j) from funext fun k => funext fun j => rowsBlk_apply m c t k r j R hR,
    show (fun k => gatesBlk m c t (ix2 r k)) = fun (k : Fin 4) => gatesArg m c (ix2 R k) from funext fun k => gatesBlk_apply m c t r k R hR,
    show (fun d => residualBlk m c t (ix2 r d)) = fun (d : Fin 1024) => residualArg m c (ix2 R d) from funext fun d => residualBlk_apply m c t r d R hR,
    show (fun d => gainBlk m c t (ix2 (0 : Fin 1) d)) = fun (d : Fin 1024) => gainArg m c (ix1 d) from funext fun d => gainBlk_apply m c t d,
    show (fun d => biasBlk m c t (ix2 (0 : Fin 1) d)) = fun (d : Fin 1024) => biasArg m c (ix1 d) from funext fun d => biasBlk_apply m c t d]

theorem out_covers : (cfg0.win 8).Covers := by
  refine ⟨(by decide : ∀ a, 0 < S512x1024.size a), fun β => ?_⟩
  have h0 : (β (0 : Fin 2)).val < (32768 + 512 - 1) / 512 := (β (0 : Fin 2)).isLt
  have h1 : (β (1 : Fin 2)).val < (1024 + 1024 - 1) / 1024 := (β (1 : Fin 2)).isLt
  have hN : cfg0.grid.N = 64 := rfl
  refine ⟨⟨(β (0 : Fin 2)).val, by rw [hN]; omega⟩, flush0_8 _, fun a => ⟨?_, .inl rfl⟩⟩
  show cc0_transform_8 (grid0.coords _) a = _
  rw [ix_out]
  match a with
  | ⟨0, _⟩ => rfl
  | ⟨1, _⟩ => show 0 = (β (1 : Fin 2)).val; omega

/-- The output array after the call. -/
theorem out_array : (dats m 0 c).arrAt 8 cfg0.N = answers m c := by
  refine (dats m 0 c).arrAt_eq_of_covers 8 _ out_covers fun t hf y => ?_
  obtain ⟨r, k, rfl⟩ : ∃ (r : Fin 512) (k : Fin 1024), y = (ix2 r k : S512x1024.Idx) := ⟨y (0 : Fin 2), y (1 : Fin 2), ValueIdx.eq_ix2 y⟩
  show (dats m 0 c).after 8 t (ix2 r k) = _
  rw [after0_8]
  have e0 : (((cfg0.win 8).blk t).view.emb (ix2 r k) (0 : Fin 2)).val = t.val * 512 + r.val := by
    show cc0_transform_8 (grid0.coords t) 0 * 512 + 1 * r.val = _
    rw [ix_out]
    show t.val * 512 + 1 * r.val = _
    omega
  have e1 : ((cfg0.win 8).blk t).view.emb (ix2 r k) (1 : Fin 2) = k := by
    refine Fin.ext ?_
    show cc0_transform_8 (grid0.coords t) 1 * 1024 + 1 * k.val = _
    rw [ix_out]
    show 0 * 1024 + 1 * k.val = k.val
    omega
  refine (out_apply m c t r k _ e0).trans ?_
  unfold answers
  rw [e1]

end Cert.Kernel3Ideal.Hand

end
-- ==== Proof.Combine.Reference.lean ====
/- The combining call's reference over the extended reals: every entry of its result. -/
module

public import proofs.«01_k».proof.Proof.Combine.Row
public import proofs.«01_k».proof.Proof.Gen.Reference3Ideal.Read

@[expose] public section

set_option maxRecDepth 16384

noncomputable section

namespace Cert.Reference3Ideal.Hand

open Cert.Reference3Ideal Cert.Reference3Ideal.Gen Cert.Reference3Ideal.Read Cert.Combine Cert.Trunk
open Cert.Experts (unpack)
open Idealize.ShloMosaic hiding ix0 ix1 ix2 ix3 ix4 ix5
open Idealize.ShloMosaic.TcCoe Idealize.ShloMosaic.ValueIdx

variable (x0 : IVec S131072x512 32) (x1 : FVec Ideal S32768x4 .f32) (x2 : FVec Ideal S32768x1024 .f32) (x3 x4 : FVec Ideal S1024 .f32)

/-- The unpacked rows. -/
theorem rows_apply (R : Fin 131072) (d : Fin 1024) : val_main_v7 (F := Ideal) x0 (ix2 R d) = unpack (fun j => x0 (ix2 R j)) d := by
  unfold val_main_v7 unpack
  by_cases h : d.val < 512
  · rw [dif_pos h]
    refine (concatenate_pair_apply_left (t := S131072x1024) (s₁ := S131072x512) (s₂ := S131072x512) (1 : Fin 2) _ _ concatenates_S131072x512_S131072x512_S131072x1024_d1 (ix2 R d) rfl (ix2 R (⟨d.val, h⟩ : Fin 512)) fun b => ?_).trans ?_
    · match b with
      | ⟨0, _⟩ => rfl
      | ⟨1, _⟩ => rfl
    · rw [val_main_v3_apply, val_main_v2_apply, val_main_v1_apply, val_main_c_apply, val_main_v0_apply]
      rfl
  · rw [dif_neg h]
    refine (concatenate_pair_apply_right (t := S131072x1024) (s₁ := S131072x512) (s₂ := S131072x512) (1 : Fin 2) _ _ concatenates_S131072x512_S131072x512_S131072x1024_d1 (ix2 R d) rfl rfl (ix2 R (⟨d.val - 512, by omega⟩ : Fin 512)) (fun b hb => ?_) ?_).trans ?_
    · match b with
      | ⟨0, _⟩ => rfl
      | ⟨1, _⟩ => exact absurd rfl hb
    · show d.val - 512 + 512 = d.val
      omega
    · rw [val_main_v6_apply, val_main_v5_apply, val_main_v4_apply, val_main_c_0_apply, val_main_v0_apply]
      rfl

/-- A chosen expert's answer times its gate. -/
theorem gated_apply (k : Fin 4) (R : Fin 32768) (d : Fin 1024) :
    val_main_v12 (F := Ideal) x0 x1 (ix3 k R d) = unpack (fun j => x0 (ix2 (choiceRow k R) j)) d * x1 (ix2 R k) := by
  rw [val_main_v12_apply, val_main_v8_apply, val_main_v11_apply, val_main_v10_apply, val_main_v9_apply, ← rows_apply]
  refine congrArg₂ (fun p q : EReal => p * q) (congrArg (val_main_v7 (F := Ideal) x0) (funext fun a => Fin.ext ?_)) (congrArg x1 (funext fun a => ?_))
  · have h1 := k.isLt
    have h2 := R.isLt
    have h3 := d.isLt
    match a with
    | ⟨0, _⟩ => show ((k.val * 32768 + R.val) * 1024 + d.val) / 1024 = k.val * 32768 + R.val; omega
    | ⟨1, _⟩ => show ((k.val * 32768 + R.val) * 1024 + d.val) % 1024 = d.val; omega
  · match a with
    | ⟨0, _⟩ => rfl
    | ⟨1, _⟩ => rfl

/-- The row that the reference normalises. -/
abbrev rowOf (R : Fin 32768) : Fin 1024 → EReal := summed (fun k j => x0 (ix2 (choiceRow k R) j)) (fun k => x1 (ix2 R k)) fun d => x2 (ix2 R d)

theorem summed_apply (R : Fin 32768) (d : Fin 1024) : val_main_v16 (F := Ideal) x0 x1 x2 (ix2 R d) = rowOf x0 x1 x2 R d := by
  rw [val_main_v16_apply, val_main_v15_apply, val_main_v14_apply, val_main_cst_1_apply, val_main_v13_apply, val_main_cst_apply]
  refine congrArg (fun s : EReal => Ideal.ofBits .f32 0x3FB504F3#32 * x2 (ix2 R d) + s) ?_
  refine (congrArg (fun s : EReal => s + _) Ideal.ofBits_zero_f32).trans ((zero_add _).trans (Finset.sum_congr rfl fun k _ => ?_))
  rw [← gated_apply x0 x1 k R d]
  refine congrArg (val_main_v12 (F := Ideal) x0 x1) (funext fun a => ?_)
  match a with
  | ⟨0, _⟩ => rfl
  | ⟨1, _⟩ => rfl
  | ⟨2, _⟩ => rfl

theorem mean_apply (R : Fin 32768) (u : Fin 1) : val_main_v20 (F := Ideal) x0 x1 x2 (ix2 R u) = mean (rowOf x0 x1 x2 R) := by
  rw [val_main_v20_apply, val_main_v18_apply, val_main_v19_apply, val_main_cst_3_apply, val_main_v17_apply, val_main_cst_2_apply]
  refine congrArg (fun s : EReal => Ideal.div s (Ideal.ofBits .f32 0x44800000#32)) ?_
  refine (congrArg (fun s : EReal => s + _) Ideal.ofBits_zero_f32).trans ((zero_add _).trans (Finset.sum_congr rfl fun k _ => ?_))
  rw [← summed_apply x0 x1 x2 R k]
  refine congrArg (val_main_v16 (F := Ideal) x0 x1 x2) (funext fun a => ?_)
  match a with
  | ⟨0, _⟩ => rfl
  | ⟨1, _⟩ => rfl

theorem centred_apply (R : Fin 32768) (d : Fin 1024) : val_main_v22 (F := Ideal) x0 x1 x2 (ix2 R d) = rowOf x0 x1 x2 R d - mean (rowOf x0 x1 x2 R) := by
  rw [val_main_v22_apply, summed_apply, val_main_v21_apply, ← mean_apply x0 x1 x2 R 0]
  refine congrArg (fun y => rowOf x0 x1 x2 R d - val_main_v20 (F := Ideal) x0 x1 x2 y) (funext fun a => ?_)
  match a with
  | ⟨0, _⟩ => rfl
  | ⟨1, _⟩ => rfl

theorem variance_apply (R : Fin 32768) (u : Fin 1) :
    val_main_v27 (F := Ideal) x0 x1 x2 (ix2 R u) = mean fun k => (rowOf x0 x1 x2 R k - mean (rowOf x0 x1 x2 R)) * (rowOf x0 x1 x2 R k - mean (rowOf x0 x1 x2 R)) := by
  rw [val_main_v27_apply, val_main_v25_apply, val_main_v26_apply, val_main_cst_5_apply, val_main_v24_apply, val_main_cst_4_apply]
  refine congrArg (fun s : EReal => Ideal.div s (Ideal.ofBits .f32 0x44800000#32)) ?_
  refine (congrArg (fun s : EReal => s + _) Ideal.ofBits_zero_f32).trans ((zero_add _).trans (Finset.sum_congr rfl fun k _ => ?_))
  beta_reduce
  rw [← centred_apply x0 x1 x2 R k]
  refine (congrArg (val_main_v23 (F := Ideal) x0 x1 x2) (funext fun a => ?_)).trans (val_main_v23_apply (F := Ideal) x0 x1 x2 (ix2 R k))
  match a with
  | ⟨0, _⟩ => rfl
  | ⟨1, _⟩ => rfl

/-- The reference's result, entry by entry. -/
theorem result_apply (R : Fin 32768) (c : Fin 1024) : val_main_v40 (F := Ideal) x0 x1 x2 x3 x4 (ix2 R c) = answer x0 x1 x2 x3 x4 R c := by
  have e : ∀ y : S32768x1.Idx, (y 0).val = R.val → y = ix2 R (0 : Fin 1) := fun y h => funext fun a => by
    match a with
    | ⟨0, _⟩ => exact Fin.ext h
    | ⟨1, _⟩ => exact Subsingleton.elim (α := Fin 1) _ _
  rw [val_main_v40_apply, val_main_v37_apply, val_main_v34_apply, val_main_v29_apply, val_main_v28_apply, val_main_v33_apply, val_main_v32_apply, val_main_v31_apply,
    val_main_v30_apply, val_main_cst_6_apply, val_main_v36_apply, val_main_v35_apply, val_main_v39_apply, val_main_v38_apply, summed_apply,
    e (idx_main_v28 (ix2 R c)) rfl, e (idx_main_v33 (ix2 R c)) rfl, mean_apply, variance_apply]
  unfold answer normed
  refine congrArg₂ (fun p q : EReal => p + q) (congrArg (fun p : EReal => _ * p) (congrArg x3 (funext fun a => ?_))) (congrArg x4 (funext fun a => ?_))
  · match a with
    | ⟨0, _⟩ => rfl
  · match a with
    | ⟨0, _⟩ => rfl

end Cert.Reference3Ideal.Hand

end
-- ==== Proof.Combine.Result.lean ====
/- Over the extended reals the combining kernel and its reference return the same result. -/
module

public import proofs.«01_k».proof.Proof.Combine.Array
public import proofs.«01_k».proof.Proof.Combine.Frames
public import proofs.«01_k».proof.Proof.Combine.Reference

@[expose] public section

set_option maxRecDepth 16384

noncomputable section

namespace Cert.Kernel3Ideal.Hand

open Cert.Kernel3Ideal Cert.Kernel3Ideal.Gen Cert.Combine
open Idealize.ShloMosaic hiding ix0 ix1 ix2 ix3 ix4 ix5
open Idealize.ShloMosaic.TcCoe Idealize.ShloMosaic.ValueIdx
open Idealize.SL.Sem

variable (m : (ℓ : Loc nD τ sig) → Buf (Elt Ideal) ℓ) (g : Dev nD → PrngReg)

/-- What the reference computes of the kernel's arguments is the kernel's result. -/
theorem reference_answers (c : Dev nD) :
    Cert.Reference3Ideal.Read.val_main_v40 (F := Ideal) (rowsArg m c) (gatesArg m c) (residualArg m c) (gainArg m c) (biasArg m c) = answers m c := by
  funext y
  obtain ⟨R, k, rfl⟩ : ∃ (R : Fin 32768) (k : Fin 1024), y = (ix2 R k : S32768x1024.Idx) := ⟨y (0 : Fin 2), y (1 : Fin 2), ValueIdx.eq_ix2 y⟩
  exact Cert.Reference3Ideal.Hand.result_apply _ _ _ _ _ R k

end Cert.Kernel3Ideal.Hand

namespace Cert.Proof

open Idealize.ShloMosaic Idealize.ShloMosaic.TcCoe Idealize.SL.Sem

/-- Over the extended reals the combining kernel and its reference return the same result. -/
theorem same_combine : Cert.algebraic_Kernel3Ideal_Reference3Ideal := fun m g m' g' _ hargs =>
  ⟨Cert.Kernel3Ideal.Hand.answers m,
    (θ_run Cert.Kernel3Ideal.defs _ _).mono (fun r h c => ⟨(h c).1.trans (Cert.Kernel3Ideal.Hand.out_array m c), (h c).2⟩) (Cert.Kernel3Ideal.Value.run_blocks m g),
    (θ_run Cert.Reference3Ideal.defs _ _).mono (fun r h c => ⟨by
      refine (h c).1.trans ((Cert.Reference3Ideal.Read.val_main_v40_eq m' c).trans ?_)
      rw [(hargs c).1, (hargs c).2.1, (hargs c).2.2.1, (hargs c).2.2.2.1, (hargs c).2.2.2.2]
      exact Cert.Kernel3Ideal.Hand.reference_answers m c, (h c).2⟩) (Cert.Reference3Ideal.Value.run (F := Ideal) m' g')⟩

end Cert.Proof

end
-- ==== Proof.Cross.Frames.lean ====
/- The frames of the two kernels and the reference of the cross-attention call. -/
module

public import proofs.«01_k».proof.Defs
public import proofs.«01_k».proof.Proof.Gen.Kernel4
public import proofs.«01_k».proof.Proof.Gen.Kernel4Ideal.Value
public import proofs.«01_k».proof.Proof.Gen.Reference4Ideal.Run
public import Idealize.ShloMosaic.Adequacy
public import Idealize.ShloMosaic.Init

@[expose] public section

set_option maxRecDepth 16384
set_option maxHeartbeats 1000000

noncomputable section

namespace Cert.Proof.Cross

open Idealize.ShloMosaic Idealize.ShloMosaic.TcCoe Idealize.SL.Sem

/-- The two kernels have the same bodies, the same calls and the same main. -/
theorem bodies_eq : Cert.Kernel4.defs₀ (F := Bits) = Cert.Kernel4Ideal.defs₀ (F := Bits) := by
  unfold Cert.Kernel4.defs₀ Cert.Kernel4Ideal.defs₀
  refine congrArg Defs.onTc (funext fun l => ?_)
  obtain rfl : l = 0 := Subsingleton.elim _ _
  refine funext fun p => ?_
  rfl
theorem defs_eq : Cert.Kernel4.defs (F := Bits) = Cert.Kernel4Ideal.defs (F := Bits) := by
  unfold Cert.Kernel4.defs Cert.Kernel4Ideal.defs
  exact congrArg (Pipeline.defs (Cert.Kernel4Ideal.pcfgs (F := Bits))) bodies_eq
theorem main_eq : Cert.Kernel4.main (F := Bits) = Cert.Kernel4Ideal.main (F := Bits) := rfl

/-- The kernel runs as the ideal one does, whose text it shares. -/
theorem frame_kernel : Cert.quiescent_Kernel4 := by
  intro m ρ _
  rw [defs_eq, main_eq]
  exact Cert.Kernel4Ideal.Gen.frame (F := Bits) m ρ

/-- The ideal kernel ends with its arguments as they were. -/
theorem frame_ideal : Cert.quiescent_Kernel4Ideal := fun m ρ _ => Cert.Kernel4Ideal.Gen.frame m ρ
theorem frame_ideal_pre [Cert.Pre_finite_cross_scores.Facts] : Cert.quiescent_Kernel4Ideal_pre_finite_cross_scores := fun m ρ _ => Cert.Kernel4Ideal.Gen.frame m ρ

/-- The reference leaves its arguments, and it has no semaphore. -/
theorem frame_reference : Cert.quiescent_Reference4Ideal := fun m ρ _ =>
  (θ_run Cert.Reference4Ideal.defs _ _).mono (fun r h => ⟨fun c => (h c).2.2, sem_eq_zero_of_no_sems (by decide) r.2⟩) (Cert.Reference4Ideal.Value.run (F := Ideal) m ρ)
theorem frame_reference_pre [Cert.Pre_finite_cross_scores.Facts] : Cert.quiescent_Reference4Ideal_pre_finite_cross_scores := fun m ρ _ =>
  (θ_run Cert.Reference4Ideal.defs _ _).mono (fun r h => ⟨fun c => (h c).2.2, sem_eq_zero_of_no_sems (by decide) r.2⟩) (Cert.Reference4Ideal.Value.run (F := Ideal) m ρ)

end Cert.Proof.Cross

end
-- ==== Proof.Cross.Soft.lean ====
/- Attention to a memory, of one row of queries, over the extended reals: that weights divided before or after the values are added up give the same where the scores are real. -/
module

public import proofs.«01_k».proof.Proof.Value.Stick
public import proofs.«01_k».proof.Proof.Trunk.Norm

@[expose] public section

set_option maxRecDepth 16384

noncomputable section

namespace Cert.Cross

open Idealize.ShloMosaic hiding ix0 ix1 ix2 ix3 ix4 ix5
open Idealize.ShloMosaic.ValueIdx

/-- An extended real that is a real number. -/
def IsReal (x : EReal) : Prop := ∃ r : ℝ, x = (r : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {ι : Type} (s : Finset ι) (f : ι → EReal) (h : ∀ i, IsReal (f i)) : IsReal (∑ i ∈ s, f i) := by
  choose g hg using h
  exact ⟨∑ i ∈ s, g i, (Finset.sum_congr rfl fun i _ => hg i).trans (Cert.KernelIdeal.Hand.coe_sum s g).symm⟩

/-- A nonnegative real factor goes into a sum. -/
theorem sum_mul_real {ι : Type} (s : Finset ι) (f : ι → EReal) (w : ℝ) (hw : 0 ≤ w) : (∑ i ∈ s, f i) * (w : EReal) = ∑ i ∈ s, f i * (w : EReal) := by
  classical
  induction s using Finset.induction_on with
  | empty => rw [Finset.sum_empty, Finset.sum_empty, zero_mul]
  | insert a s ha ih =>
    rw [Finset.sum_insert ha, Finset.sum_insert ha, EReal.right_distrib_of_nonneg_of_ne_top (EReal.coe_nonneg.mpr hw) (EReal.coe_ne_top w), ih]

/-- The greatest of a row of scores. -/
def top (z : Fin 256 → EReal) : EReal := Finset.univ.fold max ⊥ z

/-- The weight of a score before it is divided by the weights' sum. -/
def weight (z : Fin 256 → EReal) (s : Fin 256) : EReal := Ideal.exp (z s - top z)

/-- The values weighted, over the weights' sum. -/
def mix (z v : Fin 256 → EReal) : EReal := Ideal.div (∑ s, weight z s * v s) (∑ s, weight z s)

/-- Where the scores are real, the weights may be divided first. -/
theorem mix_eq (z v : Fin 256 → EReal) (h : ∀ s, IsReal (z s)) : mix z v = ∑ s, v s * Ideal.div (weight z s) (∑ s, weight z s) := by
  choose x hx using h
  obtain ⟨s0, -, h0⟩ := Finset.exists_mem_eq_sup (Finset.univ : Finset (Fin 256)) ⟨0, Finset.mem_univ _⟩ z
  have ht : top z = (x s0 : EReal) := (show top z = Finset.univ.sup z from rfl).trans (h0.trans (hx s0))
  have hwt : ∀ s, weight z s = ((Real.exp (x s - x s0) : ℝ) : EReal) := fun s => by
    unfold weight
    rw [ht, hx s, ← EReal.coe_sub]
    rfl
  have hS : ∑ s, weight z s = ((∑ s, Real.exp (x s - x s0) : ℝ) : EReal) :=
    (Finset.sum_congr rfl fun s _ => hwt s).trans (Cert.KernelIdeal.Hand.coe_sum Finset.univ _).symm
  have hpos : 0 < ∑ s : Fin 256, Real.exp (x s - x s0) := Finset.sum_pos (fun s _ => Real.exp_pos _) ⟨0, Finset.mem_univ _⟩
  have hdiv : ∀ y : EReal, Ideal.div y (∑ s, weight z s) = y * (((∑ s, Real.exp (x s - x s0))⁻¹ : ℝ) : EReal) := fun y => by
    rw [hS]
    unfold Ideal.div
    rw [if_neg (fun e => hpos.ne' (EReal.coe_eq_zero.mp e)), EReal.coe_inv]
  unfold mix
  rw [hdiv, sum_mul_real _ _ _ (inv_nonneg.mpr hpos.le)]
  refine Finset.sum_congr rfl fun s _ => ?_
  rw [hdiv, mul_comm (weight z s) (v s), mul_assoc]

/-- One sixteenth, by which the scores are scaled. -/
def scale : EReal := Ideal.ofBits .f32 0x3D800000#32

theorem scale_eq : scale = ((1 / 16 : ℝ) : EReal) := by
  unfold scale
  simp [Ideal.ofBits, Ideal.ieee]
  rw [← EReal.coe_mul]
  norm_num

/-- The column of entry `i` of head `e`, and a column's head and entry. -/
def col (e : Fin 4) (i : Fin 256) : Fin 1024 := ⟨256 * e.val + i.val, by omega⟩
def headOf (j : Fin 1024) : Fin 4 := ⟨j.val / 256, by omega⟩
def entryOf (j : Fin 1024) : Fin 256 := ⟨j.val % 256, by omega⟩

theorem col_of (j : Fin 1024) : col (headOf j) (entryOf j) = j := Fin.ext (Nat.div_add_mod j.val 256)

/-- The queries of a row of the stream. -/
def queries (h : Fin 1024 → EReal) (wq : (⟨2, ![1024, 1024]⟩ : Shape).Idx → EReal) (k : Fin 1024) : EReal := ∑ i : Fin 1024, h i * wq (ix2 i k)

/-- The scores of head `e`. -/
def scores (q : Fin 1024 → EReal) (K : Fin 256 → Fin 1024 → EReal) (e : Fin 4) (s : Fin 256) : EReal := (∑ i : Fin 256, q (col e i) * K s (col e i)) * scale

/-- The queries may be scaled before the scores are taken. -/
theorem scaled_scores (q : Fin 1024 → EReal) (K : Fin 256 → Fin 1024 → EReal) (e : Fin 4) (s : Fin 256) :
    ∑ i : Fin 256, (q (col e i) * scale) * K s (col e i) = scores q K e s := by
  unfold scores
  rw [scale_eq, sum_mul_real _ _ _ (by norm_num)]
  exact Finset.sum_congr rfl fun i _ => by rw [mul_assoc, mul_comm _ (K s (col e i)), ← mul_assoc]

theorem scores_real (q : Fin 1024 → EReal) (K : Fin 256 → Fin 1024 → EReal) (hq : ∀ k, IsReal (q k)) (hK : ∀ s k, IsReal (K s k)) (e : Fin 4) (s : Fin 256) :
    IsReal (scores q K e s) :=
  (IsReal.sum _ _ fun i => (hq _).mul (hK s _)).mul ⟨1 / 16, scale_eq⟩

/-- Column `j` of what a row attends to. -/
def attended (q : Fin 1024 → EReal) (K V : Fin 256 → Fin 1024 → EReal) (j : Fin 1024) : EReal := mix (scores q K (headOf j)) fun s => V s j

/-- The row before it is normalised: the stream, scaled, and the projection of what it attends to. -/
def joined (h : Fin 1024 → EReal) (wq wo : (⟨2, ![1024, 1024]⟩ : Shape).Idx → EReal) (K V : Fin 256 → Fin 1024 → EReal) (d : Fin 1024) : EReal :=
  Ideal.ofBits .f32 0x3FB504F3#32 * h d + ∑ j : Fin 1024, attended (queries h wq) K V j * wo (ix2 j d)

/-- The memory of row `R`, and the keys and values there. -/
def memoryOf (R : Fin 32768) : Fin 4 := ⟨R.val / 8192, by omega⟩
def keysOf (x1 : (⟨3, ![4, 256, 2048]⟩ : Shape).Idx → EReal) (b : Fin 4) (s : Fin 256) (k : Fin 1024) : EReal := x1 (ix3 b s (⟨k.val, by omega⟩ : Fin 2048))
def valuesOf (x1 : (⟨3, ![4, 256, 2048]⟩ : Shape).Idx → EReal) (b : Fin 4) (s : Fin 256) (k : Fin 1024) : EReal := x1 (ix3 b s (⟨1024 + k.val, by omega⟩ : Fin 2048))

/-- Entry `(R, c)` of the result. -/
def answer (x0 : (⟨2, ![32768, 1024]⟩ : Shape).Idx → EReal) (x1 : (⟨3, ![4, 256, 2048]⟩ : Shape).Idx → EReal) (x2 x3 : (⟨2, ![1024, 1024]⟩ : Shape).Idx → EReal)
    (x4 x5 : (⟨1, ![1024]⟩ : Shape).Idx → EReal) (R : Fin 32768) (c : Fin 1024) : EReal :=
  Trunk.normed (joined (fun d => x0 (ix2 R d)) x2 x3 (keysOf x1 (memoryOf R)) (valuesOf x1 (memoryOf R))) (fun d => x4 (ix1 d)) (fun d => x5 (ix1 d)) c

end Cert.Cross

end
-- ==== Proof.Cross.Row.lean ====
/- One row of the cross-attention: the kernel's blocks, entry by entry. -/
module

public import proofs.«01_k».proof.Proof.Cross.Soft
public import proofs.«01_k».proof.Proof.Gen.Kernel4Ideal.Value

@[expose] public section

set_option maxRecDepth 16384

noncomputable section

namespace Cert.Kernel4Ideal.Hand

open Cert.Kernel4Ideal Cert.Kernel4Ideal.Gen Cert.Cross Cert.Trunk
open Idealize.ShloMosaic hiding ix0 ix1 ix2 ix3 ix4 ix5
open Idealize.ShloMosaic.TcCoe Idealize.ShloMosaic.ValueIdx

/-- The scores of a block of queries. -/
def scoreBlock (q : FVec Ideal S512x256 .bf16) (k : FVec Ideal S256x256 .bf16) : FVec Ideal S512x256 .f32 :=
  matmul dot_S512x256_S256x256_S512x256_1_1_0_0_n_n none q k (constant S512x256 .f32 0x00000000#32)

/-- Their weights. -/
def weightBlock (z : FVec Ideal S512x256 .f32) : FVec Ideal S512x256 .f32 :=
  exp (subf z (broadcastTo S512x256 (shapeCast S512x1 (multiReduction .maximumf [1] S512 z 0xFF800000#32 reduces_S512x256_S512 (.inl rfl) rfl) shapeCasts_S512_S512x1) broadcasts_S512x1_S512x256))

/-- The values weighted, over the weights' sums. -/
def mixBlock (p : FVec Ideal S512x256 .f32) (v : FVec Ideal S256x256 .bf16) : FVec Ideal S512x256 .bf16 :=
  truncf .bf16 (divf (matmul dot_S512x256_S256x256_S512x256_1_0_0_1_n_n none (truncf .bf16 p bitsLt_bf16_f32) v (constant S512x256 .f32 0x00000000#32))
    (broadcastTo S512x256 (shapeCast S512x1 (multiReduction .add [1] S512 p 0x00000000#32 reduces_S512x256_S512 (.inl rfl) rfl) shapeCasts_S512_S512x1) broadcasts_S512x1_S512x256)) bitsLt_bf16_f32

/-- One head's part of a block. -/
def headBlock (q : FVec Ideal S512x256 .bf16) (k v : FVec Ideal S256x256 .bf16) : FVec Ideal S512x256 .bf16 := mixBlock (weightBlock (scoreBlock q k)) v

/-- The four heads of a block. -/
def heads (q : FVec Ideal S512x1024 .bf16) (kv : FVec Ideal S256x2048 .bf16) : Fin 4 → FVec Ideal S512x256 .bf16
  | 0 => headBlock (extractStridedSlice S512x256 ![0, 0] q slices_S512x1024_o0_0_S512x256) (extractStridedSlice S256x256 ![0, 0] kv slices_S256x2048_o0_0_S256x256) (extractStridedSlice S256x256 ![0, 1024] kv slices_S256x2048_o0_1024_S256x256)
  | 1 => headBlock (extractStridedSlice S512x256 ![0, 256] q slices_S512x1024_o0_256_S512x256) (extractStridedSlice S256x256 ![0, 256] kv slices_S256x2048_o0_256_S256x256) (extractStridedSlice S256x256 ![0, 1280] kv slices_S256x2048_o0_1280_S256x256)
  | 2 => headBlock (extractStridedSlice S512x256 ![0, 512] q slices_S512x1024_o0_512_S512x256) (extractStridedSlice S256x256 ![0, 512] kv slices_S256x2048_o0_512_S256x256) (extractStridedSlice S256x256 ![0, 1536] kv slices_S256x2048_o0_1536_S256x256)
  | 3 => headBlock (extractStridedSlice S512x256 ![0, 768] q slices_S512x1024_o0_768_S512x256) (extractStridedSlice S256x256 ![0, 768] kv slices_S256x2048_o0_768_S256x256) (extractStridedSlice S256x256 ![0, 1792] kv slices_S256x2048_o0_1792_S256x256)

/-- The heads side by side. -/
def allHeads (H : Fin 4 → FVec Ideal S512x256 .bf16) : FVec Ideal S512x1024 .bf16 :=
  concatenate S512x1024 1 [⟨S512x256, H 0⟩, ⟨S512x256, H 1⟩, ⟨S512x256, H 2⟩, ⟨S512x256, H 3⟩] concatenates_S512x256_S512x256_S512x256_S512x256_S512x1024_d1

/-- The block before it is normalised. -/
def joinedBlock (h : FVec Ideal S512x1024 .f32) (q : FVec Ideal S512x1024 .bf16) (kv : FVec Ideal S256x2048 .bf16) (wo : FVec Ideal S1024x1024 .bf16) : FVec Ideal S512x1024 .f32 :=
  addf (mulf (broadcast S512x1024 (Scalar.ofBits .f32 0x3FB504F3#32)) h)
    (matmul dot_S512x1024_S1024x1024_S512x1024_1_0_0_1_n_n none (allHeads (heads q kv)) (shapeCast S1024x1024 wo shapeCasts_S1024x1024_S1024x1024) (constant S512x1024 .f32 0x00000000#32))

theorem pay7_eq (h : FVec Ideal S512x1024 .f32) (wq : FVec Ideal S1024x1024 .bf16) (kv : FVec Ideal S1x256x2048 .bf16) (wo : FVec Ideal S1024x1024 .bf16) :
    k0_pay7 (F := Ideal) h (k0_pay3 h wq) (k0_pay4 kv) (k0_pay5 h wq kv) (k0_pay6 h wq kv) wo = joinedBlock h (k0_pay3 h wq) (k0_pay4 kv) wo := rfl

theorem pay1_eq (y : FVec Ideal S512x1024 .f32) (p q : FVec Ideal S1x1024 .f32) :
    k0_pay1 (F := Ideal) y p q = normBlock reduces_S512x1024_S512 shapeCasts_S512_S512x1 broadcasts_S512x1_S512x1024 broadcasts_S1x1024_S512x1024 y p q := rfl

theorem scoreBlock_apply (q : FVec Ideal S512x256 .bf16) (k : FVec Ideal S256x256 .bf16) (r : Fin 512) (s : Fin 256) :
    scoreBlock q k (ix2 r s) = ∑ i : Fin 256, q (ix2 r i) * k (ix2 s i) := by
  unfold scoreBlock
  refine (Ideal.matmul_transposedRhs_apply none _ _ _ r s).trans ?_
  rw [zero_at, zero_add]

theorem neg_inf : (FloatOps.ofBits (F := Ideal) .f32 0xFF800000#32 : EReal) = ⊥ := by
  show Ideal.ofBits .f32 0xFF800000#32 = ⊥
  simp [Ideal.ofBits, Ideal.ieee]

theorem weightBlock_apply (z : FVec Ideal S512x256 .f32) (r : Fin 512) (s : Fin 256) : weightBlock z (ix2 r s) = weight (fun s => z (ix2 r s)) s := by
  unfold weightBlock weight top
  refine congrArg (fun t : EReal => Ideal.exp (z (ix2 r s) - t)) ?_
  refine (column_apply _ broadcasts_S512x1_S512x256 r s).trans ((shapeCast_a_a1_apply _ _ r (0 : Fin 1)).trans ((Ideal.multiReduction_maximumf_single z _ reduces_S512x256_S512 _ _ (ix1 r)).trans ?_))
  rw [neg_inf]
  refine congrArg (fun f : Fin 256 → EReal => Finset.univ.fold max ⊥ f) (funext fun k => congrArg z (funext fun a => Fin.ext ?_))
  match a with
  | ⟨0, _⟩ => rfl
  | ⟨1, _⟩ => rfl

theorem mixBlock_apply (p : FVec Ideal S512x256 .f32) (v : FVec Ideal S256x256 .bf16) (r : Fin 512) (i : Fin 256) :
    mixBlock p v (ix2 r i) = Ideal.div (∑ s : Fin 256, p (ix2 r s) * v (ix2 s i)) (∑ s : Fin 256, p (ix2 r s)) := by
  unfold mixBlock
  refine congrArg₂ (fun a b : EReal => Ideal.div a b) ?_ ?_
  · refine (Ideal.matmul_plain_apply (φ₁ := .bf16) (φ₂ := .bf16) none _ _ _ r i).trans ?_
    rw [zero_at, zero_add]
    rfl
  · refine (column_apply _ broadcasts_S512x1_S512x256 r i).trans ((shapeCast_a_a1_apply _ _ r (0 : Fin 1)).trans ((Ideal.multiReduction_add_single p _ reduces_S512x256_S512 _ _ (ix1 r)).trans ?_))
    refine Finset.sum_congr rfl fun k _ => congrArg p (funext fun a => Fin.ext ?_)
    match a with
    | ⟨0, _⟩ => rfl
    | ⟨1, _⟩ => rfl

theorem headBlock_apply (q : FVec Ideal S512x256 .bf16) (k v : FVec Ideal S256x256 .bf16) (r : Fin 512) (i : Fin 256) :
    headBlock q k v (ix2 r i) = mix (fun s => ∑ i : Fin 256, q (ix2 r i) * k (ix2 s i)) fun s => v (ix2 s i) := by
  have e : (fun s => scoreBlock q k (ix2 r s)) = fun s => ∑ i : Fin 256, q (ix2 r i) * k (ix2 s i) := funext fun s => scoreBlock_apply q k r s
  unfold headBlock mix
  rw [← e, mixBlock_apply]
  refine congrArg₂ (fun a b : EReal => Ideal.div a b) (Finset.sum_congr rfl fun s _ => ?_) (Finset.sum_congr rfl fun s _ => weightBlock_apply _ r s)
  exact congrArg (fun w : EReal => w * v (ix2 s i)) (weightBlock_apply _ r s)

/-- A slice of columns. -/
theorem columns_apply {α : Type} {n m : ℕ} (x : (⟨2, ![n, m]⟩ : Shape).Idx → α) (o : ℕ) (hs : (⟨2, ![n, m]⟩ : Shape).Slices ![0, o] ⟨2, ![n, 256]⟩) (r : Fin n) (i : Fin 256) (j : Fin m) (hj : j.val = o + i.val) :
    extractStridedSlice ⟨2, ![n, 256]⟩ ![0, o] x hs (ix2 r i) = x (ix2 r j) := by
  refine extractStridedSlice_apply _ _ _ _ _ fun a => ?_
  match a with
  | ⟨0, _⟩ => show r.val = 0 + r.val; omega
  | ⟨1, _⟩ => exact hj

theorem head_of (q : FVec Ideal S512x1024 .bf16) (kv : FVec Ideal S256x2048 .bf16) (r : Fin 512) (e : Fin 4) (i : Fin 256)
    (oq ok ov : ℕ) (hq : S512x1024.Slices ![0, oq] S512x256) (hk : S256x2048.Slices ![0, ok] S256x256) (hv : S256x2048.Slices ![0, ov] S256x256)
    (eq : oq = 256 * e.val) (ek : ok = 256 * e.val) (ev : ov = 1024 + 256 * e.val) :
    headBlock (extractStridedSlice S512x256 ![0, oq] q hq) (extractStridedSlice S256x256 ![0, ok] kv hk) (extractStridedSlice S256x256 ![0, ov] kv hv) (ix2 r i)
      = mix (fun s => ∑ i : Fin 256, q (ix2 r (col e i)) * kv (ix2 s (⟨(col e i).val, by omega⟩ : Fin 2048))) fun s => kv (ix2 s (⟨1024 + (col e i).val, by omega⟩ : Fin 2048)) := by
  rw [headBlock_apply]
  refine congrArg₂ mix (funext fun s => Finset.sum_congr rfl fun i _ => congrArg₂ (fun a b : EReal => a * b) (columns_apply q oq hq r i _ ?_) (columns_apply kv ok hk s i _ ?_)) (funext fun s => columns_apply kv ov hv s i _ ?_)
  · show 256 * e.val + i.val = oq + i.val; omega
  · show 256 * e.val + i.val = ok + i.val; omega
  · show 1024 + (256 * e.val + i.val) = ov + i.val; omega

theorem heads_apply (q : FVec Ideal S512x1024 .bf16) (kv : FVec Ideal S256x2048 .bf16) (r : Fin 512) (e : Fin 4) (i : Fin 256) :
    heads q kv e (ix2 r i)
      = mix (fun s => ∑ i : Fin 256, q (ix2 r (col e i)) * kv (ix2 s (⟨(col e i).val, by omega⟩ : Fin 2048))) fun s => kv (ix2 s (⟨1024 + (col e i).val, by omega⟩ : Fin 2048)) := by
  match e with
  | 0 => exact head_of q kv r 0 i _ _ _ _ _ _ rfl rfl rfl
  | 1 => exact head_of q kv r 1 i _ _ _ _ _ _ rfl rfl rfl
  | 2 => exact head_of q kv r 2 i _ _ _ _ _ _ rfl rfl rfl
  | 3 => exact head_of q kv r 3 i _ _ _ _ _ _ rfl rfl rfl

/-- Four blocks side by side, at column `i` of block `e`. -/
theorem allHeads_apply (H : Fin 4 → FVec Ideal S512x256 .bf16) (r : Fin 512) (e : Fin 4) (i : Fin 256) : allHeads H (ix2 r (col e i)) = H e (ix2 r i) := by
  have ho : ∀ b : Fin 2, b.cast rfl ≠ (1 : Fin 2) → ((ix2 r i : S512x256.Idx) b).val = ((ix2 r (col e i) : S512x1024.Idx) (b.cast rfl)).val := fun b hb => by
    match b with
    | ⟨0, _⟩ => rfl
    | ⟨1, _⟩ => exact absurd rfl hb
  unfold allHeads
  match e with
  | 0 => exact concatenate_apply_piece (t := S512x1024) (1 : Fin 2) _ _ _ 0 (by simp) S512x256 (H 0) rfl rfl 0 rfl (ix2 r i) ho rfl
  | 1 => exact concatenate_apply_piece (t := S512x1024) (1 : Fin 2) _ _ _ 1 (by simp) S512x256 (H 1) rfl rfl 256 rfl (ix2 r i) ho rfl
  | 2 => exact concatenate_apply_piece (t := S512x1024) (1 : Fin 2) _ _ _ 2 (by simp) S512x256 (H 2) rfl rfl 512 rfl (ix2 r i) ho rfl
  | 3 => exact concatenate_apply_piece (t := S512x1024) (1 : Fin 2) _ _ _ 3 (by simp) S512x256 (H 3) rfl rfl 768 rfl (ix2 r i) ho rfl

/-- The scaled queries of a block. -/
theorem pay3_apply (h : FVec Ideal S512x1024 .f32) (wq : FVec Ideal S1024x1024 .bf16) (r : Fin 512) (k : Fin 1024) :
    k0_pay3 (F := Ideal) h wq (ix2 r k) = queries (fun d => h (ix2 r d)) wq k * scale := by
  unfold k0_pay3 queries scale
  refine congrArg (fun s : EReal => s * Ideal.ofBits .f32 0x3D800000#32) ?_
  refine (Ideal.matmul_plain_apply (φ₁ := .bf16) (φ₂ := .bf16) none _ _ _ r k).trans ?_
  rw [zero_at, zero_add, shapeCast_self]
  rfl

theorem joinedBlock_apply (h : FVec Ideal S512x1024 .f32) (wq : FVec Ideal S1024x1024 .bf16) (kv : FVec Ideal S1x256x2048 .bf16) (wo : FVec Ideal S1024x1024 .bf16) (r : Fin 512) (d : Fin 1024) :
    joinedBlock h (k0_pay3 h wq) (k0_pay4 kv) wo (ix2 r d)
      = joined (fun d => h (ix2 r d)) wq wo (fun s k => kv (ix3 (0 : Fin 1) s (⟨k.val, by omega⟩ : Fin 2048))) (fun s k => kv (ix3 (0 : Fin 1) s (⟨1024 + k.val, by omega⟩ : Fin 2048))) d := by
  unfold joinedBlock joined
  refine congrArg (fun s : EReal => Ideal.ofBits .f32 0x3FB504F3#32 * h (ix2 r d) + s) ?_
  refine (Ideal.matmul_plain_apply (φ₁ := .bf16) (φ₂ := .bf16) none _ _ _ r d).trans ?_
  rw [zero_at, zero_add, shapeCast_self]
  refine Finset.sum_congr rfl fun j _ => congrArg (fun a : EReal => a * wo (ix2 j d)) ?_
  obtain ⟨e, i, rfl⟩ : ∃ (e : Fin 4) (i : Fin 256), j = col e i := ⟨headOf j, entryOf j, (col_of j).symm⟩
  have he : headOf (col e i) = e := Fin.ext (by show (256 * e.val + i.val) / 256 = e.val; omega)
  have hkv : ∀ (s : Fin 256) (c : Fin 2048), k0_pay4 (F := Ideal) kv (ix2 s c) = kv (ix3 (0 : Fin 1) s c) := fun s c => shapeCast_1ab_ab_apply kv _ s c
  rw [allHeads_apply, heads_apply]
  unfold attended
  rw [he]
  refine congrArg₂ mix (funext fun s => ?_) (funext fun s => hkv s _)
  rw [← scaled_scores]
  exact Finset.sum_congr rfl fun i _ => congrArg₂ (fun a b : EReal => a * b) (pay3_apply h wq r (col e i)) (hkv s _)

/-- An entry of what the body stores. -/
theorem stored_apply (h : FVec Ideal S512x1024 .f32) (wq : FVec Ideal S1024x1024 .bf16) (kv : FVec Ideal S1x256x2048 .bf16) (wo : FVec Ideal S1024x1024 .bf16) (p q : FVec Ideal S1x1024 .f32) (r : Fin 512) (c : Fin 1024) :
    k0_pay1 (F := Ideal) (k0_pay7 h (k0_pay3 h wq) (k0_pay4 kv) (k0_pay5 h wq kv) (k0_pay6 h wq kv) wo) (k0_pay8 p) (k0_pay9 q) (ix2 r c)
      = normed (joined (fun d => h (ix2 r d)) wq wo (fun s k => kv (ix3 (0 : Fin 1) s (⟨k.val, by omega⟩ : Fin 2048))) (fun s k => kv (ix3 (0 : Fin 1) s (⟨1024 + k.val, by omega⟩ : Fin 2048))))
          (fun d => p (ix2 (0 : Fin 1) d)) (fun d => q (ix2 (0 : Fin 1) d)) c := by
  rw [pay7_eq, pay1_eq]
  unfold k0_pay8 k0_pay9
  rw [shapeCast_self, shapeCast_self]
  refine (normBlock_apply _ _ _ _ _ _ _ r c).trans ?_
  rw [funext fun d => joinedBlock_apply h wq kv wo r d]

end Cert.Kernel4Ideal.Hand

end
-- ==== Proof.Cross.Array.lean ====
/- The cross-attention call's two output arrays from their blocks: every entry, from what the arguments held when the call was entered. -/
module

public import proofs.«01_k».proof.Proof.Cross.Row

@[expose] public section

set_option maxRecDepth 16384

noncomputable section

namespace Cert.Kernel4Ideal.Hand

open Cert.Kernel4Ideal Cert.Kernel4Ideal.Gen Cert.Cross
open Idealize.ShloMosaic hiding ix0 ix1 ix2 ix3 ix4 ix5
open Idealize.ShloMosaic.TcCoe Idealize.ShloMosaic.ValueIdx
open Idealize.SL.Sem

variable (m : (ℓ : Loc nD τ sig) → Buf (Elt Ideal) ℓ) (c : Dev nD)

/-- The arguments on device `c`. -/
abbrev streamArg : FVec Ideal S32768x1024 .f32 := m ((c.tc : Thread nD τ).loc main_arg0)
abbrev memoryArg : FVec Ideal S4x256x2048 .f32 := m ((c.tc : Thread nD τ).loc main_arg1)
abbrev queryArg : FVec Ideal S1024x1024 .f32 := m ((c.tc : Thread nD τ).loc main_arg2)
abbrev outArg : FVec Ideal S1024x1024 .f32 := m ((c.tc : Thread nD τ).loc main_arg3)
abbrev gainArg : FVec Ideal S1024 .f32 := m ((c.tc : Thread nD τ).loc main_arg4)
abbrev biasArg : FVec Ideal S1024 .f32 := m ((c.tc : Thread nD τ).loc main_arg5)

/-- An entry of either result of device `c`. -/
abbrev answerAt (R : Fin 32768) (d : Fin 1024) : EReal := answer (streamArg m c) (memoryArg m c) (queryArg m c) (outArg m c) (gainArg m c) (biasArg m c) R d

/-- The results of device `c`. -/
def wide : FVec Ideal S32768x1024 .f32 := fun y => answerAt m c (y 0) (y 1)
def narrow : FVec Ideal S32768x1024 .bf16 := fun y => answerAt m c (y 0) (y 1)

/-- The arrays as the call reads them: the arguments, narrowed, which changes no extended real, or with an axis of size one put in. -/
theorem query_eq : (V m c main_v0 : FVec Ideal S1024x1024 .bf16) = queryArg m c := by
  show StableHlo.after _ _ (Proc.devRef .tc main_v0) = _
  after_results
  rfl
theorem memory_eq : (V m c main_v1 : FVec Ideal S4x256x2048 .bf16) = memoryArg m c := by
  show StableHlo.after _ _ (Proc.devRef .tc main_v1) = _
  after_results
  rfl
theorem outw_eq : (V m c main_v2 : FVec Ideal S1024x1024 .bf16) = outArg m c := by
  show StableHlo.after _ _ (Proc.devRef .tc main_v2) = _
  after_results
  rfl
theorem gain_eq : (V m c main_v3 : FVec Ideal S1x1024 .f32) = shapeCast S1x1024 (gainArg m c) shapeCasts_S1024_S1x1024 := by
  show StableHlo.after _ _ (Proc.devRef .tc main_v3) = _
  after_results
  rfl
theorem bias_eq : (V m c main_v4 : FVec Ideal S1x1024 .f32) = shapeCast S1x1024 (biasArg m c) shapeCasts_S1024_S1x1024 := by
  show StableHlo.after _ _ (Proc.devRef .tc main_v4) = _
  after_results
  rfl

/-- The block indices. -/
theorem ix_stream : ∀ t : Fin grid0.N, cc0_transform_0 (grid0.coords t) = ![t.val, 0] := by decide +kernel
theorem ix_query : ∀ t : Fin grid0.N, cc0_transform_1 (grid0.coords t) = ![0, 0] := by decide +kernel
theorem ix_memory : ∀ t : Fin grid0.N, cc0_transform_2 (grid0.coords t) = ![t.val / 16, 0, 0] := by decide +kernel
theorem ix_outw : ∀ t : Fin grid0.N, cc0_transform_3 (grid0.coords t) = ![0, 0] := by decide +kernel
theorem ix_gain : ∀ t : Fin grid0.N, cc0_transform_4 (grid0.coords t) = ![0, 0] := by decide +kernel
theorem ix_bias : ∀ t : Fin grid0.N, cc0_transform_5 (grid0.coords t) = ![0, 0] := by decide +kernel
theorem ix_wide : ∀ t : Fin grid0.N, cc0_transform_6 (grid0.coords t) = ![t.val, 0] := by decide +kernel
theorem ix_narrow : ∀ t : Fin grid0.N, cc0_transform_7 (grid0.coords t) = ![t.val, 0] := by decide +kernel

variable (t : Fin cfg0.N)

/-- The blocks at a grid point. -/
abbrev streamBlk : FVec Ideal S512x1024 .f32 := iblk m c 0 t
abbrev queryBlk : FVec Ideal S1024x1024 .bf16 := iblk m c 1 t
abbrev memoryBlk : FVec Ideal S1x256x2048 .bf16 := iblk m c 2 t
abbrev outwBlk : FVec Ideal S1024x1024 .bf16 := iblk m c 3 t
abbrev gainBlk : FVec Ideal S1x1024 .f32 := iblk m c 4 t
abbrev biasBlk : FVec Ideal S1x1024 .f32 := iblk m c 5 t

theorem streamBlk_apply (r : Fin 512) (d : Fin 1024) (R : Fin 32768) (hR : R.val = t.val * 512 + r.val) : streamBlk m c t (ix2 r d) = streamArg m c (ix2 R d) := by
  show (V m c main_arg0 : FVec Ideal S32768x1024 .f32) (((cfg0.win 0).blk t).view.emb (ix2 r d)) = _
  rw [V_main_arg0]
  refine congrArg (streamArg m c) (funext fun a => Fin.ext ?_)
  match a with
  | ⟨0, _⟩ =>
    show cc0_transform_0 (grid0.coords t) 0 * 512 + 1 * r.val = R.val
    rw [ix_stream]; show t.val * 512 + 1 * r.val = R.val; omega
  | ⟨1, _⟩ =>
    show cc0_transform_0 (grid0.coords t) 1 * 1024 + 1 * d.val = d.val
    rw [ix_stream]; show 0 * 1024 + 1 * d.val = d.val; omega

theorem queryBlk_apply (y : S1024x1024.Idx) : queryBlk m c t y = queryArg m c y := by
  show (V m c main_v0 : FVec Ideal S1024x1024 .bf16) (((cfg0.win 1).blk t).view.emb y) = _
  rw [query_eq]
  refine congrArg (queryArg m c) (funext fun a => Fin.ext ?_)
  match a with
  | ⟨0, _⟩ =>
    show cc0_transform_1 (grid0.coords t) 0 * 1024 + 1 * (y 0).val = (y 0).val
    rw [ix_query]; show 0 * 1024 + 1 * (y 0).val = (y 0).val; omega
  | ⟨1, _⟩ =>
    show cc0_transform_1 (grid0.coords t) 1 * 1024 + 1 * (y 1).val = (y 1).val
    rw [ix_query]; show 0 * 1024 + 1 * (y 1).val = (y 1).val; omega

theorem outwBlk_apply (y : S1024x1024.Idx) : outwBlk m c t y = outArg m c y := by
  show (V m c main_v2 : FVec Ideal S1024x1024 .bf16) (((cfg0.win 3).blk t).view.emb y) = _
  rw [outw_eq]
  refine congrArg (outArg m c) (funext fun a => Fin.ext ?_)
  match a with
  | ⟨0, _⟩ =>
    show cc0_transform_3 (grid0.coords t) 0 * 1024 + 1 * (y 0).val = (y 0).val
    rw [ix_outw]; show 0 * 1024 + 1 * (y 0).val = (y 0).val; omega
  | ⟨1, _⟩ =>
    show cc0_transform_3 (grid0.coords t) 1 * 1024 + 1 * (y 1).val = (y 1).val
    rw [ix_outw]; show 0 * 1024 + 1 * (y 1).val = (y 1).val; omega

theorem memoryBlk_apply (s : Fin 256) (k : Fin 2048) (b : Fin 4) (hb : b.val = t.val / 16) : memoryBlk m c t (ix3 (0 : Fin 1) s k) = memoryArg m c (ix3 b s k) := by
  show (V m c main_v1 : FVec Ideal S4x256x2048 .bf16) (((cfg0.win 2).blk t).view.emb (ix3 (0 : Fin 1) s k)) = _
  rw [memory_eq]
  refine congrArg (memoryArg m c) (funext fun a => Fin.ext ?_)
  match a with
  | ⟨0, _⟩ =>
    show cc0_transform_2 (grid0.coords t) 0 * 1 + 1 * 0 = b.val
    rw [ix_memory]; show t.val / 16 * 1 + 1 * 0 = b.val; omega
  | ⟨1, _⟩ =>
    show cc0_transform_2 (grid0.coords t) 1 * 256 + 1 * s.val = s.val
    rw [ix_memory]; show 0 * 256 + 1 * s.val = s.val; omega
  | ⟨2, _⟩ =>
    show cc0_transform_2 (grid0.coords t) 2 * 2048 + 1 * k.val = k.val
    rw [ix_memory]; show 0 * 2048 + 1 * k.val = k.val; omega

theorem gainBlk_apply (d : Fin 1024) : gainBlk m c t (ix2 (0 : Fin 1) d) = gainArg m c (ix1 d) := by
  show (V m c main_v3 : FVec Ideal S1x1024 .f32) (((cfg0.win 4).blk t).view.emb (ix2 (0 : Fin 1) d)) = _
  rw [gain_eq]
  refine shapeCast_apply _ _ _ _ ?_
  rw [Shape.rowMajor_val_one, Shape.rowMajor_val_two]
  show d.val = (cc0_transform_4 (grid0.coords t) 0 * 1 + 1 * 0) * 1024 + (cc0_transform_4 (grid0.coords t) 1 * 1024 + 1 * d.val)
  rw [ix_gain]; show d.val = (0 * 1 + 1 * 0) * 1024 + (0 * 1024 + 1 * d.val); omega

theorem biasBlk_apply (d : Fin 1024) : biasBlk m c t (ix2 (0 : Fin 1) d) = biasArg m c (ix1 d) := by
  show (V m c main_v4 : FVec Ideal S1x1024 .f32) (((cfg0.win 5).blk t).view.emb (ix2 (0 : Fin 1) d)) = _
  rw [bias_eq]
  refine shapeCast_apply _ _ _ _ ?_
  rw [Shape.rowMajor_val_one, Shape.rowMajor_val_two]
  show d.val = (cc0_transform_5 (grid0.coords t) 0 * 1 + 1 * 0) * 1024 + (cc0_transform_5 (grid0.coords t) 1 * 1024 + 1 * d.val)
  rw [ix_bias]; show d.val = (0 * 1 + 1 * 0) * 1024 + (0 * 1024 + 1 * d.val); omega

/-- An entry of what the body stores at a grid point. -/
theorem stored_at (r : Fin 512) (k : Fin 1024) (R : Fin 32768) (hR : R.val = t.val * 512 + r.val) :
    k0_pay1 (F := Ideal) (k0_pay7 (streamBlk m c t) (k0_pay3 (streamBlk m c t) (queryBlk m c t)) (k0_pay4 (memoryBlk m c t)) (k0_pay5 (streamBlk m c t) (queryBlk m c t) (memoryBlk m c t))
        (k0_pay6 (streamBlk m c t) (queryBlk m c t) (memoryBlk m c t)) (outwBlk m c t)) (k0_pay8 (gainBlk m c t)) (k0_pay9 (biasBlk m c t)) (ix2 r k)
      = answerAt m c R k := by
  have ht : t.val < 64 := t.isLt
  have hb : (memoryOf R).val = t.val / 16 := by show R.val / 8192 = _; omega
  refine (stored_apply (streamBlk m c t) (queryBlk m c t) (memoryBlk m c t) (outwBlk m c t) (gainBlk m c t) (biasBlk m c t) r k).trans ?_
  unfold answerAt answer
  rw [show (fun d => streamBlk m c t (ix2 r d)) = fun (d : Fin 1024) => streamArg m c (ix2 R d) from funext fun d => streamBlk_apply m c t r d R hR,
    show queryBlk m c t = queryArg m c from funext fun y => queryBlk_apply m c t y,
    show outwBlk m c t = outArg m c from funext fun y => outwBlk_apply m c t y,
    show (fun (s : Fin 256) (k : Fin 1024) => memoryBlk m c t (ix3 (0 : Fin 1) s (⟨k.val, by omega⟩ : Fin 2048))) = keysOf (memoryArg m c) (memoryOf R) from
      funext fun s => funext fun k => memoryBlk_apply m c t s _ _ hb,
    show (fun (s : Fin 256) (k : Fin 1024) => memoryBlk m c t (ix3 (0 : Fin 1) s (⟨1024 + k.val, by omega⟩ : Fin 2048))) = valuesOf (memoryArg m c) (memoryOf R) from
      funext fun s => funext fun k => memoryBlk_apply m c t s _ _ hb,
    show (fun d => gainBlk m c t (ix2 (0 : Fin 1) d)) = fun (d : Fin 1024) => gainArg m c (ix1 d) from funext fun d => gainBlk_apply m c t d,
    show (fun d => biasBlk m c t (ix2 (0 : Fin 1) d)) = fun (d : Fin 1024) => biasArg m c (ix1 d) from funext fun d => biasBlk_apply m c t d]

theorem wide_apply (r : Fin 512) (k : Fin 1024) (R : Fin 32768) (hR : R.val = t.val * 512 + r.val) :
    out0_6 (F := Ideal) (iblk m c 0 t) (iblk m c 1 t) (iblk m c 2 t) (iblk m c 3 t) (iblk m c 4 t) (iblk m c 5 t) (ix2 r k) = answerAt m c R k := by
  unfold out0_6 k0_pay12 k0_pay11 k0_pay10
  rw [View.canon_cons_unit_lit _ _ _ (by decide)]
  iterate 6 rw [View.ld_unit_lit _ _ (by decide)]
  exact stored_at m c t r k R hR

theorem narrow_apply (r : Fin 512) (k : Fin 1024) (R : Fin 32768) (hR : R.val = t.val * 512 + r.val) :
    out0_7 (F := Ideal) (iblk m c 0 t) (iblk m c 1 t) (iblk m c 2 t) (iblk m c 3 t) (iblk m c 4 t) (iblk m c 5 t) (ix2 r k) = answerAt m c R k := by
  unfold out0_7 k0_pay12 k0_pay11 k0_pay10
  rw [View.canon_cons_unit_lit _ _ _ (by decide)]
  iterate 6 rw [View.ld_unit_lit _ _ (by decide)]
  exact stored_at m c t r k R hR

theorem wide_covers : (cfg0.win 6).Covers := by
  refine ⟨(by decide : ∀ a, 0 < S512x1024.size a), fun β => ?_⟩
  have h0 : (β (0 : Fin 2)).val < (32768 + 512 - 1) / 512 := (β (0 : Fin 2)).isLt
  have h1 : (β (1 : Fin 2)).val < (1024 + 1024 - 1) / 1024 := (β (1 : Fin 2)).isLt
  have hN : cfg0.grid.N = 64 := rfl
  refine ⟨⟨(β (0 : Fin 2)).val, by rw [hN]; omega⟩, flush0_6 _, fun a => ⟨?_, .inl rfl⟩⟩
  show cc0_transform_6 (grid0.coords _) a = _
  rw [ix_wide]
  match a with
  | ⟨0, _⟩ => rfl
  | ⟨1, _⟩ => show 0 = (β (1 : Fin 2)).val; omega

theorem narrow_covers : (cfg0.win 7).Covers := by
  refine ⟨(by decide : ∀ a, 0 < S512x1024.size a), fun β => ?_⟩
  have h0 : (β (0 : Fin 2)).val < (32768 + 512 - 1) / 512 := (β (0 : Fin 2)).isLt
  have h1 : (β (1 : Fin 2)).val < (1024 + 1024 - 1) / 1024 := (β (1 : Fin 2)).isLt
  have hN : cfg0.grid.N = 64 := rfl
  refine ⟨⟨(β (0 : Fin 2)).val, by rw [hN]; omega⟩, flush0_7 _, fun a => ⟨?_, .inl rfl⟩⟩
  show cc0_transform_7 (grid0.coords _) a = _
  rw [ix_narrow]
  match a with
  | ⟨0, _⟩ => rfl
  | ⟨1, _⟩ => show 0 = (β (1 : Fin 2)).val; omega

/-- The output arrays after the call. -/
theorem wide_array : (dats m 0 c).arrAt 6 cfg0.N = wide m c := by
  refine (dats m 0 c).arrAt_eq_of_covers 6 _ wide_covers fun t hf y => ?_
  obtain ⟨r, k, rfl⟩ : ∃ (r : Fin 512) (k : Fin 1024), y = (ix2 r k : S512x1024.Idx) := ⟨y (0 : Fin 2), y (1 : Fin 2), ValueIdx.eq_ix2 y⟩
  show (dats m 0 c).after 6 t (ix2 r k) = _
  rw [after0_6]
  have e0 : (((cfg0.win 6).blk t).view.emb (ix2 r k) (0 : Fin 2)).val = t.val * 512 + r.val := by
    show cc0_transform_6 (grid0.coords t) 0 * 512 + 1 * r.val = _
    rw [ix_wide]
    show t.val * 512 + 1 * r.val = _
    omega
  have e1 : ((cfg0.win 6).blk t).view.emb (ix2 r k) (1 : Fin 2) = k := by
    refine Fin.ext ?_
    show cc0_transform_6 (grid0.coords t) 1 * 1024 + 1 * k.val = _
    rw [ix_wide]
    show 0 * 1024 + 1 * k.val = k.val
    omega
  refine (wide_apply m c t r k _ e0).trans ?_
  unfold wide
  rw [e1]

theorem narrow_array : (dats m 0 c).arrAt 7 cfg0.N = narrow m c := by
  refine (dats m 0 c).arrAt_eq_of_covers 7 _ narrow_covers fun t hf y => ?_
  obtain ⟨r, k, rfl⟩ : ∃ (r : Fin 512) (k : Fin 1024), y = (ix2 r k : S512x1024.Idx) := ⟨y (0 : Fin 2), y (1 : Fin 2), ValueIdx.eq_ix2 y⟩
  show (dats m 0 c).after 7 t (ix2 r k) = _
  rw [after0_7]
  have e0 : (((cfg0.win 7).blk t).view.emb (ix2 r k) (0 : Fin 2)).val = t.val * 512 + r.val := by
    show cc0_transform_7 (grid0.coords t) 0 * 512 + 1 * r.val = _
    rw [ix_narrow]
    show t.val * 512 + 1 * r.val = _
    omega
  have e1 : ((cfg0.win 7).blk t).view.emb (ix2 r k) (1 : Fin 2) = k := by
    refine Fin.ext ?_
    show cc0_transform_7 (grid0.coords t) 1 * 1024 + 1 * k.val = _
    rw [ix_narrow]
    show 0 * 1024 + 1 * k.val = k.val
    omega
  refine (narrow_apply m c t r k _ e0).trans ?_
  unfold narrow
  rw [e1]

end Cert.Kernel4Ideal.Hand

end
-- ==== Proof.Cross.Reference.lean ====
/- The cross-attention call's reference over the extended reals: every entry of its result. -/
module

public import proofs.«01_k».proof.Proof.Cross.Soft
public import proofs.«01_k».proof.Proof.Gen.Reference4Ideal.Read

@[expose] public section

set_option maxRecDepth 16384

noncomputable section

namespace Cert.Reference4Ideal.Hand

open Cert.Reference4Ideal Cert.Reference4Ideal.Gen Cert.Reference4Ideal.Read Cert.Cross
open Cert.Trunk (mean normed)
open Idealize.ShloMosaic hiding ix0 ix1 ix2 ix3 ix4 ix5
open Idealize.ShloMosaic.TcCoe Idealize.ShloMosaic.ValueIdx

variable (x0 : FVec Ideal S32768x1024 .f32) (x1 : FVec Ideal S4x256x2048 .f32) (x2 x3 : FVec Ideal S1024x1024 .f32) (x4 x5 : FVec Ideal S1024 .f32)

/-- The row of token `t` of memory `b`, and the stream there. -/
def rowAt (b : Fin 4) (t : Fin 8192) : Fin 32768 := ⟨8192 * b.val + t.val, by omega⟩
abbrev streamAt (b : Fin 4) (t : Fin 8192) (d : Fin 1024) : EReal := x0 (ix2 (rowAt b t) d)

/-- The scores of head `e` of a token. -/
abbrev scoresAt (b : Fin 4) (e : Fin 4) (t : Fin 8192) : Fin 256 → EReal := scores (queries (streamAt x0 b t) x2) (keysOf x1 b) e

theorem stream_apply (b : Fin 4) (t : Fin 8192) (d : Fin 1024) : val_main_v0 (F := Ideal) x0 (ix3 b t d) = streamAt x0 b t d := by
  rw [val_main_v0_apply]
  refine congrArg x0 (funext fun a => Fin.ext ?_)
  match a with
  | ⟨0, _⟩ => show ((b.val * 8192 + t.val) * 1024 + d.val) / 1024 = 8192 * b.val + t.val; omega
  | ⟨1, _⟩ => show ((b.val * 8192 + t.val) * 1024 + d.val) % 1024 = d.val; omega

theorem projected_apply (b : Fin 4) (t : Fin 8192) (k : Fin 1024) : val_main_v1 (F := Ideal) x0 x2 (ix3 b t k) = queries (streamAt x0 b t) x2 k := by
  rw [val_main_v1_apply]
  refine Finset.sum_congr rfl fun i _ => ?_
  rw [← stream_apply x0 b t i]
  refine congrArg₂ (fun p q : EReal => p * q) (congrArg (val_main_v0 (F := Ideal) x0) (funext fun a => ?_)) (congrArg x2 (funext fun a => ?_))
  · match a with
    | ⟨0, _⟩ => rfl
    | ⟨1, _⟩ => rfl
    | ⟨2, _⟩ => rfl
  · match a with
    | ⟨0, _⟩ => rfl
    | ⟨1, _⟩ => rfl

theorem query_apply (b : Fin 4) (t : Fin 8192) (e : Fin 4) (i : Fin 256) : val_main_v2 (F := Ideal) x0 x2 (ix4 b t e i) = queries (streamAt x0 b t) x2 (col e i) := by
  rw [val_main_v2_apply, ← projected_apply]
  refine congrArg (val_main_v1 (F := Ideal) x0 x2) (funext fun a => Fin.ext ?_)
  match a with
  | ⟨0, _⟩ => show (((b.val * 8192 + t.val) * 4 + e.val) * 256 + i.val) / 8388608 = b.val; omega
  | ⟨1, _⟩ => show (((b.val * 8192 + t.val) * 4 + e.val) * 256 + i.val) / 1024 % 8192 = t.val; omega
  | ⟨2, _⟩ => show (((b.val * 8192 + t.val) * 4 + e.val) * 256 + i.val) % 1024 = 256 * e.val + i.val; omega

theorem key_apply (b : Fin 4) (s : Fin 256) (e : Fin 4) (i : Fin 256) : val_main_v5 (F := Ideal) x1 (ix4 b s e i) = keysOf x1 b s (col e i) := by
  rw [val_main_v5_apply, val_main_v3_apply]
  refine congrArg x1 (funext fun a => Fin.ext ?_)
  match a with
  | ⟨0, _⟩ => show (((b.val * 256 + s.val) * 4 + e.val) * 256 + i.val) / 262144 = b.val; omega
  | ⟨1, _⟩ => show (((b.val * 256 + s.val) * 4 + e.val) * 256 + i.val) / 1024 % 256 = s.val; omega
  | ⟨2, _⟩ => show (((b.val * 256 + s.val) * 4 + e.val) * 256 + i.val) % 1024 = 256 * e.val + i.val; omega

theorem value_apply (b : Fin 4) (s : Fin 256) (e : Fin 4) (i : Fin 256) : val_main_v6 (F := Ideal) x1 (ix4 b s e i) = valuesOf x1 b s (col e i) := by
  rw [val_main_v6_apply, val_main_v4_apply]
  refine congrArg x1 (funext fun a => Fin.ext ?_)
  match a with
  | ⟨0, _⟩ => show (((b.val * 256 + s.val) * 4 + e.val) * 256 + i.val) / 262144 = b.val; omega
  | ⟨1, _⟩ => show (((b.val * 256 + s.val) * 4 + e.val) * 256 + i.val) / 1024 % 256 = s.val; omega
  | ⟨2, _⟩ => show 1024 + (((b.val * 256 + s.val) * 4 + e.val) * 256 + i.val) % 1024 = 1024 + (256 * e.val + i.val); omega

theorem score_apply (b e : Fin 4) (t : Fin 8192) (s : Fin 256) : val_main_v9 (F := Ideal) x0 x1 x2 (ix4 b e t s) = scoresAt x0 x1 x2 b e t s := by
  rw [val_main_v9_apply, val_main_v7_apply, val_main_v8_apply, val_main_cst_apply]
  refine congrArg (fun p : EReal => p * scale) (Finset.sum_congr rfl fun i _ => ?_)
  rw [← query_apply, ← key_apply]
  refine congrArg₂ (fun p q : EReal => p * q) (congrArg (val_main_v2 (F := Ideal) x0 x2) (funext fun a => ?_)) (congrArg (val_main_v5 (F := Ideal) x1) (funext fun a => ?_))
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl
    | ⟨3, _⟩ => rfl

/-- The bottom constant is the least extended real. -/
theorem least_eq : (Ideal.ofBits .f32 0xFF800000#32 : EReal) = ⊥ := by simp [Ideal.ofBits, Ideal.ieee]

theorem max_least (y : EReal) : max (Ideal.ofBits .f32 0xFF800000#32 : EReal) y = y := by rw [least_eq]; exact max_eq_right bot_le

theorem greatest_apply (b e : Fin 4) (t : Fin 8192) : val_main_v10 (F := Ideal) x0 x1 x2 (ix3 b e t) = top (scoresAt x0 x1 x2 b e t) := by
  unfold val_main_v10 top
  refine (Host.reduce_eq_fold_single (max : EReal → EReal → EReal) (val_main_v9 (F := Ideal) x0 x1 x2) (val_main_cst_0 (F := Ideal)) reducesTo_S4x4x8192x256_S4x4x8192_d3 (by decide) h_S_ (ix3 b e t)).trans ?_
  rw [val_main_cst_0_apply]
  refine (congrArg (fun i : EReal => Finset.univ.fold max i _) least_eq).trans ?_
  refine congrArg (fun f : Fin 256 → EReal => Finset.univ.fold max ⊥ f) (funext fun s => ?_)
  refine (congrArg (val_main_v9 (F := Ideal) x0 x1 x2) (funext fun a => Fin.ext ?_)).trans (score_apply x0 x1 x2 b e t s)
  match a with
  | ⟨0, _⟩ => rfl
  | ⟨1, _⟩ => rfl
  | ⟨2, _⟩ => rfl
  | ⟨3, _⟩ => rfl

theorem weight_apply (b e : Fin 4) (t : Fin 8192) (s : Fin 256) : val_main_v16 (F := Ideal) x0 x1 x2 (ix4 b e t s) = weight (scoresAt x0 x1 x2 b e t) s := by
  rw [val_main_v16_apply, val_main_v15_apply, score_apply, val_main_v14_apply, val_main_v13_apply, val_main_v12_apply, val_main_v11_apply, val_main_cst_1_apply]
  unfold weight
  refine congrArg (fun p : EReal => Ideal.exp (scoresAt x0 x1 x2 b e t s - p)) ?_
  refine (max_least _).trans ((congrArg (val_main_v10 (F := Ideal) x0 x1 x2) (funext fun a => ?_)).trans (greatest_apply x0 x1 x2 b e t))
  match a with
  | ⟨0, _⟩ => rfl
  | ⟨1, _⟩ => rfl
  | ⟨2, _⟩ => rfl

theorem share_apply (b e : Fin 4) (t : Fin 8192) (s : Fin 256) :
    val_main_v20 (F := Ideal) x0 x1 x2 (ix4 b e t s) = Ideal.div (weight (scoresAt x0 x1 x2 b e t) s) (∑ s, weight (scoresAt x0 x1 x2 b e t) s) := by
  rw [val_main_v20_apply, weight_apply, val_main_v19_apply, val_main_v18_apply, val_main_v17_apply, val_main_cst_2_apply]
  refine congrArg (fun p : EReal => Ideal.div (weight (scoresAt x0 x1 x2 b e t) s) p) ?_
  refine (congrArg (fun s : EReal => s + _) Ideal.ofBits_zero_f32).trans ((zero_add _).trans (Finset.sum_congr rfl fun k _ => ?_))
  rw [← weight_apply]
  refine congrArg (val_main_v16 (F := Ideal) x0 x1 x2) (funext fun a => ?_)
  match a with
  | ⟨0, _⟩ => rfl
  | ⟨1, _⟩ => rfl
  | ⟨2, _⟩ => rfl
  | ⟨3, _⟩ => rfl

section
variable (hq : ∀ (b : Fin 4) (t : Fin 8192) (k : Fin 1024), IsReal (queries (streamAt x0 b t) x2 k)) (hk : ∀ (b : Fin 4) (s : Fin 256) (k : Fin 1024), IsReal (keysOf x1 b s k))
include hq hk

theorem attended_apply (b : Fin 4) (t : Fin 8192) (j : Fin 1024) :
    val_main_v23 (F := Ideal) x0 x1 x2 (ix3 b t j) = attended (queries (streamAt x0 b t) x2) (keysOf x1 b) (valuesOf x1 b) j := by
  unfold attended
  rw [mix_eq _ _ (scores_real _ _ (hq b t) (hk b) (headOf j)), val_main_v23_apply, val_main_v22_apply, val_main_v21_apply]
  refine Finset.sum_congr rfl fun s _ => congrArg₂ (fun p q : EReal => p * q) ?_ ?_
  · rw [show valuesOf x1 b s j = valuesOf x1 b s (col (headOf j) (entryOf j)) from congrArg (valuesOf x1 b s) (col_of j).symm, ← value_apply]
    refine congrArg (val_main_v6 (F := Ideal) x1) (funext fun a => Fin.ext ?_)
    match a with
    | ⟨0, _⟩ => show ((b.val * 8192 + t.val) * 1024 + j.val) / 8388608 = b.val; omega
    | ⟨1, _⟩ => rfl
    | ⟨2, _⟩ => show ((b.val * 8192 + t.val) * 1024 + j.val) / 256 % 4 = j.val / 256; omega
    | ⟨3, _⟩ => show ((b.val * 8192 + t.val) * 1024 + j.val) % 256 = j.val % 256; omega
  · refine (congrArg (val_main_v20 (F := Ideal) x0 x1 x2) (funext fun a => Fin.ext ?_)).trans (share_apply x0 x1 x2 b (headOf j) t s)
    match a with
    | ⟨0, _⟩ => show ((b.val * 8192 + t.val) * 1024 + j.val) / 8388608 = b.val; omega
    | ⟨1, _⟩ => show ((b.val * 8192 + t.val) * 1024 + j.val) / 256 % 4 = j.val / 256; omega
    | ⟨2, _⟩ => show ((b.val * 8192 + t.val) * 1024 + j.val) / 1024 % 8192 = t.val; omega
    | ⟨3, _⟩ => rfl

omit hq hk in
/-- The row that the reference normalises. -/
abbrev rowOf (b : Fin 4) (t : Fin 8192) : Fin 1024 → EReal := joined (streamAt x0 b t) x2 x3 (keysOf x1 b) (valuesOf x1 b)

theorem joined_apply (b : Fin 4) (t : Fin 8192) (d : Fin 1024) : val_main_v27 (F := Ideal) x0 x1 x2 x3 (ix3 b t d) = rowOf x0 x1 x2 x3 b t d := by
  rw [val_main_v27_apply, val_main_v25_apply, val_main_v24_apply, val_main_cst_3_apply, stream_apply, val_main_v26_apply]
  refine congrArg (fun p : EReal => Ideal.ofBits .f32 0x3FB504F3#32 * streamAt x0 b t d + p) (Finset.sum_congr rfl fun j _ => ?_)
  rw [← attended_apply x0 x1 x2 hq hk b t j]
  refine congrArg₂ (fun p q : EReal => p * q) (congrArg (val_main_v23 (F := Ideal) x0 x1 x2) (funext fun a => ?_)) (congrArg x3 (funext fun a => ?_))
  · match a with
    | ⟨0, _⟩ => rfl
    | ⟨1, _⟩ => rfl
    | ⟨2, _⟩ => rfl
  · match a with
    | ⟨0, _⟩ => rfl
    | ⟨1, _⟩ => rfl

theorem mean_apply (b : Fin 4) (t : Fin 8192) (u : Fin 1) : val_main_v31 (F := Ideal) x0 x1 x2 x3 (ix3 b t u) = mean (rowOf x0 x1 x2 x3 b t) := by
  rw [val_main_v31_apply, val_main_v29_apply, val_main_v30_apply, val_main_cst_5_apply, val_main_v28_apply, val_main_cst_4_apply]
  refine congrArg (fun s : EReal => Ideal.div s (Ideal.ofBits .f32 0x44800000#32)) ?_
  refine (congrArg (fun s : EReal => s + _) Ideal.ofBits_zero_f32).trans ((zero_add _).trans (Finset.sum_congr rfl fun k _ => ?_))
  rw [← joined_apply x0 x1 x2 x3 hq hk b t k]
  refine congrArg (val_main_v27 (F := Ideal) x0 x1 x2 x3) (funext fun a => ?_)
  match a with
  | ⟨0, _⟩ => rfl
  | ⟨1, _⟩ => rfl
  | ⟨2, _⟩ => rfl

theorem centred_apply (b : Fin 4) (t : Fin 8192) (d : Fin 1024) :
    val_main_v33 (F := Ideal) x0 x1 x2 x3 (ix3 b t d) = rowOf x0 x1 x2 x3 b t d - mean (rowOf x0 x1 x2 x3 b t) := by
  rw [val_main_v33_apply, joined_apply x0 x1 x2 x3 hq hk, val_main_v32_apply, ← mean_apply x0 x1 x2 x3 hq hk b t 0]
  refine congrArg (fun y => rowOf x0 x1 x2 x3 b t d - val_main_v31 (F := Ideal) x0 x1 x2 x3 y) (funext fun a => ?_)
  match a with
  | ⟨0, _⟩ => rfl
  | ⟨1, _⟩ => rfl
  | ⟨2, _⟩ => rfl

theorem variance_apply (b : Fin 4) (t : Fin 8192) (u : Fin 1) :
    val_main_v38 (F := Ideal) x0 x1 x2 x3 (ix3 b t u)
      = mean fun k => (rowOf x0 x1 x2 x3 b t k - mean (rowOf x0 x1 x2 x3 b t)) * (rowOf x0 x1 x2 x3 b t k - mean (rowOf x0 x1 x2 x3 b t)) := by
  rw [val_main_v38_apply, val_main_v36_apply, val_main_v37_apply, val_main_cst_7_apply, val_main_v35_apply, val_main_cst_6_apply]
  refine congrArg (fun s : EReal => Ideal.div s (Ideal.ofBits .f32 0x44800000#32)) ?_
  refine (congrArg (fun s : EReal => s + _) Ideal.ofBits_zero_f32).trans ((zero_add _).trans (Finset.sum_congr rfl fun k _ => ?_))
  beta_reduce
  rw [← centred_apply x0 x1 x2 x3 hq hk b t k]
  refine (congrArg (val_main_v34 (F := Ideal) x0 x1 x2 x3) (funext fun a => ?_)).trans (val_main_v34_apply (F := Ideal) x0 x1 x2 x3 (ix3 b t k))
  match a with
  | ⟨0, _⟩ => rfl
  | ⟨1, _⟩ => rfl
  | ⟨2, _⟩ => rfl

/-- The reference's result before its rows are laid out again, entry by entry. -/
theorem normed_apply (b : Fin 4) (t : Fin 8192) (c : Fin 1024) :
    val_main_v51 (F := Ideal) x0 x1 x2 x3 x4 x5 (ix3 b t c) = normed (rowOf x0 x1 x2 x3 b t) (fun d => x4 (ix1 d)) (fun d => x5 (ix1 d)) c := by
  have e : ∀ y : S4x8192x1.Idx, (y 0).val = b.val → (y 1).val = t.val → y = ix3 b t (0 : Fin 1) := fun y h h' => funext fun a => by
    match a with
    | ⟨0, _⟩ => exact Fin.ext h
    | ⟨1, _⟩ => exact Fin.ext h'
    | ⟨2, _⟩ => exact Subsingleton.elim (α := Fin 1) _ _
  rw [val_main_v51_apply, val_main_v48_apply, val_main_v45_apply, val_main_v40_apply, val_main_v39_apply, val_main_v44_apply, val_main_v43_apply, val_main_v42_apply,
    val_main_v41_apply, val_main_cst_8_apply, val_main_v47_apply, val_main_v46_apply, val_main_v50_apply, val_main_v49_apply, joined_apply x0 x1 x2 x3 hq hk,
    e (idx_main_v39 (ix3 b t c)) rfl rfl, e (idx_main_v44 (ix3 b t c)) rfl rfl, mean_apply x0 x1 x2 x3 hq hk, variance_apply x0 x1 x2 x3 hq hk]
  unfold normed
  refine congrArg₂ (fun p q : EReal => p + q) (congrArg (fun p : EReal => _ * p) (congrArg x4 (funext fun a => ?_))) (congrArg x5 (funext fun a => ?_))
  · match a with
    | ⟨0, _⟩ => rfl
  · match a with
    | ⟨0, _⟩ => rfl

/-- The reference's result, entry by entry. -/
theorem result_apply (R : Fin 32768) (c : Fin 1024) : val_main_v52 (F := Ideal) x0 x1 x2 x3 x4 x5 (ix2 R c) = answer x0 x1 x2 x3 x4 x5 R c := by
  have hR : rowAt (memoryOf R) (⟨R.val % 8192, by omega⟩ : Fin 8192) = R := Fin.ext (Nat.div_add_mod R.val 8192)
  have h := normed_apply x0 x1 x2 x3 x4 x5 hq hk (memoryOf R) (⟨R.val % 8192, by omega⟩ : Fin 8192) c
  unfold rowOf streamAt at h
  rw [hR] at h
  rw [val_main_v52_apply]
  refine (congrArg (val_main_v51 (F := Ideal) x0 x1 x2 x3 x4 x5) (funext fun a => Fin.ext ?_)).trans h
  match a with
  | ⟨0, _⟩ => show (R.val * 1024 + c.val) / 8388608 = R.val / 8192; omega
  | ⟨1, _⟩ => show (R.val * 1024 + c.val) / 1024 % 8192 = R.val % 8192; omega
  | ⟨2, _⟩ => show (R.val * 1024 + c.val) % 1024 = c.val; omega

end

end Cert.Reference4Ideal.Hand

end
-- ==== Proof.Cross.Result.lean ====
/- Over the extended reals the cross-attention kernel and its reference return the same two arrays, where stream, query weights and keys are finite. -/
module

public import proofs.«01_k».proof.Proof.Value.Result
public import proofs.«01_k».proof.Proof.Cross.Array
public import proofs.«01_k».proof.Proof.Cross.Frames
public import proofs.«01_k».proof.Proof.Cross.Reference
public import Idealize.ShloMosaic.Lib.ReduceAll

@[expose] public section

set_option maxRecDepth 16384

noncomputable section

namespace Cert.Kernel4Ideal.Hand

open Cert.Kernel4Ideal Cert.Kernel4Ideal.Gen Cert.Cross
open Idealize.ShloMosaic hiding ix0 ix1 ix2 ix3 ix4 ix5
open Idealize.ShloMosaic.TcCoe Idealize.ShloMosaic.ValueIdx
open Idealize.SL.Sem

instance cross_pre_facts : Cert.Pre_finite_cross_scores.Facts := ⟨by decide, by decide, by decide, by decide, by decide, by decide, by decide, by decide⟩

/-- An entry whose absolute value is compared with infinity, and found below, is real. -/
theorem real_of_compared (x : EReal) (h : BitVec.ofBool (decide (max x (-x) < Ideal.ofBits .f32 0x7F800000#32)) = 1#1) : IsReal x := by
  have ht : Ideal.ofBits .f32 0x7F800000#32 = ⊤ := by simp [Ideal.ofBits, Ideal.ieee]
  rw [ht] at h
  by_cases a : max x (-x) < ⊤
  · exact ⟨_, Cert.KernelIdeal.Hand.real_of_abs_lt x a⟩
  · simp [a] at h

/-- What the precondition says: the stream, the query weights and the keys are real. -/
theorem real_of_pre (x0 : FVec Ideal S32768x1024 .f32) (x1 : FVec Ideal S4x256x2048 .f32) (x2 x3 : FVec Ideal S1024x1024 .f32) (x4 x5 : FVec Ideal S1024 .f32)
    (h : Cert.Pre_finite_cross_scores.fn (F := Ideal) x0 x1 x2 x3 x4 x5 = fun _ => 1#1) :
    (∀ y, IsReal (x0 y)) ∧ (∀ y, IsReal (x2 y)) ∧ ∀ (b : Fin 4) (s : Fin 256) (k : Fin 1024), IsReal (keysOf x1 b s k) := by
  have : Subsingleton Cert.Pre_finite_cross_scores.S_.Idx := ⟨fun p q => funext fun a => a.elim0⟩
  have hj := congrFun h (Shape.Idx.first (by decide : 0 < Cert.Pre_finite_cross_scores.S_.numel))
  have both : ∀ p q : BitVec 1, IntOp.andi p q = 1#1 → p = 1#1 ∧ q = 1#1 := by decide
  unfold Cert.Pre_finite_cross_scores.fn at hj
  obtain ⟨h01, h2⟩ := both _ _ hj
  obtain ⟨h0, h1⟩ := both _ _ h01
  refine ⟨fun y => real_of_compared _ (Host.reduce_andi_all _ _ _ _ _ h0 y), fun y => real_of_compared _ (Host.reduce_andi_all _ _ _ _ _ h1 y), fun b s k => ?_⟩
  have e := Host.reduce_andi_all _ _ _ _ _ h2 (ix3 b s k)
  refine real_of_compared _ (Eq.trans ?_ e)
  refine congrArg (fun x : EReal => BitVec.ofBool (decide (max x (-x) < Ideal.ofBits .f32 0x7F800000#32))) (congrArg x1 (funext fun a => Fin.ext ?_))
  match a with
  | ⟨0, _⟩ => show b.val = 0 + b.val; omega
  | ⟨1, _⟩ => show s.val = 0 + s.val; omega
  | ⟨2, _⟩ => show k.val = 0 + k.val; omega

variable (m : (ℓ : Loc nD τ sig) → Buf (Elt Ideal) ℓ) (g : Dev nD → PrngReg)

/-- What the reference computes of the kernel's arguments is the kernel's results. -/
theorem reference_wide (hpre : Cert.Pre_Kernel4Ideal_finite_cross_scores m) (c : Dev nD) :
    Cert.Reference4Ideal.Read.val_main_v52 (F := Ideal) (streamArg m c) (memoryArg m c) (queryArg m c) (outArg m c) (gainArg m c) (biasArg m c) = wide m c := by
  obtain ⟨h0, h2, hk⟩ := real_of_pre _ _ _ _ _ _ (hpre c)
  funext y
  obtain ⟨R, k, rfl⟩ : ∃ (R : Fin 32768) (k : Fin 1024), y = (ix2 R k : S32768x1024.Idx) := ⟨y (0 : Fin 2), y (1 : Fin 2), ValueIdx.eq_ix2 y⟩
  exact Cert.Reference4Ideal.Hand.result_apply _ _ _ _ _ _ (fun b t k => IsReal.sum _ _ fun i => (h0 _).mul (h2 _)) hk R k

theorem reference_narrow (hpre : Cert.Pre_Kernel4Ideal_finite_cross_scores m) (c : Dev nD) :
    Cert.Reference4Ideal.Read.val_main_v53 (F := Ideal) (streamArg m c) (memoryArg m c) (queryArg m c) (outArg m c) (gainArg m c) (biasArg m c) = narrow m c :=
  funext fun y => congrFun (reference_wide m hpre c) y

end Cert.Kernel4Ideal.Hand

namespace Cert.Proof

open Idealize.ShloMosaic Idealize.ShloMosaic.TcCoe Idealize.SL.Sem

/-- Over the extended reals the cross-attention kernel and its reference return the same results. -/
theorem same_cross : Cert.algebraic_Kernel4Ideal_Reference4Ideal_pre_finite_cross_scores := fun m g m' g' hpre hargs =>
  ⟨Cert.Kernel4Ideal.Hand.wide m, Cert.Kernel4Ideal.Hand.narrow m,
    (θ_run Cert.Kernel4Ideal.defs _ _).mono (fun r h c => ⟨(h c).1.trans (Cert.Kernel4Ideal.Hand.wide_array m c), (h c).2.1.trans (Cert.Kernel4Ideal.Hand.narrow_array m c), (h c).2.2⟩)
      (Cert.Kernel4Ideal.Value.run_blocks m g),
    (θ_run Cert.Reference4Ideal.defs _ _).mono (fun r h c => ⟨by
      refine (h c).1.trans ((Cert.Reference4Ideal.Read.val_main_v52_eq m' c).trans ?_)
      rw [(hargs c).1, (hargs c).2.1, (hargs c).2.2.1, (hargs c).2.2.2.1, (hargs c).2.2.2.2.1, (hargs c).2.2.2.2.2]
      exact Cert.Kernel4Ideal.Hand.reference_wide m hpre c, by
      refine (h c).2.1.trans ((Cert.Reference4Ideal.Read.val_main_v53_eq m' c).trans ?_)
      rw [(hargs c).1, (hargs c).2.1, (hargs c).2.2.1, (hargs c).2.2.2.1, (hargs c).2.2.2.2.1, (hargs c).2.2.2.2.2]
      exact Cert.Kernel4Ideal.Hand.reference_narrow m hpre c, (h c).2.2⟩) (Cert.Reference4Ideal.Value.run (F := Ideal) m' g')⟩

end Cert.Proof

end
-- ==== Proof.Enter.Frames.lean ====
/- The frames of the two kernels and the reference of the product into the state-space mixer. -/
module

public import proofs.«01_k».proof.Defs
public import proofs.«01_k».proof.Proof.Gen.Kernel5
public import proofs.«01_k».proof.Proof.Gen.Kernel5Ideal.Value
public import proofs.«01_k».proof.Proof.Gen.Reference5Ideal.Run
public import Idealize.ShloMosaic.Adequacy
public import Idealize.ShloMosaic.Init

@[expose] public section

set_option maxRecDepth 16384
set_option maxHeartbeats 1000000

noncomputable section

namespace Cert.Proof.Enter

open Idealize.ShloMosaic Idealize.ShloMosaic.TcCoe Idealize.SL.Sem

/-- The two kernels have the same bodies, the same calls and the same main. -/
theorem bodies_eq : Cert.Kernel5.defs₀ (F := Bits) = Cert.Kernel5Ideal.defs₀ (F := Bits) := by
  unfold Cert.Kernel5.defs₀ Cert.Kernel5Ideal.defs₀
  refine congrArg Defs.onTc (funext fun l => ?_)
  obtain rfl : l = 0 := Subsingleton.elim _ _
  refine funext fun p => ?_
  rfl
theorem defs_eq : Cert.Kernel5.defs (F := Bits) = Cert.Kernel5Ideal.defs (F := Bits) := by
  unfold Cert.Kernel5.defs Cert.Kernel5Ideal.defs
  exact congrArg (Pipeline.defs (Cert.Kernel5Ideal.pcfgs (F := Bits))) bodies_eq
theorem main_eq : Cert.Kernel5.main (F := Bits) = Cert.Kernel5Ideal.main (F := Bits) := rfl

/-- The kernel runs as the ideal one does, whose text it shares. -/
theorem frame_kernel : Cert.quiescent_Kernel5 := by
  intro m ρ _
  rw [defs_eq, main_eq]
  exact Cert.Kernel5Ideal.Gen.frame (F := Bits) m ρ

/-- The ideal kernel ends with its arguments as they were. -/
theorem frame_ideal : Cert.quiescent_Kernel5Ideal := fun m ρ _ => Cert.Kernel5Ideal.Gen.frame m ρ

/-- The reference leaves its arguments, and it has no semaphore. -/
theorem frame_reference : Cert.quiescent_Reference5Ideal := fun m ρ _ =>
  (θ_run Cert.Reference5Ideal.defs _ _).mono (fun r h => ⟨fun c => (h c).2, sem_eq_zero_of_no_sems (by decide) r.2⟩) (Cert.Reference5Ideal.Value.run (F := Ideal) m ρ)

end Cert.Proof.Enter

end
-- ==== Proof.Enter.Array.lean ====
/- The product into the state-space mixer: the kernel's output array from its blocks, entry by entry. -/
module

public import proofs.«01_k».proof.Proof.Trunk.Norm
public import proofs.«01_k».proof.Proof.Gen.Kernel5Ideal.Value

@[expose] public section

set_option maxRecDepth 16384

noncomputable section

namespace Cert.Enter

open Idealize.ShloMosaic hiding ix0 ix1 ix2 ix3 ix4 ix5
open Idealize.ShloMosaic.ValueIdx

/-- The result holds the four sequences side by side: column `C` of time `s` is of sequence `C / 1024`, whose rows follow one another in the stream. -/
def rowOf (s : Fin 8192) (C : Fin 4096) : Fin 32768 := ⟨8192 * (C.val / 1024) + s.val, by omega⟩
def colOf (C : Fin 4096) : Fin 1024 := ⟨C.val % 1024, by omega⟩

/-- Entry `(s, C)` of the result. -/
def answer (x0 : (⟨2, ![32768, 1024]⟩ : Shape).Idx → EReal) (x1 : (⟨2, ![1024, 1024]⟩ : Shape).Idx → EReal) (s : Fin 8192) (C : Fin 4096) : EReal :=
  ∑ k : Fin 1024, x0 (ix2 (rowOf s C) k) * x1 (ix2 k (colOf C))

end Cert.Enter

namespace Cert.Kernel5Ideal.Hand

open Cert.Kernel5Ideal Cert.Kernel5Ideal.Gen Cert.Enter Cert.Trunk
open Idealize.ShloMosaic hiding ix0 ix1 ix2 ix3 ix4 ix5
open Idealize.ShloMosaic.TcCoe Idealize.ShloMosaic.ValueIdx
open Idealize.SL.Sem

variable (m : (ℓ : Loc nD τ sig) → Buf (Elt Ideal) ℓ) (c : Dev nD)

/-- The arguments on device `c`. -/
abbrev streamArg : FVec Ideal S32768x1024 .f32 := m ((c.tc : Thread nD τ).loc main_arg0)
abbrev weightArg : FVec Ideal S1024x1024 .f32 := m ((c.tc : Thread nD τ).loc main_arg1)

/-- The result of device `c`. -/
def answers : FVec Ideal S8192x4096 .f32 := fun y => answer (streamArg m c) (weightArg m c) (y 0) (y 1)

/-- The weights as the call reads them: the argument, its format changed. -/
theorem weight_eq : (V m c main_v0 : FVec Ideal S1024x1024 .bf16) = weightArg m c := by
  show StableHlo.after _ _ (Proc.devRef .tc main_v0) = _
  after_results
  rfl

/-- The block indices. -/
theorem ix_stream : ∀ t : Fin grid0.N, cc0_transform_0 (grid0.coords t) = ![t.val, 0] := by decide +kernel
theorem ix_weight : ∀ t : Fin grid0.N, cc0_transform_1 (grid0.coords t) = ![0, 0] := by decide +kernel
theorem ix_out : ∀ t : Fin grid0.N, cc0_transform_2 (grid0.coords t) = ![t.val % 16, t.val / 16] := by decide +kernel

variable (t : Fin cfg0.N)

/-- The blocks at a grid point. -/
abbrev streamBlk : FVec Ideal S512x1024 .f32 := iblk m c 0 t
abbrev weightBlk : FVec Ideal S1024x1024 .bf16 := iblk m c 1 t

theorem streamBlk_apply (r : Fin 512) (d : Fin 1024) (R : Fin 32768) (hR : R.val = t.val * 512 + r.val) : streamBlk m c t (ix2 r d) = streamArg m c (ix2 R d) := by
  show (V m c main_arg0 : FVec Ideal S32768x1024 .f32) (((cfg0.win 0).blk t).view.emb (ix2 r d)) = _
  rw [V_main_arg0]
  refine congrArg (streamArg m c) (funext fun a => Fin.ext ?_)
  match a with
  | ⟨0, _⟩ =>
    show cc0_transform_0 (grid0.coords t) 0 * 512 + 1 * r.val = R.val
    rw [ix_stream]; show t.val * 512 + 1 * r.val = R.val; omega
  | ⟨1, _⟩ =>
    show cc0_transform_0 (grid0.coords t) 1 * 1024 + 1 * d.val = d.val
    rw [ix_stream]; show 0 * 1024 + 1 * d.val = d.val; omega

theorem weightBlk_apply (k d : Fin 1024) : weightBlk m c t (ix2 k d) = weightArg m c (ix2 k d) := by
  show (V m c main_v0 : FVec Ideal S1024x1024 .bf16) (((cfg0.win 1).blk t).view.emb (ix2 k d)) = _
  rw [weight_eq]
  refine congrArg (weightArg m c) (funext fun a => Fin.ext ?_)
  match a with
  | ⟨0, _⟩ =>
    show cc0_transform_1 (grid0.coords t) 0 * 1024 + 1 * k.val = k.val
    rw [ix_weight]; show 0 * 1024 + 1 * k.val = k.val; omega
  | ⟨1, _⟩ =>
    show cc0_transform_1 (grid0.coords t) 1 * 1024 + 1 * d.val = d.val
    rw [ix_weight]; show 0 * 1024 + 1 * d.val = d.val; omega

/-- An entry of what the body stores. -/
theorem stored_apply (h : FVec Ideal S512x1024 .f32) (w : FVec Ideal S1024x1024 .bf16) (r : Fin 512) (d : Fin 1024) :
    k0_pay1 (F := Ideal) h w (ix2 r d) = ∑ k : Fin 1024, h (ix2 r k) * w (ix2 k d) := by
  unfold k0_pay1
  refine (Ideal.matmul_plain_apply (φ₁ := .bf16) (φ₂ := .bf16) none _ _ _ r d).trans ?_
  rw [zero_at, zero_add, shapeCast_self]
  rfl

/-- The block a grid point leaves. -/
theorem out_apply (r : Fin 512) (k : Fin 1024) (s : Fin 8192) (C : Fin 4096) (hs : s.val = t.val % 16 * 512 + r.val) (hC : C.val = t.val / 16 * 1024 + k.val) :
    out0_2 (F := Ideal) (iblk m c 0 t) (iblk m c 1 t) (ix2 r k) = answer (streamArg m c) (weightArg m c) s C := by
  have hk : colOf C = k := Fin.ext (by show C.val % 1024 = k.val; omega)
  have hR : (rowOf s C).val = t.val * 512 + r.val := by show 8192 * (C.val / 1024) + s.val = _; omega
  unfold out0_2 answer
  rw [View.canon_cons_unit_lit _ _ _ (by decide)]
  iterate 2 rw [View.ld_unit_lit _ _ (by decide)]
  refine (stored_apply (streamBlk m c t) (weightBlk m c t) r k).trans (Finset.sum_congr rfl fun j _ => ?_)
  rw [streamBlk_apply m c t r j _ hR, weightBlk_apply, hk]

theorem out_covers : (cfg0.win 2).Covers := by
  refine ⟨(by decide : ∀ a, 0 < S512x1024.size a), fun β => ?_⟩
  have h0 : (β (0 : Fin 2)).val < (8192 + 512 - 1) / 512 := (β (0 : Fin 2)).isLt
  have h1 : (β (1 : Fin 2)).val < (4096 + 1024 - 1) / 1024 := (β (1 : Fin 2)).isLt
  have hN : cfg0.grid.N = 64 := rfl
  refine ⟨⟨(β (1 : Fin 2)).val * 16 + (β (0 : Fin 2)).val, by rw [hN]; omega⟩, flush0_2 _, fun a => ⟨?_, .inl rfl⟩⟩
  show cc0_transform_2 (grid0.coords _) a = _
  rw [ix_out]
  match a with
  | ⟨0, _⟩ => show ((β (1 : Fin 2)).val * 16 + (β (0 : Fin 2)).val) % 16 = (β (0 : Fin 2)).val; omega
  | ⟨1, _⟩ => show ((β (1 : Fin 2)).val * 16 + (β (0 : Fin 2)).val) / 16 = (β (1 : Fin 2)).val; omega

/-- The output array after the call. -/
theorem out_array : (dats m 0 c).arrAt 2 cfg0.N = answers m c := by
  refine (dats m 0 c).arrAt_eq_of_covers 2 _ out_covers fun t hf y => ?_
  obtain ⟨r, k, rfl⟩ : ∃ (r : Fin 512) (k : Fin 1024), y = (ix2 r k : S512x1024.Idx) := ⟨y (0 : Fin 2), y (1 : Fin 2), ValueIdx.eq_ix2 y⟩
  show (dats m 0 c).after 2 t (ix2 r k) = _
  rw [after0_2]
  have e0 : (((cfg0.win 2).blk t).view.emb (ix2 r k) (0 : Fin 2)).val = t.val % 16 * 512 + r.val := by
    show cc0_transform_2 (grid0.coords t) 0 * 512 + 1 * r.val = _
    rw [ix_out]
    show t.val % 16 * 512 + 1 * r.val = _
    omega
  have e1 : (((cfg0.win 2).blk t).view.emb (ix2 r k) (1 : Fin 2)).val = t.val / 16 * 1024 + k.val := by
    show cc0_transform_2 (grid0.coords t) 1 * 1024 + 1 * k.val = _
    rw [ix_out]
    show t.val / 16 * 1024 + 1 * k.val = _
    omega
  exact out_apply m c t r k _ _ e0 e1

end Cert.Kernel5Ideal.Hand

end
-- ==== Proof.Enter.Result.lean ====
/- Over the extended reals the product into the state-space mixer and its reference return the same result. -/
module

public import proofs.«01_k».proof.Proof.Enter.Array
public import proofs.«01_k».proof.Proof.Enter.Frames
public import proofs.«01_k».proof.Proof.Gen.Reference5Ideal.Read

@[expose] public section

set_option maxRecDepth 16384

noncomputable section

namespace Cert.Reference5Ideal.Hand

open Cert.Reference5Ideal Cert.Reference5Ideal.Gen Cert.Reference5Ideal.Read Cert.Enter
open Idealize.ShloMosaic hiding ix0 ix1 ix2 ix3 ix4 ix5
open Idealize.ShloMosaic.TcCoe Idealize.ShloMosaic.ValueIdx

/-- The reference's result, entry by entry. -/
theorem result_apply (x0 : FVec Ideal S32768x1024 .f32) (x1 : FVec Ideal S1024x1024 .f32) (s : Fin 8192) (C : Fin 4096) :
    val_main_v3 (F := Ideal) x0 x1 (ix2 s C) = answer x0 x1 s C := by
  rw [val_main_v3_apply, val_main_v2_apply, val_main_v1_apply]
  unfold answer
  refine Finset.sum_congr rfl fun k _ => ?_
  rw [val_main_v0_apply]
  refine congrArg₂ (fun p q : EReal => p * q) (congrArg x0 (funext fun a => Fin.ext ?_)) (congrArg x1 (funext fun a => Fin.ext ?_))
  · match a with
    | ⟨0, _⟩ =>
      show ((((s.val * 4096 + C.val) / 1024 % 4) * 8192 + (s.val * 4096 + C.val) / 4096) * 1024 + k.val) / 1024 = 8192 * (C.val / 1024) + s.val
      omega
    | ⟨1, _⟩ =>
      show ((((s.val * 4096 + C.val) / 1024 % 4) * 8192 + (s.val * 4096 + C.val) / 4096) * 1024 + k.val) % 1024 = k.val
      omega
  · match a with
    | ⟨0, _⟩ => rfl
    | ⟨1, _⟩ => show (s.val * 4096 + C.val) % 1024 = C.val % 1024; omega

end Cert.Reference5Ideal.Hand

namespace Cert.Proof

open Idealize.ShloMosaic Idealize.ShloMosaic.TcCoe Idealize.ShloMosaic.ValueIdx Idealize.SL.Sem

/-- Over the extended reals the kernel and its reference return the same result. -/
theorem same_enter : Cert.algebraic_Kernel5Ideal_Reference5Ideal := fun m g m' g' _ hargs =>
  ⟨Cert.Kernel5Ideal.Hand.answers m,
    (θ_run Cert.Kernel5Ideal.defs _ _).mono (fun r h c => ⟨(h c).1.trans (Cert.Kernel5Ideal.Hand.out_array m c), (h c).2⟩) (Cert.Kernel5Ideal.Value.run_blocks m g),
    (θ_run Cert.Reference5Ideal.defs _ _).mono (fun r h c => ⟨by
      refine (h c).1.trans ?_
      rw [(hargs c).1, (hargs c).2]
      funext y
      rw [ValueIdx.eq_ix2 y]
      exact Cert.Reference5Ideal.Hand.result_apply _ _ (y 0) (y 1), (h c).2⟩) (Cert.Reference5Ideal.Value.run (F := Ideal) m' g')⟩

end Cert.Proof

end
-- ==== Proof.Leave.Frames.lean ====
/- The frames of the two kernels and the reference of the product out of the state-space mixer. -/
module

public import proofs.«01_k».proof.Defs
public import proofs.«01_k».proof.Proof.Gen.Kernel6
public import proofs.«01_k».proof.Proof.Gen.Kernel6Ideal.Value
public import proofs.«01_k».proof.Proof.Gen.Reference6Ideal.Run
public import Idealize.ShloMosaic.Adequacy
public import Idealize.ShloMosaic.Init

@[expose] public section

set_option maxRecDepth 16384
set_option maxHeartbeats 1000000

noncomputable section

namespace Cert.Proof.Leave

open Idealize.ShloMosaic Idealize.ShloMosaic.TcCoe Idealize.SL.Sem

/-- The two kernels have the same bodies, the same calls and the same main. -/
theorem bodies_eq : Cert.Kernel6.defs₀ (F := Bits) = Cert.Kernel6Ideal.defs₀ (F := Bits) := by
  unfold Cert.Kernel6.defs₀ Cert.Kernel6Ideal.defs₀
  refine congrArg Defs.onTc (funext fun l => ?_)
  obtain rfl : l = 0 := Subsingleton.elim _ _
  refine funext fun p => ?_
  rfl
theorem defs_eq : Cert.Kernel6.defs (F := Bits) = Cert.Kernel6Ideal.defs (F := Bits) := by
  unfold Cert.Kernel6.defs Cert.Kernel6Ideal.defs
  exact congrArg (Pipeline.defs (Cert.Kernel6Ideal.pcfgs (F := Bits))) bodies_eq
theorem main_eq : Cert.Kernel6.main (F := Bits) = Cert.Kernel6Ideal.main (F := Bits) := rfl

/-- The kernel runs as the ideal one does, whose text it shares. -/
theorem frame_kernel : Cert.quiescent_Kernel6 := by
  intro m ρ _
  rw [defs_eq, main_eq]
  exact Cert.Kernel6Ideal.Gen.frame (F := Bits) m ρ

/-- The ideal kernel ends with its arguments as they were. -/
theorem frame_ideal : Cert.quiescent_Kernel6Ideal := fun m ρ _ => Cert.Kernel6Ideal.Gen.frame m ρ

/-- The reference leaves its arguments, and it has no semaphore. -/
theorem frame_reference : Cert.quiescent_Reference6Ideal := fun m ρ _ =>
  (θ_run Cert.Reference6Ideal.defs _ _).mono (fun r h => ⟨fun c => (h c).2, sem_eq_zero_of_no_sems (by decide) r.2⟩) (Cert.Reference6Ideal.Value.run (F := Ideal) m ρ)

end Cert.Proof.Leave

end
-- ==== Proof.Leave.Row.lean ====
/- The product out of the state-space mixer: one half of it times the other's logistic function, added to the residual and normalised, and that the kernel's block computes it. -/
module

public import proofs.«01_k».proof.Proof.Trunk.Norm
public import proofs.«01_k».proof.Proof.Gen.Kernel6Ideal.Value

@[expose] public section

set_option maxRecDepth 16384

noncomputable section

namespace Cert.Leave

open Idealize.ShloMosaic hiding ix0 ix1 ix2 ix3 ix4 ix5
open Idealize.ShloMosaic.ValueIdx

/-- A row times the weights. -/
def product (Y : Fin 1024 → EReal) (W : (⟨2, ![1024, 2048]⟩ : Shape).Idx → EReal) (f : Fin 2048) : EReal := ∑ k : Fin 1024, Y k * W (ix2 k f)

/-- The residual, scaled, and the product's first half times the logistic function of its second half. -/
def joined (Y : Fin 1024 → EReal) (W : (⟨2, ![1024, 2048]⟩ : Shape).Idx → EReal) (h : Fin 1024 → EReal) (d : Fin 1024) : EReal :=
  Ideal.ofBits .f32 0x3FB504F3#32 * h d + product Y W ⟨d.val, by omega⟩ * Ideal.logistic (product Y W ⟨1024 + d.val, by omega⟩)

/-- The mixer's rows hold the four sequences side by side: where entry `j` of the stream's row `R` lies in them. -/
def timeOf (R : Fin 32768) : Fin 8192 := ⟨R.val % 8192, by omega⟩
def placeOf (R : Fin 32768) (j : Fin 1024) : Fin 4096 := ⟨1024 * (R.val / 8192) + j.val, by omega⟩

/-- The row of the result before it is normalised. -/
abbrev rowOf (x0 : (⟨2, ![8192, 4096]⟩ : Shape).Idx → EReal) (x1 : (⟨2, ![1024, 2048]⟩ : Shape).Idx → EReal) (x2 : (⟨2, ![32768, 1024]⟩ : Shape).Idx → EReal) (R : Fin 32768) : Fin 1024 → EReal :=
  joined (fun j => x0 (ix2 (timeOf R) (placeOf R j))) x1 fun d => x2 (ix2 R d)

/-- Entry `(R, c)` of the result. -/
def answer (x0 : (⟨2, ![8192, 4096]⟩ : Shape).Idx → EReal) (x1 : (⟨2, ![1024, 2048]⟩ : Shape).Idx → EReal) (x2 : (⟨2, ![32768, 1024]⟩ : Shape).Idx → EReal)
    (x3 x4 : (⟨1, ![1024]⟩ : Shape).Idx → EReal) (R : Fin 32768) (c : Fin 1024) : EReal :=
  Trunk.normed (rowOf x0 x1 x2 R) (fun d => x3 (ix1 d)) (fun d => x4 (ix1 d)) c

end Cert.Leave

namespace Cert.Kernel6Ideal.Hand

open Cert.Kernel6Ideal Cert.Kernel6Ideal.Gen Cert.Leave Cert.Trunk
open Idealize.ShloMosaic hiding ix0 ix1 ix2 ix3 ix4 ix5
open Idealize.ShloMosaic.TcCoe Idealize.ShloMosaic.ValueIdx

/-- A block's product, and the block before it is normalised. -/
def productBlock (y : FVec Ideal S512x1024 .bf16) (w : FVec Ideal S1024x2048 .bf16) : FVec Ideal S512x2048 .f32 :=
  matmul dot_S512x1024_S1024x2048_S512x2048_1_0_0_1_n_n none (shapeCast S512x1024 y shapeCasts_S512x1024_S512x1024) (shapeCast S1024x2048 w shapeCasts_S1024x2048_S1024x2048)
    (constant S512x2048 .f32 0x00000000#32)
def joinedBlock (y : FVec Ideal S512x1024 .bf16) (w : FVec Ideal S1024x2048 .bf16) (h : FVec Ideal S512x1024 .f32) : FVec Ideal S512x1024 .f32 :=
  addf (mulf (broadcast S512x1024 (Scalar.ofBits .f32 0x3FB504F3#32)) h)
    (mulf (extractStridedSlice S512x1024 ![0, 0] (productBlock y w) slices_S512x2048_o0_0_S512x1024)
      (logistic (extractStridedSlice S512x1024 ![0, 1024] (productBlock y w) slices_S512x2048_o0_1024_S512x1024)))

theorem pay1_eq (y : FVec Ideal S512x1024 .bf16) (w : FVec Ideal S1024x2048 .bf16) (h : FVec Ideal S512x1024 .f32) (p q : FVec Ideal S1x1024 .f32) :
    k0_pay1 (F := Ideal) y w h p q
      = normBlock reduces_S512x1024_S512 shapeCasts_S512_S512x1 broadcasts_S512x1_S512x1024 broadcasts_S1x1024_S512x1024 (joinedBlock y w h)
          (shapeCast S1x1024 p shapeCasts_S1x1024_S1x1024) (shapeCast S1x1024 q shapeCasts_S1x1024_S1x1024) := rfl

theorem productBlock_apply (y : FVec Ideal S512x1024 .bf16) (w : FVec Ideal S1024x2048 .bf16) (r : Fin 512) (f : Fin 2048) :
    productBlock y w (ix2 r f) = product (fun k => y (ix2 r k)) w f := by
  unfold productBlock product
  refine (Ideal.matmul_plain_apply (φ₁ := .bf16) (φ₂ := .bf16) none _ _ _ r f).trans ?_
  rw [zero_at, zero_add, shapeCast_self, shapeCast_self]

theorem joinedBlock_apply (y : FVec Ideal S512x1024 .bf16) (w : FVec Ideal S1024x2048 .bf16) (h : FVec Ideal S512x1024 .f32) (r : Fin 512) (d : Fin 1024) :
    joinedBlock y w h (ix2 r d) = joined (fun k => y (ix2 r k)) w (fun d => h (ix2 r d)) d := by
  have e1 : extractStridedSlice S512x1024 ![0, 0] (productBlock y w) slices_S512x2048_o0_0_S512x1024 (ix2 r d) = productBlock y w (ix2 r (⟨d.val, by omega⟩ : Fin 2048)) :=
    extractStridedSlice_apply _ _ _ _ _ fun a => by
      match a with
      | ⟨0, _⟩ => show r.val = 0 + r.val; omega
      | ⟨1, _⟩ => show d.val = 0 + d.val; omega
  have e2 : extractStridedSlice S512x1024 ![0, 1024] (productBlock y w) slices_S512x2048_o0_1024_S512x1024 (ix2 r d) = productBlock y w (ix2 r (⟨1024 + d.val, by omega⟩ : Fin 2048)) :=
    extractStridedSlice_apply _ _ _ _ _ fun a => by
      match a with
      | ⟨0, _⟩ => show r.val = 0 + r.val; omega
      | ⟨1, _⟩ => rfl
  unfold joined
  rw [← productBlock_apply, ← productBlock_apply, ← e1, ← e2]
  rfl

/-- An entry of what the body stores. -/
theorem stored_apply (y : FVec Ideal S512x1024 .bf16) (w : FVec Ideal S1024x2048 .bf16) (h : FVec Ideal S512x1024 .f32) (p q : FVec Ideal S1x1024 .f32) (r : Fin 512) (c : Fin 1024) :
    k0_pay1 (F := Ideal) y w h p q (ix2 r c)
      = normed (joined (fun k => y (ix2 r k)) w fun d => h (ix2 r d)) (fun d => p (ix2 (0 : Fin 1) d)) (fun d => q (ix2 (0 : Fin 1) d)) c := by
  rw [pay1_eq, shapeCast_self, shapeCast_self]
  refine (normBlock_apply _ _ _ _ _ _ _ r c).trans ?_
  rw [funext fun d => joinedBlock_apply y w h r d]

end Cert.Kernel6Ideal.Hand

end
-- ==== Proof.Leave.Array.lean ====
/- The product out of the state-space mixer: the kernel's output array from its blocks, from what the arguments held when the call was entered. -/
module

public import proofs.«01_k».proof.Proof.Leave.Row

@[expose] public section

set_option maxRecDepth 16384

noncomputable section

namespace Cert.Kernel6Ideal.Hand

open Cert.Kernel6Ideal Cert.Kernel6Ideal.Gen Cert.Leave
open Idealize.ShloMosaic hiding ix0 ix1 ix2 ix3 ix4 ix5
open Idealize.ShloMosaic.TcCoe Idealize.ShloMosaic.ValueIdx
open Idealize.SL.Sem

variable (m : (ℓ : Loc nD τ sig) → Buf (Elt Ideal) ℓ) (c : Dev nD)

/-- The arguments on device `c`. -/
abbrev rowsArg : FVec Ideal S8192x4096 .f32 := m ((c.tc : Thread nD τ).loc main_arg0)
abbrev weightArg : FVec Ideal S1024x2048 .f32 := m ((c.tc : Thread nD τ).loc main_arg1)
abbrev residualArg : FVec Ideal S32768x1024 .f32 := m ((c.tc : Thread nD τ).loc main_arg2)
abbrev gainArg : FVec Ideal S1024 .f32 := m ((c.tc : Thread nD τ).loc main_arg3)
abbrev biasArg : FVec Ideal S1024 .f32 := m ((c.tc : Thread nD τ).loc main_arg4)

/-- The result of device `c`. -/
def answers : FVec Ideal S32768x1024 .f32 := fun y => answer (rowsArg m c) (weightArg m c) (residualArg m c) (gainArg m c) (biasArg m c) (y 0) (y 1)

/-- The mixer's rows and the weights as the call reads them are the arguments, their format changed; the gain and the bias have an axis of size one put in. -/
theorem rows_eq : (V m c main_v0 : FVec Ideal S8192x4096 .bf16) = rowsArg m c := by
  show StableHlo.after _ _ (Proc.devRef .tc main_v0) = _
  after_results
  rfl
theorem weight_eq : (V m c main_v1 : FVec Ideal S1024x2048 .bf16) = weightArg m c := by
  show StableHlo.after _ _ (Proc.devRef .tc main_v1) = _
  after_results
  rfl
theorem gain_eq : (V m c main_v2 : FVec Ideal S1x1024 .f32) = shapeCast S1x1024 (gainArg m c) shapeCasts_S1024_S1x1024 := by
  show StableHlo.after _ _ (Proc.devRef .tc main_v2) = _
  after_results
  rfl
theorem bias_eq : (V m c main_v3 : FVec Ideal S1x1024 .f32) = shapeCast S1x1024 (biasArg m c) shapeCasts_S1024_S1x1024 := by
  show StableHlo.after _ _ (Proc.devRef .tc main_v3) = _
  after_results
  rfl

/-- The block indices. -/
theorem ix_rows : ∀ t : Fin grid0.N, cc0_transform_0 (grid0.coords t) = ![t.val % 16, t.val / 16] := by decide +kernel
theorem ix_weight : ∀ t : Fin grid0.N, cc0_transform_1 (grid0.coords t) = ![0, 0] := by decide +kernel
theorem ix_residual : ∀ t : Fin grid0.N, cc0_transform_2 (grid0.coords t) = ![t.val, 0] := by decide +kernel
theorem ix_gain : ∀ t : Fin grid0.N, cc0_transform_3 (grid0.coords t) = ![0, 0] := by decide +kernel
theorem ix_bias : ∀ t : Fin grid0.N, cc0_transform_4 (grid0.coords t) = ![0, 0] := by decide +kernel
theorem ix_out : ∀ t : Fin grid0.N, cc0_transform_5 (grid0.coords t) = ![t.val, 0] := by decide +kernel

variable (t : Fin cfg0.N)

/-- The blocks at a grid point. -/
abbrev rowsBlk : FVec Ideal S512x1024 .bf16 := iblk m c 0 t
abbrev weightBlk : FVec Ideal S1024x2048 .bf16 := iblk m c 1 t
abbrev residualBlk : FVec Ideal S512x1024 .f32 := iblk m c 2 t
abbrev gainBlk : FVec Ideal S1x1024 .f32 := iblk m c 3 t
abbrev biasBlk : FVec Ideal S1x1024 .f32 := iblk m c 4 t

theorem rowsBlk_apply (r : Fin 512) (j : Fin 1024) (R : Fin 32768) (hR : R.val = t.val * 512 + r.val) : rowsBlk m c t (ix2 r j) = rowsArg m c (ix2 (timeOf R) (placeOf R j)) := by
  show (V m c main_v0 : FVec Ideal S8192x4096 .bf16) (((cfg0.win 0).blk t).view.emb (ix2 r j)) = _
  rw [rows_eq]
  refine congrArg (rowsArg m c) (funext fun a => Fin.ext ?_)
  match a with
  | ⟨0, _⟩ =>
    show cc0_transform_0 (grid0.coords t) 0 * 512 + 1 * r.val = R.val % 8192
    rw [ix_rows]; show t.val % 16 * 512 + 1 * r.val = R.val % 8192; omega
  | ⟨1, _⟩ =>
    show cc0_transform_0 (grid0.coords t) 1 * 1024 + 1 * j.val = 1024 * (R.val / 8192) + j.val
    rw [ix_rows]; show t.val / 16 * 1024 + 1 * j.val = 1024 * (R.val / 8192) + j.val; omega

theorem weightBlk_apply (k : Fin 1024) (f : Fin 2048) : weightBlk m c t (ix2 k f) = weightArg m c (ix2 k f) := by
  show (V m c main_v1 : FVec Ideal S1024x2048 .bf16) (((cfg0.win 1).blk t).view.emb (ix2 k f)) = _
  rw [weight_eq]
  refine congrArg (weightArg m c) (funext fun a => Fin.ext ?_)
  match a with
  | ⟨0, _⟩ =>
    show cc0_transform_1 (grid0.coords t) 0 * 1024 + 1 * k.val = k.val
    rw [ix_weight]; show 0 * 1024 + 1 * k.val = k.val; omega
  | ⟨1, _⟩ =>
    show cc0_transform_1 (grid0.coords t) 1 * 2048 + 1 * f.val = f.val
    rw [ix_weight]; show 0 * 2048 + 1 * f.val = f.val; omega

theorem residualBlk_apply (r : Fin 512) (d : Fin 1024) (R : Fin 32768) (hR : R.val = t.val * 512 + r.val) : residualBlk m c t (ix2 r d) = residualArg m c (ix2 R d) := by
  show (V m c main_arg2 : FVec Ideal S32768x1024 .f32) (((cfg0.win 2).blk t).view.emb (ix2 r d)) = _
  rw [V_main_arg2]
  refine congrArg (residualArg m c) (funext fun a => Fin.ext ?_)
  match a with
  | ⟨0, _⟩ =>
    show cc0_transform_2 (grid0.coords t) 0 * 512 + 1 * r.val = R.val
    rw [ix_residual]; show t.val * 512 + 1 * r.val = R.val; omega
  | ⟨1, _⟩ =>
    show cc0_transform_2 (grid0.coords t) 1 * 1024 + 1 * d.val = d.val
    rw [ix_residual]; show 0 * 1024 + 1 * d.val = d.val; omega

theorem gainBlk_apply (d : Fin 1024) : gainBlk m c t (ix2 (0 : Fin 1) d) = gainArg m c (ix1 d) := by
  show (V m c main_v2 : FVec Ideal S1x1024 .f32) (((cfg0.win 3).blk t).view.emb (ix2 (0 : Fin 1) d)) = _
  rw [gain_eq]
  refine shapeCast_apply _ _ _ _ ?_
  rw [Shape.rowMajor_val_one, Shape.rowMajor_val_two]
  show d.val = (cc0_transform_3 (grid0.coords t) 0 * 1 + 1 * 0) * 1024 + (cc0_transform_3 (grid0.coords t) 1 * 1024 + 1 * d.val)
  rw [ix_gain]; show d.val = (0 * 1 + 1 * 0) * 1024 + (0 * 1024 + 1 * d.val); omega

theorem biasBlk_apply (d : Fin 1024) : biasBlk m c t (ix2 (0 : Fin 1) d) = biasArg m c (ix1 d) := by
  show (V m c main_v3 : FVec Ideal S1x1024 .f32) (((cfg0.win 4).blk t).view.emb (ix2 (0 : Fin 1) d)) = _
  rw [bias_eq]
  refine shapeCast_apply _ _ _ _ ?_
  rw [Shape.rowMajor_val_one, Shape.rowMajor_val_two]
  show d.val = (cc0_transform_4 (grid0.coords t) 0 * 1 + 1 * 0) * 1024 + (cc0_transform_4 (grid0.coords t) 1 * 1024 + 1 * d.val)
  rw [ix_bias]; show d.val = (0 * 1 + 1 * 0) * 1024 + (0 * 1024 + 1 * d.val); omega

theorem weightBlk_eq : weightBlk m c t = weightArg m c := by
  funext y
  rw [ValueIdx.eq_ix2 y]
  exact weightBlk_apply m c t (y 0) (y 1)

/-- The block a grid point leaves. -/
theorem out_apply (r : Fin 512) (k : Fin 1024) (R : Fin 32768) (hR : R.val = t.val * 512 + r.val) :
    out0_5 (F := Ideal) (iblk m c 0 t) (iblk m c 1 t) (iblk m c 2 t) (iblk m c 3 t) (iblk m c 4 t) (ix2 r k)
      = answer (rowsArg m c) (weightArg m c) (residualArg m c) (gainArg m c) (biasArg m c) R k := by
  unfold out0_5 answer rowOf
  rw [View.canon_cons_unit_lit _ _ _ (by decide)]
  iterate 5 rw [View.ld_unit_lit _ _ (by decide)]
  refine (stored_apply (rowsBlk m c t) (weightBlk m c t) (residualBlk m c t) (gainBlk m c t) (biasBlk m c t) r k).trans ?_
  rw [weightBlk_eq,
    show (fun j => rowsBlk m c t (ix2 r j)) = fun (j : Fin 1024) => rowsArg m c (ix2 (timeOf R) (placeOf R j)) from funext fun j => rowsBlk_apply m c t r j R hR,
    show (fun d => residualBlk m c t (ix2 r d)) = fun (d : Fin 1024) => residualArg m c (ix2 R d) from funext fun d => residualBlk_apply m c t r d R hR,
    show (fun d => gainBlk m c t (ix2 (0 : Fin 1) d)) = fun (d : Fin 1024) => gainArg m c (ix1 d) from funext fun d => gainBlk_apply m c t d,
    show (fun d => biasBlk m c t (ix2 (0 : Fin 1) d)) = fun (d : Fin 1024) => biasArg m c (ix1 d) from funext fun d => biasBlk_apply m c t d]

theorem out_covers : (cfg0.win 5).Covers := by
  refine ⟨(by decide : ∀ a, 0 < S512x1024.size a), fun β => ?_⟩
  have h0 : (β (0 : Fin 2)).val < (32768 + 512 - 1) / 512 := (β (0 : Fin 2)).isLt
  have h1 : (β (1 : Fin 2)).val < (1024 + 1024 - 1) / 1024 := (β (1 : Fin 2)).isLt
  have hN : cfg0.grid.N = 64 := rfl
  refine ⟨⟨(β (0 : Fin 2)).val, by rw [hN]; omega⟩, flush0_5 _, fun a => ⟨?_, .inl rfl⟩⟩
  show cc0_transform_5 (grid0.coords _) a = _
  rw [ix_out]
  match a with
  | ⟨0, _⟩ => rfl
  | ⟨1, _⟩ => show 0 = (β (1 : Fin 2)).val; omega

/-- The output array after the call. -/
theorem out_array : (dats m 0 c).arrAt 5 cfg0.N = answers m c := by
  refine (dats m 0 c).arrAt_eq_of_covers 5 _ out_covers fun t hf y => ?_
  obtain ⟨r, k, rfl⟩ : ∃ (r : Fin 512) (k : Fin 1024), y = (ix2 r k : S512x1024.Idx) := ⟨y (0 : Fin 2), y (1 : Fin 2), ValueIdx.eq_ix2 y⟩
  show (dats m 0 c).after 5 t (ix2 r k) = _
  rw [after0_5]
  have e0 : (((cfg0.win 5).blk t).view.emb (ix2 r k) (0 : Fin 2)).val = t.val * 512 + r.val := by
    show cc0_transform_5 (grid0.coords t) 0 * 512 + 1 * r.val = _
    rw [ix_out]
    show t.val * 512 + 1 * r.val = _
    omega
  have e1 : ((cfg0.win 5).blk t).view.emb (ix2 r k) (1 : Fin 2) = k := by
    refine Fin.ext ?_
    show cc0_transform_5 (grid0.coords t) 1 * 1024 + 1 * k.val = _
    rw [ix_out]
    show 0 * 1024 + 1 * k.val = k.val
    omega
  refine (out_apply m c t r k _ e0).trans ?_
  unfold answers
  rw [e1]

end Cert.Kernel6Ideal.Hand

end
-- ==== Proof.Leave.Reference.lean ====
/- The reference of the product out of the state-space mixer over the extended reals: every entry of its result. -/
module

public import proofs.«01_k».proof.Proof.Leave.Row
public import proofs.«01_k».proof.Proof.Gen.Reference6Ideal.Read

@[expose] public section

set_option maxRecDepth 16384

noncomputable section

namespace Cert.Reference6Ideal.Hand

open Cert.Reference6Ideal Cert.Reference6Ideal.Gen Cert.Reference6Ideal.Read Cert.Leave Cert.Trunk
open Idealize.ShloMosaic hiding ix0 ix1 ix2 ix3 ix4 ix5
open Idealize.ShloMosaic.TcCoe Idealize.ShloMosaic.ValueIdx

variable (x0 : FVec Ideal S8192x4096 .f32) (x1 : FVec Ideal S1024x2048 .f32) (x2 : FVec Ideal S32768x1024 .f32) (x3 x4 : FVec Ideal S1024 .f32)

/-- The row of time `s` of sequence `b`. -/
def rowAt (b : Fin 4) (s : Fin 8192) : Fin 32768 := ⟨8192 * b.val + s.val, by omega⟩

theorem product_apply (b : Fin 4) (s : Fin 8192) (f : Fin 2048) :
    val_main_v3 (F := Ideal) x0 x1 (ix3 b s f) = product (fun j => x0 (ix2 (timeOf (rowAt b s)) (placeOf (rowAt b s) j))) x1 f := by
  rw [val_main_v3_apply]
  refine Finset.sum_congr rfl fun k _ => ?_
  rw [val_main_v1_apply, val_main_v0_apply]
  have hs : (8192 * b.val + s.val) % 8192 = s.val := by omega
  have hb : (8192 * b.val + s.val) / 8192 = b.val := by omega
  have hk : (s.val * 4 + b.val) * 1024 + k.val = 4096 * s.val + (1024 * b.val + k.val) := by omega
  have hl : 1024 * b.val + k.val < 4096 := by omega
  refine congrArg₂ (fun p q : EReal => p * q) (congrArg x0 (funext fun a => Fin.ext ?_)) (congrArg x1 (funext fun a => ?_))
  · match a with
    | ⟨0, _⟩ => show ((s.val * 4 + b.val) * 1024 + k.val) / 4096 = (8192 * b.val + s.val) % 8192; rw [hs, hk]; omega
    | ⟨1, _⟩ => show ((s.val * 4 + b.val) * 1024 + k.val) % 4096 = 1024 * ((8192 * b.val + s.val) / 8192) + k.val; rw [hb, hk]; omega
  · match a with
    | ⟨0, _⟩ => rfl
    | ⟨1, _⟩ => rfl

theorem joined_apply (b : Fin 4) (s : Fin 8192) (d : Fin 1024) : val_main_v15 (F := Ideal) x0 x1 x2 (ix3 b s d) = rowOf x0 x1 x2 (rowAt b s) d := by
  have e1 : val_main_v4 (F := Ideal) x0 x1 (ix3 b s d) = product (fun j => x0 (ix2 (timeOf (rowAt b s)) (placeOf (rowAt b s) j))) x1 ⟨d.val, by omega⟩ := by
    rw [val_main_v4_apply, ← product_apply]
    refine congrArg (val_main_v3 (F := Ideal) x0 x1) (funext fun a => ?_)
    match a with
    | ⟨0, _⟩ => rfl
    | ⟨1, _⟩ => rfl
    | ⟨2, _⟩ => rfl
  have e2 : val_main_v5 (F := Ideal) x0 x1 (ix3 b s d) = product (fun j => x0 (ix2 (timeOf (rowAt b s)) (placeOf (rowAt b s) j))) x1 ⟨1024 + d.val, by omega⟩ := by
    rw [val_main_v5_apply, ← product_apply]
    refine congrArg (val_main_v3 (F := Ideal) x0 x1) (funext fun a => ?_)
    match a with
    | ⟨0, _⟩ => rfl
    | ⟨1, _⟩ => rfl
    | ⟨2, _⟩ => rfl
  have e3 : val_main_v2 (F := Ideal) x2 (ix3 b s d) = x2 (ix2 (rowAt b s) d) := by
    rw [val_main_v2_apply]
    refine congrArg x2 (funext fun a => Fin.ext ?_)
    match a with
    | ⟨0, _⟩ => show ((b.val * 8192 + s.val) * 1024 + d.val) / 1024 = 8192 * b.val + s.val; omega
    | ⟨1, _⟩ => show ((b.val * 8192 + s.val) * 1024 + d.val) % 1024 = d.val; omega
  unfold rowOf joined
  beta_reduce
  rw [← e1, ← e2, ← e3, val_main_v15_apply, val_main_v14_apply, val_main_v13_apply, val_main_cst_1_apply, val_main_v12_apply, val_main_v11_apply, val_main_v10_apply, val_main_cst_0_apply,
    val_main_v9_apply, val_main_v8_apply, val_main_cst_apply, val_main_v7_apply, val_main_v6_apply]
  unfold Ideal.logistic
  rw [← Ideal.ofBits_one_f32]
  rfl

theorem mean_apply (b : Fin 4) (s : Fin 8192) (u : Fin 1) : val_main_v19 (F := Ideal) x0 x1 x2 (ix3 b s u) = mean (rowOf x0 x1 x2 (rowAt b s)) := by
  rw [val_main_v19_apply, val_main_v17_apply, val_main_v18_apply, val_main_cst_3_apply, val_main_v16_apply, val_main_cst_2_apply]
  refine congrArg (fun s : EReal => Ideal.div s (Ideal.ofBits .f32 0x44800000#32)) ?_
  refine (congrArg (fun s : EReal => s + _) Ideal.ofBits_zero_f32).trans ((zero_add _).trans (Finset.sum_congr rfl fun k _ => ?_))
  rw [← joined_apply x0 x1 x2 b s k]
  refine congrArg (val_main_v15 (F := Ideal) x0 x1 x2) (funext fun a => ?_)
  match a with
  | ⟨0, _⟩ => rfl
  | ⟨1, _⟩ => rfl
  | ⟨2, _⟩ => rfl

theorem centred_apply (b : Fin 4) (s : Fin 8192) (d : Fin 1024) :
    val_main_v21 (F := Ideal) x0 x1 x2 (ix3 b s d) = rowOf x0 x1 x2 (rowAt b s) d - mean (rowOf x0 x1 x2 (rowAt b s)) := by
  rw [val_main_v21_apply, joined_apply x0 x1 x2, val_main_v20_apply, ← mean_apply x0 x1 x2 b s 0]
  refine congrArg (fun y => rowOf x0 x1 x2 (rowAt b s) d - val_main_v19 (F := Ideal) x0 x1 x2 y) (funext fun a => ?_)
  match a with
  | ⟨0, _⟩ => rfl
  | ⟨1, _⟩ => rfl
  | ⟨2, _⟩ => rfl

theorem variance_apply (b : Fin 4) (s : Fin 8192) (u : Fin 1) :
    val_main_v26 (F := Ideal) x0 x1 x2 (ix3 b s u)
      = mean fun k => (rowOf x0 x1 x2 (rowAt b s) k - mean (rowOf x0 x1 x2 (rowAt b s))) * (rowOf x0 x1 x2 (rowAt b s) k - mean (rowOf x0 x1 x2 (rowAt b s))) := by
  rw [val_main_v26_apply, val_main_v24_apply, val_main_v25_apply, val_main_cst_5_apply, val_main_v23_apply, val_main_cst_4_apply]
  refine congrArg (fun s : EReal => Ideal.div s (Ideal.ofBits .f32 0x44800000#32)) ?_
  refine (congrArg (fun s : EReal => s + _) Ideal.ofBits_zero_f32).trans ((zero_add _).trans (Finset.sum_congr rfl fun k _ => ?_))
  beta_reduce
  rw [← centred_apply x0 x1 x2 b s k]
  refine (congrArg (val_main_v22 (F := Ideal) x0 x1 x2) (funext fun a => ?_)).trans (val_main_v22_apply (F := Ideal) x0 x1 x2 (ix3 b s k))
  match a with
  | ⟨0, _⟩ => rfl
  | ⟨1, _⟩ => rfl
  | ⟨2, _⟩ => rfl

/-- The reference's result before its rows are laid out again, entry by entry. -/
theorem normed_apply (b : Fin 4) (s : Fin 8192) (c : Fin 1024) :
    val_main_v39 (F := Ideal) x0 x1 x2 x3 x4 (ix3 b s c) = answer x0 x1 x2 x3 x4 (rowAt b s) c := by
  have e : ∀ y : S4x8192x1.Idx, (y 0).val = b.val → (y 1).val = s.val → y = ix3 b s (0 : Fin 1) := fun y h h' => funext fun a => by
    match a with
    | ⟨0, _⟩ => exact Fin.ext h
    | ⟨1, _⟩ => exact Fin.ext h'
    | ⟨2, _⟩ => exact Subsingleton.elim (α := Fin 1) _ _
  rw [val_main_v39_apply, val_main_v36_apply, val_main_v33_apply, val_main_v28_apply, val_main_v27_apply, val_main_v32_apply, val_main_v31_apply, val_main_v30_apply,
    val_main_v29_apply, val_main_cst_6_apply, val_main_v35_apply, val_main_v34_apply, val_main_v38_apply, val_main_v37_apply, joined_apply x0 x1 x2,
    e (idx_main_v27 (ix3 b s c)) rfl rfl, e (idx_main_v32 (ix3 b s c)) rfl rfl, mean_apply x0 x1 x2, variance_apply x0 x1 x2]
  unfold answer normed
  refine congrArg₂ (fun p q : EReal => p + q) (congrArg (fun p : EReal => _ * p) (congrArg x3 (funext fun a => ?_))) (congrArg x4 (funext fun a => ?_))
  · match a with
    | ⟨0, _⟩ => rfl
  · match a with
    | ⟨0, _⟩ => rfl

/-- The reference's result, entry by entry. -/
theorem result_apply (R : Fin 32768) (c : Fin 1024) : val_main_v40 (F := Ideal) x0 x1 x2 x3 x4 (ix2 R c) = answer x0 x1 x2 x3 x4 R c := by
  have hR : rowAt (⟨R.val / 8192, by omega⟩ : Fin 4) (timeOf R) = R := Fin.ext (Nat.div_add_mod R.val 8192)
  have h := normed_apply x0 x1 x2 x3 x4 (⟨R.val / 8192, by omega⟩ : Fin 4) (timeOf R) c
  rw [hR] at h
  rw [val_main_v40_apply]
  refine (congrArg (val_main_v39 (F := Ideal) x0 x1 x2 x3 x4) (funext fun a => Fin.ext ?_)).trans h
  match a with
  | ⟨0, _⟩ => show (R.val * 1024 + c.val) / 8388608 = R.val / 8192; omega
  | ⟨1, _⟩ => show (R.val * 1024 + c.val) / 1024 % 8192 = R.val % 8192; omega
  | ⟨2, _⟩ => show (R.val * 1024 + c.val) % 1024 = c.val; omega

end Cert.Reference6Ideal.Hand

end
-- ==== Proof.Leave.Result.lean ====
/- Over the extended reals the product out of the state-space mixer and its reference return the same result. -/
module

public import proofs.«01_k».proof.Proof.Leave.Array
public import proofs.«01_k».proof.Proof.Leave.Frames
public import proofs.«01_k».proof.Proof.Leave.Reference

@[expose] public section

set_option maxRecDepth 16384

noncomputable section

namespace Cert.Proof

open Idealize.ShloMosaic Idealize.ShloMosaic.TcCoe Idealize.SL.Sem

/-- Over the extended reals the kernel and its reference return the same result. -/
theorem same_leave : Cert.algebraic_Kernel6Ideal_Reference6Ideal := fun m g m' g' _ hargs =>
  ⟨Cert.Kernel6Ideal.Hand.answers m,
    (θ_run Cert.Kernel6Ideal.defs _ _).mono (fun r h c => ⟨(h c).1.trans (Cert.Kernel6Ideal.Hand.out_array m c), (h c).2⟩) (Cert.Kernel6Ideal.Value.run_blocks m g),
    (θ_run Cert.Reference6Ideal.defs _ _).mono (fun r h c => ⟨by
      refine (h c).1.trans ((Cert.Reference6Ideal.Read.val_main_v40_eq m' c).trans ?_)
      rw [(hargs c).1, (hargs c).2.1, (hargs c).2.2.1, (hargs c).2.2.2.1, (hargs c).2.2.2.2]
      funext y
      rw [ValueIdx.eq_ix2 y]
      exact Cert.Reference6Ideal.Hand.result_apply _ _ _ _ _ (y 0) (y 1), (h c).2⟩) (Cert.Reference6Ideal.Value.run (F := Ideal) m' g')⟩

end Cert.Proof

end
-- ==== Proof.Mixed.Frames.lean ====
/- The frames of the two kernels and the reference of the product out of the first layer's mixer. -/
module

public import proofs.«01_k».proof.Defs
public import proofs.«01_k».proof.Proof.Gen.Kernel7
public import proofs.«01_k».proof.Proof.Gen.Kernel7Ideal.Value
public import proofs.«01_k».proof.Proof.Gen.Reference7Ideal.Run
public import Idealize.ShloMosaic.Adequacy
public import Idealize.ShloMosaic.Init

@[expose] public section

set_option maxRecDepth 16384
set_option maxHeartbeats 1000000

noncomputable section

namespace Cert.Proof.Mixed

open Idealize.ShloMosaic Idealize.ShloMosaic.TcCoe Idealize.SL.Sem

/-- The two kernels have the same bodies, the same calls and the same main. -/
theorem bodies_eq : Cert.Kernel7.defs₀ (F := Bits) = Cert.Kernel7Ideal.defs₀ (F := Bits) := by
  unfold Cert.Kernel7.defs₀ Cert.Kernel7Ideal.defs₀
  refine congrArg Defs.onTc (funext fun l => ?_)
  obtain rfl : l = 0 := Subsingleton.elim _ _
  refine funext fun p => ?_
  rfl
theorem defs_eq : Cert.Kernel7.defs (F := Bits) = Cert.Kernel7Ideal.defs (F := Bits) := by
  unfold Cert.Kernel7.defs Cert.Kernel7Ideal.defs
  exact congrArg (Pipeline.defs (Cert.Kernel7Ideal.pcfgs (F := Bits))) bodies_eq
theorem main_eq : Cert.Kernel7.main (F := Bits) = Cert.Kernel7Ideal.main (F := Bits) := rfl

/-- The kernel runs as the ideal one does, whose text it shares. -/
theorem frame_kernel : Cert.quiescent_Kernel7 := by
  intro m ρ _
  rw [defs_eq, main_eq]
  exact Cert.Kernel7Ideal.Gen.frame (F := Bits) m ρ

/-- The ideal kernel ends with its arguments as they were. -/
theorem frame_ideal : Cert.quiescent_Kernel7Ideal := fun m ρ _ => Cert.Kernel7Ideal.Gen.frame m ρ

/-- The reference leaves its arguments, and it has no semaphore. -/
theorem frame_reference : Cert.quiescent_Reference7Ideal := fun m ρ _ =>
  (θ_run Cert.Reference7Ideal.defs _ _).mono (fun r h => ⟨fun c => (h c).2, sem_eq_zero_of_no_sems (by decide) r.2⟩) (Cert.Reference7Ideal.Value.run (F := Ideal) m ρ)

end Cert.Proof.Mixed

end
-- ==== Proof.Mixed.Row.lean ====
/- The product out of the first layer's mixer: one row of it, added to the residual and normalised, and that the kernel's block computes it. -/
module

public import proofs.«01_k».proof.Proof.Experts.Row
public import proofs.«01_k».proof.Proof.Trunk.Norm
public import proofs.«01_k».proof.Proof.Gen.Kernel7Ideal.Value

@[expose] public section

set_option maxRecDepth 16384

noncomputable section

namespace Cert.Mixed

open Idealize.ShloMosaic hiding ix0 ix1 ix2 ix3 ix4 ix5
open Idealize.ShloMosaic.ValueIdx

/-- Two rows of 512, one after the other. -/
def beside (a b : Fin 512 → EReal) (k : Fin 1024) : EReal := if h : k.val < 512 then a ⟨k.val, h⟩ else b ⟨k.val - 512, by omega⟩

/-- The residual, scaled, and the two rows times the weights. -/
def joined (a b : Fin 512 → EReal) (W : (⟨2, ![1024, 1024]⟩ : Shape).Idx → EReal) (h : Fin 1024 → EReal) (d : Fin 1024) : EReal :=
  Ideal.ofBits .f32 0x3FB504F3#32 * h d + ∑ k : Fin 1024, beside a b k * W (ix2 k d)

/-- The row of the result before it is normalised. -/
abbrev rowOf (x0 x1 : (⟨2, ![32768, 512]⟩ : Shape).Idx → EReal) (x2 : (⟨2, ![1024, 1024]⟩ : Shape).Idx → EReal) (x3 : (⟨2, ![32768, 1024]⟩ : Shape).Idx → EReal) (R : Fin 32768) : Fin 1024 → EReal :=
  joined (fun j => x0 (ix2 R j)) (fun j => x1 (ix2 R j)) x2 fun d => x3 (ix2 R d)

/-- Entry `(R, c)` of the result. -/
def answer (x0 x1 : (⟨2, ![32768, 512]⟩ : Shape).Idx → EReal) (x2 : (⟨2, ![1024, 1024]⟩ : Shape).Idx → EReal) (x3 : (⟨2, ![32768, 1024]⟩ : Shape).Idx → EReal)
    (x4 x5 : (⟨1, ![1024]⟩ : Shape).Idx → EReal) (R : Fin 32768) (c : Fin 1024) : EReal :=
  Trunk.normed (rowOf x0 x1 x2 x3 R) (fun d => x4 (ix1 d)) (fun d => x5 (ix1 d)) c

end Cert.Mixed

namespace Cert.Kernel7Ideal.Hand

open Cert.Kernel7Ideal Cert.Kernel7Ideal.Gen Cert.Mixed Cert.Trunk
open Idealize.ShloMosaic hiding ix0 ix1 ix2 ix3 ix4 ix5
open Idealize.ShloMosaic.TcCoe Idealize.ShloMosaic.ValueIdx

/-- The product of a block with half of the weights, and the block before it is normalised. -/
def halfBlock (a : FVec Ideal S512x512 .bf16) (w : FVec Ideal S512x1024 .bf16) : FVec Ideal S512x1024 .f32 :=
  matmul dot_S512x512_S512x1024_S512x1024_1_0_0_1_n_n none (shapeCast S512x512 a shapeCasts_S512x512_S512x512) (shapeCast S512x1024 w shapeCasts_S512x1024_S512x1024)
    (constant S512x1024 .f32 0x00000000#32)
def joinedBlock (a b : FVec Ideal S512x512 .bf16) (w v : FVec Ideal S512x1024 .bf16) (h : FVec Ideal S512x1024 .f32) : FVec Ideal S512x1024 .f32 :=
  addf (mulf (broadcast S512x1024 (Scalar.ofBits .f32 0x3FB504F3#32)) h) (addf (halfBlock a w) (halfBlock b v))

theorem pay_eq (a b : FVec Ideal S512x512 .bf16) (w v : FVec Ideal S512x1024 .bf16) (h : FVec Ideal S512x1024 .f32) (p q : FVec Ideal S1x1024 .f32) :
    k0_pay1 (F := Ideal) (k0_pay2 q) (k0_pay3 a w b v h p)
      = normBlock reduces_S512x1024_S512 shapeCasts_S512_S512x1 broadcasts_S512x1_S512x1024 broadcasts_S1x1024_S512x1024 (joinedBlock a b w v h)
          (shapeCast S1x1024 p shapeCasts_S1x1024_S1x1024) (shapeCast S1x1024 q shapeCasts_S1x1024_S1x1024) := rfl

theorem halfBlock_apply (a : FVec Ideal S512x512 .bf16) (w : FVec Ideal S512x1024 .bf16) (r : Fin 512) (d : Fin 1024) :
    halfBlock a w (ix2 r d) = ∑ k : Fin 512, a (ix2 r k) * w (ix2 k d) := by
  unfold halfBlock
  refine (Ideal.matmul_plain_apply (φ₁ := .bf16) (φ₂ := .bf16) none _ _ _ r d).trans ?_
  rw [zero_at, zero_add, shapeCast_self, shapeCast_self]

theorem joinedBlock_apply (a b : FVec Ideal S512x512 .bf16) (w v : FVec Ideal S512x1024 .bf16) (h : FVec Ideal S512x1024 .f32) (W : (⟨2, ![1024, 1024]⟩ : Shape).Idx → EReal)
    (hw : ∀ (k : Fin 512) (d : Fin 1024), w (ix2 k d) = W (ix2 (⟨k.val, by omega⟩ : Fin 1024) d)) (hv : ∀ (k : Fin 512) (d : Fin 1024), v (ix2 k d) = W (ix2 (⟨512 + k.val, by omega⟩ : Fin 1024) d))
    (r : Fin 512) (d : Fin 1024) : joinedBlock a b w v h (ix2 r d) = joined (fun j => a (ix2 r j)) (fun j => b (ix2 r j)) W (fun d => h (ix2 r d)) d := by
  unfold joinedBlock joined
  refine congrArg (fun s : EReal => Ideal.ofBits .f32 0x3FB504F3#32 * h (ix2 r d) + s) ?_
  rw [← Experts.sum_halves]
  refine congrArg₂ (fun p q : EReal => p + q) ((halfBlock_apply a w r d).trans (Finset.sum_congr rfl fun k _ => ?_)) ((halfBlock_apply b v r d).trans (Finset.sum_congr rfl fun k _ => ?_))
  · unfold beside
    rw [dif_pos k.isLt, hw]
  · unfold beside
    rw [dif_neg (by show ¬ 512 + k.val < 512; omega), hv]
    exact congrArg (fun j : Fin 512 => b (ix2 r j) * W (ix2 (⟨512 + k.val, by omega⟩ : Fin 1024) d)) (Fin.ext (by show k.val = 512 + k.val - 512; omega))

/-- An entry of what the body stores. -/
theorem stored_apply (a b : FVec Ideal S512x512 .bf16) (w v : FVec Ideal S512x1024 .bf16) (h : FVec Ideal S512x1024 .f32) (p q : FVec Ideal S1x1024 .f32) (W : (⟨2, ![1024, 1024]⟩ : Shape).Idx → EReal)
    (hw : ∀ (k : Fin 512) (d : Fin 1024), w (ix2 k d) = W (ix2 (⟨k.val, by omega⟩ : Fin 1024) d)) (hv : ∀ (k : Fin 512) (d : Fin 1024), v (ix2 k d) = W (ix2 (⟨512 + k.val, by omega⟩ : Fin 1024) d))
    (r : Fin 512) (c : Fin 1024) :
    k0_pay1 (F := Ideal) (k0_pay2 q) (k0_pay3 a w b v h p) (ix2 r c)
      = normed (joined (fun j => a (ix2 r j)) (fun j => b (ix2 r j)) W fun d => h (ix2 r d)) (fun d => p (ix2 (0 : Fin 1) d)) (fun d => q (ix2 (0 : Fin 1) d)) c := by
  rw [pay_eq, shapeCast_self, shapeCast_self]
  refine (normBlock_apply _ _ _ _ _ _ _ r c).trans ?_
  rw [funext fun d => joinedBlock_apply a b w v h W hw hv r d]

end Cert.Kernel7Ideal.Hand

end
-- ==== Proof.Mixed.Array.lean ====
/- The product out of the first layer's mixer: the kernel's output array from its blocks, from what the arguments held when the call was entered. -/
module

public import proofs.«01_k».proof.Proof.Mixed.Row

@[expose] public section

set_option maxRecDepth 16384

noncomputable section

namespace Cert.Kernel7Ideal.Hand

open Cert.Kernel7Ideal Cert.Kernel7Ideal.Gen Cert.Mixed
open Idealize.ShloMosaic hiding ix0 ix1 ix2 ix3 ix4 ix5
open Idealize.ShloMosaic.TcCoe Idealize.ShloMosaic.ValueIdx
open Idealize.SL.Sem

variable (m : (ℓ : Loc nD τ sig) → Buf (Elt Ideal) ℓ) (c : Dev nD)

/-- The arguments on device `c`. -/
abbrev leftArg : FVec Ideal S32768x512 .f32 := m ((c.tc : Thread nD τ).loc main_arg0)
abbrev rightArg : FVec Ideal S32768x512 .f32 := m ((c.tc : Thread nD τ).loc main_arg1)
abbrev weightArg : FVec Ideal S1024x1024 .f32 := m ((c.tc : Thread nD τ).loc main_arg2)
abbrev residualArg : FVec Ideal S32768x1024 .f32 := m ((c.tc : Thread nD τ).loc main_arg3)
abbrev gainArg : FVec Ideal S1024 .f32 := m ((c.tc : Thread nD τ).loc main_arg4)
abbrev biasArg : FVec Ideal S1024 .f32 := m ((c.tc : Thread nD τ).loc main_arg5)

/-- The result of device `c`. -/
def answers : FVec Ideal S32768x1024 .f32 := fun y => answer (leftArg m c) (rightArg m c) (weightArg m c) (residualArg m c) (gainArg m c) (biasArg m c) (y 0) (y 1)

/-- The two mixers' rows as the call reads them are the arguments, their format changed, and so are the weights, cut in two; the gain and the bias have an axis of size one put in. -/
theorem left_eq : (V m c main_v1 : FVec Ideal S32768x512 .bf16) = leftArg m c := by
  show StableHlo.after _ _ (Proc.devRef .tc main_v1) = _
  after_results
  rfl
theorem right_eq : (V m c main_v2 : FVec Ideal S32768x512 .bf16) = rightArg m c := by
  show StableHlo.after _ _ (Proc.devRef .tc main_v2) = _
  after_results
  rfl
theorem upper_eq : (V m c main_v3 : FVec Ideal S512x1024 .bf16) = (extractStridedSlice S512x1024 ![0, 0] (weightArg m c) slices_S1024x1024_S512x1024_0_0 : FVec Ideal S512x1024 .f32) := by
  show StableHlo.after _ _ (Proc.devRef .tc main_v3) = _
  after_results
  rfl
theorem lower_eq : (V m c main_v4 : FVec Ideal S512x1024 .bf16) = (extractStridedSlice S512x1024 ![512, 0] (weightArg m c) slices_S1024x1024_S512x1024_512_0 : FVec Ideal S512x1024 .f32) := by
  show StableHlo.after _ _ (Proc.devRef .tc main_v4) = _
  after_results
  rfl
theorem gain_eq : (V m c main_v5 : FVec Ideal S1x1024 .f32) = shapeCast S1x1024 (gainArg m c) shapeCasts_S1024_S1x1024 := by
  show StableHlo.after _ _ (Proc.devRef .tc main_v5) = _
  after_results
  rfl
theorem bias_eq : (V m c main_v6 : FVec Ideal S1x1024 .f32) = shapeCast S1x1024 (biasArg m c) shapeCasts_S1024_S1x1024 := by
  show StableHlo.after _ _ (Proc.devRef .tc main_v6) = _
  after_results
  rfl

/-- The block indices. -/
theorem ix_left : ∀ t : Fin grid0.N, cc0_transform_0 (grid0.coords t) = ![t.val, 0] := by decide +kernel
theorem ix_right : ∀ t : Fin grid0.N, cc0_transform_1 (grid0.coords t) = ![t.val, 0] := by decide +kernel
theorem ix_upper : ∀ t : Fin grid0.N, cc0_transform_2 (grid0.coords t) = ![0, 0] := by decide +kernel
theorem ix_lower : ∀ t : Fin grid0.N, cc0_transform_3 (grid0.coords t) = ![0, 0] := by decide +kernel
theorem ix_residual : ∀ t : Fin grid0.N, cc0_transform_4 (grid0.coords t) = ![t.val, 0] := by decide +kernel
theorem ix_gain : ∀ t : Fin grid0.N, cc0_transform_5 (grid0.coords t) = ![0, 0] := by decide +kernel
theorem ix_bias : ∀ t : Fin grid0.N, cc0_transform_6 (grid0.coords t) = ![0, 0] := by decide +kernel
theorem ix_out : ∀ t : Fin grid0.N, cc0_transform_7 (grid0.coords t) = ![t.val, 0] := by decide +kernel

variable (t : Fin cfg0.N)

/-- The blocks at a grid point. -/
abbrev leftBlk : FVec Ideal S512x512 .bf16 := iblk m c 0 t
abbrev rightBlk : FVec Ideal S512x512 .bf16 := iblk m c 1 t
abbrev upperBlk : FVec Ideal S512x1024 .bf16 := iblk m c 2 t
abbrev lowerBlk : FVec Ideal S512x1024 .bf16 := iblk m c 3 t
abbrev residualBlk : FVec Ideal S512x1024 .f32 := iblk m c 4 t
abbrev gainBlk : FVec Ideal S1x1024 .f32 := iblk m c 5 t
abbrev biasBlk : FVec Ideal S1x1024 .f32 := iblk m c 6 t

theorem leftBlk_apply (r : Fin 512) (d : Fin 512) (R : Fin 32768) (hR : R.val = t.val * 512 + r.val) : leftBlk m c t (ix2 r d) = leftArg m c (ix2 R d) := by
  show (V m c main_v1 : FVec Ideal S32768x512 .bf16) (((cfg0.win 0).blk t).view.emb (ix2 r d)) = _
  rw [left_eq]
  refine congrArg (leftArg m c) (funext fun a => Fin.ext ?_)
  match a with
  | ⟨0, _⟩ =>
    show cc0_transform_0 (grid0.coords t) 0 * 512 + 1 * r.val = R.val
    rw [ix_left]; show t.val * 512 + 1 * r.val = R.val; omega
  | ⟨1, _⟩ =>
    show cc0_transform_0 (grid0.coords t) 1 * 512 + 1 * d.val = d.val
    rw [ix_left]; show 0 * 512 + 1 * d.val = d.val; omega

theorem rightBlk_apply (r : Fin 512) (d : Fin 512) (R : Fin 32768) (hR : R.val = t.val * 512 + r.val) : rightBlk m c t (ix2 r d) = rightArg m c (ix2 R d) := by
  show (V m c main_v2 : FVec Ideal S32768x512 .bf16) (((cfg0.win 1).blk t).view.emb (ix2 r d)) = _
  rw [right_eq]
  refine congrArg (rightArg m c) (funext fun a => Fin.ext ?_)
  match a with
  | ⟨0, _⟩ =>
    show cc0_transform_1 (grid0.coords t) 0 * 512 + 1 * r.val = R.val
    rw [ix_right]; show t.val * 512 + 1 * r.val = R.val; omega
  | ⟨1, _⟩ =>
    show cc0_transform_1 (grid0.coords t) 1 * 512 + 1 * d.val = d.val
    rw [ix_right]; show 0 * 512 + 1 * d.val = d.val; omega

theorem residualBlk_apply (r : Fin 512) (d : Fin 1024) (R : Fin 32768) (hR : R.val = t.val * 512 + r.val) : residualBlk m c t (ix2 r d) = residualArg m c (ix2 R d) := by
  show (V m c main_arg3 : FVec Ideal S32768x1024 .f32) (((cfg0.win 4).blk t).view.emb (ix2 r d)) = _
  rw [V_main_arg3]
  refine congrArg (residualArg m c) (funext fun a => Fin.ext ?_)
  match a with
  | ⟨0, _⟩ =>
    show cc0_transform_4 (grid0.coords t) 0 * 512 + 1 * r.val = R.val
    rw [ix_residual]; show t.val * 512 + 1 * r.val = R.val; omega
  | ⟨1, _⟩ =>
    show cc0_transform_4 (grid0.coords t) 1 * 1024 + 1 * d.val = d.val
    rw [ix_residual]; show 0 * 1024 + 1 * d.val = d.val; omega

theorem upperBlk_apply (k : Fin 512) (d : Fin 1024) : upperBlk m c t (ix2 k d) = weightArg m c (ix2 (⟨k.val, by omega⟩ : Fin 1024) d) := by
  show (V m c main_v3 : FVec Ideal S512x1024 .bf16) (((cfg0.win 2).blk t).view.emb (ix2 k d)) = _
  rw [upper_eq]
  refine extractStridedSlice_apply _ _ _ _ _ fun a => ?_
  match a with
  | ⟨0, _⟩ =>
    show k.val = 0 + (cc0_transform_2 (grid0.coords t) 0 * 512 + 1 * k.val)
    rw [ix_upper]; show k.val = 0 + (0 * 512 + 1 * k.val); omega
  | ⟨1, _⟩ =>
    show d.val = 0 + (cc0_transform_2 (grid0.coords t) 1 * 1024 + 1 * d.val)
    rw [ix_upper]; show d.val = 0 + (0 * 1024 + 1 * d.val); omega

theorem lowerBlk_apply (k : Fin 512) (d : Fin 1024) : lowerBlk m c t (ix2 k d) = weightArg m c (ix2 (⟨512 + k.val, by omega⟩ : Fin 1024) d) := by
  show (V m c main_v4 : FVec Ideal S512x1024 .bf16) (((cfg0.win 3).blk t).view.emb (ix2 k d)) = _
  rw [lower_eq]
  refine extractStridedSlice_apply _ _ _ _ _ fun a => ?_
  match a with
  | ⟨0, _⟩ =>
    show 512 + k.val = 512 + (cc0_transform_3 (grid0.coords t) 0 * 512 + 1 * k.val)
    rw [ix_lower]; show 512 + k.val = 512 + (0 * 512 + 1 * k.val); omega
  | ⟨1, _⟩ =>
    show d.val = 0 + (cc0_transform_3 (grid0.coords t) 1 * 1024 + 1 * d.val)
    rw [ix_lower]; show d.val = 0 + (0 * 1024 + 1 * d.val); omega

theorem gainBlk_apply (d : Fin 1024) : gainBlk m c t (ix2 (0 : Fin 1) d) = gainArg m c (ix1 d) := by
  show (V m c main_v5 : FVec Ideal S1x1024 .f32) (((cfg0.win 5).blk t).view.emb (ix2 (0 : Fin 1) d)) = _
  rw [gain_eq]
  refine shapeCast_apply _ _ _ _ ?_
  rw [Shape.rowMajor_val_one, Shape.rowMajor_val_two]
  show d.val = (cc0_transform_5 (grid0.coords t) 0 * 1 + 1 * 0) * 1024 + (cc0_transform_5 (grid0.coords t) 1 * 1024 + 1 * d.val)
  rw [ix_gain]; show d.val = (0 * 1 + 1 * 0) * 1024 + (0 * 1024 + 1 * d.val); omega

theorem biasBlk_apply (d : Fin 1024) : biasBlk m c t (ix2 (0 : Fin 1) d) = biasArg m c (ix1 d) := by
  show (V m c main_v6 : FVec Ideal S1x1024 .f32) (((cfg0.win 6).blk t).view.emb (ix2 (0 : Fin 1) d)) = _
  rw [bias_eq]
  refine shapeCast_apply _ _ _ _ ?_
  rw [Shape.rowMajor_val_one, Shape.rowMajor_val_two]
  show d.val = (cc0_transform_6 (grid0.coords t) 0 * 1 + 1 * 0) * 1024 + (cc0_transform_6 (grid0.coords t) 1 * 1024 + 1 * d.val)
  rw [ix_bias]; show d.val = (0 * 1 + 1 * 0) * 1024 + (0 * 1024 + 1 * d.val); omega

/-- The block a grid point leaves. -/
theorem out_apply (r : Fin 512) (k : Fin 1024) (R : Fin 32768) (hR : R.val = t.val * 512 + r.val) :
    out0_7 (F := Ideal) (iblk m c 0 t) (iblk m c 1 t) (iblk m c 2 t) (iblk m c 3 t) (iblk m c 4 t) (iblk m c 5 t) (iblk m c 6 t) (ix2 r k)
      = answer (leftArg m c) (rightArg m c) (weightArg m c) (residualArg m c) (gainArg m c) (biasArg m c) R k := by
  unfold out0_7 answer rowOf
  rw [View.canon_cons_unit_lit _ _ _ (by decide)]
  iterate 7 rw [View.ld_unit_lit _ _ (by decide)]
  refine (stored_apply (leftBlk m c t) (rightBlk m c t) (upperBlk m c t) (lowerBlk m c t) (residualBlk m c t) (gainBlk m c t) (biasBlk m c t) (weightArg m c)
    (fun k d => upperBlk_apply m c t k d) (fun k d => lowerBlk_apply m c t k d) r k).trans ?_
  rw [show (fun d => leftBlk m c t (ix2 r d)) = fun (d : Fin 512) => leftArg m c (ix2 R d) from funext fun d => leftBlk_apply m c t r d R hR,
    show (fun d => rightBlk m c t (ix2 r d)) = fun (d : Fin 512) => rightArg m c (ix2 R d) from funext fun d => rightBlk_apply m c t r d R hR,
    show (fun d => residualBlk m c t (ix2 r d)) = fun (d : Fin 1024) => residualArg m c (ix2 R d) from funext fun d => residualBlk_apply m c t r d R hR,
    show (fun d => gainBlk m c t (ix2 (0 : Fin 1) d)) = fun (d : Fin 1024) => gainArg m c (ix1 d) from funext fun d => gainBlk_apply m c t d,
    show (fun d => biasBlk m c t (ix2 (0 : Fin 1) d)) = fun (d : Fin 1024) => biasArg m c (ix1 d) from funext fun d => biasBlk_apply m c t d]

theorem out_covers : (cfg0.win 7).Covers := by
  refine ⟨(by decide : ∀ a, 0 < S512x1024.size a), fun β => ?_⟩
  have h0 : (β (0 : Fin 2)).val < (32768 + 512 - 1) / 512 := (β (0 : Fin 2)).isLt
  have h1 : (β (1 : Fin 2)).val < (1024 + 1024 - 1) / 1024 := (β (1 : Fin 2)).isLt
  have hN : cfg0.grid.N = 64 := rfl
  refine ⟨⟨(β (0 : Fin 2)).val, by rw [hN]; omega⟩, flush0_7 _, fun a => ⟨?_, .inl rfl⟩⟩
  show cc0_transform_7 (grid0.coords _) a = _
  rw [ix_out]
  match a with
  | ⟨0, _⟩ => rfl
  | ⟨1, _⟩ => show 0 = (β (1 : Fin 2)).val; omega

/-- The output array after the call. -/
theorem out_array : (dats m 0 c).arrAt 7 cfg0.N = answers m c := by
  refine (dats m 0 c).arrAt_eq_of_covers 7 _ out_covers fun t hf y => ?_
  obtain ⟨r, k, rfl⟩ : ∃ (r : Fin 512) (k : Fin 1024), y = (ix2 r k : S512x1024.Idx) := ⟨y (0 : Fin 2), y (1 : Fin 2), ValueIdx.eq_ix2 y⟩
  show (dats m 0 c).after 7 t (ix2 r k) = _
  rw [after0_7]
  have e0 : (((cfg0.win 7).blk t).view.emb (ix2 r k) (0 : Fin 2)).val = t.val * 512 + r.val := by
    show cc0_transform_7 (grid0.coords t) 0 * 512 + 1 * r.val = _
    rw [ix_out]
    show t.val * 512 + 1 * r.val = _
    omega
  have e1 : ((cfg0.win 7).blk t).view.emb (ix2 r k) (1 : Fin 2) = k := by
    refine Fin.ext ?_
    show cc0_transform_7 (grid0.coords t) 1 * 1024 + 1 * k.val = _
    rw [ix_out]
    show 0 * 1024 + 1 * k.val = k.val
    omega
  refine (out_apply m c t r k _ e0).trans ?_
  unfold answers
  rw [e1]

end Cert.Kernel7Ideal.Hand

end
-- ==== Proof.Mixed.Reference.lean ====
/- The reference of the product out of the first layer's mixer over the extended reals: every entry of its result. -/
module

public import proofs.«01_k».proof.Proof.Mixed.Row
public import proofs.«01_k».proof.Proof.Gen.Reference7Ideal.Read

@[expose] public section

set_option maxRecDepth 16384

noncomputable section

namespace Cert.Reference7Ideal.Hand

open Cert.Reference7Ideal Cert.Reference7Ideal.Gen Cert.Reference7Ideal.Read Cert.Mixed Cert.Trunk
open Idealize.ShloMosaic hiding ix0 ix1 ix2 ix3 ix4 ix5
open Idealize.ShloMosaic.TcCoe Idealize.ShloMosaic.ValueIdx

variable (x0 x1 : FVec Ideal S32768x512 .f32) (x2 : FVec Ideal S1024x1024 .f32) (x3 : FVec Ideal S32768x1024 .f32) (x4 x5 : FVec Ideal S1024 .f32)

/-- The two mixers' rows, side by side. -/
theorem beside_apply (R : Fin 32768) (k : Fin 1024) : val_main_v2 (F := Ideal) x0 x1 (ix2 R k) = beside (fun j => x0 (ix2 R j)) (fun j => x1 (ix2 R j)) k := by
  unfold val_main_v2 beside
  by_cases h : k.val < 512
  · rw [dif_pos h]
    refine concatenate_pair_apply_left (t := S32768x1024) (s₁ := S32768x512) (s₂ := S32768x512) (1 : Fin 2) _ _ concatenates_S32768x512_S32768x512_S32768x1024_d1 (ix2 R k) rfl (ix2 R (⟨k.val, h⟩ : Fin 512)) fun b => ?_
    match b with
    | ⟨0, _⟩ => rfl
    | ⟨1, _⟩ => rfl
  · rw [dif_neg h]
    refine concatenate_pair_apply_right (t := S32768x1024) (s₁ := S32768x512) (s₂ := S32768x512) (1 : Fin 2) _ _ concatenates_S32768x512_S32768x512_S32768x1024_d1 (ix2 R k) rfl rfl (ix2 R (⟨k.val - 512, by omega⟩ : Fin 512)) (fun b hb => ?_) ?_
    · match b with
      | ⟨0, _⟩ => rfl
      | ⟨1, _⟩ => exact absurd rfl hb
    · show k.val - 512 + 512 = k.val
      omega

theorem joined_apply (R : Fin 32768) (d : Fin 1024) : val_main_v4 (F := Ideal) x0 x1 x2 x3 (ix2 R d) = rowOf x0 x1 x2 x3 R d := by
  rw [val_main_v4_apply, val_main_v1_apply, val_main_v0_apply, val_main_cst_apply, val_main_v3_apply]
  refine congrArg (fun s : EReal => Ideal.ofBits .f32 0x3FB504F3#32 * x3 (ix2 R d) + s) (Finset.sum_congr rfl fun k _ => ?_)
  rw [← beside_apply]
  refine congrArg₂ (fun p q : EReal => p * q) (congrArg (val_main_v2 (F := Ideal) x0 x1) (funext fun a => ?_)) (congrArg x2 (funext fun a => ?_))
  · match a with
    | ⟨0, _⟩ => rfl
    | ⟨1, _⟩ => rfl
  · match a with
    | ⟨0, _⟩ => rfl
    | ⟨1, _⟩ => rfl

theorem mean_apply (R : Fin 32768) (u : Fin 1) : val_main_v8 (F := Ideal) x0 x1 x2 x3 (ix2 R u) = mean (rowOf x0 x1 x2 x3 R) := by
  rw [val_main_v8_apply, val_main_v6_apply, val_main_v7_apply, val_main_cst_1_apply, val_main_v5_apply, val_main_cst_0_apply]
  refine congrArg (fun s : EReal => Ideal.div s (Ideal.ofBits .f32 0x44800000#32)) ?_
  refine (congrArg (fun s : EReal => s + _) Ideal.ofBits_zero_f32).trans ((zero_add _).trans (Finset.sum_congr rfl fun k _ => ?_))
  rw [← joined_apply x0 x1 x2 x3 R k]
  refine congrArg (val_main_v4 (F := Ideal) x0 x1 x2 x3) (funext fun a => ?_)
  match a with
  | ⟨0, _⟩ => rfl
  | ⟨1, _⟩ => rfl

theorem centred_apply (R : Fin 32768) (d : Fin 1024) : val_main_v10 (F := Ideal) x0 x1 x2 x3 (ix2 R d) = rowOf x0 x1 x2 x3 R d - mean (rowOf x0 x1 x2 x3 R) := by
  rw [val_main_v10_apply, joined_apply, val_main_v9_apply, ← mean_apply x0 x1 x2 x3 R 0]
  refine congrArg (fun y => rowOf x0 x1 x2 x3 R d - val_main_v8 (F := Ideal) x0 x1 x2 x3 y) (funext fun a => ?_)
  match a with
  | ⟨0, _⟩ => rfl
  | ⟨1, _⟩ => rfl

theorem variance_apply (R : Fin 32768) (u : Fin 1) :
    val_main_v15 (F := Ideal) x0 x1 x2 x3 (ix2 R u) = mean fun k => (rowOf x0 x1 x2 x3 R k - mean (rowOf x0 x1 x2 x3 R)) * (rowOf x0 x1 x2 x3 R k - mean (rowOf x0 x1 x2 x3 R)) := by
  rw [val_main_v15_apply, val_main_v13_apply, val_main_v14_apply, val_main_cst_3_apply, val_main_v12_apply, val_main_cst_2_apply]
  refine congrArg (fun s : EReal => Ideal.div s (Ideal.ofBits .f32 0x44800000#32)) ?_
  refine (congrArg (fun s : EReal => s + _) Ideal.ofBits_zero_f32).trans ((zero_add _).trans (Finset.sum_congr rfl fun k _ => ?_))
  beta_reduce
  rw [← centred_apply x0 x1 x2 x3 R k]
  refine (congrArg (val_main_v11 (F := Ideal) x0 x1 x2 x3) (funext fun a => ?_)).trans (val_main_v11_apply (F := Ideal) x0 x1 x2 x3 (ix2 R k))
  match a with
  | ⟨0, _⟩ => rfl
  | ⟨1, _⟩ => rfl

/-- The reference's result, entry by entry. -/
theorem result_apply (R : Fin 32768) (c : Fin 1024) : val_main_v28 (F := Ideal) x0 x1 x2 x3 x4 x5 (ix2 R c) = answer x0 x1 x2 x3 x4 x5 R c := by
  have e : ∀ y : S32768x1.Idx, (y 0).val = R.val → y = ix2 R (0 : Fin 1) := fun y h => funext fun a => by
    match a with
    | ⟨0, _⟩ => exact Fin.ext h
    | ⟨1, _⟩ => exact Subsingleton.elim (α := Fin 1) _ _
  rw [val_main_v28_apply, val_main_v25_apply, val_main_v22_apply, val_main_v17_apply, val_main_v16_apply, val_main_v21_apply, val_main_v20_apply, val_main_v19_apply,
    val_main_v18_apply, val_main_cst_4_apply, val_main_v24_apply, val_main_v23_apply, val_main_v27_apply, val_main_v26_apply, joined_apply,
    e (idx_main_v16 (ix2 R c)) rfl, e (idx_main_v21 (ix2 R c)) rfl, mean_apply, variance_apply]
  unfold answer normed
  refine congrArg₂ (fun p q : EReal => p + q) (congrArg (fun p : EReal => _ * p) (congrArg x4 (funext fun a => ?_))) (congrArg x5 (funext fun a => ?_))
  · match a with
    | ⟨0, _⟩ => rfl
  · match a with
    | ⟨0, _⟩ => rfl

end Cert.Reference7Ideal.Hand

end
-- ==== Proof.Mixed.Result.lean ====
/- Over the extended reals the product out of the first layer's mixer and its reference return the same result. -/
module

public import proofs.«01_k».proof.Proof.Mixed.Array
public import proofs.«01_k».proof.Proof.Mixed.Frames
public import proofs.«01_k».proof.Proof.Mixed.Reference

@[expose] public section

set_option maxRecDepth 16384

noncomputable section

namespace Cert.Proof

open Idealize.ShloMosaic Idealize.ShloMosaic.TcCoe Idealize.SL.Sem

/-- Over the extended reals the kernel and its reference return the same result. -/
theorem same_mixed : Cert.algebraic_Kernel7Ideal_Reference7Ideal := fun m g m' g' _ hargs =>
  ⟨Cert.Kernel7Ideal.Hand.answers m,
    (θ_run Cert.Kernel7Ideal.defs _ _).mono (fun r h c => ⟨(h c).1.trans (Cert.Kernel7Ideal.Hand.out_array m c), (h c).2⟩) (Cert.Kernel7Ideal.Value.run_blocks m g),
    (θ_run Cert.Reference7Ideal.defs _ _).mono (fun r h c => ⟨by
      refine (h c).1.trans ((Cert.Reference7Ideal.Read.val_main_v28_eq m' c).trans ?_)
      rw [(hargs c).1, (hargs c).2.1, (hargs c).2.2.1, (hargs c).2.2.2.1, (hargs c).2.2.2.2.1, (hargs c).2.2.2.2.2]
      funext y
      rw [ValueIdx.eq_ix2 y]
      exact Cert.Reference7Ideal.Hand.result_apply _ _ _ _ _ _ (y 0) (y 1), (h c).2⟩) (Cert.Reference7Ideal.Value.run (F := Ideal) m' g')⟩

end Cert.Proof

end
-- ==== Proof.Memory.Frames.lean ====
/- The frames of the two kernels and the reference of the product that makes the memory's keys and values. -/
module

public import proofs.«01_k».proof.Defs
public import proofs.«01_k».proof.Proof.Gen.Kernel8
public import proofs.«01_k».proof.Proof.Gen.Kernel8Ideal.Value
public import proofs.«01_k».proof.Proof.Gen.Reference8Ideal.Run
public import Idealize.ShloMosaic.Adequacy
public import Idealize.ShloMosaic.Init

@[expose] public section

set_option maxRecDepth 16384
set_option maxHeartbeats 1000000

noncomputable section

namespace Cert.Proof.Memory

open Idealize.ShloMosaic Idealize.ShloMosaic.TcCoe Idealize.SL.Sem

/-- The two kernels have the same bodies, the same calls and the same main. -/
theorem bodies_eq : Cert.Kernel8.defs₀ (F := Bits) = Cert.Kernel8Ideal.defs₀ (F := Bits) := by
  unfold Cert.Kernel8.defs₀ Cert.Kernel8Ideal.defs₀
  refine congrArg Defs.onTc (funext fun l => ?_)
  obtain rfl : l = 0 := Subsingleton.elim _ _
  refine funext fun p => ?_
  rfl
theorem defs_eq : Cert.Kernel8.defs (F := Bits) = Cert.Kernel8Ideal.defs (F := Bits) := by
  unfold Cert.Kernel8.defs Cert.Kernel8Ideal.defs
  exact congrArg (Pipeline.defs (Cert.Kernel8Ideal.pcfgs (F := Bits))) bodies_eq
theorem main_eq : Cert.Kernel8.main (F := Bits) = Cert.Kernel8Ideal.main (F := Bits) := rfl

/-- The kernel runs as the ideal one does, whose text it shares. -/
theorem frame_kernel : Cert.quiescent_Kernel8 := by
  intro m ρ _
  rw [defs_eq, main_eq]
  exact Cert.Kernel8Ideal.Gen.frame (F := Bits) m ρ

/-- The ideal kernel ends with its arguments as they were. -/
theorem frame_ideal : Cert.quiescent_Kernel8Ideal := fun m ρ _ => Cert.Kernel8Ideal.Gen.frame m ρ

/-- The reference leaves its arguments, and it has no semaphore. -/
theorem frame_reference : Cert.quiescent_Reference8Ideal := fun m ρ _ =>
  (θ_run Cert.Reference8Ideal.defs _ _).mono (fun r h => ⟨fun c => (h c).2, sem_eq_zero_of_no_sems (by decide) r.2⟩) (Cert.Reference8Ideal.Value.run (F := Ideal) m ρ)

end Cert.Proof.Memory

end
-- ==== Proof.Memory.Array.lean ====
/- The product that makes the memory's keys and values: the kernel's output array from its blocks, entry by entry. -/
module

public import proofs.«01_k».proof.Proof.Trunk.Norm
public import proofs.«01_k».proof.Proof.Gen.Kernel8Ideal.Value

@[expose] public section

set_option maxRecDepth 16384

noncomputable section

namespace Cert.Memory

open Idealize.ShloMosaic hiding ix0 ix1 ix2 ix3 ix4 ix5
open Idealize.ShloMosaic.ValueIdx

/-- Row `R` of the result is of row `R % 256` of memory `R / 256`. -/
def memoryOf (R : Fin 1024) : Fin 4 := ⟨R.val / 256, by omega⟩
def placeOf (R : Fin 1024) : Fin 256 := ⟨R.val % 256, by omega⟩

/-- Entry `(R, d)` of the result. -/
def answer (x0 : (⟨3, ![4, 256, 1024]⟩ : Shape).Idx → EReal) (x1 : (⟨2, ![1024, 2048]⟩ : Shape).Idx → EReal) (R : Fin 1024) (d : Fin 2048) : EReal :=
  ∑ k : Fin 1024, x0 (ix3 (memoryOf R) (placeOf R) k) * x1 (ix2 k d)

end Cert.Memory

namespace Cert.Kernel8Ideal.Hand

open Cert.Kernel8Ideal Cert.Kernel8Ideal.Gen Cert.Memory Cert.Trunk
open Idealize.ShloMosaic hiding ix0 ix1 ix2 ix3 ix4 ix5
open Idealize.ShloMosaic.TcCoe Idealize.ShloMosaic.ValueIdx
open Idealize.SL.Sem

variable (m : (ℓ : Loc nD τ sig) → Buf (Elt Ideal) ℓ) (c : Dev nD)

/-- The arguments on device `c`. -/
abbrev memoryArg : FVec Ideal S4x256x1024 .f32 := m ((c.tc : Thread nD τ).loc main_arg0)
abbrev weightArg : FVec Ideal S1024x2048 .f32 := m ((c.tc : Thread nD τ).loc main_arg1)

/-- The result of device `c`. -/
def answers : FVec Ideal S1024x2048 .bf16 := fun y => answer (memoryArg m c) (weightArg m c) (y 0) (y 1)

/-- The memories as the call reads them: the argument, its first two axes made one. The weights: the argument, its format changed. -/
theorem memory_eq : (V m c main_v0 : FVec Ideal S1024x1024 .f32) = shapeCast S1024x1024 (memoryArg m c) shapeCasts_S4x256x1024_S1024x1024 := by
  show StableHlo.after _ _ (Proc.devRef .tc main_v0) = _
  after_results
  rfl
theorem weight_eq : (V m c main_v1 : FVec Ideal S1024x2048 .bf16) = weightArg m c := by
  show StableHlo.after _ _ (Proc.devRef .tc main_v1) = _
  after_results
  rfl

/-- The block indices. -/
theorem ix_memory : ∀ t : Fin grid0.N, cc0_transform_0 (grid0.coords t) = ![t.val, 0] := by decide +kernel
theorem ix_weight : ∀ t : Fin grid0.N, cc0_transform_1 (grid0.coords t) = ![0, 0] := by decide +kernel
theorem ix_out : ∀ t : Fin grid0.N, cc0_transform_2 (grid0.coords t) = ![t.val, 0] := by decide +kernel

variable (t : Fin cfg0.N)

/-- The blocks at a grid point. -/
abbrev memoryBlk : FVec Ideal S256x1024 .f32 := iblk m c 0 t
abbrev weightBlk : FVec Ideal S1024x2048 .bf16 := iblk m c 1 t

theorem memoryBlk_apply (r : Fin 256) (d : Fin 1024) (R : Fin 1024) (hR : R.val = t.val * 256 + r.val) : memoryBlk m c t (ix2 r d) = memoryArg m c (ix3 (memoryOf R) (placeOf R) d) := by
  show (V m c main_v0 : FVec Ideal S1024x1024 .f32) (((cfg0.win 0).blk t).view.emb (ix2 r d)) = _
  rw [memory_eq]
  refine shapeCast_apply _ _ _ _ ?_
  rw [Shape.rowMajor_val_three, Shape.rowMajor_val_two]
  show (R.val / 256 * 256 + R.val % 256) * 1024 + d.val = (cc0_transform_0 (grid0.coords t) 0 * 256 + 1 * r.val) * 1024 + (cc0_transform_0 (grid0.coords t) 1 * 1024 + 1 * d.val)
  rw [ix_memory]; show (R.val / 256 * 256 + R.val % 256) * 1024 + d.val = (t.val * 256 + 1 * r.val) * 1024 + (0 * 1024 + 1 * d.val); omega

theorem weightBlk_apply (k : Fin 1024) (d : Fin 2048) : weightBlk m c t (ix2 k d) = weightArg m c (ix2 k d) := by
  show (V m c main_v1 : FVec Ideal S1024x2048 .bf16) (((cfg0.win 1).blk t).view.emb (ix2 k d)) = _
  rw [weight_eq]
  refine congrArg (weightArg m c) (funext fun a => Fin.ext ?_)
  match a with
  | ⟨0, _⟩ =>
    show cc0_transform_1 (grid0.coords t) 0 * 1024 + 1 * k.val = k.val
    rw [ix_weight]; show 0 * 1024 + 1 * k.val = k.val; omega
  | ⟨1, _⟩ =>
    show cc0_transform_1 (grid0.coords t) 1 * 2048 + 1 * d.val = d.val
    rw [ix_weight]; show 0 * 2048 + 1 * d.val = d.val; omega

/-- An entry of what the body stores. -/
theorem stored_apply (h : FVec Ideal S256x1024 .f32) (w : FVec Ideal S1024x2048 .bf16) (r : Fin 256) (d : Fin 2048) :
    k0_pay1 (F := Ideal) h w (ix2 r d) = ∑ k : Fin 1024, h (ix2 r k) * w (ix2 k d) := by
  unfold k0_pay1
  refine (Ideal.matmul_plain_apply (φ₁ := .bf16) (φ₂ := .bf16) none _ _ _ r d).trans ?_
  rw [zero_at, zero_add, shapeCast_self, shapeCast_self]
  rfl

/-- The block a grid point leaves. -/
theorem out_apply (r : Fin 256) (k : Fin 2048) (R : Fin 1024) (hR : R.val = t.val * 256 + r.val) :
    out0_2 (F := Ideal) (iblk m c 0 t) (iblk m c 1 t) (ix2 r k) = answer (memoryArg m c) (weightArg m c) R k := by
  unfold out0_2 answer
  rw [View.canon_cons_unit_lit _ _ _ (by decide)]
  iterate 2 rw [View.ld_unit_lit _ _ (by decide)]
  refine (stored_apply (memoryBlk m c t) (weightBlk m c t) r k).trans (Finset.sum_congr rfl fun j _ => ?_)
  rw [memoryBlk_apply m c t r j R hR, weightBlk_apply]

theorem out_covers : (cfg0.win 2).Covers := by
  refine ⟨(by decide : ∀ a, 0 < S256x2048.size a), fun β => ?_⟩
  have h0 : (β (0 : Fin 2)).val < (1024 + 256 - 1) / 256 := (β (0 : Fin 2)).isLt
  have h1 : (β (1 : Fin 2)).val < (2048 + 2048 - 1) / 2048 := (β (1 : Fin 2)).isLt
  have hN : cfg0.grid.N = 4 := rfl
  refine ⟨⟨(β (0 : Fin 2)).val, by rw [hN]; omega⟩, flush0_2 _, fun a => ⟨?_, .inl rfl⟩⟩
  show cc0_transform_2 (grid0.coords _) a = _
  rw [ix_out]
  match a with
  | ⟨0, _⟩ => rfl
  | ⟨1, _⟩ => show 0 = (β (1 : Fin 2)).val; omega

/-- The output array after the call. -/
theorem out_array : (dats m 0 c).arrAt 2 cfg0.N = answers m c := by
  refine (dats m 0 c).arrAt_eq_of_covers 2 _ out_covers fun t hf y => ?_
  obtain ⟨r, k, rfl⟩ : ∃ (r : Fin 256) (k : Fin 2048), y = (ix2 r k : S256x2048.Idx) := ⟨y (0 : Fin 2), y (1 : Fin 2), ValueIdx.eq_ix2 y⟩
  show (dats m 0 c).after 2 t (ix2 r k) = _
  rw [after0_2]
  have e0 : (((cfg0.win 2).blk t).view.emb (ix2 r k) (0 : Fin 2)).val = t.val * 256 + r.val := by
    show cc0_transform_2 (grid0.coords t) 0 * 256 + 1 * r.val = _
    rw [ix_out]
    show t.val * 256 + 1 * r.val = _
    omega
  have e1 : ((cfg0.win 2).blk t).view.emb (ix2 r k) (1 : Fin 2) = k := by
    refine Fin.ext ?_
    show cc0_transform_2 (grid0.coords t) 1 * 2048 + 1 * k.val = _
    rw [ix_out]
    show 0 * 2048 + 1 * k.val = k.val
    omega
  refine (out_apply m c t r k _ e0).trans ?_
  unfold answers
  rw [e1]

end Cert.Kernel8Ideal.Hand

end
-- ==== Proof.Memory.Result.lean ====
/- Over the extended reals the product that makes the memory's keys and values and its reference return the same result. -/
module

public import proofs.«01_k».proof.Proof.Memory.Array
public import proofs.«01_k».proof.Proof.Memory.Frames
public import proofs.«01_k».proof.Proof.Gen.Reference8Ideal.Read

@[expose] public section

set_option maxRecDepth 16384

noncomputable section

namespace Cert.Reference8Ideal.Hand

open Cert.Reference8Ideal Cert.Reference8Ideal.Gen Cert.Reference8Ideal.Read Cert.Memory
open Idealize.ShloMosaic hiding ix0 ix1 ix2 ix3 ix4 ix5
open Idealize.ShloMosaic.TcCoe Idealize.ShloMosaic.ValueIdx

/-- The reference's result, entry by entry. -/
theorem result_apply (x0 : FVec Ideal S4x256x1024 .f32) (x1 : FVec Ideal S1024x2048 .f32) (R : Fin 1024) (d : Fin 2048) :
    val_main_v2 (F := Ideal) x0 x1 (ix2 R d) = answer x0 x1 R d := by
  rw [val_main_v2_apply, val_main_v1_apply, val_main_v0_apply]
  unfold answer
  refine Finset.sum_congr rfl fun k _ => ?_
  refine congrArg₂ (fun p q : EReal => p * q) (congrArg x0 (funext fun a => Fin.ext ?_)) (congrArg x1 (funext fun a => Fin.ext ?_))
  · match a with
    | ⟨0, _⟩ => show (R.val * 2048 + d.val) / 524288 = R.val / 256; omega
    | ⟨1, _⟩ => show (R.val * 2048 + d.val) / 2048 % 256 = R.val % 256; omega
    | ⟨2, _⟩ => rfl
  · match a with
    | ⟨0, _⟩ => rfl
    | ⟨1, _⟩ => show (R.val * 2048 + d.val) % 2048 = d.val; omega

end Cert.Reference8Ideal.Hand

namespace Cert.Proof

open Idealize.ShloMosaic Idealize.ShloMosaic.TcCoe Idealize.ShloMosaic.ValueIdx Idealize.SL.Sem

/-- Over the extended reals the kernel and its reference return the same result. -/
theorem same_memory : Cert.algebraic_Kernel8Ideal_Reference8Ideal := fun m g m' g' _ hargs =>
  ⟨Cert.Kernel8Ideal.Hand.answers m,
    (θ_run Cert.Kernel8Ideal.defs _ _).mono (fun r h c => ⟨(h c).1.trans (Cert.Kernel8Ideal.Hand.out_array m c), (h c).2⟩) (Cert.Kernel8Ideal.Value.run_blocks m g),
    (θ_run Cert.Reference8Ideal.defs _ _).mono (fun r h c => ⟨by
      refine (h c).1.trans ?_
      rw [(hargs c).1, (hargs c).2]
      funext y
      rw [ValueIdx.eq_ix2 y]
      exact Cert.Reference8Ideal.Hand.result_apply _ _ (y 0) (y 1), (h c).2⟩) (Cert.Reference8Ideal.Value.run (F := Ideal) m' g')⟩

end Cert.Proof

end
-- ==== Proof.Even.Frames.lean ====
/- The frames of the two kernels and the reference of the projections the first mixer starts from. -/
module

public import proofs.«01_k».proof.Defs
public import proofs.«01_k».proof.Proof.Gen.Kernel9
public import proofs.«01_k».proof.Proof.Gen.Kernel9Ideal.Value
public import proofs.«01_k».proof.Proof.Gen.Reference9Ideal.Run
public import Idealize.ShloMosaic.Adequacy
public import Idealize.ShloMosaic.Init

@[expose] public section

set_option maxRecDepth 16384
set_option maxHeartbeats 1000000

noncomputable section

namespace Cert.Proof.Even

open Idealize.ShloMosaic Idealize.ShloMosaic.TcCoe Idealize.SL.Sem

/-- The two kernels have the same bodies, the same calls and the same main. -/
theorem bodies_eq : Cert.Kernel9.defs₀ (F := Bits) = Cert.Kernel9Ideal.defs₀ (F := Bits) := by
  unfold Cert.Kernel9.defs₀ Cert.Kernel9Ideal.defs₀
  refine congrArg Defs.onTc (funext fun l => ?_)
  obtain rfl : l = 0 := Subsingleton.elim _ _
  refine funext fun p => ?_
  rfl
theorem defs_eq : Cert.Kernel9.defs (F := Bits) = Cert.Kernel9Ideal.defs (F := Bits) := by
  unfold Cert.Kernel9.defs Cert.Kernel9Ideal.defs
  exact congrArg (Pipeline.defs (Cert.Kernel9Ideal.pcfgs (F := Bits))) bodies_eq
theorem main_eq : Cert.Kernel9.main (F := Bits) = Cert.Kernel9Ideal.main (F := Bits) := rfl

/-- The kernel runs as the ideal one does, whose text it shares. -/
theorem frame_kernel : Cert.quiescent_Kernel9 := by
  intro m ρ _
  rw [defs_eq, main_eq]
  exact Cert.Kernel9Ideal.Gen.frame (F := Bits) m ρ

/-- The ideal kernel ends with its arguments as they were. -/
theorem frame_ideal : Cert.quiescent_Kernel9Ideal := fun m ρ _ => Cert.Kernel9Ideal.Gen.frame m ρ

/-- The reference leaves its arguments, and it has no semaphore. -/
theorem frame_reference : Cert.quiescent_Reference9Ideal := fun m ρ _ =>
  (θ_run Cert.Reference9Ideal.defs _ _).mono (fun r h => ⟨fun c => (h c).2.2.2.2.2.2.2.2.2, sem_eq_zero_of_no_sems (by decide) r.2⟩) (Cert.Reference9Ideal.Value.run (F := Ideal) m ρ)

end Cert.Proof.Even

end
-- ==== Proof.Even.Spec.lean ====
/- The projections the first layer's mixer starts from, over the extended reals: what the kernel and the reference both compute. -/
module

public import proofs.«01_k».proof.Proof.Trunk.Norm
public import Idealize.ShloMosaic.Lib.KernelVsHost

@[expose] public section

set_option maxRecDepth 16384

noncomputable section

namespace Cert.Even

open Idealize.ShloMosaic hiding ix0 ix1 ix2 ix3 ix4 ix5
open Idealize.ShloMosaic.ValueIdx

/-- The places of a sequence, and the eight pairs that are turned, as numbers. -/
def places : FVec Ideal ⟨1, ![8192]⟩ .f32 := sitofp .f32 (iotaInDim ⟨1, ![8192]⟩ 32 0)
def pairs : FVec Ideal ⟨1, ![8]⟩ .f32 := sitofp .f32 (iotaInDim ⟨1, ![8]⟩ 32 0)

/-- The angle by which pair `j` is turned at place `s`. -/
def angle (s : Fin 8192) (j : Fin 8) : EReal :=
  FloatOps.mulf (F := Ideal) (φ := .f32) (places (ix1 s))
    (FloatOps.hostPowf (F := Ideal) (φ := .f32) (FloatOps.ofBits .f32 0x48F42400#32)
      (FloatOps.hostDivf (F := Ideal) (φ := .f32) (FloatOps.hostNegf (F := Ideal) (φ := .f32) (pairs (ix1 j))) (FloatOps.ofBits .f32 0x41000000#32)))

/-- Its cosine and its sine. -/
def cosine (s : Fin 8192) (j : Fin 8) : EReal := FloatOps.hostUnary (F := Ideal) (φ := .f32) .cos (angle s j)
def sine (s : Fin 8192) (j : Fin 8) : EReal := FloatOps.hostUnary (F := Ideal) (φ := .f32) .sin (angle s j)

variable (cs sn : Fin 8 → EReal)

/-- A head of 64 entries with its first sixteen turned in pairs, entry `j` with entry `j + 8`. -/
def turn (t : Fin 64 → EReal) (j : Fin 64) : EReal :=
  if h : j.val < 8 then t j * cs ⟨j.val, h⟩ - t ⟨j.val + 8, by omega⟩ * sn ⟨j.val, h⟩
  else if h' : j.val < 16 then t j * cs ⟨j.val - 8, by omega⟩ + t ⟨j.val - 8, by omega⟩ * sn ⟨j.val - 8, by omega⟩
  else t j

/-- Eight heads turned and scaled, each padded with zeros to 128 entries. -/
def paddedHeads (q : Fin 512 → EReal) (C : Fin 1024) : EReal :=
  if h : C.val % 128 < 64 then turn cs sn (fun j => q ⟨C.val / 128 * 64 + j.val, by omega⟩) ⟨C.val % 128, h⟩ * Ideal.ofBits .f32 0x3E000000#32 else 0

/-- Eight heads turned and scaled, one after another. -/
def heads (q : Fin 512 → EReal) (C : Fin 512) : EReal :=
  turn cs sn (fun j => q ⟨C.val / 64 * 64 + j.val, by omega⟩) ⟨C.val % 64, by omega⟩ * Ideal.ofBits .f32 0x3E000000#32

variable (p : Fin 2120 → EReal)

/-- The two heads of keys turned, each padded with zeros. -/
def paddedKeys (C : Fin 256) : EReal :=
  if h : C.val % 128 < 64 then turn cs sn (fun j => p ⟨256 + C.val / 128 * 64 + j.val, by omega⟩) ⟨C.val % 128, h⟩ else 0

/-- The two heads of values, each followed by a one and padded with zeros. -/
def paddedValues (C : Fin 256) : EReal :=
  if C.val % 128 < 64 then p ⟨384 + C.val / 128 * 64 + C.val % 128, by omega⟩ else if C.val % 128 = 64 then 1 else 0

/-- The first 256 projections over the root of their mean square, times a gain. -/
def latent (g : Fin 256 → EReal) (k : Fin 256) : EReal :=
  p ⟨k.val, by omega⟩ * Ideal.rsqrt (Ideal.div (∑ j : Fin 256, p ⟨j.val, by omega⟩ * p ⟨j.val, by omega⟩) (Ideal.ofBits .f32 0x43800000#32) + Ideal.ofBits .f32 0x3727C5AC#32) * g k

/-- The queries drawn from them. -/
def queries (g : Fin 256 → EReal) (w : Fin 256 → Fin 512 → EReal) (d : Fin 512) : EReal := ∑ k, latent p g k * w k d

/-- The mean of 64 entries. -/
def mean (f : Fin 64 → EReal) : EReal := Ideal.div (∑ k, f k) (Ideal.ofBits .f32 0x42800000#32)

/-- The indexer's key: 64 projections less their mean, over their deviation, times a gain, plus a bias. -/
def indexKey (g b : Fin 64 → EReal) (j : Fin 64) : EReal :=
  (p ⟨512 + j.val, by omega⟩ - mean fun k => p ⟨512 + k.val, by omega⟩) *
    Ideal.rsqrt (mean (fun k => (p ⟨512 + k.val, by omega⟩ - mean fun k => p ⟨512 + k.val, by omega⟩) * (p ⟨512 + k.val, by omega⟩ - mean fun k => p ⟨512 + k.val, by omega⟩)) + Ideal.ofBits .f32 0x3727C5AC#32) * g j + b j

/-- The bits of one. -/
theorem one_bits : Ideal.ofBits .f32 0x3F800000#32 = 1 := by
  simp [Ideal.ofBits, Ideal.ieee]
  rw [← EReal.coe_mul]
  norm_num

/-- A sum of 128 entries, the last 64 of which are zero. -/
theorem sum_first (f : Fin 128 → EReal) (h : ∀ k : Fin 128, 64 ≤ k.val → f k = 0) : ∑ k, f k = ∑ k : Fin 64, f ⟨k.val, by omega⟩ := by
  rw [show (∑ k, f k) = ∑ k : Fin (64 + 64), f k from rfl, Fin.sum_univ_add,
    Finset.sum_eq_zero (s := Finset.univ) (f := fun i : Fin 64 => f (Fin.natAdd 64 i)) fun i _ => h _ (by show 64 ≤ 64 + i.val; omega), add_zero]
  rfl

/-- A sixty-fourth of a number is the number over 64. -/
theorem over_64 (x : EReal) : x * Ideal.ofBits .f32 0x3C800000#32 = Ideal.div x (Ideal.ofBits .f32 0x42800000#32) := by
  have h : Ideal.ofBits .f32 0x42800000#32 = ((64 : ℝ) : EReal) := by
    simp [Ideal.ofBits, Ideal.ieee]
    rw [← EReal.coe_mul]
    norm_num
  have h' : Ideal.ofBits .f32 0x3C800000#32 = ((1 / 64 : ℝ) : EReal) := by
    simp [Ideal.ofBits, Ideal.ieee]
    rw [← EReal.coe_mul]
    norm_num
  rw [h, h', Ideal.div_coe (by norm_num)]

section Answers

variable (x : FVec Ideal ⟨2, ![32768, 1024]⟩ .f32) (wp : FVec Ideal ⟨2, ![1024, 2120]⟩ .f32) (gq : FVec Ideal ⟨1, ![256]⟩ .f32)
  (wu wi : FVec Ideal ⟨2, ![256, 512]⟩ .f32) (gk bk : FVec Ideal ⟨1, ![64]⟩ .f32)

/-- The place of row `R` in its sequence. -/
def place (R : Fin 32768) : Fin 8192 := ⟨R.val % 8192, by omega⟩

/-- The projections of row `R`. -/
def row (R : Fin 32768) (d : Fin 2120) : EReal := ∑ k : Fin 1024, x (ix2 R k) * wp (ix2 k d)

/-- The nine results at row `R`. -/
def attQuery (R : Fin 32768) (C : Fin 1024) : EReal :=
  paddedHeads (cosine (place R)) (sine (place R)) (queries (row x wp R) (fun k => gq (ix1 k)) fun k d => wu (ix2 k d)) C
def idxQuery (R : Fin 32768) (C : Fin 512) : EReal :=
  heads (cosine (place R)) (sine (place R)) (queries (row x wp R) (fun k => gq (ix1 k)) fun k d => wi (ix2 k d)) C
def attKey (R : Fin 32768) (C : Fin 256) : EReal := paddedKeys (cosine (place R)) (sine (place R)) (row x wp R) C
def attValue (R : Fin 32768) (C : Fin 256) : EReal := paddedValues (row x wp R) C
def idxKey (R : Fin 32768) (C : Fin 64) : EReal :=
  turn (cosine (place R)) (sine (place R)) (indexKey (row x wp R) (fun k => gk (ix1 k)) fun k => bk (ix1 k)) C
def idxWeight (R : Fin 32768) (C : Fin 8) : EReal := row x wp R ⟨576 + C.val, by omega⟩ * Ideal.ofBits .f32 0x3EB504F3#32
def stickQuery (R : Fin 32768) (C : Fin 512) : EReal := row x wp R ⟨584 + C.val, by omega⟩ * Ideal.ofBits .f32 0x3E000000#32
def stickKey (R : Fin 32768) (C : Fin 512) : EReal := row x wp R ⟨1096 + C.val, by omega⟩
def stickValue (R : Fin 32768) (C : Fin 512) : EReal := row x wp R ⟨1608 + C.val, by omega⟩

end Answers

end Cert.Even

end
-- ==== Proof.Even.Lanes.lean ====
/- The projections the first layer's mixer starts from: what the kernel's operations on 128 lanes do to one row of a block. -/
module

public import proofs.«01_k».proof.Proof.Even.Spec
public import proofs.«01_k».proof.Proof.Gen.Kernel9Ideal.Value

@[expose] public section

set_option maxRecDepth 16384
set_option backward.proofsInPublic true

noncomputable section

namespace Cert.Kernel9Ideal.Hand

open Cert.Kernel9Ideal Cert.Kernel9Ideal.Gen Cert.Even
open Cert.Trunk (zero_at column_apply)
open Idealize.ShloMosaic hiding ix0 ix1 ix2 ix3 ix4 ix5
open Idealize.ShloMosaic.TcCoe Idealize.ShloMosaic.ValueIdx

/-- Columns cut out of a block. -/
theorem cut_apply {n k : ℕ} (o : ℕ) (x : FVec Ideal ⟨2, ![512, n]⟩ .f32) (h : Shape.Slices ⟨2, ![512, n]⟩ ![0, o] ⟨2, ![512, k]⟩)
    (r : Fin 512) (l : Fin k) (hl : o + l.val < n) :
    extractStridedSlice ⟨2, ![512, k]⟩ ![0, o] x h (ix2 r l) = x (ix2 r ⟨o + l.val, hl⟩) :=
  extractStridedSlice_apply _ _ _ _ _ fun a => by
    match a with
    | ⟨0, _⟩ => exact (Nat.zero_add _).symm
    | ⟨1, _⟩ => rfl

/-- Lanes moved around the end. -/
theorem rolled (n : BitVec 32) (x : FVec Ideal S512x128 .f32) (r : Fin 512) (l l' : Fin 128) (h : l'.val = (l.val + 128 - n.toNat % 128) % 128) :
    dynamicRotate 1 n none x rotates_S512x128_d1 (ix2 r l) = x (ix2 r l') :=
  dynamicRotate_apply 1 n x rotates_S512x128_d1 _ _ fun b => by
    match b with
    | ⟨0, _⟩ => rfl
    | ⟨1, _⟩ => exact h

/-- Choosing by whether the lane lies in the first half. -/
theorem choose_first {α : Type} (x y : S512x128.Idx → α) (r : Fin 512) (l : Fin 128) :
    select (k0_pay13) x y (ix2 r l) = if l.val < 64 then x (ix2 r l) else y (ix2 r l) := by
  show Scalar.select (IntOp.cmpi .slt (BitVec.ofNat 32 (0 * 128 + l.val)) 64#32) _ _ = _
  rw [Nat.zero_mul, Nat.zero_add]
  have e : IntOp.cmpi .slt (BitVec.ofNat 32 l.val) 64#32 = 1#1 ↔ l.val < 64 := by
    rw [IntOp.cmpi_slt, WordCmp.toInt_ofNat_of_lt (by omega)]
    show ((l.val : Int) < 64) ↔ _
    omega
  by_cases hl : l.val < 64
  · rw [e.mpr hl, if_pos hl]; rfl
  · rw [if_neg hl]; exact if_neg (fun he => hl (e.mp he))

/-- Choosing by whether the lane is the first of the second half. -/
theorem one_lane (r : Fin 512) (l : Fin 128) : (k0_pay36 (F := Ideal)) (ix2 r l) = if l.val = 64 then 1 else 0 := by
  show Scalar.select (IntOp.cmpi .eq (BitVec.ofNat 32 (0 * 128 + l.val)) 64#32) (Ideal.ofBits .f32 0x3F800000#32) (Ideal.ofBits .f32 0x00000000#32) = _
  rw [Nat.zero_mul, Nat.zero_add]
  rw [one_bits, Ideal.ofBits_zero_f32]
  have e : IntOp.cmpi .eq (BitVec.ofNat 32 l.val) 64#32 = 1#1 ↔ l.val = 64 := by
    rw [IntOp.cmpi_eq]
    constructor
    · intro he
      have := congrArg BitVec.toNat he
      rw [BitVec.toNat_ofNat, Nat.mod_eq_of_lt (by omega)] at this
      exact this
    · intro he; rw [he]
  by_cases hl : l.val = 64
  · rw [e.mpr hl, if_pos hl]; rfl
  · rw [if_neg hl]; exact if_neg (fun he => hl (e.mp he))

section Turned

/-- Lane `l` lies in head `l / 64` of two, at entry `l % 64`. -/
theorem lane_lt (l : Fin 128) (j : Fin 64) : l.val / 64 * 64 + j.val < 128 := by omega
theorem lane_mod (l : Fin 128) : l.val % 64 < 64 := by omega

variable (ct lt ht : FVec Ideal S512x128 .f32)

/-- A block times the table of cosines, plus its two moved copies times the two tables of sines. -/
def turned (t : FVec Ideal S512x128 .f32) : FVec Ideal S512x128 .f32 :=
  addf (addf (mulf t ct) (mulf (dynamicRotate 1 120#32 none t rotates_S512x128_d1) lt)) (mulf (dynamicRotate 1 8#32 none t rotates_S512x128_d1) ht)

/-- The tables' entries over a head of 64. -/
def cosTable (cs : Fin 8 → EReal) (j : Fin 64) : EReal :=
  if h : j.val < 8 then cs ⟨j.val, h⟩ else if h' : j.val < 16 then cs ⟨j.val - 8, by omega⟩ else 1
def lowTable (sn : Fin 8 → EReal) (j : Fin 64) : EReal := if h : j.val < 8 then -sn ⟨j.val, h⟩ else 0
def highTable (sn : Fin 8 → EReal) (j : Fin 64) : EReal :=
  if h : j.val < 8 then 0 else if h' : j.val < 16 then sn ⟨j.val - 8, by omega⟩ else 0

variable (cs sn : Fin 512 → Fin 8 → EReal)
  (hc : ∀ (r : Fin 512) (l : Fin 128), ct (ix2 r l) = cosTable (cs r) ⟨l.val % 64, lane_mod l⟩)
  (hlo : ∀ (r : Fin 512) (l : Fin 128), lt (ix2 r l) = lowTable (sn r) ⟨l.val % 64, lane_mod l⟩)
  (hhi : ∀ (r : Fin 512) (l : Fin 128), ht (ix2 r l) = highTable (sn r) ⟨l.val % 64, lane_mod l⟩)

include hc hlo hhi

theorem turned_apply (t : FVec Ideal S512x128 .f32) (r : Fin 512) (l : Fin 128) :
    turned ct lt ht t (ix2 r l) = turn (cs r) (sn r) (fun j => t (ix2 r ⟨l.val / 64 * 64 + j.val, lane_lt l j⟩)) ⟨l.val % 64, lane_mod l⟩ := by
  unfold turned
  show t (ix2 r l) * ct (ix2 r l) + dynamicRotate 1 120#32 none t rotates_S512x128_d1 (ix2 r l) * lt (ix2 r l)
    + dynamicRotate 1 8#32 none t rotates_S512x128_d1 (ix2 r l) * ht (ix2 r l) = _
  have here : (⟨l.val / 64 * 64 + l.val % 64, by omega⟩ : Fin 128) = l := Fin.ext (by show l.val / 64 * 64 + l.val % 64 = l.val; omega)
  rw [hc, hlo, hhi]
  unfold turn cosTable lowTable highTable
  by_cases h : l.val % 64 < 8
  · rw [dif_pos h, dif_pos h, dif_pos h, dif_pos h]
    rw [rolled 120#32 t r l ⟨l.val / 64 * 64 + (l.val % 64 + 8), by omega⟩ (by show _ = (l.val + 128 - 120) % 128; show l.val / 64 * 64 + (l.val % 64 + 8) = _; omega)]
    rw [mul_zero, add_zero, mul_neg, ← sub_eq_add_neg]
    refine congrArg (fun s : Fin 128 => t (ix2 r s) * _ - _) here.symm
  · rw [dif_neg h, dif_neg h, dif_neg h, dif_neg h]
    by_cases h' : l.val % 64 < 16
    · rw [dif_pos h', dif_pos h', dif_pos h']
      rw [rolled 8#32 t r l ⟨l.val / 64 * 64 + (l.val % 64 - 8), by omega⟩ (by show _ = (l.val + 128 - 8) % 128; show l.val / 64 * 64 + (l.val % 64 - 8) = _; omega)]
      rw [mul_zero, add_zero]
      refine congrArg (fun s : Fin 128 => t (ix2 r s) * _ + _) here.symm
    · rw [dif_neg h', dif_neg h', dif_neg h']
      rw [mul_zero, add_zero, mul_zero, add_zero, mul_one]
      exact congrArg (fun s : Fin 128 => t (ix2 r s)) here.symm

omit hc hlo hhi in
/-- The first and the second head of a block, padded. -/
def firstHead (q : FVec Ideal S512x128 .f32) : FVec Ideal S512x128 .f32 := select (k0_pay13) q (broadcast S512x128 (Scalar.ofBits (F := Ideal) .f32 0x00000000#32))
omit hc hlo hhi in
def secondHead (q : FVec Ideal S512x128 .f32) : FVec Ideal S512x128 .f32 :=
  select (k0_pay13) (dynamicRotate 1 64#32 none q rotates_S512x128_d1) (broadcast S512x128 (Scalar.ofBits (F := Ideal) .f32 0x00000000#32))

omit hc hlo hhi in
theorem firstHead_apply (q : FVec Ideal S512x128 .f32) (r : Fin 512) (l : Fin 128) : firstHead q (ix2 r l) = if l.val < 64 then q (ix2 r l) else 0 := by
  unfold firstHead
  rw [choose_first]
  by_cases h : l.val < 64
  · rw [if_pos h, if_pos h]
  · rw [if_neg h, if_neg h]; exact Ideal.ofBits_zero_f32

omit hc hlo hhi in
theorem secondHead_apply (q : FVec Ideal S512x128 .f32) (r : Fin 512) (l : Fin 128) :
    secondHead q (ix2 r l) = if h : l.val < 64 then q (ix2 r ⟨64 + l.val, by omega⟩) else 0 := by
  unfold secondHead
  rw [choose_first]
  by_cases h : l.val < 64
  · rw [if_pos h, dif_pos h]
    exact rolled 64#32 q r l _ (by show 64 + l.val = (l.val + 128 - 64) % 128; omega)
  · rw [if_neg h, dif_neg h]; exact Ideal.ofBits_zero_f32

omit hc hlo hhi in
/-- A head read at equal entries. -/
theorem turn_congr {a b : Fin 8 → EReal} {s t : Fin 64 → EReal} {i j : Fin 64} (h : ∀ k, s k = t k) (hij : i = j) : turn a b s i = turn a b t j := by
  rw [funext h, hij]

omit hc hlo hhi in
/-- Two heads scaled. -/
def scaled (q : FVec Ideal S512x128 .f32) : FVec Ideal S512x128 .f32 := mulf q (broadcast S512x128 (Scalar.ofBits .f32 0x3E000000#32))

/-- The queries' two heads from column `o`, padded. -/
theorem first_query (Q : FVec Ideal S512x512 .f32) (o : ℕ) (h : S512x512.Slices ![0, o] S512x128) (ho : o % 128 = 0) (hlt : o < 512) (r : Fin 512) (l : Fin 128) (C : Fin 1024) (hC : C.val = 2 * o + l.val) :
    firstHead (scaled (turned ct lt ht (extractStridedSlice S512x128 ![0, o] Q h))) (ix2 r l) = paddedHeads (cs r) (sn r) (fun d => Q (ix2 r d)) C := by
  rw [firstHead_apply]
  unfold paddedHeads
  have e : C.val % 128 = l.val := by omega
  have e' : C.val / 128 * 64 = o := by omega
  by_cases hl : l.val < 64
  · rw [if_pos hl, dif_pos (by omega)]
    refine congrArg (fun s : EReal => s * Ideal.ofBits .f32 0x3E000000#32) ((turned_apply ct lt ht cs sn hc hlo hhi _ r l).trans (turn_congr (fun j => ?_) (Fin.ext ?_)))
    · refine (cut_apply o Q h r _ (by show o + (l.val / 64 * 64 + j.val) < 512; omega)).trans (congrArg (fun s : Fin 512 => Q (ix2 r s)) (Fin.ext ?_))
      show o + (l.val / 64 * 64 + j.val) = C.val / 128 * 64 + j.val
      omega
    · show l.val % 64 = C.val % 128; omega
  · rw [if_neg hl, dif_neg (by omega)]

theorem second_query (Q : FVec Ideal S512x512 .f32) (o : ℕ) (h : S512x512.Slices ![0, o] S512x128) (ho : o % 128 = 0) (hlt : o < 512) (r : Fin 512) (l : Fin 128) (C : Fin 1024) (hC : C.val = 2 * o + 128 + l.val) :
    secondHead (scaled (turned ct lt ht (extractStridedSlice S512x128 ![0, o] Q h))) (ix2 r l) = paddedHeads (cs r) (sn r) (fun d => Q (ix2 r d)) C := by
  rw [secondHead_apply]
  unfold paddedHeads
  have e : C.val % 128 = l.val := by omega
  have e' : C.val / 128 * 64 = o + 64 := by omega
  by_cases hl : l.val < 64
  · rw [dif_pos hl, dif_pos (by omega)]
    refine congrArg (fun s : EReal => s * Ideal.ofBits .f32 0x3E000000#32) ((turned_apply ct lt ht cs sn hc hlo hhi _ r _).trans (turn_congr (fun j => ?_) (Fin.ext ?_)))
    · refine (cut_apply o Q h r _ (by show o + ((64 + l.val) / 64 * 64 + j.val) < 512; omega)).trans (congrArg (fun s : Fin 512 => Q (ix2 r s)) (Fin.ext ?_))
      show o + ((64 + l.val) / 64 * 64 + j.val) = C.val / 128 * 64 + j.val
      omega
    · show (64 + l.val) % 64 = C.val % 128; omega
  · rw [dif_neg hl, dif_neg (by omega)]

/-- The indexer's queries' two heads from column `o`. -/
theorem plain_query (Q : FVec Ideal S512x512 .f32) (o : ℕ) (h : S512x512.Slices ![0, o] S512x128) (ho : o % 128 = 0) (hlt : o < 512) (r : Fin 512) (l : Fin 128) (C : Fin 512) (hC : C.val = o + l.val) :
    scaled (turned ct lt ht (extractStridedSlice S512x128 ![0, o] Q h)) (ix2 r l) = heads (cs r) (sn r) (fun d => Q (ix2 r d)) C := by
  unfold heads
  refine congrArg (fun s : EReal => s * Ideal.ofBits .f32 0x3E000000#32) ((turned_apply ct lt ht cs sn hc hlo hhi _ r l).trans (turn_congr (fun j => ?_) (Fin.ext ?_)))
  · refine (cut_apply o Q h r _ (by show o + (l.val / 64 * 64 + j.val) < 512; omega)).trans (congrArg (fun s : Fin 512 => Q (ix2 r s)) (Fin.ext ?_))
    show o + (l.val / 64 * 64 + j.val) = C.val / 64 * 64 + j.val
    omega
  · show l.val % 64 = C.val % 64; omega

variable (P : FVec Ideal S512x2176 .f32) (p : Fin 512 → Fin 2120 → EReal)
  (hP : ∀ (r : Fin 512) (d : Fin 584), P (ix2 r ⟨d.val, by omega⟩) = p r ⟨d.val, by omega⟩)

include hP

omit hc hlo hhi in
/-- The projections before the padding, read in a block. -/
theorem early (r : Fin 512) (d : Fin 2176) (h : d.val < 584) : P (ix2 r d) = p r ⟨d.val, by omega⟩ := hP r ⟨d.val, h⟩

/-- The keys' two heads. -/
theorem first_key (r : Fin 512) (l : Fin 128) (C : Fin 256) (hC : C.val = l.val) :
    firstHead (turned ct lt ht (extractStridedSlice S512x128 ![0, 256] P slices_S512x2176_o0_256_S512x128)) (ix2 r l) = paddedKeys (cs r) (sn r) (p r) C := by
  rw [firstHead_apply]
  unfold paddedKeys
  by_cases hl : l.val < 64
  · rw [if_pos hl, dif_pos (by omega)]
    refine (turned_apply ct lt ht cs sn hc hlo hhi _ r l).trans (turn_congr (fun j => ?_) (Fin.ext ?_))
    · refine (cut_apply 256 P slices_S512x2176_o0_256_S512x128 r _ (by show 256 + (l.val / 64 * 64 + j.val) < 2176; omega)).trans ?_
      refine (early P p hP r _ (by show 256 + (l.val / 64 * 64 + j.val) < 584; omega)).trans (congrArg (p r) (Fin.ext ?_))
      show 256 + (l.val / 64 * 64 + j.val) = 256 + C.val / 128 * 64 + j.val
      omega
    · show l.val % 64 = C.val % 128; omega
  · rw [if_neg hl, dif_neg (by omega)]

theorem second_key (r : Fin 512) (l : Fin 128) (C : Fin 256) (hC : C.val = 128 + l.val) :
    secondHead (turned ct lt ht (extractStridedSlice S512x128 ![0, 256] P slices_S512x2176_o0_256_S512x128)) (ix2 r l) = paddedKeys (cs r) (sn r) (p r) C := by
  rw [secondHead_apply]
  unfold paddedKeys
  by_cases hl : l.val < 64
  · rw [dif_pos hl, dif_pos (by omega)]
    refine (turned_apply ct lt ht cs sn hc hlo hhi _ r _).trans (turn_congr (fun j => ?_) (Fin.ext ?_))
    · refine (cut_apply 256 P slices_S512x2176_o0_256_S512x128 r _ (by show 256 + ((64 + l.val) / 64 * 64 + j.val) < 2176; omega)).trans ?_
      refine (early P p hP r _ (by show 256 + ((64 + l.val) / 64 * 64 + j.val) < 584; omega)).trans (congrArg (p r) (Fin.ext ?_))
      show 256 + ((64 + l.val) / 64 * 64 + j.val) = 256 + C.val / 128 * 64 + j.val
      omega
    · show (64 + l.val) % 64 = C.val % 128; omega
  · rw [dif_neg hl, dif_neg (by omega)]

omit hc hlo hhi in
/-- The values' two heads. -/
theorem first_value (r : Fin 512) (l : Fin 128) (C : Fin 256) (hC : C.val = l.val) :
    select (k0_pay13) (extractStridedSlice S512x128 ![0, 384] P slices_S512x2176_o0_384_S512x128) (k0_pay36 (F := Ideal)) (ix2 r l) = paddedValues (p r) C := by
  rw [choose_first, one_lane]
  unfold paddedValues
  by_cases hl : l.val < 64
  · rw [if_pos hl, if_pos (by omega)]
    refine (cut_apply 384 P slices_S512x2176_o0_384_S512x128 r l (by omega)).trans ?_
    refine (early P p hP r _ (by show 384 + l.val < 584; omega)).trans (congrArg (p r) (Fin.ext ?_))
    show 384 + l.val = 384 + C.val / 128 * 64 + C.val % 128
    omega
  · rw [if_neg hl, if_neg (show ¬ C.val % 128 < 64 by omega)]
    by_cases h1 : l.val = 64
    · rw [if_pos h1, if_pos (by omega)]
    · rw [if_neg h1, if_neg (by omega)]

omit hc hlo hhi in
theorem second_value (r : Fin 512) (l : Fin 128) (C : Fin 256) (hC : C.val = 128 + l.val) :
    select (k0_pay13) (dynamicRotate 1 64#32 none (extractStridedSlice S512x128 ![0, 384] P slices_S512x2176_o0_384_S512x128) rotates_S512x128_d1) (k0_pay36 (F := Ideal)) (ix2 r l)
      = paddedValues (p r) C := by
  rw [choose_first, one_lane]
  unfold paddedValues
  by_cases hl : l.val < 64
  · rw [if_pos hl, if_pos (by omega)]
    refine (rolled 64#32 _ r l ⟨64 + l.val, by omega⟩ (by show 64 + l.val = (l.val + 128 - 64) % 128; omega)).trans ?_
    refine (cut_apply 384 P slices_S512x2176_o0_384_S512x128 r _ (by show 384 + (64 + l.val) < 2176; omega)).trans ?_
    refine (early P p hP r _ (by show 384 + (64 + l.val) < 584; omega)).trans (congrArg (p r) (Fin.ext ?_))
    show 384 + (64 + l.val) = 384 + C.val / 128 * 64 + C.val % 128
    omega
  · rw [if_neg hl, if_neg (show ¬ C.val % 128 < 64 by omega)]
    by_cases h1 : l.val = 64
    · rw [if_pos h1, if_pos (by omega)]
    · rw [if_neg h1, if_neg (by omega)]

end Turned

/-- The sums of a block's rows, as a column. -/
theorem sums_apply {n : ℕ} (v : FVec Ideal ⟨2, ![512, n]⟩ .f32) (hr : Shape.Reduces ⟨2, ![512, n]⟩ [1] S512) (r : Fin 512) (u : Fin 1) :
    shapeCast S512x1 (multiReduction .add [1] S512 v 0x00000000#32 hr (.inl rfl) rfl) shapeCasts_S512_S512x1 (ix2 r u) = ∑ k, v (ix2 r k) := by
  refine (shapeCast_a_a1_apply _ shapeCasts_S512_S512x1 r u).trans ((Ideal.multiReduction_add_single v _ hr _ _ (ix1 r)).trans ?_)
  refine Finset.sum_congr rfl fun k _ => congrArg v (funext fun a => Fin.ext ?_)
  match a with
  | ⟨0, _⟩ => rfl
  | ⟨1, _⟩ => rfl

section Rows

variable (X : FVec Ideal S512x1024 .f32) (W : FVec Ideal S1024x2176 .bf16) (p : Fin 512 → Fin 2120 → EReal)
  (hP : ∀ (r : Fin 512) (d : Fin 584), k0_pay6 (F := Ideal) X W (ix2 r ⟨d.val, by omega⟩) = p r ⟨d.val, by omega⟩)

/-- The projections of a block's rows. -/
theorem projected_apply (r : Fin 512) (d : Fin 2176) : k0_pay6 (F := Ideal) X W (ix2 r d) = ∑ k : Fin 1024, X (ix2 r k) * W (ix2 k d) := by
  unfold k0_pay6
  refine (Ideal.matmul_plain_apply (φ₁ := .bf16) (φ₂ := .bf16) none _ _ _ r d).trans ?_
  rw [zero_at, zero_add, shapeCast_self]
  rfl

include hP

theorem latent_apply (G : FVec Ideal S1x256 .f32) (r : Fin 512) (k : Fin 256) : k0_pay10 (F := Ideal) X W G (ix2 r k) = latent (p r) (fun j => G (ix2 (0 : Fin 1) j)) k := by
  have e : ∀ j : Fin 256, extractStridedSlice S512x256 ![0, 0] (k0_pay6 (F := Ideal) X W) slices_S512x2176_o0_0_S512x256 (ix2 r j) = p r ⟨j.val, by omega⟩ := fun j => by
    refine (cut_apply 0 (k0_pay6 X W) slices_S512x2176_o0_0_S512x256 r j (by omega)).trans ?_
    refine (early _ p hP r _ (by show 0 + j.val < 584; omega)).trans (congrArg (p r) (Fin.ext ?_))
    exact Nat.zero_add _
  unfold k0_pay10 latent
  refine congrArg₂ (fun a b : EReal => a * b) (congrArg₂ (fun a b : EReal => a * b) (e k) ?_) ?_
  · refine (column_apply _ broadcasts_S512x1_S512x256 r k).trans (congrArg (fun s : EReal => Ideal.rsqrt (Ideal.div s (Ideal.ofBits .f32 0x43800000#32) + Ideal.ofBits .f32 0x3727C5AC#32)) ?_)
    refine (sums_apply _ reduces_S512x256_S512 r 0).trans (Finset.sum_congr rfl fun j _ => ?_)
    exact congrArg₂ (fun a b : EReal => a * b) (e j) (e j)
  · rw [shapeCast_self]
    exact broadcastTo_1b_ab_apply G broadcasts_S1x256_S512x256 r k

theorem queries_apply (G : FVec Ideal S1x256 .f32) (U : FVec Ideal S256x512 .bf16) (r : Fin 512) (d : Fin 512) :
    k0_pay11 (F := Ideal) X W G U (ix2 r d) = queries (p r) (fun j => G (ix2 (0 : Fin 1) j)) (fun k d => U (ix2 k d)) d := by
  unfold k0_pay11 queries
  refine (Ideal.matmul_plain_apply (φ₁ := .bf16) (φ₂ := .bf16) none _ _ _ r d).trans ?_
  rw [zero_at, zero_add, shapeCast_self]
  exact Finset.sum_congr rfl fun k _ => congrArg (fun s : EReal => s * U (ix2 k d)) (latent_apply X W p hP G r k)

end Rows

section IndexKey

variable (P : FVec Ideal S512x2176 .f32) (p : Fin 512 → Fin 2120 → EReal)
  (hP : ∀ (r : Fin 512) (d : Fin 584), P (ix2 r ⟨d.val, by omega⟩) = p r ⟨d.val, by omega⟩)

include hP

/-- The 64 projections behind the indexer's key. -/
theorem cut_key (r : Fin 512) (l : Fin 128) (hl : l.val < 64) : k0_pay42 P (ix2 r l) = p r ⟨512 + l.val, by omega⟩ := by
  unfold k0_pay42
  exact (cut_apply 512 P slices_S512x2176_o0_512_S512x128 r l (by omega)).trans (early P p hP r _ (by show 512 + l.val < 584; omega))

theorem indexKey_apply (G B : FVec Ideal S1x128 .f32) (g b : Fin 64 → EReal) (hG : ∀ j : Fin 64, G (ix2 (0 : Fin 1) ⟨j.val, Nat.lt_of_lt_of_le j.isLt (by decide)⟩) = g j)
    (hB : ∀ j : Fin 64, B (ix2 (0 : Fin 1) ⟨j.val, Nat.lt_of_lt_of_le j.isLt (by decide)⟩) = b j) (r : Fin 512) (j : Fin 64) :
    k0_pay43 P G B (ix2 r ⟨j.val, Nat.lt_of_lt_of_le j.isLt (by decide)⟩) = indexKey (p r) g b j := by
  have hz : ∀ (v : FVec Ideal S512x128 .f32) (l : Fin 128), select (k0_pay13) v (broadcast S512x128 (Scalar.ofBits (F := Ideal) .f32 0x00000000#32)) (ix2 r l) = if l.val < 64 then v (ix2 r l) else 0 :=
    fun v l => firstHead_apply v r l
  have hm : ∀ u : Fin 1, mulf (shapeCast S512x1 (multiReduction .add [1] S512 (select (k0_pay13) (k0_pay42 P) (broadcast S512x128 (Scalar.ofBits (F := Ideal) .f32 0x00000000#32))) 0x00000000#32 reduces_S512x128_S512 (.inl rfl) rfl) shapeCasts_S512_S512x1)
      (broadcast S512x1 (Scalar.ofBits .f32 0x3C800000#32)) (ix2 r u) = mean fun k => p r ⟨512 + k.val, by omega⟩ := fun u => by
    refine (congrArg (fun s : EReal => s * Ideal.ofBits .f32 0x3C800000#32) ((sums_apply _ reduces_S512x128_S512 r u).trans ?_)).trans (over_64 (∑ k : Fin 64, p r ⟨512 + k.val, by omega⟩))
    refine (sum_first _ fun k hk => (hz _ k).trans (if_neg (by omega))).trans (Finset.sum_congr rfl fun k _ => ?_)
    exact (hz _ _).trans ((if_pos k.isLt).trans (cut_key P p hP r _ k.isLt))
  have hd : ∀ l : Fin 128, select (k0_pay13) (subf (k0_pay42 P) (broadcastTo S512x128 (mulf (shapeCast S512x1 (multiReduction .add [1] S512 (select (k0_pay13) (k0_pay42 P) (broadcast S512x128 (Scalar.ofBits (F := Ideal) .f32 0x00000000#32))) 0x00000000#32 reduces_S512x128_S512 (.inl rfl) rfl) shapeCasts_S512_S512x1)
      (broadcast S512x1 (Scalar.ofBits .f32 0x3C800000#32))) broadcasts_S512x1_S512x128)) (broadcast S512x128 (Scalar.ofBits (F := Ideal) .f32 0x00000000#32)) (ix2 r l)
      = if h : l.val < 64 then p r ⟨512 + l.val, by omega⟩ - mean fun k => p r ⟨512 + k.val, by omega⟩ else 0 := fun l => by
    rw [hz]
    by_cases h : l.val < 64
    · rw [if_pos h, dif_pos h]
      exact congrArg₂ (fun a b : EReal => a - b) (cut_key P p hP r l h) ((column_apply _ broadcasts_S512x1_S512x128 r l).trans (hm 0))
    · rw [if_neg h, dif_neg h]
  unfold k0_pay43 indexKey
  refine congrArg₂ (fun a b : EReal => a + b) (congrArg₂ (fun a b : EReal => a * b) (congrArg₂ (fun a b : EReal => a * b) ((hd _).trans (dif_pos j.isLt)) ?_) ?_) ?_
  · refine (column_apply _ broadcasts_S512x1_S512x128 r _).trans (congrArg (fun s : EReal => Ideal.rsqrt (s + Ideal.ofBits .f32 0x3727C5AC#32)) ?_)
    refine (congrArg (fun s : EReal => s * Ideal.ofBits .f32 0x3C800000#32) ((sums_apply _ reduces_S512x128_S512 r 0).trans ?_)).trans (over_64 _)
    refine (sum_first _ fun k hk => ?_).trans (Finset.sum_congr rfl fun k _ => ?_)
    · exact (congrArg₂ (fun a b : EReal => a * b) ((hd k).trans (dif_neg (by omega))) rfl).trans (zero_mul _)
    · exact congrArg₂ (fun a b : EReal => a * b) ((hd _).trans (dif_pos k.isLt)) ((hd _).trans (dif_pos k.isLt))
  · rw [shapeCast_self]
    exact (broadcastTo_1b_ab_apply G broadcasts_S1x128_S512x128 r _).trans (hG j)
  · rw [shapeCast_self]
    exact (broadcastTo_1b_ab_apply B broadcasts_S1x128_S512x128 r _).trans (hB j)

end IndexKey

end Cert.Kernel9Ideal.Hand

end
-- ==== Proof.Even.Host.lean ====
/- The projections the first layer's mixer starts from: the arrays the kernel's call reads, from the arguments, and the blocks of them at a grid point. -/
module

public import proofs.«01_k».proof.Proof.Even.Lanes

@[expose] public section

set_option maxRecDepth 16384
set_option maxHeartbeats 1000000

noncomputable section

namespace Cert.Kernel9Ideal.Hand

open Cert.Kernel9Ideal Cert.Kernel9Ideal.Gen Cert.Even
open Idealize.ShloMosaic hiding ix0 ix1 ix2 ix3 ix4 ix5
open Idealize.ShloMosaic.TcCoe Idealize.ShloMosaic.ValueIdx
open Idealize.SL.Sem

variable (m : (ℓ : Loc nD τ sig) → Buf (Elt Ideal) ℓ) (c : Dev nD)

/-- The arguments on device `c`. -/
abbrev streamArg : FVec Ideal S32768x1024 .f32 := m ((c.tc : Thread nD τ).loc main_arg0)
abbrev projArg : FVec Ideal S1024x2120 .f32 := m ((c.tc : Thread nD τ).loc main_arg1)
abbrev gainArg : FVec Ideal S256 .f32 := m ((c.tc : Thread nD τ).loc main_arg2)
abbrev attArg : FVec Ideal S256x512 .f32 := m ((c.tc : Thread nD τ).loc main_arg3)
abbrev idxArg : FVec Ideal S256x512 .f32 := m ((c.tc : Thread nD τ).loc main_arg4)
abbrev keyGainArg : FVec Ideal S64 .f32 := m ((c.tc : Thread nD τ).loc main_arg5)
abbrev keyBiasArg : FVec Ideal S64 .f32 := m ((c.tc : Thread nD τ).loc main_arg6)

/-- The angles at every place, and their cosines and sines. -/
def angles : FVec Ideal S8192x8 .f32 :=
  mulf (broadcastInDim S8192x8 ![0, 1] bcast_S8192x1_S8192x8_0_1 (broadcastInDim S8192x1 ![0] bcast_S8192_S8192x1_0 places))
    (broadcastInDim S8192x8 ![0, 1] bcast_S1x8_S8192x8_0_1 (broadcastInDim S1x8 ![1] bcast_S8_S1x8_1
      (Host.powf (broadcastInDim S8 ![] bcast_S_S8 (constant S_ .f32 0x48F42400#32)) (Host.divf (Host.negf pairs) (broadcastInDim S8 ![] bcast_S_S8 (constant S_ .f32 0x41000000#32))))))
def cosines : FVec Ideal S8192x8 .f32 := Host.cos angles
def sines : FVec Ideal S8192x8 .f32 := Host.sin angles
def flipped : FVec Ideal S8192x8 .f32 := Host.negf sines
def zeros8 : FVec Ideal S8192x8 .f32 := broadcastInDim S8192x8 ![] bcast_S_S8192x8 (constant S_ .f32 0x00000000#32)
def zeros48 : FVec Ideal S8192x48 .f32 := broadcastInDim S8192x48 ![] bcast_S_S8192x48 (constant S_ .f32 0x00000000#32)
def ones48 : FVec Ideal S8192x48 .f32 := broadcastInDim S8192x48 ![] bcast_S_S8192x48 (constant S_ .f32 0x3F800000#32)

/-- Three arrays side by side: a table over one head. -/
def sideBySide (a b : FVec Ideal S8192x8 .f32) (d : FVec Ideal S8192x48 .f32) : FVec Ideal S8192x64 .f32 :=
  concatenate S8192x64 1 [⟨S8192x8, a⟩, ⟨S8192x8, b⟩, ⟨S8192x48, d⟩] concatenates_S8192x8_S8192x8_S8192x48_S8192x64_d1

/-- A table over one head, repeated for two. -/
def twice (u : FVec Ideal S8192x64 .f32) : FVec Ideal S8192x128 .f32 :=
  shapeCast S8192x128 (broadcastInDim S1x8192x2x64 ![0, 1, 2, 3] bcast_S1x8192x1x64_S1x8192x2x64_0_1_2_3 (shapeCast S1x8192x1x64 u shapeCasts_S8192x64_S1x8192x1x64)) shapeCasts_S1x8192x2x64_S8192x128

/-- The projections' weights with 56 columns of zeros put in. -/
def packed (w : FVec Ideal S1024x2120 .f32) : FVec Ideal S1024x2176 .f32 :=
  concatenate S1024x2176 1 [⟨S1024x584, extractStridedSlice S1024x584 ![0, 0] w slices_S1024x2120_S1024x584_0_0⟩,
    ⟨S1024x56, (broadcastInDim S1024x56 ![] bcast_S_S1024x56 (constant S_ .f32 0x00000000#32) : FVec Ideal S1024x56 .f32)⟩,
    ⟨S1024x1536, extractStridedSlice S1024x1536 ![0, 584] w slices_S1024x2120_S1024x1536_0_584⟩] concatenates_S1024x584_S1024x56_S1024x1536_S1024x2176_d1

/-- A vector of 64 entries followed by 64 zeros, as a row. -/
def lengthened (g : FVec Ideal S64 .f32) : FVec Ideal S1x128 .f32 :=
  shapeCast S1x128 (concatenate S128 0 [⟨S64, g⟩, ⟨S64, (broadcastInDim S64 ![] bcast_S_S64 (constant S_ .f32 0x00000000#32) : FVec Ideal S64 .f32)⟩] concatenates_S64_S64_S128_d0 : FVec Ideal S128 .f32) shapeCasts_S128_S1x128

/-- The arrays the call reads. -/
theorem proj_eq : (V m c main_v4 : FVec Ideal S1024x2176 .bf16) = packed (projArg m c) := by
  show StableHlo.after _ _ (Proc.devRef .tc main_v4) = _
  after_results
  rfl
theorem gain_eq : (V m c main_v42 : FVec Ideal S1x256 .f32) = shapeCast S1x256 (gainArg m c) shapeCasts_S256_S1x256 := by
  show StableHlo.after _ _ (Proc.devRef .tc main_v42) = _
  after_results
  rfl
theorem att_eq : (V m c main_v43 : FVec Ideal S256x512 .bf16) = attArg m c := by
  show StableHlo.after _ _ (Proc.devRef .tc main_v43) = _
  after_results
  rfl
theorem idx_eq : (V m c main_v44 : FVec Ideal S256x512 .bf16) = idxArg m c := by
  show StableHlo.after _ _ (Proc.devRef .tc main_v44) = _
  after_results
  rfl
theorem keyGain_eq : (V m c main_v7 : FVec Ideal S1x128 .f32) = lengthened (keyGainArg m c) := by
  show StableHlo.after _ _ (Proc.devRef .tc main_v7) = _
  after_results
  rfl
theorem keyBias_eq : (V m c main_v10 : FVec Ideal S1x128 .f32) = lengthened (keyBiasArg m c) := by
  show StableHlo.after _ _ (Proc.devRef .tc main_v10) = _
  after_results
  rfl
theorem cosTab_eq : (V m c main_v35 : FVec Ideal S8192x128 .f32) = twice (sideBySide cosines cosines ones48) := by
  show StableHlo.after _ _ (Proc.devRef .tc main_v35) = _
  after_results
  rfl
theorem lowTab_eq : (V m c main_v38 : FVec Ideal S8192x128 .f32) = twice (sideBySide flipped zeros8 zeros48) := by
  show StableHlo.after _ _ (Proc.devRef .tc main_v38) = _
  after_results
  rfl
theorem highTab_eq : (V m c main_v41 : FVec Ideal S8192x128 .f32) = twice (sideBySide zeros8 sines zeros48) := by
  show StableHlo.after _ _ (Proc.devRef .tc main_v41) = _
  after_results
  rfl

theorem twice_apply (u : FVec Ideal S8192x64 .f32) (s : Fin 8192) (l : Fin 128) : twice u (ix2 s l) = u (ix2 s ⟨l.val % 64, by omega⟩) := by
  unfold twice
  refine (shapeCast_apply _ _ _ (ix4 (0 : Fin 1) s (⟨l.val / 64, by omega⟩ : Fin 2) (⟨l.val % 64, by omega⟩ : Fin 64)) ?_).trans
    ((broadcastInDim_apply _ _ _ _ (ix4 (0 : Fin 1) s (0 : Fin 1) (⟨l.val % 64, by omega⟩ : Fin 64)) fun a => ?_).trans (shapeCast_apply _ _ _ _ ?_))
  · rw [Shape.rowMajor_val_four, Shape.rowMajor_val_two]
    show ((0 * 8192 + s.val) * 2 + l.val / 64) * 64 + l.val % 64 = s.val * 128 + l.val
    omega
  · match a with
    | ⟨0, _⟩ => rfl
    | ⟨1, _⟩ => rfl
    | ⟨2, _⟩ => rfl
    | ⟨3, _⟩ => rfl
  · rw [Shape.rowMajor_val_four, Shape.rowMajor_val_two]
    show s.val * 64 + l.val % 64 = ((0 * 8192 + s.val) * 1 + 0) * 64 + l.val % 64
    omega

theorem angles_apply (s : Fin 8192) (j : Fin 8) : angles (ix2 s j) = angle s j := by
  unfold angles angle
  refine congrArg₂ (fun a b : EReal => a * b) ?_ ?_
  · refine (broadcastInDim_apply _ _ _ _ (ix2 s (0 : Fin 1)) fun a => ?_).trans (broadcastInDim_apply _ _ _ _ (ix1 s) fun a => ?_)
    · match a with
      | ⟨0, _⟩ => rfl
      | ⟨1, _⟩ => rfl
    · match a with
      | ⟨0, _⟩ => rfl
  · refine (broadcastInDim_apply _ _ _ _ (ix2 (0 : Fin 1) j) fun a => ?_).trans ((broadcastInDim_apply _ _ _ _ (ix1 j) fun a => ?_).trans rfl)
    · match a with
      | ⟨0, _⟩ => rfl
      | ⟨1, _⟩ => rfl
    · match a with
      | ⟨0, _⟩ => rfl

theorem cosines_apply (s : Fin 8192) (j : Fin 8) : cosines (ix2 s j) = cosine s j := congrArg (fun a : EReal => FloatOps.hostUnary (F := Ideal) (φ := .f32) .cos a) (angles_apply s j)
theorem sines_apply (s : Fin 8192) (j : Fin 8) : sines (ix2 s j) = sine s j := congrArg (fun a : EReal => FloatOps.hostUnary (F := Ideal) (φ := .f32) .sin a) (angles_apply s j)
theorem flipped_apply (s : Fin 8192) (j : Fin 8) : flipped (ix2 s j) = -sine s j := congrArg (fun a : EReal => -a) (sines_apply s j)
theorem zeros8_apply (y : S8192x8.Idx) : zeros8 y = 0 := Ideal.ofBits_zero_f32
theorem zeros48_apply (y : S8192x48.Idx) : zeros48 y = 0 := Ideal.ofBits_zero_f32
theorem ones48_apply (y : S8192x48.Idx) : ones48 y = 1 := one_bits

theorem sideBySide_apply (a b : FVec Ideal S8192x8 .f32) (d : FVec Ideal S8192x48 .f32) (s : Fin 8192) (j : Fin 64) :
    sideBySide a b d (ix2 s j) = if h : j.val < 8 then a (ix2 s ⟨j.val, h⟩) else if h' : j.val < 16 then b (ix2 s ⟨j.val - 8, by omega⟩) else d (ix2 s ⟨j.val - 16, by omega⟩) := by
  unfold sideBySide
  by_cases h : j.val < 8
  · rw [dif_pos h]
    exact concatenate_apply_piece (t := S8192x64) (1 : Fin 2) _ _ _ 0 (by simp) S8192x8 a rfl rfl 0 rfl (ix2 s ⟨j.val, h⟩)
      (fun a ha => match a with | ⟨0, _⟩ => rfl | ⟨1, _⟩ => absurd rfl ha) (Nat.zero_add _)
  · rw [dif_neg h]
    by_cases h' : j.val < 16
    · rw [dif_pos h']
      exact concatenate_apply_piece (t := S8192x64) (1 : Fin 2) _ _ _ 1 (by simp) S8192x8 b rfl rfl 8 rfl (ix2 s ⟨j.val - 8, by omega⟩)
        (fun a ha => match a with | ⟨0, _⟩ => rfl | ⟨1, _⟩ => absurd rfl ha) (by show 8 + (j.val - 8) = j.val; omega)
    · rw [dif_neg h']
      exact concatenate_apply_piece (t := S8192x64) (1 : Fin 2) _ _ _ 2 (by simp) S8192x48 d rfl rfl 16 rfl (ix2 s ⟨j.val - 16, by omega⟩)
        (fun a ha => match a with | ⟨0, _⟩ => rfl | ⟨1, _⟩ => absurd rfl ha) (by show 16 + (j.val - 16) = j.val; omega)

theorem cosTab_apply (s : Fin 8192) (l : Fin 128) : twice (sideBySide cosines cosines ones48) (ix2 s l) = cosTable (cosine s) ⟨l.val % 64, by omega⟩ := by
  rw [twice_apply, sideBySide_apply]
  unfold cosTable
  simp only [cosines_apply, ones48_apply]
theorem lowTab_apply (s : Fin 8192) (l : Fin 128) : twice (sideBySide flipped zeros8 zeros48) (ix2 s l) = lowTable (sine s) ⟨l.val % 64, by omega⟩ := by
  rw [twice_apply, sideBySide_apply]
  unfold lowTable
  simp only [flipped_apply, zeros8_apply, zeros48_apply, dite_eq_ite, ite_self]
theorem highTab_apply (s : Fin 8192) (l : Fin 128) : twice (sideBySide zeros8 sines zeros48) (ix2 s l) = highTable (sine s) ⟨l.val % 64, by omega⟩ := by
  rw [twice_apply, sideBySide_apply]
  unfold highTable
  simp only [sines_apply, zeros8_apply, zeros48_apply]

theorem packed_early (w : FVec Ideal S1024x2120 .f32) (k : Fin 1024) (d : Fin 584) : packed w (ix2 k ⟨d.val, by omega⟩) = w (ix2 k ⟨d.val, by omega⟩) := by
  unfold packed
  refine (concatenate_apply_piece (t := S1024x2176) (1 : Fin 2) _ _ _ 0 (by simp) S1024x584 (extractStridedSlice S1024x584 ![0, 0] w slices_S1024x2120_S1024x584_0_0) rfl rfl 0 rfl (ix2 k d)
      (fun a ha => match a with | ⟨0, _⟩ => rfl | ⟨1, _⟩ => absurd rfl ha) (Nat.zero_add _)).trans ?_
  refine extractStridedSlice_apply _ _ _ _ _ fun a => ?_
  match a with
  | ⟨0, _⟩ => exact (Nat.zero_add _).symm
  | ⟨1, _⟩ => exact (Nat.zero_add _).symm

theorem packed_late (w : FVec Ideal S1024x2120 .f32) (k : Fin 1024) (d : Fin 1536) : packed w (ix2 k ⟨640 + d.val, by omega⟩) = w (ix2 k ⟨584 + d.val, by omega⟩) := by
  unfold packed
  refine (concatenate_apply_piece (t := S1024x2176) (1 : Fin 2) _ _ _ 2 (by simp) S1024x1536 (extractStridedSlice S1024x1536 ![0, 584] w slices_S1024x2120_S1024x1536_0_584) rfl rfl 640 rfl (ix2 k d)
      (fun a ha => match a with | ⟨0, _⟩ => rfl | ⟨1, _⟩ => absurd rfl ha) rfl).trans ?_
  refine extractStridedSlice_apply _ _ _ _ _ fun a => ?_
  match a with
  | ⟨0, _⟩ => exact (Nat.zero_add _).symm
  | ⟨1, _⟩ => rfl

theorem lengthened_apply (g : FVec Ideal S64 .f32) (j : Fin 64) : lengthened g (ix2 (0 : Fin 1) ⟨j.val, by omega⟩) = g (ix1 j) := by
  unfold lengthened
  refine (shapeCast_apply _ _ _ (ix1 (⟨j.val, by omega⟩ : Fin 128)) ?_).trans ?_
  · rw [Shape.rowMajor_val_one, Shape.rowMajor_val_two]
    show j.val = 0 * 128 + j.val
    omega
  · exact concatenate_apply_piece (t := S128) (0 : Fin 1) _ _ _ 0 (by simp) S64 g rfl rfl 0 rfl (ix1 j)
      (fun a ha => match a with | ⟨0, _⟩ => absurd rfl ha) (Nat.zero_add _)

/-- The block indices. -/
theorem ix_stream : ∀ t : Fin grid0.N, cc0_transform_0 (grid0.coords t) = ![t.val, 0] := by decide +kernel
theorem ix_proj : ∀ t : Fin grid0.N, cc0_transform_1 (grid0.coords t) = ![0, 0] := by decide +kernel
theorem ix_gain : ∀ t : Fin grid0.N, cc0_transform_2 (grid0.coords t) = ![0, 0] := by decide +kernel
theorem ix_att : ∀ t : Fin grid0.N, cc0_transform_3 (grid0.coords t) = ![0, 0] := by decide +kernel
theorem ix_idx : ∀ t : Fin grid0.N, cc0_transform_4 (grid0.coords t) = ![0, 0] := by decide +kernel
theorem ix_keyGain : ∀ t : Fin grid0.N, cc0_transform_5 (grid0.coords t) = ![0, 0] := by decide +kernel
theorem ix_keyBias : ∀ t : Fin grid0.N, cc0_transform_6 (grid0.coords t) = ![0, 0] := by decide +kernel
theorem ix_cosTab : ∀ t : Fin grid0.N, cc0_transform_7 (grid0.coords t) = ![t.val % 16, 0] := by decide +kernel
theorem ix_lowTab : ∀ t : Fin grid0.N, cc0_transform_8 (grid0.coords t) = ![t.val % 16, 0] := by decide +kernel
theorem ix_highTab : ∀ t : Fin grid0.N, cc0_transform_9 (grid0.coords t) = ![t.val % 16, 0] := by decide +kernel
theorem ix_out10 : ∀ t : Fin grid0.N, cc0_transform_10 (grid0.coords t) = ![t.val, 0] := by decide +kernel
theorem ix_out11 : ∀ t : Fin grid0.N, cc0_transform_11 (grid0.coords t) = ![t.val, 0] := by decide +kernel
theorem ix_out12 : ∀ t : Fin grid0.N, cc0_transform_12 (grid0.coords t) = ![t.val, 0] := by decide +kernel
theorem ix_out13 : ∀ t : Fin grid0.N, cc0_transform_13 (grid0.coords t) = ![t.val, 0] := by decide +kernel
theorem ix_out14 : ∀ t : Fin grid0.N, cc0_transform_14 (grid0.coords t) = ![t.val, 0] := by decide +kernel
theorem ix_out15 : ∀ t : Fin grid0.N, cc0_transform_15 (grid0.coords t) = ![t.val, 0] := by decide +kernel
theorem ix_out16 : ∀ t : Fin grid0.N, cc0_transform_16 (grid0.coords t) = ![t.val, 0] := by decide +kernel
theorem ix_out17 : ∀ t : Fin grid0.N, cc0_transform_17 (grid0.coords t) = ![t.val, 0] := by decide +kernel
theorem ix_out18 : ∀ t : Fin grid0.N, cc0_transform_18 (grid0.coords t) = ![t.val, 0] := by decide +kernel

variable (t : Fin cfg0.N)

/-- The row of the arrays at row `r` of the block. -/
def rowAt (r : Fin 512) : Fin 32768 := ⟨t.val * 512 + r.val, by have h : t.val < 64 := t.isLt; omega⟩

/-- The blocks at a grid point. -/
abbrev streamBlk : FVec Ideal S512x1024 .f32 := iblk m c 0 t
abbrev projBlk : FVec Ideal S1024x2176 .bf16 := iblk m c 1 t
abbrev gainBlk : FVec Ideal S1x256 .f32 := iblk m c 2 t
abbrev attBlk : FVec Ideal S256x512 .bf16 := iblk m c 3 t
abbrev idxBlk : FVec Ideal S256x512 .bf16 := iblk m c 4 t
abbrev keyGainBlk : FVec Ideal S1x128 .f32 := iblk m c 5 t
abbrev keyBiasBlk : FVec Ideal S1x128 .f32 := iblk m c 6 t
abbrev cosTabBlk : FVec Ideal S512x128 .f32 := iblk m c 7 t
abbrev lowTabBlk : FVec Ideal S512x128 .f32 := iblk m c 8 t
abbrev highTabBlk : FVec Ideal S512x128 .f32 := iblk m c 9 t

theorem streamBlk_apply (r : Fin 512) (d : Fin 1024) : streamBlk m c t (ix2 r d) = streamArg m c (ix2 (rowAt t r) d) := by
  have e : ((cfg0.win 0).blk t).view.emb (ix2 r d) = ix2 (rowAt t r) d := funext fun a => Fin.ext (by
    match a with
    | ⟨0, _⟩ =>
      show cc0_transform_0 (grid0.coords t) 0 * 512 + 1 * r.val = t.val * 512 + r.val
      rw [ix_stream]; show t.val * 512 + 1 * r.val = t.val * 512 + r.val; omega
    | ⟨1, _⟩ =>
      show cc0_transform_0 (grid0.coords t) 1 * 1024 + 1 * d.val = d.val
      rw [ix_stream]; show 0 * 1024 + 1 * d.val = d.val; omega)
  show (V m c main_arg0 : FVec Ideal S32768x1024 .f32) (((cfg0.win 0).blk t).view.emb (ix2 r d)) = _
  rw [e]
  rw [V_main_arg0]

theorem projBlk_apply (r : Fin 1024) (d : Fin 2176) : projBlk m c t (ix2 r d) = packed (projArg m c) (ix2 r d) := by
  have e : ((cfg0.win 1).blk t).view.emb (ix2 r d) = ix2 r d := funext fun a => Fin.ext (by
    match a with
    | ⟨0, _⟩ =>
      show cc0_transform_1 (grid0.coords t) 0 * 1024 + 1 * r.val = r.val
      rw [ix_proj]; show 0 * 1024 + 1 * r.val = r.val; omega
    | ⟨1, _⟩ =>
      show cc0_transform_1 (grid0.coords t) 1 * 2176 + 1 * d.val = d.val
      rw [ix_proj]; show 0 * 2176 + 1 * d.val = d.val; omega)
  show (V m c main_v4 : FVec Ideal S1024x2176 .bf16) (((cfg0.win 1).blk t).view.emb (ix2 r d)) = _
  rw [e]
  rw [proj_eq]

theorem gainBlk_apply (d : Fin 256) : gainBlk m c t (ix2 (0 : Fin 1) d) = gainArg m c (ix1 d) := by
  have e : ((cfg0.win 2).blk t).view.emb (ix2 (0 : Fin 1) d) = ix2 (0 : Fin 1) d := funext fun a => Fin.ext (by
    match a with
    | ⟨0, _⟩ =>
      show cc0_transform_2 (grid0.coords t) 0 * 1 + 1 * 0 = 0
      rw [ix_gain]; show 0 * 1 + 1 * 0 = 0; omega
    | ⟨1, _⟩ =>
      show cc0_transform_2 (grid0.coords t) 1 * 256 + 1 * d.val = d.val
      rw [ix_gain]; show 0 * 256 + 1 * d.val = d.val; omega)
  show (V m c main_v42 : FVec Ideal S1x256 .f32) (((cfg0.win 2).blk t).view.emb (ix2 (0 : Fin 1) d)) = _
  rw [e]
  rw [gain_eq]
  refine shapeCast_apply _ _ _ _ ?_
  rw [Shape.rowMajor_val_one, Shape.rowMajor_val_two]
  show d.val = 0 * 256 + d.val
  omega

theorem attBlk_apply (r : Fin 256) (d : Fin 512) : attBlk m c t (ix2 r d) = attArg m c (ix2 r d) := by
  have e : ((cfg0.win 3).blk t).view.emb (ix2 r d) = ix2 r d := funext fun a => Fin.ext (by
    match a with
    | ⟨0, _⟩ =>
      show cc0_transform_3 (grid0.coords t) 0 * 256 + 1 * r.val = r.val
      rw [ix_att]; show 0 * 256 + 1 * r.val = r.val; omega
    | ⟨1, _⟩ =>
      show cc0_transform_3 (grid0.coords t) 1 * 512 + 1 * d.val = d.val
      rw [ix_att]; show 0 * 512 + 1 * d.val = d.val; omega)
  show (V m c main_v43 : FVec Ideal S256x512 .bf16) (((cfg0.win 3).blk t).view.emb (ix2 r d)) = _
  rw [e]
  rw [att_eq]

theorem idxBlk_apply (r : Fin 256) (d : Fin 512) : idxBlk m c t (ix2 r d) = idxArg m c (ix2 r d) := by
  have e : ((cfg0.win 4).blk t).view.emb (ix2 r d) = ix2 r d := funext fun a => Fin.ext (by
    match a with
    | ⟨0, _⟩ =>
      show cc0_transform_4 (grid0.coords t) 0 * 256 + 1 * r.val = r.val
      rw [ix_idx]; show 0 * 256 + 1 * r.val = r.val; omega
    | ⟨1, _⟩ =>
      show cc0_transform_4 (grid0.coords t) 1 * 512 + 1 * d.val = d.val
      rw [ix_idx]; show 0 * 512 + 1 * d.val = d.val; omega)
  show (V m c main_v44 : FVec Ideal S256x512 .bf16) (((cfg0.win 4).blk t).view.emb (ix2 r d)) = _
  rw [e]
  rw [idx_eq]

theorem keyGainBlk_apply (d : Fin 128) : keyGainBlk m c t (ix2 (0 : Fin 1) d) = lengthened (keyGainArg m c) (ix2 (0 : Fin 1) d) := by
  have e : ((cfg0.win 5).blk t).view.emb (ix2 (0 : Fin 1) d) = ix2 (0 : Fin 1) d := funext fun a => Fin.ext (by
    match a with
    | ⟨0, _⟩ =>
      show cc0_transform_5 (grid0.coords t) 0 * 1 + 1 * 0 = 0
      rw [ix_keyGain]; show 0 * 1 + 1 * 0 = 0; omega
    | ⟨1, _⟩ =>
      show cc0_transform_5 (grid0.coords t) 1 * 128 + 1 * d.val = d.val
      rw [ix_keyGain]; show 0 * 128 + 1 * d.val = d.val; omega)
  show (V m c main_v7 : FVec Ideal S1x128 .f32) (((cfg0.win 5).blk t).view.emb (ix2 (0 : Fin 1) d)) = _
  rw [e]
  rw [keyGain_eq]

theorem keyBiasBlk_apply (d : Fin 128) : keyBiasBlk m c t (ix2 (0 : Fin 1) d) = lengthened (keyBiasArg m c) (ix2 (0 : Fin 1) d) := by
  have e : ((cfg0.win 6).blk t).view.emb (ix2 (0 : Fin 1) d) = ix2 (0 : Fin 1) d := funext fun a => Fin.ext (by
    match a with
    | ⟨0, _⟩ =>
      show cc0_transform_6 (grid0.coords t) 0 * 1 + 1 * 0 = 0
      rw [ix_keyBias]; show 0 * 1 + 1 * 0 = 0; omega
    | ⟨1, _⟩ =>
      show cc0_transform_6 (grid0.coords t) 1 * 128 + 1 * d.val = d.val
      rw [ix_keyBias]; show 0 * 128 + 1 * d.val = d.val; omega)
  show (V m c main_v10 : FVec Ideal S1x128 .f32) (((cfg0.win 6).blk t).view.emb (ix2 (0 : Fin 1) d)) = _
  rw [e]
  rw [keyBias_eq]

theorem cosTabBlk_apply (r : Fin 512) (d : Fin 128) : cosTabBlk m c t (ix2 r d) = cosTable (cosine (place (rowAt t r))) ⟨d.val % 64, by omega⟩ := by
  have e : ((cfg0.win 7).blk t).view.emb (ix2 r d) = ix2 (place (rowAt t r)) d := funext fun a => Fin.ext (by
    match a with
    | ⟨0, _⟩ =>
      show cc0_transform_7 (grid0.coords t) 0 * 512 + 1 * r.val = (t.val * 512 + r.val) % 8192
      rw [ix_cosTab]; show t.val % 16 * 512 + 1 * r.val = (t.val * 512 + r.val) % 8192; omega
    | ⟨1, _⟩ =>
      show cc0_transform_7 (grid0.coords t) 1 * 128 + 1 * d.val = d.val
      rw [ix_cosTab]; show 0 * 128 + 1 * d.val = d.val; omega)
  show (V m c main_v35 : FVec Ideal S8192x128 .f32) (((cfg0.win 7).blk t).view.emb (ix2 r d)) = _
  rw [e]
  rw [cosTab_eq]
  exact cosTab_apply _ _

theorem lowTabBlk_apply (r : Fin 512) (d : Fin 128) : lowTabBlk m c t (ix2 r d) = lowTable (sine (place (rowAt t r))) ⟨d.val % 64, by omega⟩ := by
  have e : ((cfg0.win 8).blk t).view.emb (ix2 r d) = ix2 (place (rowAt t r)) d := funext fun a => Fin.ext (by
    match a with
    | ⟨0, _⟩ =>
      show cc0_transform_8 (grid0.coords t) 0 * 512 + 1 * r.val = (t.val * 512 + r.val) % 8192
      rw [ix_lowTab]; show t.val % 16 * 512 + 1 * r.val = (t.val * 512 + r.val) % 8192; omega
    | ⟨1, _⟩ =>
      show cc0_transform_8 (grid0.coords t) 1 * 128 + 1 * d.val = d.val
      rw [ix_lowTab]; show 0 * 128 + 1 * d.val = d.val; omega)
  show (V m c main_v38 : FVec Ideal S8192x128 .f32) (((cfg0.win 8).blk t).view.emb (ix2 r d)) = _
  rw [e]
  rw [lowTab_eq]
  exact lowTab_apply _ _

theorem highTabBlk_apply (r : Fin 512) (d : Fin 128) : highTabBlk m c t (ix2 r d) = highTable (sine (place (rowAt t r))) ⟨d.val % 64, by omega⟩ := by
  have e : ((cfg0.win 9).blk t).view.emb (ix2 r d) = ix2 (place (rowAt t r)) d := funext fun a => Fin.ext (by
    match a with
    | ⟨0, _⟩ =>
      show cc0_transform_9 (grid0.coords t) 0 * 512 + 1 * r.val = (t.val * 512 + r.val) % 8192
      rw [ix_highTab]; show t.val % 16 * 512 + 1 * r.val = (t.val * 512 + r.val) % 8192; omega
    | ⟨1, _⟩ =>
      show cc0_transform_9 (grid0.coords t) 1 * 128 + 1 * d.val = d.val
      rw [ix_highTab]; show 0 * 128 + 1 * d.val = d.val; omega)
  show (V m c main_v41 : FVec Ideal S8192x128 .f32) (((cfg0.win 9).blk t).view.emb (ix2 r d)) = _
  rw [e]
  rw [highTab_eq]
  exact highTab_apply _ _

/-- The projections of a block's rows. -/
abbrev rowsOf (r : Fin 512) : Fin 2120 → EReal := row (streamArg m c) (projArg m c) (rowAt t r)

theorem early_rows (r : Fin 512) (d : Fin 584) : k0_pay6 (F := Ideal) (streamBlk m c t) (projBlk m c t) (ix2 r ⟨d.val, by omega⟩) = rowsOf m c t r ⟨d.val, by omega⟩ := by
  rw [projected_apply]
  refine Finset.sum_congr rfl fun k _ => congrArg₂ (fun a b : EReal => a * b) (streamBlk_apply m c t r k) ((projBlk_apply m c t k _).trans (packed_early _ k d))

theorem late_rows (r : Fin 512) (d : Fin 1536) : k0_pay6 (F := Ideal) (streamBlk m c t) (projBlk m c t) (ix2 r ⟨640 + d.val, by omega⟩) = rowsOf m c t r ⟨584 + d.val, by omega⟩ := by
  rw [projected_apply]
  refine Finset.sum_congr rfl fun k _ => congrArg₂ (fun a b : EReal => a * b) (streamBlk_apply m c t r k) ((projBlk_apply m c t k _).trans (packed_late _ k d))

end Cert.Kernel9Ideal.Hand

end
-- ==== Proof.Even.Array.lean ====
/- The projections the first layer's mixer starts from: the kernel's nine output arrays, from what the arguments held when the call was entered. -/
module

public import proofs.«01_k».proof.Proof.Even.Host

@[expose] public section

set_option maxRecDepth 16384
set_option maxHeartbeats 1000000

noncomputable section

namespace Cert.Kernel9Ideal.Hand

open Cert.Kernel9Ideal Cert.Kernel9Ideal.Gen Cert.Even
open Idealize.ShloMosaic hiding ix0 ix1 ix2 ix3 ix4 ix5
open Idealize.ShloMosaic.TcCoe Idealize.ShloMosaic.ValueIdx
open Idealize.SL.Sem

variable (m : (ℓ : Loc nD τ sig) → Buf (Elt Ideal) ℓ) (c : Dev nD)

/-- The nine results of device `c`. -/
def attQuerys : FVec Ideal S32768x1024 .bf16 := fun y => attQuery (streamArg m c) (projArg m c) (gainArg m c) (attArg m c) (y 0) (y 1)
def idxQuerys : FVec Ideal S32768x512 .bf16 := fun y => idxQuery (streamArg m c) (projArg m c) (gainArg m c) (idxArg m c) (y 0) (y 1)
def attKeys : FVec Ideal S32768x256 .bf16 := fun y => attKey (streamArg m c) (projArg m c) (y 0) (y 1)
def attValues : FVec Ideal S32768x256 .bf16 := fun y => attValue (streamArg m c) (projArg m c) (y 0) (y 1)
def idxKeys : FVec Ideal S32768x64 .bf16 := fun y => idxKey (streamArg m c) (projArg m c) (keyGainArg m c) (keyBiasArg m c) (y 0) (y 1)
def idxWeights : FVec Ideal S32768x8 .f32 := fun y => idxWeight (streamArg m c) (projArg m c) (y 0) (y 1)
def stickQuerys : FVec Ideal S32768x512 .bf16 := fun y => stickQuery (streamArg m c) (projArg m c) (y 0) (y 1)
def stickKeys : FVec Ideal S32768x512 .bf16 := fun y => stickKey (streamArg m c) (projArg m c) (y 0) (y 1)
def stickValues : FVec Ideal S32768x512 .bf16 := fun y => stickValue (streamArg m c) (projArg m c) (y 0) (y 1)

/-- Stores side by side: a strip of 128 columns from column `o`. -/
theorem strip {n : ℕ} (o : ℕ) (ho : o + 128 ≤ n) (inb : ∀ a, (![0, o] : Fin 2 → ℕ) a + S512x128.size a ≤ (⟨2, ![512, n]⟩ : Shape).size a) (f : S512x128.Idx → EReal) (G : (⟨2, ![512, n]⟩ : Shape).Idx → EReal)
    (h : ∀ (r : Fin 512) (l : Fin 128), f (ix2 r l) = G (ix2 r ⟨o + l.val, by omega⟩)) (x : S512x128.Idx) :
    f x = G ((Rect.unit (s := ⟨2, ![512, n]⟩) ![0, o] S512x128.size inb).emb x) := by
  obtain ⟨r, l, rfl⟩ : ∃ (r : Fin 512) (l : Fin 128), x = (ix2 r l : S512x128.Idx) := ⟨x (0 : Fin 2), x (1 : Fin 2), ValueIdx.eq_ix2 x⟩
  refine (h r l).trans (congrArg G (funext fun a => Fin.ext ?_))
  match a with
  | ⟨0, _⟩ => show r.val = 0 + 1 * r.val; omega
  | ⟨1, _⟩ => show o + l.val = o + 1 * l.val; omega

variable (t : Fin cfg0.N)

/-- The tables, the projections and the queries as the body holds them. -/
abbrev projT : FVec Ideal S512x2176 .f32 := k0_pay46 (F := Ideal) (iblk m c 0 t) (iblk m c 1 t) (iblk m c 2 t) (iblk m c 3 t) (iblk m c 4 t) (iblk m c 5 t) (iblk m c 6 t) (iblk m c 7 t) (iblk m c 8 t) (iblk m c 9 t)
abbrev cosT : FVec Ideal S512x128 .f32 := k0_pay47 (F := Ideal) (iblk m c 0 t) (iblk m c 1 t) (iblk m c 2 t) (iblk m c 3 t) (iblk m c 4 t) (iblk m c 5 t) (iblk m c 6 t) (iblk m c 7 t) (iblk m c 8 t) (iblk m c 9 t)
abbrev lowT : FVec Ideal S512x128 .f32 := k0_pay48 (F := Ideal) (iblk m c 0 t) (iblk m c 1 t) (iblk m c 2 t) (iblk m c 3 t) (iblk m c 4 t) (iblk m c 5 t) (iblk m c 6 t) (iblk m c 7 t) (iblk m c 8 t) (iblk m c 9 t)
abbrev highT : FVec Ideal S512x128 .f32 := k0_pay49 (F := Ideal) (iblk m c 0 t) (iblk m c 1 t) (iblk m c 2 t) (iblk m c 3 t) (iblk m c 4 t) (iblk m c 5 t) (iblk m c 6 t) (iblk m c 7 t) (iblk m c 8 t) (iblk m c 9 t)
abbrev attT : FVec Ideal S512x512 .f32 := k0_pay50 (F := Ideal) (iblk m c 0 t) (iblk m c 1 t) (iblk m c 2 t) (iblk m c 3 t) (iblk m c 4 t) (iblk m c 5 t) (iblk m c 6 t) (iblk m c 7 t) (iblk m c 8 t) (iblk m c 9 t)
abbrev idxT : FVec Ideal S512x512 .f32 := k0_pay51 (F := Ideal) (iblk m c 0 t) (iblk m c 1 t) (iblk m c 2 t) (iblk m c 3 t) (iblk m c 4 t) (iblk m c 5 t) (iblk m c 6 t) (iblk m c 7 t) (iblk m c 8 t) (iblk m c 9 t)

/-- The cosines and the sines at a row of the block. -/
abbrev csAt (r : Fin 512) : Fin 8 → EReal := cosine (place (rowAt t r))
abbrev snAt (r : Fin 512) : Fin 8 → EReal := sine (place (rowAt t r))

theorem cosT_apply (r : Fin 512) (l : Fin 128) : cosT m c t (ix2 r l) = cosTable (csAt t r) ⟨l.val % 64, by omega⟩ := by
  unfold cosT k0_pay47 k0_pay7
  rw [shapeCast_self, View.ld_unit_lit _ _ (by decide)]
  exact cosTabBlk_apply m c t r l
theorem lowT_apply (r : Fin 512) (l : Fin 128) : lowT m c t (ix2 r l) = lowTable (snAt t r) ⟨l.val % 64, by omega⟩ := by
  unfold lowT k0_pay48 k0_pay8
  rw [shapeCast_self, View.ld_unit_lit _ _ (by decide)]
  exact lowTabBlk_apply m c t r l
theorem highT_apply (r : Fin 512) (l : Fin 128) : highT m c t (ix2 r l) = highTable (snAt t r) ⟨l.val % 64, by omega⟩ := by
  unfold highT k0_pay49 k0_pay9
  rw [shapeCast_self, View.ld_unit_lit _ _ (by decide)]
  exact highTabBlk_apply m c t r l
theorem projT_early (r : Fin 512) (d : Fin 584) : projT m c t (ix2 r ⟨d.val, by omega⟩) = rowsOf m c t r ⟨d.val, by omega⟩ := by
  unfold projT k0_pay46
  rw [View.ld_unit_lit _ _ (by decide), View.ld_unit_lit _ _ (by decide)]
  exact early_rows m c t r d
theorem projT_late (r : Fin 512) (d : Fin 1536) : projT m c t (ix2 r ⟨640 + d.val, by omega⟩) = rowsOf m c t r ⟨584 + d.val, by omega⟩ := by
  unfold projT k0_pay46
  rw [View.ld_unit_lit _ _ (by decide), View.ld_unit_lit _ _ (by decide)]
  exact late_rows m c t r d
theorem attT_apply (r : Fin 512) (d : Fin 512) : attT m c t (ix2 r d) = queries (rowsOf m c t r) (fun k => gainArg m c (ix1 k)) (fun k d => attArg m c (ix2 k d)) d := by
  unfold attT k0_pay50
  iterate 4 rw [View.ld_unit_lit _ _ (by decide)]
  refine (queries_apply (streamBlk m c t) (projBlk m c t) (rowsOf m c t) (early_rows m c t) (gainBlk m c t) (attBlk m c t) r d).trans ?_
  rw [show (fun j => gainBlk m c t (ix2 (0 : Fin 1) j)) = fun (j : Fin 256) => gainArg m c (ix1 j) from funext fun j => gainBlk_apply m c t j,
    show (fun k d => attBlk m c t (ix2 k d)) = fun (k : Fin 256) (d : Fin 512) => attArg m c (ix2 k d) from funext fun k => funext fun d => attBlk_apply m c t k d]
theorem idxT_apply (r : Fin 512) (d : Fin 512) : idxT m c t (ix2 r d) = queries (rowsOf m c t r) (fun k => gainArg m c (ix1 k)) (fun k d => idxArg m c (ix2 k d)) d := by
  unfold idxT k0_pay51
  iterate 4 rw [View.ld_unit_lit _ _ (by decide)]
  refine (queries_apply (streamBlk m c t) (projBlk m c t) (rowsOf m c t) (early_rows m c t) (gainBlk m c t) (idxBlk m c t) r d).trans ?_
  rw [show (fun j => gainBlk m c t (ix2 (0 : Fin 1) j)) = fun (j : Fin 256) => gainArg m c (ix1 j) from funext fun j => gainBlk_apply m c t j,
    show (fun k d => idxBlk m c t (ix2 k d)) = fun (k : Fin 256) (d : Fin 512) => idxArg m c (ix2 k d) from funext fun k => funext fun d => idxBlk_apply m c t k d]

/-- The blocks a grid point leaves. -/
theorem out10_apply (r : Fin 512) (k : Fin 1024) :
    out0_10 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r k) = attQuery (streamArg m c) (projArg m c) (gainArg m c) (attArg m c) (rowAt t r) k := by
  unfold out0_10
  refine (View.canon_apply_of_pieces (S := S512x1024) (fun y : S512x1024.Idx => paddedHeads (csAt t (y 0)) (snAt t (y 0)) (fun d => attT m c t (ix2 (y 0 : Fin 512) d)) (y 1)) _ ?_ (ix2 r k) (cover0_10 _ _ _ _ _ _ _ _ _)).trans ?_
  · intro pc hpc
    rcases List.mem_cons.mp hpc with rfl | hpc
    · intro x
      refine strip 896 (by decide) inb_S512x1024_S512x128_0_896 _ (fun y : S512x1024.Idx => paddedHeads (csAt t (y 0)) (snAt t (y 0)) (fun d => attT m c t (ix2 (y 0 : Fin 512) d)) (y 1)) (fun r l => ?_) x
      exact second_query (cosT m c t) (lowT m c t) (highT m c t) (csAt t) (snAt t) (cosT_apply m c t) (lowT_apply m c t) (highT_apply m c t) (attT m c t) 384 slices_S512x512_o0_384_S512x128 (by decide) (by decide) r l _ (by show 896 + l.val = _; omega)
    rcases List.mem_cons.mp hpc with rfl | hpc
    · intro x
      refine strip 768 (by decide) inb_S512x1024_S512x128_0_768 _ (fun y : S512x1024.Idx => paddedHeads (csAt t (y 0)) (snAt t (y 0)) (fun d => attT m c t (ix2 (y 0 : Fin 512) d)) (y 1)) (fun r l => ?_) x
      exact first_query (cosT m c t) (lowT m c t) (highT m c t) (csAt t) (snAt t) (cosT_apply m c t) (lowT_apply m c t) (highT_apply m c t) (attT m c t) 384 slices_S512x512_o0_384_S512x128 (by decide) (by decide) r l _ (by show 768 + l.val = _; omega)
    rcases List.mem_cons.mp hpc with rfl | hpc
    · intro x
      refine strip 640 (by decide) inb_S512x1024_S512x128_0_640 _ (fun y : S512x1024.Idx => paddedHeads (csAt t (y 0)) (snAt t (y 0)) (fun d => attT m c t (ix2 (y 0 : Fin 512) d)) (y 1)) (fun r l => ?_) x
      exact second_query (cosT m c t) (lowT m c t) (highT m c t) (csAt t) (snAt t) (cosT_apply m c t) (lowT_apply m c t) (highT_apply m c t) (attT m c t) 256 slices_S512x512_o0_256_S512x128 (by decide) (by decide) r l _ (by show 640 + l.val = _; omega)
    rcases List.mem_cons.mp hpc with rfl | hpc
    · intro x
      refine strip 512 (by decide) inb_S512x1024_S512x128_0_512 _ (fun y : S512x1024.Idx => paddedHeads (csAt t (y 0)) (snAt t (y 0)) (fun d => attT m c t (ix2 (y 0 : Fin 512) d)) (y 1)) (fun r l => ?_) x
      exact first_query (cosT m c t) (lowT m c t) (highT m c t) (csAt t) (snAt t) (cosT_apply m c t) (lowT_apply m c t) (highT_apply m c t) (attT m c t) 256 slices_S512x512_o0_256_S512x128 (by decide) (by decide) r l _ (by show 512 + l.val = _; omega)
    rcases List.mem_cons.mp hpc with rfl | hpc
    · intro x
      refine strip 384 (by decide) inb_S512x1024_S512x128_0_384 _ (fun y : S512x1024.Idx => paddedHeads (csAt t (y 0)) (snAt t (y 0)) (fun d => attT m c t (ix2 (y 0 : Fin 512) d)) (y 1)) (fun r l => ?_) x
      exact second_query (cosT m c t) (lowT m c t) (highT m c t) (csAt t) (snAt t) (cosT_apply m c t) (lowT_apply m c t) (highT_apply m c t) (attT m c t) 128 slices_S512x512_o0_128_S512x128 (by decide) (by decide) r l _ (by show 384 + l.val = _; omega)
    rcases List.mem_cons.mp hpc with rfl | hpc
    · intro x
      refine strip 256 (by decide) inb_S512x1024_S512x128_0_256 _ (fun y : S512x1024.Idx => paddedHeads (csAt t (y 0)) (snAt t (y 0)) (fun d => attT m c t (ix2 (y 0 : Fin 512) d)) (y 1)) (fun r l => ?_) x
      exact first_query (cosT m c t) (lowT m c t) (highT m c t) (csAt t) (snAt t) (cosT_apply m c t) (lowT_apply m c t) (highT_apply m c t) (attT m c t) 128 slices_S512x512_o0_128_S512x128 (by decide) (by decide) r l _ (by show 256 + l.val = _; omega)
    rcases List.mem_cons.mp hpc with rfl | hpc
    · intro x
      refine strip 128 (by decide) inb_S512x1024_S512x128_0_128 _ (fun y : S512x1024.Idx => paddedHeads (csAt t (y 0)) (snAt t (y 0)) (fun d => attT m c t (ix2 (y 0 : Fin 512) d)) (y 1)) (fun r l => ?_) x
      exact second_query (cosT m c t) (lowT m c t) (highT m c t) (csAt t) (snAt t) (cosT_apply m c t) (lowT_apply m c t) (highT_apply m c t) (attT m c t) 0 slices_S512x512_o0_0_S512x128 (by decide) (by decide) r l _ (by show 128 + l.val = _; omega)
    rcases List.mem_cons.mp hpc with rfl | hpc
    · intro x
      refine strip 0 (by decide) inb_S512x1024_S512x128_0_0 _ (fun y : S512x1024.Idx => paddedHeads (csAt t (y 0)) (snAt t (y 0)) (fun d => attT m c t (ix2 (y 0 : Fin 512) d)) (y 1)) (fun r l => ?_) x
      exact first_query (cosT m c t) (lowT m c t) (highT m c t) (csAt t) (snAt t) (cosT_apply m c t) (lowT_apply m c t) (highT_apply m c t) (attT m c t) 0 slices_S512x512_o0_0_S512x128 (by decide) (by decide) r l _ (by show 0 + l.val = _; omega)
    nomatch hpc
  · show paddedHeads (csAt t r) (snAt t r) (fun d => attT m c t (ix2 r d)) k = _
    rw [show (fun d => attT m c t (ix2 r d)) = _ from funext fun d => attT_apply m c t r d]
    rfl

theorem out11_apply (r : Fin 512) (k : Fin 512) :
    out0_11 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r k) = idxQuery (streamArg m c) (projArg m c) (gainArg m c) (idxArg m c) (rowAt t r) k := by
  unfold out0_11
  refine (View.canon_apply_of_pieces (S := S512x512) (fun y : S512x512.Idx => heads (csAt t (y 0)) (snAt t (y 0)) (fun d => idxT m c t (ix2 (y 0 : Fin 512) d)) (y 1)) _ ?_ (ix2 r k) (cover0_11 _ _ _ _ _)).trans ?_
  · intro pc hpc
    rcases List.mem_cons.mp hpc with rfl | hpc
    · intro x
      refine strip 384 (by decide) inb_S512x512_S512x128_0_384 _ (fun y : S512x512.Idx => heads (csAt t (y 0)) (snAt t (y 0)) (fun d => idxT m c t (ix2 (y 0 : Fin 512) d)) (y 1)) (fun r l => ?_) x
      exact plain_query (cosT m c t) (lowT m c t) (highT m c t) (csAt t) (snAt t) (cosT_apply m c t) (lowT_apply m c t) (highT_apply m c t) (idxT m c t) 384 slices_S512x512_o0_384_S512x128 (by decide) (by decide) r l _ rfl
    rcases List.mem_cons.mp hpc with rfl | hpc
    · intro x
      refine strip 256 (by decide) inb_S512x512_S512x128_0_256 _ (fun y : S512x512.Idx => heads (csAt t (y 0)) (snAt t (y 0)) (fun d => idxT m c t (ix2 (y 0 : Fin 512) d)) (y 1)) (fun r l => ?_) x
      exact plain_query (cosT m c t) (lowT m c t) (highT m c t) (csAt t) (snAt t) (cosT_apply m c t) (lowT_apply m c t) (highT_apply m c t) (idxT m c t) 256 slices_S512x512_o0_256_S512x128 (by decide) (by decide) r l _ rfl
    rcases List.mem_cons.mp hpc with rfl | hpc
    · intro x
      refine strip 128 (by decide) inb_S512x512_S512x128_0_128 _ (fun y : S512x512.Idx => heads (csAt t (y 0)) (snAt t (y 0)) (fun d => idxT m c t (ix2 (y 0 : Fin 512) d)) (y 1)) (fun r l => ?_) x
      exact plain_query (cosT m c t) (lowT m c t) (highT m c t) (csAt t) (snAt t) (cosT_apply m c t) (lowT_apply m c t) (highT_apply m c t) (idxT m c t) 128 slices_S512x512_o0_128_S512x128 (by decide) (by decide) r l _ rfl
    rcases List.mem_cons.mp hpc with rfl | hpc
    · intro x
      refine strip 0 (by decide) inb_S512x512_S512x128_0_0 _ (fun y : S512x512.Idx => heads (csAt t (y 0)) (snAt t (y 0)) (fun d => idxT m c t (ix2 (y 0 : Fin 512) d)) (y 1)) (fun r l => ?_) x
      exact plain_query (cosT m c t) (lowT m c t) (highT m c t) (csAt t) (snAt t) (cosT_apply m c t) (lowT_apply m c t) (highT_apply m c t) (idxT m c t) 0 slices_S512x512_o0_0_S512x128 (by decide) (by decide) r l _ rfl
    nomatch hpc
  · show heads (csAt t r) (snAt t r) (fun d => idxT m c t (ix2 r d)) k = _
    rw [show (fun d => idxT m c t (ix2 r d)) = _ from funext fun d => idxT_apply m c t r d]
    rfl

theorem out12_apply (r : Fin 512) (k : Fin 256) :
    out0_12 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r k) = attKey (streamArg m c) (projArg m c) (rowAt t r) k := by
  unfold out0_12
  refine (View.canon_apply_of_pieces (S := S512x256) (fun y : S512x256.Idx => paddedKeys (csAt t (y 0)) (snAt t (y 0)) (rowsOf m c t (y 0)) (y 1)) _ ?_ (ix2 r k) (cover0_12 _ _ _)).trans ?_
  · intro pc hpc
    rcases List.mem_cons.mp hpc with rfl | hpc
    · intro x
      refine strip 128 (by decide) inb_S512x256_S512x128_0_128 _ (fun y : S512x256.Idx => paddedKeys (csAt t (y 0)) (snAt t (y 0)) (rowsOf m c t (y 0)) (y 1)) (fun r l => ?_) x
      exact second_key (cosT m c t) (lowT m c t) (highT m c t) (csAt t) (snAt t) (cosT_apply m c t) (lowT_apply m c t) (highT_apply m c t) (projT m c t) (rowsOf m c t) (projT_early m c t) r l _ rfl
    rcases List.mem_cons.mp hpc with rfl | hpc
    · intro x
      refine strip 0 (by decide) inb_S512x256_S512x128_0_0 _ (fun y : S512x256.Idx => paddedKeys (csAt t (y 0)) (snAt t (y 0)) (rowsOf m c t (y 0)) (y 1)) (fun r l => ?_) x
      exact first_key (cosT m c t) (lowT m c t) (highT m c t) (csAt t) (snAt t) (cosT_apply m c t) (lowT_apply m c t) (highT_apply m c t) (projT m c t) (rowsOf m c t) (projT_early m c t) r l _ (Nat.zero_add _)
    nomatch hpc
  · rfl

theorem out13_apply (r : Fin 512) (k : Fin 256) :
    out0_13 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r k) = attValue (streamArg m c) (projArg m c) (rowAt t r) k := by
  unfold out0_13
  refine (View.canon_apply_of_pieces (S := S512x256) (fun y : S512x256.Idx => paddedValues (rowsOf m c t (y 0)) (y 1)) _ ?_ (ix2 r k) (cover0_13 _ _ _)).trans ?_
  · intro pc hpc
    rcases List.mem_cons.mp hpc with rfl | hpc
    · intro x
      refine strip 128 (by decide) inb_S512x256_S512x128_0_128 _ (fun y : S512x256.Idx => paddedValues (rowsOf m c t (y 0)) (y 1)) (fun r l => ?_) x
      exact second_value (projT m c t) (rowsOf m c t) (projT_early m c t) r l _ rfl
    rcases List.mem_cons.mp hpc with rfl | hpc
    · intro x
      refine strip 0 (by decide) inb_S512x256_S512x128_0_0 _ (fun y : S512x256.Idx => paddedValues (rowsOf m c t (y 0)) (y 1)) (fun r l => ?_) x
      exact first_value (projT m c t) (rowsOf m c t) (projT_early m c t) r l _ (Nat.zero_add _)
    nomatch hpc
  · rfl

theorem out14_apply (r : Fin 512) (k : Fin 64) :
    out0_14 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r k) = idxKey (streamArg m c) (projArg m c) (keyGainArg m c) (keyBiasArg m c) (rowAt t r) k := by
  unfold out0_14
  rw [View.canon_cons_unit_lit _ _ _ (by decide)]
  iterate 2 rw [View.ld_unit_lit _ _ (by decide)]
  refine (cut_apply 0 (turned (cosT m c t) (lowT m c t) (highT m c t) (k0_pay43 (F := Ideal) (projT m c t) (keyGainBlk m c t) (keyBiasBlk m c t))) slices_S512x128_o0_0_S512x64 r k (by omega)).trans ?_
  refine (turned_apply (cosT m c t) (lowT m c t) (highT m c t) (csAt t) (snAt t) (cosT_apply m c t) (lowT_apply m c t) (highT_apply m c t) _ r _).trans (turn_congr (fun j => ?_) (Fin.ext ?_))
  · refine (congrArg (fun s : Fin 128 => k0_pay43 (F := Ideal) (projT m c t) (keyGainBlk m c t) (keyBiasBlk m c t) (ix2 r s)) (Fin.ext ?_)).trans
      (indexKey_apply (projT m c t) (rowsOf m c t) (projT_early m c t) (keyGainBlk m c t) (keyBiasBlk m c t) (fun k => keyGainArg m c (ix1 k)) (fun k => keyBiasArg m c (ix1 k))
        (fun j => (keyGainBlk_apply m c t _).trans (lengthened_apply _ j)) (fun j => (keyBiasBlk_apply m c t _).trans (lengthened_apply _ j)) r j)
    show (0 + k.val) / 64 * 64 + j.val = j.val
    omega
  · show (0 + k.val) % 64 = k.val
    omega

theorem out15_apply (r : Fin 512) (k : Fin 8) :
    out0_15 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r k) = idxWeight (streamArg m c) (projArg m c) (rowAt t r) k := by
  unfold out0_15
  rw [View.canon_cons_unit_lit _ _ _ (by decide)]
  refine congrArg (fun s : EReal => s * Ideal.ofBits .f32 0x3EB504F3#32) ((cut_apply 64 (k0_pay42 (F := Ideal) (projT m c t)) slices_S512x128_o0_64_S512x8 r k (by omega)).trans ?_)
  refine (cut_apply 512 (projT m c t) slices_S512x2176_o0_512_S512x128 r _ (by show 512 + (64 + k.val) < 2176; omega)).trans ?_
  refine (congrArg (fun s : Fin 2176 => projT m c t (ix2 r s)) (Fin.ext ?_)).trans (projT_early m c t r ⟨576 + k.val, by omega⟩)
  show 512 + (64 + k.val) = 576 + k.val
  omega

theorem out16_apply (r : Fin 512) (k : Fin 512) :
    out0_16 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r k) = stickQuery (streamArg m c) (projArg m c) (rowAt t r) k := by
  unfold out0_16
  rw [View.canon_cons_unit_lit _ _ _ (by decide)]
  refine congrArg (fun s : EReal => s * Ideal.ofBits .f32 0x3E000000#32) ((cut_apply 640 (projT m c t) slices_S512x2176_o0_640_S512x512 r k (by omega)).trans ?_)
  refine (congrArg (fun s : Fin 2176 => projT m c t (ix2 r s)) (Fin.ext ?_)).trans ((projT_late m c t r ⟨0 + k.val, by omega⟩).trans (congrArg (rowsOf m c t r) (Fin.ext ?_)))
  · show 640 + k.val = 640 + (0 + k.val)
    omega
  · show 584 + (0 + k.val) = 584 + k.val
    omega

theorem out17_apply (r : Fin 512) (k : Fin 512) :
    out0_17 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r k) = stickKey (streamArg m c) (projArg m c) (rowAt t r) k := by
  unfold out0_17
  rw [View.canon_cons_unit_lit _ _ _ (by decide)]
  refine (cut_apply 1152 (projT m c t) slices_S512x2176_o0_1152_S512x512 r k (by omega)).trans ?_
  refine (congrArg (fun s : Fin 2176 => projT m c t (ix2 r s)) (Fin.ext ?_)).trans ((projT_late m c t r ⟨512 + k.val, by omega⟩).trans (congrArg (rowsOf m c t r) (Fin.ext ?_)))
  · show 1152 + k.val = 640 + (512 + k.val)
    omega
  · show 584 + (512 + k.val) = 1096 + k.val
    omega

theorem out18_apply (r : Fin 512) (k : Fin 512) :
    out0_18 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r k) = stickValue (streamArg m c) (projArg m c) (rowAt t r) k := by
  unfold out0_18
  rw [View.canon_cons_unit_lit _ _ _ (by decide)]
  refine (cut_apply 1664 (projT m c t) slices_S512x2176_o0_1664_S512x512 r k (by omega)).trans ?_
  refine (congrArg (fun s : Fin 2176 => projT m c t (ix2 r s)) (Fin.ext ?_)).trans ((projT_late m c t r ⟨1024 + k.val, by omega⟩).trans (congrArg (rowsOf m c t r) (Fin.ext ?_)))
  · show 1664 + k.val = 640 + (1024 + k.val)
    omega
  · show 584 + (1024 + k.val) = 1608 + k.val
    omega

/-- The nine output arrays after the call. -/
theorem covers10 : (cfg0.win 10).Covers := by
  refine ⟨(by decide : ∀ a, 0 < S512x1024.size a), fun β => ?_⟩
  have h0 : (β (0 : Fin 2)).val < (32768 + 512 - 1) / 512 := (β (0 : Fin 2)).isLt
  have h1 : (β (1 : Fin 2)).val < (1024 + 1024 - 1) / 1024 := (β (1 : Fin 2)).isLt
  have hN : cfg0.grid.N = 64 := rfl
  refine ⟨⟨(β (0 : Fin 2)).val, by rw [hN]; omega⟩, flush0_10 _, fun a => ⟨?_, .inl rfl⟩⟩
  show cc0_transform_10 (grid0.coords _) a = _
  rw [ix_out10]
  match a with
  | ⟨0, _⟩ => rfl
  | ⟨1, _⟩ => show 0 = (β (1 : Fin 2)).val; omega

theorem array10 : (dats m 0 c).arrAt 10 cfg0.N = attQuerys m c := by
  refine (dats m 0 c).arrAt_eq_of_covers 10 _ covers10 fun t hf y => ?_
  obtain ⟨r, k, rfl⟩ : ∃ (r : Fin 512) (k : Fin 1024), y = (ix2 r k : S512x1024.Idx) := ⟨y (0 : Fin 2), y (1 : Fin 2), ValueIdx.eq_ix2 y⟩
  show (dats m 0 c).after 10 t (ix2 r k) = _
  rw [after0_10]
  have e0 : ((cfg0.win 10).blk t).view.emb (ix2 r k) (0 : Fin 2) = rowAt t r := by
    refine Fin.ext ?_
    show cc0_transform_10 (grid0.coords t) 0 * 512 + 1 * r.val = t.val * 512 + r.val
    rw [ix_out10]
    show t.val * 512 + 1 * r.val = _
    omega
  have e1 : ((cfg0.win 10).blk t).view.emb (ix2 r k) (1 : Fin 2) = k := by
    refine Fin.ext ?_
    show cc0_transform_10 (grid0.coords t) 1 * 1024 + 1 * k.val = _
    rw [ix_out10]
    show 0 * 1024 + 1 * k.val = k.val
    omega
  refine (out10_apply m c t r k).trans ?_
  unfold attQuerys
  rw [e0, e1]

theorem covers11 : (cfg0.win 11).Covers := by
  refine ⟨(by decide : ∀ a, 0 < S512x512.size a), fun β => ?_⟩
  have h0 : (β (0 : Fin 2)).val < (32768 + 512 - 1) / 512 := (β (0 : Fin 2)).isLt
  have h1 : (β (1 : Fin 2)).val < (512 + 512 - 1) / 512 := (β (1 : Fin 2)).isLt
  have hN : cfg0.grid.N = 64 := rfl
  refine ⟨⟨(β (0 : Fin 2)).val, by rw [hN]; omega⟩, flush0_11 _, fun a => ⟨?_, .inl rfl⟩⟩
  show cc0_transform_11 (grid0.coords _) a = _
  rw [ix_out11]
  match a with
  | ⟨0, _⟩ => rfl
  | ⟨1, _⟩ => show 0 = (β (1 : Fin 2)).val; omega

theorem array11 : (dats m 0 c).arrAt 11 cfg0.N = idxQuerys m c := by
  refine (dats m 0 c).arrAt_eq_of_covers 11 _ covers11 fun t hf y => ?_
  obtain ⟨r, k, rfl⟩ : ∃ (r : Fin 512) (k : Fin 512), y = (ix2 r k : S512x512.Idx) := ⟨y (0 : Fin 2), y (1 : Fin 2), ValueIdx.eq_ix2 y⟩
  show (dats m 0 c).after 11 t (ix2 r k) = _
  rw [after0_11]
  have e0 : ((cfg0.win 11).blk t).view.emb (ix2 r k) (0 : Fin 2) = rowAt t r := by
    refine Fin.ext ?_
    show cc0_transform_11 (grid0.coords t) 0 * 512 + 1 * r.val = t.val * 512 + r.val
    rw [ix_out11]
    show t.val * 512 + 1 * r.val = _
    omega
  have e1 : ((cfg0.win 11).blk t).view.emb (ix2 r k) (1 : Fin 2) = k := by
    refine Fin.ext ?_
    show cc0_transform_11 (grid0.coords t) 1 * 512 + 1 * k.val = _
    rw [ix_out11]
    show 0 * 512 + 1 * k.val = k.val
    omega
  refine (out11_apply m c t r k).trans ?_
  unfold idxQuerys
  rw [e0, e1]

theorem covers12 : (cfg0.win 12).Covers := by
  refine ⟨(by decide : ∀ a, 0 < S512x256.size a), fun β => ?_⟩
  have h0 : (β (0 : Fin 2)).val < (32768 + 512 - 1) / 512 := (β (0 : Fin 2)).isLt
  have h1 : (β (1 : Fin 2)).val < (256 + 256 - 1) / 256 := (β (1 : Fin 2)).isLt
  have hN : cfg0.grid.N = 64 := rfl
  refine ⟨⟨(β (0 : Fin 2)).val, by rw [hN]; omega⟩, flush0_12 _, fun a => ⟨?_, .inl rfl⟩⟩
  show cc0_transform_12 (grid0.coords _) a = _
  rw [ix_out12]
  match a with
  | ⟨0, _⟩ => rfl
  | ⟨1, _⟩ => show 0 = (β (1 : Fin 2)).val; omega

theorem array12 : (dats m 0 c).arrAt 12 cfg0.N = attKeys m c := by
  refine (dats m 0 c).arrAt_eq_of_covers 12 _ covers12 fun t hf y => ?_
  obtain ⟨r, k, rfl⟩ : ∃ (r : Fin 512) (k : Fin 256), y = (ix2 r k : S512x256.Idx) := ⟨y (0 : Fin 2), y (1 : Fin 2), ValueIdx.eq_ix2 y⟩
  show (dats m 0 c).after 12 t (ix2 r k) = _
  rw [after0_12]
  have e0 : ((cfg0.win 12).blk t).view.emb (ix2 r k) (0 : Fin 2) = rowAt t r := by
    refine Fin.ext ?_
    show cc0_transform_12 (grid0.coords t) 0 * 512 + 1 * r.val = t.val * 512 + r.val
    rw [ix_out12]
    show t.val * 512 + 1 * r.val = _
    omega
  have e1 : ((cfg0.win 12).blk t).view.emb (ix2 r k) (1 : Fin 2) = k := by
    refine Fin.ext ?_
    show cc0_transform_12 (grid0.coords t) 1 * 256 + 1 * k.val = _
    rw [ix_out12]
    show 0 * 256 + 1 * k.val = k.val
    omega
  refine (out12_apply m c t r k).trans ?_
  unfold attKeys
  rw [e0, e1]

theorem covers13 : (cfg0.win 13).Covers := by
  refine ⟨(by decide : ∀ a, 0 < S512x256.size a), fun β => ?_⟩
  have h0 : (β (0 : Fin 2)).val < (32768 + 512 - 1) / 512 := (β (0 : Fin 2)).isLt
  have h1 : (β (1 : Fin 2)).val < (256 + 256 - 1) / 256 := (β (1 : Fin 2)).isLt
  have hN : cfg0.grid.N = 64 := rfl
  refine ⟨⟨(β (0 : Fin 2)).val, by rw [hN]; omega⟩, flush0_13 _, fun a => ⟨?_, .inl rfl⟩⟩
  show cc0_transform_13 (grid0.coords _) a = _
  rw [ix_out13]
  match a with
  | ⟨0, _⟩ => rfl
  | ⟨1, _⟩ => show 0 = (β (1 : Fin 2)).val; omega

theorem array13 : (dats m 0 c).arrAt 13 cfg0.N = attValues m c := by
  refine (dats m 0 c).arrAt_eq_of_covers 13 _ covers13 fun t hf y => ?_
  obtain ⟨r, k, rfl⟩ : ∃ (r : Fin 512) (k : Fin 256), y = (ix2 r k : S512x256.Idx) := ⟨y (0 : Fin 2), y (1 : Fin 2), ValueIdx.eq_ix2 y⟩
  show (dats m 0 c).after 13 t (ix2 r k) = _
  rw [after0_13]
  have e0 : ((cfg0.win 13).blk t).view.emb (ix2 r k) (0 : Fin 2) = rowAt t r := by
    refine Fin.ext ?_
    show cc0_transform_13 (grid0.coords t) 0 * 512 + 1 * r.val = t.val * 512 + r.val
    rw [ix_out13]
    show t.val * 512 + 1 * r.val = _
    omega
  have e1 : ((cfg0.win 13).blk t).view.emb (ix2 r k) (1 : Fin 2) = k := by
    refine Fin.ext ?_
    show cc0_transform_13 (grid0.coords t) 1 * 256 + 1 * k.val = _
    rw [ix_out13]
    show 0 * 256 + 1 * k.val = k.val
    omega
  refine (out13_apply m c t r k).trans ?_
  unfold attValues
  rw [e0, e1]

theorem covers14 : (cfg0.win 14).Covers := by
  refine ⟨(by decide : ∀ a, 0 < S512x64.size a), fun β => ?_⟩
  have h0 : (β (0 : Fin 2)).val < (32768 + 512 - 1) / 512 := (β (0 : Fin 2)).isLt
  have h1 : (β (1 : Fin 2)).val < (64 + 64 - 1) / 64 := (β (1 : Fin 2)).isLt
  have hN : cfg0.grid.N = 64 := rfl
  refine ⟨⟨(β (0 : Fin 2)).val, by rw [hN]; omega⟩, flush0_14 _, fun a => ⟨?_, .inl rfl⟩⟩
  show cc0_transform_14 (grid0.coords _) a = _
  rw [ix_out14]
  match a with
  | ⟨0, _⟩ => rfl
  | ⟨1, _⟩ => show 0 = (β (1 : Fin 2)).val; omega

theorem array14 : (dats m 0 c).arrAt 14 cfg0.N = idxKeys m c := by
  refine (dats m 0 c).arrAt_eq_of_covers 14 _ covers14 fun t hf y => ?_
  obtain ⟨r, k, rfl⟩ : ∃ (r : Fin 512) (k : Fin 64), y = (ix2 r k : S512x64.Idx) := ⟨y (0 : Fin 2), y (1 : Fin 2), ValueIdx.eq_ix2 y⟩
  show (dats m 0 c).after 14 t (ix2 r k) = _
  rw [after0_14]
  have e0 : ((cfg0.win 14).blk t).view.emb (ix2 r k) (0 : Fin 2) = rowAt t r := by
    refine Fin.ext ?_
    show cc0_transform_14 (grid0.coords t) 0 * 512 + 1 * r.val = t.val * 512 + r.val
    rw [ix_out14]
    show t.val * 512 + 1 * r.val = _
    omega
  have e1 : ((cfg0.win 14).blk t).view.emb (ix2 r k) (1 : Fin 2) = k := by
    refine Fin.ext ?_
    show cc0_transform_14 (grid0.coords t) 1 * 64 + 1 * k.val = _
    rw [ix_out14]
    show 0 * 64 + 1 * k.val = k.val
    omega
  refine (out14_apply m c t r k).trans ?_
  unfold idxKeys
  rw [e0, e1]

theorem covers15 : (cfg0.win 15).Covers := by
  refine ⟨(by decide : ∀ a, 0 < S512x8.size a), fun β => ?_⟩
  have h0 : (β (0 : Fin 2)).val < (32768 + 512 - 1) / 512 := (β (0 : Fin 2)).isLt
  have h1 : (β (1 : Fin 2)).val < (8 + 8 - 1) / 8 := (β (1 : Fin 2)).isLt
  have hN : cfg0.grid.N = 64 := rfl
  refine ⟨⟨(β (0 : Fin 2)).val, by rw [hN]; omega⟩, flush0_15 _, fun a => ⟨?_, .inl rfl⟩⟩
  show cc0_transform_15 (grid0.coords _) a = _
  rw [ix_out15]
  match a with
  | ⟨0, _⟩ => rfl
  | ⟨1, _⟩ => show 0 = (β (1 : Fin 2)).val; omega

theorem array15 : (dats m 0 c).arrAt 15 cfg0.N = idxWeights m c := by
  refine (dats m 0 c).arrAt_eq_of_covers 15 _ covers15 fun t hf y => ?_
  obtain ⟨r, k, rfl⟩ : ∃ (r : Fin 512) (k : Fin 8), y = (ix2 r k : S512x8.Idx) := ⟨y (0 : Fin 2), y (1 : Fin 2), ValueIdx.eq_ix2 y⟩
  show (dats m 0 c).after 15 t (ix2 r k) = _
  rw [after0_15]
  have e0 : ((cfg0.win 15).blk t).view.emb (ix2 r k) (0 : Fin 2) = rowAt t r := by
    refine Fin.ext ?_
    show cc0_transform_15 (grid0.coords t) 0 * 512 + 1 * r.val = t.val * 512 + r.val
    rw [ix_out15]
    show t.val * 512 + 1 * r.val = _
    omega
  have e1 : ((cfg0.win 15).blk t).view.emb (ix2 r k) (1 : Fin 2) = k := by
    refine Fin.ext ?_
    show cc0_transform_15 (grid0.coords t) 1 * 8 + 1 * k.val = _
    rw [ix_out15]
    show 0 * 8 + 1 * k.val = k.val
    omega
  refine (out15_apply m c t r k).trans ?_
  unfold idxWeights
  rw [e0, e1]

theorem covers16 : (cfg0.win 16).Covers := by
  refine ⟨(by decide : ∀ a, 0 < S512x512.size a), fun β => ?_⟩
  have h0 : (β (0 : Fin 2)).val < (32768 + 512 - 1) / 512 := (β (0 : Fin 2)).isLt
  have h1 : (β (1 : Fin 2)).val < (512 + 512 - 1) / 512 := (β (1 : Fin 2)).isLt
  have hN : cfg0.grid.N = 64 := rfl
  refine ⟨⟨(β (0 : Fin 2)).val, by rw [hN]; omega⟩, flush0_16 _, fun a => ⟨?_, .inl rfl⟩⟩
  show cc0_transform_16 (grid0.coords _) a = _
  rw [ix_out16]
  match a with
  | ⟨0, _⟩ => rfl
  | ⟨1, _⟩ => show 0 = (β (1 : Fin 2)).val; omega

theorem array16 : (dats m 0 c).arrAt 16 cfg0.N = stickQuerys m c := by
  refine (dats m 0 c).arrAt_eq_of_covers 16 _ covers16 fun t hf y => ?_
  obtain ⟨r, k, rfl⟩ : ∃ (r : Fin 512) (k : Fin 512), y = (ix2 r k : S512x512.Idx) := ⟨y (0 : Fin 2), y (1 : Fin 2), ValueIdx.eq_ix2 y⟩
  show (dats m 0 c).after 16 t (ix2 r k) = _
  rw [after0_16]
  have e0 : ((cfg0.win 16).blk t).view.emb (ix2 r k) (0 : Fin 2) = rowAt t r := by
    refine Fin.ext ?_
    show cc0_transform_16 (grid0.coords t) 0 * 512 + 1 * r.val = t.val * 512 + r.val
    rw [ix_out16]
    show t.val * 512 + 1 * r.val = _
    omega
  have e1 : ((cfg0.win 16).blk t).view.emb (ix2 r k) (1 : Fin 2) = k := by
    refine Fin.ext ?_
    show cc0_transform_16 (grid0.coords t) 1 * 512 + 1 * k.val = _
    rw [ix_out16]
    show 0 * 512 + 1 * k.val = k.val
    omega
  refine (out16_apply m c t r k).trans ?_
  unfold stickQuerys
  rw [e0, e1]

theorem covers17 : (cfg0.win 17).Covers := by
  refine ⟨(by decide : ∀ a, 0 < S512x512.size a), fun β => ?_⟩
  have h0 : (β (0 : Fin 2)).val < (32768 + 512 - 1) / 512 := (β (0 : Fin 2)).isLt
  have h1 : (β (1 : Fin 2)).val < (512 + 512 - 1) / 512 := (β (1 : Fin 2)).isLt
  have hN : cfg0.grid.N = 64 := rfl
  refine ⟨⟨(β (0 : Fin 2)).val, by rw [hN]; omega⟩, flush0_17 _, fun a => ⟨?_, .inl rfl⟩⟩
  show cc0_transform_17 (grid0.coords _) a = _
  rw [ix_out17]
  match a with
  | ⟨0, _⟩ => rfl
  | ⟨1, _⟩ => show 0 = (β (1 : Fin 2)).val; omega

theorem array17 : (dats m 0 c).arrAt 17 cfg0.N = stickKeys m c := by
  refine (dats m 0 c).arrAt_eq_of_covers 17 _ covers17 fun t hf y => ?_
  obtain ⟨r, k, rfl⟩ : ∃ (r : Fin 512) (k : Fin 512), y = (ix2 r k : S512x512.Idx) := ⟨y (0 : Fin 2), y (1 : Fin 2), ValueIdx.eq_ix2 y⟩
  show (dats m 0 c).after 17 t (ix2 r k) = _
  rw [after0_17]
  have e0 : ((cfg0.win 17).blk t).view.emb (ix2 r k) (0 : Fin 2) = rowAt t r := by
    refine Fin.ext ?_
    show cc0_transform_17 (grid0.coords t) 0 * 512 + 1 * r.val = t.val * 512 + r.val
    rw [ix_out17]
    show t.val * 512 + 1 * r.val = _
    omega
  have e1 : ((cfg0.win 17).blk t).view.emb (ix2 r k) (1 : Fin 2) = k := by
    refine Fin.ext ?_
    show cc0_transform_17 (grid0.coords t) 1 * 512 + 1 * k.val = _
    rw [ix_out17]
    show 0 * 512 + 1 * k.val = k.val
    omega
  refine (out17_apply m c t r k).trans ?_
  unfold stickKeys
  rw [e0, e1]

theorem covers18 : (cfg0.win 18).Covers := by
  refine ⟨(by decide : ∀ a, 0 < S512x512.size a), fun β => ?_⟩
  have h0 : (β (0 : Fin 2)).val < (32768 + 512 - 1) / 512 := (β (0 : Fin 2)).isLt
  have h1 : (β (1 : Fin 2)).val < (512 + 512 - 1) / 512 := (β (1 : Fin 2)).isLt
  have hN : cfg0.grid.N = 64 := rfl
  refine ⟨⟨(β (0 : Fin 2)).val, by rw [hN]; omega⟩, flush0_18 _, fun a => ⟨?_, .inl rfl⟩⟩
  show cc0_transform_18 (grid0.coords _) a = _
  rw [ix_out18]
  match a with
  | ⟨0, _⟩ => rfl
  | ⟨1, _⟩ => show 0 = (β (1 : Fin 2)).val; omega

theorem array18 : (dats m 0 c).arrAt 18 cfg0.N = stickValues m c := by
  refine (dats m 0 c).arrAt_eq_of_covers 18 _ covers18 fun t hf y => ?_
  obtain ⟨r, k, rfl⟩ : ∃ (r : Fin 512) (k : Fin 512), y = (ix2 r k : S512x512.Idx) := ⟨y (0 : Fin 2), y (1 : Fin 2), ValueIdx.eq_ix2 y⟩
  show (dats m 0 c).after 18 t (ix2 r k) = _
  rw [after0_18]
  have e0 : ((cfg0.win 18).blk t).view.emb (ix2 r k) (0 : Fin 2) = rowAt t r := by
    refine Fin.ext ?_
    show cc0_transform_18 (grid0.coords t) 0 * 512 + 1 * r.val = t.val * 512 + r.val
    rw [ix_out18]
    show t.val * 512 + 1 * r.val = _
    omega
  have e1 : ((cfg0.win 18).blk t).view.emb (ix2 r k) (1 : Fin 2) = k := by
    refine Fin.ext ?_
    show cc0_transform_18 (grid0.coords t) 1 * 512 + 1 * k.val = _
    rw [ix_out18]
    show 0 * 512 + 1 * k.val = k.val
    omega
  refine (out18_apply m c t r k).trans ?_
  unfold stickValues
  rw [e0, e1]

end Cert.Kernel9Ideal.Hand

end
-- ==== Proof.Even.Reference.lean ====
/- The reference of the projections the first layer's mixer starts from, over the extended reals: every entry of its nine results. -/
module

public import proofs.«01_k».proof.Proof.Even.Spec
public import proofs.«01_k».proof.Proof.Gen.Reference9Ideal.Read

@[expose] public section

set_option maxRecDepth 16384
set_option backward.proofsInPublic true

noncomputable section

namespace Cert.Reference9Ideal.Hand

open Cert.Reference9Ideal Cert.Reference9Ideal.Gen Cert.Reference9Ideal.Read Cert.Even
open Idealize.ShloMosaic hiding ix0 ix1 ix2 ix3 ix4 ix5
open Idealize.ShloMosaic.TcCoe Idealize.ShloMosaic.ValueIdx

/-- An index is known by its coordinates. -/
theorem one_ext {A : Nat} (y : (⟨1, ![A]⟩ : Shape).Idx) (a : Fin A) (h0 : (y 0).val = a.val) : y = ix1 a :=
  funext fun e => Fin.ext (match e with | ⟨0, _⟩ => h0)
theorem two_ext {A B : Nat} (y : (⟨2, ![A, B]⟩ : Shape).Idx) (a : Fin A) (b : Fin B) (h0 : (y 0).val = a.val) (h1 : (y 1).val = b.val) : y = ix2 a b :=
  funext fun e => Fin.ext (match e with | ⟨0, _⟩ => h0 | ⟨1, _⟩ => h1)
theorem three_ext {A B C : Nat} (y : (⟨3, ![A, B, C]⟩ : Shape).Idx) (a : Fin A) (b : Fin B) (c : Fin C) (h0 : (y 0).val = a.val) (h1 : (y 1).val = b.val)
    (h2 : (y 2).val = c.val) : y = ix3 a b c :=
  funext fun e => Fin.ext (match e with | ⟨0, _⟩ => h0 | ⟨1, _⟩ => h1 | ⟨2, _⟩ => h2)
theorem four_ext {A B C D : Nat} (y : (⟨4, ![A, B, C, D]⟩ : Shape).Idx) (a : Fin A) (b : Fin B) (c : Fin C) (d : Fin D) (h0 : (y 0).val = a.val)
    (h1 : (y 1).val = b.val) (h2 : (y 2).val = c.val) (h3 : (y 3).val = d.val) : y = ix4 a b c d :=
  funext fun e => Fin.ext (match e with | ⟨0, _⟩ => h0 | ⟨1, _⟩ => h1 | ⟨2, _⟩ => h2 | ⟨3, _⟩ => h3)

/-- The sequence row `R` belongs to. -/
def seq (R : Fin 32768) : Fin 4 := ⟨R.val / 8192, by omega⟩
theorem whole (R : Fin 32768) : R.val / 8192 * 8192 + R.val % 8192 = R.val := by omega

variable (x0 : FVec Ideal S32768x1024 .f32) (x1 : FVec Ideal S1024x2120 .f32) (x2 : FVec Ideal S256 .f32) (x3 x4 : FVec Ideal S256x512 .f32) (x5 x6 : FVec Ideal S64 .f32)

/-- The projections. -/
theorem v2_row (R : Fin 32768) (d : Fin 2120) : val_main_v2 (F := Ideal) x0 x1 (ix3 (seq R) (place R) d) = row x0 x1 R d := by
  rw [val_main_v2_apply]
  refine Finset.sum_congr rfl fun k _ => congrArg₂ (fun a b : EReal => a * b) ?_ (congrArg x1 (two_ext _ _ _ rfl rfl))
  rw [val_main_v0_apply]
  have hk := k.isLt
  refine congrArg x0 (two_ext _ _ _ ?_ ?_)
  · show ((R.val / 8192 * 8192 + R.val % 8192) * 1024 + k.val) / 1024 = R.val
    rw [whole R]
    omega
  · show ((R.val / 8192 * 8192 + R.val % 8192) * 1024 + k.val) % 1024 = k.val
    omega

/-- Their eight pieces. -/
theorem v3_row (R : Fin 32768) (k : Fin 256) : val_main_v3 (F := Ideal) x0 x1 (ix3 (seq R) (place R) k) = row x0 x1 R ⟨k.val, by omega⟩ := by
  rw [val_main_v3_apply]
  exact (congrArg (val_main_v2 (F := Ideal) x0 x1) (three_ext _ _ _ _ (by first | rfl | exact Nat.zero_add _) (by first | rfl | exact Nat.zero_add _) (by first | rfl | exact Nat.zero_add _))).trans (v2_row x0 x1 R _)
theorem v4_row (R : Fin 32768) (k : Fin 128) : val_main_v4 (F := Ideal) x0 x1 (ix3 (seq R) (place R) k) = row x0 x1 R ⟨256 + k.val, by omega⟩ := by
  rw [val_main_v4_apply]
  exact (congrArg (val_main_v2 (F := Ideal) x0 x1) (three_ext _ _ _ _ (by first | rfl | exact Nat.zero_add _) (by first | rfl | exact Nat.zero_add _) (by first | rfl | exact Nat.zero_add _))).trans (v2_row x0 x1 R _)
theorem v5_row (R : Fin 32768) (k : Fin 128) : val_main_v5 (F := Ideal) x0 x1 (ix3 (seq R) (place R) k) = row x0 x1 R ⟨384 + k.val, by omega⟩ := by
  rw [val_main_v5_apply]
  exact (congrArg (val_main_v2 (F := Ideal) x0 x1) (three_ext _ _ _ _ (by first | rfl | exact Nat.zero_add _) (by first | rfl | exact Nat.zero_add _) (by first | rfl | exact Nat.zero_add _))).trans (v2_row x0 x1 R _)
theorem v6_row (R : Fin 32768) (k : Fin 64) : val_main_v6 (F := Ideal) x0 x1 (ix3 (seq R) (place R) k) = row x0 x1 R ⟨512 + k.val, by omega⟩ := by
  rw [val_main_v6_apply]
  exact (congrArg (val_main_v2 (F := Ideal) x0 x1) (three_ext _ _ _ _ (by first | rfl | exact Nat.zero_add _) (by first | rfl | exact Nat.zero_add _) (by first | rfl | exact Nat.zero_add _))).trans (v2_row x0 x1 R _)
theorem v7_row (R : Fin 32768) (k : Fin 8) : val_main_v7 (F := Ideal) x0 x1 (ix3 (seq R) (place R) k) = row x0 x1 R ⟨576 + k.val, by omega⟩ := by
  rw [val_main_v7_apply]
  exact (congrArg (val_main_v2 (F := Ideal) x0 x1) (three_ext _ _ _ _ (by first | rfl | exact Nat.zero_add _) (by first | rfl | exact Nat.zero_add _) (by first | rfl | exact Nat.zero_add _))).trans (v2_row x0 x1 R _)
theorem v8_row (R : Fin 32768) (k : Fin 512) : val_main_v8 (F := Ideal) x0 x1 (ix3 (seq R) (place R) k) = row x0 x1 R ⟨584 + k.val, by omega⟩ := by
  rw [val_main_v8_apply]
  exact (congrArg (val_main_v2 (F := Ideal) x0 x1) (three_ext _ _ _ _ (by first | rfl | exact Nat.zero_add _) (by first | rfl | exact Nat.zero_add _) (by first | rfl | exact Nat.zero_add _))).trans (v2_row x0 x1 R _)
theorem v9_row (R : Fin 32768) (k : Fin 512) : val_main_v9 (F := Ideal) x0 x1 (ix3 (seq R) (place R) k) = row x0 x1 R ⟨1096 + k.val, by omega⟩ := by
  rw [val_main_v9_apply]
  exact (congrArg (val_main_v2 (F := Ideal) x0 x1) (three_ext _ _ _ _ (by first | rfl | exact Nat.zero_add _) (by first | rfl | exact Nat.zero_add _) (by first | rfl | exact Nat.zero_add _))).trans (v2_row x0 x1 R _)
theorem v10_row (R : Fin 32768) (k : Fin 512) : val_main_v10 (F := Ideal) x0 x1 (ix3 (seq R) (place R) k) = row x0 x1 R ⟨1608 + k.val, by omega⟩ := by
  rw [val_main_v10_apply]
  exact (congrArg (val_main_v2 (F := Ideal) x0 x1) (three_ext _ _ _ _ (by first | rfl | exact Nat.zero_add _) (by first | rfl | exact Nat.zero_add _) (by first | rfl | exact Nat.zero_add _))).trans (v2_row x0 x1 R _)

/-- The eight pairs' cosines and sines, at each of the four places they are drawn. -/
theorem cos0 (s : Fin 8192) (j : Fin 8) : val_main_v37 (F := Ideal) (ix2 s j) = cosine s j := by
  rw [val_main_v37_apply, val_main_v36_apply, val_main_v34_apply, val_main_v32_apply, val_main_v35_apply, val_main_v33_apply, val_main_v31_apply, val_main_v30_apply, val_main_v29_apply, val_main_v28_apply, val_main_v27_apply]
  rfl
theorem sin0 (s : Fin 8192) (j : Fin 8) : val_main_v39 (F := Ideal) (ix2 s j) = sine s j := by
  rw [val_main_v39_apply, val_main_v36_apply, val_main_v34_apply, val_main_v32_apply, val_main_v35_apply, val_main_v33_apply, val_main_v31_apply, val_main_v30_apply, val_main_v29_apply, val_main_v28_apply, val_main_v27_apply]
  rfl
theorem cos1 (s : Fin 8192) (j : Fin 8) : val_main_v73 (F := Ideal) (ix2 s j) = cosine s j := by
  rw [val_main_v73_apply, val_main_v72_apply, val_main_v70_apply, val_main_v68_apply, val_main_v71_apply, val_main_v69_apply, val_main_v67_apply, val_main_v66_apply, val_main_v65_apply, val_main_v64_apply, val_main_v63_apply]
  rfl
theorem sin1 (s : Fin 8192) (j : Fin 8) : val_main_v75 (F := Ideal) (ix2 s j) = sine s j := by
  rw [val_main_v75_apply, val_main_v72_apply, val_main_v70_apply, val_main_v68_apply, val_main_v71_apply, val_main_v69_apply, val_main_v67_apply, val_main_v66_apply, val_main_v65_apply, val_main_v64_apply, val_main_v63_apply]
  rfl
theorem cos2 (s : Fin 8192) (j : Fin 8) : val_main_v109 (F := Ideal) (ix2 s j) = cosine s j := by
  rw [val_main_v109_apply, val_main_v108_apply, val_main_v106_apply, val_main_v104_apply, val_main_v107_apply, val_main_v105_apply, val_main_v103_apply, val_main_v102_apply, val_main_v101_apply, val_main_v100_apply, val_main_v99_apply]
  rfl
theorem sin2 (s : Fin 8192) (j : Fin 8) : val_main_v111 (F := Ideal) (ix2 s j) = sine s j := by
  rw [val_main_v111_apply, val_main_v108_apply, val_main_v106_apply, val_main_v104_apply, val_main_v107_apply, val_main_v105_apply, val_main_v103_apply, val_main_v102_apply, val_main_v101_apply, val_main_v100_apply, val_main_v99_apply]
  rfl
theorem cos3 (s : Fin 8192) (j : Fin 8) : val_main_v169 (F := Ideal) (ix2 s j) = cosine s j := by
  rw [val_main_v169_apply, val_main_v168_apply, val_main_v166_apply, val_main_v164_apply, val_main_v167_apply, val_main_v165_apply, val_main_v163_apply, val_main_v162_apply, val_main_v161_apply, val_main_v160_apply, val_main_v159_apply]
  rfl
theorem sin3 (s : Fin 8192) (j : Fin 8) : val_main_v171 (F := Ideal) (ix2 s j) = sine s j := by
  rw [val_main_v171_apply, val_main_v168_apply, val_main_v166_apply, val_main_v164_apply, val_main_v167_apply, val_main_v165_apply, val_main_v163_apply, val_main_v162_apply, val_main_v161_apply, val_main_v160_apply, val_main_v159_apply]
  rfl

/-- Three pieces joined: the first eight entries of a head turned, the next eight turned, and the rest, make a turned head. -/
theorem joined {n : Nat} (A B : FVec Ideal ⟨4, ![4, 8192, n, 8]⟩ .f32) (D : FVec Ideal ⟨4, ![4, 8192, n, 48]⟩ .f32)
    (hc : Shape.Concatenates [⟨4, ![4, 8192, n, 8]⟩, ⟨4, ![4, 8192, n, 8]⟩, ⟨4, ![4, 8192, n, 48]⟩] ⟨4, ![4, 8192, n, 64]⟩ 3)
    (cs sn : Fin 8 → EReal) (T : Fin 64 → EReal) (b : Fin 4) (s : Fin 8192) (h : Fin n)
    (hA : ∀ j : Fin 8, A (ix4 b s h j) = T ⟨j.val, by omega⟩ * cs j - T ⟨8 + j.val, by omega⟩ * sn j)
    (hB : ∀ j : Fin 8, B (ix4 b s h j) = T ⟨8 + j.val, by omega⟩ * cs j + T ⟨j.val, by omega⟩ * sn j)
    (hD : ∀ j : Fin 48, D (ix4 b s h j) = T ⟨16 + j.val, by omega⟩) (j : Fin 64) :
    concatenate ⟨4, ![4, 8192, n, 64]⟩ 3 [⟨_, A⟩, ⟨_, B⟩, ⟨_, D⟩] hc (ix4 b s h j) = turn cs sn T j := by
  unfold turn
  by_cases h8 : j.val < 8
  · rw [dif_pos h8]
    refine (concatenate_apply_piece (t := ⟨4, ![4, 8192, n, 64]⟩) (3 : Fin 4) _ _ _ 0 (by simp) ⟨4, ![4, 8192, n, 8]⟩ A rfl rfl 0 rfl (ix4 b s h ⟨j.val, h8⟩)
      (fun e he => match e with | ⟨0, _⟩ => rfl | ⟨1, _⟩ => rfl | ⟨2, _⟩ => rfl | ⟨3, _⟩ => absurd rfl he) (Nat.zero_add _)).trans ?_
    refine (hA ⟨j.val, h8⟩).trans (congrArg (fun i : Fin 64 => T j * cs ⟨j.val, h8⟩ - T i * sn ⟨j.val, h8⟩) (Fin.ext ?_))
    exact Nat.add_comm 8 j.val
  · rw [dif_neg h8]
    by_cases h16 : j.val < 16
    · rw [dif_pos h16]
      refine (concatenate_apply_piece (t := ⟨4, ![4, 8192, n, 64]⟩) (3 : Fin 4) _ _ _ 1 (by simp) ⟨4, ![4, 8192, n, 8]⟩ B rfl rfl 8 rfl (ix4 b s h ⟨j.val - 8, by omega⟩)
      (fun e he => match e with | ⟨0, _⟩ => rfl | ⟨1, _⟩ => rfl | ⟨2, _⟩ => rfl | ⟨3, _⟩ => absurd rfl he) (by show 8 + (j.val - 8) = j.val; omega)).trans ?_
      refine (hB ⟨j.val - 8, by omega⟩).trans (congrArg (fun i : Fin 64 => T i * cs ⟨j.val - 8, by omega⟩ + T ⟨j.val - 8, by omega⟩ * sn ⟨j.val - 8, by omega⟩) (Fin.ext ?_))
      show 8 + (j.val - 8) = j.val
      omega
    · rw [dif_neg h16]
      refine (concatenate_apply_piece (t := ⟨4, ![4, 8192, n, 64]⟩) (3 : Fin 4) _ _ _ 2 (by simp) ⟨4, ![4, 8192, n, 48]⟩ D rfl rfl 16 rfl (ix4 b s h ⟨j.val - 16, by omega⟩)
      (fun e he => match e with | ⟨0, _⟩ => rfl | ⟨1, _⟩ => rfl | ⟨2, _⟩ => rfl | ⟨3, _⟩ => absurd rfl he) (by show 16 + (j.val - 16) = j.val; omega)).trans ?_
      refine (hD ⟨j.val - 16, by omega⟩).trans (congrArg T (Fin.ext ?_))
      show 16 + (j.val - 16) = j.val
      omega

/-- The heads turned. -/
theorem turned0 (b : Fin 4) (s : Fin 8192) (h : Fin 8) (j : Fin 64) :
    val_main_v58 (F := Ideal) x0 x1 x2 x3 (ix4 b s h j) = turn (cosine s) (sine s) (fun i => val_main_v25 (F := Ideal) x0 x1 x2 x3 (ix4 b s h i)) j := by
  have ht : ∀ {y : S4x8192x8x64.Idx} {i : Fin 64}, (y 0).val = b.val → (y 1).val = s.val → (y 2).val = h.val → (y 3).val = i.val →
      val_main_v25 (F := Ideal) x0 x1 x2 x3 y = val_main_v25 (F := Ideal) x0 x1 x2 x3 (ix4 b s h i) := fun h0 h1 h2 h3 => congrArg _ (four_ext _ _ _ _ _ h0 h1 h2 h3)
  have hc : ∀ {y : S8192x8.Idx} {i : Fin 8}, (y 0).val = s.val → (y 1).val = i.val → val_main_v37 (F := Ideal) y = cosine s i :=
    fun h0 h1 => (congrArg _ (two_ext _ _ _ h0 h1)).trans (cos0 s _)
  have hs : ∀ {y : S8192x8.Idx} {i : Fin 8}, (y 0).val = s.val → (y 1).val = i.val → val_main_v39 (F := Ideal) y = sine s i :=
    fun h0 h1 => (congrArg _ (two_ext _ _ _ h0 h1)).trans (sin0 s _)
  refine joined _ _ _ _ _ _ _ b s h (fun i => ?_) (fun i => ?_) (fun i => ?_) j
  · rw [val_main_v49_apply, val_main_v45_apply, val_main_v41_apply, val_main_v44_apply, val_main_v43_apply, val_main_v38_apply, val_main_v48_apply, val_main_v42_apply, val_main_v47_apply, val_main_v46_apply, val_main_v40_apply]
    exact congrArg₂ (fun u w : EReal => u - w) (congrArg₂ (fun u w : EReal => u * w) (ht rfl rfl rfl (by first | rfl | exact Nat.zero_add _)) (hc rfl rfl)) (congrArg₂ (fun u w : EReal => u * w) (ht rfl rfl rfl rfl) (hs rfl rfl))
  · rw [val_main_v56_apply, val_main_v52_apply, val_main_v42_apply, val_main_v51_apply, val_main_v50_apply, val_main_v38_apply, val_main_v55_apply, val_main_v41_apply, val_main_v54_apply, val_main_v53_apply, val_main_v40_apply]
    exact congrArg₂ (fun u w : EReal => u + w) (congrArg₂ (fun u w : EReal => u * w) (ht rfl rfl rfl rfl) (hc rfl rfl)) (congrArg₂ (fun u w : EReal => u * w) (ht rfl rfl rfl (by first | rfl | exact Nat.zero_add _)) (hs rfl rfl))
  · rw [val_main_v57_apply]
    exact ht rfl rfl rfl rfl
theorem turned1 (b : Fin 4) (s : Fin 8192) (h : Fin 2) (j : Fin 64) :
    val_main_v94 (F := Ideal) x0 x1 (ix4 b s h j) = turn (cosine s) (sine s) (fun i => val_main_v61 (F := Ideal) x0 x1 (ix4 b s h i)) j := by
  have ht : ∀ {y : S4x8192x2x64.Idx} {i : Fin 64}, (y 0).val = b.val → (y 1).val = s.val → (y 2).val = h.val → (y 3).val = i.val →
      val_main_v61 (F := Ideal) x0 x1 y = val_main_v61 (F := Ideal) x0 x1 (ix4 b s h i) := fun h0 h1 h2 h3 => congrArg _ (four_ext _ _ _ _ _ h0 h1 h2 h3)
  have hc : ∀ {y : S8192x8.Idx} {i : Fin 8}, (y 0).val = s.val → (y 1).val = i.val → val_main_v73 (F := Ideal) y = cosine s i :=
    fun h0 h1 => (congrArg _ (two_ext _ _ _ h0 h1)).trans (cos1 s _)
  have hs : ∀ {y : S8192x8.Idx} {i : Fin 8}, (y 0).val = s.val → (y 1).val = i.val → val_main_v75 (F := Ideal) y = sine s i :=
    fun h0 h1 => (congrArg _ (two_ext _ _ _ h0 h1)).trans (sin1 s _)
  refine joined _ _ _ _ _ _ _ b s h (fun i => ?_) (fun i => ?_) (fun i => ?_) j
  · rw [val_main_v85_apply, val_main_v81_apply, val_main_v77_apply, val_main_v80_apply, val_main_v79_apply, val_main_v74_apply, val_main_v84_apply, val_main_v78_apply, val_main_v83_apply, val_main_v82_apply, val_main_v76_apply]
    exact congrArg₂ (fun u w : EReal => u - w) (congrArg₂ (fun u w : EReal => u * w) (ht rfl rfl rfl (by first | rfl | exact Nat.zero_add _)) (hc rfl rfl)) (congrArg₂ (fun u w : EReal => u * w) (ht rfl rfl rfl rfl) (hs rfl rfl))
  · rw [val_main_v92_apply, val_main_v88_apply, val_main_v78_apply, val_main_v87_apply, val_main_v86_apply, val_main_v74_apply, val_main_v91_apply, val_main_v77_apply, val_main_v90_apply, val_main_v89_apply, val_main_v76_apply]
    exact congrArg₂ (fun u w : EReal => u + w) (congrArg₂ (fun u w : EReal => u * w) (ht rfl rfl rfl rfl) (hc rfl rfl)) (congrArg₂ (fun u w : EReal => u * w) (ht rfl rfl rfl (by first | rfl | exact Nat.zero_add _)) (hs rfl rfl))
  · rw [val_main_v93_apply]
    exact ht rfl rfl rfl rfl
theorem turned2 (b : Fin 4) (s : Fin 8192) (h : Fin 8) (j : Fin 64) :
    val_main_v130 (F := Ideal) x0 x1 x2 x4 (ix4 b s h j) = turn (cosine s) (sine s) (fun i => val_main_v97 (F := Ideal) x0 x1 x2 x4 (ix4 b s h i)) j := by
  have ht : ∀ {y : S4x8192x8x64.Idx} {i : Fin 64}, (y 0).val = b.val → (y 1).val = s.val → (y 2).val = h.val → (y 3).val = i.val →
      val_main_v97 (F := Ideal) x0 x1 x2 x4 y = val_main_v97 (F := Ideal) x0 x1 x2 x4 (ix4 b s h i) := fun h0 h1 h2 h3 => congrArg _ (four_ext _ _ _ _ _ h0 h1 h2 h3)
  have hc : ∀ {y : S8192x8.Idx} {i : Fin 8}, (y 0).val = s.val → (y 1).val = i.val → val_main_v109 (F := Ideal) y = cosine s i :=
    fun h0 h1 => (congrArg _ (two_ext _ _ _ h0 h1)).trans (cos2 s _)
  have hs : ∀ {y : S8192x8.Idx} {i : Fin 8}, (y 0).val = s.val → (y 1).val = i.val → val_main_v111 (F := Ideal) y = sine s i :=
    fun h0 h1 => (congrArg _ (two_ext _ _ _ h0 h1)).trans (sin2 s _)
  refine joined _ _ _ _ _ _ _ b s h (fun i => ?_) (fun i => ?_) (fun i => ?_) j
  · rw [val_main_v121_apply, val_main_v117_apply, val_main_v113_apply, val_main_v116_apply, val_main_v115_apply, val_main_v110_apply, val_main_v120_apply, val_main_v114_apply, val_main_v119_apply, val_main_v118_apply, val_main_v112_apply]
    exact congrArg₂ (fun u w : EReal => u - w) (congrArg₂ (fun u w : EReal => u * w) (ht rfl rfl rfl (by first | rfl | exact Nat.zero_add _)) (hc rfl rfl)) (congrArg₂ (fun u w : EReal => u * w) (ht rfl rfl rfl rfl) (hs rfl rfl))
  · rw [val_main_v128_apply, val_main_v124_apply, val_main_v114_apply, val_main_v123_apply, val_main_v122_apply, val_main_v110_apply, val_main_v127_apply, val_main_v113_apply, val_main_v126_apply, val_main_v125_apply, val_main_v112_apply]
    exact congrArg₂ (fun u w : EReal => u + w) (congrArg₂ (fun u w : EReal => u * w) (ht rfl rfl rfl rfl) (hc rfl rfl)) (congrArg₂ (fun u w : EReal => u * w) (ht rfl rfl rfl (by first | rfl | exact Nat.zero_add _)) (hs rfl rfl))
  · rw [val_main_v129_apply]
    exact ht rfl rfl rfl rfl
theorem turned3 (b : Fin 4) (s : Fin 8192) (h : Fin 1) (j : Fin 64) :
    val_main_v190 (F := Ideal) x0 x1 x5 x6 (ix4 b s h j) = turn (cosine s) (sine s) (fun i => val_main_v157 (F := Ideal) x0 x1 x5 x6 (ix4 b s h i)) j := by
  have ht : ∀ {y : S4x8192x1x64.Idx} {i : Fin 64}, (y 0).val = b.val → (y 1).val = s.val → (y 2).val = h.val → (y 3).val = i.val →
      val_main_v157 (F := Ideal) x0 x1 x5 x6 y = val_main_v157 (F := Ideal) x0 x1 x5 x6 (ix4 b s h i) := fun h0 h1 h2 h3 => congrArg _ (four_ext _ _ _ _ _ h0 h1 h2 h3)
  have hc : ∀ {y : S8192x8.Idx} {i : Fin 8}, (y 0).val = s.val → (y 1).val = i.val → val_main_v169 (F := Ideal) y = cosine s i :=
    fun h0 h1 => (congrArg _ (two_ext _ _ _ h0 h1)).trans (cos3 s _)
  have hs : ∀ {y : S8192x8.Idx} {i : Fin 8}, (y 0).val = s.val → (y 1).val = i.val → val_main_v171 (F := Ideal) y = sine s i :=
    fun h0 h1 => (congrArg _ (two_ext _ _ _ h0 h1)).trans (sin3 s _)
  refine joined _ _ _ _ _ _ _ b s h (fun i => ?_) (fun i => ?_) (fun i => ?_) j
  · rw [val_main_v181_apply, val_main_v177_apply, val_main_v173_apply, val_main_v176_apply, val_main_v175_apply, val_main_v170_apply, val_main_v180_apply, val_main_v174_apply, val_main_v179_apply, val_main_v178_apply, val_main_v172_apply]
    exact congrArg₂ (fun u w : EReal => u - w) (congrArg₂ (fun u w : EReal => u * w) (ht rfl rfl rfl (by first | rfl | exact Nat.zero_add _)) (hc rfl rfl)) (congrArg₂ (fun u w : EReal => u * w) (ht rfl rfl rfl rfl) (hs rfl rfl))
  · rw [val_main_v188_apply, val_main_v184_apply, val_main_v174_apply, val_main_v183_apply, val_main_v182_apply, val_main_v170_apply, val_main_v187_apply, val_main_v173_apply, val_main_v186_apply, val_main_v185_apply, val_main_v172_apply]
    exact congrArg₂ (fun u w : EReal => u + w) (congrArg₂ (fun u w : EReal => u * w) (ht rfl rfl rfl rfl) (hc rfl rfl)) (congrArg₂ (fun u w : EReal => u * w) (ht rfl rfl rfl (by first | rfl | exact Nat.zero_add _)) (hs rfl rfl))
  · rw [val_main_v189_apply]
    exact ht rfl rfl rfl rfl

/-- The first 256 projections over the root of their mean square, times the gain. -/
theorem v23_latent (R : Fin 32768) (k : Fin 256) : val_main_v23 (F := Ideal) x0 x1 x2 (ix3 (seq R) (place R) k) = latent (row x0 x1 R) (fun i => x2 (ix1 i)) k := by
  unfold latent
  rw [val_main_v23_apply, val_main_v20_apply, val_main_v22_apply, val_main_v21_apply, val_main_v19_apply, val_main_v18_apply, val_main_v17_apply, val_main_v15_apply,
    val_main_v13_apply, val_main_v12_apply, val_main_v14_apply, val_main_v16_apply]
  refine congrArg₂ (fun u w : EReal => u * w) (congrArg₂ (fun u w : EReal => u * w) (v3_row x0 x1 R k)
    (congrArg (fun t : EReal => Ideal.rsqrt (Ideal.div t (Ideal.ofBits .f32 0x43800000#32) + Ideal.ofBits .f32 0x3727C5AC#32)) ?_)) (congrArg x2 (one_ext _ _ rfl))
  refine (congrArg (fun s : EReal => s + _) Ideal.ofBits_zero_f32).trans ((zero_add _).trans (Finset.sum_congr rfl fun j _ => ?_))
  rw [val_main_v11_apply]
  have e := (congrArg (val_main_v3 (F := Ideal) x0 x1) (three_ext (idx_main_v12 (idx_main_v13 (idx_main_v19 (ix3 (seq R) (place R) k))) j) (seq R) (place R) j rfl rfl rfl)).trans (v3_row x0 x1 R j)
  exact congrArg₂ (fun u w : EReal => u * w) e e

/-- The two sets of queries drawn from them. -/
theorem v24_queries (R : Fin 32768) (d : Fin 512) :
    val_main_v24 (F := Ideal) x0 x1 x2 x3 (ix3 (seq R) (place R) d) = queries (row x0 x1 R) (fun i => x2 (ix1 i)) (fun k d => x3 (ix2 k d)) d := by
  unfold queries
  rw [val_main_v24_apply]
  exact Finset.sum_congr rfl fun k _ => congrArg₂ (fun u w : EReal => u * w) ((congrArg (val_main_v23 (F := Ideal) x0 x1 x2) (three_ext _ _ _ _ rfl rfl rfl)).trans (v23_latent x0 x1 x2 R k))
    (congrArg x3 (two_ext _ _ _ rfl rfl))
theorem v25_queries (R : Fin 32768) (h : Fin 8) (j : Fin 64) :
    val_main_v25 (F := Ideal) x0 x1 x2 x3 (ix4 (seq R) (place R) h j) = queries (row x0 x1 R) (fun i => x2 (ix1 i)) (fun k d => x3 (ix2 k d)) ⟨h.val * 64 + j.val, by omega⟩ := by
  rw [val_main_v25_apply]
  have hh := h.isLt
  have hj := j.isLt
  exact (congrArg (val_main_v24 (F := Ideal) x0 x1 x2 x3) (three_ext _ _ _ _
    (by show ((((R.val / 8192 * 8192 + R.val % 8192) * 8 + h.val) * 64 + j.val) / 4194304) = R.val / 8192
        rw [whole R]; omega)
    (by show ((((R.val / 8192 * 8192 + R.val % 8192) * 8 + h.val) * 64 + j.val) / 512 % 8192) = R.val % 8192
        rw [whole R]; omega)
    (by show ((((R.val / 8192 * 8192 + R.val % 8192) * 8 + h.val) * 64 + j.val) % 512) = h.val * 64 + j.val
        rw [whole R]; omega))).trans (v24_queries x0 x1 x2 x3 R ⟨h.val * 64 + j.val, by omega⟩)
theorem v96_queries (R : Fin 32768) (d : Fin 512) :
    val_main_v96 (F := Ideal) x0 x1 x2 x4 (ix3 (seq R) (place R) d) = queries (row x0 x1 R) (fun i => x2 (ix1 i)) (fun k d => x4 (ix2 k d)) d := by
  unfold queries
  rw [val_main_v96_apply]
  exact Finset.sum_congr rfl fun k _ => congrArg₂ (fun u w : EReal => u * w) ((congrArg (val_main_v23 (F := Ideal) x0 x1 x2) (three_ext _ _ _ _ rfl rfl rfl)).trans (v23_latent x0 x1 x2 R k))
    (congrArg x4 (two_ext _ _ _ rfl rfl))
theorem v97_queries (R : Fin 32768) (h : Fin 8) (j : Fin 64) :
    val_main_v97 (F := Ideal) x0 x1 x2 x4 (ix4 (seq R) (place R) h j) = queries (row x0 x1 R) (fun i => x2 (ix1 i)) (fun k d => x4 (ix2 k d)) ⟨h.val * 64 + j.val, by omega⟩ := by
  rw [val_main_v97_apply]
  have hh := h.isLt
  have hj := j.isLt
  exact (congrArg (val_main_v96 (F := Ideal) x0 x1 x2 x4) (three_ext _ _ _ _
    (by show ((((R.val / 8192 * 8192 + R.val % 8192) * 8 + h.val) * 64 + j.val) / 4194304) = R.val / 8192
        rw [whole R]; omega)
    (by show ((((R.val / 8192 * 8192 + R.val % 8192) * 8 + h.val) * 64 + j.val) / 512 % 8192) = R.val % 8192
        rw [whole R]; omega)
    (by show ((((R.val / 8192 * 8192 + R.val % 8192) * 8 + h.val) * 64 + j.val) % 512) = h.val * 64 + j.val
        rw [whole R]; omega))).trans (v96_queries x0 x1 x2 x4 R ⟨h.val * 64 + j.val, by omega⟩)

/-- The heads of keys and of values. -/
theorem v61_row (R : Fin 32768) (h : Fin 2) (j : Fin 64) :
    val_main_v61 (F := Ideal) x0 x1 (ix4 (seq R) (place R) h j) = row x0 x1 R ⟨256 + h.val * 64 + j.val, by omega⟩ := by
  rw [val_main_v61_apply]
  have hh := h.isLt
  have hj := j.isLt
  exact ((congrArg (val_main_v4 (F := Ideal) x0 x1) (three_ext _ _ _ _
    (by show ((((R.val / 8192 * 8192 + R.val % 8192) * 2 + h.val) * 64 + j.val) / 1048576) = R.val / 8192
        rw [whole R]; omega)
    (by show ((((R.val / 8192 * 8192 + R.val % 8192) * 2 + h.val) * 64 + j.val) / 128 % 8192) = R.val % 8192
        rw [whole R]; omega)
    (by show ((((R.val / 8192 * 8192 + R.val % 8192) * 2 + h.val) * 64 + j.val) % 128) = h.val * 64 + j.val
        rw [whole R]; omega))).trans (v4_row x0 x1 R ⟨h.val * 64 + j.val, by omega⟩)).trans
    (congrArg (row x0 x1 R) (Fin.ext (Nat.add_assoc 256 (h.val * 64) j.val).symm))
theorem v95_row (R : Fin 32768) (h : Fin 2) (j : Fin 64) :
    val_main_v95 (F := Ideal) x0 x1 (ix4 (seq R) (place R) h j) = row x0 x1 R ⟨384 + h.val * 64 + j.val, by omega⟩ := by
  rw [val_main_v95_apply]
  have hh := h.isLt
  have hj := j.isLt
  exact ((congrArg (val_main_v5 (F := Ideal) x0 x1) (three_ext _ _ _ _
    (by show ((((R.val / 8192 * 8192 + R.val % 8192) * 2 + h.val) * 64 + j.val) / 1048576) = R.val / 8192
        rw [whole R]; omega)
    (by show ((((R.val / 8192 * 8192 + R.val % 8192) * 2 + h.val) * 64 + j.val) / 128 % 8192) = R.val % 8192
        rw [whole R]; omega)
    (by show ((((R.val / 8192 * 8192 + R.val % 8192) * 2 + h.val) * 64 + j.val) % 128) = h.val * 64 + j.val
        rw [whole R]; omega))).trans (v5_row x0 x1 R ⟨h.val * 64 + j.val, by omega⟩)).trans
    (congrArg (row x0 x1 R) (Fin.ext (Nat.add_assoc 384 (h.val * 64) j.val).symm))

/-- The indexer's key before it is turned. -/
theorem v136_mean (R : Fin 32768) : val_main_v136 (F := Ideal) x0 x1 (ix3 (seq R) (place R) (0 : Fin 1)) = mean fun k => row x0 x1 R ⟨512 + k.val, by omega⟩ := by
  unfold mean
  rw [val_main_v136_apply, val_main_v134_apply, val_main_v133_apply, val_main_v135_apply]
  refine congrArg (fun t : EReal => Ideal.div t (Ideal.ofBits .f32 0x42800000#32)) ?_
  exact (congrArg (fun s : EReal => s + _) Ideal.ofBits_zero_f32).trans ((zero_add _).trans (Finset.sum_congr rfl fun j _ =>
    (congrArg (val_main_v6 (F := Ideal) x0 x1) (three_ext _ _ _ _ rfl rfl rfl)).trans (v6_row x0 x1 R j)))
theorem v138_less (R : Fin 32768) (j : Fin 64) : val_main_v138 (F := Ideal) x0 x1 (ix3 (seq R) (place R) j) =
    row x0 x1 R ⟨512 + j.val, by omega⟩ - mean fun k => row x0 x1 R ⟨512 + k.val, by omega⟩ := by
  rw [val_main_v138_apply, val_main_v137_apply]
  exact congrArg₂ (fun u w : EReal => u - w) (v6_row x0 x1 R j)
    ((congrArg (val_main_v136 (F := Ideal) x0 x1) (three_ext _ _ _ _ rfl rfl rfl)).trans (v136_mean x0 x1 R))
theorem v145_less (R : Fin 32768) (j : Fin 64) : val_main_v145 (F := Ideal) x0 x1 (ix3 (seq R) (place R) j) =
    row x0 x1 R ⟨512 + j.val, by omega⟩ - mean fun k => row x0 x1 R ⟨512 + k.val, by omega⟩ := by
  rw [val_main_v145_apply, val_main_v144_apply]
  exact congrArg₂ (fun u w : EReal => u - w) (v6_row x0 x1 R j)
    ((congrArg (val_main_v136 (F := Ideal) x0 x1) (three_ext _ _ _ _ rfl rfl rfl)).trans (v136_mean x0 x1 R))
theorem v143_mean (R : Fin 32768) : val_main_v143 (F := Ideal) x0 x1 (ix3 (seq R) (place R) (0 : Fin 1)) =
    mean fun k => (row x0 x1 R ⟨512 + k.val, by omega⟩ - mean fun k => row x0 x1 R ⟨512 + k.val, by omega⟩) *
      (row x0 x1 R ⟨512 + k.val, by omega⟩ - mean fun k => row x0 x1 R ⟨512 + k.val, by omega⟩) := by
  rw [mean]
  rw [val_main_v143_apply, val_main_v141_apply, val_main_v140_apply, val_main_v142_apply]
  refine congrArg (fun t : EReal => Ideal.div t (Ideal.ofBits .f32 0x42800000#32)) ?_
  refine (congrArg (fun s : EReal => s + _) Ideal.ofBits_zero_f32).trans ((zero_add _).trans (Finset.sum_congr rfl fun j _ => ?_))
  rw [val_main_v139_apply]
  have e := (congrArg (val_main_v138 (F := Ideal) x0 x1) (three_ext (idx_main_v140 (idx_main_v141 (ix3 (seq R) (place R) (0 : Fin 1))) j) (seq R) (place R) j rfl rfl rfl)).trans (v138_less x0 x1 R j)
  exact congrArg₂ (fun u w : EReal => u * w) e e
theorem v156_key (R : Fin 32768) (j : Fin 64) :
    val_main_v156 (F := Ideal) x0 x1 x5 x6 (ix3 (seq R) (place R) j) = indexKey (row x0 x1 R) (fun i => x5 (ix1 i)) (fun i => x6 (ix1 i)) j := by
  unfold indexKey
  rw [val_main_v156_apply, val_main_v153_apply, val_main_v150_apply, val_main_v149_apply, val_main_v148_apply, val_main_v147_apply, val_main_v146_apply,
    val_main_v152_apply, val_main_v151_apply, val_main_v155_apply, val_main_v154_apply]
  exact congrArg₂ (fun u w : EReal => u + w) (congrArg₂ (fun u w : EReal => u * w) (congrArg₂ (fun u w : EReal => u * w) (v145_less x0 x1 R j)
    (congrArg (fun t : EReal => Ideal.rsqrt (t + Ideal.ofBits .f32 0x3727C5AC#32))
      ((congrArg (val_main_v143 (F := Ideal) x0 x1) (three_ext _ _ _ _ rfl rfl rfl)).trans (v143_mean x0 x1 R)))) (congrArg x5 (one_ext _ _ rfl))) (congrArg x6 (one_ext _ _ rfl))
theorem v157_key (R : Fin 32768) (j : Fin 64) :
    val_main_v157 (F := Ideal) x0 x1 x5 x6 (ix4 (seq R) (place R) (0 : Fin 1) j) = indexKey (row x0 x1 R) (fun i => x5 (ix1 i)) (fun i => x6 (ix1 i)) j := by
  rw [val_main_v157_apply]
  exact (congrArg (val_main_v156 (F := Ideal) x0 x1 x5 x6) (three_ext _ _ _ _ rfl rfl rfl)).trans (v156_key x0 x1 x5 x6 R j)

/-- The heads padded: the queries scaled, the keys as they are, the values followed by a one. -/
theorem v60_scaled (b : Fin 4) (s : Fin 8192) (h : Fin 8) (j : Fin 64) : val_main_v60 (F := Ideal) x0 x1 x2 x3 (ix4 b s h j) =
    turn (cosine s) (sine s) (fun i => val_main_v25 (F := Ideal) x0 x1 x2 x3 (ix4 b s h i)) j * Ideal.ofBits .f32 0x3E000000#32 := by
  rw [val_main_v60_apply, val_main_v59_apply]
  exact congrArg (fun u : EReal => u * Ideal.ofBits .f32 0x3E000000#32) (turned0 x0 x1 x2 x3 b s h j)
theorem v197_padded (b : Fin 4) (s : Fin 8192) (h : Fin 8) (l : Fin 128) : val_main_v197 (F := Ideal) x0 x1 x2 x3 (ix4 b s h l) =
    if hl : l.val < 64 then turn (cosine s) (sine s) (fun i => val_main_v25 (F := Ideal) x0 x1 x2 x3 (ix4 b s h i)) ⟨l.val, hl⟩ * Ideal.ofBits .f32 0x3E000000#32 else 0 := by
  unfold val_main_v197
  by_cases hl : l.val < 64
  · rw [dif_pos hl]
    refine (concatenate_apply_piece (t := S4x8192x8x128) (3 : Fin 4) _ _ _ 0 (by simp) S4x8192x8x64 (val_main_v60 (F := Ideal) x0 x1 x2 x3) rfl rfl 0 rfl (ix4 b s h ⟨l.val, hl⟩)
      (fun e he => match e with | ⟨0, _⟩ => rfl | ⟨1, _⟩ => rfl | ⟨2, _⟩ => rfl | ⟨3, _⟩ => absurd rfl he) (Nat.zero_add _)).trans ?_
    exact v60_scaled x0 x1 x2 x3 b s h ⟨l.val, hl⟩
  · rw [dif_neg hl]
    refine (concatenate_apply_piece (t := S4x8192x8x128) (3 : Fin 4) _ _ _ 1 (by simp) S4x8192x8x64 (val_main_v196 (F := Ideal)) rfl rfl 64 rfl (ix4 b s h ⟨l.val - 64, by omega⟩)
      (fun e he => match e with | ⟨0, _⟩ => rfl | ⟨1, _⟩ => rfl | ⟨2, _⟩ => rfl | ⟨3, _⟩ => absurd rfl he) (by show 64 + (l.val - 64) = l.val; omega)).trans ?_
    rw [val_main_v196_apply]
    exact Ideal.ofBits_zero_f32
theorem v199_padded (b : Fin 4) (s : Fin 8192) (h : Fin 2) (l : Fin 128) : val_main_v199 (F := Ideal) x0 x1 (ix4 b s h l) =
    if hl : l.val < 64 then turn (cosine s) (sine s) (fun i => val_main_v61 (F := Ideal) x0 x1 (ix4 b s h i)) ⟨l.val, hl⟩ else 0 := by
  unfold val_main_v199
  by_cases hl : l.val < 64
  · rw [dif_pos hl]
    refine (concatenate_apply_piece (t := S4x8192x2x128) (3 : Fin 4) _ _ _ 0 (by simp) S4x8192x2x64 (val_main_v94 (F := Ideal) x0 x1) rfl rfl 0 rfl (ix4 b s h ⟨l.val, hl⟩)
      (fun e he => match e with | ⟨0, _⟩ => rfl | ⟨1, _⟩ => rfl | ⟨2, _⟩ => rfl | ⟨3, _⟩ => absurd rfl he) (Nat.zero_add _)).trans ?_
    exact turned1 x0 x1 b s h ⟨l.val, hl⟩
  · rw [dif_neg hl]
    refine (concatenate_apply_piece (t := S4x8192x2x128) (3 : Fin 4) _ _ _ 1 (by simp) S4x8192x2x64 (val_main_v198 (F := Ideal)) rfl rfl 64 rfl (ix4 b s h ⟨l.val - 64, by omega⟩)
      (fun e he => match e with | ⟨0, _⟩ => rfl | ⟨1, _⟩ => rfl | ⟨2, _⟩ => rfl | ⟨3, _⟩ => absurd rfl he) (by show 64 + (l.val - 64) = l.val; omega)).trans ?_
    rw [val_main_v198_apply]
    exact Ideal.ofBits_zero_f32
theorem v204_padded (b : Fin 4) (s : Fin 8192) (h : Fin 2) (l : Fin 128) : val_main_v204 (F := Ideal) x0 x1 (ix4 b s h l) =
    if hl : l.val < 64 then val_main_v95 (F := Ideal) x0 x1 (ix4 b s h ⟨l.val, hl⟩) else if l.val = 64 then 1 else 0 := by
  unfold val_main_v204
  by_cases hl : l.val < 64
  · rw [dif_pos hl]
    refine (concatenate_apply_piece (t := S4x8192x2x128) (3 : Fin 4) _ _ _ 0 (by simp) S4x8192x2x64 (val_main_v95 (F := Ideal) x0 x1) rfl rfl 0 rfl (ix4 b s h ⟨l.val, hl⟩)
      (fun e he => match e with | ⟨0, _⟩ => rfl | ⟨1, _⟩ => rfl | ⟨2, _⟩ => rfl | ⟨3, _⟩ => absurd rfl he) (Nat.zero_add _)).trans ?_
    rfl
  · rw [dif_neg hl]
    by_cases h1 : l.val = 64
    · rw [if_pos h1]
      refine (concatenate_apply_piece (t := S4x8192x2x128) (3 : Fin 4) _ _ _ 1 (by simp) S4x8192x2x1 (val_main_v202 (F := Ideal)) rfl rfl 64 rfl (ix4 b s h (0 : Fin 1))
      (fun e he => match e with | ⟨0, _⟩ => rfl | ⟨1, _⟩ => rfl | ⟨2, _⟩ => rfl | ⟨3, _⟩ => absurd rfl he) (by show 64 + 0 = l.val; omega)).trans ?_
      rw [val_main_v202_apply, val_main_v200_apply, val_main_v201_apply]
      exact (congrArg₂ (fun u w : EReal => u + w) Ideal.ofBits_zero_f32 one_bits).trans (zero_add _)
    · rw [if_neg h1]
      refine (concatenate_apply_piece (t := S4x8192x2x128) (3 : Fin 4) _ _ _ 2 (by simp) S4x8192x2x63 (val_main_v203 (F := Ideal)) rfl rfl 65 rfl (ix4 b s h ⟨l.val - 65, by omega⟩)
      (fun e he => match e with | ⟨0, _⟩ => rfl | ⟨1, _⟩ => rfl | ⟨2, _⟩ => rfl | ⟨3, _⟩ => absurd rfl he) (by show 65 + (l.val - 65) = l.val; omega)).trans ?_
      rw [val_main_v203_apply]
      exact Ideal.ofBits_zero_f32

/-- The nine results. -/
theorem attQuery_ref (R : Fin 32768) (C : Fin 1024) : val_main_v206 (F := Ideal) x0 x1 x2 x3 (ix2 R C) = attQuery x0 x1 x2 x3 R C := by
  rw [val_main_v206_apply, val_main_v205_apply]
  have hC := C.isLt
  unfold attQuery paddedHeads
  refine ((congrArg (val_main_v197 (F := Ideal) x0 x1 x2 x3) (four_ext _ (seq R) (place R) (⟨C.val / 128, by omega⟩ : Fin 8) (⟨C.val % 128, by omega⟩ : Fin 128)
      (by show (R.val * 1024 + C.val) / 8388608 = R.val / 8192; omega) (by show (R.val * 1024 + C.val) / 1024 % 8192 = R.val % 8192; omega)
      (by show (R.val * 1024 + C.val) / 128 % 8 = C.val / 128; omega) (by show (R.val * 1024 + C.val) % 128 = C.val % 128; omega))).trans (v197_padded x0 x1 x2 x3 _ _ _ _)).trans ?_
  by_cases hl : C.val % 128 < 64
  · rw [dif_pos hl, dif_pos hl]
    exact congrArg (fun f : Fin 64 → EReal => turn _ _ f _ * Ideal.ofBits .f32 0x3E000000#32) (funext fun i => v25_queries x0 x1 x2 x3 R _ i)
  · rw [dif_neg hl, dif_neg hl]
theorem idxQuery_ref (R : Fin 32768) (C : Fin 512) : val_main_v208 (F := Ideal) x0 x1 x2 x4 (ix2 R C) = idxQuery x0 x1 x2 x4 R C := by
  rw [val_main_v208_apply, val_main_v207_apply]
  have hC := C.isLt
  unfold idxQuery heads
  refine (congrArg (val_main_v132 (F := Ideal) x0 x1 x2 x4) (four_ext _ (seq R) (place R) (⟨C.val / 64, by omega⟩ : Fin 8) (⟨C.val % 64, by omega⟩ : Fin 64)
      (by show (R.val * 512 + C.val) / 4194304 = R.val / 8192; omega) (by show (R.val * 512 + C.val) / 512 % 8192 = R.val % 8192; omega)
      (by show (R.val * 512 + C.val) / 64 % 8 = C.val / 64; omega) (by show (R.val * 512 + C.val) % 64 = C.val % 64; omega))).trans ?_
  rw [val_main_v132_apply, val_main_v131_apply]
  exact congrArg (fun u : EReal => u * Ideal.ofBits .f32 0x3E000000#32) ((turned2 x0 x1 x2 x4 _ _ _ _).trans
    (congrArg (fun f : Fin 64 → EReal => turn _ _ f _) (funext fun i => v97_queries x0 x1 x2 x4 R _ i)))
theorem attKey_ref (R : Fin 32768) (C : Fin 256) : val_main_v210 (F := Ideal) x0 x1 (ix2 R C) = attKey x0 x1 R C := by
  rw [val_main_v210_apply, val_main_v209_apply]
  have hC := C.isLt
  unfold attKey paddedKeys
  refine ((congrArg (val_main_v199 (F := Ideal) x0 x1) (four_ext _ (seq R) (place R) (⟨C.val / 128, by omega⟩ : Fin 2) (⟨C.val % 128, by omega⟩ : Fin 128)
      (by show (R.val * 256 + C.val) / 2097152 = R.val / 8192; omega) (by show (R.val * 256 + C.val) / 256 % 8192 = R.val % 8192; omega)
      (by show (R.val * 256 + C.val) / 128 % 2 = C.val / 128; omega) (by show (R.val * 256 + C.val) % 128 = C.val % 128; omega))).trans (v199_padded x0 x1 _ _ _ _)).trans ?_
  by_cases hl : C.val % 128 < 64
  · rw [dif_pos hl, dif_pos hl]
    exact congrArg (fun f : Fin 64 → EReal => turn _ _ f _) (funext fun i => v61_row x0 x1 R _ i)
  · rw [dif_neg hl, dif_neg hl]
theorem attValue_ref (R : Fin 32768) (C : Fin 256) : val_main_v212 (F := Ideal) x0 x1 (ix2 R C) = attValue x0 x1 R C := by
  rw [val_main_v212_apply, val_main_v211_apply]
  have hC := C.isLt
  unfold attValue paddedValues
  refine ((congrArg (val_main_v204 (F := Ideal) x0 x1) (four_ext _ (seq R) (place R) (⟨C.val / 128, by omega⟩ : Fin 2) (⟨C.val % 128, by omega⟩ : Fin 128)
      (by show (R.val * 256 + C.val) / 2097152 = R.val / 8192; omega) (by show (R.val * 256 + C.val) / 256 % 8192 = R.val % 8192; omega)
      (by show (R.val * 256 + C.val) / 128 % 2 = C.val / 128; omega) (by show (R.val * 256 + C.val) % 128 = C.val % 128; omega))).trans (v204_padded x0 x1 _ _ _ _)).trans ?_
  by_cases hl : C.val % 128 < 64
  · rw [dif_pos hl, if_pos hl]
    exact v95_row x0 x1 R _ _
  · rw [dif_neg hl, if_neg hl]
theorem idxKey_ref (R : Fin 32768) (C : Fin 64) : val_main_v214 (F := Ideal) x0 x1 x5 x6 (ix2 R C) = idxKey x0 x1 x5 x6 R C := by
  rw [val_main_v214_apply, val_main_v213_apply]
  have hC := C.isLt
  unfold idxKey
  refine (congrArg (val_main_v191 (F := Ideal) x0 x1 x5 x6) (three_ext _ (seq R) (place R) C
      (by show (R.val * 64 + C.val) / 524288 = R.val / 8192; omega) (by show (R.val * 64 + C.val) / 64 % 8192 = R.val % 8192; omega)
      (by show (R.val * 64 + C.val) % 64 = C.val; omega))).trans ?_
  rw [val_main_v191_apply]
  refine ((congrArg (val_main_v190 (F := Ideal) x0 x1 x5 x6) (four_ext _ (seq R) (place R) (0 : Fin 1) C ?_ ?_ rfl ?_)).trans (turned3 x0 x1 x5 x6 _ _ _ _)).trans
    (congrArg (fun f : Fin 64 → EReal => turn _ _ f _) (funext fun i => v157_key x0 x1 x5 x6 R i))
  · show ((R.val / 8192 * 8192 + R.val % 8192) * 64 + C.val) / 524288 = R.val / 8192
    rw [whole R]
    omega
  · show ((R.val / 8192 * 8192 + R.val % 8192) * 64 + C.val) / 64 % 8192 = R.val % 8192
    rw [whole R]
    omega
  · show ((R.val / 8192 * 8192 + R.val % 8192) * 64 + C.val) % 64 = C.val
    omega
theorem idxWeight_ref (R : Fin 32768) (C : Fin 8) : val_main_v215 (F := Ideal) x0 x1 (ix2 R C) = idxWeight x0 x1 R C := by
  rw [val_main_v215_apply]
  have hC := C.isLt
  unfold idxWeight
  refine (congrArg (val_main_v193 (F := Ideal) x0 x1) (three_ext _ (seq R) (place R) C
      (by show (R.val * 8 + C.val) / 65536 = R.val / 8192; omega) (by show (R.val * 8 + C.val) / 8 % 8192 = R.val % 8192; omega)
      (by show (R.val * 8 + C.val) % 8 = C.val; omega))).trans ?_
  rw [val_main_v193_apply, val_main_v192_apply]
  exact congrArg (fun u : EReal => u * Ideal.ofBits .f32 0x3EB504F3#32) (v7_row x0 x1 R C)
theorem stickQuery_ref (R : Fin 32768) (C : Fin 512) : val_main_v217 (F := Ideal) x0 x1 (ix2 R C) = stickQuery x0 x1 R C := by
  rw [val_main_v217_apply, val_main_v216_apply]
  have hC := C.isLt
  unfold stickQuery
  refine (congrArg (val_main_v195 (F := Ideal) x0 x1) (three_ext _ (seq R) (place R) C
      (by show (R.val * 512 + C.val) / 4194304 = R.val / 8192; omega) (by show (R.val * 512 + C.val) / 512 % 8192 = R.val % 8192; omega)
      (by show (R.val * 512 + C.val) % 512 = C.val; omega))).trans ?_
  rw [val_main_v195_apply, val_main_v194_apply]
  exact congrArg (fun u : EReal => u * Ideal.ofBits .f32 0x3E000000#32) (v8_row x0 x1 R C)
theorem stickKey_ref (R : Fin 32768) (C : Fin 512) : val_main_v219 (F := Ideal) x0 x1 (ix2 R C) = stickKey x0 x1 R C := by
  rw [val_main_v219_apply, val_main_v218_apply]
  have hC := C.isLt
  unfold stickKey
  exact (congrArg (val_main_v9 (F := Ideal) x0 x1) (three_ext _ (seq R) (place R) C
      (by show (R.val * 512 + C.val) / 4194304 = R.val / 8192; omega) (by show (R.val * 512 + C.val) / 512 % 8192 = R.val % 8192; omega)
      (by show (R.val * 512 + C.val) % 512 = C.val; omega))).trans (v9_row x0 x1 R C)
theorem stickValue_ref (R : Fin 32768) (C : Fin 512) : val_main_v221 (F := Ideal) x0 x1 (ix2 R C) = stickValue x0 x1 R C := by
  rw [val_main_v221_apply, val_main_v220_apply]
  have hC := C.isLt
  unfold stickValue
  exact (congrArg (val_main_v10 (F := Ideal) x0 x1) (three_ext _ (seq R) (place R) C
      (by show (R.val * 512 + C.val) / 4194304 = R.val / 8192; omega) (by show (R.val * 512 + C.val) / 512 % 8192 = R.val % 8192; omega)
      (by show (R.val * 512 + C.val) % 512 = C.val; omega))).trans (v10_row x0 x1 R C)

end Cert.Reference9Ideal.Hand

end
-- ==== Proof.Even.Result.lean ====
/- Over the extended reals the projections the first mixer starts from and their reference return the same nine results. -/
module

public import proofs.«01_k».proof.Proof.Even.Array
public import proofs.«01_k».proof.Proof.Even.Frames
public import proofs.«01_k».proof.Proof.Even.Reference

@[expose] public section

set_option maxRecDepth 16384

noncomputable section

namespace Cert.Proof

open Idealize.ShloMosaic Idealize.ShloMosaic.TcCoe Idealize.ShloMosaic.StableHlo Idealize.SL.Sem

/-- Over the extended reals the kernel and its reference return the same nine results. -/
theorem same_even : Cert.algebraic_Kernel9Ideal_Reference9Ideal := fun m g m' g' _ hargs =>
  ⟨Cert.Kernel9Ideal.Hand.attQuerys m, Cert.Kernel9Ideal.Hand.idxQuerys m, Cert.Kernel9Ideal.Hand.attKeys m, Cert.Kernel9Ideal.Hand.attValues m, Cert.Kernel9Ideal.Hand.idxKeys m, Cert.Kernel9Ideal.Hand.idxWeights m, Cert.Kernel9Ideal.Hand.stickQuerys m, Cert.Kernel9Ideal.Hand.stickKeys m, Cert.Kernel9Ideal.Hand.stickValues m,
    (θ_run Cert.Kernel9Ideal.defs _ _).mono (fun r h c => ⟨(h c).1.trans (Cert.Kernel9Ideal.Hand.array10 m c),
      (h c).2.1.trans (Cert.Kernel9Ideal.Hand.array11 m c),
      (h c).2.2.1.trans (Cert.Kernel9Ideal.Hand.array12 m c),
      (h c).2.2.2.1.trans (Cert.Kernel9Ideal.Hand.array13 m c),
      (h c).2.2.2.2.1.trans (Cert.Kernel9Ideal.Hand.array14 m c),
      (h c).2.2.2.2.2.1.trans (Cert.Kernel9Ideal.Hand.array15 m c),
      (h c).2.2.2.2.2.2.1.trans (Cert.Kernel9Ideal.Hand.array16 m c),
      (h c).2.2.2.2.2.2.2.1.trans (Cert.Kernel9Ideal.Hand.array17 m c),
      (h c).2.2.2.2.2.2.2.2.1.trans (Cert.Kernel9Ideal.Hand.array18 m c),
      (h c).2.2.2.2.2.2.2.2.2⟩) (Cert.Kernel9Ideal.Value.run_blocks m g),
    (θ_run Cert.Reference9Ideal.defs _ _).mono (fun r h c => ⟨by
      refine (h c).1.trans ((Cert.Reference9Ideal.Read.val_main_v206_eq (launchContents m' c)).trans ?_)
      show Cert.Reference9Ideal.Read.val_main_v206 (F := Ideal) (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg3)) = _
      rw [(hargs c).1, (hargs c).2.1, (hargs c).2.2.1, (hargs c).2.2.2.1]
      funext y
      rw [ValueIdx.eq_ix2 y]
      exact Cert.Reference9Ideal.Hand.attQuery_ref _ _ _ _ (y 0) (y 1), by
      refine (h c).2.1.trans ((Cert.Reference9Ideal.Read.val_main_v208_eq (launchContents m' c)).trans ?_)
      show Cert.Reference9Ideal.Read.val_main_v208 (F := Ideal) (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg4)) = _
      rw [(hargs c).1, (hargs c).2.1, (hargs c).2.2.1, (hargs c).2.2.2.2.1]
      funext y
      rw [ValueIdx.eq_ix2 y]
      exact Cert.Reference9Ideal.Hand.idxQuery_ref _ _ _ _ (y 0) (y 1), by
      refine (h c).2.2.1.trans ((Cert.Reference9Ideal.Read.val_main_v210_eq (launchContents m' c)).trans ?_)
      show Cert.Reference9Ideal.Read.val_main_v210 (F := Ideal) (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) = _
      rw [(hargs c).1, (hargs c).2.1]
      funext y
      rw [ValueIdx.eq_ix2 y]
      exact Cert.Reference9Ideal.Hand.attKey_ref _ _ (y 0) (y 1), by
      refine (h c).2.2.2.1.trans ((Cert.Reference9Ideal.Read.val_main_v212_eq (launchContents m' c)).trans ?_)
      show Cert.Reference9Ideal.Read.val_main_v212 (F := Ideal) (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) = _
      rw [(hargs c).1, (hargs c).2.1]
      funext y
      rw [ValueIdx.eq_ix2 y]
      exact Cert.Reference9Ideal.Hand.attValue_ref _ _ (y 0) (y 1), by
      refine (h c).2.2.2.2.1.trans ((Cert.Reference9Ideal.Read.val_main_v214_eq (launchContents m' c)).trans ?_)
      show Cert.Reference9Ideal.Read.val_main_v214 (F := Ideal) (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg5)) (m' ((c.tc : Thread Cert.Reference9Ideal.nD Cert.Reference9Ideal.τ).loc Cert.Reference9Ideal.main_arg6)) = _
      rw [(hargs c).1, (hargs c).2.1, (hargs c).2.2.2.2.2.1, (hargs c).2.2.2.2.2.2]
      funext y
      rw [ValueIdx.eq_ix2 y]
      exact Cert.Reference9Ideal.Hand.idxKey_ref _ _ _ _ (y 0) (y 1), by
      refine (h c).2.2.2.2.2.1.trans ((Cert.Reference9Ideal.Read.val_main_v215_eq (launchContents m' c)).trans ?_)
      show Cert.Reference9Ideal.Read.val_main_v215 (F := Ideal) (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) = _
      rw [(hargs c).1, (hargs c).2.1]
      funext y
      rw [ValueIdx.eq_ix2 y]
      exact Cert.Reference9Ideal.Hand.idxWeight_ref _ _ (y 0) (y 1), by
      refine (h c).2.2.2.2.2.2.1.trans ((Cert.Reference9Ideal.Read.val_main_v217_eq (launchContents m' c)).trans ?_)
      show Cert.Reference9Ideal.Read.val_main_v217 (F := Ideal) (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) = _
      rw [(hargs c).1, (hargs c).2.1]
      funext y
      rw [ValueIdx.eq_ix2 y]
      exact Cert.Reference9Ideal.Hand.stickQuery_ref _ _ (y 0) (y 1), by
      refine (h c).2.2.2.2.2.2.2.1.trans ((Cert.Reference9Ideal.Read.val_main_v219_eq (launchContents m' c)).trans ?_)
      show Cert.Reference9Ideal.Read.val_main_v219 (F := Ideal) (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) = _
      rw [(hargs c).1, (hargs c).2.1]
      funext y
      rw [ValueIdx.eq_ix2 y]
      exact Cert.Reference9Ideal.Hand.stickKey_ref _ _ (y 0) (y 1), by
      refine (h c).2.2.2.2.2.2.2.2.1.trans ((Cert.Reference9Ideal.Read.val_main_v221_eq (launchContents m' c)).trans ?_)
      show Cert.Reference9Ideal.Read.val_main_v221 (F := Ideal) (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) = _
      rw [(hargs c).1, (hargs c).2.1]
      funext y
      rw [ValueIdx.eq_ix2 y]
      exact Cert.Reference9Ideal.Hand.stickValue_ref _ _ (y 0) (y 1), (h c).2.2.2.2.2.2.2.2.2⟩) (Cert.Reference9Ideal.Value.run (F := Ideal) m' g')⟩

end Cert.Proof

end
-- ==== Proof.lean ====
/- The claims of `Cert.Claim` (proofs.«01_k».proof.Defs): the frames of the twenty-seven programs, that the named constant is what
   the ideal attention kernel puts for the kernel's number, and that over the extended reals each of the nine kernels and its
   reference return the same: the stick-breaking attention wherever queries and keys are finite, the experts, the combining of
   the experts' rows, the cross-attention wherever stream, query weights and keys are finite, the products into and out of the
   state-space mixer, the projections the first layer's mixer starts from and the product out of it, and the product of the
   memory with its projection. -/
module

public import proofs.«01_k».proof.Defs
public import proofs.«01_k».proof.Proof.Kernel.Frame
public import proofs.«01_k».proof.Proof.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Value.Result
public import proofs.«01_k».proof.Proof.Gen.Kernel2
public import proofs.«01_k».proof.Proof.Gen.Kernel2Ideal
public import proofs.«01_k».proof.Proof.Gen.Kernel2Ideal.Launch
public import proofs.«01_k».proof.Proof.Gen.Kernel2Ideal.Skeleton
public import proofs.«01_k».proof.Proof.Gen.Pre_experts_in_range
public import proofs.«01_k».proof.Proof.Gen.Reference2Ideal
public import proofs.«01_k».proof.Proof.Gen.Reference2Ideal.Run
public import proofs.«01_k».proof.Proof.Gen.Reference2Ideal.Read
public import proofs.«01_k».proof.Proof.Experts.Frames
public import proofs.«01_k».proof.Proof.Experts.Result
public import proofs.«01_k».proof.Proof.Gen.Kernel3
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Combine.Frames
public import proofs.«01_k».proof.Proof.Combine.Result
public import proofs.«01_k».proof.Proof.Cross.Frames
public import proofs.«01_k».proof.Proof.Cross.Result
public import proofs.«01_k».proof.Proof.Enter.Frames
public import proofs.«01_k».proof.Proof.Enter.Result
public import proofs.«01_k».proof.Proof.Leave.Frames
public import proofs.«01_k».proof.Proof.Leave.Result
public import proofs.«01_k».proof.Proof.Mixed.Frames
public import proofs.«01_k».proof.Proof.Mixed.Result
public import proofs.«01_k».proof.Proof.Memory.Frames
public import proofs.«01_k».proof.Proof.Memory.Result
public import proofs.«01_k».proof.Proof.Even.Frames
public import proofs.«01_k».proof.Proof.Even.Result
public import Idealize.ShloMosaic.Adequacy
public import Idealize.ShloMosaic.Init

@[expose] public section

noncomputable section

namespace Cert.Proof

open Idealize.ShloMosaic Idealize.ShloMosaic.TcCoe Idealize.SL.Sem

/-- The reference's frame: it leaves its arguments, and it has no semaphore. -/
theorem frame_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

/-- Over the extended reals the kernel and the reference return the same attention. -/
theorem same_attention : Cert.algebraic_KernelIdeal_ReferenceIdeal_pre_finite_scores := fun m g m' g' hpre hargs =>
  ⟨Cert.KernelIdeal.Hand.result m, Cert.KernelIdeal.Hand.kernel_run m g hpre,
    (θ_run Cert.ReferenceIdeal.defs _ _).mono (fun r h c => ⟨by
      refine (h c).1.trans ((Cert.ReferenceIdeal.Read.val_main_v24_eq m' c).trans ?_)
      rw [(hargs c).1, (hargs c).2.1, (hargs c).2.2]
      exact Cert.KernelIdeal.Hand.reference_value m hpre c, (h c).2⟩) (Cert.ReferenceIdeal.Value.run (F := Ideal) m' g')⟩

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.KernelIdeal.Hand.pre_facts, Cert.Pre_experts_in_range.Gen.facts, Cert.Kernel4Ideal.Hand.cross_pre_facts,
  fun m ρ _ => Cert.Kernel.Hand.frame m ρ, fun m ρ _ => Cert.KernelIdeal.Hand.frame m ρ, fun m ρ _ => Cert.KernelIdeal.Hand.frame m ρ,
  fun m ρ _ => frame_reference m ρ, fun m ρ _ => frame_reference m ρ,
  frame_experts, frame_experts_ideal, frame_experts_reference, frame_experts_reference_pre,
  Combine.frame_kernel, Combine.frame_ideal, Combine.frame_reference,
  Cross.frame_kernel, Cross.frame_ideal, Cross.frame_ideal_pre, Cross.frame_reference, Cross.frame_reference_pre,
  Enter.frame_kernel, Enter.frame_ideal, Enter.frame_reference,
  Leave.frame_kernel, Leave.frame_ideal, Leave.frame_reference,
  Mixed.frame_kernel, Mixed.frame_ideal, Mixed.frame_reference,
  Memory.frame_kernel, Memory.frame_ideal, Memory.frame_reference,
  Even.frame_kernel, Even.frame_ideal, Even.frame_reference,
  IdealRules.named_const.statement Cert.KernelIdeal.κ "exit_log" .f32 0xC2D00000#32 ⊥ rfl, same_attention, trivial, same_experts,
  trivial, same_combine, trivial, same_cross, trivial, same_enter, trivial, same_leave, trivial, same_mixed, trivial, same_memory,
  trivial, same_even⟩

end Cert.Proof

end
